-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MoeUp [hPre_experts_up : Cert.Pre_experts_up.Facts] (m : (ℓ : Loc Cert.MoeUp.nD Cert.MoeUp.τ Cert.MoeUp.sig) → Buf (Elt Bits) ℓ) : Prop :=
  ∀ c : Dev Cert.MoeUp.nD,
    (Cert.Pre_experts_up.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4))) = (fun _ => 1#1)

def Pre_MoeUpIdeal [hPre_experts_up : Cert.Pre_experts_up.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_experts_up.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4))) = (fun _ => 1#1)

def Pre_MoeUpRefIdeal (m : (ℓ : Loc Cert.MoeUpRefIdeal.nD Cert.MoeUpRefIdeal.τ Cert.MoeUpRefIdeal.sig) → Buf (Elt Ideal) ℓ) : Prop :=
  True

def Pre_MoeUpRefIdeal_experts_up [hPre_experts_up : Cert.Pre_experts_up.Facts] (m : (ℓ : Loc Cert.MoeUpRefIdeal.nD Cert.MoeUpRefIdeal.τ Cert.MoeUpRefIdeal.sig) → Buf (Elt Ideal) ℓ) : Prop :=
  ∀ c : Dev Cert.MoeUpRefIdeal.nD,
    (Cert.Pre_experts_up.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4))) = (fun _ => 1#1)

def Pre_MoeDown [hPre_experts_down : Cert.Pre_experts_down.Facts] (m : (ℓ : Loc Cert.MoeDown.nD Cert.MoeDown.τ Cert.MoeDown.sig) → Buf (Elt Bits) ℓ) : Prop :=
  ∀ c : Dev Cert.MoeDown.nD,
    (Cert.Pre_experts_down.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3))) = (fun _ => 1#1)

def Pre_MoeDownIdeal [hPre_experts_down : Cert.Pre_experts_down.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_experts_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3))) = (fun _ => 1#1)

def Pre_MoeDownRefIdeal (m : (ℓ : Loc Cert.MoeDownRefIdeal.nD Cert.MoeDownRefIdeal.τ Cert.MoeDownRefIdeal.sig) → Buf (Elt Ideal) ℓ) : Prop :=
  True

def Pre_MoeDownRefIdeal_experts_down [hPre_experts_down : Cert.Pre_experts_down.Facts] (m : (ℓ : Loc Cert.MoeDownRefIdeal.nD Cert.MoeDownRefIdeal.τ Cert.MoeDownRefIdeal.sig) → Buf (Elt Ideal) ℓ) : Prop :=
  ∀ c : Dev Cert.MoeDownRefIdeal.nD,
    (Cert.Pre_experts_down.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3))) = (fun _ => 1#1)

def Pre_Combine [hPre_rows_in : Cert.Pre_rows_in.Facts] (m : (ℓ : Loc Cert.Combine.nD Cert.Combine.τ Cert.Combine.sig) → Buf (Elt Bits) ℓ) : Prop :=
  ∀ c : Dev Cert.Combine.nD,
    (Cert.Pre_rows_in.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5))) = (fun _ => 1#1)

def Pre_CombineIdeal [hPre_rows_in : Cert.Pre_rows_in.Facts] (m : (ℓ : Loc Cert.CombineIdeal.nD Cert.CombineIdeal.τ Cert.CombineIdeal.sig) → Buf (Elt Ideal) ℓ) : Prop :=
  ∀ c : Dev Cert.CombineIdeal.nD,
    (Cert.Pre_rows_in.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_rows_in [hPre_rows_in : Cert.Pre_rows_in.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_rows_in.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4)) (m ((c.tc : Thread Cert.CombineRefIdeal.nD Cert.CombineRefIdeal.τ).loc Cert.CombineRefIdeal.main_arg5))) = (fun _ => 1#1)

def Pre_Gather [hPre_tokens_in : Cert.Pre_tokens_in.Facts] (m : (ℓ : Loc Cert.Gather.nD Cert.Gather.τ Cert.Gather.sig) → Buf (Elt Bits) ℓ) : Prop :=
  ∀ c : Dev Cert.Gather.nD,
    (Cert.Pre_tokens_in.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_tokens_in : Cert.Pre_tokens_in.Facts] (m : (ℓ : Loc Cert.GatherIdeal.nD Cert.GatherIdeal.τ Cert.GatherIdeal.sig) → Buf (Elt Ideal) ℓ) : Prop :=
  ∀ c : Dev Cert.GatherIdeal.nD,
    (Cert.Pre_tokens_in.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherRefIdeal (m : (ℓ : Loc Cert.GatherRefIdeal.nD Cert.GatherRefIdeal.τ Cert.GatherRefIdeal.sig) → Buf (Elt Ideal) ℓ) : Prop :=
  True

def Pre_GatherRefIdeal_tokens_in [hPre_tokens_in : Cert.Pre_tokens_in.Facts] (m : (ℓ : Loc Cert.GatherRefIdeal.nD Cert.GatherRefIdeal.τ Cert.GatherRefIdeal.sig) → Buf (Elt Ideal) ℓ) : Prop :=
  ∀ c : Dev Cert.GatherRefIdeal.nD,
    (Cert.Pre_tokens_in.fn (F := Ideal) (m ((c.tc : Thread Cert.GatherRefIdeal.nD Cert.GatherRefIdeal.τ).loc Cert.GatherRefIdeal.main_arg0)) (m ((c.tc : Thread Cert.GatherRefIdeal.nD Cert.GatherRefIdeal.τ).loc Cert.GatherRefIdeal.main_arg1))) = (fun _ => 1#1)

def Pre_GatherRef [hPre_tokens_in : Cert.Pre_tokens_in.Facts] (m : (ℓ : Loc Cert.GatherRef.nD Cert.GatherRef.τ Cert.GatherRef.sig) → Buf (Elt Bits) ℓ) : Prop :=
  ∀ c : Dev Cert.GatherRef.nD,
    (Cert.Pre_tokens_in.fn (F := Bits) (m ((c.tc : Thread Cert.GatherRef.nD Cert.GatherRef.τ).loc Cert.GatherRef.main_arg0)) (m ((c.tc : Thread Cert.GatherRef.nD Cert.GatherRef.τ).loc Cert.GatherRef.main_arg1))) = (fun _ => 1#1)

def Pre_InSmall (m : (ℓ : Loc Cert.InSmall.nD Cert.InSmall.τ Cert.InSmall.sig) → Buf (Elt Bits) ℓ) : Prop :=
  True

def Pre_InSmallIdeal (m : (ℓ : Loc Cert.InSmallIdeal.nD Cert.InSmallIdeal.τ Cert.InSmallIdeal.sig) → Buf (Elt Ideal) ℓ) : Prop :=
  True

def Pre_InSmallRefIdeal (m : (ℓ : Loc Cert.InSmallRefIdeal.nD Cert.InSmallRefIdeal.τ Cert.InSmallRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_MixNormRefIdeal (m : (ℓ : Loc Cert.MixNormRefIdeal.nD Cert.MixNormRefIdeal.τ Cert.MixNormRefIdeal.sig) → Buf (Elt Ideal) ℓ) : Prop :=
  True

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormRefIdeal (m : (ℓ : Loc Cert.FfnNormRefIdeal.nD Cert.FfnNormRefIdeal.τ Cert.FfnNormRefIdeal.sig) → Buf (Elt Ideal) ℓ) : Prop :=
  True

def Pre_QkNorm (m : (ℓ : Loc Cert.QkNorm.nD Cert.QkNorm.τ Cert.QkNorm.sig) → Buf (Elt Bits) ℓ) : Prop :=
  True

def Pre_QkNormIdeal (m : (ℓ : Loc Cert.QkNormIdeal.nD Cert.QkNormIdeal.τ Cert.QkNormIdeal.sig) → Buf (Elt Ideal) ℓ) : Prop :=
  True

def Pre_QkNormRefIdeal (m : (ℓ : Loc Cert.QkNormRefIdeal.nD Cert.QkNormRefIdeal.τ Cert.QkNormRefIdeal.sig) → Buf (Elt Ideal) ℓ) : Prop :=
  True

def Pre_BandMerge (m : (ℓ : Loc Cert.BandMerge.nD Cert.BandMerge.τ Cert.BandMerge.sig) → Buf (Elt Bits) ℓ) : Prop :=
  True

def Pre_BandMergeIdeal (m : (ℓ : Loc Cert.BandMergeIdeal.nD Cert.BandMergeIdeal.τ Cert.BandMergeIdeal.sig) → Buf (Elt Ideal) ℓ) : Prop :=
  True

def Pre_BandMergeIdeal_sums_finite [hPre_sums_finite : Cert.Pre_sums_finite.Facts] (m : (ℓ : Loc Cert.BandMergeIdeal.nD Cert.BandMergeIdeal.τ Cert.BandMergeIdeal.sig) → Buf (Elt Ideal) ℓ) : Prop :=
  ∀ c : Dev Cert.BandMergeIdeal.nD,
    (Cert.Pre_sums_finite.fn (F := Ideal) (m ((c.tc : Thread Cert.BandMergeIdeal.nD Cert.BandMergeIdeal.τ).loc Cert.BandMergeIdeal.main_arg0)) (m ((c.tc : Thread Cert.BandMergeIdeal.nD Cert.BandMergeIdeal.τ).loc Cert.BandMergeIdeal.main_arg1)) (m ((c.tc : Thread Cert.BandMergeIdeal.nD Cert.BandMergeIdeal.τ).loc Cert.BandMergeIdeal.main_arg2)) (m ((c.tc : Thread Cert.BandMergeIdeal.nD Cert.BandMergeIdeal.τ).loc Cert.BandMergeIdeal.main_arg3)) (m ((c.tc : Thread Cert.BandMergeIdeal.nD Cert.BandMergeIdeal.τ).loc Cert.BandMergeIdeal.main_arg4)) (m ((c.tc : Thread Cert.BandMergeIdeal.nD Cert.BandMergeIdeal.τ).loc Cert.BandMergeIdeal.main_arg5))) = (fun _ => 1#1)

def Pre_BandMergeRefIdeal (m : (ℓ : Loc Cert.BandMergeRefIdeal.nD Cert.BandMergeRefIdeal.τ Cert.BandMergeRefIdeal.sig) → Buf (Elt Ideal) ℓ) : Prop :=
  True

def Pre_BandMergeRefIdeal_sums_finite [hPre_sums_finite : Cert.Pre_sums_finite.Facts] (m : (ℓ : Loc Cert.BandMergeRefIdeal.nD Cert.BandMergeRefIdeal.τ Cert.BandMergeRefIdeal.sig) → Buf (Elt Ideal) ℓ) : Prop :=
  ∀ c : Dev Cert.BandMergeRefIdeal.nD,
    (Cert.Pre_sums_finite.fn (F := Ideal) (m ((c.tc : Thread Cert.BandMergeRefIdeal.nD Cert.BandMergeRefIdeal.τ).loc Cert.BandMergeRefIdeal.main_arg0)) (m ((c.tc : Thread Cert.BandMergeRefIdeal.nD Cert.BandMergeRefIdeal.τ).loc Cert.BandMergeRefIdeal.main_arg1)) (m ((c.tc : Thread Cert.BandMergeRefIdeal.nD Cert.BandMergeRefIdeal.τ).loc Cert.BandMergeRefIdeal.main_arg2)) (m ((c.tc : Thread Cert.BandMergeRefIdeal.nD Cert.BandMergeRefIdeal.τ).loc Cert.BandMergeRefIdeal.main_arg3)) (m ((c.tc : Thread Cert.BandMergeRefIdeal.nD Cert.BandMergeRefIdeal.τ).loc Cert.BandMergeRefIdeal.main_arg4)) (m ((c.tc : Thread Cert.BandMergeRefIdeal.nD Cert.BandMergeRefIdeal.τ).loc Cert.BandMergeRefIdeal.main_arg5))) = (fun _ => 1#1)

def Pre_RopeNorm (m : (ℓ : Loc Cert.RopeNorm.nD Cert.RopeNorm.τ Cert.RopeNorm.sig) → Buf (Elt Bits) ℓ) : Prop :=
  True

def Pre_RopeNormIdeal (m : (ℓ : Loc Cert.RopeNormIdeal.nD Cert.RopeNormIdeal.τ Cert.RopeNormIdeal.sig) → Buf (Elt Ideal) ℓ) : Prop :=
  True

def Pre_RopeNormRefIdeal (m : (ℓ : Loc Cert.RopeNormRefIdeal.nD Cert.RopeNormRefIdeal.τ Cert.RopeNormRefIdeal.sig) → Buf (Elt Ideal) ℓ) : Prop :=
  True

def Pre_RopeTables (m : (ℓ : Loc Cert.RopeTables.nD Cert.RopeTables.τ Cert.RopeTables.sig) → Buf (Elt Bits) ℓ) : Prop :=
  True

def Pre_RopeTablesIdeal (m : (ℓ : Loc Cert.RopeTablesIdeal.nD Cert.RopeTablesIdeal.τ Cert.RopeTablesIdeal.sig) → Buf (Elt Ideal) ℓ) : Prop :=
  True

def Pre_RopeTablesRefIdeal (m : (ℓ : Loc Cert.RopeTablesRefIdeal.nD Cert.RopeTablesRefIdeal.τ Cert.RopeTablesRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_MoeUp [hMoeUp : Cert.MoeUp.Facts] [hPre_experts_up : Cert.Pre_experts_up.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4))
      ∧ r.2.sem = fun _ => 0)

def quiescent_MoeUpIdeal [hMoeUpIdeal : Cert.MoeUpIdeal.Facts] [hPre_experts_up : Cert.Pre_experts_up.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ r.2.sem = fun _ => 0)

def quiescent_MoeUpRefIdeal [hMoeUpRefIdeal : Cert.MoeUpRefIdeal.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4))
      ∧ r.2.sem = fun _ => 0)

def quiescent_MoeUpRefIdeal_pre_experts_up [hMoeUpRefIdeal : Cert.MoeUpRefIdeal.Facts] [hPre_experts_up : Cert.Pre_experts_up.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal_experts_up m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4))
      ∧ r.2.sem = fun _ => 0)

def quiescent_MoeDown [hMoeDown : Cert.MoeDown.Facts] [hPre_experts_down : Cert.Pre_experts_down.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3))
      ∧ r.2.sem = fun _ => 0)

def quiescent_MoeDownIdeal [hMoeDownIdeal : Cert.MoeDownIdeal.Facts] [hPre_experts_down : Cert.Pre_experts_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ r.2.sem = fun _ => 0)

def quiescent_MoeDownRefIdeal [hMoeDownRefIdeal : Cert.MoeDownRefIdeal.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_MoeDownRefIdeal_pre_experts_down [hMoeDownRefIdeal : Cert.MoeDownRefIdeal.Facts] [hPre_experts_down : Cert.Pre_experts_down.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal_experts_down m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_Combine [hCombine : Cert.Combine.Facts] [hPre_rows_in : Cert.Pre_rows_in.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] [hPre_rows_in : Cert.Pre_rows_in.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def quiescent_CombineRefIdeal_pre_rows_in [hCombineRefIdeal : Cert.CombineRefIdeal.Facts] [hPre_rows_in : Cert.Pre_rows_in.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_rows_in m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def quiescent_Gather [hGather : Cert.Gather.Facts] [hPre_tokens_in : Cert.Pre_tokens_in.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_tokens_in : Cert.Pre_tokens_in.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_GatherRefIdeal_pre_tokens_in [hGatherRefIdeal : Cert.GatherRefIdeal.Facts] [hPre_tokens_in : Cert.Pre_tokens_in.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal_tokens_in m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_GatherRef [hGatherRef : Cert.GatherRef.Facts] [hPre_tokens_in : Cert.Pre_tokens_in.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1))
      ∧ r.2.sem = fun _ => 0)

def quiescent_InSmall [hInSmall : Cert.InSmall.Facts] : Prop :=
  ∀ (m : (ℓ : Loc Cert.InSmall.nD Cert.InSmall.τ Cert.InSmall.sig) → Buf (Elt Bits) ℓ) (g : Dev Cert.InSmall.nD → PrngReg), Pre_InSmall m →
    θ_run (Cert.InSmall.defs (F := Bits)) (onTc (τ := Cert.InSmall.τ) (Cert.InSmall.main (F := Bits))) ⟨m, fun _ => 0, g⟩ (fun r => (∀ c : Dev Cert.InSmall.nD,
      r.2.mem ((c.tc : Thread Cert.InSmall.nD Cert.InSmall.τ).loc Cert.InSmall.main_arg0) = m ((c.tc : Thread Cert.InSmall.nD Cert.InSmall.τ).loc Cert.InSmall.main_arg0)
      ∧ r.2.mem ((c.tc : Thread Cert.InSmall.nD Cert.InSmall.τ).loc Cert.InSmall.main_arg1) = m ((c.tc : Thread Cert.InSmall.nD Cert.InSmall.τ).loc Cert.InSmall.main_arg1))
      ∧ r.2.sem = fun _ => 0)

def quiescent_InSmallIdeal [hInSmallIdeal : Cert.InSmallIdeal.Facts] : Prop :=
  ∀ (m : (ℓ : Loc Cert.InSmallIdeal.nD Cert.InSmallIdeal.τ Cert.InSmallIdeal.sig) → Buf (Elt Ideal) ℓ) (g : Dev Cert.InSmallIdeal.nD → PrngReg), Pre_InSmallIdeal m →
    θ_run (Cert.InSmallIdeal.defs (F := Ideal)) (onTc (τ := Cert.InSmallIdeal.τ) (Cert.InSmallIdeal.main (F := Ideal))) ⟨m, fun _ => 0, g⟩ (fun r => (∀ c : Dev Cert.InSmallIdeal.nD,
      r.2.mem ((c.tc : Thread Cert.InSmallIdeal.nD Cert.InSmallIdeal.τ).loc Cert.InSmallIdeal.main_arg0) = m ((c.tc : Thread Cert.InSmallIdeal.nD Cert.InSmallIdeal.τ).loc Cert.InSmallIdeal.main_arg0)
      ∧ r.2.mem ((c.tc : Thread Cert.InSmallIdeal.nD Cert.InSmallIdeal.τ).loc Cert.InSmallIdeal.main_arg1) = m ((c.tc : Thread Cert.InSmallIdeal.nD Cert.InSmallIdeal.τ).loc Cert.InSmallIdeal.main_arg1))
      ∧ r.2.sem = fun _ => 0)

def quiescent_InSmallRefIdeal [hInSmallRefIdeal : Cert.InSmallRefIdeal.Facts] : Prop :=
  ∀ (m : (ℓ : Loc Cert.InSmallRefIdeal.nD Cert.InSmallRefIdeal.τ Cert.InSmallRefIdeal.sig) → Buf (Elt Ideal) ℓ) (g : Dev Cert.InSmallRefIdeal.nD → PrngReg), Pre_InSmallRefIdeal m →
    θ_run (Cert.InSmallRefIdeal.defs (F := Ideal)) (onTc (τ := Cert.InSmallRefIdeal.τ) (Cert.InSmallRefIdeal.main (F := Ideal))) ⟨m, fun _ => 0, g⟩ (fun r => (∀ c : Dev Cert.InSmallRefIdeal.nD,
      r.2.mem ((c.tc : Thread Cert.InSmallRefIdeal.nD Cert.InSmallRefIdeal.τ).loc Cert.InSmallRefIdeal.main_arg0) = m ((c.tc : Thread Cert.InSmallRefIdeal.nD Cert.InSmallRefIdeal.τ).loc Cert.InSmallRefIdeal.main_arg0)
      ∧ r.2.mem ((c.tc : Thread Cert.InSmallRefIdeal.nD Cert.InSmallRefIdeal.τ).loc Cert.InSmallRefIdeal.main_arg1) = m ((c.tc : Thread Cert.InSmallRefIdeal.nD Cert.InSmallRefIdeal.τ).loc Cert.InSmallRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1)
      ∧ r.2.mem ((c.tc : Thread Cert.MixNorm.nD Cert.MixNorm.τ).loc Cert.MixNorm.main_arg2) = m ((c.tc : Thread Cert.MixNorm.nD Cert.MixNorm.τ).loc Cert.MixNorm.main_arg2))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
      ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2))
      ∧ r.2.sem = fun _ => 0)

def quiescent_MixNormRefIdeal [hMixNormRefIdeal : Cert.MixNormRefIdeal.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1)
      ∧ r.2.mem ((c.tc : Thread Cert.MixNormRefIdeal.nD Cert.MixNormRefIdeal.τ).loc Cert.MixNormRefIdeal.main_arg2) = m ((c.tc : Thread Cert.MixNormRefIdeal.nD Cert.MixNormRefIdeal.τ).loc Cert.MixNormRefIdeal.main_arg2))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1)
      ∧ r.2.mem ((c.tc : Thread Cert.FfnNorm.nD Cert.FfnNorm.τ).loc Cert.FfnNorm.main_arg2) = m ((c.tc : Thread Cert.FfnNorm.nD Cert.FfnNorm.τ).loc Cert.FfnNorm.main_arg2))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2))
      ∧ r.2.sem = fun _ => 0)

def quiescent_FfnNormRefIdeal [hFfnNormRefIdeal : Cert.FfnNormRefIdeal.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2))
      ∧ r.2.sem = fun _ => 0)

def quiescent_QkNorm [hQkNorm : Cert.QkNorm.Facts] : Prop :=
  ∀ (m : (ℓ : Loc Cert.QkNorm.nD Cert.QkNorm.τ Cert.QkNorm.sig) → Buf (Elt Bits) ℓ) (g : Dev Cert.QkNorm.nD → PrngReg), Pre_QkNorm m →
    θ_run (Cert.QkNorm.defs (F := Bits)) (onTc (τ := Cert.QkNorm.τ) (Cert.QkNorm.main (F := Bits))) ⟨m, fun _ => 0, g⟩ (fun r => (∀ c : Dev Cert.QkNorm.nD,
      r.2.mem ((c.tc : Thread Cert.QkNorm.nD Cert.QkNorm.τ).loc Cert.QkNorm.main_arg0) = m ((c.tc : Thread Cert.QkNorm.nD Cert.QkNorm.τ).loc Cert.QkNorm.main_arg0)
      ∧ r.2.mem ((c.tc : Thread Cert.QkNorm.nD Cert.QkNorm.τ).loc Cert.QkNorm.main_arg1) = m ((c.tc : Thread Cert.QkNorm.nD Cert.QkNorm.τ).loc Cert.QkNorm.main_arg1)
      ∧ r.2.mem ((c.tc : Thread Cert.QkNorm.nD Cert.QkNorm.τ).loc Cert.QkNorm.main_arg2) = m ((c.tc : Thread Cert.QkNorm.nD Cert.QkNorm.τ).loc Cert.QkNorm.main_arg2))
      ∧ r.2.sem = fun _ => 0)

def quiescent_QkNormIdeal [hQkNormIdeal : Cert.QkNormIdeal.Facts] : Prop :=
  ∀ (m : (ℓ : Loc Cert.QkNormIdeal.nD Cert.QkNormIdeal.τ Cert.QkNormIdeal.sig) → Buf (Elt Ideal) ℓ) (g : Dev Cert.QkNormIdeal.nD → PrngReg), Pre_QkNormIdeal m →
    θ_run (Cert.QkNormIdeal.defs (F := Ideal)) (onTc (τ := Cert.QkNormIdeal.τ) (Cert.QkNormIdeal.main (F := Ideal))) ⟨m, fun _ => 0, g⟩ (fun r => (∀ c : Dev Cert.QkNormIdeal.nD,
      r.2.mem ((c.tc : Thread Cert.QkNormIdeal.nD Cert.QkNormIdeal.τ).loc Cert.QkNormIdeal.main_arg0) = m ((c.tc : Thread Cert.QkNormIdeal.nD Cert.QkNormIdeal.τ).loc Cert.QkNormIdeal.main_arg0)
      ∧ r.2.mem ((c.tc : Thread Cert.QkNormIdeal.nD Cert.QkNormIdeal.τ).loc Cert.QkNormIdeal.main_arg1) = m ((c.tc : Thread Cert.QkNormIdeal.nD Cert.QkNormIdeal.τ).loc Cert.QkNormIdeal.main_arg1)
      ∧ r.2.mem ((c.tc : Thread Cert.QkNormIdeal.nD Cert.QkNormIdeal.τ).loc Cert.QkNormIdeal.main_arg2) = m ((c.tc : Thread Cert.QkNormIdeal.nD Cert.QkNormIdeal.τ).loc Cert.QkNormIdeal.main_arg2))
      ∧ r.2.sem = fun _ => 0)

def quiescent_QkNormRefIdeal [hQkNormRefIdeal : Cert.QkNormRefIdeal.Facts] : Prop :=
  ∀ (m : (ℓ : Loc Cert.QkNormRefIdeal.nD Cert.QkNormRefIdeal.τ Cert.QkNormRefIdeal.sig) → Buf (Elt Ideal) ℓ) (g : Dev Cert.QkNormRefIdeal.nD → PrngReg), Pre_QkNormRefIdeal m →
    θ_run (Cert.QkNormRefIdeal.defs (F := Ideal)) (onTc (τ := Cert.QkNormRefIdeal.τ) (Cert.QkNormRefIdeal.main (F := Ideal))) ⟨m, fun _ => 0, g⟩ (fun r => (∀ c : Dev Cert.QkNormRefIdeal.nD,
      r.2.mem ((c.tc : Thread Cert.QkNormRefIdeal.nD Cert.QkNormRefIdeal.τ).loc Cert.QkNormRefIdeal.main_arg0) = m ((c.tc : Thread Cert.QkNormRefIdeal.nD Cert.QkNormRefIdeal.τ).loc Cert.QkNormRefIdeal.main_arg0)
      ∧ r.2.mem ((c.tc : Thread Cert.QkNormRefIdeal.nD Cert.QkNormRefIdeal.τ).loc Cert.QkNormRefIdeal.main_arg1) = m ((c.tc : Thread Cert.QkNormRefIdeal.nD Cert.QkNormRefIdeal.τ).loc Cert.QkNormRefIdeal.main_arg1)
      ∧ r.2.mem ((c.tc : Thread Cert.QkNormRefIdeal.nD Cert.QkNormRefIdeal.τ).loc Cert.QkNormRefIdeal.main_arg2) = m ((c.tc : Thread Cert.QkNormRefIdeal.nD Cert.QkNormRefIdeal.τ).loc Cert.QkNormRefIdeal.main_arg2))
      ∧ r.2.sem = fun _ => 0)

def quiescent_BandMerge [hBandMerge : Cert.BandMerge.Facts] : Prop :=
  ∀ (m : (ℓ : Loc Cert.BandMerge.nD Cert.BandMerge.τ Cert.BandMerge.sig) → Buf (Elt Bits) ℓ) (g : Dev Cert.BandMerge.nD → PrngReg), Pre_BandMerge m →
    θ_run (Cert.BandMerge.defs (F := Bits)) (onTc (τ := Cert.BandMerge.τ) (Cert.BandMerge.main (F := Bits))) ⟨m, fun _ => 0, g⟩ (fun r => (∀ c : Dev Cert.BandMerge.nD,
      r.2.mem ((c.tc : Thread Cert.BandMerge.nD Cert.BandMerge.τ).loc Cert.BandMerge.main_arg0) = m ((c.tc : Thread Cert.BandMerge.nD Cert.BandMerge.τ).loc Cert.BandMerge.main_arg0)
      ∧ r.2.mem ((c.tc : Thread Cert.BandMerge.nD Cert.BandMerge.τ).loc Cert.BandMerge.main_arg1) = m ((c.tc : Thread Cert.BandMerge.nD Cert.BandMerge.τ).loc Cert.BandMerge.main_arg1)
      ∧ r.2.mem ((c.tc : Thread Cert.BandMerge.nD Cert.BandMerge.τ).loc Cert.BandMerge.main_arg2) = m ((c.tc : Thread Cert.BandMerge.nD Cert.BandMerge.τ).loc Cert.BandMerge.main_arg2)
      ∧ r.2.mem ((c.tc : Thread Cert.BandMerge.nD Cert.BandMerge.τ).loc Cert.BandMerge.main_arg3) = m ((c.tc : Thread Cert.BandMerge.nD Cert.BandMerge.τ).loc Cert.BandMerge.main_arg3)
      ∧ r.2.mem ((c.tc : Thread Cert.BandMerge.nD Cert.BandMerge.τ).loc Cert.BandMerge.main_arg4) = m ((c.tc : Thread Cert.BandMerge.nD Cert.BandMerge.τ).loc Cert.BandMerge.main_arg4)
      ∧ r.2.mem ((c.tc : Thread Cert.BandMerge.nD Cert.BandMerge.τ).loc Cert.BandMerge.main_arg5) = m ((c.tc : Thread Cert.BandMerge.nD Cert.BandMerge.τ).loc Cert.BandMerge.main_arg5))
      ∧ r.2.sem = fun _ => 0)

def quiescent_BandMergeIdeal [hBandMergeIdeal : Cert.BandMergeIdeal.Facts] : Prop :=
  ∀ (m : (ℓ : Loc Cert.BandMergeIdeal.nD Cert.BandMergeIdeal.τ Cert.BandMergeIdeal.sig) → Buf (Elt Ideal) ℓ) (g : Dev Cert.BandMergeIdeal.nD → PrngReg), Pre_BandMergeIdeal m →
    θ_run (Cert.BandMergeIdeal.defs (F := Ideal)) (onTc (τ := Cert.BandMergeIdeal.τ) (Cert.BandMergeIdeal.main (F := Ideal))) ⟨m, fun _ => 0, g⟩ (fun r => (∀ c : Dev Cert.BandMergeIdeal.nD,
      r.2.mem ((c.tc : Thread Cert.BandMergeIdeal.nD Cert.BandMergeIdeal.τ).loc Cert.BandMergeIdeal.main_arg0) = m ((c.tc : Thread Cert.BandMergeIdeal.nD Cert.BandMergeIdeal.τ).loc Cert.BandMergeIdeal.main_arg0)
      ∧ r.2.mem ((c.tc : Thread Cert.BandMergeIdeal.nD Cert.BandMergeIdeal.τ).loc Cert.BandMergeIdeal.main_arg1) = m ((c.tc : Thread Cert.BandMergeIdeal.nD Cert.BandMergeIdeal.τ).loc Cert.BandMergeIdeal.main_arg1)
      ∧ r.2.mem ((c.tc : Thread Cert.BandMergeIdeal.nD Cert.BandMergeIdeal.τ).loc Cert.BandMergeIdeal.main_arg2) = m ((c.tc : Thread Cert.BandMergeIdeal.nD Cert.BandMergeIdeal.τ).loc Cert.BandMergeIdeal.main_arg2)
      ∧ r.2.mem ((c.tc : Thread Cert.BandMergeIdeal.nD Cert.BandMergeIdeal.τ).loc Cert.BandMergeIdeal.main_arg3) = m ((c.tc : Thread Cert.BandMergeIdeal.nD Cert.BandMergeIdeal.τ).loc Cert.BandMergeIdeal.main_arg3)
      ∧ r.2.mem ((c.tc : Thread Cert.BandMergeIdeal.nD Cert.BandMergeIdeal.τ).loc Cert.BandMergeIdeal.main_arg4) = m ((c.tc : Thread Cert.BandMergeIdeal.nD Cert.BandMergeIdeal.τ).loc Cert.BandMergeIdeal.main_arg4)
      ∧ r.2.mem ((c.tc : Thread Cert.BandMergeIdeal.nD Cert.BandMergeIdeal.τ).loc Cert.BandMergeIdeal.main_arg5) = m ((c.tc : Thread Cert.BandMergeIdeal.nD Cert.BandMergeIdeal.τ).loc Cert.BandMergeIdeal.main_arg5))
      ∧ r.2.sem = fun _ => 0)

def quiescent_BandMergeIdeal_pre_sums_finite [hBandMergeIdeal : Cert.BandMergeIdeal.Facts] [hPre_sums_finite : Cert.Pre_sums_finite.Facts] : Prop :=
  ∀ (m : (ℓ : Loc Cert.BandMergeIdeal.nD Cert.BandMergeIdeal.τ Cert.BandMergeIdeal.sig) → Buf (Elt Ideal) ℓ) (g : Dev Cert.BandMergeIdeal.nD → PrngReg), Pre_BandMergeIdeal_sums_finite m →
    θ_run (Cert.BandMergeIdeal.defs (F := Ideal)) (onTc (τ := Cert.BandMergeIdeal.τ) (Cert.BandMergeIdeal.main (F := Ideal))) ⟨m, fun _ => 0, g⟩ (fun r => (∀ c : Dev Cert.BandMergeIdeal.nD,
      r.2.mem ((c.tc : Thread Cert.BandMergeIdeal.nD Cert.BandMergeIdeal.τ).loc Cert.BandMergeIdeal.main_arg0) = m ((c.tc : Thread Cert.BandMergeIdeal.nD Cert.BandMergeIdeal.τ).loc Cert.BandMergeIdeal.main_arg0)
      ∧ r.2.mem ((c.tc : Thread Cert.BandMergeIdeal.nD Cert.BandMergeIdeal.τ).loc Cert.BandMergeIdeal.main_arg1) = m ((c.tc : Thread Cert.BandMergeIdeal.nD Cert.BandMergeIdeal.τ).loc Cert.BandMergeIdeal.main_arg1)
      ∧ r.2.mem ((c.tc : Thread Cert.BandMergeIdeal.nD Cert.BandMergeIdeal.τ).loc Cert.BandMergeIdeal.main_arg2) = m ((c.tc : Thread Cert.BandMergeIdeal.nD Cert.BandMergeIdeal.τ).loc Cert.BandMergeIdeal.main_arg2)
      ∧ r.2.mem ((c.tc : Thread Cert.BandMergeIdeal.nD Cert.BandMergeIdeal.τ).loc Cert.BandMergeIdeal.main_arg3) = m ((c.tc : Thread Cert.BandMergeIdeal.nD Cert.BandMergeIdeal.τ).loc Cert.BandMergeIdeal.main_arg3)
      ∧ r.2.mem ((c.tc : Thread Cert.BandMergeIdeal.nD Cert.BandMergeIdeal.τ).loc Cert.BandMergeIdeal.main_arg4) = m ((c.tc : Thread Cert.BandMergeIdeal.nD Cert.BandMergeIdeal.τ).loc Cert.BandMergeIdeal.main_arg4)
      ∧ r.2.mem ((c.tc : Thread Cert.BandMergeIdeal.nD Cert.BandMergeIdeal.τ).loc Cert.BandMergeIdeal.main_arg5) = m ((c.tc : Thread Cert.BandMergeIdeal.nD Cert.BandMergeIdeal.τ).loc Cert.BandMergeIdeal.main_arg5))
      ∧ r.2.sem = fun _ => 0)

def quiescent_BandMergeRefIdeal [hBandMergeRefIdeal : Cert.BandMergeRefIdeal.Facts] : Prop :=
  ∀ (m : (ℓ : Loc Cert.BandMergeRefIdeal.nD Cert.BandMergeRefIdeal.τ Cert.BandMergeRefIdeal.sig) → Buf (Elt Ideal) ℓ) (g : Dev Cert.BandMergeRefIdeal.nD → PrngReg), Pre_BandMergeRefIdeal m →
    θ_run (Cert.BandMergeRefIdeal.defs (F := Ideal)) (onTc (τ := Cert.BandMergeRefIdeal.τ) (Cert.BandMergeRefIdeal.main (F := Ideal))) ⟨m, fun _ => 0, g⟩ (fun r => (∀ c : Dev Cert.BandMergeRefIdeal.nD,
      r.2.mem ((c.tc : Thread Cert.BandMergeRefIdeal.nD Cert.BandMergeRefIdeal.τ).loc Cert.BandMergeRefIdeal.main_arg0) = m ((c.tc : Thread Cert.BandMergeRefIdeal.nD Cert.BandMergeRefIdeal.τ).loc Cert.BandMergeRefIdeal.main_arg0)
      ∧ r.2.mem ((c.tc : Thread Cert.BandMergeRefIdeal.nD Cert.BandMergeRefIdeal.τ).loc Cert.BandMergeRefIdeal.main_arg1) = m ((c.tc : Thread Cert.BandMergeRefIdeal.nD Cert.BandMergeRefIdeal.τ).loc Cert.BandMergeRefIdeal.main_arg1)
      ∧ r.2.mem ((c.tc : Thread Cert.BandMergeRefIdeal.nD Cert.BandMergeRefIdeal.τ).loc Cert.BandMergeRefIdeal.main_arg2) = m ((c.tc : Thread Cert.BandMergeRefIdeal.nD Cert.BandMergeRefIdeal.τ).loc Cert.BandMergeRefIdeal.main_arg2)
      ∧ r.2.mem ((c.tc : Thread Cert.BandMergeRefIdeal.nD Cert.BandMergeRefIdeal.τ).loc Cert.BandMergeRefIdeal.main_arg3) = m ((c.tc : Thread Cert.BandMergeRefIdeal.nD Cert.BandMergeRefIdeal.τ).loc Cert.BandMergeRefIdeal.main_arg3)
      ∧ r.2.mem ((c.tc : Thread Cert.BandMergeRefIdeal.nD Cert.BandMergeRefIdeal.τ).loc Cert.BandMergeRefIdeal.main_arg4) = m ((c.tc : Thread Cert.BandMergeRefIdeal.nD Cert.BandMergeRefIdeal.τ).loc Cert.BandMergeRefIdeal.main_arg4)
      ∧ r.2.mem ((c.tc : Thread Cert.BandMergeRefIdeal.nD Cert.BandMergeRefIdeal.τ).loc Cert.BandMergeRefIdeal.main_arg5) = m ((c.tc : Thread Cert.BandMergeRefIdeal.nD Cert.BandMergeRefIdeal.τ).loc Cert.BandMergeRefIdeal.main_arg5))
      ∧ r.2.sem = fun _ => 0)

def quiescent_BandMergeRefIdeal_pre_sums_finite [hBandMergeRefIdeal : Cert.BandMergeRefIdeal.Facts] [hPre_sums_finite : Cert.Pre_sums_finite.Facts] : Prop :=
  ∀ (m : (ℓ : Loc Cert.BandMergeRefIdeal.nD Cert.BandMergeRefIdeal.τ Cert.BandMergeRefIdeal.sig) → Buf (Elt Ideal) ℓ) (g : Dev Cert.BandMergeRefIdeal.nD → PrngReg), Pre_BandMergeRefIdeal_sums_finite m →
    θ_run (Cert.BandMergeRefIdeal.defs (F := Ideal)) (onTc (τ := Cert.BandMergeRefIdeal.τ) (Cert.BandMergeRefIdeal.main (F := Ideal))) ⟨m, fun _ => 0, g⟩ (fun r => (∀ c : Dev Cert.BandMergeRefIdeal.nD,
      r.2.mem ((c.tc : Thread Cert.BandMergeRefIdeal.nD Cert.BandMergeRefIdeal.τ).loc Cert.BandMergeRefIdeal.main_arg0) = m ((c.tc : Thread Cert.BandMergeRefIdeal.nD Cert.BandMergeRefIdeal.τ).loc Cert.BandMergeRefIdeal.main_arg0)
      ∧ r.2.mem ((c.tc : Thread Cert.BandMergeRefIdeal.nD Cert.BandMergeRefIdeal.τ).loc Cert.BandMergeRefIdeal.main_arg1) = m ((c.tc : Thread Cert.BandMergeRefIdeal.nD Cert.BandMergeRefIdeal.τ).loc Cert.BandMergeRefIdeal.main_arg1)
      ∧ r.2.mem ((c.tc : Thread Cert.BandMergeRefIdeal.nD Cert.BandMergeRefIdeal.τ).loc Cert.BandMergeRefIdeal.main_arg2) = m ((c.tc : Thread Cert.BandMergeRefIdeal.nD Cert.BandMergeRefIdeal.τ).loc Cert.BandMergeRefIdeal.main_arg2)
      ∧ r.2.mem ((c.tc : Thread Cert.BandMergeRefIdeal.nD Cert.BandMergeRefIdeal.τ).loc Cert.BandMergeRefIdeal.main_arg3) = m ((c.tc : Thread Cert.BandMergeRefIdeal.nD Cert.BandMergeRefIdeal.τ).loc Cert.BandMergeRefIdeal.main_arg3)
      ∧ r.2.mem ((c.tc : Thread Cert.BandMergeRefIdeal.nD Cert.BandMergeRefIdeal.τ).loc Cert.BandMergeRefIdeal.main_arg4) = m ((c.tc : Thread Cert.BandMergeRefIdeal.nD Cert.BandMergeRefIdeal.τ).loc Cert.BandMergeRefIdeal.main_arg4)
      ∧ r.2.mem ((c.tc : Thread Cert.BandMergeRefIdeal.nD Cert.BandMergeRefIdeal.τ).loc Cert.BandMergeRefIdeal.main_arg5) = m ((c.tc : Thread Cert.BandMergeRefIdeal.nD Cert.BandMergeRefIdeal.τ).loc Cert.BandMergeRefIdeal.main_arg5))
      ∧ r.2.sem = fun _ => 0)

def quiescent_RopeNorm [hRopeNorm : Cert.RopeNorm.Facts] : Prop :=
  ∀ (m : (ℓ : Loc Cert.RopeNorm.nD Cert.RopeNorm.τ Cert.RopeNorm.sig) → Buf (Elt Bits) ℓ) (g : Dev Cert.RopeNorm.nD → PrngReg), Pre_RopeNorm m →
    θ_run (Cert.RopeNorm.defs (F := Bits)) (onTc (τ := Cert.RopeNorm.τ) (Cert.RopeNorm.main (F := Bits))) ⟨m, fun _ => 0, g⟩ (fun r => (∀ c : Dev Cert.RopeNorm.nD,
      r.2.mem ((c.tc : Thread Cert.RopeNorm.nD Cert.RopeNorm.τ).loc Cert.RopeNorm.main_arg0) = m ((c.tc : Thread Cert.RopeNorm.nD Cert.RopeNorm.τ).loc Cert.RopeNorm.main_arg0)
      ∧ r.2.mem ((c.tc : Thread Cert.RopeNorm.nD Cert.RopeNorm.τ).loc Cert.RopeNorm.main_arg1) = m ((c.tc : Thread Cert.RopeNorm.nD Cert.RopeNorm.τ).loc Cert.RopeNorm.main_arg1)
      ∧ r.2.mem ((c.tc : Thread Cert.RopeNorm.nD Cert.RopeNorm.τ).loc Cert.RopeNorm.main_arg2) = m ((c.tc : Thread Cert.RopeNorm.nD Cert.RopeNorm.τ).loc Cert.RopeNorm.main_arg2)
      ∧ r.2.mem ((c.tc : Thread Cert.RopeNorm.nD Cert.RopeNorm.τ).loc Cert.RopeNorm.main_arg3) = m ((c.tc : Thread Cert.RopeNorm.nD Cert.RopeNorm.τ).loc Cert.RopeNorm.main_arg3)
      ∧ r.2.mem ((c.tc : Thread Cert.RopeNorm.nD Cert.RopeNorm.τ).loc Cert.RopeNorm.main_arg4) = m ((c.tc : Thread Cert.RopeNorm.nD Cert.RopeNorm.τ).loc Cert.RopeNorm.main_arg4))
      ∧ r.2.sem = fun _ => 0)

def quiescent_RopeNormIdeal [hRopeNormIdeal : Cert.RopeNormIdeal.Facts] : Prop :=
  ∀ (m : (ℓ : Loc Cert.RopeNormIdeal.nD Cert.RopeNormIdeal.τ Cert.RopeNormIdeal.sig) → Buf (Elt Ideal) ℓ) (g : Dev Cert.RopeNormIdeal.nD → PrngReg), Pre_RopeNormIdeal m →
    θ_run (Cert.RopeNormIdeal.defs (F := Ideal)) (onTc (τ := Cert.RopeNormIdeal.τ) (Cert.RopeNormIdeal.main (F := Ideal))) ⟨m, fun _ => 0, g⟩ (fun r => (∀ c : Dev Cert.RopeNormIdeal.nD,
      r.2.mem ((c.tc : Thread Cert.RopeNormIdeal.nD Cert.RopeNormIdeal.τ).loc Cert.RopeNormIdeal.main_arg0) = m ((c.tc : Thread Cert.RopeNormIdeal.nD Cert.RopeNormIdeal.τ).loc Cert.RopeNormIdeal.main_arg0)
      ∧ r.2.mem ((c.tc : Thread Cert.RopeNormIdeal.nD Cert.RopeNormIdeal.τ).loc Cert.RopeNormIdeal.main_arg1) = m ((c.tc : Thread Cert.RopeNormIdeal.nD Cert.RopeNormIdeal.τ).loc Cert.RopeNormIdeal.main_arg1)
      ∧ r.2.mem ((c.tc : Thread Cert.RopeNormIdeal.nD Cert.RopeNormIdeal.τ).loc Cert.RopeNormIdeal.main_arg2) = m ((c.tc : Thread Cert.RopeNormIdeal.nD Cert.RopeNormIdeal.τ).loc Cert.RopeNormIdeal.main_arg2)
      ∧ r.2.mem ((c.tc : Thread Cert.RopeNormIdeal.nD Cert.RopeNormIdeal.τ).loc Cert.RopeNormIdeal.main_arg3) = m ((c.tc : Thread Cert.RopeNormIdeal.nD Cert.RopeNormIdeal.τ).loc Cert.RopeNormIdeal.main_arg3)
      ∧ r.2.mem ((c.tc : Thread Cert.RopeNormIdeal.nD Cert.RopeNormIdeal.τ).loc Cert.RopeNormIdeal.main_arg4) = m ((c.tc : Thread Cert.RopeNormIdeal.nD Cert.RopeNormIdeal.τ).loc Cert.RopeNormIdeal.main_arg4))
      ∧ r.2.sem = fun _ => 0)

def quiescent_RopeNormRefIdeal [hRopeNormRefIdeal : Cert.RopeNormRefIdeal.Facts] : Prop :=
  ∀ (m : (ℓ : Loc Cert.RopeNormRefIdeal.nD Cert.RopeNormRefIdeal.τ Cert.RopeNormRefIdeal.sig) → Buf (Elt Ideal) ℓ) (g : Dev Cert.RopeNormRefIdeal.nD → PrngReg), Pre_RopeNormRefIdeal m →
    θ_run (Cert.RopeNormRefIdeal.defs (F := Ideal)) (onTc (τ := Cert.RopeNormRefIdeal.τ) (Cert.RopeNormRefIdeal.main (F := Ideal))) ⟨m, fun _ => 0, g⟩ (fun r => (∀ c : Dev Cert.RopeNormRefIdeal.nD,
      r.2.mem ((c.tc : Thread Cert.RopeNormRefIdeal.nD Cert.RopeNormRefIdeal.τ).loc Cert.RopeNormRefIdeal.main_arg0) = m ((c.tc : Thread Cert.RopeNormRefIdeal.nD Cert.RopeNormRefIdeal.τ).loc Cert.RopeNormRefIdeal.main_arg0)
      ∧ r.2.mem ((c.tc : Thread Cert.RopeNormRefIdeal.nD Cert.RopeNormRefIdeal.τ).loc Cert.RopeNormRefIdeal.main_arg1) = m ((c.tc : Thread Cert.RopeNormRefIdeal.nD Cert.RopeNormRefIdeal.τ).loc Cert.RopeNormRefIdeal.main_arg1)
      ∧ r.2.mem ((c.tc : Thread Cert.RopeNormRefIdeal.nD Cert.RopeNormRefIdeal.τ).loc Cert.RopeNormRefIdeal.main_arg2) = m ((c.tc : Thread Cert.RopeNormRefIdeal.nD Cert.RopeNormRefIdeal.τ).loc Cert.RopeNormRefIdeal.main_arg2)
      ∧ r.2.mem ((c.tc : Thread Cert.RopeNormRefIdeal.nD Cert.RopeNormRefIdeal.τ).loc Cert.RopeNormRefIdeal.main_arg3) = m ((c.tc : Thread Cert.RopeNormRefIdeal.nD Cert.RopeNormRefIdeal.τ).loc Cert.RopeNormRefIdeal.main_arg3)
      ∧ r.2.mem ((c.tc : Thread Cert.RopeNormRefIdeal.nD Cert.RopeNormRefIdeal.τ).loc Cert.RopeNormRefIdeal.main_arg4) = m ((c.tc : Thread Cert.RopeNormRefIdeal.nD Cert.RopeNormRefIdeal.τ).loc Cert.RopeNormRefIdeal.main_arg4))
      ∧ r.2.sem = fun _ => 0)

def quiescent_RopeTables [hRopeTables : Cert.RopeTables.Facts] : Prop :=
  ∀ (m : (ℓ : Loc Cert.RopeTables.nD Cert.RopeTables.τ Cert.RopeTables.sig) → Buf (Elt Bits) ℓ) (g : Dev Cert.RopeTables.nD → PrngReg), Pre_RopeTables m →
    θ_run (Cert.RopeTables.defs (F := Bits)) (onTc (τ := Cert.RopeTables.τ) (Cert.RopeTables.main (F := Bits))) ⟨m, fun _ => 0, g⟩ (fun r => (∀ c : Dev Cert.RopeTables.nD,
      r.2.mem ((c.tc : Thread Cert.RopeTables.nD Cert.RopeTables.τ).loc Cert.RopeTables.main_arg0) = m ((c.tc : Thread Cert.RopeTables.nD Cert.RopeTables.τ).loc Cert.RopeTables.main_arg0))
      ∧ r.2.sem = fun _ => 0)

def quiescent_RopeTablesIdeal [hRopeTablesIdeal : Cert.RopeTablesIdeal.Facts] : Prop :=
  ∀ (m : (ℓ : Loc Cert.RopeTablesIdeal.nD Cert.RopeTablesIdeal.τ Cert.RopeTablesIdeal.sig) → Buf (Elt Ideal) ℓ) (g : Dev Cert.RopeTablesIdeal.nD → PrngReg), Pre_RopeTablesIdeal m →
    θ_run (Cert.RopeTablesIdeal.defs (F := Ideal)) (onTc (τ := Cert.RopeTablesIdeal.τ) (Cert.RopeTablesIdeal.main (F := Ideal))) ⟨m, fun _ => 0, g⟩ (fun r => (∀ c : Dev Cert.RopeTablesIdeal.nD,
      r.2.mem ((c.tc : Thread Cert.RopeTablesIdeal.nD Cert.RopeTablesIdeal.τ).loc Cert.RopeTablesIdeal.main_arg0) = m ((c.tc : Thread Cert.RopeTablesIdeal.nD Cert.RopeTablesIdeal.τ).loc Cert.RopeTablesIdeal.main_arg0))
      ∧ r.2.sem = fun _ => 0)

def quiescent_RopeTablesRefIdeal [hRopeTablesRefIdeal : Cert.RopeTablesRefIdeal.Facts] : Prop :=
  ∀ (m : (ℓ : Loc Cert.RopeTablesRefIdeal.nD Cert.RopeTablesRefIdeal.τ Cert.RopeTablesRefIdeal.sig) → Buf (Elt Ideal) ℓ) (g : Dev Cert.RopeTablesRefIdeal.nD → PrngReg), Pre_RopeTablesRefIdeal m →
    θ_run (Cert.RopeTablesRefIdeal.defs (F := Ideal)) (onTc (τ := Cert.RopeTablesRefIdeal.τ) (Cert.RopeTablesRefIdeal.main (F := Ideal))) ⟨m, fun _ => 0, g⟩ (fun r => (∀ c : Dev Cert.RopeTablesRefIdeal.nD,
      r.2.mem ((c.tc : Thread Cert.RopeTablesRefIdeal.nD Cert.RopeTablesRefIdeal.τ).loc Cert.RopeTablesRefIdeal.main_arg0) = m ((c.tc : Thread Cert.RopeTablesRefIdeal.nD Cert.RopeTablesRefIdeal.τ).loc Cert.RopeTablesRefIdeal.main_arg0))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1))
      ∧ r.2.sem = fun _ => 0)

def preserves_Fox_FoxIdeal : Prop :=
  True

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)) →
    ∃ (v0 : (c : Dev Cert.FoxIdeal.nD) → Buf (Elt Ideal) ((c.tc : Thread Cert.FoxIdeal.nD Cert.FoxIdeal.τ).loc Cert.FoxIdeal.main_v2)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v2) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v37) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v6) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v7) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v3)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v3) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v6) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v3) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v7) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v7) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v37) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_MoeUp_MoeUpIdeal : Prop :=
  True

def algebraic_MoeUpIdeal_MoeUpRefIdeal [hMoeUpIdeal : Cert.MoeUpIdeal.Facts] [hMoeUpRefIdeal : Cert.MoeUpRefIdeal.Facts] [hPre_experts_up : Cert.Pre_experts_up.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpRefIdeal.nD Cert.MoeUpRefIdeal.τ Cert.MoeUpRefIdeal.sig) → Buf (Elt Ideal) ℓ) (g' : Dev Cert.MoeUpRefIdeal.nD → PrngReg), Pre_MoeUpIdeal m →
    (∀ c : Dev Cert.MoeUpIdeal.nD,
      m' ((c.tc : Thread Cert.MoeUpRefIdeal.nD Cert.MoeUpRefIdeal.τ).loc Cert.MoeUpRefIdeal.main_arg0) = m ((c.tc : Thread Cert.MoeUpIdeal.nD Cert.MoeUpIdeal.τ).loc Cert.MoeUpIdeal.main_arg0)
      ∧ m' ((c.tc : Thread Cert.MoeUpRefIdeal.nD Cert.MoeUpRefIdeal.τ).loc Cert.MoeUpRefIdeal.main_arg1) = m ((c.tc : Thread Cert.MoeUpIdeal.nD Cert.MoeUpIdeal.τ).loc Cert.MoeUpIdeal.main_arg1)
      ∧ m' ((c.tc : Thread Cert.MoeUpRefIdeal.nD Cert.MoeUpRefIdeal.τ).loc Cert.MoeUpRefIdeal.main_arg2) = m ((c.tc : Thread Cert.MoeUpIdeal.nD Cert.MoeUpIdeal.τ).loc Cert.MoeUpIdeal.main_arg2)
      ∧ m' ((c.tc : Thread Cert.MoeUpRefIdeal.nD Cert.MoeUpRefIdeal.τ).loc Cert.MoeUpRefIdeal.main_arg3) = m ((c.tc : Thread Cert.MoeUpIdeal.nD Cert.MoeUpIdeal.τ).loc Cert.MoeUpIdeal.main_arg3)
      ∧ m' ((c.tc : Thread Cert.MoeUpRefIdeal.nD Cert.MoeUpRefIdeal.τ).loc Cert.MoeUpRefIdeal.main_arg4) = m ((c.tc : Thread Cert.MoeUpIdeal.nD Cert.MoeUpIdeal.τ).loc Cert.MoeUpIdeal.main_arg4)) →
    ∃ (v0 : (c : Dev Cert.MoeUpIdeal.nD) → Buf (Elt Ideal) ((c.tc : Thread Cert.MoeUpIdeal.nD Cert.MoeUpIdeal.τ).loc Cert.MoeUpIdeal.main_v2)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v2) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ θ_run (Cert.MoeUpRefIdeal.defs (F := Ideal)) (onTc (τ := Cert.MoeUpRefIdeal.τ) (Cert.MoeUpRefIdeal.main (F := Ideal))) ⟨m', fun _ => 0, g'⟩ (fun r => ∀ c : Dev Cert.MoeUpRefIdeal.nD,
          r.2.mem ((c.tc : Thread Cert.MoeUpRefIdeal.nD Cert.MoeUpRefIdeal.τ).loc Cert.MoeUpRefIdeal.main_v131) = v0 c
          ∧ r.2.mem ((c.tc : Thread Cert.MoeUpRefIdeal.nD Cert.MoeUpRefIdeal.τ).loc Cert.MoeUpRefIdeal.main_arg0) = m' ((c.tc : Thread Cert.MoeUpRefIdeal.nD Cert.MoeUpRefIdeal.τ).loc Cert.MoeUpRefIdeal.main_arg0)
          ∧ r.2.mem ((c.tc : Thread Cert.MoeUpRefIdeal.nD Cert.MoeUpRefIdeal.τ).loc Cert.MoeUpRefIdeal.main_arg1) = m' ((c.tc : Thread Cert.MoeUpRefIdeal.nD Cert.MoeUpRefIdeal.τ).loc Cert.MoeUpRefIdeal.main_arg1)
          ∧ r.2.mem ((c.tc : Thread Cert.MoeUpRefIdeal.nD Cert.MoeUpRefIdeal.τ).loc Cert.MoeUpRefIdeal.main_arg2) = m' ((c.tc : Thread Cert.MoeUpRefIdeal.nD Cert.MoeUpRefIdeal.τ).loc Cert.MoeUpRefIdeal.main_arg2)
          ∧ r.2.mem ((c.tc : Thread Cert.MoeUpRefIdeal.nD Cert.MoeUpRefIdeal.τ).loc Cert.MoeUpRefIdeal.main_arg3) = m' ((c.tc : Thread Cert.MoeUpRefIdeal.nD Cert.MoeUpRefIdeal.τ).loc Cert.MoeUpRefIdeal.main_arg3)
          ∧ r.2.mem ((c.tc : Thread Cert.MoeUpRefIdeal.nD Cert.MoeUpRefIdeal.τ).loc Cert.MoeUpRefIdeal.main_arg4) = m' ((c.tc : Thread Cert.MoeUpRefIdeal.nD Cert.MoeUpRefIdeal.τ).loc Cert.MoeUpRefIdeal.main_arg4))

def preserves_MoeDown_MoeDownIdeal : Prop :=
  True

def algebraic_MoeDownIdeal_MoeDownRefIdeal [hMoeDownIdeal : Cert.MoeDownIdeal.Facts] [hMoeDownRefIdeal : Cert.MoeDownRefIdeal.Facts] [hPre_experts_down : Cert.Pre_experts_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownRefIdeal.nD Cert.MoeDownRefIdeal.τ Cert.MoeDownRefIdeal.sig) → Buf (Elt Ideal) ℓ) (g' : Dev Cert.MoeDownRefIdeal.nD → PrngReg), Pre_MoeDownIdeal m →
    (∀ c : Dev Cert.MoeDownIdeal.nD,
      m' ((c.tc : Thread Cert.MoeDownRefIdeal.nD Cert.MoeDownRefIdeal.τ).loc Cert.MoeDownRefIdeal.main_arg0) = m ((c.tc : Thread Cert.MoeDownIdeal.nD Cert.MoeDownIdeal.τ).loc Cert.MoeDownIdeal.main_arg0)
      ∧ m' ((c.tc : Thread Cert.MoeDownRefIdeal.nD Cert.MoeDownRefIdeal.τ).loc Cert.MoeDownRefIdeal.main_arg1) = m ((c.tc : Thread Cert.MoeDownIdeal.nD Cert.MoeDownIdeal.τ).loc Cert.MoeDownIdeal.main_arg1)
      ∧ m' ((c.tc : Thread Cert.MoeDownRefIdeal.nD Cert.MoeDownRefIdeal.τ).loc Cert.MoeDownRefIdeal.main_arg2) = m ((c.tc : Thread Cert.MoeDownIdeal.nD Cert.MoeDownIdeal.τ).loc Cert.MoeDownIdeal.main_arg2)
      ∧ m' ((c.tc : Thread Cert.MoeDownRefIdeal.nD Cert.MoeDownRefIdeal.τ).loc Cert.MoeDownRefIdeal.main_arg3) = m ((c.tc : Thread Cert.MoeDownIdeal.nD Cert.MoeDownIdeal.τ).loc Cert.MoeDownIdeal.main_arg3)) →
    ∃ (v0 : (c : Dev Cert.MoeDownIdeal.nD) → Buf (Elt Ideal) ((c.tc : Thread Cert.MoeDownIdeal.nD Cert.MoeDownIdeal.τ).loc Cert.MoeDownIdeal.main_v1)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v1) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ θ_run (Cert.MoeDownRefIdeal.defs (F := Ideal)) (onTc (τ := Cert.MoeDownRefIdeal.τ) (Cert.MoeDownRefIdeal.main (F := Ideal))) ⟨m', fun _ => 0, g'⟩ (fun r => ∀ c : Dev Cert.MoeDownRefIdeal.nD,
          r.2.mem ((c.tc : Thread Cert.MoeDownRefIdeal.nD Cert.MoeDownRefIdeal.τ).loc Cert.MoeDownRefIdeal.main_v90) = v0 c
          ∧ r.2.mem ((c.tc : Thread Cert.MoeDownRefIdeal.nD Cert.MoeDownRefIdeal.τ).loc Cert.MoeDownRefIdeal.main_arg0) = m' ((c.tc : Thread Cert.MoeDownRefIdeal.nD Cert.MoeDownRefIdeal.τ).loc Cert.MoeDownRefIdeal.main_arg0)
          ∧ r.2.mem ((c.tc : Thread Cert.MoeDownRefIdeal.nD Cert.MoeDownRefIdeal.τ).loc Cert.MoeDownRefIdeal.main_arg1) = m' ((c.tc : Thread Cert.MoeDownRefIdeal.nD Cert.MoeDownRefIdeal.τ).loc Cert.MoeDownRefIdeal.main_arg1)
          ∧ r.2.mem ((c.tc : Thread Cert.MoeDownRefIdeal.nD Cert.MoeDownRefIdeal.τ).loc Cert.MoeDownRefIdeal.main_arg2) = m' ((c.tc : Thread Cert.MoeDownRefIdeal.nD Cert.MoeDownRefIdeal.τ).loc Cert.MoeDownRefIdeal.main_arg2)
          ∧ r.2.mem ((c.tc : Thread Cert.MoeDownRefIdeal.nD Cert.MoeDownRefIdeal.τ).loc Cert.MoeDownRefIdeal.main_arg3) = m' ((c.tc : Thread Cert.MoeDownRefIdeal.nD Cert.MoeDownRefIdeal.τ).loc Cert.MoeDownRefIdeal.main_arg3))

def preserves_Combine_CombineIdeal : Prop :=
  True

def algebraic_CombineIdeal_CombineRefIdeal [hCombineIdeal : Cert.CombineIdeal.Facts] [hCombineRefIdeal : Cert.CombineRefIdeal.Facts] [hPre_rows_in : Cert.Pre_rows_in.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v27) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5))

def preserves_Gather_GatherIdeal : Prop :=
  True

def algebraic_GatherIdeal_GatherRefIdeal [hGatherIdeal : Cert.GatherIdeal.Facts] [hGatherRefIdeal : Cert.GatherRefIdeal.Facts] [hPre_tokens_in : Cert.Pre_tokens_in.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v0) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v7) = v0 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1))

def bitexact_Gather_GatherRef [hGather : Cert.Gather.Facts] [hGatherRef : Cert.GatherRef.Facts] [hPre_tokens_in : Cert.Pre_tokens_in.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m' ((c.tc : Thread Cert.GatherRef.nD Cert.GatherRef.τ).loc Cert.GatherRef.main_arg0) = m ((c.tc : Thread Cert.Gather.nD Cert.Gather.τ).loc Cert.Gather.main_arg0)
      ∧ m' ((c.tc : Thread Cert.GatherRef.nD Cert.GatherRef.τ).loc Cert.GatherRef.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v0) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherRef.defs (F := Bits)) (onTc (τ := Cert.GatherRef.τ) (Cert.GatherRef.main (F := Bits))) ⟨m', fun _ => 0, g'⟩ (fun r => ∀ c : Dev Cert.GatherRef.nD,
          r.2.mem ((c.tc : Thread Cert.GatherRef.nD Cert.GatherRef.τ).loc Cert.GatherRef.main_v7) = v0 c
          ∧ r.2.mem ((c.tc : Thread Cert.GatherRef.nD Cert.GatherRef.τ).loc Cert.GatherRef.main_arg0) = m' ((c.tc : Thread Cert.GatherRef.nD Cert.GatherRef.τ).loc Cert.GatherRef.main_arg0)
          ∧ r.2.mem ((c.tc : Thread Cert.GatherRef.nD Cert.GatherRef.τ).loc Cert.GatherRef.main_arg1) = m' ((c.tc : Thread Cert.GatherRef.nD Cert.GatherRef.τ).loc Cert.GatherRef.main_arg1))

def preserves_InSmall_InSmallIdeal : Prop :=
  True

def algebraic_InSmallIdeal_InSmallRefIdeal [hInSmallIdeal : Cert.InSmallIdeal.Facts] [hInSmallRefIdeal : Cert.InSmallRefIdeal.Facts] : Prop :=
  ∀ (m : (ℓ : Loc Cert.InSmallIdeal.nD Cert.InSmallIdeal.τ Cert.InSmallIdeal.sig) → Buf (Elt Ideal) ℓ) (g : Dev Cert.InSmallIdeal.nD → PrngReg)
    (m' : (ℓ : Loc Cert.InSmallRefIdeal.nD Cert.InSmallRefIdeal.τ Cert.InSmallRefIdeal.sig) → Buf (Elt Ideal) ℓ) (g' : Dev Cert.InSmallRefIdeal.nD → PrngReg), Pre_InSmallIdeal m →
    (∀ c : Dev Cert.InSmallIdeal.nD,
      m' ((c.tc : Thread Cert.InSmallRefIdeal.nD Cert.InSmallRefIdeal.τ).loc Cert.InSmallRefIdeal.main_arg0) = m ((c.tc : Thread Cert.InSmallIdeal.nD Cert.InSmallIdeal.τ).loc Cert.InSmallIdeal.main_arg0)
      ∧ m' ((c.tc : Thread Cert.InSmallRefIdeal.nD Cert.InSmallRefIdeal.τ).loc Cert.InSmallRefIdeal.main_arg1) = m ((c.tc : Thread Cert.InSmallIdeal.nD Cert.InSmallIdeal.τ).loc Cert.InSmallIdeal.main_arg1)) →
    ∃ (v0 : (c : Dev Cert.InSmallIdeal.nD) → Buf (Elt Ideal) ((c.tc : Thread Cert.InSmallIdeal.nD Cert.InSmallIdeal.τ).loc Cert.InSmallIdeal.main_v6)),
      θ_run (Cert.InSmallIdeal.defs (F := Ideal)) (onTc (τ := Cert.InSmallIdeal.τ) (Cert.InSmallIdeal.main (F := Ideal))) ⟨m, fun _ => 0, g⟩ (fun r => ∀ c : Dev Cert.InSmallIdeal.nD,
          r.2.mem ((c.tc : Thread Cert.InSmallIdeal.nD Cert.InSmallIdeal.τ).loc Cert.InSmallIdeal.main_v6) = v0 c
          ∧ r.2.mem ((c.tc : Thread Cert.InSmallIdeal.nD Cert.InSmallIdeal.τ).loc Cert.InSmallIdeal.main_arg0) = m ((c.tc : Thread Cert.InSmallIdeal.nD Cert.InSmallIdeal.τ).loc Cert.InSmallIdeal.main_arg0)
          ∧ r.2.mem ((c.tc : Thread Cert.InSmallIdeal.nD Cert.InSmallIdeal.τ).loc Cert.InSmallIdeal.main_arg1) = m ((c.tc : Thread Cert.InSmallIdeal.nD Cert.InSmallIdeal.τ).loc Cert.InSmallIdeal.main_arg1))
      ∧ θ_run (Cert.InSmallRefIdeal.defs (F := Ideal)) (onTc (τ := Cert.InSmallRefIdeal.τ) (Cert.InSmallRefIdeal.main (F := Ideal))) ⟨m', fun _ => 0, g'⟩ (fun r => ∀ c : Dev Cert.InSmallRefIdeal.nD,
          r.2.mem ((c.tc : Thread Cert.InSmallRefIdeal.nD Cert.InSmallRefIdeal.τ).loc Cert.InSmallRefIdeal.main_v6) = v0 c
          ∧ r.2.mem ((c.tc : Thread Cert.InSmallRefIdeal.nD Cert.InSmallRefIdeal.τ).loc Cert.InSmallRefIdeal.main_arg0) = m' ((c.tc : Thread Cert.InSmallRefIdeal.nD Cert.InSmallRefIdeal.τ).loc Cert.InSmallRefIdeal.main_arg0)
          ∧ r.2.mem ((c.tc : Thread Cert.InSmallRefIdeal.nD Cert.InSmallRefIdeal.τ).loc Cert.InSmallRefIdeal.main_arg1) = m' ((c.tc : Thread Cert.InSmallRefIdeal.nD Cert.InSmallRefIdeal.τ).loc Cert.InSmallRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v9) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_MixNorm_MixNormIdeal : Prop :=
  True

def algebraic_MixNormIdeal_MixNormRefIdeal [hMixNormIdeal : Cert.MixNormIdeal.Facts] [hMixNormRefIdeal : Cert.MixNormRefIdeal.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.MixNormRefIdeal.nD Cert.MixNormRefIdeal.τ Cert.MixNormRefIdeal.sig) → Buf (Elt Ideal) ℓ) (g' : Dev Cert.MixNormRefIdeal.nD → PrngReg), Pre_MixNormIdeal m →
    (∀ c : Dev Cert.MixNormIdeal.nD,
      m' ((c.tc : Thread Cert.MixNormRefIdeal.nD Cert.MixNormRefIdeal.τ).loc Cert.MixNormRefIdeal.main_arg0) = m ((c.tc : Thread Cert.MixNormIdeal.nD Cert.MixNormIdeal.τ).loc Cert.MixNormIdeal.main_arg0)
      ∧ m' ((c.tc : Thread Cert.MixNormRefIdeal.nD Cert.MixNormRefIdeal.τ).loc Cert.MixNormRefIdeal.main_arg1) = m ((c.tc : Thread Cert.MixNormIdeal.nD Cert.MixNormIdeal.τ).loc Cert.MixNormIdeal.main_arg1)
      ∧ m' ((c.tc : Thread Cert.MixNormRefIdeal.nD Cert.MixNormRefIdeal.τ).loc Cert.MixNormRefIdeal.main_arg2) = m ((c.tc : Thread Cert.MixNormIdeal.nD Cert.MixNormIdeal.τ).loc Cert.MixNormIdeal.main_arg2)) →
    ∃ (v0 : (c : Dev Cert.MixNormIdeal.nD) → Buf (Elt Ideal) ((c.tc : Thread Cert.MixNormIdeal.nD Cert.MixNormIdeal.τ).loc Cert.MixNormIdeal.main_v1)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v1) = v0 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
          ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2))
      ∧ θ_run (Cert.MixNormRefIdeal.defs (F := Ideal)) (onTc (τ := Cert.MixNormRefIdeal.τ) (Cert.MixNormRefIdeal.main (F := Ideal))) ⟨m', fun _ => 0, g'⟩ (fun r => ∀ c : Dev Cert.MixNormRefIdeal.nD,
          r.2.mem ((c.tc : Thread Cert.MixNormRefIdeal.nD Cert.MixNormRefIdeal.τ).loc Cert.MixNormRefIdeal.main_v25) = v0 c
          ∧ r.2.mem ((c.tc : Thread Cert.MixNormRefIdeal.nD Cert.MixNormRefIdeal.τ).loc Cert.MixNormRefIdeal.main_arg0) = m' ((c.tc : Thread Cert.MixNormRefIdeal.nD Cert.MixNormRefIdeal.τ).loc Cert.MixNormRefIdeal.main_arg0)
          ∧ r.2.mem ((c.tc : Thread Cert.MixNormRefIdeal.nD Cert.MixNormRefIdeal.τ).loc Cert.MixNormRefIdeal.main_arg1) = m' ((c.tc : Thread Cert.MixNormRefIdeal.nD Cert.MixNormRefIdeal.τ).loc Cert.MixNormRefIdeal.main_arg1)
          ∧ r.2.mem ((c.tc : Thread Cert.MixNormRefIdeal.nD Cert.MixNormRefIdeal.τ).loc Cert.MixNormRefIdeal.main_arg2) = m' ((c.tc : Thread Cert.MixNormRefIdeal.nD Cert.MixNormRefIdeal.τ).loc Cert.MixNormRefIdeal.main_arg2))

def preserves_FfnNorm_FfnNormIdeal : Prop :=
  True

def algebraic_FfnNormIdeal_FfnNormRefIdeal [hFfnNormIdeal : Cert.FfnNormIdeal.Facts] [hFfnNormRefIdeal : Cert.FfnNormRefIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormRefIdeal.nD Cert.FfnNormRefIdeal.τ Cert.FfnNormRefIdeal.sig) → Buf (Elt Ideal) ℓ) (g' : Dev Cert.FfnNormRefIdeal.nD → PrngReg), Pre_FfnNormIdeal m →
    (∀ c : Dev Cert.FfnNormIdeal.nD,
      m' ((c.tc : Thread Cert.FfnNormRefIdeal.nD Cert.FfnNormRefIdeal.τ).loc Cert.FfnNormRefIdeal.main_arg0) = m ((c.tc : Thread Cert.FfnNormIdeal.nD Cert.FfnNormIdeal.τ).loc Cert.FfnNormIdeal.main_arg0)
      ∧ m' ((c.tc : Thread Cert.FfnNormRefIdeal.nD Cert.FfnNormRefIdeal.τ).loc Cert.FfnNormRefIdeal.main_arg1) = m ((c.tc : Thread Cert.FfnNormIdeal.nD Cert.FfnNormIdeal.τ).loc Cert.FfnNormIdeal.main_arg1)
      ∧ m' ((c.tc : Thread Cert.FfnNormRefIdeal.nD Cert.FfnNormRefIdeal.τ).loc Cert.FfnNormRefIdeal.main_arg2) = m ((c.tc : Thread Cert.FfnNormIdeal.nD Cert.FfnNormIdeal.τ).loc Cert.FfnNormIdeal.main_arg2)) →
    ∃ (v0 : (c : Dev Cert.FfnNormIdeal.nD) → Buf (Elt Ideal) ((c.tc : Thread Cert.FfnNormIdeal.nD Cert.FfnNormIdeal.τ).loc Cert.FfnNormIdeal.main_v1)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v1) = v0 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
          ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2))
      ∧ θ_run (Cert.FfnNormRefIdeal.defs (F := Ideal)) (onTc (τ := Cert.FfnNormRefIdeal.τ) (Cert.FfnNormRefIdeal.main (F := Ideal))) ⟨m', fun _ => 0, g'⟩ (fun r => ∀ c : Dev Cert.FfnNormRefIdeal.nD,
          r.2.mem ((c.tc : Thread Cert.FfnNormRefIdeal.nD Cert.FfnNormRefIdeal.τ).loc Cert.FfnNormRefIdeal.main_v25) = v0 c
          ∧ r.2.mem ((c.tc : Thread Cert.FfnNormRefIdeal.nD Cert.FfnNormRefIdeal.τ).loc Cert.FfnNormRefIdeal.main_arg0) = m' ((c.tc : Thread Cert.FfnNormRefIdeal.nD Cert.FfnNormRefIdeal.τ).loc Cert.FfnNormRefIdeal.main_arg0)
          ∧ r.2.mem ((c.tc : Thread Cert.FfnNormRefIdeal.nD Cert.FfnNormRefIdeal.τ).loc Cert.FfnNormRefIdeal.main_arg1) = m' ((c.tc : Thread Cert.FfnNormRefIdeal.nD Cert.FfnNormRefIdeal.τ).loc Cert.FfnNormRefIdeal.main_arg1)
          ∧ r.2.mem ((c.tc : Thread Cert.FfnNormRefIdeal.nD Cert.FfnNormRefIdeal.τ).loc Cert.FfnNormRefIdeal.main_arg2) = m' ((c.tc : Thread Cert.FfnNormRefIdeal.nD Cert.FfnNormRefIdeal.τ).loc Cert.FfnNormRefIdeal.main_arg2))

def preserves_QkNorm_QkNormIdeal : Prop :=
  True

def algebraic_QkNormIdeal_QkNormRefIdeal [hQkNormIdeal : Cert.QkNormIdeal.Facts] [hQkNormRefIdeal : Cert.QkNormRefIdeal.Facts] : Prop :=
  ∀ (m : (ℓ : Loc Cert.QkNormIdeal.nD Cert.QkNormIdeal.τ Cert.QkNormIdeal.sig) → Buf (Elt Ideal) ℓ) (g : Dev Cert.QkNormIdeal.nD → PrngReg)
    (m' : (ℓ : Loc Cert.QkNormRefIdeal.nD Cert.QkNormRefIdeal.τ Cert.QkNormRefIdeal.sig) → Buf (Elt Ideal) ℓ) (g' : Dev Cert.QkNormRefIdeal.nD → PrngReg), Pre_QkNormIdeal m →
    (∀ c : Dev Cert.QkNormIdeal.nD,
      m' ((c.tc : Thread Cert.QkNormRefIdeal.nD Cert.QkNormRefIdeal.τ).loc Cert.QkNormRefIdeal.main_arg0) = m ((c.tc : Thread Cert.QkNormIdeal.nD Cert.QkNormIdeal.τ).loc Cert.QkNormIdeal.main_arg0)
      ∧ m' ((c.tc : Thread Cert.QkNormRefIdeal.nD Cert.QkNormRefIdeal.τ).loc Cert.QkNormRefIdeal.main_arg1) = m ((c.tc : Thread Cert.QkNormIdeal.nD Cert.QkNormIdeal.τ).loc Cert.QkNormIdeal.main_arg1)
      ∧ m' ((c.tc : Thread Cert.QkNormRefIdeal.nD Cert.QkNormRefIdeal.τ).loc Cert.QkNormRefIdeal.main_arg2) = m ((c.tc : Thread Cert.QkNormIdeal.nD Cert.QkNormIdeal.τ).loc Cert.QkNormIdeal.main_arg2)) →
    ∃ (v0 : (c : Dev Cert.QkNormIdeal.nD) → Buf (Elt Ideal) ((c.tc : Thread Cert.QkNormIdeal.nD Cert.QkNormIdeal.τ).loc Cert.QkNormIdeal.main_v6)),
      θ_run (Cert.QkNormIdeal.defs (F := Ideal)) (onTc (τ := Cert.QkNormIdeal.τ) (Cert.QkNormIdeal.main (F := Ideal))) ⟨m, fun _ => 0, g⟩ (fun r => ∀ c : Dev Cert.QkNormIdeal.nD,
          r.2.mem ((c.tc : Thread Cert.QkNormIdeal.nD Cert.QkNormIdeal.τ).loc Cert.QkNormIdeal.main_v6) = v0 c
          ∧ r.2.mem ((c.tc : Thread Cert.QkNormIdeal.nD Cert.QkNormIdeal.τ).loc Cert.QkNormIdeal.main_arg0) = m ((c.tc : Thread Cert.QkNormIdeal.nD Cert.QkNormIdeal.τ).loc Cert.QkNormIdeal.main_arg0)
          ∧ r.2.mem ((c.tc : Thread Cert.QkNormIdeal.nD Cert.QkNormIdeal.τ).loc Cert.QkNormIdeal.main_arg1) = m ((c.tc : Thread Cert.QkNormIdeal.nD Cert.QkNormIdeal.τ).loc Cert.QkNormIdeal.main_arg1)
          ∧ r.2.mem ((c.tc : Thread Cert.QkNormIdeal.nD Cert.QkNormIdeal.τ).loc Cert.QkNormIdeal.main_arg2) = m ((c.tc : Thread Cert.QkNormIdeal.nD Cert.QkNormIdeal.τ).loc Cert.QkNormIdeal.main_arg2))
      ∧ θ_run (Cert.QkNormRefIdeal.defs (F := Ideal)) (onTc (τ := Cert.QkNormRefIdeal.τ) (Cert.QkNormRefIdeal.main (F := Ideal))) ⟨m', fun _ => 0, g'⟩ (fun r => ∀ c : Dev Cert.QkNormRefIdeal.nD,
          r.2.mem ((c.tc : Thread Cert.QkNormRefIdeal.nD Cert.QkNormRefIdeal.τ).loc Cert.QkNormRefIdeal.main_v37) = v0 c
          ∧ r.2.mem ((c.tc : Thread Cert.QkNormRefIdeal.nD Cert.QkNormRefIdeal.τ).loc Cert.QkNormRefIdeal.main_arg0) = m' ((c.tc : Thread Cert.QkNormRefIdeal.nD Cert.QkNormRefIdeal.τ).loc Cert.QkNormRefIdeal.main_arg0)
          ∧ r.2.mem ((c.tc : Thread Cert.QkNormRefIdeal.nD Cert.QkNormRefIdeal.τ).loc Cert.QkNormRefIdeal.main_arg1) = m' ((c.tc : Thread Cert.QkNormRefIdeal.nD Cert.QkNormRefIdeal.τ).loc Cert.QkNormRefIdeal.main_arg1)
          ∧ r.2.mem ((c.tc : Thread Cert.QkNormRefIdeal.nD Cert.QkNormRefIdeal.τ).loc Cert.QkNormRefIdeal.main_arg2) = m' ((c.tc : Thread Cert.QkNormRefIdeal.nD Cert.QkNormRefIdeal.τ).loc Cert.QkNormRefIdeal.main_arg2))

def preserves_BandMerge_BandMergeIdeal : Prop :=
  True

def algebraic_BandMergeIdeal_BandMergeRefIdeal_pre_sums_finite [hBandMergeIdeal : Cert.BandMergeIdeal.Facts] [hBandMergeRefIdeal : Cert.BandMergeRefIdeal.Facts] [hPre_sums_finite : Cert.Pre_sums_finite.Facts] : Prop :=
  ∀ (m : (ℓ : Loc Cert.BandMergeIdeal.nD Cert.BandMergeIdeal.τ Cert.BandMergeIdeal.sig) → Buf (Elt Ideal) ℓ) (g : Dev Cert.BandMergeIdeal.nD → PrngReg)
    (m' : (ℓ : Loc Cert.BandMergeRefIdeal.nD Cert.BandMergeRefIdeal.τ Cert.BandMergeRefIdeal.sig) → Buf (Elt Ideal) ℓ) (g' : Dev Cert.BandMergeRefIdeal.nD → PrngReg), Pre_BandMergeIdeal_sums_finite m →
    (∀ c : Dev Cert.BandMergeIdeal.nD,
      m' ((c.tc : Thread Cert.BandMergeRefIdeal.nD Cert.BandMergeRefIdeal.τ).loc Cert.BandMergeRefIdeal.main_arg0) = m ((c.tc : Thread Cert.BandMergeIdeal.nD Cert.BandMergeIdeal.τ).loc Cert.BandMergeIdeal.main_arg0)
      ∧ m' ((c.tc : Thread Cert.BandMergeRefIdeal.nD Cert.BandMergeRefIdeal.τ).loc Cert.BandMergeRefIdeal.main_arg1) = m ((c.tc : Thread Cert.BandMergeIdeal.nD Cert.BandMergeIdeal.τ).loc Cert.BandMergeIdeal.main_arg1)
      ∧ m' ((c.tc : Thread Cert.BandMergeRefIdeal.nD Cert.BandMergeRefIdeal.τ).loc Cert.BandMergeRefIdeal.main_arg2) = m ((c.tc : Thread Cert.BandMergeIdeal.nD Cert.BandMergeIdeal.τ).loc Cert.BandMergeIdeal.main_arg2)
      ∧ m' ((c.tc : Thread Cert.BandMergeRefIdeal.nD Cert.BandMergeRefIdeal.τ).loc Cert.BandMergeRefIdeal.main_arg3) = m ((c.tc : Thread Cert.BandMergeIdeal.nD Cert.BandMergeIdeal.τ).loc Cert.BandMergeIdeal.main_arg3)
      ∧ m' ((c.tc : Thread Cert.BandMergeRefIdeal.nD Cert.BandMergeRefIdeal.τ).loc Cert.BandMergeRefIdeal.main_arg4) = m ((c.tc : Thread Cert.BandMergeIdeal.nD Cert.BandMergeIdeal.τ).loc Cert.BandMergeIdeal.main_arg4)
      ∧ m' ((c.tc : Thread Cert.BandMergeRefIdeal.nD Cert.BandMergeRefIdeal.τ).loc Cert.BandMergeRefIdeal.main_arg5) = m ((c.tc : Thread Cert.BandMergeIdeal.nD Cert.BandMergeIdeal.τ).loc Cert.BandMergeIdeal.main_arg5)) →
    ∃ (v0 : (c : Dev Cert.BandMergeIdeal.nD) → Buf (Elt Ideal) ((c.tc : Thread Cert.BandMergeIdeal.nD Cert.BandMergeIdeal.τ).loc Cert.BandMergeIdeal.main_v0)),
      θ_run (Cert.BandMergeIdeal.defs (F := Ideal)) (onTc (τ := Cert.BandMergeIdeal.τ) (Cert.BandMergeIdeal.main (F := Ideal))) ⟨m, fun _ => 0, g⟩ (fun r => ∀ c : Dev Cert.BandMergeIdeal.nD,
          r.2.mem ((c.tc : Thread Cert.BandMergeIdeal.nD Cert.BandMergeIdeal.τ).loc Cert.BandMergeIdeal.main_v0) = v0 c
          ∧ r.2.mem ((c.tc : Thread Cert.BandMergeIdeal.nD Cert.BandMergeIdeal.τ).loc Cert.BandMergeIdeal.main_arg0) = m ((c.tc : Thread Cert.BandMergeIdeal.nD Cert.BandMergeIdeal.τ).loc Cert.BandMergeIdeal.main_arg0)
          ∧ r.2.mem ((c.tc : Thread Cert.BandMergeIdeal.nD Cert.BandMergeIdeal.τ).loc Cert.BandMergeIdeal.main_arg1) = m ((c.tc : Thread Cert.BandMergeIdeal.nD Cert.BandMergeIdeal.τ).loc Cert.BandMergeIdeal.main_arg1)
          ∧ r.2.mem ((c.tc : Thread Cert.BandMergeIdeal.nD Cert.BandMergeIdeal.τ).loc Cert.BandMergeIdeal.main_arg2) = m ((c.tc : Thread Cert.BandMergeIdeal.nD Cert.BandMergeIdeal.τ).loc Cert.BandMergeIdeal.main_arg2)
          ∧ r.2.mem ((c.tc : Thread Cert.BandMergeIdeal.nD Cert.BandMergeIdeal.τ).loc Cert.BandMergeIdeal.main_arg3) = m ((c.tc : Thread Cert.BandMergeIdeal.nD Cert.BandMergeIdeal.τ).loc Cert.BandMergeIdeal.main_arg3)
          ∧ r.2.mem ((c.tc : Thread Cert.BandMergeIdeal.nD Cert.BandMergeIdeal.τ).loc Cert.BandMergeIdeal.main_arg4) = m ((c.tc : Thread Cert.BandMergeIdeal.nD Cert.BandMergeIdeal.τ).loc Cert.BandMergeIdeal.main_arg4)
          ∧ r.2.mem ((c.tc : Thread Cert.BandMergeIdeal.nD Cert.BandMergeIdeal.τ).loc Cert.BandMergeIdeal.main_arg5) = m ((c.tc : Thread Cert.BandMergeIdeal.nD Cert.BandMergeIdeal.τ).loc Cert.BandMergeIdeal.main_arg5))
      ∧ θ_run (Cert.BandMergeRefIdeal.defs (F := Ideal)) (onTc (τ := Cert.BandMergeRefIdeal.τ) (Cert.BandMergeRefIdeal.main (F := Ideal))) ⟨m', fun _ => 0, g'⟩ (fun r => ∀ c : Dev Cert.BandMergeRefIdeal.nD,
          r.2.mem ((c.tc : Thread Cert.BandMergeRefIdeal.nD Cert.BandMergeRefIdeal.τ).loc Cert.BandMergeRefIdeal.main_v25) = v0 c
          ∧ r.2.mem ((c.tc : Thread Cert.BandMergeRefIdeal.nD Cert.BandMergeRefIdeal.τ).loc Cert.BandMergeRefIdeal.main_arg0) = m' ((c.tc : Thread Cert.BandMergeRefIdeal.nD Cert.BandMergeRefIdeal.τ).loc Cert.BandMergeRefIdeal.main_arg0)
          ∧ r.2.mem ((c.tc : Thread Cert.BandMergeRefIdeal.nD Cert.BandMergeRefIdeal.τ).loc Cert.BandMergeRefIdeal.main_arg1) = m' ((c.tc : Thread Cert.BandMergeRefIdeal.nD Cert.BandMergeRefIdeal.τ).loc Cert.BandMergeRefIdeal.main_arg1)
          ∧ r.2.mem ((c.tc : Thread Cert.BandMergeRefIdeal.nD Cert.BandMergeRefIdeal.τ).loc Cert.BandMergeRefIdeal.main_arg2) = m' ((c.tc : Thread Cert.BandMergeRefIdeal.nD Cert.BandMergeRefIdeal.τ).loc Cert.BandMergeRefIdeal.main_arg2)
          ∧ r.2.mem ((c.tc : Thread Cert.BandMergeRefIdeal.nD Cert.BandMergeRefIdeal.τ).loc Cert.BandMergeRefIdeal.main_arg3) = m' ((c.tc : Thread Cert.BandMergeRefIdeal.nD Cert.BandMergeRefIdeal.τ).loc Cert.BandMergeRefIdeal.main_arg3)
          ∧ r.2.mem ((c.tc : Thread Cert.BandMergeRefIdeal.nD Cert.BandMergeRefIdeal.τ).loc Cert.BandMergeRefIdeal.main_arg4) = m' ((c.tc : Thread Cert.BandMergeRefIdeal.nD Cert.BandMergeRefIdeal.τ).loc Cert.BandMergeRefIdeal.main_arg4)
          ∧ r.2.mem ((c.tc : Thread Cert.BandMergeRefIdeal.nD Cert.BandMergeRefIdeal.τ).loc Cert.BandMergeRefIdeal.main_arg5) = m' ((c.tc : Thread Cert.BandMergeRefIdeal.nD Cert.BandMergeRefIdeal.τ).loc Cert.BandMergeRefIdeal.main_arg5))

def preserves_RopeNorm_RopeNormIdeal : Prop :=
  True

def algebraic_RopeNormIdeal_RopeNormRefIdeal [hRopeNormIdeal : Cert.RopeNormIdeal.Facts] [hRopeNormRefIdeal : Cert.RopeNormRefIdeal.Facts] : Prop :=
  ∀ (m : (ℓ : Loc Cert.RopeNormIdeal.nD Cert.RopeNormIdeal.τ Cert.RopeNormIdeal.sig) → Buf (Elt Ideal) ℓ) (g : Dev Cert.RopeNormIdeal.nD → PrngReg)
    (m' : (ℓ : Loc Cert.RopeNormRefIdeal.nD Cert.RopeNormRefIdeal.τ Cert.RopeNormRefIdeal.sig) → Buf (Elt Ideal) ℓ) (g' : Dev Cert.RopeNormRefIdeal.nD → PrngReg), Pre_RopeNormIdeal m →
    (∀ c : Dev Cert.RopeNormIdeal.nD,
      m' ((c.tc : Thread Cert.RopeNormRefIdeal.nD Cert.RopeNormRefIdeal.τ).loc Cert.RopeNormRefIdeal.main_arg0) = m ((c.tc : Thread Cert.RopeNormIdeal.nD Cert.RopeNormIdeal.τ).loc Cert.RopeNormIdeal.main_arg0)
      ∧ m' ((c.tc : Thread Cert.RopeNormRefIdeal.nD Cert.RopeNormRefIdeal.τ).loc Cert.RopeNormRefIdeal.main_arg1) = m ((c.tc : Thread Cert.RopeNormIdeal.nD Cert.RopeNormIdeal.τ).loc Cert.RopeNormIdeal.main_arg1)
      ∧ m' ((c.tc : Thread Cert.RopeNormRefIdeal.nD Cert.RopeNormRefIdeal.τ).loc Cert.RopeNormRefIdeal.main_arg2) = m ((c.tc : Thread Cert.RopeNormIdeal.nD Cert.RopeNormIdeal.τ).loc Cert.RopeNormIdeal.main_arg2)
      ∧ m' ((c.tc : Thread Cert.RopeNormRefIdeal.nD Cert.RopeNormRefIdeal.τ).loc Cert.RopeNormRefIdeal.main_arg3) = m ((c.tc : Thread Cert.RopeNormIdeal.nD Cert.RopeNormIdeal.τ).loc Cert.RopeNormIdeal.main_arg3)
      ∧ m' ((c.tc : Thread Cert.RopeNormRefIdeal.nD Cert.RopeNormRefIdeal.τ).loc Cert.RopeNormRefIdeal.main_arg4) = m ((c.tc : Thread Cert.RopeNormIdeal.nD Cert.RopeNormIdeal.τ).loc Cert.RopeNormIdeal.main_arg4)) →
    ∃ (v0 : (c : Dev Cert.RopeNormIdeal.nD) → Buf (Elt Ideal) ((c.tc : Thread Cert.RopeNormIdeal.nD Cert.RopeNormIdeal.τ).loc Cert.RopeNormIdeal.main_v6)),
      θ_run (Cert.RopeNormIdeal.defs (F := Ideal)) (onTc (τ := Cert.RopeNormIdeal.τ) (Cert.RopeNormIdeal.main (F := Ideal))) ⟨m, fun _ => 0, g⟩ (fun r => ∀ c : Dev Cert.RopeNormIdeal.nD,
          r.2.mem ((c.tc : Thread Cert.RopeNormIdeal.nD Cert.RopeNormIdeal.τ).loc Cert.RopeNormIdeal.main_v6) = v0 c
          ∧ r.2.mem ((c.tc : Thread Cert.RopeNormIdeal.nD Cert.RopeNormIdeal.τ).loc Cert.RopeNormIdeal.main_arg0) = m ((c.tc : Thread Cert.RopeNormIdeal.nD Cert.RopeNormIdeal.τ).loc Cert.RopeNormIdeal.main_arg0)
          ∧ r.2.mem ((c.tc : Thread Cert.RopeNormIdeal.nD Cert.RopeNormIdeal.τ).loc Cert.RopeNormIdeal.main_arg1) = m ((c.tc : Thread Cert.RopeNormIdeal.nD Cert.RopeNormIdeal.τ).loc Cert.RopeNormIdeal.main_arg1)
          ∧ r.2.mem ((c.tc : Thread Cert.RopeNormIdeal.nD Cert.RopeNormIdeal.τ).loc Cert.RopeNormIdeal.main_arg2) = m ((c.tc : Thread Cert.RopeNormIdeal.nD Cert.RopeNormIdeal.τ).loc Cert.RopeNormIdeal.main_arg2)
          ∧ r.2.mem ((c.tc : Thread Cert.RopeNormIdeal.nD Cert.RopeNormIdeal.τ).loc Cert.RopeNormIdeal.main_arg3) = m ((c.tc : Thread Cert.RopeNormIdeal.nD Cert.RopeNormIdeal.τ).loc Cert.RopeNormIdeal.main_arg3)
          ∧ r.2.mem ((c.tc : Thread Cert.RopeNormIdeal.nD Cert.RopeNormIdeal.τ).loc Cert.RopeNormIdeal.main_arg4) = m ((c.tc : Thread Cert.RopeNormIdeal.nD Cert.RopeNormIdeal.τ).loc Cert.RopeNormIdeal.main_arg4))
      ∧ θ_run (Cert.RopeNormRefIdeal.defs (F := Ideal)) (onTc (τ := Cert.RopeNormRefIdeal.τ) (Cert.RopeNormRefIdeal.main (F := Ideal))) ⟨m', fun _ => 0, g'⟩ (fun r => ∀ c : Dev Cert.RopeNormRefIdeal.nD,
          r.2.mem ((c.tc : Thread Cert.RopeNormRefIdeal.nD Cert.RopeNormRefIdeal.τ).loc Cert.RopeNormRefIdeal.main_v79) = v0 c
          ∧ r.2.mem ((c.tc : Thread Cert.RopeNormRefIdeal.nD Cert.RopeNormRefIdeal.τ).loc Cert.RopeNormRefIdeal.main_arg0) = m' ((c.tc : Thread Cert.RopeNormRefIdeal.nD Cert.RopeNormRefIdeal.τ).loc Cert.RopeNormRefIdeal.main_arg0)
          ∧ r.2.mem ((c.tc : Thread Cert.RopeNormRefIdeal.nD Cert.RopeNormRefIdeal.τ).loc Cert.RopeNormRefIdeal.main_arg1) = m' ((c.tc : Thread Cert.RopeNormRefIdeal.nD Cert.RopeNormRefIdeal.τ).loc Cert.RopeNormRefIdeal.main_arg1)
          ∧ r.2.mem ((c.tc : Thread Cert.RopeNormRefIdeal.nD Cert.RopeNormRefIdeal.τ).loc Cert.RopeNormRefIdeal.main_arg2) = m' ((c.tc : Thread Cert.RopeNormRefIdeal.nD Cert.RopeNormRefIdeal.τ).loc Cert.RopeNormRefIdeal.main_arg2)
          ∧ r.2.mem ((c.tc : Thread Cert.RopeNormRefIdeal.nD Cert.RopeNormRefIdeal.τ).loc Cert.RopeNormRefIdeal.main_arg3) = m' ((c.tc : Thread Cert.RopeNormRefIdeal.nD Cert.RopeNormRefIdeal.τ).loc Cert.RopeNormRefIdeal.main_arg3)
          ∧ r.2.mem ((c.tc : Thread Cert.RopeNormRefIdeal.nD Cert.RopeNormRefIdeal.τ).loc Cert.RopeNormRefIdeal.main_arg4) = m' ((c.tc : Thread Cert.RopeNormRefIdeal.nD Cert.RopeNormRefIdeal.τ).loc Cert.RopeNormRefIdeal.main_arg4))

def preserves_RopeTables_RopeTablesIdeal : Prop :=
  True

def algebraic_RopeTablesIdeal_RopeTablesRefIdeal [hRopeTablesIdeal : Cert.RopeTablesIdeal.Facts] [hRopeTablesRefIdeal : Cert.RopeTablesRefIdeal.Facts] : Prop :=
  ∀ (m : (ℓ : Loc Cert.RopeTablesIdeal.nD Cert.RopeTablesIdeal.τ Cert.RopeTablesIdeal.sig) → Buf (Elt Ideal) ℓ) (g : Dev Cert.RopeTablesIdeal.nD → PrngReg)
    (m' : (ℓ : Loc Cert.RopeTablesRefIdeal.nD Cert.RopeTablesRefIdeal.τ Cert.RopeTablesRefIdeal.sig) → Buf (Elt Ideal) ℓ) (g' : Dev Cert.RopeTablesRefIdeal.nD → PrngReg), Pre_RopeTablesIdeal m →
    (∀ c : Dev Cert.RopeTablesIdeal.nD,
      m' ((c.tc : Thread Cert.RopeTablesRefIdeal.nD Cert.RopeTablesRefIdeal.τ).loc Cert.RopeTablesRefIdeal.main_arg0) = m ((c.tc : Thread Cert.RopeTablesIdeal.nD Cert.RopeTablesIdeal.τ).loc Cert.RopeTablesIdeal.main_arg0)) →
    ∃ (v0 : (c : Dev Cert.RopeTablesIdeal.nD) → Buf (Elt Ideal) ((c.tc : Thread Cert.RopeTablesIdeal.nD Cert.RopeTablesIdeal.τ).loc Cert.RopeTablesIdeal.main_v10_0)) (v1 : (c : Dev Cert.RopeTablesIdeal.nD) → Buf (Elt Ideal) ((c.tc : Thread Cert.RopeTablesIdeal.nD Cert.RopeTablesIdeal.τ).loc Cert.RopeTablesIdeal.main_v10_1)),
      θ_run (Cert.RopeTablesIdeal.defs (F := Ideal)) (onTc (τ := Cert.RopeTablesIdeal.τ) (Cert.RopeTablesIdeal.main (F := Ideal))) ⟨m, fun _ => 0, g⟩ (fun r => ∀ c : Dev Cert.RopeTablesIdeal.nD,
          r.2.mem ((c.tc : Thread Cert.RopeTablesIdeal.nD Cert.RopeTablesIdeal.τ).loc Cert.RopeTablesIdeal.main_v10_0) = v0 c
          ∧ r.2.mem ((c.tc : Thread Cert.RopeTablesIdeal.nD Cert.RopeTablesIdeal.τ).loc Cert.RopeTablesIdeal.main_v10_1) = v1 c
          ∧ r.2.mem ((c.tc : Thread Cert.RopeTablesIdeal.nD Cert.RopeTablesIdeal.τ).loc Cert.RopeTablesIdeal.main_arg0) = m ((c.tc : Thread Cert.RopeTablesIdeal.nD Cert.RopeTablesIdeal.τ).loc Cert.RopeTablesIdeal.main_arg0))
      ∧ θ_run (Cert.RopeTablesRefIdeal.defs (F := Ideal)) (onTc (τ := Cert.RopeTablesRefIdeal.τ) (Cert.RopeTablesRefIdeal.main (F := Ideal))) ⟨m', fun _ => 0, g'⟩ (fun r => ∀ c : Dev Cert.RopeTablesRefIdeal.nD,
          r.2.mem ((c.tc : Thread Cert.RopeTablesRefIdeal.nD Cert.RopeTablesRefIdeal.τ).loc Cert.RopeTablesRefIdeal.main_v15) = v0 c
          ∧ r.2.mem ((c.tc : Thread Cert.RopeTablesRefIdeal.nD Cert.RopeTablesRefIdeal.τ).loc Cert.RopeTablesRefIdeal.main_v17) = v1 c
          ∧ r.2.mem ((c.tc : Thread Cert.RopeTablesRefIdeal.nD Cert.RopeTablesRefIdeal.τ).loc Cert.RopeTablesRefIdeal.main_arg0) = m' ((c.tc : Thread Cert.RopeTablesRefIdeal.nD Cert.RopeTablesRefIdeal.τ).loc Cert.RopeTablesRefIdeal.main_arg0))

def preserves_Adaln_AdalnIdeal : Prop :=
  True

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)) →
    ∃ (v0 : (c : Dev Cert.AdalnIdeal.nD) → Buf (Elt Ideal) ((c.tc : Thread Cert.AdalnIdeal.nD Cert.AdalnIdeal.τ).loc Cert.AdalnIdeal.main_v9)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v9) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v1) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1))

def Claim : Prop :=
  ∃ (hFox : Cert.Fox.Facts) (hFoxIdeal : Cert.FoxIdeal.Facts) (hFoxRefIdeal : Cert.FoxRefIdeal.Facts) (hInProj : Cert.InProj.Facts) (hInProjIdeal : Cert.InProjIdeal.Facts) (hInProjRefIdeal : Cert.InProjRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hOutProj : Cert.OutProj.Facts) (hOutProjIdeal : Cert.OutProjIdeal.Facts) (hOutProjRefIdeal : Cert.OutProjRefIdeal.Facts) (hMerge : Cert.Merge.Facts) (hMergeIdeal : Cert.MergeIdeal.Facts) (hMergeRefIdeal : Cert.MergeRefIdeal.Facts) (hMoeUp : Cert.MoeUp.Facts) (hMoeUpIdeal : Cert.MoeUpIdeal.Facts) (hMoeUpRefIdeal : Cert.MoeUpRefIdeal.Facts) (hMoeDown : Cert.MoeDown.Facts) (hMoeDownIdeal : Cert.MoeDownIdeal.Facts) (hMoeDownRefIdeal : Cert.MoeDownRefIdeal.Facts) (hCombine : Cert.Combine.Facts) (hCombineIdeal : Cert.CombineIdeal.Facts) (hCombineRefIdeal : Cert.CombineRefIdeal.Facts) (hGather : Cert.Gather.Facts) (hGatherIdeal : Cert.GatherIdeal.Facts) (hGatherRefIdeal : Cert.GatherRefIdeal.Facts) (hGatherRef : Cert.GatherRef.Facts) (hInSmall : Cert.InSmall.Facts) (hInSmallIdeal : Cert.InSmallIdeal.Facts) (hInSmallRefIdeal : Cert.InSmallRefIdeal.Facts) (hGlu : Cert.Glu.Facts) (hGluIdeal : Cert.GluIdeal.Facts) (hGluRefIdeal : Cert.GluRefIdeal.Facts) (hMixNorm : Cert.MixNorm.Facts) (hMixNormIdeal : Cert.MixNormIdeal.Facts) (hMixNormRefIdeal : Cert.MixNormRefIdeal.Facts) (hFfnNorm : Cert.FfnNorm.Facts) (hFfnNormIdeal : Cert.FfnNormIdeal.Facts) (hFfnNormRefIdeal : Cert.FfnNormRefIdeal.Facts) (hQkNorm : Cert.QkNorm.Facts) (hQkNormIdeal : Cert.QkNormIdeal.Facts) (hQkNormRefIdeal : Cert.QkNormRefIdeal.Facts) (hBandMerge : Cert.BandMerge.Facts) (hBandMergeIdeal : Cert.BandMergeIdeal.Facts) (hBandMergeRefIdeal : Cert.BandMergeRefIdeal.Facts) (hRopeNorm : Cert.RopeNorm.Facts) (hRopeNormIdeal : Cert.RopeNormIdeal.Facts) (hRopeNormRefIdeal : Cert.RopeNormRefIdeal.Facts) (hRopeTables : Cert.RopeTables.Facts) (hRopeTablesIdeal : Cert.RopeTablesIdeal.Facts) (hRopeTablesRefIdeal : Cert.RopeTablesRefIdeal.Facts) (hAdaln : Cert.Adaln.Facts) (hAdalnIdeal : Cert.AdalnIdeal.Facts) (hAdalnRefIdeal : Cert.AdalnRefIdeal.Facts) (hPre_finite : Cert.Pre_finite.Facts) (hPre_experts_up : Cert.Pre_experts_up.Facts) (hPre_experts_down : Cert.Pre_experts_down.Facts) (hPre_rows_in : Cert.Pre_rows_in.Facts) (hPre_tokens_in : Cert.Pre_tokens_in.Facts) (hPre_sums_finite : Cert.Pre_sums_finite.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_MoeUp (hMoeUp := hMoeUp) (hPre_experts_up := hPre_experts_up)
    ∧ quiescent_MoeUpIdeal (hMoeUpIdeal := hMoeUpIdeal) (hPre_experts_up := hPre_experts_up)
    ∧ quiescent_MoeUpRefIdeal (hMoeUpRefIdeal := hMoeUpRefIdeal)
    ∧ quiescent_MoeUpRefIdeal_pre_experts_up (hMoeUpRefIdeal := hMoeUpRefIdeal) (hPre_experts_up := hPre_experts_up)
    ∧ quiescent_MoeDown (hMoeDown := hMoeDown) (hPre_experts_down := hPre_experts_down)
    ∧ quiescent_MoeDownIdeal (hMoeDownIdeal := hMoeDownIdeal) (hPre_experts_down := hPre_experts_down)
    ∧ quiescent_MoeDownRefIdeal (hMoeDownRefIdeal := hMoeDownRefIdeal)
    ∧ quiescent_MoeDownRefIdeal_pre_experts_down (hMoeDownRefIdeal := hMoeDownRefIdeal) (hPre_experts_down := hPre_experts_down)
    ∧ quiescent_Combine (hCombine := hCombine) (hPre_rows_in := hPre_rows_in)
    ∧ quiescent_CombineIdeal (hCombineIdeal := hCombineIdeal) (hPre_rows_in := hPre_rows_in)
    ∧ quiescent_CombineRefIdeal (hCombineRefIdeal := hCombineRefIdeal)
    ∧ quiescent_CombineRefIdeal_pre_rows_in (hCombineRefIdeal := hCombineRefIdeal) (hPre_rows_in := hPre_rows_in)
    ∧ quiescent_Gather (hGather := hGather) (hPre_tokens_in := hPre_tokens_in)
    ∧ quiescent_GatherIdeal (hGatherIdeal := hGatherIdeal) (hPre_tokens_in := hPre_tokens_in)
    ∧ quiescent_GatherRefIdeal (hGatherRefIdeal := hGatherRefIdeal)
    ∧ quiescent_GatherRefIdeal_pre_tokens_in (hGatherRefIdeal := hGatherRefIdeal) (hPre_tokens_in := hPre_tokens_in)
    ∧ quiescent_GatherRef (hGatherRef := hGatherRef) (hPre_tokens_in := hPre_tokens_in)
    ∧ quiescent_InSmall (hInSmall := hInSmall)
    ∧ quiescent_InSmallIdeal (hInSmallIdeal := hInSmallIdeal)
    ∧ quiescent_InSmallRefIdeal (hInSmallRefIdeal := hInSmallRefIdeal)
    ∧ quiescent_Glu (hGlu := hGlu)
    ∧ quiescent_GluIdeal (hGluIdeal := hGluIdeal)
    ∧ quiescent_GluRefIdeal (hGluRefIdeal := hGluRefIdeal)
    ∧ quiescent_MixNorm (hMixNorm := hMixNorm)
    ∧ quiescent_MixNormIdeal (hMixNormIdeal := hMixNormIdeal)
    ∧ quiescent_MixNormRefIdeal (hMixNormRefIdeal := hMixNormRefIdeal)
    ∧ quiescent_FfnNorm (hFfnNorm := hFfnNorm)
    ∧ quiescent_FfnNormIdeal (hFfnNormIdeal := hFfnNormIdeal)
    ∧ quiescent_FfnNormRefIdeal (hFfnNormRefIdeal := hFfnNormRefIdeal)
    ∧ quiescent_QkNorm (hQkNorm := hQkNorm)
    ∧ quiescent_QkNormIdeal (hQkNormIdeal := hQkNormIdeal)
    ∧ quiescent_QkNormRefIdeal (hQkNormRefIdeal := hQkNormRefIdeal)
    ∧ quiescent_BandMerge (hBandMerge := hBandMerge)
    ∧ quiescent_BandMergeIdeal (hBandMergeIdeal := hBandMergeIdeal)
    ∧ quiescent_BandMergeIdeal_pre_sums_finite (hBandMergeIdeal := hBandMergeIdeal) (hPre_sums_finite := hPre_sums_finite)
    ∧ quiescent_BandMergeRefIdeal (hBandMergeRefIdeal := hBandMergeRefIdeal)
    ∧ quiescent_BandMergeRefIdeal_pre_sums_finite (hBandMergeRefIdeal := hBandMergeRefIdeal) (hPre_sums_finite := hPre_sums_finite)
    ∧ quiescent_RopeNorm (hRopeNorm := hRopeNorm)
    ∧ quiescent_RopeNormIdeal (hRopeNormIdeal := hRopeNormIdeal)
    ∧ quiescent_RopeNormRefIdeal (hRopeNormRefIdeal := hRopeNormRefIdeal)
    ∧ quiescent_RopeTables (hRopeTables := hRopeTables)
    ∧ quiescent_RopeTablesIdeal (hRopeTablesIdeal := hRopeTablesIdeal)
    ∧ quiescent_RopeTablesRefIdeal (hRopeTablesRefIdeal := hRopeTablesRefIdeal)
    ∧ quiescent_Adaln (hAdaln := hAdaln)
    ∧ quiescent_AdalnIdeal (hAdalnIdeal := hAdalnIdeal)
    ∧ quiescent_AdalnRefIdeal (hAdalnRefIdeal := hAdalnRefIdeal)
    ∧ preserves_Fox_FoxIdeal
    ∧ algebraic_FoxIdeal_FoxRefIdeal_pre_finite (hFoxIdeal := hFoxIdeal) (hFoxRefIdeal := hFoxRefIdeal) (hPre_finite := hPre_finite)
    ∧ preserves_InProj_InProjIdeal
    ∧ algebraic_InProjIdeal_InProjRefIdeal (hInProjIdeal := hInProjIdeal) (hInProjRefIdeal := hInProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_OutProj_OutProjIdeal
    ∧ algebraic_OutProjIdeal_OutProjRefIdeal (hOutProjIdeal := hOutProjIdeal) (hOutProjRefIdeal := hOutProjRefIdeal)
    ∧ preserves_Merge_MergeIdeal
    ∧ algebraic_MergeIdeal_MergeRefIdeal (hMergeIdeal := hMergeIdeal) (hMergeRefIdeal := hMergeRefIdeal)
    ∧ preserves_MoeUp_MoeUpIdeal
    ∧ algebraic_MoeUpIdeal_MoeUpRefIdeal (hMoeUpIdeal := hMoeUpIdeal) (hMoeUpRefIdeal := hMoeUpRefIdeal) (hPre_experts_up := hPre_experts_up)
    ∧ preserves_MoeDown_MoeDownIdeal
    ∧ algebraic_MoeDownIdeal_MoeDownRefIdeal (hMoeDownIdeal := hMoeDownIdeal) (hMoeDownRefIdeal := hMoeDownRefIdeal) (hPre_experts_down := hPre_experts_down)
    ∧ preserves_Combine_CombineIdeal
    ∧ algebraic_CombineIdeal_CombineRefIdeal (hCombineIdeal := hCombineIdeal) (hCombineRefIdeal := hCombineRefIdeal) (hPre_rows_in := hPre_rows_in)
    ∧ preserves_Gather_GatherIdeal
    ∧ algebraic_GatherIdeal_GatherRefIdeal (hGatherIdeal := hGatherIdeal) (hGatherRefIdeal := hGatherRefIdeal) (hPre_tokens_in := hPre_tokens_in)
    ∧ bitexact_Gather_GatherRef (hGather := hGather) (hGatherRef := hGatherRef) (hPre_tokens_in := hPre_tokens_in)
    ∧ preserves_InSmall_InSmallIdeal
    ∧ algebraic_InSmallIdeal_InSmallRefIdeal (hInSmallIdeal := hInSmallIdeal) (hInSmallRefIdeal := hInSmallRefIdeal)
    ∧ preserves_Glu_GluIdeal
    ∧ algebraic_GluIdeal_GluRefIdeal (hGluIdeal := hGluIdeal) (hGluRefIdeal := hGluRefIdeal)
    ∧ preserves_MixNorm_MixNormIdeal
    ∧ algebraic_MixNormIdeal_MixNormRefIdeal (hMixNormIdeal := hMixNormIdeal) (hMixNormRefIdeal := hMixNormRefIdeal)
    ∧ preserves_FfnNorm_FfnNormIdeal
    ∧ algebraic_FfnNormIdeal_FfnNormRefIdeal (hFfnNormIdeal := hFfnNormIdeal) (hFfnNormRefIdeal := hFfnNormRefIdeal)
    ∧ preserves_QkNorm_QkNormIdeal
    ∧ algebraic_QkNormIdeal_QkNormRefIdeal (hQkNormIdeal := hQkNormIdeal) (hQkNormRefIdeal := hQkNormRefIdeal)
    ∧ preserves_BandMerge_BandMergeIdeal
    ∧ algebraic_BandMergeIdeal_BandMergeRefIdeal_pre_sums_finite (hBandMergeIdeal := hBandMergeIdeal) (hBandMergeRefIdeal := hBandMergeRefIdeal) (hPre_sums_finite := hPre_sums_finite)
    ∧ preserves_RopeNorm_RopeNormIdeal
    ∧ algebraic_RopeNormIdeal_RopeNormRefIdeal (hRopeNormIdeal := hRopeNormIdeal) (hRopeNormRefIdeal := hRopeNormRefIdeal)
    ∧ preserves_RopeTables_RopeTablesIdeal
    ∧ algebraic_RopeTablesIdeal_RopeTablesRefIdeal (hRopeTablesIdeal := hRopeTablesIdeal) (hRopeTablesRefIdeal := hRopeTablesRefIdeal)
    ∧ preserves_Adaln_AdalnIdeal
    ∧ algebraic_AdalnIdeal_AdalnRefIdeal (hAdalnIdeal := hAdalnIdeal) (hAdalnRefIdeal := hAdalnRefIdeal)
-- ==== Pre_experts_down.lean ====
abbrev S20480x3584 : Shape := ⟨2, ![20480, 3584]⟩
abbrev S40 : Shape := ⟨1, ![40]⟩
abbrev S1 : Shape := ⟨1, ![1]⟩
abbrev S8x3584x4096 : Shape := ⟨3, ![8, 3584, 4096]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : FVec F S20480x3584 .bf16) (main_arg1 : IVec S40 32) (main_arg2 : IVec S1 32) (main_arg3 : FVec F S8x3584x4096 .f32) : IVec S_ 1 :=
  let main_c : IVec S_ 32 := constantI S_ 32 0#32
  let main_v0 : IVec S40 32 := broadcastInDim S40 ![] bcast_S_S40 main_c
  let main_v1 : IVec S40 1 := cmpi .sge main_arg1 main_v0
  let main_c_0 : IVec S_ 32 := constantI S_ 32 8#32
  let main_v2 : IVec S40 32 := broadcastInDim S40 ![] bcast_S_S40 main_c_0
  let main_v3 : IVec S40 1 := cmpi .slt main_arg1 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  main_v5
-- ==== Pre_experts_up.lean ====
abbrev S20480x4096 : Shape := ⟨2, ![20480, 4096]⟩
abbrev S40 : Shape := ⟨1, ![40]⟩
abbrev S1 : Shape := ⟨1, ![1]⟩
abbrev S8x4096x3584 : Shape := ⟨3, ![8, 4096, 3584]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : FVec F S20480x4096 .bf16) (main_arg1 : IVec S40 32) (main_arg2 : IVec S1 32) (main_arg3 : FVec F S8x4096x3584 .f32) (main_arg4 : FVec F S8x4096x3584 .f32) : IVec S_ 1 :=
  let main_c : IVec S_ 32 := constantI S_ 32 0#32
  let main_v0 : IVec S40 32 := broadcastInDim S40 ![] bcast_S_S40 main_c
  let main_v1 : IVec S40 1 := cmpi .sge main_arg1 main_v0
  let main_c_0 : IVec S_ 32 := constantI S_ 32 8#32
  let main_v2 : IVec S40 32 := broadcastInDim S40 ![] bcast_S_S40 main_c_0
  let main_v3 : IVec S40 1 := cmpi .slt main_arg1 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  main_v5
-- ==== Pre_finite.lean ====
abbrev S8192x2048 : Shape := ⟨2, ![8192, 2048]⟩
abbrev S8192x29184 : Shape := ⟨2, ![8192, 29184]⟩
abbrev S2x8x4096 : Shape := ⟨3, ![2, 8, 4096]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2x8x4096 : S_.BroadcastsInDim S2x8x4096 (![] : Fin 0 → Fin S2x8x4096.rank)
  reducesTo_S2x8x4096_S_d0_1_2 : S2x8x4096.ReducesTo [0, 1, 2] S_

variable [Facts]

def fn {F : FTy → Type} [FloatOps F] (main_arg0 : FVec F S8192x2048 .bf16) (main_arg1 : FVec F S8192x29184 .bf16) (main_arg2 : FVec F S2x8x4096 .f32) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S2x8x4096 .f32 := Host.absf main_arg2
  let main_cst_0 : FVec F S_ .f32 := constant S_ .f32 0x7F800000#32
  let main_v6 : FVec F S2x8x4096 .f32 := broadcastInDim S2x8x4096 ![] bcast_S_S2x8x4096 main_cst_0
  let main_v7 : IVec S2x8x4096 1 := cmpf .olt main_v5 main_v6
  let main_c_1 : IVec S_ 1 := constantI S_ 1 1#1
  let main_v8 : IVec S_ 1 := (fun x v => Host.reduce IntOp.andi x v reducesTo_S2x8x4096_S_d0_1_2 h_S_) main_v7 main_c_1
  let main_v9 : IVec S_ 1 := andi main_v4 main_v8
  main_v9
-- ==== Pre_rows_in.lean ====
abbrev S8192 : Shape := ⟨1, ![8192]⟩
abbrev S20480x4096 : Shape := ⟨2, ![20480, 4096]⟩
abbrev S8192x4096 : Shape := ⟨2, ![8192, 4096]⟩
abbrev S8192x128 : Shape := ⟨2, ![8192, 128]⟩
abbrev S2x4096 : Shape := ⟨2, ![2, 4096]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : IVec S8192 32) (main_arg1 : IVec S8192 32) (main_arg2 : FVec F S20480x4096 .f32) (main_arg3 : FVec F S8192x4096 .f32) (main_arg4 : FVec F S8192x128 .f32) (main_arg5 : FVec F S2x4096 .f32) : IVec S_ 1 :=
  let main_c : IVec S_ 32 := constantI S_ 32 0#32
  let main_v0 : IVec S8192 32 := broadcastInDim S8192 ![] bcast_S_S8192 main_c
  let main_v1 : IVec S8192 1 := cmpi .sge main_arg0 main_v0
  let main_c_0 : IVec S_ 32 := constantI S_ 32 20480#32
  let main_v2 : IVec S8192 32 := broadcastInDim S8192 ![] bcast_S_S8192 main_c_0
  let main_v3 : IVec S8192 1 := cmpi .slt main_arg0 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  let main_c_2 : IVec S_ 32 := constantI S_ 32 0#32
  let main_v6 : IVec S8192 32 := broadcastInDim S8192 ![] bcast_S_S8192 main_c_2
  let main_v7 : IVec S8192 1 := cmpi .sge main_arg1 main_v6
  let main_c_3 : IVec S_ 32 := constantI S_ 32 20480#32
  let main_v8 : IVec S8192 32 := broadcastInDim S8192 ![] bcast_S_S8192 main_c_3
  let main_v9 : IVec S8192 1 := cmpi .slt main_arg1 main_v8
  let main_v10 : IVec S8192 1 := andi main_v7 main_v9
  let main_c_4 : IVec S_ 1 := constantI S_ 1 1#1
  let main_v11 : IVec S_ 1 := (fun x v => Host.reduce IntOp.andi x v reducesTo_S8192_S_d0 h_S_) main_v10 main_c_4
  let main_v12 : IVec S_ 1 := andi main_v5 main_v11
  main_v12
-- ==== Pre_sums_finite.lean ====
abbrev S8192x512 : Shape := ⟨2, ![8192, 512]⟩
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x512 .f32) (main_arg1 : FVec F S8192x512 .f32) (main_arg2 : FVec F S8192x512 .f32) (main_arg3 : FVec F S8192x128 .f32) (main_arg4 : FVec F S8192x128 .f32) (main_arg5 : FVec F S8192x128 .f32) : IVec S_ 1 :=
  let main_v0 : FVec F S8192x128 .f32 := Host.absf main_arg3
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg4
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg5
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  main_v13
-- ==== Pre_tokens_in.lean ====
abbrev S20480 : Shape := ⟨1, ![20480]⟩
abbrev S8192x4096 : Shape := ⟨2, ![8192, 4096]⟩
abbrev S_ : Shape := ⟨0, ![]⟩

class Facts : Prop where
  bcast_S_S20480 : S_.BroadcastsInDim S20480 (![] : Fin 0 → Fin S20480.rank)
  reducesTo_S20480_S_d0 : S20480.ReducesTo [0] S_
  h_S_ : 0 < S_.numel

variable [Facts]

def fn {F : FTy → Type} [FloatOps F] (main_arg0 : IVec S20480 32) (main_arg1 : FVec F S8192x4096 .f32) : IVec S_ 1 :=
  let main_c : IVec S_ 32 := constantI S_ 32 0#32
  let main_v0 : IVec S20480 32 := broadcastInDim S20480 ![] bcast_S_S20480 main_c
  let main_v1 : IVec S20480 1 := cmpi .sge main_arg0 main_v0
  let main_c_0 : IVec S_ 32 := constantI S_ 32 8192#32
  let main_v2 : IVec S20480 32 := broadcastInDim S20480 ![] bcast_S_S20480 main_c_0
  let main_v3 : IVec S20480 1 := cmpi .slt main_arg0 main_v2
  let main_v4 : IVec S20480 1 := andi main_v1 main_v3
  let main_c_1 : IVec S_ 1 := constantI S_ 1 1#1
  let main_v5 : IVec S_ 1 := (fun x v => Host.reduce IntOp.andi x v reducesTo_S20480_S_d0 h_S_) main_v4 main_c_1
  main_v5
-- ==== Fox.lean ====
abbrev S8192x2048 : Shape := ⟨2, ![8192, 2048]⟩
abbrev S8192x29184 : Shape := ⟨2, ![8192, 29184]⟩
abbrev S2x8x4096 : Shape := ⟨3, ![2, 8, 4096]⟩
abbrev S16x1x4096 : Shape := ⟨3, ![16, 1, 4096]⟩
abbrev S16x4096x1 : Shape := ⟨3, ![16, 4096, 1]⟩
abbrev S8192x1024 : Shape := ⟨2, ![8192, 1024]⟩
abbrev S512x128 : Shape := ⟨2, ![512, 128]⟩
abbrev S1x512x1 : Shape := ⟨3, ![1, 512, 1]⟩
abbrev S1x1x512 : Shape := ⟨3, ![1, 1, 512]⟩
abbrev S512x1 : Shape := ⟨2, ![512, 1]⟩
abbrev S512x512 : Shape := ⟨2, ![512, 512]⟩
abbrev S1x512 : Shape := ⟨2, ![1, 512]⟩
abbrev S512 : Shape := ⟨1, ![512]⟩

abbrev nBuf : Space → Nat
  | .hbm => 6
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S8192x29184, .bf16⟩
  | .hbm, ⟨2, _⟩ => ⟨S2x8x4096, .f32⟩
  | .hbm, ⟨3, _⟩ => ⟨S16x1x4096, .f32⟩
  | .hbm, ⟨4, _⟩ => ⟨S16x4096x1, .f32⟩
  | .hbm, ⟨5, _⟩ => ⟨S8192x1024, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x512x1, .f32⟩
  | .local _ .vmem, ⟨7, _⟩ => ⟨S1x512x1, .f32⟩
  | .local _ .vmem, ⟨8, _⟩ => ⟨S1x1x512, .f32⟩
  | .local _ .vmem, ⟨9, _⟩ => ⟨S1x1x512, .f32⟩
  | .local _ .vmem, ⟨10, _⟩ => ⟨S512x128, .bf16⟩
  | .local _ .vmem, ⟨11, _⟩ => ⟨S512x128, .bf16⟩
  | .local _ .vmem, ⟨12, _⟩ => ⟨S512x1, .f32⟩
  | .local _ .vmem, ⟨13, _⟩ => ⟨S512x1, .f32⟩
  | .local _ .vmem, ⟨14, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 8], ![false, false, false]⟩

def k0_cond4 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.muli v16 c8_i32_4
  let v18 : BitVec 32 := Scalar.addi v17 arg1
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.muli v16 c8_i32_4
  let v18 : BitVec 32 := Scalar.minsi arg1 arg2
  let v19 : BitVec 32 := Scalar.addi v17 v18
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi arg0 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c8_i32_11 : BitVec 32 := 8#32
  let v30 : BitVec 32 := Scalar.addi c8_i32_11 v29
  let c0_i32_12 : BitVec 32 := 0#32
  ![v19.toNat, v30.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.muli v16 c8_i32_4
  let v18 : BitVec 32 := Scalar.minsi arg1 arg2
  let v19 : BitVec 32 := Scalar.addi v17 v18
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi arg0 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c92_i32 : BitVec 32 := 92#32
  let v30 : BitVec 32 := Scalar.addi c92_i32 v29
  let c0_i32_11 : BitVec 32 := 0#32
  ![v19.toNat, v30.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.muli v16 c8_i32_4
  let v18 : BitVec 32 := Scalar.addi v17 arg1
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FoxRefIdeal.lean ====
abbrev S8192x2048 : Shape := ⟨2, ![8192, 2048]⟩
abbrev S8192x29184 : Shape := ⟨2, ![8192, 29184]⟩
abbrev S2x8x4096 : Shape := ⟨3, ![2, 8, 4096]⟩
abbrev S8192x1024 : Shape := ⟨2, ![8192, 1024]⟩
abbrev S2x4096x8x128 : Shape := ⟨4, ![2, 4096, 8, 128]⟩
abbrev S4096 : Shape := ⟨1, ![4096]⟩
abbrev S2x8x4096x4096 : Shape := ⟨4, ![2, 8, 4096, 4096]⟩
abbrev S2x8x4096x1 : Shape := ⟨4, ![2, 8, 4096, 1]⟩
abbrev S2x8x1x4096 : Shape := ⟨4, ![2, 8, 1, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2x8x128x4096 : Shape := ⟨4, ![2, 8, 128, 4096]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x29184, .bf16⟩
  | .hbm, ⟨2, _⟩ => ⟨S2x8x4096, .f32⟩
  | .hbm, ⟨3, _⟩ => ⟨S8192x1024, .bf16⟩
  | .hbm, ⟨4, _⟩ => ⟨S8192x1024, .f32⟩
  | .hbm, ⟨5, _⟩ => ⟨S2x4096x8x128, .f32⟩
  | .hbm, ⟨6, _⟩ => ⟨S8192x1024, .bf16⟩
  | .hbm, ⟨7, _⟩ => ⟨S8192x1024, .f32⟩
  | .hbm, ⟨8, _⟩ => ⟨S2x4096x8x128, .f32⟩
  | .hbm, ⟨9, _⟩ => ⟨S8192x1024, .bf16⟩
  | .hbm, ⟨10, _⟩ => ⟨S8192x1024, .f32⟩
  | .hbm, ⟨11, _⟩ => ⟨S2x4096x8x128, .f32⟩
  | .hbm, ⟨12, _⟩ => ⟨S4096, .i32⟩
  | .hbm, ⟨13, _⟩ => ⟨S2x8x4096x4096, .f32⟩
  | .hbm, ⟨14, _⟩ => ⟨S2x8x4096x1, .f32⟩
  | .hbm, ⟨15, _⟩ => ⟨S2x8x4096x4096, .f32⟩
  | .hbm, ⟨16, _⟩ => ⟨S2x8x4096x4096, .f32⟩
  | .hbm, ⟨17, _⟩ => ⟨S2x8x1x4096, .f32⟩
  | .hbm, ⟨18, _⟩ => ⟨S2x8x4096x4096, .f32⟩
  | .hbm, ⟨19, _⟩ => ⟨S2x8x4096x4096, .f32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S2x8x4096x4096, .i1⟩
  | .hbm, ⟨28, _⟩ => ⟨S2x8x4096x4096, .f32⟩
  | .hbm, ⟨29, _⟩ => ⟨S2x8x4096x4096, .f32⟩
  | .hbm, ⟨30, _⟩ => ⟨S_, .f32⟩
  | .hbm, ⟨31, _⟩ => ⟨S2x8x4096, .f32⟩
  | .hbm, ⟨32, _⟩ => ⟨S_, .f32⟩
  | .hbm, ⟨33, _⟩ => ⟨S2x8x4096, .f32⟩
  | .hbm, ⟨34, _⟩ => ⟨S2x8x4096, .f32⟩
  | .hbm, ⟨35, _⟩ => ⟨S2x8x4096x1, .f32⟩
  | .hbm, ⟨36, _⟩ => ⟨S2x8x4096x4096, .f32⟩
  | .hbm, ⟨37, _⟩ => ⟨S2x8x4096x4096, .f32⟩
  | .hbm, ⟨38, _⟩ => ⟨S2x8x4096x4096, .f32⟩
  | .hbm, ⟨39, _⟩ => ⟨S_, .f32⟩
  | .hbm, ⟨40, _⟩ => ⟨S2x8x4096, .f32⟩
  | .hbm, ⟨41, _⟩ => ⟨S2x8x4096x1, .f32⟩
  | .hbm, ⟨42, _⟩ => ⟨S2x8x4096x4096, .f32⟩
  | .hbm, ⟨43, _⟩ => ⟨S2x8x4096x4096, .f32⟩
  | .hbm, ⟨44, _⟩ => ⟨S2x8x128x4096, .f32⟩
  | .hbm, ⟨45, _⟩ => ⟨S2x4096x8x128, .f32⟩
  | .hbm, ⟨46, _⟩ => ⟨S8192x1024, .f32⟩
  | .hbm, ⟨47, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== InProj.lean ====
abbrev S2x4096x4096 : Shape := ⟨3, ![2, 4096, 4096]⟩
abbrev S4096x29208 : Shape := ⟨2, ![4096, 29208]⟩
abbrev S4096x4096 : Shape := ⟨2, ![4096, 4096]⟩
abbrev S4096x8704 : Shape := ⟨2, ![4096, 8704]⟩
abbrev S4096x16384 : Shape := ⟨2, ![4096, 16384]⟩
abbrev S4096x29184 : Shape := ⟨2, ![4096, 29184]⟩
abbrev S8192x4096 : Shape := ⟨2, ![8192, 4096]⟩
abbrev S8192x29184 : Shape := ⟨2, ![8192, 29184]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 9
  | .vmem => 6
  | .smem => 0
  | _ => 0

abbrev bufTy : (tb : Table) → Fin (tcTables nBuf tb) → BufTy
  | .hbm, ⟨0, _⟩ => ⟨S2x4096x4096, .bf16⟩
  | .hbm, ⟨1, _⟩ => ⟨S4096x29208, .f32⟩
  | .hbm, ⟨2, _⟩ => ⟨S4096x4096, .f32⟩
  | .hbm, ⟨3, _⟩ => ⟨S4096x8704, .f32⟩
  | .hbm, ⟨4, _⟩ => ⟨S4096x16384, .f32⟩
  | .hbm, ⟨5, _⟩ => ⟨S4096x29184, .f32⟩
  | .hbm, ⟨6, _⟩ => ⟨S4096x29184, .bf16⟩
  | .hbm, ⟨7, _⟩ => ⟨S8192x4096, .bf16⟩
  | .hbm, ⟨8, _⟩ => ⟨S8192x29184, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 57], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S2x4096x4096 : Shape := ⟨3, ![2, 4096, 4096]⟩
abbrev S4096x29208 : Shape := ⟨2, ![4096, 29208]⟩
abbrev S2x4096x29208 : Shape := ⟨3, ![2, 4096, 29208]⟩
abbrev S2x4096x8704 : Shape := ⟨3, ![2, 4096, 8704]⟩
abbrev S2x4096x16384 : Shape := ⟨3, ![2, 4096, 16384]⟩
abbrev S2x4096x29184 : Shape := ⟨3, ![2, 4096, 29184]⟩
abbrev S8192x29184 : Shape := ⟨2, ![8192, 29184]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S4096x29208, .f32⟩
  | .hbm, ⟨2, _⟩ => ⟨S2x4096x4096, .f32⟩
  | .hbm, ⟨3, _⟩ => ⟨S2x4096x29208, .f32⟩
  | .hbm, ⟨4, _⟩ => ⟨S2x4096x4096, .f32⟩
  | .hbm, ⟨5, _⟩ => ⟨S2x4096x8704, .f32⟩
  | .hbm, ⟨6, _⟩ => ⟨S2x4096x16384, .f32⟩
  | .hbm, ⟨7, _⟩ => ⟨S2x4096x29184, .f32⟩
  | .hbm, ⟨8, _⟩ => ⟨S8192x29184, .f32⟩
  | .hbm, ⟨9, _⟩ => ⟨S8192x29184, .bf16⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== FfnUp.lean ====
abbrev S2x4096x4096 : Shape := ⟨3, ![2, 4096, 4096]⟩
abbrev S4096x11008 : Shape := ⟨2, ![4096, 11008]⟩
abbrev S8192x4096 : Shape := ⟨2, ![8192, 4096]⟩
abbrev S8192x11008 : Shape := ⟨2, ![8192, 11008]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 7
  | .vmem => 8
  | .smem => 0
  | _ => 0

abbrev bufTy : (tb : Table) → Fin (tcTables nBuf tb) → BufTy
  | .hbm, ⟨0, _⟩ => ⟨S2x4096x4096, .bf16⟩
  | .hbm, ⟨1, _⟩ => ⟨S4096x11008, .f32⟩
  | .hbm, ⟨2, _⟩ => ⟨S4096x11008, .f32⟩
  | .hbm, ⟨3, _⟩ => ⟨S8192x4096, .bf16⟩
  | .hbm, ⟨4, _⟩ => ⟨S4096x11008, .bf16⟩
  | .hbm, ⟨5, _⟩ => ⟨S4096x11008, .bf16⟩
  | .hbm, ⟨6, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1024x256, .bf16⟩
  | .local _ .vmem, ⟨7, _⟩ => ⟨S1024x256, .bf16⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S2x4096x4096 : Shape := ⟨3, ![2, 4096, 4096]⟩
abbrev S4096x11008 : Shape := ⟨2, ![4096, 11008]⟩
abbrev S2x4096x11008 : Shape := ⟨3, ![2, 4096, 11008]⟩
abbrev S_ : Shape := ⟨0, ![]⟩
abbrev S8192x11008 : Shape := ⟨2, ![8192, 11008]⟩

abbrev nBuf : Space → Nat
  | .hbm => 18
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S4096x11008, .f32⟩
  | .hbm, ⟨2, _⟩ => ⟨S4096x11008, .f32⟩
  | .hbm, ⟨3, _⟩ => ⟨S2x4096x4096, .f32⟩
  | .hbm, ⟨4, _⟩ => ⟨S2x4096x11008, .f32⟩
  | .hbm, ⟨5, _⟩ => ⟨S2x4096x11008, .f32⟩
  | .hbm, ⟨6, _⟩ => ⟨S2x4096x11008, .f32⟩
  | .hbm, ⟨7, _⟩ => ⟨S_, .f32⟩
  | .hbm, ⟨8, _⟩ => ⟨S2x4096x11008, .f32⟩
  | .hbm, ⟨9, _⟩ => ⟨S2x4096x11008, .f32⟩
  | .hbm, ⟨10, _⟩ => ⟨S_, .f32⟩
  | .hbm, ⟨11, _⟩ => ⟨S2x4096x11008, .f32⟩
  | .hbm, ⟨12, _⟩ => ⟨S2x4096x11008, .f32⟩
  | .hbm, ⟨13, _⟩ => ⟨S2x4096x11008, .f32⟩
  | .hbm, ⟨14, _⟩ => ⟨S2x4096x11008, .f32⟩
  | .hbm, ⟨15, _⟩ => ⟨S2x4096x11008, .f32⟩
  | .hbm, ⟨16, _⟩ => ⟨S8192x11008, .f32⟩
  | .hbm, ⟨17, _⟩ => ⟨S8192x11008, .bf16⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== FfnDown.lean ====
abbrev S8192x11008 : Shape := ⟨2, ![8192, 11008]⟩
abbrev S11008x4096 : Shape := ⟨2, ![11008, 4096]⟩
abbrev S2x4096x4096 : Shape := ⟨3, ![2, 4096, 4096]⟩
abbrev S2x4096 : Shape := ⟨2, ![2, 4096]⟩
abbrev S8192x4096 : Shape := ⟨2, ![8192, 4096]⟩
abbrev S2x1x4096 : Shape := ⟨3, ![2, 1, 4096]⟩
abbrev S512x5504 : Shape := ⟨2, ![512, 5504]⟩
abbrev S5504x512 : Shape := ⟨2, ![5504, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 8
  | .vmem => 11
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .f32⟩
  | .hbm, ⟨2, _⟩ => ⟨S2x4096x4096, .f32⟩
  | .hbm, ⟨3, _⟩ => ⟨S2x4096, .f32⟩
  | .hbm, ⟨4, _⟩ => ⟨S11008x4096, .bf16⟩
  | .hbm, ⟨5, _⟩ => ⟨S8192x4096, .f32⟩
  | .hbm, ⟨6, _⟩ => ⟨S2x1x4096, .f32⟩
  | .hbm, ⟨7, _⟩ => ⟨S8192x4096, .f32⟩
  | .local _ .vmem, ⟨0, _⟩ => ⟨S512x5504, .bf16⟩
  | .local _ .vmem, ⟨1, _⟩ => ⟨S512x5504, .bf16⟩
  | .local _ .vmem, ⟨2, _⟩ => ⟨S5504x512, .bf16⟩
  | .local _ .vmem, ⟨3, _⟩ => ⟨S5504x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnDownRefIdeal.lean ====
abbrev S8192x11008 : Shape := ⟨2, ![8192, 11008]⟩
abbrev S11008x4096 : Shape := ⟨2, ![11008, 4096]⟩
abbrev S2x4096x4096 : Shape := ⟨3, ![2, 4096, 4096]⟩
abbrev S2x4096 : Shape := ⟨2, ![2, 4096]⟩
abbrev S2x4096x11008 : Shape := ⟨3, ![2, 4096, 11008]⟩
abbrev S2x1x4096 : Shape := ⟨3, ![2, 1, 4096]⟩
abbrev S8192x4096 : Shape := ⟨2, ![8192, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .f32⟩
  | .hbm, ⟨2, _⟩ => ⟨S2x4096x4096, .f32⟩
  | .hbm, ⟨3, _⟩ => ⟨S2x4096, .f32⟩
  | .hbm, ⟨4, _⟩ => ⟨S8192x11008, .f32⟩
  | .hbm, ⟨5, _⟩ => ⟨S2x4096x11008, .f32⟩
  | .hbm, ⟨6, _⟩ => ⟨S2x4096x4096, .f32⟩
  | .hbm, ⟨7, _⟩ => ⟨S2x1x4096, .f32⟩
  | .hbm, ⟨8, _⟩ => ⟨S2x4096x4096, .f32⟩
  | .hbm, ⟨9, _⟩ => ⟨S2x4096x4096, .f32⟩
  | .hbm, ⟨10, _⟩ => ⟨S2x4096x4096, .f32⟩
  | .hbm, ⟨11, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== OutProj.lean ====
abbrev S8192x4096 : Shape := ⟨2, ![8192, 4096]⟩
abbrev S4096x4096 : Shape := ⟨2, ![4096, 4096]⟩
abbrev S2x4096x4096 : Shape := ⟨3, ![2, 4096, 4096]⟩
abbrev S2x4096 : Shape := ⟨2, ![2, 4096]⟩
abbrev S2x1x4096 : Shape := ⟨3, ![2, 1, 4096]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 8
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S2x4096x4096, .f32⟩
  | .hbm, ⟨3, _⟩ => ⟨S2x4096, .f32⟩
  | .hbm, ⟨4, _⟩ => ⟨S4096x4096, .bf16⟩
  | .hbm, ⟨5, _⟩ => ⟨S8192x4096, .f32⟩
  | .hbm, ⟨6, _⟩ => ⟨S2x1x4096, .f32⟩
  | .hbm, ⟨7, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutProjRefIdeal.lean ====
abbrev S8192x4096 : Shape := ⟨2, ![8192, 4096]⟩
abbrev S4096x4096 : Shape := ⟨2, ![4096, 4096]⟩
abbrev S2x4096x4096 : Shape := ⟨3, ![2, 4096, 4096]⟩
abbrev S2x4096 : Shape := ⟨2, ![2, 4096]⟩
abbrev S2x1x4096 : Shape := ⟨3, ![2, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S2x4096x4096, .f32⟩
  | .hbm, ⟨3, _⟩ => ⟨S2x4096, .f32⟩
  | .hbm, ⟨4, _⟩ => ⟨S8192x4096, .f32⟩
  | .hbm, ⟨5, _⟩ => ⟨S2x4096x4096, .f32⟩
  | .hbm, ⟨6, _⟩ => ⟨S2x4096x4096, .f32⟩
  | .hbm, ⟨7, _⟩ => ⟨S2x1x4096, .f32⟩
  | .hbm, ⟨8, _⟩ => ⟨S2x4096x4096, .f32⟩
  | .hbm, ⟨9, _⟩ => ⟨S2x4096x4096, .f32⟩
  | .hbm, ⟨10, _⟩ => ⟨S2x4096x4096, .f32⟩
  | .hbm, ⟨11, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Merge.lean ====
abbrev S8192x1024 : Shape := ⟨2, ![8192, 1024]⟩
abbrev S8192x512 : Shape := ⟨2, ![8192, 512]⟩
abbrev S1024x4096 : Shape := ⟨2, ![1024, 4096]⟩
abbrev S512x4096 : Shape := ⟨2, ![512, 4096]⟩
abbrev S8192x29184 : Shape := ⟨2, ![8192, 29184]⟩
abbrev S8192x4096 : Shape := ⟨2, ![8192, 4096]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 14
  | .vmem => 26
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x1024, .bf16⟩
  | .hbm, ⟨4, _⟩ => ⟨S1024x4096, .f32⟩
  | .hbm, ⟨5, _⟩ => ⟨S1024x4096, .f32⟩
  | .hbm, ⟨6, _⟩ => ⟨S512x4096, .f32⟩
  | .hbm, ⟨7, _⟩ => ⟨S1024x4096, .f32⟩
  | .hbm, ⟨8, _⟩ => ⟨S8192x29184, .bf16⟩
  | .hbm, ⟨9, _⟩ => ⟨S1024x4096, .bf16⟩
  | .hbm, ⟨10, _⟩ => ⟨S1024x4096, .bf16⟩
  | .hbm, ⟨11, _⟩ => ⟨S512x4096, .bf16⟩
  | .hbm, ⟨12, _⟩ => ⟨S1024x4096, .bf16⟩
  | .hbm, ⟨13, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S512x512, .bf16⟩
  | .local _ .vmem, ⟨13, _⟩ => ⟨S512x512, .bf16⟩
  | .local _ .vmem, ⟨14, _⟩ => ⟨S1024x512, .bf16⟩
  | .local _ .vmem, ⟨15, _⟩ => ⟨S1024x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.addi c33_i32 arg1
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c41_i32 : BitVec 32 := 41#32
  let v0 : BitVec 32 := Scalar.addi c41_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.addi c49_i32 arg1
  let c0_i32 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S8192x1024 : Shape := ⟨2, ![8192, 1024]⟩
abbrev S8192x512 : Shape := ⟨2, ![8192, 512]⟩
abbrev S1024x4096 : Shape := ⟨2, ![1024, 4096]⟩
abbrev S512x4096 : Shape := ⟨2, ![512, 4096]⟩
abbrev S8192x29184 : Shape := ⟨2, ![8192, 29184]⟩
abbrev S8192x16384 : Shape := ⟨2, ![8192, 16384]⟩
abbrev S_ : Shape := ⟨0, ![]⟩
abbrev S2x4096x4x4096 : Shape := ⟨4, ![2, 4096, 4, 4096]⟩
abbrev S2x4096x1x4096 : Shape := ⟨4, ![2, 4096, 1, 4096]⟩
abbrev S2x4096x4096 : Shape := ⟨3, ![2, 4096, 4096]⟩
abbrev S2x4096x1024 : Shape := ⟨3, ![2, 4096, 1024]⟩
abbrev S2x4096x512 : Shape := ⟨3, ![2, 4096, 512]⟩
abbrev S8192x4096 : Shape := ⟨2, ![8192, 4096]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x1024, .bf16⟩
  | .hbm, ⟨4, _⟩ => ⟨S1024x4096, .f32⟩
  | .hbm, ⟨5, _⟩ => ⟨S1024x4096, .f32⟩
  | .hbm, ⟨6, _⟩ => ⟨S512x4096, .f32⟩
  | .hbm, ⟨7, _⟩ => ⟨S1024x4096, .f32⟩
  | .hbm, ⟨8, _⟩ => ⟨S8192x29184, .bf16⟩
  | .hbm, ⟨9, _⟩ => ⟨S8192x16384, .bf16⟩
  | .hbm, ⟨10, _⟩ => ⟨S8192x16384, .f32⟩
  | .hbm, ⟨11, _⟩ => ⟨S8192x16384, .f32⟩
  | .hbm, ⟨12, _⟩ => ⟨S8192x16384, .f32⟩
  | .hbm, ⟨13, _⟩ => ⟨S_, .f32⟩
  | .hbm, ⟨14, _⟩ => ⟨S8192x16384, .f32⟩
  | .hbm, ⟨15, _⟩ => ⟨S8192x16384, .f32⟩
  | .hbm, ⟨16, _⟩ => ⟨S_, .f32⟩
  | .hbm, ⟨17, _⟩ => ⟨S8192x16384, .f32⟩
  | .hbm, ⟨18, _⟩ => ⟨S8192x16384, .f32⟩
  | .hbm, ⟨19, _⟩ => ⟨S2x4096x4x4096, .f32⟩
  | .hbm, ⟨20, _⟩ => ⟨S2x4096x1x4096, .f32⟩
  | .hbm, ⟨21, _⟩ => ⟨S2x4096x4096, .f32⟩
  | .hbm, ⟨22, _⟩ => ⟨S8192x1024, .f32⟩
  | .hbm, ⟨23, _⟩ => ⟨S2x4096x1024, .f32⟩
  | .hbm, ⟨24, _⟩ => ⟨S2x4096x4096, .f32⟩
  | .hbm, ⟨25, _⟩ => ⟨S2x4096x4096, .f32⟩
  | .hbm, ⟨26, _⟩ => ⟨S2x4096x1x4096, .f32⟩
  | .hbm, ⟨27, _⟩ => ⟨S2x4096x4096, .f32⟩
  | .hbm, ⟨28, _⟩ => ⟨S8192x1024, .f32⟩
  | .hbm, ⟨29, _⟩ => ⟨S2x4096x1024, .f32⟩
  | .hbm, ⟨30, _⟩ => ⟨S2x4096x4096, .f32⟩
  | .hbm, ⟨31, _⟩ => ⟨S2x4096x4096, .f32⟩
  | .hbm, ⟨32, _⟩ => ⟨S2x4096x4096, .f32⟩
  | .hbm, ⟨33, _⟩ => ⟨S2x4096x1x4096, .f32⟩
  | .hbm, ⟨34, _⟩ => ⟨S2x4096x4096, .f32⟩
  | .hbm, ⟨35, _⟩ => ⟨S8192x512, .f32⟩
  | .hbm, ⟨36, _⟩ => ⟨S2x4096x512, .f32⟩
  | .hbm, ⟨37, _⟩ => ⟨S2x4096x4096, .f32⟩
  | .hbm, ⟨38, _⟩ => ⟨S2x4096x4096, .f32⟩
  | .hbm, ⟨39, _⟩ => ⟨S2x4096x4096, .f32⟩
  | .hbm, ⟨40, _⟩ => ⟨S2x4096x1x4096, .f32⟩
  | .hbm, ⟨41, _⟩ => ⟨S2x4096x4096, .f32⟩
  | .hbm, ⟨42, _⟩ => ⟨S8192x1024, .f32⟩
  | .hbm, ⟨43, _⟩ => ⟨S2x4096x1024, .f32⟩
  | .hbm, ⟨44, _⟩ => ⟨S2x4096x4096, .f32⟩
  | .hbm, ⟨45, _⟩ => ⟨S2x4096x4096, .f32⟩
  | .hbm, ⟨46, _⟩ => ⟨S2x4096x4096, .f32⟩
  | .hbm, ⟨47, _⟩ => ⟨S8192x4096, .f32⟩
  | .hbm, ⟨48, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== MoeUp.lean ====
abbrev S20480x4096 : Shape := ⟨2, ![20480, 4096]⟩
abbrev S40 : Shape := ⟨1, ![40]⟩
abbrev S1 : Shape := ⟨1, ![1]⟩
abbrev S8x4096x3584 : Shape := ⟨3, ![8, 4096, 3584]⟩
abbrev S20480x3584 : Shape := ⟨2, ![20480, 3584]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 6
  | .vmem => 8
  | .smem => 2
  | _ => 0

abbrev bufTy : (tb : Table) → Fin (tcTables nBuf tb) → BufTy
  | .hbm, ⟨0, _⟩ => ⟨S20480x4096, .bf16⟩
  | .hbm, ⟨1, _⟩ => ⟨S8x4096x3584, .f32⟩
  | .hbm, ⟨2, _⟩ => ⟨S8x4096x3584, .f32⟩
  | .hbm, ⟨3, _⟩ => ⟨S8x4096x3584, .bf16⟩
  | .hbm, ⟨4, _⟩ => ⟨S8x4096x3584, .bf16⟩
  | .hbm, ⟨5, _⟩ => ⟨S20480x3584, .bf16⟩
  | .local _ .vmem, ⟨0, _⟩ => ⟨S512x4096, .bf16⟩
  | .local _ .vmem, ⟨1, _⟩ => ⟨S512x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S512x512, .bf16⟩
  | .local _ .vmem, ⟨7, _⟩ => ⟨S512x512, .bf16⟩
  | .local _ .smem, ⟨0, _⟩ => ⟨S40, .i32⟩
  | .local _ .smem, ⟨1, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 40], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeUpRefIdeal.lean ====
abbrev S20480x4096 : Shape := ⟨2, ![20480, 4096]⟩
abbrev S40 : Shape := ⟨1, ![40]⟩
abbrev S1 : Shape := ⟨1, ![1]⟩
abbrev S8x4096x3584 : Shape := ⟨3, ![8, 4096, 3584]⟩
abbrev S20480 : Shape := ⟨1, ![20480]⟩
abbrev S_ : Shape := ⟨0, ![]⟩
abbrev S20480x1 : Shape := ⟨2, ![20480, 1]⟩
abbrev S20480x3584 : Shape := ⟨2, ![20480, 3584]⟩
abbrev S1x4096x3584 : Shape := ⟨3, ![1, 4096, 3584]⟩
abbrev S4096x3584 : Shape := ⟨2, ![4096, 3584]⟩

abbrev nBuf : Space → Nat
  | .hbm => 237
  | .vmem => 0
  | .smem => 0
  | _ => 0

abbrev hbmTy0_0 (i : Nat) : BufTy := match i % 128 with
  | 0 => ⟨S20480x4096, .bf16⟩
  | 1 => ⟨S40, .i32⟩
  | 2 => ⟨S1, .i32⟩
  | 3 => ⟨S8x4096x3584, .f32⟩
  | 4 => ⟨S8x4096x3584, .f32⟩
  | 5 => ⟨S20480x4096, .f32⟩
  | 6 => ⟨S20480, .i32⟩
  | 7 => ⟨S_, .i32⟩
  | 8 => ⟨S_, .i32⟩
  | 9 => ⟨S20480, .i32⟩
  | 10 => ⟨S20480, .i32⟩
  | 11 => ⟨S20480, .i32⟩
  | 12 => ⟨S_, .i32⟩
  | 13 => ⟨S20480, .i32⟩
  | 14 => ⟨S20480, .i1⟩
  | 15 => ⟨S20480, .i32⟩
  | 16 => ⟨S20480, .i32⟩
  | 17 => ⟨S_, .i32⟩
  | 18 => ⟨S20480, .i32⟩
  | 19 => ⟨S20480, .i1⟩
  | 20 => ⟨S20480, .i1⟩
  | 21 => ⟨S_, .i32⟩
  | 22 => ⟨S20480, .i32⟩
  | 23 => ⟨S20480, .i32⟩
  | 24 => ⟨S20480, .i32⟩
  | 25 => ⟨S_, .i32⟩
  | 26 => ⟨S20480, .i32⟩
  | 27 => ⟨S20480, .i1⟩
  | 28 => ⟨S_, .i32⟩
  | 29 => ⟨S20480, .i32⟩
  | 30 => ⟨S20480, .i32⟩
  | 31 => ⟨S20480, .i32⟩
  | 32 => ⟨S20480x1, .i32⟩
  | 33 => ⟨S20480, .i32⟩
  | 34 => ⟨S_, .f32⟩
  | 35 => ⟨S20480x3584, .f32⟩
  | 36 => ⟨S_, .i32⟩
  | 37 => ⟨S20480, .i32⟩
  | 38 => ⟨S20480, .i1⟩
  | 39 => ⟨S20480, .i32⟩
  | 40 => ⟨S20480, .i1⟩
  | 41 => ⟨S20480, .i1⟩
  | 42 => ⟨S20480x1, .i1⟩
  | 43 => ⟨S1x4096x3584, .f32⟩
  | 44 => ⟨S4096x3584, .f32⟩
  | 45 => ⟨S20480x3584, .f32⟩
  | 46 => ⟨S20480x3584, .f32⟩
  | 47 => ⟨S20480x3584, .f32⟩
  | 48 => ⟨S_, .f32⟩
  | 49 => ⟨S20480x3584, .f32⟩
  | 50 => ⟨S20480x3584, .f32⟩
  | 51 => ⟨S_, .f32⟩
  | 52 => ⟨S20480x3584, .f32⟩
  | 53 => ⟨S20480x3584, .f32⟩
  | 54 => ⟨S20480x3584, .f32⟩
  | 55 => ⟨S1x4096x3584, .f32⟩
  | 56 => ⟨S4096x3584, .f32⟩
  | 57 => ⟨S20480x3584, .f32⟩
  | 58 => ⟨S20480x3584, .f32⟩
  | 59 => ⟨S20480x3584, .i1⟩
  | 60 => ⟨S20480x3584, .f32⟩
  | 61 => ⟨S_, .i32⟩
  | 62 => ⟨S20480, .i32⟩
  | 63 => ⟨S20480, .i1⟩
  | 64 => ⟨S20480, .i32⟩
  | 65 => ⟨S20480, .i1⟩
  | 66 => ⟨S20480, .i1⟩
  | 67 => ⟨S20480x1, .i1⟩
  | 68 => ⟨S1x4096x3584, .f32⟩
  | 69 => ⟨S4096x3584, .f32⟩
  | 70 => ⟨S20480x3584, .f32⟩
  | 71 => ⟨S20480x3584, .f32⟩
  | 72 => ⟨S20480x3584, .f32⟩
  | 73 => ⟨S_, .f32⟩
  | 74 => ⟨S20480x3584, .f32⟩
  | 75 => ⟨S20480x3584, .f32⟩
  | 76 => ⟨S_, .f32⟩
  | 77 => ⟨S20480x3584, .f32⟩
  | 78 => ⟨S20480x3584, .f32⟩
  | 79 => ⟨S20480x3584, .f32⟩
  | 80 => ⟨S1x4096x3584, .f32⟩
  | 81 => ⟨S4096x3584, .f32⟩
  | 82 => ⟨S20480x3584, .f32⟩
  | 83 => ⟨S20480x3584, .f32⟩
  | 84 => ⟨S20480x3584, .i1⟩
  | 85 => ⟨S20480x3584, .f32⟩
  | 86 => ⟨S_, .i32⟩
  | 87 => ⟨S20480, .i32⟩
  | 88 => ⟨S20480, .i1⟩
  | 89 => ⟨S20480, .i32⟩
  | 90 => ⟨S20480, .i1⟩
  | 91 => ⟨S20480, .i1⟩
  | 92 => ⟨S20480x1, .i1⟩
  | 93 => ⟨S1x4096x3584, .f32⟩
  | 94 => ⟨S4096x3584, .f32⟩
  | 95 => ⟨S20480x3584, .f32⟩
  | 96 => ⟨S20480x3584, .f32⟩
  | 97 => ⟨S20480x3584, .f32⟩
  | 98 => ⟨S_, .f32⟩
  | 99 => ⟨S20480x3584, .f32⟩
  | 100 => ⟨S20480x3584, .f32⟩
  | 101 => ⟨S_, .f32⟩
  | 102 => ⟨S20480x3584, .f32⟩
  | 103 => ⟨S20480x3584, .f32⟩
  | 104 => ⟨S20480x3584, .f32⟩
  | 105 => ⟨S1x4096x3584, .f32⟩
  | 106 => ⟨S4096x3584, .f32⟩
  | 107 => ⟨S20480x3584, .f32⟩
  | 108 => ⟨S20480x3584, .f32⟩
  | 109 => ⟨S20480x3584, .i1⟩
  | 110 => ⟨S20480x3584, .f32⟩
  | 111 => ⟨S_, .i32⟩
  | 112 => ⟨S20480, .i32⟩
  | 113 => ⟨S20480, .i1⟩
  | 114 => ⟨S20480, .i32⟩
  | 115 => ⟨S20480, .i1⟩
  | 116 => ⟨S20480, .i1⟩
  | 117 => ⟨S20480x1, .i1⟩
  | 118 => ⟨S1x4096x3584, .f32⟩
  | 119 => ⟨S4096x3584, .f32⟩
  | 120 => ⟨S20480x3584, .f32⟩
  | 121 => ⟨S20480x3584, .f32⟩
  | 122 => ⟨S20480x3584, .f32⟩
  | 123 => ⟨S_, .f32⟩
  | 124 => ⟨S20480x3584, .f32⟩
  | 125 => ⟨S20480x3584, .f32⟩
  | 126 => ⟨S_, .f32⟩
  | 127 => ⟨S20480x3584, .f32⟩
  | _ => ⟨S20480x4096, .bf16⟩

abbrev hbmTy0_1 (i : Nat) : BufTy := match i % 128 with
  | 0 => ⟨S20480x3584, .f32⟩
  | 1 => ⟨S20480x3584, .f32⟩
  | 2 => ⟨S1x4096x3584, .f32⟩
  | 3 => ⟨S4096x3584, .f32⟩
  | 4 => ⟨S20480x3584, .f32⟩
  | 5 => ⟨S20480x3584, .f32⟩
  | 6 => ⟨S20480x3584, .i1⟩
  | 7 => ⟨S20480x3584, .f32⟩
  | 8 => ⟨S_, .i32⟩
  | 9 => ⟨S20480, .i32⟩
  | 10 => ⟨S20480, .i1⟩
  | 11 => ⟨S20480, .i32⟩
  | 12 => ⟨S20480, .i1⟩
  | 13 => ⟨S20480, .i1⟩
  | 14 => ⟨S20480x1, .i1⟩
  | 15 => ⟨S1x4096x3584, .f32⟩
  | 16 => ⟨S4096x3584, .f32⟩
  | 17 => ⟨S20480x3584, .f32⟩
  | 18 => ⟨S20480x3584, .f32⟩
  | 19 => ⟨S20480x3584, .f32⟩
  | 20 => ⟨S_, .f32⟩
  | 21 => ⟨S20480x3584, .f32⟩
  | 22 => ⟨S20480x3584, .f32⟩
  | 23 => ⟨S_, .f32⟩
  | 24 => ⟨S20480x3584, .f32⟩
  | 25 => ⟨S20480x3584, .f32⟩
  | 26 => ⟨S20480x3584, .f32⟩
  | 27 => ⟨S1x4096x3584, .f32⟩
  | 28 => ⟨S4096x3584, .f32⟩
  | 29 => ⟨S20480x3584, .f32⟩
  | 30 => ⟨S20480x3584, .f32⟩
  | 31 => ⟨S20480x3584, .i1⟩
  | 32 => ⟨S20480x3584, .f32⟩
  | 33 => ⟨S_, .i32⟩
  | 34 => ⟨S20480, .i32⟩
  | 35 => ⟨S20480, .i1⟩
  | 36 => ⟨S20480, .i32⟩
  | 37 => ⟨S20480, .i1⟩
  | 38 => ⟨S20480, .i1⟩
  | 39 => ⟨S20480x1, .i1⟩
  | 40 => ⟨S1x4096x3584, .f32⟩
  | 41 => ⟨S4096x3584, .f32⟩
  | 42 => ⟨S20480x3584, .f32⟩
  | 43 => ⟨S20480x3584, .f32⟩
  | 44 => ⟨S20480x3584, .f32⟩
  | 45 => ⟨S_, .f32⟩
  | 46 => ⟨S20480x3584, .f32⟩
  | 47 => ⟨S20480x3584, .f32⟩
  | 48 => ⟨S_, .f32⟩
  | 49 => ⟨S20480x3584, .f32⟩
  | 50 => ⟨S20480x3584, .f32⟩
  | 51 => ⟨S20480x3584, .f32⟩
  | 52 => ⟨S1x4096x3584, .f32⟩
  | 53 => ⟨S4096x3584, .f32⟩
  | 54 => ⟨S20480x3584, .f32⟩
  | 55 => ⟨S20480x3584, .f32⟩
  | 56 => ⟨S20480x3584, .i1⟩
  | 57 => ⟨S20480x3584, .f32⟩
  | 58 => ⟨S_, .i32⟩
  | 59 => ⟨S20480, .i32⟩
  | 60 => ⟨S20480, .i1⟩
  | 61 => ⟨S20480, .i32⟩
  | 62 => ⟨S20480, .i1⟩
  | 63 => ⟨S20480, .i1⟩
  | 64 => ⟨S20480x1, .i1⟩
  | 65 => ⟨S1x4096x3584, .f32⟩
  | 66 => ⟨S4096x3584, .f32⟩
  | 67 => ⟨S20480x3584, .f32⟩
  | 68 => ⟨S20480x3584, .f32⟩
  | 69 => ⟨S20480x3584, .f32⟩
  | 70 => ⟨S_, .f32⟩
  | 71 => ⟨S20480x3584, .f32⟩
  | 72 => ⟨S20480x3584, .f32⟩
  | 73 => ⟨S_, .f32⟩
  | 74 => ⟨S20480x3584, .f32⟩
  | 75 => ⟨S20480x3584, .f32⟩
  | 76 => ⟨S20480x3584, .f32⟩
  | 77 => ⟨S1x4096x3584, .f32⟩
  | 78 => ⟨S4096x3584, .f32⟩
  | 79 => ⟨S20480x3584, .f32⟩
  | 80 => ⟨S20480x3584, .f32⟩
  | 81 => ⟨S20480x3584, .i1⟩
  | 82 => ⟨S20480x3584, .f32⟩
  | 83 => ⟨S_, .i32⟩
  | 84 => ⟨S20480, .i32⟩
  | 85 => ⟨S20480, .i1⟩
  | 86 => ⟨S20480, .i32⟩
  | 87 => ⟨S20480, .i1⟩
  | 88 => ⟨S20480, .i1⟩
  | 89 => ⟨S20480x1, .i1⟩
  | 90 => ⟨S1x4096x3584, .f32⟩
  | 91 => ⟨S4096x3584, .f32⟩
  | 92 => ⟨S20480x3584, .f32⟩
  | 93 => ⟨S20480x3584, .f32⟩
  | 94 => ⟨S20480x3584, .f32⟩
  | 95 => ⟨S_, .f32⟩
  | 96 => ⟨S20480x3584, .f32⟩
  | 97 => ⟨S20480x3584, .f32⟩
  | 98 => ⟨S_, .f32⟩
  | 99 => ⟨S20480x3584, .f32⟩
  | 100 => ⟨S20480x3584, .f32⟩
  | 101 => ⟨S20480x3584, .f32⟩
  | 102 => ⟨S1x4096x3584, .f32⟩
  | 103 => ⟨S4096x3584, .f32⟩
  | 104 => ⟨S20480x3584, .f32⟩
  | 105 => ⟨S20480x3584, .f32⟩
  | 106 => ⟨S20480x3584, .i1⟩
  | 107 => ⟨S20480x3584, .f32⟩
  | 108 => ⟨S20480x3584, .bf16⟩
  | _ => ⟨S20480x4096, .bf16⟩

abbrev hbmTy (i : Nat) : BufTy := match i / 128 with
  | 0 => hbmTy0_0 i
  | 1 => hbmTy0_1 i
  | _ => ⟨S20480x4096, .bf16⟩

abbrev bufTy : (tb : Table) → Fin (tcTables nBuf tb) → BufTy
  | .hbm, ⟨i, _⟩ => hbmTy i
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_c_1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_c_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_call2_v0 : Ref sig .tc := ⟨.hbm, 59, rfl⟩
abbrev main_v25 : Ref sig .tc := ⟨.hbm, 60, rfl⟩
abbrev main_c_3 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_call3_v0 : Ref sig .tc := ⟨.hbm, 71, rfl⟩
abbrev main_call3_v1 : Ref sig .tc := ⟨.hbm, 72, rfl⟩
abbrev main_call3_cst : Ref sig .tc := ⟨.hbm, 73, rfl⟩
abbrev main_call3_v2 : Ref sig .tc := ⟨.hbm, 74, rfl⟩
abbrev main_call3_v3 : Ref sig .tc := ⟨.hbm, 75, rfl⟩
abbrev main_call3_cst_0 : Ref sig .tc := ⟨.hbm, 76, rfl⟩
abbrev main_call3_v4 : Ref sig .tc := ⟨.hbm, 77, rfl⟩
abbrev main_call3_v5 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_call4_v0 : Ref sig .tc := ⟨.hbm, 84, rfl⟩
abbrev main_v40 : Ref sig .tc := ⟨.hbm, 85, rfl⟩
abbrev main_c_4 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_call5_v0 : Ref sig .tc := ⟨.hbm, 96, rfl⟩
abbrev main_call5_v1 : Ref sig .tc := ⟨.hbm, 97, rfl⟩
abbrev main_call5_cst : Ref sig .tc := ⟨.hbm, 98, rfl⟩
abbrev main_call5_v2 : Ref sig .tc := ⟨.hbm, 99, rfl⟩
abbrev main_call5_v3 : Ref sig .tc := ⟨.hbm, 100, rfl⟩
abbrev main_call5_cst_0 : Ref sig .tc := ⟨.hbm, 101, rfl⟩
abbrev main_call5_v4 : Ref sig .tc := ⟨.hbm, 102, rfl⟩
abbrev main_call5_v5 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_call6_v0 : Ref sig .tc := ⟨.hbm, 109, rfl⟩
abbrev main_v55 : Ref sig .tc := ⟨.hbm, 110, rfl⟩
abbrev main_c_5 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_call7_v0 : Ref sig .tc := ⟨.hbm, 121, rfl⟩
abbrev main_call7_v1 : Ref sig .tc := ⟨.hbm, 122, rfl⟩
abbrev main_call7_cst : Ref sig .tc := ⟨.hbm, 123, rfl⟩
abbrev main_call7_v2 : Ref sig .tc := ⟨.hbm, 124, rfl⟩
abbrev main_call7_v3 : Ref sig .tc := ⟨.hbm, 125, rfl⟩
abbrev main_call7_cst_0 : Ref sig .tc := ⟨.hbm, 126, rfl⟩
abbrev main_call7_v4 : Ref sig .tc := ⟨.hbm, 127, rfl⟩
abbrev main_call7_v5 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_call8_v0 : Ref sig .tc := ⟨.hbm, 134, rfl⟩
abbrev main_v70 : Ref sig .tc := ⟨.hbm, 135, rfl⟩
abbrev main_c_6 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_call9_v0 : Ref sig .tc := ⟨.hbm, 146, rfl⟩
abbrev main_call9_v1 : Ref sig .tc := ⟨.hbm, 147, rfl⟩
abbrev main_call9_cst : Ref sig .tc := ⟨.hbm, 148, rfl⟩
abbrev main_call9_v2 : Ref sig .tc := ⟨.hbm, 149, rfl⟩
abbrev main_call9_v3 : Ref sig .tc := ⟨.hbm, 150, rfl⟩
abbrev main_call9_cst_0 : Ref sig .tc := ⟨.hbm, 151, rfl⟩
abbrev main_call9_v4 : Ref sig .tc := ⟨.hbm, 152, rfl⟩
abbrev main_call9_v5 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_call10_v0 : Ref sig .tc := ⟨.hbm, 159, rfl⟩
abbrev main_v85 : Ref sig .tc := ⟨.hbm, 160, rfl⟩
abbrev main_c_7 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_call11_v0 : Ref sig .tc := ⟨.hbm, 171, rfl⟩
abbrev main_call11_v1 : Ref sig .tc := ⟨.hbm, 172, rfl⟩
abbrev main_call11_cst : Ref sig .tc := ⟨.hbm, 173, rfl⟩
abbrev main_call11_v2 : Ref sig .tc := ⟨.hbm, 174, rfl⟩
abbrev main_call11_v3 : Ref sig .tc := ⟨.hbm, 175, rfl⟩
abbrev main_call11_cst_0 : Ref sig .tc := ⟨.hbm, 176, rfl⟩
abbrev main_call11_v4 : Ref sig .tc := ⟨.hbm, 177, rfl⟩
abbrev main_call11_v5 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_call12_v0 : Ref sig .tc := ⟨.hbm, 184, rfl⟩
abbrev main_v100 : Ref sig .tc := ⟨.hbm, 185, rfl⟩
abbrev main_c_8 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_call13_v0 : Ref sig .tc := ⟨.hbm, 196, rfl⟩
abbrev main_call13_v1 : Ref sig .tc := ⟨.hbm, 197, rfl⟩
abbrev main_call13_cst : Ref sig .tc := ⟨.hbm, 198, rfl⟩
abbrev main_call13_v2 : Ref sig .tc := ⟨.hbm, 199, rfl⟩
abbrev main_call13_v3 : Ref sig .tc := ⟨.hbm, 200, rfl⟩
abbrev main_call13_cst_0 : Ref sig .tc := ⟨.hbm, 201, rfl⟩
abbrev main_call13_v4 : Ref sig .tc := ⟨.hbm, 202, rfl⟩
abbrev main_call13_v5 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_call14_v0 : Ref sig .tc := ⟨.hbm, 209, rfl⟩
abbrev main_v115 : Ref sig .tc := ⟨.hbm, 210, rfl⟩
abbrev main_c_9 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_call15_v0 : Ref sig .tc := ⟨.hbm, 221, rfl⟩
abbrev main_call15_v1 : Ref sig .tc := ⟨.hbm, 222, rfl⟩
abbrev main_call15_cst : Ref sig .tc := ⟨.hbm, 223, rfl⟩
abbrev main_call15_v2 : Ref sig .tc := ⟨.hbm, 224, rfl⟩
abbrev main_call15_v3 : Ref sig .tc := ⟨.hbm, 225, rfl⟩
abbrev main_call15_cst_0 : Ref sig .tc := ⟨.hbm, 226, rfl⟩
abbrev main_call15_v4 : Ref sig .tc := ⟨.hbm, 227, rfl⟩
abbrev main_call15_v5 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_v128 : Ref sig .tc := ⟨.hbm, 232, rfl⟩
abbrev main_v129 : Ref sig .tc := ⟨.hbm, 233, rfl⟩
abbrev main_call16_v0 : Ref sig .tc := ⟨.hbm, 234, rfl⟩
abbrev main_v130 : Ref sig .tc := ⟨.hbm, 235, rfl⟩
abbrev main_v131 : Ref sig .tc := ⟨.hbm, 236, rfl⟩

abbrev nD : Nat := 1
abbrev τ : Topo := Topo.v7x

variable {F : FTy → Type} [FloatOps F]
-- ==== MoeDown.lean ====
abbrev S20480x3584 : Shape := ⟨2, ![20480, 3584]⟩
abbrev S40 : Shape := ⟨1, ![40]⟩
abbrev S1 : Shape := ⟨1, ![1]⟩
abbrev S8x3584x4096 : Shape := ⟨3, ![8, 3584, 4096]⟩
abbrev S20480x4096 : Shape := ⟨2, ![20480, 4096]⟩
abbrev S512x3584 : Shape := ⟨2, ![512, 3584]⟩
abbrev S1x3584x512 : Shape := ⟨3, ![1, 3584, 512]⟩
abbrev S512x512 : Shape := ⟨2, ![512, 512]⟩
abbrev S3584x512 : Shape := ⟨2, ![3584, 512]⟩

abbrev nBuf : Space → Nat
  | .hbm => 4
  | .vmem => 6
  | .smem => 2
  | _ => 0

abbrev bufTy : (tb : Table) → Fin (tcTables nBuf tb) → BufTy
  | .hbm, ⟨0, _⟩ => ⟨S20480x3584, .bf16⟩
  | .hbm, ⟨1, _⟩ => ⟨S8x3584x4096, .f32⟩
  | .hbm, ⟨2, _⟩ => ⟨S8x3584x4096, .bf16⟩
  | .hbm, ⟨3, _⟩ => ⟨S20480x4096, .f32⟩
  | .local _ .vmem, ⟨0, _⟩ => ⟨S512x3584, .bf16⟩
  | .local _ .vmem, ⟨1, _⟩ => ⟨S512x3584, .bf16⟩
  | .local _ .vmem, ⟨2, _⟩ => ⟨S1x3584x512, .bf16⟩
  | .local _ .vmem, ⟨3, _⟩ => ⟨S1x3584x512, .bf16⟩
  | .local _ .vmem, ⟨4, _⟩ => ⟨S512x512, .f32⟩
  | .local _ .vmem, ⟨5, _⟩ => ⟨S512x512, .f32⟩
  | .local _ .smem, ⟨0, _⟩ => ⟨S40, .i32⟩
  | .local _ .smem, ⟨1, _⟩ => ⟨S1, .i32⟩
  | _, _ => ⟨S20480x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_v0 : Ref sig .tc := ⟨.hbm, 2, rfl⟩
abbrev main_v1 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 40], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x3584x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MoeDownRefIdeal.lean ====
abbrev S20480x3584 : Shape := ⟨2, ![20480, 3584]⟩
abbrev S40 : Shape := ⟨1, ![40]⟩
abbrev S1 : Shape := ⟨1, ![1]⟩
abbrev S8x3584x4096 : Shape := ⟨3, ![8, 3584, 4096]⟩
abbrev S20480 : Shape := ⟨1, ![20480]⟩
abbrev S_ : Shape := ⟨0, ![]⟩
abbrev S20480x1 : Shape := ⟨2, ![20480, 1]⟩
abbrev S20480x4096 : Shape := ⟨2, ![20480, 4096]⟩
abbrev S1x3584x4096 : Shape := ⟨3, ![1, 3584, 4096]⟩
abbrev S3584x4096 : Shape := ⟨2, ![3584, 4096]⟩

abbrev nBuf : Space → Nat
  | .hbm => 131
  | .vmem => 0
  | .smem => 0
  | _ => 0

abbrev hbmTy0_0 (i : Nat) : BufTy := match i % 128 with
  | 0 => ⟨S20480x3584, .bf16⟩
  | 1 => ⟨S40, .i32⟩
  | 2 => ⟨S1, .i32⟩
  | 3 => ⟨S8x3584x4096, .f32⟩
  | 4 => ⟨S20480x3584, .f32⟩
  | 5 => ⟨S20480, .i32⟩
  | 6 => ⟨S_, .i32⟩
  | 7 => ⟨S_, .i32⟩
  | 8 => ⟨S20480, .i32⟩
  | 9 => ⟨S20480, .i32⟩
  | 10 => ⟨S20480, .i32⟩
  | 11 => ⟨S_, .i32⟩
  | 12 => ⟨S20480, .i32⟩
  | 13 => ⟨S20480, .i1⟩
  | 14 => ⟨S20480, .i32⟩
  | 15 => ⟨S20480, .i32⟩
  | 16 => ⟨S_, .i32⟩
  | 17 => ⟨S20480, .i32⟩
  | 18 => ⟨S20480, .i1⟩
  | 19 => ⟨S20480, .i1⟩
  | 20 => ⟨S_, .i32⟩
  | 21 => ⟨S20480, .i32⟩
  | 22 => ⟨S20480, .i32⟩
  | 23 => ⟨S20480, .i32⟩
  | 24 => ⟨S_, .i32⟩
  | 25 => ⟨S20480, .i32⟩
  | 26 => ⟨S20480, .i1⟩
  | 27 => ⟨S_, .i32⟩
  | 28 => ⟨S20480, .i32⟩
  | 29 => ⟨S20480, .i32⟩
  | 30 => ⟨S20480, .i32⟩
  | 31 => ⟨S20480x1, .i32⟩
  | 32 => ⟨S20480, .i32⟩
  | 33 => ⟨S_, .f32⟩
  | 34 => ⟨S20480x4096, .f32⟩
  | 35 => ⟨S_, .i32⟩
  | 36 => ⟨S20480, .i32⟩
  | 37 => ⟨S20480, .i1⟩
  | 38 => ⟨S20480, .i32⟩
  | 39 => ⟨S20480, .i1⟩
  | 40 => ⟨S20480, .i1⟩
  | 41 => ⟨S20480x1, .i1⟩
  | 42 => ⟨S1x3584x4096, .f32⟩
  | 43 => ⟨S3584x4096, .f32⟩
  | 44 => ⟨S20480x4096, .f32⟩
  | 45 => ⟨S20480x4096, .i1⟩
  | 46 => ⟨S20480x4096, .f32⟩
  | 47 => ⟨S_, .i32⟩
  | 48 => ⟨S20480, .i32⟩
  | 49 => ⟨S20480, .i1⟩
  | 50 => ⟨S20480, .i32⟩
  | 51 => ⟨S20480, .i1⟩
  | 52 => ⟨S20480, .i1⟩
  | 53 => ⟨S20480x1, .i1⟩
  | 54 => ⟨S1x3584x4096, .f32⟩
  | 55 => ⟨S3584x4096, .f32⟩
  | 56 => ⟨S20480x4096, .f32⟩
  | 57 => ⟨S20480x4096, .i1⟩
  | 58 => ⟨S20480x4096, .f32⟩
  | 59 => ⟨S_, .i32⟩
  | 60 => ⟨S20480, .i32⟩
  | 61 => ⟨S20480, .i1⟩
  | 62 => ⟨S20480, .i32⟩
  | 63 => ⟨S20480, .i1⟩
  | 64 => ⟨S20480, .i1⟩
  | 65 => ⟨S20480x1, .i1⟩
  | 66 => ⟨S1x3584x4096, .f32⟩
  | 67 => ⟨S3584x4096, .f32⟩
  | 68 => ⟨S20480x4096, .f32⟩
  | 69 => ⟨S20480x4096, .i1⟩
  | 70 => ⟨S20480x4096, .f32⟩
  | 71 => ⟨S_, .i32⟩
  | 72 => ⟨S20480, .i32⟩
  | 73 => ⟨S20480, .i1⟩
  | 74 => ⟨S20480, .i32⟩
  | 75 => ⟨S20480, .i1⟩
  | 76 => ⟨S20480, .i1⟩
  | 77 => ⟨S20480x1, .i1⟩
  | 78 => ⟨S1x3584x4096, .f32⟩
  | 79 => ⟨S3584x4096, .f32⟩
  | 80 => ⟨S20480x4096, .f32⟩
  | 81 => ⟨S20480x4096, .i1⟩
  | 82 => ⟨S20480x4096, .f32⟩
  | 83 => ⟨S_, .i32⟩
  | 84 => ⟨S20480, .i32⟩
  | 85 => ⟨S20480, .i1⟩
  | 86 => ⟨S20480, .i32⟩
  | 87 => ⟨S20480, .i1⟩
  | 88 => ⟨S20480, .i1⟩
  | 89 => ⟨S20480x1, .i1⟩
  | 90 => ⟨S1x3584x4096, .f32⟩
  | 91 => ⟨S3584x4096, .f32⟩
  | 92 => ⟨S20480x4096, .f32⟩
  | 93 => ⟨S20480x4096, .i1⟩
  | 94 => ⟨S20480x4096, .f32⟩
  | 95 => ⟨S_, .i32⟩
  | 96 => ⟨S20480, .i32⟩
  | 97 => ⟨S20480, .i1⟩
  | 98 => ⟨S20480, .i32⟩
  | 99 => ⟨S20480, .i1⟩
  | 100 => ⟨S20480, .i1⟩
  | 101 => ⟨S20480x1, .i1⟩
  | 102 => ⟨S1x3584x4096, .f32⟩
  | 103 => ⟨S3584x4096, .f32⟩
  | 104 => ⟨S20480x4096, .f32⟩
  | 105 => ⟨S20480x4096, .i1⟩
  | 106 => ⟨S20480x4096, .f32⟩
  | 107 => ⟨S_, .i32⟩
  | 108 => ⟨S20480, .i32⟩
  | 109 => ⟨S20480, .i1⟩
  | 110 => ⟨S20480, .i32⟩
  | 111 => ⟨S20480, .i1⟩
  | 112 => ⟨S20480, .i1⟩
  | 113 => ⟨S20480x1, .i1⟩
  | 114 => ⟨S1x3584x4096, .f32⟩
  | 115 => ⟨S3584x4096, .f32⟩
  | 116 => ⟨S20480x4096, .f32⟩
  | 117 => ⟨S20480x4096, .i1⟩
  | 118 => ⟨S20480x4096, .f32⟩
  | 119 => ⟨S_, .i32⟩
  | 120 => ⟨S20480, .i32⟩
  | 121 => ⟨S20480, .i1⟩
  | 122 => ⟨S20480, .i32⟩
  | 123 => ⟨S20480, .i1⟩
  | 124 => ⟨S20480, .i1⟩
  | 125 => ⟨S20480x1, .i1⟩
  | 126 => ⟨S1x3584x4096, .f32⟩
  | 127 => ⟨S3584x4096, .f32⟩
  | _ => ⟨S20480x3584, .bf16⟩

abbrev hbmTy0_1 (i : Nat) : BufTy := match i % 128 with
  | 0 => ⟨S20480x4096, .f32⟩
  | 1 => ⟨S20480x4096, .i1⟩
  | 2 => ⟨S20480x4096, .f32⟩
  | _ => ⟨S20480x3584, .bf16⟩

abbrev hbmTy (i : Nat) : BufTy := match i / 128 with
  | 0 => hbmTy0_0 i
  | 1 => hbmTy0_1 i
  | _ => ⟨S20480x3584, .bf16⟩

abbrev bufTy : (tb : Table) → Fin (tcTables nBuf tb) → BufTy
  | .hbm, ⟨i, _⟩ => hbmTy i
  | _, _ => ⟨S20480x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_c_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_c_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call1_v0 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_call2_v0 : Ref sig .tc := ⟨.hbm, 57, rfl⟩
abbrev main_v30 : Ref sig .tc := ⟨.hbm, 58, rfl⟩
abbrev main_c_4 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_call3_v0 : Ref sig .tc := ⟨.hbm, 69, rfl⟩
abbrev main_v40 : Ref sig .tc := ⟨.hbm, 70, rfl⟩
abbrev main_c_5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call4_v0 : Ref sig .tc := ⟨.hbm, 81, rfl⟩
abbrev main_v50 : Ref sig .tc := ⟨.hbm, 82, rfl⟩
abbrev main_c_6 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_call5_v0 : Ref sig .tc := ⟨.hbm, 93, rfl⟩
abbrev main_v60 : Ref sig .tc := ⟨.hbm, 94, rfl⟩
abbrev main_c_7 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call6_v0 : Ref sig .tc := ⟨.hbm, 105, rfl⟩
abbrev main_v70 : Ref sig .tc := ⟨.hbm, 106, rfl⟩
abbrev main_c_8 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_call7_v0 : Ref sig .tc := ⟨.hbm, 117, rfl⟩
abbrev main_v80 : Ref sig .tc := ⟨.hbm, 118, rfl⟩
abbrev main_c_9 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_call8_v0 : Ref sig .tc := ⟨.hbm, 129, rfl⟩
abbrev main_v90 : Ref sig .tc := ⟨.hbm, 130, rfl⟩

abbrev nD : Nat := 1
abbrev τ : Topo := Topo.v7x

variable {F : FTy → Type} [FloatOps F]
-- ==== Combine.lean ====
abbrev S8192 : Shape := ⟨1, ![8192]⟩
abbrev S20480x4096 : Shape := ⟨2, ![20480, 4096]⟩
abbrev S8192x4096 : Shape := ⟨2, ![8192, 4096]⟩
abbrev S8192x128 : Shape := ⟨2, ![8192, 128]⟩
abbrev S2x4096 : Shape := ⟨2, ![2, 4096]⟩
abbrev S2x1x4096 : Shape := ⟨3, ![2, 1, 4096]⟩
abbrev S256x4096 : Shape := ⟨2, ![256, 4096]⟩
abbrev S256x128 : Shape := ⟨2, ![256, 128]⟩
abbrev S1x1x4096 : Shape := ⟨3, ![1, 1, 4096]⟩
abbrev S2 : Shape := ⟨1, ![2]⟩
abbrev S1 : Shape := ⟨1, ![1]⟩
abbrev S_ : Shape := ⟨0, ![]⟩
abbrev S1x4096 : Shape := ⟨2, ![1, 4096]⟩
abbrev S256x1 : Shape := ⟨2, ![256, 1]⟩

abbrev nBuf : Space → Nat
  | .hbm => 6
  | .vmem => 10
  | .smem => 2
  | _ => 0

abbrev bufTy : (tb : Table) → Fin (tcTables nBuf tb) → BufTy
  | .hbm, ⟨0, _⟩ => ⟨S20480x4096, .f32⟩
  | .hbm, ⟨1, _⟩ => ⟨S8192x4096, .f32⟩
  | .hbm, ⟨2, _⟩ => ⟨S8192x128, .f32⟩
  | .hbm, ⟨3, _⟩ => ⟨S2x4096, .f32⟩
  | .hbm, ⟨4, _⟩ => ⟨S2x1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x128, .f32⟩
  | .local _ .vmem, ⟨3, _⟩ => ⟨S256x128, .f32⟩
  | .local _ .vmem, ⟨4, _⟩ => ⟨S1x1x4096, .f32⟩
  | .local _ .vmem, ⟨5, _⟩ => ⟨S1x1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .smem, ⟨0, _⟩ => ⟨S8192, .i32⟩
  | .local _ .smem, ⟨1, _⟩ => ⟨S8192, .i32⟩
  | _, _ => ⟨S20480x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c256_i32_0 : BitVec 32 := 256#32
  let v1 : BitVec 32 := Scalar.addi c0_i32 c256_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg11 : BitVec 32 := Scf.iv c0_i32 c1_i32 k0_t1
  let v19 : BitVec 32 := Scalar.addi v0 arg11
  let v20 : Index := Scalar.indexCast v19
  ![v20.toNat]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c0_i32_19 : BitVec 32 := 0#32
  ![arg11.toNat, 0]
def k0_off3 (v21 : BitVec 32) : Fin 2 → Nat :=
  let c0_i32_20 : BitVec 32 := 0#32
  ![v21.toNat, 0]

def k0_chk1 (v21 : BitVec 32) : Prop :=
  (∀ a, (k0_off3 v21) a + S1x4096.size a ≤ S20480x4096.size a)
theorem k0_off3_inb : ∀ (v21 : BitVec 32) (k0_hw1 : k0_chk1 v21), ∀ a, (k0_off3 v21) a + S1x4096.size a ≤ S20480x4096.size a := fun v21 k0_hw1 => k0_hw1

def k0_off4 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg11 : BitVec 32 := Scf.iv c0_i32 c1_i32 k0_t1
  let v26 : BitVec 32 := Scalar.addi v0 arg11
  let v27 : Index := Scalar.indexCast v26
  ![v27.toNat]
def k0_off5 (k0_t1 : Fin k0_t1_loop.trips) : Fin 2 → Nat :=
  let c0_i32 : BitVec 32 := 0#32
  let c1_i32 : BitVec 32 := 1#32
  let arg11 : BitVec 32 := Scf.iv c0_i32 c1_i32 k0_t1
  let c0_i32_22 : BitVec 32 := 0#32
  ![arg11.toNat, 0]
def k0_off6 (v28 : BitVec 32) : Fin 2 → Nat :=
  let c0_i32_23 : BitVec 32 := 0#32
  ![v28.toNat, 0]

def k0_chk2 (v28 : BitVec 32) : Prop :=
  (∀ a, (k0_off6 v28) a + S1x4096.size a ≤ S20480x4096.size a)
theorem k0_off6_inb : ∀ (v28 : BitVec 32) (k0_hw2 : k0_chk2 v28), ∀ a, (k0_off6 v28) a + S1x4096.size a ≤ S20480x4096.size a := fun v28 k0_hw2 => k0_hw2

@[reducible] def k0_t2_loop : Scf.Loop 32 :=
  let c0_i32_2 : BitVec 32 := 0#32
  let c256_i32_3 : BitVec 32 := 256#32
  let v2 : BitVec 32 := Scalar.addi c0_i32_2 c256_i32_3
  let c1_i32_4 : BitVec 32 := 1#32
  ⟨c0_i32_2, v2, c1_i32_4⟩
def k0_off7 (k0_t2 : Fin k0_t2_loop.trips) : Fin 2 → Nat :=
  let c0_i32_2 : BitVec 32 := 0#32
  let c1_i32_4 : BitVec 32 := 1#32
  let arg11 : BitVec 32 := Scf.iv c0_i32_2 c1_i32_4 k0_t2
  let c0_i32_19 : BitVec 32 := 0#32
  ![arg11.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineRefIdeal.lean ====
abbrev S8192 : Shape := ⟨1, ![8192]⟩
abbrev S20480x4096 : Shape := ⟨2, ![20480, 4096]⟩
abbrev S8192x4096 : Shape := ⟨2, ![8192, 4096]⟩
abbrev S8192x128 : Shape := ⟨2, ![8192, 128]⟩
abbrev S2x4096 : Shape := ⟨2, ![2, 4096]⟩
abbrev S8192x1 : Shape := ⟨2, ![8192, 1]⟩
abbrev S_ : Shape := ⟨0, ![]⟩
abbrev S2x4096x4096 : Shape := ⟨3, ![2, 4096, 4096]⟩
abbrev S2x1x4096 : Shape := ⟨3, ![2, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S20480x4096, .f32⟩
  | .hbm, ⟨3, _⟩ => ⟨S8192x4096, .f32⟩
  | .hbm, ⟨4, _⟩ => ⟨S8192x128, .f32⟩
  | .hbm, ⟨5, _⟩ => ⟨S2x4096, .f32⟩
  | .hbm, ⟨6, _⟩ => ⟨S8192x1, .f32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x1, .f32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S2x4096x4096, .f32⟩
  | .hbm, ⟨32, _⟩ => ⟨S2x1x4096, .f32⟩
  | .hbm, ⟨33, _⟩ => ⟨S2x4096x4096, .f32⟩
  | .hbm, ⟨34, _⟩ => ⟨S2x4096x4096, .f32⟩
  | .hbm, ⟨35, _⟩ => ⟨S2x4096x4096, .f32⟩
  | .hbm, ⟨36, _⟩ => ⟨S2x4096x4096, .f32⟩
  | .hbm, ⟨37, _⟩ => ⟨S8192x4096, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Gather.lean ====
abbrev S20480 : Shape := ⟨1, ![20480]⟩
abbrev S8192x4096 : Shape := ⟨2, ![8192, 4096]⟩
abbrev S20480x4096 : Shape := ⟨2, ![20480, 4096]⟩
abbrev S256x4096 : Shape := ⟨2, ![256, 4096]⟩
abbrev S_ : Shape := ⟨0, ![]⟩
abbrev S1 : Shape := ⟨1, ![1]⟩
abbrev S1x4096 : Shape := ⟨2, ![1, 4096]⟩

abbrev nBuf : Space → Nat
  | .hbm => 2
  | .vmem => 3
  | .smem => 1
  | _ => 0

abbrev bufTy : (tb : Table) → Fin (tcTables nBuf tb) → BufTy
  | .hbm, ⟨0, _⟩ => ⟨S8192x4096, .f32⟩
  | .hbm, ⟨1, _⟩ => ⟨S20480x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .smem, ⟨0, _⟩ => ⟨S20480, .i32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_v0 : Ref sig .tc := ⟨.hbm, 1, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![80], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32_0 : BitVec 32 := 256#32
  let v1 : BitVec 32 := Scalar.addi c0_i32 c256_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg6 : BitVec 32 := Scf.iv c0_i32 c1_i32 k0_t1
  let v6 : BitVec 32 := Scalar.addi v0 arg6
  let v7 : Index := Scalar.indexCast v6
  ![v7.toNat]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_9 : BitVec 32 := 0#32
  ![arg6.toNat, 0]
def k0_off3 (v8 : BitVec 32) : Fin 2 → Nat :=
  let c0_i32_10 : BitVec 32 := 0#32
  ![v8.toNat, 0]

def k0_chk1 (v8 : BitVec 32) : Prop :=
  (∀ a, (k0_off3 v8) a + S1x4096.size a ≤ S8192x4096.size a)
theorem k0_off3_inb : ∀ (v8 : BitVec 32) (k0_hw1 : k0_chk1 v8), ∀ a, (k0_off3 v8) a + S1x4096.size a ≤ S8192x4096.size a := fun v8 k0_hw1 => k0_hw1

@[reducible] def k0_t2_loop : Scf.Loop 32 :=
  let c0_i32_2 : BitVec 32 := 0#32
  let c256_i32_3 : BitVec 32 := 256#32
  let v2 : BitVec 32 := Scalar.addi c0_i32_2 c256_i32_3
  let c1_i32_4 : BitVec 32 := 1#32
  ⟨c0_i32_2, v2, c1_i32_4⟩
def k0_off4 (k0_t2 : Fin k0_t2_loop.trips) : Fin 2 → Nat :=
  let c0_i32_2 : BitVec 32 := 0#32
  let c1_i32_4 : BitVec 32 := 1#32
  let arg6 : BitVec 32 := Scf.iv c0_i32_2 c1_i32_4 k0_t2
  let c0_i32_9 : BitVec 32 := 0#32
  ![arg6.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== GatherRef.lean ====
abbrev S20480 : Shape := ⟨1, ![20480]⟩
abbrev S8192x4096 : Shape := ⟨2, ![8192, 4096]⟩
abbrev S_ : Shape := ⟨0, ![]⟩
abbrev S20480x1 : Shape := ⟨2, ![20480, 1]⟩
abbrev S20480x4096 : Shape := ⟨2, ![20480, 4096]⟩

abbrev nBuf : Space → Nat
  | .hbm => 12
  | .vmem => 0
  | .smem => 0
  | _ => 0

abbrev bufTy : (tb : Table) → Fin (tcTables nBuf tb) → BufTy
  | .hbm, ⟨0, _⟩ => ⟨S20480, .i32⟩
  | .hbm, ⟨1, _⟩ => ⟨S8192x4096, .f32⟩
  | .hbm, ⟨2, _⟩ => ⟨S_, .i32⟩
  | .hbm, ⟨3, _⟩ => ⟨S20480, .i32⟩
  | .hbm, ⟨4, _⟩ => ⟨S20480, .i1⟩
  | .hbm, ⟨5, _⟩ => ⟨S_, .i32⟩
  | .hbm, ⟨6, _⟩ => ⟨S20480, .i32⟩
  | .hbm, ⟨7, _⟩ => ⟨S20480, .i32⟩
  | .hbm, ⟨8, _⟩ => ⟨S20480, .i32⟩
  | .hbm, ⟨9, _⟩ => ⟨S20480x1, .i32⟩
  | .hbm, ⟨10, _⟩ => ⟨S20480x4096, .f32⟩
  | .hbm, ⟨11, _⟩ => ⟨S20480x4096, .bf16⟩
  | _, _ => ⟨S20480, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== InSmall.lean ====
abbrev S2x4096x4096 : Shape := ⟨3, ![2, 4096, 4096]⟩
abbrev S4096x29208 : Shape := ⟨2, ![4096, 29208]⟩
abbrev S4096x16 : Shape := ⟨2, ![4096, 16]⟩
abbrev S4096x8 : Shape := ⟨2, ![4096, 8]⟩
abbrev S_ : Shape := ⟨0, ![]⟩
abbrev S4096x104 : Shape := ⟨2, ![4096, 104]⟩
abbrev S4096x128 : Shape := ⟨2, ![4096, 128]⟩
abbrev S8192x4096 : Shape := ⟨2, ![8192, 4096]⟩
abbrev S8192x128 : Shape := ⟨2, ![8192, 128]⟩
abbrev S1024x4096 : Shape := ⟨2, ![1024, 4096]⟩
abbrev S1024x128 : Shape := ⟨2, ![1024, 128]⟩

abbrev nBuf : Space → Nat
  | .hbm => 10
  | .vmem => 5
  | .smem => 0
  | _ => 0

abbrev bufTy : (tb : Table) → Fin (tcTables nBuf tb) → BufTy
  | .hbm, ⟨0, _⟩ => ⟨S2x4096x4096, .bf16⟩
  | .hbm, ⟨1, _⟩ => ⟨S4096x29208, .f32⟩
  | .hbm, ⟨2, _⟩ => ⟨S4096x16, .f32⟩
  | .hbm, ⟨3, _⟩ => ⟨S4096x8, .f32⟩
  | .hbm, ⟨4, _⟩ => ⟨S_, .f32⟩
  | .hbm, ⟨5, _⟩ => ⟨S4096x104, .f32⟩
  | .hbm, ⟨6, _⟩ => ⟨S4096x128, .f32⟩
  | .hbm, ⟨7, _⟩ => ⟨S4096x128, .bf16⟩
  | .hbm, ⟨8, _⟩ => ⟨S8192x4096, .bf16⟩
  | .hbm, ⟨9, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InSmallRefIdeal.lean ====
abbrev S2x4096x4096 : Shape := ⟨3, ![2, 4096, 4096]⟩
abbrev S4096x29208 : Shape := ⟨2, ![4096, 29208]⟩
abbrev S2x4096x29208 : Shape := ⟨3, ![2, 4096, 29208]⟩
abbrev S2x4096x16 : Shape := ⟨3, ![2, 4096, 16]⟩
abbrev S2x4096x8 : Shape := ⟨3, ![2, 4096, 8]⟩
abbrev S_ : Shape := ⟨0, ![]⟩
abbrev S2x4096x104 : Shape := ⟨3, ![2, 4096, 104]⟩
abbrev S2x4096x128 : Shape := ⟨3, ![2, 4096, 128]⟩
abbrev S8192x128 : Shape := ⟨2, ![8192, 128]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S4096x29208, .f32⟩
  | .hbm, ⟨2, _⟩ => ⟨S2x4096x4096, .f32⟩
  | .hbm, ⟨3, _⟩ => ⟨S2x4096x29208, .f32⟩
  | .hbm, ⟨4, _⟩ => ⟨S2x4096x16, .f32⟩
  | .hbm, ⟨5, _⟩ => ⟨S2x4096x8, .f32⟩
  | .hbm, ⟨6, _⟩ => ⟨S_, .f32⟩
  | .hbm, ⟨7, _⟩ => ⟨S2x4096x104, .f32⟩
  | .hbm, ⟨8, _⟩ => ⟨S2x4096x128, .f32⟩
  | .hbm, ⟨9, _⟩ => ⟨S8192x128, .f32⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Glu.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S1024x1024, .bf16⟩
  | .hbm, ⟨3, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== MixNorm.lean ====
abbrev S2x4096x4096 : Shape := ⟨3, ![2, 4096, 4096]⟩
abbrev S4096 : Shape := ⟨1, ![4096]⟩
abbrev S2x6x4096 : Shape := ⟨3, ![2, 6, 4096]⟩
abbrev S1x4096 : Shape := ⟨2, ![1, 4096]⟩
abbrev S1x512x4096 : Shape := ⟨3, ![1, 512, 4096]⟩
abbrev S1x6x4096 : Shape := ⟨3, ![1, 6, 4096]⟩
abbrev S512x4096 : Shape := ⟨2, ![512, 4096]⟩
abbrev S512 : Shape := ⟨1, ![512]⟩
abbrev S512x1 : Shape := ⟨2, ![512, 1]⟩
abbrev S1x1x4096 : Shape := ⟨3, ![1, 1, 4096]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S2x6x4096, .f32⟩
  | .hbm, ⟨3, _⟩ => ⟨S1x4096, .f32⟩
  | .hbm, ⟨4, _⟩ => ⟨S2x4096x4096, .bf16⟩
  | .local _ .vmem, ⟨0, _⟩ => ⟨S1x512x4096, .f32⟩
  | .local _ .vmem, ⟨1, _⟩ => ⟨S1x512x4096, .f32⟩
  | .local _ .vmem, ⟨2, _⟩ => ⟨S1x4096, .f32⟩
  | .local _ .vmem, ⟨3, _⟩ => ⟨S1x6x4096, .f32⟩
  | .local _ .vmem, ⟨4, _⟩ => ⟨S1x6x4096, .f32⟩
  | .local _ .vmem, ⟨5, _⟩ => ⟨S1x512x4096, .bf16⟩
  | .local _ .vmem, ⟨6, _⟩ => ⟨S1x512x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixNormRefIdeal.lean ====
abbrev S2x4096x4096 : Shape := ⟨3, ![2, 4096, 4096]⟩
abbrev S4096 : Shape := ⟨1, ![4096]⟩
abbrev S2x6x4096 : Shape := ⟨3, ![2, 6, 4096]⟩
abbrev S2x1x4096 : Shape := ⟨3, ![2, 1, 4096]⟩
abbrev S2x4096 : Shape := ⟨2, ![2, 4096]⟩
abbrev S_ : Shape := ⟨0, ![]⟩
abbrev S2x4096x1 : Shape := ⟨3, ![2, 4096, 1]⟩
abbrev S1x1x4096 : Shape := ⟨3, ![1, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S2x6x4096, .f32⟩
  | .hbm, ⟨3, _⟩ => ⟨S2x1x4096, .f32⟩
  | .hbm, ⟨4, _⟩ => ⟨S2x4096, .f32⟩
  | .hbm, ⟨5, _⟩ => ⟨S2x1x4096, .f32⟩
  | .hbm, ⟨6, _⟩ => ⟨S2x1x4096, .f32⟩
  | .hbm, ⟨7, _⟩ => ⟨S2x4096, .f32⟩
  | .hbm, ⟨8, _⟩ => ⟨S2x1x4096, .f32⟩
  | .hbm, ⟨9, _⟩ => ⟨S2x4096x4096, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x4096, .f32⟩
  | .hbm, ⟨21, _⟩ => ⟨S2x4096x4096, .f32⟩
  | .hbm, ⟨22, _⟩ => ⟨S1x1x4096, .f32⟩
  | .hbm, ⟨23, _⟩ => ⟨S2x4096x4096, .f32⟩
  | .hbm, ⟨24, _⟩ => ⟨S2x4096x4096, .f32⟩
  | .hbm, ⟨25, _⟩ => ⟨S_, .f32⟩
  | .hbm, ⟨26, _⟩ => ⟨S2x1x4096, .f32⟩
  | .hbm, ⟨27, _⟩ => ⟨S2x1x4096, .f32⟩
  | .hbm, ⟨28, _⟩ => ⟨S2x4096x4096, .f32⟩
  | .hbm, ⟨29, _⟩ => ⟨S2x4096x4096, .f32⟩
  | .hbm, ⟨30, _⟩ => ⟨S2x4096x4096, .f32⟩
  | .hbm, ⟨31, _⟩ => ⟨S2x4096x4096, .f32⟩
  | .hbm, ⟨32, _⟩ => ⟨S2x4096x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== FfnNorm.lean ====
abbrev S2x4096x4096 : Shape := ⟨3, ![2, 4096, 4096]⟩
abbrev S4096 : Shape := ⟨1, ![4096]⟩
abbrev S2x6x4096 : Shape := ⟨3, ![2, 6, 4096]⟩
abbrev S1x4096 : Shape := ⟨2, ![1, 4096]⟩
abbrev S1x512x4096 : Shape := ⟨3, ![1, 512, 4096]⟩
abbrev S1x6x4096 : Shape := ⟨3, ![1, 6, 4096]⟩
abbrev S512x4096 : Shape := ⟨2, ![512, 4096]⟩
abbrev S512 : Shape := ⟨1, ![512]⟩
abbrev S512x1 : Shape := ⟨2, ![512, 1]⟩
abbrev S1x1x4096 : Shape := ⟨3, ![1, 1, 4096]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S2x6x4096, .f32⟩
  | .hbm, ⟨3, _⟩ => ⟨S1x4096, .f32⟩
  | .hbm, ⟨4, _⟩ => ⟨S2x4096x4096, .bf16⟩
  | .local _ .vmem, ⟨0, _⟩ => ⟨S1x512x4096, .f32⟩
  | .local _ .vmem, ⟨1, _⟩ => ⟨S1x512x4096, .f32⟩
  | .local _ .vmem, ⟨2, _⟩ => ⟨S1x4096, .f32⟩
  | .local _ .vmem, ⟨3, _⟩ => ⟨S1x6x4096, .f32⟩
  | .local _ .vmem, ⟨4, _⟩ => ⟨S1x6x4096, .f32⟩
  | .local _ .vmem, ⟨5, _⟩ => ⟨S1x512x4096, .bf16⟩
  | .local _ .vmem, ⟨6, _⟩ => ⟨S1x512x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnNormRefIdeal.lean ====
abbrev S2x4096x4096 : Shape := ⟨3, ![2, 4096, 4096]⟩
abbrev S4096 : Shape := ⟨1, ![4096]⟩
abbrev S2x6x4096 : Shape := ⟨3, ![2, 6, 4096]⟩
abbrev S2x1x4096 : Shape := ⟨3, ![2, 1, 4096]⟩
abbrev S2x4096 : Shape := ⟨2, ![2, 4096]⟩
abbrev S_ : Shape := ⟨0, ![]⟩
abbrev S2x4096x1 : Shape := ⟨3, ![2, 4096, 1]⟩
abbrev S1x1x4096 : Shape := ⟨3, ![1, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S2x6x4096, .f32⟩
  | .hbm, ⟨3, _⟩ => ⟨S2x1x4096, .f32⟩
  | .hbm, ⟨4, _⟩ => ⟨S2x4096, .f32⟩
  | .hbm, ⟨5, _⟩ => ⟨S2x1x4096, .f32⟩
  | .hbm, ⟨6, _⟩ => ⟨S2x1x4096, .f32⟩
  | .hbm, ⟨7, _⟩ => ⟨S2x4096, .f32⟩
  | .hbm, ⟨8, _⟩ => ⟨S2x1x4096, .f32⟩
  | .hbm, ⟨9, _⟩ => ⟨S2x4096x4096, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x4096, .f32⟩
  | .hbm, ⟨21, _⟩ => ⟨S2x4096x4096, .f32⟩
  | .hbm, ⟨22, _⟩ => ⟨S1x1x4096, .f32⟩
  | .hbm, ⟨23, _⟩ => ⟨S2x4096x4096, .f32⟩
  | .hbm, ⟨24, _⟩ => ⟨S2x4096x4096, .f32⟩
  | .hbm, ⟨25, _⟩ => ⟨S_, .f32⟩
  | .hbm, ⟨26, _⟩ => ⟨S2x1x4096, .f32⟩
  | .hbm, ⟨27, _⟩ => ⟨S2x1x4096, .f32⟩
  | .hbm, ⟨28, _⟩ => ⟨S2x4096x4096, .f32⟩
  | .hbm, ⟨29, _⟩ => ⟨S2x4096x4096, .f32⟩
  | .hbm, ⟨30, _⟩ => ⟨S2x4096x4096, .f32⟩
  | .hbm, ⟨31, _⟩ => ⟨S2x4096x4096, .f32⟩
  | .hbm, ⟨32, _⟩ => ⟨S2x4096x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== QkNorm.lean ====
abbrev S8192x29184 : Shape := ⟨2, ![8192, 29184]⟩
abbrev S128 : Shape := ⟨1, ![128]⟩
abbrev S_ : Shape := ⟨0, ![]⟩
abbrev S1x128 : Shape := ⟨2, ![1, 128]⟩
abbrev S2x128 : Shape := ⟨2, ![2, 128]⟩
abbrev S2x1x128 : Shape := ⟨3, ![2, 1, 128]⟩
abbrev S8192x2048 : Shape := ⟨2, ![8192, 2048]⟩
abbrev S512x512 : Shape := ⟨2, ![512, 512]⟩
abbrev S1x1x128 : Shape := ⟨3, ![1, 1, 128]⟩
abbrev S512x128 : Shape := ⟨2, ![512, 128]⟩
abbrev S512 : Shape := ⟨1, ![512]⟩
abbrev S512x1 : Shape := ⟨2, ![512, 1]⟩

abbrev nBuf : Space → Nat
  | .hbm => 11
  | .vmem => 6
  | .smem => 0
  | _ => 0

abbrev bufTy : (tb : Table) → Fin (tcTables nBuf tb) → BufTy
  | .hbm, ⟨0, _⟩ => ⟨S8192x29184, .bf16⟩
  | .hbm, ⟨1, _⟩ => ⟨S128, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S2x128, .f32⟩
  | .hbm, ⟨9, _⟩ => ⟨S2x1x128, .f32⟩
  | .hbm, ⟨10, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S1x1x128, .f32⟩
  | .local _ .vmem, ⟨3, _⟩ => ⟨S1x1x128, .f32⟩
  | .local _ .vmem, ⟨4, _⟩ => ⟨S512x512, .bf16⟩
  | .local _ .vmem, ⟨5, _⟩ => ⟨S512x512, .bf16⟩
  | _, _ => ⟨S8192x29184, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkNormRefIdeal.lean ====
abbrev S8192x29184 : Shape := ⟨2, ![8192, 29184]⟩
abbrev S128 : Shape := ⟨1, ![128]⟩
abbrev S8192x1024 : Shape := ⟨2, ![8192, 1024]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x29184, .bf16⟩
  | .hbm, ⟨1, _⟩ => ⟨S128, .f32⟩
  | .hbm, ⟨2, _⟩ => ⟨S128, .f32⟩
  | .hbm, ⟨3, _⟩ => ⟨S8192x1024, .bf16⟩
  | .hbm, ⟨4, _⟩ => ⟨S8192x1024, .f32⟩
  | .hbm, ⟨5, _⟩ => ⟨S8192x8x128, .f32⟩
  | .hbm, ⟨6, _⟩ => ⟨S8192x8x128, .f32⟩
  | .hbm, ⟨7, _⟩ => ⟨S_, .f32⟩
  | .hbm, ⟨8, _⟩ => ⟨S8192x8, .f32⟩
  | .hbm, ⟨9, _⟩ => ⟨S8192x8x1, .f32⟩
  | .hbm, ⟨10, _⟩ => ⟨S_, .f32⟩
  | .hbm, ⟨11, _⟩ => ⟨S8192x8x1, .f32⟩
  | .hbm, ⟨12, _⟩ => ⟨S8192x8x1, .f32⟩
  | .hbm, ⟨13, _⟩ => ⟨S_, .f32⟩
  | .hbm, ⟨14, _⟩ => ⟨S8192x8x1, .f32⟩
  | .hbm, ⟨15, _⟩ => ⟨S8192x8x1, .f32⟩
  | .hbm, ⟨16, _⟩ => ⟨S8192x8x1, .f32⟩
  | .hbm, ⟨17, _⟩ => ⟨S8192x8x128, .f32⟩
  | .hbm, ⟨18, _⟩ => ⟨S8192x8x128, .f32⟩
  | .hbm, ⟨19, _⟩ => ⟨S1x1x128, .f32⟩
  | .hbm, ⟨20, _⟩ => ⟨S8192x8x128, .f32⟩
  | .hbm, ⟨21, _⟩ => ⟨S8192x8x128, .f32⟩
  | .hbm, ⟨22, _⟩ => ⟨S_, .f32⟩
  | .hbm, ⟨23, _⟩ => ⟨S8192x8x128, .f32⟩
  | .hbm, ⟨24, _⟩ => ⟨S8192x8x128, .f32⟩
  | .hbm, ⟨25, _⟩ => ⟨S8192x1024, .bf16⟩
  | .hbm, ⟨26, _⟩ => ⟨S8192x1024, .f32⟩
  | .hbm, ⟨27, _⟩ => ⟨S8192x8x128, .f32⟩
  | .hbm, ⟨28, _⟩ => ⟨S8192x8x128, .f32⟩
  | .hbm, ⟨29, _⟩ => ⟨S_, .f32⟩
  | .hbm, ⟨30, _⟩ => ⟨S8192x8, .f32⟩
  | .hbm, ⟨31, _⟩ => ⟨S8192x8x1, .f32⟩
  | .hbm, ⟨32, _⟩ => ⟨S_, .f32⟩
  | .hbm, ⟨33, _⟩ => ⟨S8192x8x1, .f32⟩
  | .hbm, ⟨34, _⟩ => ⟨S8192x8x1, .f32⟩
  | .hbm, ⟨35, _⟩ => ⟨S_, .f32⟩
  | .hbm, ⟨36, _⟩ => ⟨S8192x8x1, .f32⟩
  | .hbm, ⟨37, _⟩ => ⟨S8192x8x1, .f32⟩
  | .hbm, ⟨38, _⟩ => ⟨S8192x8x1, .f32⟩
  | .hbm, ⟨39, _⟩ => ⟨S8192x8x128, .f32⟩
  | .hbm, ⟨40, _⟩ => ⟨S8192x8x128, .f32⟩
  | .hbm, ⟨41, _⟩ => ⟨S1x1x128, .f32⟩
  | .hbm, ⟨42, _⟩ => ⟨S8192x8x128, .f32⟩
  | .hbm, ⟨43, _⟩ => ⟨S8192x8x128, .f32⟩
  | .hbm, ⟨44, _⟩ => ⟨S8192x1024, .f32⟩
  | .hbm, ⟨45, _⟩ => ⟨S8192x1024, .f32⟩
  | .hbm, ⟨46, _⟩ => ⟨S8192x2048, .f32⟩
  | .hbm, ⟨47, _⟩ => ⟨S8192x2048, .bf16⟩
  | _, _ => ⟨S8192x29184, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== BandMerge.lean ====
abbrev S8192x512 : Shape := ⟨2, ![8192, 512]⟩
abbrev S8192x128 : Shape := ⟨2, ![8192, 128]⟩
abbrev S512x512 : Shape := ⟨2, ![512, 512]⟩
abbrev S512x128 : Shape := ⟨2, ![512, 128]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== BandMergeRefIdeal.lean ====
abbrev S8192x512 : Shape := ⟨2, ![8192, 512]⟩
abbrev S8192x128 : Shape := ⟨2, ![8192, 128]⟩
abbrev S8192x4 : Shape := ⟨2, ![8192, 4]⟩
abbrev S1x8192x4 : Shape := ⟨3, ![1, 8192, 4]⟩
abbrev S3x8192x4 : Shape := ⟨3, ![3, 8192, 4]⟩
abbrev S_ : Shape := ⟨0, ![]⟩
abbrev S1x8192x512 : Shape := ⟨3, ![1, 8192, 512]⟩
abbrev S3x8192x512 : Shape := ⟨3, ![3, 8192, 512]⟩
abbrev S3x8192x4x128 : Shape := ⟨4, ![3, 8192, 4, 128]⟩
abbrev S8192x4x128 : Shape := ⟨3, ![8192, 4, 128]⟩

abbrev nBuf : Space → Nat
  | .hbm => 35
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x4, .f32⟩
  | .hbm, ⟨7, _⟩ => ⟨S8192x4, .f32⟩
  | .hbm, ⟨8, _⟩ => ⟨S8192x4, .f32⟩
  | .hbm, ⟨9, _⟩ => ⟨S1x8192x4, .f32⟩
  | .hbm, ⟨10, _⟩ => ⟨S1x8192x4, .f32⟩
  | .hbm, ⟨11, _⟩ => ⟨S1x8192x4, .f32⟩
  | .hbm, ⟨12, _⟩ => ⟨S3x8192x4, .f32⟩
  | .hbm, ⟨13, _⟩ => ⟨S_, .f32⟩
  | .hbm, ⟨14, _⟩ => ⟨S8192x4, .f32⟩
  | .hbm, ⟨15, _⟩ => ⟨S_, .f32⟩
  | .hbm, ⟨16, _⟩ => ⟨S8192x4, .f32⟩
  | .hbm, ⟨17, _⟩ => ⟨S8192x4, .f32⟩
  | .hbm, ⟨18, _⟩ => ⟨S1x8192x4, .f32⟩
  | .hbm, ⟨19, _⟩ => ⟨S3x8192x4, .f32⟩
  | .hbm, ⟨20, _⟩ => ⟨S3x8192x4, .f32⟩
  | .hbm, ⟨21, _⟩ => ⟨S3x8192x4, .f32⟩
  | .hbm, ⟨22, _⟩ => ⟨S_, .f32⟩
  | .hbm, ⟨23, _⟩ => ⟨S8192x4, .f32⟩
  | .hbm, ⟨24, _⟩ => ⟨S1x8192x4, .f32⟩
  | .hbm, ⟨25, _⟩ => ⟨S3x8192x4, .f32⟩
  | .hbm, ⟨26, _⟩ => ⟨S3x8192x4, .f32⟩
  | .hbm, ⟨27, _⟩ => ⟨S1x8192x512, .f32⟩
  | .hbm, ⟨28, _⟩ => ⟨S1x8192x512, .f32⟩
  | .hbm, ⟨29, _⟩ => ⟨S1x8192x512, .f32⟩
  | .hbm, ⟨30, _⟩ => ⟨S3x8192x512, .f32⟩
  | .hbm, ⟨31, _⟩ => ⟨S3x8192x4x128, .f32⟩
  | .hbm, ⟨32, _⟩ => ⟨S8192x4x128, .f32⟩
  | .hbm, ⟨33, _⟩ => ⟨S8192x512, .f32⟩
  | .hbm, ⟨34, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== RopeNorm.lean ====
abbrev S8192x29184 : Shape := ⟨2, ![8192, 29184]⟩
abbrev S128 : Shape := ⟨1, ![128]⟩
abbrev S8192x128 : Shape := ⟨2, ![8192, 128]⟩
abbrev S_ : Shape := ⟨0, ![]⟩
abbrev S1x128 : Shape := ⟨2, ![1, 128]⟩
abbrev S2x128 : Shape := ⟨2, ![2, 128]⟩
abbrev S2x1x128 : Shape := ⟨3, ![2, 1, 128]⟩
abbrev S8192x3072 : Shape := ⟨2, ![8192, 3072]⟩
abbrev S512x512 : Shape := ⟨2, ![512, 512]⟩
abbrev S1x1x128 : Shape := ⟨3, ![1, 1, 128]⟩
abbrev S512x128 : Shape := ⟨2, ![512, 128]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S8192x29184, .bf16⟩
  | .hbm, ⟨1, _⟩ => ⟨S128, .f32⟩
  | .hbm, ⟨2, _⟩ => ⟨S128, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S2x128, .f32⟩
  | .hbm, ⟨11, _⟩ => ⟨S2x1x128, .f32⟩
  | .hbm, ⟨12, _⟩ => ⟨S8192x3072, .bf16⟩
  | .local _ .vmem, ⟨0, _⟩ => ⟨S512x512, .bf16⟩
  | .local _ .vmem, ⟨1, _⟩ => ⟨S512x512, .bf16⟩
  | .local _ .vmem, ⟨2, _⟩ => ⟨S1x1x128, .f32⟩
  | .local _ .vmem, ⟨3, _⟩ => ⟨S1x1x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .bf16⟩
  | .local _ .vmem, ⟨9, _⟩ => ⟨S512x512, .bf16⟩
  | _, _ => ⟨S8192x29184, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RopeNormRefIdeal.lean ====
abbrev S8192x29184 : Shape := ⟨2, ![8192, 29184]⟩
abbrev S128 : Shape := ⟨1, ![128]⟩
abbrev S8192x128 : Shape := ⟨2, ![8192, 128]⟩
abbrev S8192x1536 : Shape := ⟨2, ![8192, 1536]⟩
abbrev S8192x12x128 : Shape := ⟨3, ![8192, 12, 128]⟩
abbrev S_ : Shape := ⟨0, ![]⟩
abbrev S8192x12 : Shape := ⟨2, ![8192, 12]⟩
abbrev S8192x12x1 : Shape := ⟨3, ![8192, 12, 1]⟩
abbrev S1x1x128 : Shape := ⟨3, ![1, 1, 128]⟩
abbrev S8192x12x64 : Shape := ⟨3, ![8192, 12, 64]⟩
abbrev S8192x64 : Shape := ⟨2, ![8192, 64]⟩
abbrev S8192x1x64 : Shape := ⟨3, ![8192, 1, 64]⟩
abbrev S8192x3072 : Shape := ⟨2, ![8192, 3072]⟩

abbrev nBuf : Space → Nat
  | .hbm => 92
  | .vmem => 0
  | .smem => 0
  | _ => 0

abbrev bufTy : (tb : Table) → Fin (tcTables nBuf tb) → BufTy
  | .hbm, ⟨0, _⟩ => ⟨S8192x29184, .bf16⟩
  | .hbm, ⟨1, _⟩ => ⟨S128, .f32⟩
  | .hbm, ⟨2, _⟩ => ⟨S128, .f32⟩
  | .hbm, ⟨3, _⟩ => ⟨S8192x128, .f32⟩
  | .hbm, ⟨4, _⟩ => ⟨S8192x128, .f32⟩
  | .hbm, ⟨5, _⟩ => ⟨S8192x1536, .bf16⟩
  | .hbm, ⟨6, _⟩ => ⟨S8192x1536, .f32⟩
  | .hbm, ⟨7, _⟩ => ⟨S8192x12x128, .f32⟩
  | .hbm, ⟨8, _⟩ => ⟨S8192x12x128, .f32⟩
  | .hbm, ⟨9, _⟩ => ⟨S_, .f32⟩
  | .hbm, ⟨10, _⟩ => ⟨S8192x12, .f32⟩
  | .hbm, ⟨11, _⟩ => ⟨S8192x12x1, .f32⟩
  | .hbm, ⟨12, _⟩ => ⟨S_, .f32⟩
  | .hbm, ⟨13, _⟩ => ⟨S8192x12x1, .f32⟩
  | .hbm, ⟨14, _⟩ => ⟨S8192x12x1, .f32⟩
  | .hbm, ⟨15, _⟩ => ⟨S_, .f32⟩
  | .hbm, ⟨16, _⟩ => ⟨S8192x12x1, .f32⟩
  | .hbm, ⟨17, _⟩ => ⟨S8192x12x1, .f32⟩
  | .hbm, ⟨18, _⟩ => ⟨S8192x12x1, .f32⟩
  | .hbm, ⟨19, _⟩ => ⟨S8192x12x128, .f32⟩
  | .hbm, ⟨20, _⟩ => ⟨S8192x12x128, .f32⟩
  | .hbm, ⟨21, _⟩ => ⟨S1x1x128, .f32⟩
  | .hbm, ⟨22, _⟩ => ⟨S8192x12x128, .f32⟩
  | .hbm, ⟨23, _⟩ => ⟨S8192x12x128, .f32⟩
  | .hbm, ⟨24, _⟩ => ⟨S8192x12x64, .f32⟩
  | .hbm, ⟨25, _⟩ => ⟨S8192x12x64, .f32⟩
  | .hbm, ⟨26, _⟩ => ⟨S8192x64, .f32⟩
  | .hbm, ⟨27, _⟩ => ⟨S8192x1x64, .f32⟩
  | .hbm, ⟨28, _⟩ => ⟨S8192x12x64, .f32⟩
  | .hbm, ⟨29, _⟩ => ⟨S8192x12x64, .f32⟩
  | .hbm, ⟨30, _⟩ => ⟨S8192x64, .f32⟩
  | .hbm, ⟨31, _⟩ => ⟨S8192x1x64, .f32⟩
  | .hbm, ⟨32, _⟩ => ⟨S8192x12x64, .f32⟩
  | .hbm, ⟨33, _⟩ => ⟨S8192x12x64, .f32⟩
  | .hbm, ⟨34, _⟩ => ⟨S8192x12x64, .f32⟩
  | .hbm, ⟨35, _⟩ => ⟨S8192x64, .f32⟩
  | .hbm, ⟨36, _⟩ => ⟨S8192x1x64, .f32⟩
  | .hbm, ⟨37, _⟩ => ⟨S8192x12x64, .f32⟩
  | .hbm, ⟨38, _⟩ => ⟨S8192x12x64, .f32⟩
  | .hbm, ⟨39, _⟩ => ⟨S8192x64, .f32⟩
  | .hbm, ⟨40, _⟩ => ⟨S8192x1x64, .f32⟩
  | .hbm, ⟨41, _⟩ => ⟨S8192x12x64, .f32⟩
  | .hbm, ⟨42, _⟩ => ⟨S8192x12x64, .f32⟩
  | .hbm, ⟨43, _⟩ => ⟨S8192x12x64, .f32⟩
  | .hbm, ⟨44, _⟩ => ⟨S8192x12x128, .f32⟩
  | .hbm, ⟨45, _⟩ => ⟨S_, .f32⟩
  | .hbm, ⟨46, _⟩ => ⟨S8192x12x128, .f32⟩
  | .hbm, ⟨47, _⟩ => ⟨S8192x12x128, .f32⟩
  | .hbm, ⟨48, _⟩ => ⟨S8192x1536, .bf16⟩
  | .hbm, ⟨49, _⟩ => ⟨S8192x1536, .f32⟩
  | .hbm, ⟨50, _⟩ => ⟨S8192x12x128, .f32⟩
  | .hbm, ⟨51, _⟩ => ⟨S8192x12x128, .f32⟩
  | .hbm, ⟨52, _⟩ => ⟨S_, .f32⟩
  | .hbm, ⟨53, _⟩ => ⟨S8192x12, .f32⟩
  | .hbm, ⟨54, _⟩ => ⟨S8192x12x1, .f32⟩
  | .hbm, ⟨55, _⟩ => ⟨S_, .f32⟩
  | .hbm, ⟨56, _⟩ => ⟨S8192x12x1, .f32⟩
  | .hbm, ⟨57, _⟩ => ⟨S8192x12x1, .f32⟩
  | .hbm, ⟨58, _⟩ => ⟨S_, .f32⟩
  | .hbm, ⟨59, _⟩ => ⟨S8192x12x1, .f32⟩
  | .hbm, ⟨60, _⟩ => ⟨S8192x12x1, .f32⟩
  | .hbm, ⟨61, _⟩ => ⟨S8192x12x1, .f32⟩
  | .hbm, ⟨62, _⟩ => ⟨S8192x12x128, .f32⟩
  | .hbm, ⟨63, _⟩ => ⟨S8192x12x128, .f32⟩
  | .hbm, ⟨64, _⟩ => ⟨S1x1x128, .f32⟩
  | .hbm, ⟨65, _⟩ => ⟨S8192x12x128, .f32⟩
  | .hbm, ⟨66, _⟩ => ⟨S8192x12x128, .f32⟩
  | .hbm, ⟨67, _⟩ => ⟨S8192x12x64, .f32⟩
  | .hbm, ⟨68, _⟩ => ⟨S8192x12x64, .f32⟩
  | .hbm, ⟨69, _⟩ => ⟨S8192x64, .f32⟩
  | .hbm, ⟨70, _⟩ => ⟨S8192x1x64, .f32⟩
  | .hbm, ⟨71, _⟩ => ⟨S8192x12x64, .f32⟩
  | .hbm, ⟨72, _⟩ => ⟨S8192x12x64, .f32⟩
  | .hbm, ⟨73, _⟩ => ⟨S8192x64, .f32⟩
  | .hbm, ⟨74, _⟩ => ⟨S8192x1x64, .f32⟩
  | .hbm, ⟨75, _⟩ => ⟨S8192x12x64, .f32⟩
  | .hbm, ⟨76, _⟩ => ⟨S8192x12x64, .f32⟩
  | .hbm, ⟨77, _⟩ => ⟨S8192x12x64, .f32⟩
  | .hbm, ⟨78, _⟩ => ⟨S8192x64, .f32⟩
  | .hbm, ⟨79, _⟩ => ⟨S8192x1x64, .f32⟩
  | .hbm, ⟨80, _⟩ => ⟨S8192x12x64, .f32⟩
  | .hbm, ⟨81, _⟩ => ⟨S8192x12x64, .f32⟩
  | .hbm, ⟨82, _⟩ => ⟨S8192x64, .f32⟩
  | .hbm, ⟨83, _⟩ => ⟨S8192x1x64, .f32⟩
  | .hbm, ⟨84, _⟩ => ⟨S8192x12x64, .f32⟩
  | .hbm, ⟨85, _⟩ => ⟨S8192x12x64, .f32⟩
  | .hbm, ⟨86, _⟩ => ⟨S8192x12x64, .f32⟩
  | .hbm, ⟨87, _⟩ => ⟨S8192x12x128, .f32⟩
  | .hbm, ⟨88, _⟩ => ⟨S8192x1536, .f32⟩
  | .hbm, ⟨89, _⟩ => ⟨S8192x1536, .f32⟩
  | .hbm, ⟨90, _⟩ => ⟨S8192x3072, .f32⟩
  | .hbm, ⟨91, _⟩ => ⟨S8192x3072, .bf16⟩
  | _, _ => ⟨S8192x29184, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩

abbrev nD : Nat := 1
abbrev τ : Topo := Topo.v7x

variable {F : FTy → Type} [FloatOps F]
-- ==== RopeTables.lean ====
abbrev S2x4096 : Shape := ⟨2, ![2, 4096]⟩
abbrev S64 : Shape := ⟨1, ![64]⟩
abbrev S_ : Shape := ⟨0, ![]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S512x1 : Shape := ⟨2, ![512, 1]⟩
abbrev S512x128 : Shape := ⟨2, ![512, 128]⟩

abbrev nBuf : Space → Nat
  | .hbm => 15
  | .vmem => 7
  | .smem => 0
  | _ => 0

abbrev bufTy : (tb : Table) → Fin (tcTables nBuf tb) → BufTy
  | .hbm, ⟨0, _⟩ => ⟨S2x4096, .i32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S1x128, .f32⟩
  | .hbm, ⟨11, _⟩ => ⟨S2x4096, .f32⟩
  | .hbm, ⟨12, _⟩ => ⟨S8192x1, .f32⟩
  | .hbm, ⟨13, _⟩ => ⟨S8192x128, .f32⟩
  | .hbm, ⟨14, _⟩ => ⟨S8192x128, .f32⟩
  | .local _ .vmem, ⟨0, _⟩ => ⟨S512x1, .f32⟩
  | .local _ .vmem, ⟨1, _⟩ => ⟨S512x1, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S2x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeTablesRefIdeal.lean ====
abbrev S2x4096 : Shape := ⟨2, ![2, 4096]⟩
abbrev S64 : Shape := ⟨1, ![64]⟩
abbrev S_ : Shape := ⟨0, ![]⟩
abbrev S2x4096x1 : Shape := ⟨3, ![2, 4096, 1]⟩
abbrev S1x1x64 : Shape := ⟨3, ![1, 1, 64]⟩
abbrev S2x4096x64 : Shape := ⟨3, ![2, 4096, 64]⟩
abbrev S8192x64 : Shape := ⟨2, ![8192, 64]⟩
abbrev S8192x128 : Shape := ⟨2, ![8192, 128]⟩

abbrev nBuf : Space → Nat
  | .hbm => 21
  | .vmem => 0
  | .smem => 0
  | _ => 0

abbrev bufTy : (tb : Table) → Fin (tcTables nBuf tb) → BufTy
  | .hbm, ⟨0, _⟩ => ⟨S2x4096, .i32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S2x4096, .f32⟩
  | .hbm, ⟨10, _⟩ => ⟨S2x4096x1, .f32⟩
  | .hbm, ⟨11, _⟩ => ⟨S1x1x64, .f32⟩
  | .hbm, ⟨12, _⟩ => ⟨S2x4096x64, .f32⟩
  | .hbm, ⟨13, _⟩ => ⟨S2x4096x64, .f32⟩
  | .hbm, ⟨14, _⟩ => ⟨S2x4096x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x128, .f32⟩
  | .hbm, ⟨19, _⟩ => ⟨S8192x64, .f32⟩
  | .hbm, ⟨20, _⟩ => ⟨S8192x128, .f32⟩
  | _, _ => ⟨S2x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Adaln.lean ====
abbrev S2x4096 : Shape := ⟨2, ![2, 4096]⟩
abbrev S4096x24576 : Shape := ⟨2, ![4096, 24576]⟩
abbrev S_ : Shape := ⟨0, ![]⟩
abbrev S2x4096x1 : Shape := ⟨3, ![2, 4096, 1]⟩
abbrev S2x4096x128 : Shape := ⟨3, ![2, 4096, 128]⟩
abbrev S2x24576 : Shape := ⟨2, ![2, 24576]⟩
abbrev S4096x512 : Shape := ⟨2, ![4096, 512]⟩
abbrev S2x512 : Shape := ⟨2, ![2, 512]⟩
abbrev S8x512 : Shape := ⟨2, ![8, 512]⟩
abbrev S64x512 : Shape := ⟨2, ![64, 512]⟩
abbrev S1x64x128 : Shape := ⟨3, ![1, 64, 128]⟩
abbrev S64x128 : Shape := ⟨2, ![64, 128]⟩
abbrev S8x8x512 : Shape := ⟨3, ![8, 8, 512]⟩
abbrev S512 : Shape := ⟨1, ![512]⟩
abbrev S1x512 : Shape := ⟨2, ![1, 512]⟩

abbrev nBuf : Space → Nat
  | .hbm => 14
  | .vmem => 5
  | .smem => 0
  | _ => 0

abbrev bufTy : (tb : Table) → Fin (tcTables nBuf tb) → BufTy
  | .hbm, ⟨0, _⟩ => ⟨S2x4096, .f32⟩
  | .hbm, ⟨1, _⟩ => ⟨S4096x24576, .f32⟩
  | .hbm, ⟨2, _⟩ => ⟨S2x4096, .f32⟩
  | .hbm, ⟨3, _⟩ => ⟨S2x4096, .f32⟩
  | .hbm, ⟨4, _⟩ => ⟨S_, .f32⟩
  | .hbm, ⟨5, _⟩ => ⟨S2x4096, .f32⟩
  | .hbm, ⟨6, _⟩ => ⟨S2x4096, .f32⟩
  | .hbm, ⟨7, _⟩ => ⟨S_, .f32⟩
  | .hbm, ⟨8, _⟩ => ⟨S2x4096, .f32⟩
  | .hbm, ⟨9, _⟩ => ⟨S2x4096, .f32⟩
  | .hbm, ⟨10, _⟩ => ⟨S2x4096, .f32⟩
  | .hbm, ⟨11, _⟩ => ⟨S2x4096x1, .f32⟩
  | .hbm, ⟨12, _⟩ => ⟨S2x4096x128, .f32⟩
  | .hbm, ⟨13, _⟩ => ⟨S2x24576, .f32⟩
  | .local _ .vmem, ⟨0, _⟩ => ⟨S2x4096x128, .f32⟩
  | .local _ .vmem, ⟨1, _⟩ => ⟨S4096x512, .f32⟩
  | .local _ .vmem, ⟨2, _⟩ => ⟨S4096x512, .f32⟩
  | .local _ .vmem, ⟨3, _⟩ => ⟨S2x512, .f32⟩
  | .local _ .vmem, ⟨4, _⟩ => ⟨S2x512, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32 : BitVec 32 := 0#32
  let c64_i32 : BitVec 32 := 64#32
  let v2 : BitVec 32 := Scalar.addi c0_i32 c64_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c64_i32_6 : BitVec 32 := 64#32
  let v10 : BitVec 32 := Scalar.muli arg4 c64_i32_6
  v10
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c64_i32_6 : BitVec 32 := 64#32
  let v10 : BitVec 32 := Scalar.muli arg4 c64_i32_6
  let v11 : BitVec 32 := v10
  let v12 : Index := Scalar.indexCast v11
  let c0_7 : Index := 0#32
  ![v12.toNat, 0]
def k0_off2 (k0_t1 : Fin k0_t1_loop.trips) : Fin 3 → Nat :=
  let c0_8 : Index := 0#32
  let c0_i32 : BitVec 32 := 0#32
  let c1_i32 : BitVec 32 := 1#32
  let arg4 : BitVec 32 := Scf.iv c0_i32 c1_i32 k0_t1
  let c64_i32_6 : BitVec 32 := 64#32
  let v10 : BitVec 32 := Scalar.muli arg4 c64_i32_6
  let v11 : BitVec 32 := v10
  let v14 : Index := Scalar.indexCast v11
  let c0_9 : Index := 0#32
  ![0, v14.toNat, 0]
def k0_off3 (k0_t1 : Fin k0_t1_loop.trips) : Fin 3 → Nat :=
  let c1_11 : Index := 1#32
  let c0_i32 : BitVec 32 := 0#32
  let c1_i32 : BitVec 32 := 1#32
  let arg4 : BitVec 32 := Scf.iv c0_i32 c1_i32 k0_t1
  let c64_i32_6 : BitVec 32 := 64#32
  let v10 : BitVec 32 := Scalar.muli arg4 c64_i32_6
  let v11 : BitVec 32 := v10
  let v22 : Index := Scalar.indexCast v11
  let c0_12 : Index := 0#32
  ![1, v22.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdalnRefIdeal.lean ====
abbrev S2x4096 : Shape := ⟨2, ![2, 4096]⟩
abbrev S4096x24576 : Shape := ⟨2, ![4096, 24576]⟩
abbrev S_ : Shape := ⟨0, ![]⟩
abbrev S2x24576 : Shape := ⟨2, ![2, 24576]⟩

abbrev nBuf : Space → Nat
  | .hbm => 12
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S4096x24576, .f32⟩
  | .hbm, ⟨2, _⟩ => ⟨S2x4096, .f32⟩
  | .hbm, ⟨3, _⟩ => ⟨S2x4096, .f32⟩
  | .hbm, ⟨4, _⟩ => ⟨S_, .f32⟩
  | .hbm, ⟨5, _⟩ => ⟨S2x4096, .f32⟩
  | .hbm, ⟨6, _⟩ => ⟨S2x4096, .f32⟩
  | .hbm, ⟨7, _⟩ => ⟨S_, .f32⟩
  | .hbm, ⟨8, _⟩ => ⟨S2x4096, .f32⟩
  | .hbm, ⟨9, _⟩ => ⟨S2x4096, .f32⟩
  | .hbm, ⟨10, _⟩ => ⟨S2x4096, .f32⟩
  | .hbm, ⟨11, _⟩ => ⟨S2x24576, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== Proof.FoxStep.lean ====
/-
  What one grid point of the flash attention leaves in its scratch and in its output block.

  The body's cases: the first key block of a row of blocks resets the scratch; a key block left of the diagonal is taken
  whole, the one on the diagonal under the causal mask, one right of it not at all; after the last key block the output
  is the weighted sum divided by the sum of the exponentials. Each lemma reads one case's stores back as values.
-/
module

public import proofs.«01_k».proof.Proof.Gen.FoxIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.FoxIdeal.Step

open Cert.FoxIdeal Cert.FoxIdeal.Gen

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl

/-- The largest score after a whole key block. -/
abbrev mWhole (q k : Vec F S512x128 .bf16) (cq : Vec F S1x512x1 .f32) (ck : Vec F S1x1x512 .f32) (m : Vec F S512x1 .f32) :
    Vec F S512x1 .f32 := k0_pay10 q k cq ck m
/-- The sum of exponentials after a whole key block. -/
abbrev lWhole (q k : Vec F S512x128 .bf16) (cq : Vec F S1x512x1 .f32) (ck : Vec F S1x1x512 .f32) (m l : Vec F S512x1 .f32) :
    Vec F S512x1 .f32 := k0_pay13 q k cq ck m l
/-- The weighted sum of values after a whole key block. -/
abbrev aWhole (q k v : Vec F S512x128 .bf16) (cq : Vec F S1x512x1 .f32) (ck : Vec F S1x1x512 .f32) (m : Vec F S512x1 .f32)
    (a : Vec F S512x128 .f32) : Vec F S512x128 .f32 := k0_pay14 q k cq ck m a v
/-- The largest score after the diagonal key block. -/
abbrev mDiag (q k : Vec F S512x128 .bf16) (cq : Vec F S1x512x1 .f32) (ck : Vec F S1x1x512 .f32) (m : Vec F S512x1 .f32) :
    Vec F S512x1 .f32 := k0_pay16 q k cq ck m
/-- The sum of exponentials after the diagonal key block. -/
abbrev lDiag (q k : Vec F S512x128 .bf16) (cq : Vec F S1x512x1 .f32) (ck : Vec F S1x1x512 .f32) (m l : Vec F S512x1 .f32) :
    Vec F S512x1 .f32 := k0_pay19 q k cq ck m l
/-- The weighted sum of values after the diagonal key block. -/
abbrev aDiag (q k v : Vec F S512x128 .bf16) (cq : Vec F S1x512x1 .f32) (ck : Vec F S1x1x512 .f32) (m : Vec F S512x1 .f32)
    (a : Vec F S512x128 .f32) : Vec F S512x128 .f32 := k0_pay6 (k0_pay20 q k cq ck m a) (k0_pay21 q k cq ck m) v
/-- The output block of a row of blocks. -/
abbrev quot (a : Vec F S512x128 .f32) (l : Vec F S512x1 .f32) : Vec F S512x128 .bf16 := k0_pay8 a l

variable (c : Dev nD) (i : grid0.Coords)
  (arg3 : Memref sig .tc .vmem S512x128 .bf16) (harg3 : arg3.IsWhole) (arg4 : Memref sig .tc .vmem S512x128 .bf16) (harg4 : arg4.IsWhole)
  (arg5 : Memref sig .tc .vmem S512x128 .bf16) (harg5 : arg5.IsWhole) (arg6 : Memref sig .tc .vmem S1x512x1 .f32) (harg6 : arg6.IsWhole)
  (arg7 : Memref sig .tc .vmem S1x1x512 .f32) (harg7 : arg7.IsWhole) (arg8 : Memref sig .tc .vmem S512x128 .bf16) (harg8 : arg8.IsWhole)
  (arg9 : Memref sig .tc .vmem S512x1 .f32) (harg9 : arg9.IsWhole) (arg10 : Memref sig .tc .vmem S512x1 .f32) (harg10 : arg10.IsWhole)
  (arg11 : Memref sig .tc .vmem S512x128 .f32) (harg11 : arg11.IsWhole)
  (x0 x1 x2 : Vec F S512x128 .bf16) (x3 : Vec F S1x512x1 .f32) (x4 : Vec F S1x1x512 .f32)
  (xs0 xs1 : Vec F S512x1 .f32) (xs2 : Vec F S512x128 .f32)

theorem a_scratch0 (hc0 : cond0_0 i) (hc1 : ¬cond0_1 i) (hc2 : cond0_2 i) (hc3 : ¬cond0_3 i) :
    sout0_A_0 c i arg3 harg3 arg4 harg4 arg5 harg5 arg6 harg6 arg7 harg7 arg8 harg8 arg9 harg9 arg10 harg10 arg11 harg11 hc0 hc1 hc2 hc3 x0 x1 x2 x3 x4 = mDiag x0 x1 x3 x4 k0_pay1 := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 hc2 hc3 x0 x1 x2 x3 x4)]
  unfold kernelRun0_A
  dsimp only
  sl_unfold_words
  simp only [View.canon_unit_zero (S := S512x1) z2, View.canon_cons_unit_zero (S := S512x1) z2, View.readCov_unit_zero (S := S512x1) _ z2, View.readCov_unit_zero (S := S512x128) _ z2]
  simp only [View.readAt_eq_ld, harg3.read_unread, harg4.read_unread, harg5.read_unread, harg6.read_unread, harg7.read_unread, harg9.read_unread, harg10.read_unread, harg11.read_unread, View.ld_unit_zero (S := S512x128) z2, View.ld_unit_zero (S := S512x1) z2, View.ld_unit_zero (S := S1x512x1) z3, View.ld_unit_zero (S := S1x1x512) z3, k0_pay4, k0_pay5, k0_pay7, shapeCast_self]

theorem a_scratch1 (hc0 : cond0_0 i) (hc1 : ¬cond0_1 i) (hc2 : cond0_2 i) (hc3 : ¬cond0_3 i) :
    sout0_A_1 c i arg3 harg3 arg4 harg4 arg5 harg5 arg6 harg6 arg7 harg7 arg8 harg8 arg9 harg9 arg10 harg10 arg11 harg11 hc0 hc1 hc2 hc3 x0 x1 x2 x3 x4 = lDiag x0 x1 x3 x4 k0_pay1 k0_pay2 := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 hc2 hc3 x0 x1 x2 x3 x4)]
  unfold kernelRun0_A
  dsimp only
  sl_unfold_words
  simp only [View.canon_unit_zero (S := S512x1) z2, View.canon_cons_unit_zero (S := S512x1) z2, View.readCov_unit_zero (S := S512x1) _ z2, View.readCov_unit_zero (S := S512x128) _ z2]
  simp only [View.readAt_eq_ld, harg3.read_unread, harg4.read_unread, harg5.read_unread, harg6.read_unread, harg7.read_unread, harg9.read_unread, harg10.read_unread, harg11.read_unread, View.ld_unit_zero (S := S512x128) z2, View.ld_unit_zero (S := S512x1) z2, View.ld_unit_zero (S := S1x512x1) z3, View.ld_unit_zero (S := S1x1x512) z3, k0_pay4, k0_pay5, k0_pay7, shapeCast_self]

theorem a_scratch2 (hc0 : cond0_0 i) (hc1 : ¬cond0_1 i) (hc2 : cond0_2 i) (hc3 : ¬cond0_3 i) :
    sout0_A_2 c i arg3 harg3 arg4 harg4 arg5 harg5 arg6 harg6 arg7 harg7 arg8 harg8 arg9 harg9 arg10 harg10 arg11 harg11 hc0 hc1 hc2 hc3 x0 x1 x2 x3 x4 = aDiag x0 x1 x2 x3 x4 k0_pay1 k0_pay3 := by
  unfold sout0_A_2
  rw [View.read_writes_eq_canon _ _ _ (scover0_A_2 c i arg3 harg3 arg4 harg4 arg5 harg5 arg6 harg6 arg7 harg7 arg8 harg8 arg9 harg9 arg10 harg10 arg11 harg11 hc0 hc1 hc2 hc3 x0 x1 x2 x3 x4)]
  unfold kernelRun0_A
  dsimp only
  sl_unfold_words
  simp only [View.canon_unit_zero (S := S512x128) z2, View.canon_cons_unit_zero (S := S512x128) z2, View.readCov_unit_zero (S := S512x1) _ z2, View.readCov_unit_zero (S := S512x128) _ z2]
  simp only [View.readAt_eq_ld, harg3.read_unread, harg4.read_unread, harg5.read_unread, harg6.read_unread, harg7.read_unread, harg9.read_unread, harg10.read_unread, harg11.read_unread, View.ld_unit_zero (S := S512x128) z2, View.ld_unit_zero (S := S512x1) z2, View.ld_unit_zero (S := S1x512x1) z3, View.ld_unit_zero (S := S1x1x512) z3, k0_pay4, k0_pay5, k0_pay7, shapeCast_self]

theorem d_scratch0 (hc0 : cond0_0 i) (hc1 : cond0_1 i) (hc2 : ¬cond0_2 i) (hc3 : ¬cond0_3 i) :
    sout0_D_0 c i arg3 harg3 arg4 harg4 arg5 harg5 arg6 harg6 arg7 harg7 arg8 harg8 arg9 harg9 arg10 harg10 arg11 harg11 hc0 hc1 hc2 hc3 x0 x1 x2 x3 x4 = mWhole x0 x1 x3 x4 k0_pay1 := by
  unfold sout0_D_0
  rw [View.read_writes_eq_canon _ _ _ (scover0_D_0 c i arg3 harg3 arg4 harg4 arg5 harg5 arg6 harg6 arg7 harg7 arg8 harg8 arg9 harg9 arg10 harg10 arg11 harg11 hc0 hc1 hc2 hc3 x0 x1 x2 x3 x4)]
  unfold kernelRun0_D
  dsimp only
  sl_unfold_words
  simp only [View.canon_unit_zero (S := S512x1) z2, View.canon_cons_unit_zero (S := S512x1) z2, View.readCov_unit_zero (S := S512x1) _ z2, View.readCov_unit_zero (S := S512x128) _ z2]
  simp only [View.readAt_eq_ld, harg3.read_unread, harg4.read_unread, harg5.read_unread, harg6.read_unread, harg7.read_unread, harg9.read_unread, harg10.read_unread, harg11.read_unread, View.ld_unit_zero (S := S512x128) z2, View.ld_unit_zero (S := S512x1) z2, View.ld_unit_zero (S := S1x512x1) z3, View.ld_unit_zero (S := S1x1x512) z3, k0_pay4, k0_pay5, k0_pay7, shapeCast_self]

theorem d_scratch1 (hc0 : cond0_0 i) (hc1 : cond0_1 i) (hc2 : ¬cond0_2 i) (hc3 : ¬cond0_3 i) :
    sout0_D_1 c i arg3 harg3 arg4 harg4 arg5 harg5 arg6 harg6 arg7 harg7 arg8 harg8 arg9 harg9 arg10 harg10 arg11 harg11 hc0 hc1 hc2 hc3 x0 x1 x2 x3 x4 = lWhole x0 x1 x3 x4 k0_pay1 k0_pay2 := by
  unfold sout0_D_1
  rw [View.read_writes_eq_canon _ _ _ (scover0_D_1 c i arg3 harg3 arg4 harg4 arg5 harg5 arg6 harg6 arg7 harg7 arg8 harg8 arg9 harg9 arg10 harg10 arg11 harg11 hc0 hc1 hc2 hc3 x0 x1 x2 x3 x4)]
  unfold kernelRun0_D
  dsimp only
  sl_unfold_words
  simp only [View.canon_unit_zero (S := S512x1) z2, View.canon_cons_unit_zero (S := S512x1) z2, View.readCov_unit_zero (S := S512x1) _ z2, View.readCov_unit_zero (S := S512x128) _ z2]
  simp only [View.readAt_eq_ld, harg3.read_unread, harg4.read_unread, harg5.read_unread, harg6.read_unread, harg7.read_unread, harg9.read_unread, harg10.read_unread, harg11.read_unread, View.ld_unit_zero (S := S512x128) z2, View.ld_unit_zero (S := S512x1) z2, View.ld_unit_zero (S := S1x512x1) z3, View.ld_unit_zero (S := S1x1x512) z3, k0_pay4, k0_pay5, k0_pay7, shapeCast_self]

theorem d_scratch2 (hc0 : cond0_0 i) (hc1 : cond0_1 i) (hc2 : ¬cond0_2 i) (hc3 : ¬cond0_3 i) :
    sout0_D_2 c i arg3 harg3 arg4 harg4 arg5 harg5 arg6 harg6 arg7 harg7 arg8 harg8 arg9 harg9 arg10 harg10 arg11 harg11 hc0 hc1 hc2 hc3 x0 x1 x2 x3 x4 = aWhole x0 x1 x2 x3 x4 k0_pay1 k0_pay3 := by
  unfold sout0_D_2
  rw [View.read_writes_eq_canon _ _ _ (scover0_D_2 c i arg3 harg3 arg4 harg4 arg5 harg5 arg6 harg6 arg7 harg7 arg8 harg8 arg9 harg9 arg10 harg10 arg11 harg11 hc0 hc1 hc2 hc3 x0 x1 x2 x3 x4)]
  unfold kernelRun0_D
  dsimp only
  sl_unfold_words
  simp only [View.canon_unit_zero (S := S512x128) z2, View.canon_cons_unit_zero (S := S512x128) z2, View.readCov_unit_zero (S := S512x1) _ z2, View.readCov_unit_zero (S := S512x128) _ z2]
  simp only [View.readAt_eq_ld, harg3.read_unread, harg4.read_unread, harg5.read_unread, harg6.read_unread, harg7.read_unread, harg9.read_unread, harg10.read_unread, harg11.read_unread, View.ld_unit_zero (S := S512x128) z2, View.ld_unit_zero (S := S512x1) z2, View.ld_unit_zero (S := S1x512x1) z3, View.ld_unit_zero (S := S1x1x512) z3, k0_pay4, k0_pay5, k0_pay7, shapeCast_self]

theorem e_scratch0 (hc0 : ¬cond0_0 i) (hc1 : ¬cond0_1 i) (hc2 : cond0_2 i) (hc3 : ¬cond0_3 i) :
    sout0_E_0 c i arg3 harg3 arg4 harg4 arg5 harg5 arg6 harg6 arg7 harg7 arg8 harg8 arg9 harg9 arg10 harg10 arg11 harg11 hc0 hc1 hc2 hc3 x0 x1 x2 x3 x4 xs0 xs1 xs2 = mDiag x0 x1 x3 x4 xs0 := by
  unfold sout0_E_0
  rw [View.read_writes_eq_canon _ _ _ (scover0_E_0 c i arg3 harg3 arg4 harg4 arg5 harg5 arg6 harg6 arg7 harg7 arg8 harg8 arg9 harg9 arg10 harg10 arg11 harg11 hc0 hc1 hc2 hc3 x0 x1 x2 x3 x4 xs0 xs1 xs2)]
  unfold kernelRun0_E
  dsimp only
  sl_unfold_words
  simp only [View.canon_unit_zero (S := S512x1) z2, View.canon_cons_unit_zero (S := S512x1) z2, View.readCov_unit_zero (S := S512x1) _ z2, View.readCov_unit_zero (S := S512x128) _ z2]
  simp only [View.readAt_eq_ld, harg3.read_unread, harg4.read_unread, harg5.read_unread, harg6.read_unread, harg7.read_unread, harg9.read_unread, harg10.read_unread, harg11.read_unread, View.ld_unit_zero (S := S512x128) z2, View.ld_unit_zero (S := S512x1) z2, View.ld_unit_zero (S := S1x512x1) z3, View.ld_unit_zero (S := S1x1x512) z3, k0_pay4, k0_pay5, k0_pay7, shapeCast_self]

theorem e_scratch1 (hc0 : ¬cond0_0 i) (hc1 : ¬cond0_1 i) (hc2 : cond0_2 i) (hc3 : ¬cond0_3 i) :
    sout0_E_1 c i arg3 harg3 arg4 harg4 arg5 harg5 arg6 harg6 arg7 harg7 arg8 harg8 arg9 harg9 arg10 harg10 arg11 harg11 hc0 hc1 hc2 hc3 x0 x1 x2 x3 x4 xs0 xs1 xs2 = lDiag x0 x1 x3 x4 xs0 xs1 := by
  unfold sout0_E_1
  rw [View.read_writes_eq_canon _ _ _ (scover0_E_1 c i arg3 harg3 arg4 harg4 arg5 harg5 arg6 harg6 arg7 harg7 arg8 harg8 arg9 harg9 arg10 harg10 arg11 harg11 hc0 hc1 hc2 hc3 x0 x1 x2 x3 x4 xs0 xs1 xs2)]
  unfold kernelRun0_E
  dsimp only
  sl_unfold_words
  simp only [View.canon_unit_zero (S := S512x1) z2, View.canon_cons_unit_zero (S := S512x1) z2, View.readCov_unit_zero (S := S512x1) _ z2, View.readCov_unit_zero (S := S512x128) _ z2]
  simp only [View.readAt_eq_ld, harg3.read_unread, harg4.read_unread, harg5.read_unread, harg6.read_unread, harg7.read_unread, harg9.read_unread, harg10.read_unread, harg11.read_unread, View.ld_unit_zero (S := S512x128) z2, View.ld_unit_zero (S := S512x1) z2, View.ld_unit_zero (S := S1x512x1) z3, View.ld_unit_zero (S := S1x1x512) z3, k0_pay4, k0_pay5, k0_pay7, shapeCast_self]

theorem e_scratch2 (hc0 : ¬cond0_0 i) (hc1 : ¬cond0_1 i) (hc2 : cond0_2 i) (hc3 : ¬cond0_3 i) :
    sout0_E_2 c i arg3 harg3 arg4 harg4 arg5 harg5 arg6 harg6 arg7 harg7 arg8 harg8 arg9 harg9 arg10 harg10 arg11 harg11 hc0 hc1 hc2 hc3 x0 x1 x2 x3 x4 xs0 xs1 xs2 = aDiag x0 x1 x2 x3 x4 xs0 xs2 := by
  unfold sout0_E_2
  rw [View.read_writes_eq_canon _ _ _ (scover0_E_2 c i arg3 harg3 arg4 harg4 arg5 harg5 arg6 harg6 arg7 harg7 arg8 harg8 arg9 harg9 arg10 harg10 arg11 harg11 hc0 hc1 hc2 hc3 x0 x1 x2 x3 x4 xs0 xs1 xs2)]
  unfold kernelRun0_E
  dsimp only
  sl_unfold_words
  simp only [View.canon_unit_zero (S := S512x128) z2, View.canon_cons_unit_zero (S := S512x128) z2, View.readCov_unit_zero (S := S512x1) _ z2, View.readCov_unit_zero (S := S512x128) _ z2]
  simp only [View.readAt_eq_ld, harg3.read_unread, harg4.read_unread, harg5.read_unread, harg6.read_unread, harg7.read_unread, harg9.read_unread, harg10.read_unread, harg11.read_unread, View.ld_unit_zero (S := S512x128) z2, View.ld_unit_zero (S := S512x1) z2, View.ld_unit_zero (S := S1x512x1) z3, View.ld_unit_zero (S := S1x1x512) z3, k0_pay4, k0_pay5, k0_pay7, shapeCast_self]

theorem f_scratch0 (hc0 : ¬cond0_0 i) (hc1 : cond0_1 i) (hc2 : ¬cond0_2 i) (hc3 : ¬cond0_3 i) :
    sout0_F_0 c i arg3 harg3 arg4 harg4 arg5 harg5 arg6 harg6 arg7 harg7 arg8 harg8 arg9 harg9 arg10 harg10 arg11 harg11 hc0 hc1 hc2 hc3 x0 x1 x2 x3 x4 xs0 xs1 xs2 = mWhole x0 x1 x3 x4 xs0 := by
  unfold sout0_F_0
  rw [View.read_writes_eq_canon _ _ _ (scover0_F_0 c i arg3 harg3 arg4 harg4 arg5 harg5 arg6 harg6 arg7 harg7 arg8 harg8 arg9 harg9 arg10 harg10 arg11 harg11 hc0 hc1 hc2 hc3 x0 x1 x2 x3 x4 xs0 xs1 xs2)]
  unfold kernelRun0_F
  dsimp only
  sl_unfold_words
  simp only [View.canon_unit_zero (S := S512x1) z2, View.canon_cons_unit_zero (S := S512x1) z2, View.readCov_unit_zero (S := S512x1) _ z2, View.readCov_unit_zero (S := S512x128) _ z2]
  simp only [View.readAt_eq_ld, harg3.read_unread, harg4.read_unread, harg5.read_unread, harg6.read_unread, harg7.read_unread, harg9.read_unread, harg10.read_unread, harg11.read_unread, View.ld_unit_zero (S := S512x128) z2, View.ld_unit_zero (S := S512x1) z2, View.ld_unit_zero (S := S1x512x1) z3, View.ld_unit_zero (S := S1x1x512) z3, k0_pay4, k0_pay5, k0_pay7, shapeCast_self]

theorem f_scratch1 (hc0 : ¬cond0_0 i) (hc1 : cond0_1 i) (hc2 : ¬cond0_2 i) (hc3 : ¬cond0_3 i) :
    sout0_F_1 c i arg3 harg3 arg4 harg4 arg5 harg5 arg6 harg6 arg7 harg7 arg8 harg8 arg9 harg9 arg10 harg10 arg11 harg11 hc0 hc1 hc2 hc3 x0 x1 x2 x3 x4 xs0 xs1 xs2 = lWhole x0 x1 x3 x4 xs0 xs1 := by
  unfold sout0_F_1
  rw [View.read_writes_eq_canon _ _ _ (scover0_F_1 c i arg3 harg3 arg4 harg4 arg5 harg5 arg6 harg6 arg7 harg7 arg8 harg8 arg9 harg9 arg10 harg10 arg11 harg11 hc0 hc1 hc2 hc3 x0 x1 x2 x3 x4 xs0 xs1 xs2)]
  unfold kernelRun0_F
  dsimp only
  sl_unfold_words
  simp only [View.canon_unit_zero (S := S512x1) z2, View.canon_cons_unit_zero (S := S512x1) z2, View.readCov_unit_zero (S := S512x1) _ z2, View.readCov_unit_zero (S := S512x128) _ z2]
  simp only [View.readAt_eq_ld, harg3.read_unread, harg4.read_unread, harg5.read_unread, harg6.read_unread, harg7.read_unread, harg9.read_unread, harg10.read_unread, harg11.read_unread, View.ld_unit_zero (S := S512x128) z2, View.ld_unit_zero (S := S512x1) z2, View.ld_unit_zero (S := S1x512x1) z3, View.ld_unit_zero (S := S1x1x512) z3, k0_pay4, k0_pay5, k0_pay7, shapeCast_self]

theorem f_scratch2 (hc0 : ¬cond0_0 i) (hc1 : cond0_1 i) (hc2 : ¬cond0_2 i) (hc3 : ¬cond0_3 i) :
    sout0_F_2 c i arg3 harg3 arg4 harg4 arg5 harg5 arg6 harg6 arg7 harg7 arg8 harg8 arg9 harg9 arg10 harg10 arg11 harg11 hc0 hc1 hc2 hc3 x0 x1 x2 x3 x4 xs0 xs1 xs2 = aWhole x0 x1 x2 x3 x4 xs0 xs2 := by
  unfold sout0_F_2
  rw [View.read_writes_eq_canon _ _ _ (scover0_F_2 c i arg3 harg3 arg4 harg4 arg5 harg5 arg6 harg6 arg7 harg7 arg8 harg8 arg9 harg9 arg10 harg10 arg11 harg11 hc0 hc1 hc2 hc3 x0 x1 x2 x3 x4 xs0 xs1 xs2)]
  unfold kernelRun0_F
  dsimp only
  sl_unfold_words
  simp only [View.canon_unit_zero (S := S512x128) z2, View.canon_cons_unit_zero (S := S512x128) z2, View.readCov_unit_zero (S := S512x1) _ z2, View.readCov_unit_zero (S := S512x128) _ z2]
  simp only [View.readAt_eq_ld, harg3.read_unread, harg4.read_unread, harg5.read_unread, harg6.read_unread, harg7.read_unread, harg9.read_unread, harg10.read_unread, harg11.read_unread, View.ld_unit_zero (S := S512x128) z2, View.ld_unit_zero (S := S512x1) z2, View.ld_unit_zero (S := S1x512x1) z3, View.ld_unit_zero (S := S1x1x512) z3, k0_pay4, k0_pay5, k0_pay7, shapeCast_self]

theorem g_scratch0 (hc0 : ¬cond0_0 i) (hc1 : ¬cond0_1 i) (hc2 : cond0_2 i) (hc3 : cond0_3 i) :
    sout0_G_0 c i arg3 harg3 arg4 harg4 arg5 harg5 arg6 harg6 arg7 harg7 arg8 harg8 arg9 harg9 arg10 harg10 arg11 harg11 hc0 hc1 hc2 hc3 x0 x1 x2 x3 x4 xs0 xs1 xs2 = mDiag x0 x1 x3 x4 xs0 := by
  unfold sout0_G_0
  rw [View.read_writes_eq_canon _ _ _ (scover0_G_0 c i arg3 harg3 arg4 harg4 arg5 harg5 arg6 harg6 arg7 harg7 arg8 harg8 arg9 harg9 arg10 harg10 arg11 harg11 hc0 hc1 hc2 hc3 x0 x1 x2 x3 x4 xs0 xs1 xs2)]
  unfold kernelRun0_G
  dsimp only
  sl_unfold_words
  simp only [View.canon_unit_zero (S := S512x1) z2, View.canon_cons_unit_zero (S := S512x1) z2, View.readCov_unit_zero (S := S512x1) _ z2, View.readCov_unit_zero (S := S512x128) _ z2]
  simp only [View.readAt_eq_ld, harg3.read_unread, harg4.read_unread, harg5.read_unread, harg6.read_unread, harg7.read_unread, harg9.read_unread, harg10.read_unread, harg11.read_unread, View.ld_unit_zero (S := S512x128) z2, View.ld_unit_zero (S := S512x1) z2, View.ld_unit_zero (S := S1x512x1) z3, View.ld_unit_zero (S := S1x1x512) z3, k0_pay4, k0_pay5, k0_pay7, shapeCast_self]

theorem g_scratch1 (hc0 : ¬cond0_0 i) (hc1 : ¬cond0_1 i) (hc2 : cond0_2 i) (hc3 : cond0_3 i) :
    sout0_G_1 c i arg3 harg3 arg4 harg4 arg5 harg5 arg6 harg6 arg7 harg7 arg8 harg8 arg9 harg9 arg10 harg10 arg11 harg11 hc0 hc1 hc2 hc3 x0 x1 x2 x3 x4 xs0 xs1 xs2 = lDiag x0 x1 x3 x4 xs0 xs1 := by
  unfold sout0_G_1
  rw [View.read_writes_eq_canon _ _ _ (scover0_G_1 c i arg3 harg3 arg4 harg4 arg5 harg5 arg6 harg6 arg7 harg7 arg8 harg8 arg9 harg9 arg10 harg10 arg11 harg11 hc0 hc1 hc2 hc3 x0 x1 x2 x3 x4 xs0 xs1 xs2)]
  unfold kernelRun0_G
  dsimp only
  sl_unfold_words
  simp only [View.canon_unit_zero (S := S512x1) z2, View.canon_cons_unit_zero (S := S512x1) z2, View.readCov_unit_zero (S := S512x1) _ z2, View.readCov_unit_zero (S := S512x128) _ z2]
  simp only [View.readAt_eq_ld, harg3.read_unread, harg4.read_unread, harg5.read_unread, harg6.read_unread, harg7.read_unread, harg9.read_unread, harg10.read_unread, harg11.read_unread, View.ld_unit_zero (S := S512x128) z2, View.ld_unit_zero (S := S512x1) z2, View.ld_unit_zero (S := S1x512x1) z3, View.ld_unit_zero (S := S1x1x512) z3, k0_pay4, k0_pay5, k0_pay7, shapeCast_self]

theorem g_scratch2 (hc0 : ¬cond0_0 i) (hc1 : ¬cond0_1 i) (hc2 : cond0_2 i) (hc3 : cond0_3 i) :
    sout0_G_2 c i arg3 harg3 arg4 harg4 arg5 harg5 arg6 harg6 arg7 harg7 arg8 harg8 arg9 harg9 arg10 harg10 arg11 harg11 hc0 hc1 hc2 hc3 x0 x1 x2 x3 x4 xs0 xs1 xs2 = aDiag x0 x1 x2 x3 x4 xs0 xs2 := by
  unfold sout0_G_2
  rw [View.read_writes_eq_canon _ _ _ (scover0_G_2 c i arg3 harg3 arg4 harg4 arg5 harg5 arg6 harg6 arg7 harg7 arg8 harg8 arg9 harg9 arg10 harg10 arg11 harg11 hc0 hc1 hc2 hc3 x0 x1 x2 x3 x4 xs0 xs1 xs2)]
  unfold kernelRun0_G
  dsimp only
  sl_unfold_words
  simp only [View.canon_unit_zero (S := S512x128) z2, View.canon_cons_unit_zero (S := S512x128) z2, View.readCov_unit_zero (S := S512x1) _ z2, View.readCov_unit_zero (S := S512x128) _ z2]
  simp only [View.readAt_eq_ld, harg3.read_unread, harg4.read_unread, harg5.read_unread, harg6.read_unread, harg7.read_unread, harg9.read_unread, harg10.read_unread, harg11.read_unread, View.ld_unit_zero (S := S512x128) z2, View.ld_unit_zero (S := S512x1) z2, View.ld_unit_zero (S := S1x512x1) z3, View.ld_unit_zero (S := S1x1x512) z3, k0_pay4, k0_pay5, k0_pay7, shapeCast_self]

theorem c_out (hc0 : ¬cond0_0 i) (hc1 : ¬cond0_1 i) (hc2 : ¬cond0_2 i) (hc3 : cond0_3 i) :
    out0_C_5 c i arg3 harg3 arg4 harg4 arg5 harg5 arg6 harg6 arg7 harg7 arg8 harg8 arg9 harg9 arg10 harg10 arg11 harg11 hc0 hc1 hc2 hc3 x0 x1 x2 x3 x4 xs0 xs1 xs2 = quot xs2 xs1 := by
  unfold out0_C_5
  rw [View.read_writes_eq_canon _ _ _ (cover0_C_5 c i arg3 harg3 arg4 harg4 arg5 harg5 arg6 harg6 arg7 harg7 arg8 harg8 arg9 harg9 arg10 harg10 arg11 harg11 hc0 hc1 hc2 hc3 x0 x1 x2 x3 x4 xs0 xs1 xs2)]
  unfold kernelRun0_C
  dsimp only
  sl_unfold_words
  simp only [View.canon_unit_zero (S := S512x128) z2, View.canon_cons_unit_zero (S := S512x128) z2, View.readCov_unit_zero (S := S512x1) _ z2, View.readCov_unit_zero (S := S512x128) _ z2]
  simp only [View.readAt_eq_ld, harg3.read_unread, harg4.read_unread, harg5.read_unread, harg6.read_unread, harg7.read_unread, harg9.read_unread, harg10.read_unread, harg11.read_unread, View.ld_unit_zero (S := S512x128) z2, View.ld_unit_zero (S := S512x1) z2, View.ld_unit_zero (S := S1x512x1) z3, View.ld_unit_zero (S := S1x1x512) z3, k0_pay4, k0_pay5, k0_pay7, shapeCast_self]

theorem g_out (hc0 : ¬cond0_0 i) (hc1 : ¬cond0_1 i) (hc2 : cond0_2 i) (hc3 : cond0_3 i) :
    out0_G_5 c i arg3 harg3 arg4 harg4 arg5 harg5 arg6 harg6 arg7 harg7 arg8 harg8 arg9 harg9 arg10 harg10 arg11 harg11 hc0 hc1 hc2 hc3 x0 x1 x2 x3 x4 xs0 xs1 xs2 = quot (aDiag x0 x1 x2 x3 x4 xs0 xs2) (lDiag x0 x1 x3 x4 xs0 xs1) := by
  unfold out0_G_5
  rw [View.read_writes_eq_canon _ _ _ (cover0_G_5 c i arg3 harg3 arg4 harg4 arg5 harg5 arg6 harg6 arg7 harg7 arg8 harg8 arg9 harg9 arg10 harg10 arg11 harg11 hc0 hc1 hc2 hc3 x0 x1 x2 x3 x4 xs0 xs1 xs2)]
  unfold kernelRun0_G
  dsimp only
  sl_unfold_words
  simp only [View.canon_unit_zero (S := S512x128) z2, View.canon_cons_unit_zero (S := S512x128) z2, View.readCov_unit_zero (S := S512x1) _ z2, View.readCov_unit_zero (S := S512x128) _ z2]
  simp only [View.readAt_eq_ld, harg3.read_unread, harg4.read_unread, harg5.read_unread, harg6.read_unread, harg7.read_unread, harg9.read_unread, harg10.read_unread, harg11.read_unread, View.ld_unit_zero (S := S512x128) z2, View.ld_unit_zero (S := S512x1) z2, View.ld_unit_zero (S := S1x512x1) z3, View.ld_unit_zero (S := S1x1x512) z3, k0_pay4, k0_pay5, k0_pay7, shapeCast_self]

end Cert.FoxIdeal.Step

end

end
-- ==== Proof.FoxPay.lean ====
/-
  The block step of the flash attention, entry by entry, over the extended reals.
-/
module

public import proofs.«01_k».proof.Proof.FoxStep
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.FoxIdeal.Step

open Cert.FoxIdeal Cert.FoxIdeal.Gen Idealize.ShloMosaic.Pointwise

variable (q k v : Vec Ideal S512x128 .bf16) (cq : Vec Ideal S1x512x1 .f32) (ck : Vec Ideal S1x1x512 .f32)
  (m l : Vec Ideal S512x1 .f32) (a : Vec Ideal S512x128 .f32)

/-- The block's score of query `r` against key `c`. -/
def sc (r c : Fin 512) : EReal := (∑ d : Fin 128, q (ix2 r d) * k (ix2 c d)) + cq (ix3 0 r 0) - ck (ix3 0 0 c)

/-- The same score under the causal mask of a block on the diagonal. -/
def scm (r c : Fin 512) : EReal := if c.val ≤ r.val then sc q k cq ck r c else ⊥

theorem ofBits_bot : Ideal.ofBits .f32 0xFF800000#32 = ⊥ := by simp [Ideal.ofBits, Ideal.ieee]

theorem score_whole (r c : Fin 512) : k0_pay9 q k cq ck (ix2 r c) = sc q k cq ck r c := by
  pointwise [k0_pay9, sc]

theorem score_diag (r c : Fin 512) : k0_pay15 q k cq ck (ix2 r c) = scm q k cq ck r c := by
  have hr := r.isLt
  have hc := c.isLt
  pointwise [k0_pay15, scm, sc]
  rw [ofBits_bot, WordCmp.cmpi_sle_ofNat (by omega) (by omega)]
  by_cases h : c.val ≤ r.val <;> simp [h, Scalar.select]

theorem mWhole_apply (r : Fin 512) :
    mWhole q k cq ck m (ix2 r 0) = max (m (ix2 r 0)) (Finset.univ.sup fun c : Fin 512 => sc q k cq ck r c) := by
  pointwise [mWhole, k0_pay10, score_whole]
  rw [ofBits_bot]
  rfl

theorem lWhole_apply (r : Fin 512) :
    lWhole q k cq ck m l (ix2 r 0) = Ideal.exp (m (ix2 r 0) - mWhole q k cq ck m (ix2 r 0)) * l (ix2 r 0)
      + ∑ c : Fin 512, Ideal.exp (sc q k cq ck r c - mWhole q k cq ck m (ix2 r 0)) := by
  pointwise [lWhole, mWhole, k0_pay13, k0_pay11, k0_pay12, score_whole]

theorem aWhole_apply (r : Fin 512) (d : Fin 128) :
    aWhole q k v cq ck m a (ix2 r d) = Ideal.exp (m (ix2 r 0) - mWhole q k cq ck m (ix2 r 0)) * a (ix2 r d)
      + ∑ c : Fin 512, Ideal.exp (sc q k cq ck r c - mWhole q k cq ck m (ix2 r 0)) * v (ix2 c d) := by
  pointwise [aWhole, mWhole, k0_pay14, k0_pay11, k0_pay12, score_whole]

theorem mDiag_apply (r : Fin 512) :
    mDiag q k cq ck m (ix2 r 0) = max (m (ix2 r 0)) (Finset.univ.sup fun c : Fin 512 => scm q k cq ck r c) := by
  pointwise [mDiag, k0_pay16, score_diag]
  rw [ofBits_bot]
  rfl

theorem lDiag_apply (r : Fin 512) :
    lDiag q k cq ck m l (ix2 r 0) = Ideal.exp (m (ix2 r 0) - mDiag q k cq ck m (ix2 r 0)) * l (ix2 r 0)
      + ∑ c : Fin 512, Ideal.exp (scm q k cq ck r c - mDiag q k cq ck m (ix2 r 0)) := by
  pointwise [lDiag, mDiag, k0_pay19, k0_pay17, k0_pay18, score_diag]

theorem aDiag_apply (r : Fin 512) (d : Fin 128) :
    aDiag q k v cq ck m a (ix2 r d) = Ideal.exp (m (ix2 r 0) - mDiag q k cq ck m (ix2 r 0)) * a (ix2 r d)
      + ∑ c : Fin 512, Ideal.exp (scm q k cq ck r c - mDiag q k cq ck m (ix2 r 0)) * v (ix2 c d) := by
  pointwise [aDiag, mDiag, k0_pay6, k0_pay20, k0_pay21, k0_pay17, k0_pay18, score_diag]

theorem quot_apply (r : Fin 512) (d : Fin 128) : quot a l (ix2 r d) = Ideal.div (a (ix2 r d)) (l (ix2 r 0)) := by
  pointwise [quot, k0_pay8]

theorem m0_apply (r : Fin 512) : (k0_pay1 (F := Ideal)) (ix2 r 0) = ⊥ := by
  pointwise [k0_pay1]
  exact ofBits_bot
theorem l0_apply (r : Fin 512) : (k0_pay2 (F := Ideal)) (ix2 r 0) = 0 := by
  pointwise [k0_pay2]
theorem a0_apply (r : Fin 512) (d : Fin 128) : (k0_pay3 (F := Ideal)) (ix2 r d) = 0 := by
  pointwise [k0_pay3]

end Cert.FoxIdeal.Step

end

end
-- ==== Proof.FoxBlocks.lean ====
/-
  The blocks the flash attention's windows stage, entry by entry, in the arguments.

  Grid point `t` is head-and-batch `t / 64`, query block `t / 8 % 8`, key block `t % 8`; the key block staged is the
  smaller of the two, so that no block right of the diagonal is fetched.
-/
module

public import proofs.«01_k».proof.Proof.FoxPay

@[expose] public section

set_option maxRecDepth 16384

noncomputable section

open Idealize.ShloMosaic Idealize.ShloMosaic.TcCoe Idealize.SL.Sem

namespace Cert.FoxIdeal.Blocks

open Cert.FoxIdeal Cert.FoxIdeal.Gen Idealize.ShloMosaic.Pointwise

/-- The queries and keys at natural-number coordinates. -/
def qkAt (x : S8192x2048.Idx → EReal) (r c : ℕ) : EReal := x (ix2 (Fin.ofNat 8192 r) (Fin.ofNat 2048 c))
/-- The projected stream, which holds the values, at natural-number coordinates. -/
def zAt (x : S8192x29184.Idx → EReal) (r c : ℕ) : EReal := x (ix2 (Fin.ofNat 8192 r) (Fin.ofNat 29184 c))
/-- The cumulative log-gates at natural-number coordinates. -/
def cAt (x : S2x8x4096.Idx → EReal) (b h q : ℕ) : EReal := x (ix3 (Fin.ofNat 2 b) (Fin.ofNat 8 h) (Fin.ofNat 4096 q))

variable (m : (ℓ : Loc nD τ sig) → Buf (Elt Ideal) ℓ)

abbrev aQK (c : Dev nD) : S8192x2048.Idx → EReal := m ((c : Thread nD τ).loc main_arg0)
abbrev aZ (c : Dev nD) : S8192x29184.Idx → EReal := m ((c : Thread nD τ).loc main_arg1)
abbrev aC (c : Dev nD) : S2x8x4096.Idx → EReal := m ((c : Thread nD τ).loc main_arg2)

theorem ind0 : ∀ t : Fin grid0.N, win0_0.index t 0 = 8 * (t.val / 512) + t.val / 8 % 8 ∧ win0_0.index t 1 = t.val / 64 % 8 := by decide +kernel
theorem ind1 : ∀ t : Fin grid0.N, win0_1.index t 0 = 8 * (t.val / 512) + min (t.val / 8 % 8) (t.val % 8) ∧ win0_1.index t 1 = 8 + t.val / 64 % 8 := by decide +kernel
theorem ind2 : ∀ t : Fin grid0.N, win0_2.index t 0 = 8 * (t.val / 512) + min (t.val / 8 % 8) (t.val % 8) ∧ win0_2.index t 1 = 92 + t.val / 64 % 8 := by decide +kernel
theorem ind3 : ∀ t : Fin grid0.N, win0_3.index t 0 = t.val / 64 ∧ win0_3.index t 1 = t.val / 8 % 8 ∧ win0_3.index t 2 = 0 := by decide +kernel
theorem ind4 : ∀ t : Fin grid0.N, win0_4.index t 0 = t.val / 64 ∧ win0_4.index t 1 = 0 ∧ win0_4.index t 2 = min (t.val / 8 % 8) (t.val % 8) := by decide +kernel
theorem ind5 : ∀ t : Fin grid0.N, win0_5.index t 0 = 8 * (t.val / 512) + t.val / 8 % 8 ∧ win0_5.index t 1 = t.val / 64 % 8 := by decide +kernel

theorem lt_N (t : Fin cfg0.N) : t.val < 1024 := lt_of_lt_of_eq t.isLt (show cfg0.N = 1024 from N_0)

theorem blk0 (c : Dev nD) (t : Fin cfg0.N) (r : Fin 512) (d : Fin 128) :
    (iblk m c 0 t : Vec Ideal S512x128 .bf16) (ix2 r d)
      = qkAt (aQK m c) (4096 * (t.val / 512) + 512 * (t.val / 8 % 8) + r.val) (128 * (t.val / 64 % 8) + d.val) := by
  have hi := ind0 t
  have ht := lt_N t
  have hr := r.isLt
  have hd := d.isLt
  unfold iblk qkAt
  rw [View.read_apply]
  show V m c main_arg0 _ = _
  rw [V_main_arg0]
  unfold aQK
  congr 1
  funext a
  apply Fin.ext
  match a with
  | ⟨0, _⟩ => show win0_0.index t 0 * 512 + 1 * r.val = (_ : ℕ) % 8192; rw [hi.1]; omega
  | ⟨1, _⟩ => show win0_0.index t 1 * 128 + 1 * d.val = (_ : ℕ) % 2048; rw [hi.2]; omega

theorem blk1 (c : Dev nD) (t : Fin cfg0.N) (r : Fin 512) (d : Fin 128) :
    (iblk m c 1 t : Vec Ideal S512x128 .bf16) (ix2 r d)
      = qkAt (aQK m c) (4096 * (t.val / 512) + (512 * min (t.val / 8 % 8) (t.val % 8) + r.val)) (1024 + 128 * (t.val / 64 % 8) + d.val) := by
  have hi := ind1 t
  have ht := lt_N t
  have hr := r.isLt
  have hd := d.isLt
  unfold iblk qkAt
  rw [View.read_apply]
  show V m c main_arg0 _ = _
  rw [V_main_arg0]
  unfold aQK
  congr 1
  funext a
  apply Fin.ext
  match a with
  | ⟨0, _⟩ => show win0_1.index t 0 * 512 + 1 * r.val = (_ : ℕ) % 8192; rw [hi.1]; omega
  | ⟨1, _⟩ => show win0_1.index t 1 * 128 + 1 * d.val = (_ : ℕ) % 2048; rw [hi.2]; omega

theorem blk2 (c : Dev nD) (t : Fin cfg0.N) (r : Fin 512) (d : Fin 128) :
    (iblk m c 2 t : Vec Ideal S512x128 .bf16) (ix2 r d)
      = zAt (aZ m c) (4096 * (t.val / 512) + (512 * min (t.val / 8 % 8) (t.val % 8) + r.val)) (11776 + 128 * (t.val / 64 % 8) + d.val) := by
  have hi := ind2 t
  have ht := lt_N t
  have hr := r.isLt
  have hd := d.isLt
  unfold iblk zAt
  rw [View.read_apply]
  show V m c main_arg1 _ = _
  rw [V_main_arg1]
  unfold aZ
  congr 1
  funext a
  apply Fin.ext
  match a with
  | ⟨0, _⟩ => show win0_2.index t 0 * 512 + 1 * r.val = (_ : ℕ) % 8192; rw [hi.1]; omega
  | ⟨1, _⟩ => show win0_2.index t 1 * 128 + 1 * d.val = (_ : ℕ) % 29184; rw [hi.2]; omega

theorem V_v0 (c : Dev nD) : V m c main_v0 = shapeCast S16x1x4096 (aC m c) shapeCasts_S2x8x4096_S16x1x4096 := by
  unfold V
  simp [hostOps0]
  rfl

theorem V_v1 (c : Dev nD) : V m c main_v1 = shapeCast S16x4096x1 (aC m c) shapeCasts_S2x8x4096_S16x4096x1 := by
  unfold V
  simp [hostOps0]
  rfl

theorem blk3 (c : Dev nD) (t : Fin cfg0.N) (r : Fin 512) :
    (iblk m c 3 t : Vec Ideal S1x512x1 .f32) (ix3 0 r 0)
      = cAt (aC m c) (t.val / 512) (t.val / 64 % 8) (512 * (t.val / 8 % 8) + r.val) := by
  have hi := ind3 t
  have ht := lt_N t
  have hr := r.isLt
  unfold iblk cAt
  rw [View.read_apply]
  show V m c main_v1 _ = _
  rw [V_v1]
  refine shapeCast_apply _ _ _ _ ?_
  rw [Shape.rowMajor_val_three, Shape.rowMajor_val_three]
  show ((_ : ℕ) % 2 * 8 + (_ : ℕ) % 8) * 4096 + (_ : ℕ) % 4096
    = ((win0_3.index t 0 * 1 + 1 * 0) * 4096 + (win0_3.index t 1 * 512 + 1 * r.val)) * 1 + (win0_3.index t 2 * 1 + 1 * 0)
  rw [hi.1, hi.2.1, hi.2.2]
  omega

theorem blk4 (c : Dev nD) (t : Fin cfg0.N) (r : Fin 512) :
    (iblk m c 4 t : Vec Ideal S1x1x512 .f32) (ix3 0 0 r)
      = cAt (aC m c) (t.val / 512) (t.val / 64 % 8) (512 * min (t.val / 8 % 8) (t.val % 8) + r.val) := by
  have hi := ind4 t
  have ht := lt_N t
  have hr := r.isLt
  unfold iblk cAt
  rw [View.read_apply]
  show V m c main_v0 _ = _
  rw [V_v0]
  refine shapeCast_apply _ _ _ _ ?_
  rw [Shape.rowMajor_val_three, Shape.rowMajor_val_three]
  show ((_ : ℕ) % 2 * 8 + (_ : ℕ) % 8) * 4096 + (_ : ℕ) % 4096
    = ((win0_4.index t 0 * 1 + 1 * 0) * 1 + (win0_4.index t 1 * 1 + 1 * 0)) * 4096 + (win0_4.index t 2 * 512 + 1 * r.val)
  rw [hi.1, hi.2.1, hi.2.2]
  omega

end Cert.FoxIdeal.Blocks

end

end
-- ==== Proof.FoxMath.lean ====
/-
  Softmax taken block by block, over the extended reals.

  A row of scores `s 0, s 1, …` and one column of values `v 0, v 1, …` are read in blocks of any length. What is kept
  between the blocks is the largest score so far, the sum of `exp (s k − largest)` and the sum of those exponentials
  times the values. Taking one more block rescales both sums by `exp (old largest − new largest)`. This file says that
  the three numbers kept are, after any number of scores, the plain ones over all the scores read.
-/
module

public import Idealize.ShloMosaic.PureOps.Ideal
public import Idealize.ShloMosaic.PureOps.Ideal.Laws

@[expose] public section

noncomputable section

open Idealize.ShloMosaic

namespace Cert.Softmax

/-- The largest of the first `n` scores (`⊥` for none). -/
def top (s : ℕ → EReal) (n : ℕ) : EReal := (Finset.range n).sup s

/-- The sum of the first `n` exponentials, each taken relative to the largest score. -/
def den (s : ℕ → EReal) (n : ℕ) : EReal := ∑ k ∈ Finset.range n, Ideal.exp (s k - top s n)

/-- The sum of the first `n` values, each weighted by its exponential. -/
def num (s v : ℕ → EReal) (n : ℕ) : EReal := ∑ k ∈ Finset.range n, Ideal.exp (s k - top s n) * v k

theorem top_zero (s : ℕ → EReal) : top s 0 = ⊥ := rfl
theorem den_zero (s : ℕ → EReal) : den s 0 = 0 := rfl
theorem num_zero (s v : ℕ → EReal) : num s v 0 = 0 := rfl

theorem le_top (s : ℕ → EReal) {n k : ℕ} (h : k < n) : s k ≤ top s n :=
  Finset.le_sup (f := s) (Finset.mem_range.mpr h)

theorem top_mono (s : ℕ → EReal) {n m : ℕ} (h : n ≤ m) : top s n ≤ top s m :=
  Finset.sup_mono (Finset.range_subset_range.mpr h)

theorem top_ne_top (s : ℕ → EReal) (hs : ∀ k, s k ≠ ⊤) (n : ℕ) : top s n ≠ ⊤ := by
  have : top s n < ⊤ := (Finset.sup_lt_iff (bot_lt_top)).mpr fun k _ => lt_top_iff_ne_top.mpr (hs k)
  exact this.ne

/-- One more block of `b` scores: the new largest. -/
theorem top_step (s : ℕ → EReal) (n b : ℕ) :
    max (top s n) (Finset.univ.sup fun c : Fin b => s (n + c)) = top s (n + b) := by
  apply le_antisymm
  · refine max_le (top_mono s (Nat.le_add_right _ _)) (Finset.sup_le fun c _ => le_top s ?_)
    have := c.isLt; omega
  · refine Finset.sup_le fun k hk => ?_
    rw [Finset.mem_range] at hk
    by_cases h : k < n
    · exact (le_top s h).trans (le_max_left _ _)
    · refine le_trans ?_ (le_max_right _ _)
      have hb : k - n < b := by omega
      have := Finset.le_sup (f := fun c : Fin b => s (n + c)) (Finset.mem_univ ⟨k - n, hb⟩)
      simpa [Nat.add_sub_cancel' (Nat.le_of_not_lt h)] using this

/-- Rescaling an exponential from one largest score to a larger one. -/
theorem exp_rescale {x p q : EReal} (hx : x ≤ p) (hp : p ≤ q) (hq : q ≠ ⊤) :
    Ideal.exp (p - q) * Ideal.exp (x - p) = Ideal.exp (x - q) := by
  induction q using EReal.rec with
  | top => exact absurd rfl hq
  | bot =>
    obtain rfl : p = ⊥ := le_bot_iff.mp hp
    obtain rfl : x = ⊥ := le_bot_iff.mp hx
    simp [EReal.bot_sub]
  | coe q =>
    induction p using EReal.rec with
    | top => exact absurd hp (by simp)
    | bot =>
      obtain rfl : x = ⊥ := le_bot_iff.mp hx
      simp [EReal.bot_sub]
    | coe p =>
      induction x using EReal.rec with
      | top => exact absurd hx (by simp)
      | bot => simp [EReal.bot_sub]
      | coe x =>
        rw [← EReal.coe_sub, ← EReal.coe_sub, ← EReal.coe_sub, Ideal.exp_coe, Ideal.exp_coe, Ideal.exp_coe,
          ← EReal.coe_mul, ← Real.exp_add]
        congr 2; ring

theorem exp_nonneg (x : EReal) : 0 ≤ Ideal.exp x := by
  induction x using EReal.rec with
  | top => simp
  | bot => simp
  | coe x => rw [Ideal.exp_coe]; exact_mod_cast (Real.exp_pos x).le

theorem exp_ne_top {x : EReal} (h : x ≠ ⊤) : Ideal.exp x ≠ ⊤ := by
  induction x using EReal.rec with
  | top => exact absurd rfl h
  | bot => simp
  | coe x => rw [Ideal.exp_coe]; exact EReal.coe_ne_top _

theorem sub_ne_top {p q : EReal} (hp : p ≠ ⊤) (hpq : p ≤ q) : p - q ≠ ⊤ := by
  induction q using EReal.rec with
  | top => induction p using EReal.rec <;> simp_all
  | bot => obtain rfl : p = ⊥ := le_bot_iff.mp hpq; simp [EReal.bot_sub]
  | coe q =>
    induction p using EReal.rec with
    | top => exact absurd rfl hp
    | bot => simp [EReal.bot_sub]
    | coe p => rw [← EReal.coe_sub]; exact EReal.coe_ne_top _

/-- A nonnegative finite factor goes into a sum. -/
theorem mul_sum {ι : Type} (c : EReal) (h0 : 0 ≤ c) (ht : c ≠ ⊤) (t : Finset ι) (f : ι → EReal) :
    c * ∑ k ∈ t, f k = ∑ k ∈ t, c * f k := by
  classical
  induction t using Finset.induction_on with
  | empty => simp
  | insert a t ha ih =>
    rw [Finset.sum_insert ha, Finset.sum_insert ha, EReal.left_distrib_of_nonneg_of_ne_top h0 ht, ih]

/-- One more block of `b` scores: the new sum of exponentials. -/
theorem den_step (s : ℕ → EReal) (hs : ∀ k, s k ≠ ⊤) (n b : ℕ) :
    Ideal.exp (top s n - top s (n + b)) * den s n + (∑ c : Fin b, Ideal.exp (s (n + c) - top s (n + b)))
      = den s (n + b) := by
  have hle := top_mono s (Nat.le_add_right n b)
  unfold den
  rw [mul_sum _ (exp_nonneg _) (exp_ne_top (sub_ne_top (top_ne_top s hs n) hle)),
    Finset.sum_range_add, Finset.sum_range (fun x => Ideal.exp (s (n + x) - top s (n + b)))]
  congr 1
  refine Finset.sum_congr rfl fun k hk => ?_
  exact exp_rescale (le_top s (Finset.mem_range.mp hk)) hle (top_ne_top s hs _)

/-- One more block of `b` scores: the new weighted sum of values. -/
theorem num_step (s v : ℕ → EReal) (hs : ∀ k, s k ≠ ⊤) (n b : ℕ) :
    Ideal.exp (top s n - top s (n + b)) * num s v n
        + (∑ c : Fin b, Ideal.exp (s (n + c) - top s (n + b)) * v (n + c))
      = num s v (n + b) := by
  have hle := top_mono s (Nat.le_add_right n b)
  unfold num
  rw [mul_sum _ (exp_nonneg _) (exp_ne_top (sub_ne_top (top_ne_top s hs n) hle)),
    Finset.sum_range_add, Finset.sum_range (fun x => Ideal.exp (s (n + x) - top s (n + b)) * v (n + x))]
  congr 1
  refine Finset.sum_congr rfl fun k hk => ?_
  rw [← mul_assoc, exp_rescale (le_top s (Finset.mem_range.mp hk)) hle (top_ne_top s hs _)]

/-- Scores that are `⊥` from `n` on change neither the largest nor the sums. -/
theorem top_tail (s : ℕ → EReal) {n N : ℕ} (h : n ≤ N) (hb : ∀ k, n ≤ k → s k = ⊥) : top s N = top s n := by
  refine le_antisymm (Finset.sup_le fun k _ => ?_) (top_mono s h)
  by_cases hk : k < n
  · exact le_top s hk
  · rw [hb k (Nat.le_of_not_lt hk)]; exact bot_le

theorem exp_bot_sub (x : EReal) : Ideal.exp (⊥ - x) = 0 := by rw [EReal.bot_sub]; rfl

theorem den_tail (s : ℕ → EReal) {n N : ℕ} (h : n ≤ N) (hb : ∀ k, n ≤ k → s k = ⊥) : den s N = den s n := by
  unfold den
  rw [top_tail s h hb]
  refine (Finset.sum_subset (Finset.range_subset_range.mpr h) fun k _ hk => ?_).symm
  rw [hb k (by simpa using hk), exp_bot_sub]

theorem num_tail (s v : ℕ → EReal) {n N : ℕ} (h : n ≤ N) (hb : ∀ k, n ≤ k → s k = ⊥) : num s v N = num s v n := by
  unfold num
  rw [top_tail s h hb]
  refine (Finset.sum_subset (Finset.range_subset_range.mpr h) fun k _ hk => ?_).symm
  rw [hb k (by simpa using hk), exp_bot_sub, zero_mul]

theorem exp_real {x : EReal} (h : x ≠ ⊤) : ∃ r : ℝ, 0 ≤ r ∧ Ideal.exp x = (r : EReal) := by
  induction x using EReal.rec with
  | top => exact absurd rfl h
  | bot => exact ⟨0, le_rfl, rfl⟩
  | coe x => exact ⟨Real.exp x, (Real.exp_pos x).le, rfl⟩

/-- With one score a real number and none `⊤`, the sum of exponentials is a positive real number. -/
theorem den_pos (s : ℕ → EReal) (hs : ∀ k, s k ≠ ⊤) {n k : ℕ} (hk : k < n) (hb : s k ≠ ⊥) :
    ∃ r : ℝ, r ≠ 0 ∧ den s n = (r : EReal) := by
  choose r hr0 hr using fun k : ℕ => show ∃ r : ℝ, 0 ≤ r ∧ (k < n → Ideal.exp (s k - top s n) = (r : EReal)) from by
    by_cases h : k < n
    · obtain ⟨r, h0, h1⟩ := exp_real (sub_ne_top (hs k) (le_top s h))
      exact ⟨r, h0, fun _ => h1⟩
    · exact ⟨0, le_rfl, fun h' => absurd h' h⟩
  refine ⟨∑ k ∈ Finset.range n, r k, ?_, ?_⟩
  · have hpos : 0 < r k := by
      refine lt_of_le_of_ne (hr0 k) fun h0 => ?_
      have h := hr k hk
      rw [← h0] at h
      have ht : top s n ≠ ⊥ := fun ht => hb (le_bot_iff.mp (ht ▸ le_top s hk))
      lift top s n to ℝ using ⟨top_ne_top s hs n, ht⟩ with t
      lift s k to ℝ using ⟨hs k, hb⟩ with x
      rw [← EReal.coe_sub, Ideal.exp_coe] at h
      exact (Real.exp_pos _).ne' (by exact_mod_cast h)
    exact (Finset.sum_pos' (fun i _ => hr0 i) ⟨k, Finset.mem_range.mpr hk, hpos⟩).ne'
  · unfold den
    rw [Finset.sum_congr rfl fun k hk => hr k (Finset.mem_range.mp hk)]
    induction n with
    | zero => simp
    | succ n _ => exact (map_sum (⟨⟨Real.toEReal, EReal.coe_zero⟩, EReal.coe_add⟩ : ℝ →+ EReal) r _).symm

/-- Dividing the weighted sum once is dividing every weight. -/
theorem num_div (s v : ℕ → EReal) (hs : ∀ k, s k ≠ ⊤) {n k : ℕ} (hk : k < n) (hb : s k ≠ ⊥) :
    Ideal.div (num s v n) (den s n)
      = ∑ k ∈ Finset.range n, Ideal.div (Ideal.exp (s k - top s n)) (den s n) * v k := by
  obtain ⟨r, hr, hd⟩ := den_pos s hs hk hb
  rw [hd, Ideal.div_coe hr]
  unfold num
  by_cases h0 : 0 ≤ (1 / r)
  · rw [mul_comm, mul_sum _ (by exact_mod_cast h0) (EReal.coe_ne_top _)]
    refine Finset.sum_congr rfl fun k _ => ?_
    rw [Ideal.div_coe hr, ← mul_assoc, mul_comm (((1 / r : ℝ)) : EReal)]
  · exfalso
    have : (0 : EReal) ≤ (r : EReal) := by rw [← hd]; exact Finset.sum_nonneg fun k _ => exp_nonneg _
    exact h0 (one_div_nonneg.mpr (by exact_mod_cast this))

end Cert.Softmax

end

end
-- ==== Proof.FoxRun.lean ====
/-
  What the flash attention's scratch and output hold after every grid point: the running maximum, the running sum and
  the running weighted sum over the keys taken so far.
-/
module

public import proofs.«01_k».proof.Proof.FoxBlocks
public import proofs.«01_k».proof.Proof.FoxMath
public import proofs.«01_k».proof.Proof.Gen.FoxIdeal.Value

@[expose] public section

set_option maxRecDepth 16384

noncomputable section

open Idealize.ShloMosaic Idealize.ShloMosaic.TcCoe Idealize.SL.Sem

namespace Cert.FoxIdeal.Blocks

open Cert.FoxIdeal Cert.FoxIdeal.Gen Cert.FoxIdeal.Step Cert.Softmax Idealize.ShloMosaic.Pointwise

section Step

variable (q k v : Vec Ideal S512x128 .bf16) (cq : Vec Ideal S1x512x1 .f32) (ck : Vec Ideal S1x1x512 .f32)
  (mm l : Vec Ideal S512x1 .f32) (a : Vec Ideal S512x128 .f32)

/-- One whole key block, for one row. -/
theorem whole_step (s : ℕ → EReal) (w : Fin 128 → ℕ → EReal) (hs : ∀ k, s k ≠ ⊤) (K : ℕ) (r : Fin 512)
    (hsc : ∀ c : Fin 512, sc q k cq ck r c = s (K + c)) (hv : ∀ (c : Fin 512) (d : Fin 128), v (ix2 c d) = w d (K + c))
    (hm : mm (ix2 r 0) = top s K) (hl : l (ix2 r 0) = den s K) (ha : ∀ d, a (ix2 r d) = num s (w d) K) :
    mWhole q k cq ck mm (ix2 r 0) = top s (K + 512) ∧ lWhole q k cq ck mm l (ix2 r 0) = den s (K + 512)
      ∧ ∀ d, aWhole q k v cq ck mm a (ix2 r d) = num s (w d) (K + 512) := by
  have h1 : mWhole q k cq ck mm (ix2 r 0) = top s (K + 512) := by
    rw [mWhole_apply, hm]
    simp only [hsc]
    exact top_step s K 512
  refine ⟨h1, ?_, fun d => ?_⟩
  · rw [lWhole_apply, h1, hm, hl]
    simp only [hsc]
    exact den_step s hs K 512
  · rw [aWhole_apply, h1, hm, ha]
    simp only [hsc, hv]
    exact num_step s (w d) hs K 512

/-- The key block on the diagonal, for one row. -/
theorem diag_step (s : ℕ → EReal) (w : Fin 128 → ℕ → EReal) (hs : ∀ k, s k ≠ ⊤) (K : ℕ) (r : Fin 512)
    (hsc : ∀ c : Fin 512, scm q k cq ck r c = s (K + c)) (hv : ∀ (c : Fin 512) (d : Fin 128), v (ix2 c d) = w d (K + c))
    (hm : mm (ix2 r 0) = top s K) (hl : l (ix2 r 0) = den s K) (ha : ∀ d, a (ix2 r d) = num s (w d) K) :
    mDiag q k cq ck mm (ix2 r 0) = top s (K + 512) ∧ lDiag q k cq ck mm l (ix2 r 0) = den s (K + 512)
      ∧ ∀ d, aDiag q k v cq ck mm a (ix2 r d) = num s (w d) (K + 512) := by
  have h1 : mDiag q k cq ck mm (ix2 r 0) = top s (K + 512) := by
    rw [mDiag_apply, hm]
    simp only [hsc]
    exact top_step s K 512
  refine ⟨h1, ?_, fun d => ?_⟩
  · rw [lDiag_apply, h1, hm, hl]
    simp only [hsc]
    exact den_step s hs K 512
  · rw [aDiag_apply, h1, hm, ha]
    simp only [hsc, hv]
    exact num_step s (w d) hs K 512

end Step

/-- The score of query `Q` against key `k` in batch `b` and head `h`; a later key is masked. -/
def score (x : S8192x2048.Idx → EReal) (g : S2x8x4096.Idx → EReal) (b h Q k : ℕ) : EReal :=
  if k ≤ Q then (∑ d : Fin 128, qkAt x (4096 * b + Q) (128 * h + d.val) * qkAt x (4096 * b + k) (1024 + 128 * h + d.val))
    + cAt g b h Q - cAt g b h k else ⊥

/-- The value of key `k`. -/
def value (z : S8192x29184.Idx → EReal) (b h : ℕ) (d : Fin 128) (k : ℕ) : EReal := zAt z (4096 * b + k) (11776 + 128 * h + d.val)

variable (m : (ℓ : Loc nD τ sig) → Buf (Elt Ideal) ℓ)

/-- The scores at grid point `t`, row `r` of its query block. -/
abbrev sAt (c : Dev nD) (n : ℕ) (r : Fin 512) (k : ℕ) : EReal :=
  score (aQK m c) (aC m c) (n / 512) (n / 64 % 8) (512 * (n / 8 % 8) + r.val) k
abbrev wAt (c : Dev nD) (n : ℕ) (d : Fin 128) (k : ℕ) : EReal := value (aZ m c) (n / 512) (n / 64 % 8) d k

theorem sc_blk (c : Dev nD) (t : Fin cfg0.N) (r x : Fin 512) (h : t.val % 8 + 1 ≤ t.val / 8 % 8) :
    sc (iblk m c 0 t) (iblk m c 1 t) (iblk m c 3 t) (iblk m c 4 t) r x = sAt m c t.val r (512 * (t.val % 8) + x.val) := by
  have hx := x.isLt
  unfold sc sAt score
  simp only [blk0, blk1]
  rw [blk3, blk4]
  rw [if_pos (by omega), min_eq_right (by omega)]
  simp only [Nat.add_assoc]

theorem scm_blk (c : Dev nD) (t : Fin cfg0.N) (r x : Fin 512) (h : t.val / 8 % 8 = t.val % 8) :
    scm (iblk m c 0 t) (iblk m c 1 t) (iblk m c 3 t) (iblk m c 4 t) r x = sAt m c t.val r (512 * (t.val % 8) + x.val) := by
  have hx := x.isLt
  unfold scm sc sAt score
  simp only [blk0, blk1]
  rw [blk3, blk4]
  rw [h, min_self]
  by_cases hxr : x.val ≤ r.val
  · rw [if_pos hxr, if_pos (by omega)]
    simp only [Nat.add_assoc]
  · rw [if_neg hxr, if_neg (by omega)]

theorem v_blk (c : Dev nD) (t : Fin cfg0.N) (x : Fin 512) (d : Fin 128) (h : t.val % 8 ≤ t.val / 8 % 8) :
    (iblk m c 2 t : Vec Ideal S512x128 .bf16) (ix2 x d) = wAt m c t.val d (512 * (t.val % 8) + x.val) := by
  rw [blk2, min_eq_right h]
  rfl

/-- What the scratch holds after point `n`: everything over the first `512·(min i j + 1)` keys. -/
def Inv (c : Dev nD) (n K : ℕ) (mm l : Vec Ideal S512x1 .f32) (a : Vec Ideal S512x128 .f32) : Prop :=
  ∀ r : Fin 512, mm (ix2 r 0) = top (sAt m c n r) K ∧ l (ix2 r 0) = den (sAt m c n r) K
    ∧ ∀ d, a (ix2 r d) = num (sAt m c n r) (wAt m c n d) K

theorem inv_zero (c : Dev nD) (n : ℕ) : Inv m c n 0 (k0_pay1 (F := Ideal)) (k0_pay2 (F := Ideal)) (k0_pay3 (F := Ideal)) :=
  fun r => ⟨(m0_apply r).trans (top_zero _).symm, (l0_apply r).trans (den_zero _).symm, fun d => (a0_apply r d).trans (num_zero _ _).symm⟩

theorem inv_whole (c : Dev nD) (hs : ∀ b h Q k, score (aQK m c) (aC m c) b h Q k ≠ ⊤) (t : Fin cfg0.N)
    (h : t.val % 8 + 1 ≤ t.val / 8 % 8) {mm l : Vec Ideal S512x1 .f32} {a : Vec Ideal S512x128 .f32}
    (hI : Inv m c t.val (512 * (t.val % 8)) mm l a) :
    Inv m c t.val (512 * (t.val % 8) + 512) (mWhole (iblk m c 0 t) (iblk m c 1 t) (iblk m c 3 t) (iblk m c 4 t) mm)
      (lWhole (iblk m c 0 t) (iblk m c 1 t) (iblk m c 3 t) (iblk m c 4 t) mm l)
      (aWhole (iblk m c 0 t) (iblk m c 1 t) (iblk m c 2 t) (iblk m c 3 t) (iblk m c 4 t) mm a) :=
  fun r => whole_step _ _ _ _ _ mm l a (sAt m c t.val r) (wAt m c t.val) (fun k => hs _ _ _ k) _ r
    (fun x => sc_blk m c t r x h) (fun x d => v_blk m c t x d (by omega)) (hI r).1 (hI r).2.1 (hI r).2.2

theorem inv_diag (c : Dev nD) (hs : ∀ b h Q k, score (aQK m c) (aC m c) b h Q k ≠ ⊤) (t : Fin cfg0.N)
    (h : t.val / 8 % 8 = t.val % 8) {mm l : Vec Ideal S512x1 .f32} {a : Vec Ideal S512x128 .f32}
    (hI : Inv m c t.val (512 * (t.val % 8)) mm l a) :
    Inv m c t.val (512 * (t.val % 8) + 512) (mDiag (iblk m c 0 t) (iblk m c 1 t) (iblk m c 3 t) (iblk m c 4 t) mm)
      (lDiag (iblk m c 0 t) (iblk m c 1 t) (iblk m c 3 t) (iblk m c 4 t) mm l)
      (aDiag (iblk m c 0 t) (iblk m c 1 t) (iblk m c 2 t) (iblk m c 3 t) (iblk m c 4 t) mm a) :=
  fun r => diag_step _ _ _ _ _ mm l a (sAt m c t.val r) (wAt m c t.val) (fun k => hs _ _ _ k) _ r
    (fun x => scm_blk m c t r x h) (fun x d => v_blk m c t x d (by omega)) (hI r).1 (hI r).2.1 (hI r).2.2

/-- The invariant only looks at the point through its query block. -/
theorem inv_congr (c : Dev nD) {n n' K : ℕ} (h : n / 8 = n' / 8) {mm l : Vec Ideal S512x1 .f32} {a : Vec Ideal S512x128 .f32}
    (hI : Inv m c n K mm l a) : Inv m c n' K mm l a := by
  have h1 : n / 512 = n' / 512 := by omega
  have h2 : n / 64 % 8 = n' / 64 % 8 := by omega
  intro r
  have := hI r
  unfold sAt wAt at this ⊢
  rwa [h1, h2, h] at this

/-- One point's step of the invariant, from what the point before left. -/
theorem inv_point (c : Dev nD) (hs : ∀ b h Q k, score (aQK m c) (aC m c) b h Q k ≠ ⊤) (t : Fin cfg0.N)
    (hprev : ∀ h0 : ¬t.val % 8 = 0, ∀ hn : t.val - 1 < cfg0.N, Inv m c (t.val - 1) (512 * (min (t.val / 8 % 8) ((t.val - 1) % 8)) + 512)
      (outsAt0 m c (t.val - 1) hn).2.1 (outsAt0 m c (t.val - 1) hn).2.2.1 (outsAt0 m c (t.val - 1) hn).2.2.2) :
    Inv m c t.val (512 * (min (t.val / 8 % 8) (t.val % 8)) + 512)
      (outsAt0 m c t.val t.isLt).2.1 (outsAt0 m c t.val t.isLt).2.2.1 (outsAt0 m c t.val t.isLt).2.2.2 := by
  have ht := lt_N t
  have hN : t.val - 1 < cfg0.N := lt_of_le_of_lt (Nat.sub_le _ _) t.isLt
  by_cases h0 : t.val % 8 = 0
  · by_cases h1 : t.val % 8 + 1 ≤ t.val / 8 % 8
    · rw [outsAt0_D m c t h0 h1 (by omega) (by omega)]
      dsimp only
      rw [d_scratch0, d_scratch1, d_scratch2, min_eq_right (by omega)]
      exact inv_whole m c hs t h1 (by rw [h0]; exact inv_zero m c _)
    · rw [outsAt0_A m c t h0 h1 (by omega) (by omega)]
      dsimp only
      rw [a_scratch0, a_scratch1, a_scratch2, min_eq_right (by omega)]
      exact inv_diag m c hs t (by omega) (by rw [h0]; exact inv_zero m c _)
  · have hp := inv_congr m c (n' := t.val) (by omega) (hprev h0 hN)
    by_cases h1 : t.val % 8 + 1 ≤ t.val / 8 % 8
    · have hK : 512 * (min (t.val / 8 % 8) ((t.val - 1) % 8)) + 512 = 512 * (t.val % 8) := by
        rw [min_eq_right (by omega)]; omega
      rw [hK] at hp
      rw [outsAt0_F m c t h0 h1 (by omega) (by omega)]
      dsimp only
      rw [f_scratch0, f_scratch1, f_scratch2, min_eq_right (by omega)]
      exact inv_whole m c hs t h1 hp
    · by_cases h2 : t.val / 8 % 8 = t.val % 8
      · have hK : 512 * (min (t.val / 8 % 8) ((t.val - 1) % 8)) + 512 = 512 * (t.val % 8) := by
          rw [min_eq_right (by omega)]; omega
        rw [hK] at hp
        by_cases h3 : t.val % 8 = 7
        · rw [outsAt0_G m c t h0 h1 h2 h3]
          dsimp only
          rw [g_scratch0, g_scratch1, g_scratch2, min_eq_right (by omega)]
          exact inv_diag m c hs t h2 hp
        · rw [outsAt0_E m c t h0 h1 h2 h3]
          dsimp only
          rw [e_scratch0, e_scratch1, e_scratch2, min_eq_right (by omega)]
          exact inv_diag m c hs t h2 hp
      · have hK : min (t.val / 8 % 8) ((t.val - 1) % 8) = min (t.val / 8 % 8) (t.val % 8) := by omega
        rw [hK] at hp
        by_cases h3 : t.val % 8 = 7
        · rw [outsAt0_C m c t h0 h1 h2 h3]
          exact hp
        · rw [outsAt0_B m c t h0 h1 h2 h3]
          exact hp

theorem inv_all (c : Dev nD) (hs : ∀ b h Q k, score (aQK m c) (aC m c) b h Q k ≠ ⊤) : ∀ (n : ℕ) (hn : n < cfg0.N),
    Inv m c n (512 * (min (n / 8 % 8) (n % 8)) + 512) (outsAt0 m c n hn).2.1 (outsAt0 m c n hn).2.2.1 (outsAt0 m c n hn).2.2.2
  | 0, hn => inv_point m c hs ⟨0, hn⟩ fun h0 => absurd rfl h0
  | n + 1, hn => inv_point m c hs ⟨n + 1, hn⟩ fun h0 hn' => by
      have := inv_all c hs n (by omega)
      have e : (n + 1) / 8 % 8 = n / 8 % 8 := by have : ¬(n + 1) % 8 = 0 := h0; omega
      show Inv m c n (512 * (min ((n + 1) / 8 % 8) (n % 8)) + 512) _ _ _
      rw [e]
      exact this

/-- What a point leaves in the output block at the end of a row of blocks: the weighted sum over the sum. -/
theorem out_apply (c : Dev nD) (hs : ∀ b h Q k, score (aQK m c) (aC m c) b h Q k ≠ ⊤) (t : Fin cfg0.N) (h3 : t.val % 8 = 7)
    (r : Fin 512) (d : Fin 128) :
    (outsAt0 m c t.val t.isLt).1 (ix2 r d)
      = Ideal.div (num (sAt m c t.val r) (wAt m c t.val d) 4096) (den (sAt m c t.val r) 4096) := by
  have ht := lt_N t
  have hr := r.isLt
  have hI := inv_all m c hs t.val t.isLt r
  rw [min_eq_left (by omega)] at hI
  have htail : ∀ k, 512 * (t.val / 8 % 8) + 512 ≤ k → sAt m c t.val r k = ⊥ := fun k hk => by
    unfold sAt score
    rw [if_neg (by omega)]
  rw [num_tail _ _ (by omega) htail, den_tail _ (by omega) htail, ← hI.2.1, ← hI.2.2 d]
  by_cases h2 : t.val / 8 % 8 = t.val % 8
  · rw [outsAt0_G m c t (by omega) (by omega) h2 h3]
    dsimp only
    rw [g_out, g_scratch1, g_scratch2]
    exact quot_apply _ _ r d
  · rw [outsAt0_C m c t (by omega) (by omega) h2 h3]
    dsimp only
    rw [c_out]
    exact quot_apply _ _ r d

/-- The array the call returns. -/
def result (c : Dev nD) : S8192x1024.Idx → EReal := fun i =>
  Ideal.div
    (num (score (aQK m c) (aC m c) ((i 0).val / 4096) ((i 1).val / 128) ((i 0).val % 4096))
      (value (aZ m c) ((i 0).val / 4096) ((i 1).val / 128) ⟨(i 1).val % 128, Nat.mod_lt _ (by decide)⟩) 4096)
    (den (score (aQK m c) (aC m c) ((i 0).val / 4096) ((i 1).val / 128) ((i 0).val % 4096)) 4096)

theorem flushed_eq (c : Dev nD) (hs : ∀ b h Q k, score (aQK m c) (aC m c) b h Q k ≠ ⊤) (t : Fin cfg0.N)
    (hf : (cfg0.win 5).flush t = true) :
    (dats m 0 c).flushed 5 t = ((cfg0.win 5).blk t).view.read (Elt Ideal) (result m c) := by
  have h3 := (flush0_5 t).mp hf
  have ht := lt_N t
  have hi := ind5 t
  rw [Cert.FoxIdeal.Value.flushed5]
  funext j
  obtain ⟨r, d, rfl⟩ : ∃ (r : Fin 512) (d : Fin 128), j = ix2 r d := ⟨j 0, j 1, by funext a; match a with | ⟨0, _⟩ => rfl | ⟨1, _⟩ => rfl⟩
  rw [View.read_apply]
  show (outsAt0 m c t.val t.isLt).1 (ix2 r d) = _
  rw [out_apply m c hs t h3]
  have hr := r.isLt
  have hd := d.isLt
  have e0 : (((cfg0.win 5).blk t).view.emb (ix2 r d) 0).val = win0_5.index t 0 * 512 + 1 * r.val := rfl
  have e1 : (((cfg0.win 5).blk t).view.emb (ix2 r d) 1).val = win0_5.index t 1 * 128 + 1 * d.val := rfl
  rw [hi.1] at e0
  rw [hi.2] at e1
  unfold result sAt wAt
  have a0 : (((cfg0.win 5).blk t).view.emb (ix2 r d) 0).val / 4096 = t.val / 512 := by omega
  have a1 : (((cfg0.win 5).blk t).view.emb (ix2 r d) 0).val % 4096 = 512 * (t.val / 8 % 8) + r.val := by omega
  have a2 : (((cfg0.win 5).blk t).view.emb (ix2 r d) 1).val / 128 = t.val / 64 % 8 := by omega
  have a3 : (((cfg0.win 5).blk t).view.emb (ix2 r d) 1).val % 128 = d.val := by omega
  dsimp only
  rw [a0, a1, a2]
  simp only [a3]
  rfl

/-- Every entry of the result lies in the block of a point that writes back. -/
theorem cover (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have hN : cfg0.N = 1024 := N_0
  have hlt : ((i 0).val / 4096) * 512 + ((i 1).val / 128) * 64 + ((i 0).val / 512 % 8) * 8 + 7 < cfg0.N := by omega
  obtain ⟨n, hn, hv⟩ : ∃ n : ℕ, n < cfg0.N ∧ n = ((i 0).val / 4096) * 512 + ((i 1).val / 128) * 64 + ((i 0).val / 512 % 8) * 8 + 7 :=
    ⟨_, hlt, rfl⟩
  have hi := ind5 ⟨n, hn⟩
  dsimp only at hi
  refine ⟨⟨n, hn⟩, (flush0_5 _).mpr (by dsimp only; omega), ?_⟩
  show i ∈ ((View.whole main_v2).slice (win0_5.rect ⟨n, hn⟩)).set
  rw [View.set_slice_whole, Rect.mem_set_unit]
  intro a
  match a with
  | ⟨0, _⟩ => show win0_5.index _ 0 * 512 ≤ (i 0).val ∧ (i 0).val < win0_5.index _ 0 * 512 + 512; rw [hi.1]; omega
  | ⟨1, _⟩ => show win0_5.index _ 1 * 128 ≤ (i 1).val ∧ (i 1).val < win0_5.index _ 1 * 128 + 128; rw [hi.2]; omega

theorem arr_eq (c : Dev nD) (hs : ∀ b h Q k, score (aQK m c) (aC m c) b h Q k ≠ ⊤) :
    (dats m 0 c).arrAt 5 cfg0.N = result m c :=
  (dats m 0 c).arrAt_eq_of_cover 5 (result m c) (flushed_eq m c hs) cover

end Cert.FoxIdeal.Blocks

end

end
-- ==== Proof.FoxRefVal.lean ====
/-
  The reference attention's result, entry by entry: the softmax of the masked scores times the values.
-/
module

public import proofs.«01_k».proof.Proof.FoxRun
public import proofs.«01_k».proof.Proof.Gen.FoxRefIdeal.Read

@[expose] public section

set_option maxRecDepth 16384

noncomputable section

open Idealize.ShloMosaic Idealize.ShloMosaic.TcCoe Idealize.SL.Sem

namespace Cert.FoxRefIdeal.Closed

open Cert.FoxRefIdeal Cert.FoxRefIdeal.Gen Cert.FoxRefIdeal.Facts Cert.FoxRefIdeal.Read Cert.FoxIdeal.Blocks Cert.Softmax Idealize.ShloMosaic.Pointwise

variable (x : S8192x2048.Idx → EReal) (z : S8192x29184.Idx → EReal) (g : S2x8x4096.Idx → EReal)

theorem q_apply (b : Fin 2) (q : Fin 4096) (h : Fin 8) (d : Fin 128) :
    val_main_v2 (F := Ideal) x (ix4 b q h d) = qkAt x (4096 * b.val + q.val) (128 * h.val + d.val) := by
  have hb := b.isLt; have hq := q.isLt; have hh := h.isLt; have hd := d.isLt
  rw [val_main_v2_apply, val_main_v1_apply, val_main_v0_apply]
  show x _ = x _
  congr 1
  funext a
  apply Fin.ext
  match a with
  | ⟨0, _⟩ => show (((b.val * 4096 + q.val) * 8 + h.val) * 128 + d.val) / 1024 = (_ : ℕ) % 8192; omega
  | ⟨1, _⟩ => show (((b.val * 4096 + q.val) * 8 + h.val) * 128 + d.val) % 1024 = (_ : ℕ) % 2048; omega

theorem k_apply (b : Fin 2) (q : Fin 4096) (h : Fin 8) (d : Fin 128) :
    val_main_v5 (F := Ideal) x (ix4 b q h d) = qkAt x (4096 * b.val + q.val) (1024 + 128 * h.val + d.val) := by
  have hb := b.isLt; have hq := q.isLt; have hh := h.isLt; have hd := d.isLt
  rw [val_main_v5_apply, val_main_v4_apply, val_main_v3_apply]
  show x _ = x _
  congr 1
  funext a
  apply Fin.ext
  match a with
  | ⟨0, _⟩ => show (((b.val * 4096 + q.val) * 8 + h.val) * 128 + d.val) / 1024 = (_ : ℕ) % 8192; omega
  | ⟨1, _⟩ => show (_ : ℕ) = (_ : ℕ) % 2048; dsimp only [idx_main_v3, idx_main_v5]; show 1024 + (((b.val * 4096 + q.val) * 8 + h.val) * 128 + d.val) % 1024 = _; omega

theorem v_apply (b : Fin 2) (q : Fin 4096) (h : Fin 8) (d : Fin 128) :
    val_main_v8 (F := Ideal) z (ix4 b q h d) = value z b.val h.val d q.val := by
  have hb := b.isLt; have hq := q.isLt; have hh := h.isLt; have hd := d.isLt
  rw [val_main_v8_apply, val_main_v7_apply, val_main_v6_apply]
  show z _ = z _
  congr 1
  funext a
  apply Fin.ext
  match a with
  | ⟨0, _⟩ => show (((b.val * 4096 + q.val) * 8 + h.val) * 128 + d.val) / 1024 = (_ : ℕ) % 8192; omega
  | ⟨1, _⟩ => show (_ : ℕ) = (_ : ℕ) % 29184; dsimp only [idx_main_v6, idx_main_v8]; show 11776 + (((b.val * 4096 + q.val) * 8 + h.val) * 128 + d.val) % 1024 = _; omega

theorem cAt_eq (b : Fin 2) (h : Fin 8) (q : Fin 4096) : cAt g b.val h.val q.val = g (ix3 b h q) := by
  have hb := b.isLt; have hq := q.isLt; have hh := h.isLt
  unfold cAt
  congr 1
  funext a
  apply Fin.ext
  match a with
  | ⟨0, _⟩ => exact Nat.mod_eq_of_lt hb
  | ⟨1, _⟩ => exact Nat.mod_eq_of_lt hh
  | ⟨2, _⟩ => exact Nat.mod_eq_of_lt hq

theorem score_apply (b : Fin 2) (h : Fin 8) (q k : Fin 4096) :
    val_main_v22 (F := Ideal) x g (ix4 b h q k) = score x g b.val h.val q.val k.val := by
  have hq := q.isLt; have hk := k.isLt
  have hmask : val_main_call0_v1 (F := Ideal) (ix4 b h q k) = if k.val ≤ q.val then 1#1 else 0#1 := by
    rw [val_main_call0_v1_apply, val_main_v21_apply, val_main_v19_apply, val_main_v17_apply, val_main_v9_apply,
      val_main_v20_apply, val_main_v18_apply, val_main_v9_apply]
    show IntOp.cmpi .sle (BitVec.ofNat 32 k.val) (BitVec.ofNat 32 q.val) = _
    rw [WordCmp.cmpi_sle_ofNat (by omega) (by omega)]
    by_cases hkq : k.val ≤ q.val <;> simp [hkq]
  rw [val_main_v22_apply, hmask, val_main_v16_apply, val_main_v13_apply, val_main_v10_apply, val_main_v12_apply, val_main_v11_apply,
    val_main_v15_apply, val_main_v14_apply, val_main_call0_v2_apply, val_main_call0_v0_apply, val_main_cst_apply]
  unfold score
  rw [cAt_eq, cAt_eq]
  by_cases hkq : k.val ≤ q.val
  · rw [if_pos hkq, if_pos hkq]
    have e : ∀ d : Fin 128, val_main_v2 (F := Ideal) x (lidx_main_v10 (ix4 b h q k) d) * val_main_v5 (F := Ideal) x (ridx_main_v10 (ix4 b h q k) d)
        = qkAt x (4096 * b.val + q.val) (128 * h.val + d.val) * qkAt x (4096 * b.val + k.val) (1024 + 128 * h.val + d.val) := fun d => by
      rw [← q_apply, ← k_apply]
      congr 2 <;> (funext a; match a with | ⟨0, _⟩ => rfl | ⟨1, _⟩ => rfl | ⟨2, _⟩ => rfl | ⟨3, _⟩ => rfl)
    rw [Finset.sum_congr rfl fun d _ => e d]
    have e1 : idx_main_v11 (idx_main_v12 (ix4 b h q k)) = ix3 b h q := by
      funext a; match a with | ⟨0, _⟩ => rfl | ⟨1, _⟩ => rfl | ⟨2, _⟩ => rfl
    have e2 : idx_main_v14 (idx_main_v15 (ix4 b h q k)) = ix3 b h k := by
      funext a; match a with | ⟨0, _⟩ => rfl | ⟨1, _⟩ => rfl | ⟨2, _⟩ => rfl
    rw [e1, e2]
    rfl
  · rw [if_neg hkq, if_neg hkq]
    exact Cert.FoxIdeal.Step.ofBits_bot

/-- A sum over the keys is a sum over the natural numbers below their number. -/
theorem sum_keys (f : ℕ → EReal) : ∑ k : Fin 4096, f k.val = ∑ k ∈ Finset.range 4096, f k := (Finset.sum_range f).symm

theorem top_keys (s : ℕ → EReal) (n : ℕ) : (Finset.univ.sup fun k : Fin n => s k.val) = top s n := by
  have := top_step s 0 n
  rw [top_zero, max_eq_right bot_le] at this
  simpa only [zero_add] using this

theorem max_apply (b : Fin 2) (h : Fin 8) (q : Fin 4096) :
    val_main_v25 (F := Ideal) x g (ix3 b h q) = top (score x g b.val h.val q.val) 4096 := by
  rw [val_main_v25_apply, val_main_v24_apply]
  have e : val_main_v23 (F := Ideal) x g (ix3 b h q) = top (score x g b.val h.val q.val) 4096 := by
    unfold val_main_v23
    rw [Host.reduce_eq_fold_single FloatOps.maximumf _ _ reducesTo_S2x8x4096x4096_S2x8x4096_d3 (show S2x8x4096x4096.Reduces [3] S2x8x4096 by decide) h_S_]
    rw [← top_keys]
    have e0 : val_main_cst_0 (F := Ideal) (Shape.Idx.first h_S_) = ⊥ := Cert.FoxIdeal.Step.ofBits_bot
    rw [e0]
    have e1 : ∀ k : Fin 4096, score x g b.val h.val q.val k.val
        = val_main_v22 (F := Ideal) x g (Shape.Reduces.lift (s := S2x8x4096x4096) (t := S2x8x4096) (a := 3) (by decide) (ix3 b h q) k) := fun k => by
      rw [← score_apply]
      congr 1
      funext a
      apply Fin.ext
      match a with | ⟨0, _⟩ => rfl | ⟨1, _⟩ => rfl | ⟨2, _⟩ => rfl | ⟨3, _⟩ => rfl
    rw [show (fun k : Fin 4096 => score x g b.val h.val q.val k.val) = _ from funext e1]
    rfl
  rw [e]
  show max (Ideal.ofBits .f32 0xFF800000#32) _ = _
  rw [Cert.FoxIdeal.Step.ofBits_bot, max_eq_right bot_le]

theorem p_apply (b : Fin 2) (h : Fin 8) (q k : Fin 4096) :
    val_main_v29 (F := Ideal) x g (ix4 b h q k)
      = Ideal.exp (score x g b.val h.val q.val k.val - top (score x g b.val h.val q.val) 4096) := by
  rw [val_main_v29_apply, val_main_v28_apply, score_apply, val_main_v27_apply, val_main_v26_apply]
  have e : idx_main_v26 (idx_main_v27 (ix4 b h q k)) = ix3 b h q := by
    funext a; match a with | ⟨0, _⟩ => rfl | ⟨1, _⟩ => rfl | ⟨2, _⟩ => rfl
  rw [e, max_apply]
  rfl

theorem den_apply (b : Fin 2) (h : Fin 8) (q : Fin 4096) :
    val_main_v30 (F := Ideal) x g (ix3 b h q) = den (score x g b.val h.val q.val) 4096 := by
  rw [val_main_v30_apply]
  have e0 : val_main_cst_2 (F := Ideal) (Shape.Idx.first h_S_) = 0 := Ideal.ofBits_zero .f32
  rw [e0, zero_add]
  have e : ∀ k : Fin 4096, val_main_v29 (F := Ideal) x g (idx_main_v30 (ix3 b h q) k)
      = Ideal.exp (score x g b.val h.val q.val k.val - top (score x g b.val h.val q.val) 4096) := fun k => by
    rw [← p_apply]
    congr 1
    funext a
    match a with | ⟨0, _⟩ => rfl | ⟨1, _⟩ => rfl | ⟨2, _⟩ => rfl | ⟨3, _⟩ => rfl
  rw [Finset.sum_congr rfl fun k _ => e k]
  exact sum_keys fun k => Ideal.exp (score x g b.val h.val q.val k - top (score x g b.val h.val q.val) 4096)

theorem out_apply (b : Fin 2) (h : Fin 8) (d : Fin 128) (q : Fin 4096) :
    val_main_v34 (F := Ideal) x z g (ix4 b h d q)
      = ∑ k ∈ Finset.range 4096, Ideal.div (Ideal.exp (score x g b.val h.val q.val k - top (score x g b.val h.val q.val) 4096))
          (den (score x g b.val h.val q.val) 4096) * value z b.val h.val d k := by
  rw [val_main_v34_apply, ← sum_keys]
  refine Finset.sum_congr rfl fun k _ => ?_
  have e1 : lidx_main_v34 (ix4 b h d q) k = ix4 b k h d := by
    funext a; match a with | ⟨0, _⟩ => rfl | ⟨1, _⟩ => rfl | ⟨2, _⟩ => rfl | ⟨3, _⟩ => rfl
  have e2 : ridx_main_v34 (ix4 b h d q) k = ix4 b h q k := by
    funext a; match a with | ⟨0, _⟩ => rfl | ⟨1, _⟩ => rfl | ⟨2, _⟩ => rfl | ⟨3, _⟩ => rfl
  rw [e1, e2, v_apply, val_main_v33_apply, p_apply, val_main_v32_apply, val_main_v31_apply]
  have e3 : idx_main_v31 (idx_main_v32 (ix4 b h q k)) = ix3 b h q := by
    funext a; match a with | ⟨0, _⟩ => rfl | ⟨1, _⟩ => rfl | ⟨2, _⟩ => rfl
  rw [e3, den_apply, mul_comm]
  rfl

/-- Where no score is infinite upwards and a query's own score is a number, the reference is the quotient of sums. -/
theorem result_apply (hs : ∀ b h Q k, score x g b h Q k ≠ ⊤) (hb : ∀ b h Q, score x g b h Q Q ≠ ⊥) (i : S8192x1024.Idx) :
    val_main_v37 (F := Ideal) x z g i
      = Ideal.div
        (num (score x g ((i 0).val / 4096) ((i 1).val / 128) ((i 0).val % 4096))
          (value z ((i 0).val / 4096) ((i 1).val / 128) ⟨(i 1).val % 128, Nat.mod_lt _ (by decide)⟩) 4096)
        (den (score x g ((i 0).val / 4096) ((i 1).val / 128) ((i 0).val % 4096)) 4096) := by
  have h0 : (i 0).val < 8192 := (i 0).isLt
  have h1 : (i 1).val < 1024 := (i 1).isLt
  rw [num_div _ _ (fun k => hs _ _ _ k) (k := (i 0).val % 4096) (by omega) (hb _ _ _)]
  rw [val_main_v37_apply, val_main_v36_apply, val_main_v35_apply]
  have e : idx_main_v35 (idx_main_v36 i)
      = ix4 (⟨(i 0).val / 4096, by omega⟩ : Fin 2) (⟨(i 1).val / 128, by omega⟩ : Fin 8) (⟨(i 1).val % 128, by omega⟩ : Fin 128)
          (⟨(i 0).val % 4096, by omega⟩ : Fin 4096) := by
    funext a
    apply Fin.ext
    match a with
    | ⟨0, _⟩ => show ((i 0).val * 1024 + (i 1).val) / 4194304 = (i 0).val / 4096; omega
    | ⟨1, _⟩ => show ((i 0).val * 1024 + (i 1).val) / 128 % 8 = (i 1).val / 128; omega
    | ⟨2, _⟩ => show ((i 0).val * 1024 + (i 1).val) % 128 = (i 1).val % 128; omega
    | ⟨3, _⟩ => show ((i 0).val * 1024 + (i 1).val) / 1024 % 4096 = (i 0).val % 4096; omega
  rw [e]
  exact out_apply x z g _ _ _ _

end Cert.FoxRefIdeal.Closed

end

end
-- ==== Proof.FoxClaim.lean ====
/-
  The attention's claims: the frames, and that the kernel and the reference compute the same array where the queries,
  the keys and the cumulative log-gates are finite.
-/
module

public import proofs.«01_k».proof.Defs
public import proofs.«01_k».proof.Proof.FoxRefVal
public import proofs.«01_k».proof.Proof.Gen.Fox.Frame
public import proofs.«01_k».proof.Proof.Gen.FoxRefIdeal.Run
public import proofs.«01_k».proof.Proof.Gen.Pre_finite
public import Idealize.ShloMosaic.Lib.ReduceAll

@[expose] public section

set_option maxRecDepth 16384

noncomputable section

open Idealize.ShloMosaic Idealize.ShloMosaic.TcCoe Idealize.SL.Sem

namespace Cert.FoxClaim

open Idealize.ShloMosaic.Pointwise Cert.FoxIdeal.Blocks

/-- An entry whose absolute value is below infinity is a number. -/
theorem real_of_lt {x : EReal} (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x using EReal.rec with
  | top => simp [Ideal.cmp] at h
  | bot => simp [Ideal.cmp] at h
  | coe r => exact ⟨r, rfl⟩

theorem real_of_pre (x : Cert.Pre_finite.S8192x2048.Idx → EReal) (z : Cert.Pre_finite.S8192x29184.Idx → EReal)
    (g : Cert.Pre_finite.S2x8x4096.Idx → EReal) (h : Cert.Pre_finite.fn (F := Ideal) x z g = fun _ => 1#1) :
    (∀ i, ∃ r : ℝ, x i = r) ∧ ∀ i, ∃ r : ℝ, g i = r := by
  have h0 := congrFun h (fun a => a.elim0)
  unfold Cert.Pre_finite.fn at h0
  have h1 := IntOp.andi_eq_one.mp h0
  haveI : Subsingleton Cert.Pre_finite.S_.Idx := ⟨fun a b => funext fun k => k.elim0⟩
  exact ⟨fun i => real_of_lt (Host.reduce_andi_all _ _ _ _ _ h1.1 i), fun i => real_of_lt (Host.reduce_andi_all _ _ _ _ _ h1.2 i)⟩

theorem sum_real {n : ℕ} (f : Fin n → EReal) (h : ∀ i, ∃ r : ℝ, f i = r) : ∃ r : ℝ, ∑ i, f i = r := by
  refine Finset.sum_induction f (fun e => ∃ r : ℝ, e = r) ?_ ⟨0, rfl⟩ fun i _ => h i
  rintro _ _ ⟨p, rfl⟩ ⟨q, rfl⟩
  exact ⟨p + q, (EReal.coe_add p q).symm⟩

theorem score_real (x : Cert.FoxIdeal.S8192x2048.Idx → EReal) (g : Cert.FoxIdeal.S2x8x4096.Idx → EReal)
    (hx : ∀ i, ∃ r : ℝ, x i = r) (hg : ∀ i, ∃ r : ℝ, g i = r) (b h Q k : ℕ) (hk : k ≤ Q) : ∃ r : ℝ, score x g b h Q k = r := by
  unfold score
  rw [if_pos hk]
  obtain ⟨s, hs⟩ := sum_real (fun d : Fin 128 => qkAt x (4096 * b + Q) (128 * h + d.val) * qkAt x (4096 * b + k) (1024 + 128 * h + d.val)) fun d => by
    obtain ⟨p, hp⟩ := hx (ix2 (Fin.ofNat 8192 (4096 * b + Q)) (Fin.ofNat 2048 (128 * h + d.val)))
    obtain ⟨q, hq⟩ := hx (ix2 (Fin.ofNat 8192 (4096 * b + k)) (Fin.ofNat 2048 (1024 + 128 * h + d.val)))
    exact ⟨p * q, by unfold qkAt; rw [hp, hq, EReal.coe_mul]⟩
  obtain ⟨p, hp⟩ := hg (ix3 (Fin.ofNat 2 b) (Fin.ofNat 8 h) (Fin.ofNat 4096 Q))
  obtain ⟨q, hq⟩ := hg (ix3 (Fin.ofNat 2 b) (Fin.ofNat 8 h) (Fin.ofNat 4096 k))
  refine ⟨s + p - q, ?_⟩
  unfold cAt
  rw [hs, hp, hq, EReal.coe_sub, EReal.coe_add]

theorem score_ne_top (x : Cert.FoxIdeal.S8192x2048.Idx → EReal) (g : Cert.FoxIdeal.S2x8x4096.Idx → EReal)
    (hx : ∀ i, ∃ r : ℝ, x i = r) (hg : ∀ i, ∃ r : ℝ, g i = r) (b h Q k : ℕ) : score x g b h Q k ≠ ⊤ := by
  by_cases hk : k ≤ Q
  · obtain ⟨r, hr⟩ := score_real x g hx hg b h Q k hk
    rw [hr]; exact EReal.coe_ne_top r
  · unfold score; rw [if_neg hk]; exact bot_ne_top

theorem score_ne_bot (x : Cert.FoxIdeal.S8192x2048.Idx → EReal) (g : Cert.FoxIdeal.S2x8x4096.Idx → EReal)
    (hx : ∀ i, ∃ r : ℝ, x i = r) (hg : ∀ i, ∃ r : ℝ, g i = r) (b h Q : ℕ) : score x g b h Q Q ≠ ⊥ := by
  obtain ⟨r, hr⟩ := score_real x g hx hg b h Q Q le_rfl
  rw [hr]; exact EReal.coe_ne_bot r

theorem frame_p : Cert.quiescent_Fox := fun m ρ _ => Cert.Fox.Gen.frame m ρ
theorem frame_pi : Cert.quiescent_FoxIdeal := fun m ρ _ => Cert.FoxIdeal.Gen.frame m ρ
theorem frame_pi_pre : Cert.quiescent_FoxIdeal_pre_finite := fun m ρ _ => Cert.FoxIdeal.Gen.frame m ρ
theorem frame_ri : Cert.quiescent_FoxRefIdeal := fun m ρ _ =>
  (θ_run Cert.FoxRefIdeal.defs _ _).mono (fun r h => ⟨fun c => (h c).2, sem_eq_zero_of_no_sems (by decide) r.2⟩)
    (Cert.FoxRefIdeal.Value.run m ρ)
theorem frame_ri_pre : Cert.quiescent_FoxRefIdeal_pre_finite := fun m ρ _ => frame_ri m ρ trivial

theorem algebraic : Cert.algebraic_FoxIdeal_FoxRefIdeal_pre_finite := by
  intro m g m' g' hpre hargs
  have hr := fun c => real_of_pre _ _ _ (hpre c)
  refine ⟨fun c => result m c, ?_, ?_⟩
  · refine (θ_run Cert.FoxIdeal.defs _ _).mono (fun r h c => ⟨(h c).1.trans ?_, (h c).2⟩) (Cert.FoxIdeal.Value.run_blocks m g)
    exact arr_eq m c (score_ne_top _ _ (hr c).1 (hr c).2)
  · refine (θ_run Cert.FoxRefIdeal.defs _ _).mono (fun r h c => ⟨(h c).1.trans ?_, (h c).2⟩) (Cert.FoxRefIdeal.Value.run m' g')
    rw [Cert.FoxRefIdeal.Read.val_main_v37_eq]
    funext i
    have ha := hargs c
    refine (Cert.FoxRefIdeal.Closed.result_apply _ _ _ ?_ ?_ i).trans ?_
    · rw [ha.1, ha.2.2]; exact score_ne_top _ _ (hr c).1 (hr c).2
    · rw [ha.1, ha.2.2]; exact score_ne_bot _ _ (hr c).1 (hr c).2
    · rw [ha.1, ha.2.1, ha.2.2]; rfl

end Cert.FoxClaim

end

end
-- ==== Proof.InProjClaim.lean ====
/-
  The input projection: one product of the normalised tokens by the columns of the projection matrix, blocks of 1024
  tokens by 512 columns, against the reference's product with the same columns picked afterwards.
-/
module

public import proofs.«01_k».proof.Defs
public import proofs.«01_k».proof.Proof.Gen.InProj.Frame
public import proofs.«01_k».proof.Proof.Gen.InProjIdeal.Value
public import proofs.«01_k».proof.Proof.Gen.InProjRefIdeal.Read
public import proofs.«01_k».proof.Proof.Gen.InProjRefIdeal.Run
public import Idealize.ShloMosaic.Lib.Pointwise

@[expose] public section

set_option maxRecDepth 16384

noncomputable section

open Idealize.ShloMosaic Idealize.ShloMosaic.TcCoe Idealize.SL.Sem

namespace Cert.InProjIdeal.Blocks

open Cert.InProjIdeal Cert.InProjIdeal.Gen Idealize.ShloMosaic.Pointwise

/-- The tokens, batch and position in one coordinate, at natural-number coordinates. -/
def hAt (x : S2x4096x4096.Idx → EReal) (r c : ℕ) : EReal := x (ix3 (Fin.ofNat 2 (r / 4096)) (Fin.ofNat 4096 r) (Fin.ofNat 4096 c))
/-- The projection matrix at natural-number coordinates. -/
def wAt (x : S4096x29208.Idx → EReal) (r c : ℕ) : EReal := x (ix2 (Fin.ofNat 4096 r) (Fin.ofNat 29208 c))
/-- The matrix's column that the result's column `j` takes: two narrow groups of columns are left out. -/
def col (j : ℕ) : ℕ := if j < 4096 then j else if j < 12800 then j + 16 else j + 24

variable (m : (ℓ : Loc nD τ sig) → Buf (Elt Ideal) ℓ)

abbrev aH (c : Dev nD) : S2x4096x4096.Idx → EReal := m ((c : Thread nD τ).loc main_arg0)
abbrev aW (c : Dev nD) : S4096x29208.Idx → EReal := m ((c : Thread nD τ).loc main_arg1)

theorem ind0 : ∀ t : Fin grid0.N, win0_0.index t 0 = t.val / 57 ∧ win0_0.index t 1 = 0 := by decide +kernel
theorem ind1 : ∀ t : Fin grid0.N, win0_1.index t 0 = 0 ∧ win0_1.index t 1 = t.val % 57 := by decide +kernel
theorem ind2 : ∀ t : Fin grid0.N, win0_2.index t 0 = t.val / 57 ∧ win0_2.index t 1 = t.val % 57 := by decide +kernel
theorem flush2 : ∀ t : Fin cfg0.N, (cfg0.win 2).flush t = true := (by decide +kernel : ∀ t : Fin grid0.N, win0_2.flush t = true)

theorem lt_N (t : Fin cfg0.N) : t.val < 456 := lt_of_lt_of_eq t.isLt (show cfg0.N = 456 from N_0)

theorem V_v5 (c : Dev nD) : V m c main_v5 = shapeCast S8192x4096 (aH m c) shapeCasts_S2x4096x4096_S8192x4096 := by
  unfold V
  simp [hostOps0]
  rfl

/-- The columns the kernel multiplies by, put side by side. -/
def cols (w : S4096x29208.Idx → EReal) : S4096x29184.Idx → EReal :=
  concatenate S4096x29184 1 [⟨S4096x4096, extractStridedSlice S4096x4096 ![0, 0] w slices_S4096x29208_S4096x4096_0_0⟩,
    ⟨S4096x8704, extractStridedSlice S4096x8704 ![0, 4112] w slices_S4096x29208_S4096x8704_0_4112⟩,
    ⟨S4096x16384, extractStridedSlice S4096x16384 ![0, 12824] w slices_S4096x29208_S4096x16384_0_12824⟩]
    concatenates_S4096x4096_S4096x8704_S4096x16384_S4096x29184_d1

theorem V_v4 (c : Dev nD) : (V m c main_v4 : S4096x29184.Idx → EReal) = cols (aW m c) := by
  unfold V
  simp [hostOps0]
  rfl

theorem cols_apply (w : S4096x29208.Idx → EReal) (r : Fin 4096) (j : Fin 29184) : cols w (ix2 r j) = wAt w r.val (col j.val) := by
  have hr := r.isLt
  have hj := j.isLt
  unfold cols wAt col
  by_cases h1 : j.val < 4096
  · refine Eq.trans (concatenate_apply_piece (α := EReal) (t := S4096x29184) _ _ _ _ 0 (by simp) S4096x4096 _ rfl rfl 0 rfl (ix2 r (⟨j.val, h1⟩ : Fin 4096)) ?_ ?_) ?_
    · intro b hb; match b with
      | ⟨0, _⟩ => rfl
      | ⟨1, _⟩ => exact absurd rfl hb
    · show 0 + j.val = j.val; omega
    · refine extractStridedSlice_apply _ _ _ _ _ fun a => ?_
      rw [if_pos h1]
      match a with
      | ⟨0, _⟩ => show r.val % 4096 = 0 + r.val; omega
      | ⟨1, _⟩ => show j.val % 29208 = 0 + j.val; omega
  · by_cases h2 : j.val < 12800
    · refine Eq.trans (concatenate_apply_piece (α := EReal) (t := S4096x29184) _ _ _ _ 1 (by simp) S4096x8704 _ rfl rfl 4096 rfl (ix2 r (⟨j.val - 4096, by omega⟩ : Fin 8704)) ?_ ?_) ?_
      · intro b hb; match b with
        | ⟨0, _⟩ => rfl
        | ⟨1, _⟩ => exact absurd rfl hb
      · show 4096 + (j.val - 4096) = j.val; omega
      · refine extractStridedSlice_apply _ _ _ _ _ fun a => ?_
        rw [if_neg h1, if_pos h2]
        match a with
        | ⟨0, _⟩ => show r.val % 4096 = 0 + r.val; omega
        | ⟨1, _⟩ => show (j.val + 16) % 29208 = 4112 + (j.val - 4096); omega
    · refine Eq.trans (concatenate_apply_piece (α := EReal) (t := S4096x29184) _ _ _ _ 2 (by simp) S4096x16384 _ rfl rfl 12800 rfl (ix2 r (⟨j.val - 12800, by omega⟩ : Fin 16384)) ?_ ?_) ?_
      · intro b hb; match b with
        | ⟨0, _⟩ => rfl
        | ⟨1, _⟩ => exact absurd rfl hb
      · show 12800 + (j.val - 12800) = j.val; omega
      · refine extractStridedSlice_apply _ _ _ _ _ fun a => ?_
        rw [if_neg h1, if_neg h2]
        match a with
        | ⟨0, _⟩ => show r.val % 4096 = 0 + r.val; omega
        | ⟨1, _⟩ => show (j.val + 24) % 29208 = 12824 + (j.val - 12800); omega

theorem blk0 (c : Dev nD) (t : Fin cfg0.N) (r : Fin 1024) (k : Fin 4096) :
    (iblk m c 0 t : Vec Ideal S1024x4096 .bf16) (ix2 r k) = hAt (aH m c) (1024 * (t.val / 57) + r.val) k.val := by
  have hi := ind0 t
  have ht := lt_N t
  have hr := r.isLt
  have hk := k.isLt
  unfold iblk hAt
  rw [View.read_apply]
  show V m c main_v5 _ = _
  rw [V_v5]
  refine shapeCast_apply _ _ _ _ ?_
  rw [Shape.rowMajor_val_three, Shape.rowMajor_val_two]
  show ((_ : ℕ) / 4096 % 2 * 4096 + (_ : ℕ) % 4096) * 4096 + (_ : ℕ) % 4096
    = (win0_0.index t 0 * 1024 + 1 * r.val) * 4096 + (win0_0.index t 1 * 4096 + 1 * k.val)
  rw [hi.1, hi.2]
  omega

theorem blk1 (c : Dev nD) (t : Fin cfg0.N) (k : Fin 4096) (j : Fin 512) :
    (iblk m c 1 t : Vec Ideal S4096x512 .bf16) (ix2 k j) = wAt (aW m c) k.val (col (512 * (t.val % 57) + j.val)) := by
  have hi := ind1 t
  have ht := lt_N t
  have hk := k.isLt
  have hj := j.isLt
  refine Eq.trans ?_ (cols_apply (aW m c) k ⟨512 * (t.val % 57) + j.val, by omega⟩)
  unfold iblk
  rw [View.read_apply]
  show V m c main_v4 _ = _
  rw [V_v4]
  congr 1
  funext a
  apply Fin.ext
  match a with
  | ⟨0, _⟩ => show win0_1.index t 0 * 4096 + 1 * k.val = k.val; rw [hi.1]; omega
  | ⟨1, _⟩ => show win0_1.index t 1 * 512 + 1 * j.val = 512 * (t.val % 57) + j.val; rw [hi.2]; omega

/-- The body's product, entry by entry. -/
theorem pay_apply (x : Vec Ideal S1024x4096 .bf16) (y : Vec Ideal S4096x512 .bf16) (r : Fin 1024) (j : Fin 512) :
    k0_pay1 (F := Ideal) x y (ix2 r j) = ∑ k : Fin 4096, x (ix2 r k) * y (ix2 k j) := by
  pointwise [k0_pay1]

/-- The projection's entry at token `r` and result column `j`. -/
def entry (h : S2x4096x4096.Idx → EReal) (w : S4096x29208.Idx → EReal) (r j : ℕ) : EReal :=
  ∑ k : Fin 4096, hAt h r k.val * wAt w k.val (col j)

/-- The array the kernel ends with. -/
def result (c : Dev nD) : S8192x29184.Idx → EReal := fun i => entry (aH m c) (aW m c) (i 0).val (i 1).val

theorem z2 : (![0, 0] : Fin 2 → ℕ) = fun _ => 0 := by funext a; match a with | ⟨0, _⟩ => rfl | ⟨1, _⟩ => rfl

theorem flushed_eq (c : Dev nD) (t : Fin cfg0.N) (hf : (cfg0.win 2).flush t = true) :
    (dats m 0 c).flushed 2 t = ((cfg0.win 2).blk t).view.read (Elt Ideal) (result m c) := by
  have ht := lt_N t
  have hi := ind2 t
  rw [Cert.InProjIdeal.Value.flushed2]
  funext j
  obtain ⟨r, d, rfl⟩ : ∃ (r : Fin 1024) (d : Fin 512), j = ix2 r d := ⟨j 0, j 1, by funext a; match a with | ⟨0, _⟩ => rfl | ⟨1, _⟩ => rfl⟩
  rw [View.read_apply]
  have hr := r.isLt
  have hd := d.isLt
  have e0 : (((cfg0.win 2).blk t).view.emb (ix2 r d) 0).val = win0_2.index t 0 * 1024 + 1 * r.val := rfl
  have e1 : (((cfg0.win 2).blk t).view.emb (ix2 r d) 1).val = win0_2.index t 1 * 512 + 1 * d.val := rfl
  rw [hi.1, show t.val / 57 * 1024 + 1 * r.val = 1024 * (t.val / 57) + r.val by omega] at e0
  rw [hi.2, show t.val % 57 * 512 + 1 * d.val = 512 * (t.val % 57) + d.val by omega] at e1
  show out0_2 (iblk m c 0 t) (iblk m c 1 t) (ix2 r d) = _
  unfold out0_2
  rw [View.canon_unit_zero z2, View.ld_unit_zero z2, View.ld_unit_zero z2, pay_apply]
  unfold result
  rw [e0, e1]
  unfold entry
  refine (Finset.sum_congr rfl fun k _ => ?_).trans rfl
  rw [blk0, blk1]

theorem cover (i : S8192x29184.Idx) : ∃ t : Fin cfg0.N, (cfg0.win 2).flush t = true ∧ i ∈ ((cfg0.win 2).blk t).view.set := by
  have h0 : (i 0).val < 8192 := (i 0).isLt
  have h1 : (i 1).val < 29184 := (i 1).isLt
  have hN : cfg0.N = 456 := N_0
  obtain ⟨n, hn, hv⟩ : ∃ n : ℕ, n < cfg0.N ∧ n = 57 * ((i 0).val / 1024) + (i 1).val / 512 := ⟨_, by omega, rfl⟩
  have hi := ind2 ⟨n, hn⟩
  dsimp only at hi
  refine ⟨⟨n, hn⟩, flush2 _, ?_⟩
  show i ∈ ((View.whole main_v6).slice (win0_2.rect ⟨n, hn⟩)).set
  rw [View.set_slice_whole, Rect.mem_set_unit]
  intro a
  match a with
  | ⟨0, _⟩ => show win0_2.index _ 0 * 1024 ≤ (i 0).val ∧ (i 0).val < win0_2.index _ 0 * 1024 + 1024; rw [hi.1]; omega
  | ⟨1, _⟩ => show win0_2.index _ 1 * 512 ≤ (i 1).val ∧ (i 1).val < win0_2.index _ 1 * 512 + 512; rw [hi.2]; omega

theorem arr_eq (c : Dev nD) : (dats m 0 c).arrAt 2 cfg0.N = result m c :=
  (dats m 0 c).arrAt_eq_of_cover 2 (result m c) (flushed_eq m c) cover

end Cert.InProjIdeal.Blocks

namespace Cert.InProjClaim

open Cert.InProjRefIdeal Cert.InProjRefIdeal.Gen Cert.InProjRefIdeal.Facts Cert.InProjRefIdeal.Read Cert.InProjIdeal.Blocks
open Idealize.ShloMosaic.Pointwise

variable (x : S2x4096x4096.Idx → EReal) (w : S4096x29208.Idx → EReal)

/-- The reference's product before the columns are picked. -/
theorem dot_apply (b : Fin 2) (p : Fin 4096) (j : Fin 29208) :
    val_main_v1 (F := Ideal) x w (ix3 b p j) = ∑ k : Fin 4096, hAt x (4096 * b.val + p.val) k.val * wAt w k.val j.val := by
  have hb := b.isLt
  have hp := p.isLt
  have hj := j.isLt
  rw [val_main_v1_apply]
  refine Finset.sum_congr rfl fun k _ => ?_
  have hk := k.isLt
  rw [val_main_v0_apply]
  unfold hAt wAt
  show x _ * w _ = x _ * w _
  congr 2
  · funext a
    apply Fin.ext
    match a with
    | ⟨0, _⟩ => show b.val = (_ : ℕ) / 4096 % 2; omega
    | ⟨1, _⟩ => show p.val = (_ : ℕ) % 4096; omega
    | ⟨2, _⟩ => show k.val = k.val % 4096; omega
  · funext a
    apply Fin.ext
    match a with
    | ⟨0, _⟩ => show k.val = k.val % 4096; omega
    | ⟨1, _⟩ => show j.val = j.val % 29208; omega

/-- The product with the columns picked. -/
theorem pick_apply (b : Fin 2) (p : Fin 4096) (j : Fin 29184) :
    val_main_v5 (F := Ideal) x w (ix3 b p j) = entry x w (4096 * b.val + p.val) j.val := by
  have hj := j.isLt
  unfold val_main_v5 entry col
  by_cases h1 : j.val < 4096
  · refine Eq.trans (concatenate_apply_piece (α := EReal) (t := S2x4096x29184) _ _ _ _ 0 (by simp) S2x4096x4096 _ rfl rfl 0 rfl (ix3 b p (⟨j.val, h1⟩ : Fin 4096)) ?_ ?_) ?_
    · intro a ha; match a with
      | ⟨0, _⟩ => rfl
      | ⟨1, _⟩ => rfl
      | ⟨2, _⟩ => exact absurd rfl ha
    · show 0 + j.val = j.val; omega
    · rw [val_main_v2_apply, if_pos h1]
      rw [show idx_main_v2 (ix3 b p (⟨j.val, h1⟩ : Fin 4096)) = ix3 b p (⟨j.val, by omega⟩ : Fin 29208) from by
        funext a; match a with | ⟨0, _⟩ => rfl | ⟨1, _⟩ => rfl | ⟨2, _⟩ => rfl, dot_apply]
  · by_cases h2 : j.val < 12800
    · refine Eq.trans (concatenate_apply_piece (α := EReal) (t := S2x4096x29184) _ _ _ _ 1 (by simp) S2x4096x8704 _ rfl rfl 4096 rfl (ix3 b p (⟨j.val - 4096, by omega⟩ : Fin 8704)) ?_ ?_) ?_
      · intro a ha; match a with
        | ⟨0, _⟩ => rfl
        | ⟨1, _⟩ => rfl
        | ⟨2, _⟩ => exact absurd rfl ha
      · show 4096 + (j.val - 4096) = j.val; omega
      · rw [val_main_v3_apply, if_neg h1, if_pos h2, show j.val + 16 = 4112 + (j.val - 4096) by omega]
        rw [show idx_main_v3 (ix3 b p (⟨j.val - 4096, by omega⟩ : Fin 8704)) = ix3 b p (⟨4112 + (j.val - 4096), by omega⟩ : Fin 29208) from by
          funext a; match a with | ⟨0, _⟩ => rfl | ⟨1, _⟩ => rfl | ⟨2, _⟩ => rfl, dot_apply]
    · refine Eq.trans (concatenate_apply_piece (α := EReal) (t := S2x4096x29184) _ _ _ _ 2 (by simp) S2x4096x16384 _ rfl rfl 12800 rfl (ix3 b p (⟨j.val - 12800, by omega⟩ : Fin 16384)) ?_ ?_) ?_
      · intro a ha; match a with
        | ⟨0, _⟩ => rfl
        | ⟨1, _⟩ => rfl
        | ⟨2, _⟩ => exact absurd rfl ha
      · show 12800 + (j.val - 12800) = j.val; omega
      · rw [val_main_v4_apply, if_neg h1, if_neg h2, show j.val + 24 = 12824 + (j.val - 12800) by omega]
        rw [show idx_main_v4 (ix3 b p (⟨j.val - 12800, by omega⟩ : Fin 16384)) = ix3 b p (⟨12824 + (j.val - 12800), by omega⟩ : Fin 29208) from by
          funext a; match a with | ⟨0, _⟩ => rfl | ⟨1, _⟩ => rfl | ⟨2, _⟩ => rfl, dot_apply]

theorem ref_apply (i : S8192x29184.Idx) : val_main_v7 (F := Ideal) x w i = entry x w (i 0).val (i 1).val := by
  have h0 : (i 0).val < 8192 := (i 0).isLt
  have h1 : (i 1).val < 29184 := (i 1).isLt
  rw [val_main_v7_apply, val_main_v6_apply]
  have e : idx_main_v6 i = ix3 (⟨(i 0).val / 4096, by omega⟩ : Fin 2) (⟨(i 0).val % 4096, by omega⟩ : Fin 4096) (⟨(i 1).val, h1⟩ : Fin 29184) := by
    funext a
    apply Fin.ext
    match a with
    | ⟨0, _⟩ => show ((i 0).val * 29184 + (i 1).val) / 119537664 = (i 0).val / 4096; omega
    | ⟨1, _⟩ => show ((i 0).val * 29184 + (i 1).val) / 29184 % 4096 = (i 0).val % 4096; omega
    | ⟨2, _⟩ => show ((i 0).val * 29184 + (i 1).val) % 29184 = (i 1).val; omega
  rw [e]
  refine (pick_apply x w _ _ _).trans ?_
  rw [show 4096 * ((i 0).val / 4096) + (i 0).val % 4096 = (i 0).val by omega]

end Cert.InProjClaim

namespace Cert.InProjClaim

open Cert.InProjIdeal.Blocks

theorem frame_p : Cert.quiescent_InProj := fun m ρ _ => Cert.InProj.Gen.frame m ρ
theorem frame_pi : Cert.quiescent_InProjIdeal := fun m ρ _ => Cert.InProjIdeal.Gen.frame m ρ
theorem frame_ri : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run m ρ)

/-- The kernel and the reference end with the same array. -/
theorem algebraic : Cert.algebraic_InProjIdeal_InProjRefIdeal := by
  intro m g m' g' _ hargs
  refine ⟨fun c => result m c, ?_, ?_⟩
  · exact (θ_run Cert.InProjIdeal.defs _ _).mono (fun r h c => ⟨(h c).1.trans (arr_eq m c), (h c).2⟩) (Cert.InProjIdeal.Value.run_blocks m g)
  · refine (θ_run Cert.InProjRefIdeal.defs _ _).mono (fun r h c => ⟨(h c).1.trans ?_, (h c).2⟩) (Cert.InProjRefIdeal.Value.run m' g')
    rw [Cert.InProjRefIdeal.Read.val_main_v7_eq]
    funext i
    have ha := hargs c
    refine (ref_apply _ _ i).trans ?_
    rw [ha.1, ha.2]
    rfl

end Cert.InProjClaim

end

end
-- ==== Proof.FfnUpClaim.lean ====
/-
  The feed-forward block's gate and up products with the gate's activation between them, blocks of 1024 tokens by 256
  columns, against the reference's.
-/
module

public import proofs.«01_k».proof.Defs
public import proofs.«01_k».proof.Proof.Gen.FfnUp.Frame
public import proofs.«01_k».proof.Proof.Gen.FfnUpIdeal.Value
public import proofs.«01_k».proof.Proof.Gen.FfnUpRefIdeal.Read
public import proofs.«01_k».proof.Proof.Gen.FfnUpRefIdeal.Run
public import Idealize.ShloMosaic.Lib.Pointwise

@[expose] public section

set_option maxRecDepth 16384

noncomputable section

open Idealize.ShloMosaic Idealize.ShloMosaic.TcCoe Idealize.SL.Sem

namespace Cert.FfnUpIdeal.Blocks

open Cert.FfnUpIdeal Cert.FfnUpIdeal.Gen Idealize.ShloMosaic.Pointwise

/-- The tokens, batch and position in one coordinate, at natural-number coordinates. -/
def hAt (x : S2x4096x4096.Idx → EReal) (r c : ℕ) : EReal := x (ix3 (Fin.ofNat 2 (r / 4096)) (Fin.ofNat 4096 r) (Fin.ofNat 4096 c))
/-- A weight matrix at natural-number coordinates. -/
def wAt (x : S4096x11008.Idx → EReal) (r c : ℕ) : EReal := x (ix2 (Fin.ofNat 4096 r) (Fin.ofNat 11008 c))

variable (m : (ℓ : Loc nD τ sig) → Buf (Elt Ideal) ℓ)

abbrev aH (c : Dev nD) : S2x4096x4096.Idx → EReal := m ((c : Thread nD τ).loc main_arg0)
abbrev aG (c : Dev nD) : S4096x11008.Idx → EReal := m ((c : Thread nD τ).loc main_arg1)
abbrev aU (c : Dev nD) : S4096x11008.Idx → EReal := m ((c : Thread nD τ).loc main_arg2)

theorem ind0 : ∀ t : Fin grid0.N, win0_0.index t 0 = t.val / 43 ∧ win0_0.index t 1 = 0 := by decide +kernel
theorem ind1 : ∀ t : Fin grid0.N, win0_1.index t 0 = 0 ∧ win0_1.index t 1 = t.val % 43 := by decide +kernel
theorem ind2 : ∀ t : Fin grid0.N, win0_2.index t 0 = 0 ∧ win0_2.index t 1 = t.val % 43 := by decide +kernel
theorem ind3 : ∀ t : Fin grid0.N, win0_3.index t 0 = t.val / 43 ∧ win0_3.index t 1 = t.val % 43 := by decide +kernel
theorem flush3 : ∀ t : Fin cfg0.N, (cfg0.win 3).flush t = true := (by decide +kernel : ∀ t : Fin grid0.N, win0_3.flush t = true)

theorem lt_N (t : Fin cfg0.N) : t.val < 344 := lt_of_lt_of_eq t.isLt (show cfg0.N = 344 from N_0)

theorem V_v0 (c : Dev nD) : V m c main_v0 = shapeCast S8192x4096 (aH m c) shapeCasts_S2x4096x4096_S8192x4096 := by
  unfold V
  simp [hostOps0]
  rfl

theorem blk0 (c : Dev nD) (t : Fin cfg0.N) (r : Fin 1024) (k : Fin 4096) :
    (iblk m c 0 t : Vec Ideal S1024x4096 .bf16) (ix2 r k) = hAt (aH m c) (1024 * (t.val / 43) + r.val) k.val := by
  have hi := ind0 t
  have ht := lt_N t
  have hr := r.isLt
  have hk := k.isLt
  unfold iblk hAt
  rw [View.read_apply]
  show V m c main_v0 _ = _
  rw [V_v0]
  refine shapeCast_apply _ _ _ _ ?_
  rw [Shape.rowMajor_val_three, Shape.rowMajor_val_two]
  show ((_ : ℕ) / 4096 % 2 * 4096 + (_ : ℕ) % 4096) * 4096 + (_ : ℕ) % 4096
    = (win0_0.index t 0 * 1024 + 1 * r.val) * 4096 + (win0_0.index t 1 * 4096 + 1 * k.val)
  rw [hi.1, hi.2]
  omega

theorem V_v1 (c : Dev nD) : (V m c main_v1 : S4096x11008.Idx → EReal) = aG m c := by
  unfold V
  simp [hostOps0]
  rfl

theorem blk1 (c : Dev nD) (t : Fin cfg0.N) (k : Fin 4096) (j : Fin 256) :
    (iblk m c 1 t : Vec Ideal S4096x256 .bf16) (ix2 k j) = wAt (aG m c) k.val (256 * (t.val % 43) + j.val) := by
  have hi := ind1 t
  have ht := lt_N t
  have hk := k.isLt
  have hj := j.isLt
  unfold iblk wAt
  rw [View.read_apply]
  show V m c main_v1 _ = _
  rw [V_v1]
  congr 1
  funext a
  apply Fin.ext
  match a with
  | ⟨0, _⟩ => show win0_1.index t 0 * 4096 + 1 * k.val = k.val % 4096; rw [hi.1]; omega
  | ⟨1, _⟩ => show win0_1.index t 1 * 256 + 1 * j.val = (_ : ℕ) % 11008; rw [hi.2]; omega

theorem V_v2 (c : Dev nD) : (V m c main_v2 : S4096x11008.Idx → EReal) = aU m c := by
  unfold V
  simp [hostOps0]
  rfl

theorem blk2 (c : Dev nD) (t : Fin cfg0.N) (k : Fin 4096) (j : Fin 256) :
    (iblk m c 2 t : Vec Ideal S4096x256 .bf16) (ix2 k j) = wAt (aU m c) k.val (256 * (t.val % 43) + j.val) := by
  have hi := ind2 t
  have ht := lt_N t
  have hk := k.isLt
  have hj := j.isLt
  unfold iblk wAt
  rw [View.read_apply]
  show V m c main_v2 _ = _
  rw [V_v2]
  congr 1
  funext a
  apply Fin.ext
  match a with
  | ⟨0, _⟩ => show win0_2.index t 0 * 4096 + 1 * k.val = k.val % 4096; rw [hi.1]; omega
  | ⟨1, _⟩ => show win0_2.index t 1 * 256 + 1 * j.val = (_ : ℕ) % 11008; rw [hi.2]; omega

/-- The gate's activation, `x` times the logistic function of `x`. -/
def silu (x : EReal) : EReal := x * Ideal.div (Ideal.ofBits .f32 0x3F800000#32) (Ideal.ofBits .f32 0x3F800000#32 + Ideal.exp (-x))

/-- The body's block, entry by entry. -/
theorem pay_apply (x : Vec Ideal S1024x4096 .bf16) (y z : Vec Ideal S4096x256 .bf16) (r : Fin 1024) (j : Fin 256) :
    k0_pay1 (F := Ideal) x y z (ix2 r j)
      = silu (∑ k : Fin 4096, x (ix2 r k) * y (ix2 k j)) * ∑ k : Fin 4096, x (ix2 r k) * z (ix2 k j) := by
  pointwise [k0_pay1, silu]
  rw [zero_sub]

/-- One product of a token by a column of weights. -/
def dot (h : S2x4096x4096.Idx → EReal) (w : S4096x11008.Idx → EReal) (r j : ℕ) : EReal := ∑ k : Fin 4096, hAt h r k.val * wAt w k.val j

/-- The array the kernel ends with. -/
def result (c : Dev nD) : S8192x11008.Idx → EReal := fun i =>
  silu (dot (aH m c) (aG m c) (i 0).val (i 1).val) * dot (aH m c) (aU m c) (i 0).val (i 1).val

theorem z2 : (![0, 0] : Fin 2 → ℕ) = fun _ => 0 := by funext a; match a with | ⟨0, _⟩ => rfl | ⟨1, _⟩ => rfl

theorem flushed_eq (c : Dev nD) (t : Fin cfg0.N) (hf : (cfg0.win 3).flush t = true) :
    (dats m 0 c).flushed 3 t = ((cfg0.win 3).blk t).view.read (Elt Ideal) (result m c) := by
  have ht := lt_N t
  have hi := ind3 t
  rw [Cert.FfnUpIdeal.Value.flushed3]
  funext j
  obtain ⟨r, d, rfl⟩ : ∃ (r : Fin 1024) (d : Fin 256), j = ix2 r d := ⟨j 0, j 1, by funext a; match a with | ⟨0, _⟩ => rfl | ⟨1, _⟩ => rfl⟩
  rw [View.read_apply]
  have hr := r.isLt
  have hd := d.isLt
  have e0 : (((cfg0.win 3).blk t).view.emb (ix2 r d) 0).val = win0_3.index t 0 * 1024 + 1 * r.val := rfl
  have e1 : (((cfg0.win 3).blk t).view.emb (ix2 r d) 1).val = win0_3.index t 1 * 256 + 1 * d.val := rfl
  rw [hi.1, show t.val / 43 * 1024 + 1 * r.val = 1024 * (t.val / 43) + r.val by omega] at e0
  rw [hi.2, show t.val % 43 * 256 + 1 * d.val = 256 * (t.val % 43) + d.val by omega] at e1
  show out0_3 (iblk m c 0 t) (iblk m c 1 t) (iblk m c 2 t) (ix2 r d) = _
  unfold out0_3
  rw [View.canon_unit_zero z2, View.ld_unit_zero z2, View.ld_unit_zero z2, View.ld_unit_zero z2, pay_apply]
  unfold result dot
  rw [e0, e1]
  simp only [blk0, blk1, blk2]
  rfl

theorem cover (i : S8192x11008.Idx) : ∃ t : Fin cfg0.N, (cfg0.win 3).flush t = true ∧ i ∈ ((cfg0.win 3).blk t).view.set := by
  have h0 : (i 0).val < 8192 := (i 0).isLt
  have h1 : (i 1).val < 11008 := (i 1).isLt
  have hN : cfg0.N = 344 := N_0
  obtain ⟨n, hn, hv⟩ : ∃ n : ℕ, n < cfg0.N ∧ n = 43 * ((i 0).val / 1024) + (i 1).val / 256 := ⟨_, by omega, rfl⟩
  have hi := ind3 ⟨n, hn⟩
  dsimp only at hi
  refine ⟨⟨n, hn⟩, flush3 _, ?_⟩
  show i ∈ ((View.whole main_v3).slice (win0_3.rect ⟨n, hn⟩)).set
  rw [View.set_slice_whole, Rect.mem_set_unit]
  intro a
  match a with
  | ⟨0, _⟩ => show win0_3.index _ 0 * 1024 ≤ (i 0).val ∧ (i 0).val < win0_3.index _ 0 * 1024 + 1024; rw [hi.1]; omega
  | ⟨1, _⟩ => show win0_3.index _ 1 * 256 ≤ (i 1).val ∧ (i 1).val < win0_3.index _ 1 * 256 + 256; rw [hi.2]; omega

theorem arr_eq (c : Dev nD) : (dats m 0 c).arrAt 3 cfg0.N = result m c :=
  (dats m 0 c).arrAt_eq_of_cover 3 (result m c) (flushed_eq m c) cover

end Cert.FfnUpIdeal.Blocks

namespace Cert.FfnUpClaim

open Cert.FfnUpRefIdeal Cert.FfnUpRefIdeal.Gen Cert.FfnUpRefIdeal.Facts Cert.FfnUpRefIdeal.Read Cert.FfnUpIdeal.Blocks
open Idealize.ShloMosaic.Pointwise

variable (x : S2x4096x4096.Idx → EReal) (w u : S4096x11008.Idx → EReal)

theorem v1_apply (b : Fin 2) (p : Fin 4096) (j : Fin 11008) :
    val_main_v1 (F := Ideal) x w (ix3 b p j) = dot x w (4096 * b.val + p.val) j.val := by
  have hb := b.isLt
  have hp := p.isLt
  have hj := j.isLt
  rw [val_main_v1_apply]
  unfold dot
  refine Finset.sum_congr rfl fun k _ => ?_
  have hk := k.isLt
  rw [val_main_v0_apply]
  unfold hAt wAt
  show x _ * w _ = x _ * w _
  congr 2
  · funext a
    apply Fin.ext
    match a with
    | ⟨0, _⟩ => show b.val = (_ : ℕ) / 4096 % 2; omega
    | ⟨1, _⟩ => show p.val = (_ : ℕ) % 4096; omega
    | ⟨2, _⟩ => show k.val = k.val % 4096; omega
  · funext a
    apply Fin.ext
    match a with
    | ⟨0, _⟩ => show k.val = k.val % 4096; omega
    | ⟨1, _⟩ => show j.val = j.val % 11008; omega

theorem v3_apply (b : Fin 2) (p : Fin 4096) (j : Fin 11008) :
    val_main_v3 (F := Ideal) x u (ix3 b p j) = dot x u (4096 * b.val + p.val) j.val := by
  have hb := b.isLt
  have hp := p.isLt
  have hj := j.isLt
  rw [val_main_v3_apply]
  unfold dot
  refine Finset.sum_congr rfl fun k _ => ?_
  have hk := k.isLt
  rw [val_main_v0_apply]
  unfold hAt wAt
  show x _ * u _ = x _ * u _
  congr 2
  · funext a
    apply Fin.ext
    match a with
    | ⟨0, _⟩ => show b.val = (_ : ℕ) / 4096 % 2; omega
    | ⟨1, _⟩ => show p.val = (_ : ℕ) % 4096; omega
    | ⟨2, _⟩ => show k.val = k.val % 4096; omega
  · funext a
    apply Fin.ext
    match a with
    | ⟨0, _⟩ => show k.val = k.val % 4096; omega
    | ⟨1, _⟩ => show j.val = j.val % 11008; omega

theorem ref_apply (i : S8192x11008.Idx) :
    val_main_v6 (F := Ideal) x w u i = silu (dot x w (i 0).val (i 1).val) * dot x u (i 0).val (i 1).val := by
  have h0 : (i 0).val < 8192 := (i 0).isLt
  have h1 : (i 1).val < 11008 := (i 1).isLt
  rw [val_main_v6_apply, val_main_v5_apply]
  have e : idx_main_v5 i = ix3 (⟨(i 0).val / 4096, by omega⟩ : Fin 2) (⟨(i 0).val % 4096, by omega⟩ : Fin 4096) (⟨(i 1).val, h1⟩ : Fin 11008) := by
    funext a
    apply Fin.ext
    match a with
    | ⟨0, _⟩ => show ((i 0).val * 11008 + (i 1).val) / 45088768 = (i 0).val / 4096; omega
    | ⟨1, _⟩ => show ((i 0).val * 11008 + (i 1).val) / 11008 % 4096 = (i 0).val % 4096; omega
    | ⟨2, _⟩ => show ((i 0).val * 11008 + (i 1).val) % 11008 = (i 1).val; omega
  rw [e, val_main_v4_apply, val_main_v2_apply, val_main_call0_v5_apply, val_main_call0_v4_apply, val_main_call0_cst_0_apply,
    val_main_call0_v3_apply, val_main_call0_v2_apply, val_main_call0_cst_apply, val_main_call0_v1_apply, val_main_call0_v0_apply,
    v1_apply, v3_apply]
  dsimp only
  rw [show 4096 * ((i 0).val / 4096) + (i 0).val % 4096 = (i 0).val by omega]
  rfl

end Cert.FfnUpClaim

namespace Cert.FfnUpClaim

open Cert.FfnUpIdeal.Blocks

theorem frame_p : Cert.quiescent_FfnUp := fun m ρ _ => Cert.FfnUp.Gen.frame m ρ
theorem frame_pi : Cert.quiescent_FfnUpIdeal := fun m ρ _ => Cert.FfnUpIdeal.Gen.frame m ρ
theorem frame_ri : Cert.quiescent_FfnUpRefIdeal := fun m ρ _ =>
  (θ_run Cert.FfnUpRefIdeal.defs _ _).mono (fun r h => ⟨fun c => (h c).2, sem_eq_zero_of_no_sems (by decide) r.2⟩)
    (Cert.FfnUpRefIdeal.Value.run m ρ)

/-- The kernel and the reference end with the same array. -/
theorem algebraic : Cert.algebraic_FfnUpIdeal_FfnUpRefIdeal := by
  intro m g m' g' _ hargs
  refine ⟨fun c => result m c, ?_, ?_⟩
  · exact (θ_run Cert.FfnUpIdeal.defs _ _).mono (fun r h c => ⟨(h c).1.trans (arr_eq m c), (h c).2⟩) (Cert.FfnUpIdeal.Value.run_blocks m g)
  · refine (θ_run Cert.FfnUpRefIdeal.defs _ _).mono (fun r h c => ⟨(h c).1.trans ?_, (h c).2⟩) (Cert.FfnUpRefIdeal.Value.run m' g')
    rw [Cert.FfnUpRefIdeal.Read.val_main_v6_eq]
    funext i
    have ha := hargs c
    refine (ref_apply _ _ _ i).trans ?_
    rw [ha.1, ha.2.1, ha.2.2]
    rfl

end Cert.FfnUpClaim

end

end
-- ==== Proof.FfnDownClaim.lean ====
/-
  The feed-forward block's down product added to the residual stream under the gate. The kernel sums the 11008 terms in
  two halves, kept in a scratch block between the two points.
-/
module

public import proofs.«01_k».proof.Defs
public import proofs.«01_k».proof.Proof.Gen.FfnDown.Frame
public import proofs.«01_k».proof.Proof.Gen.FfnDownIdeal.Value
public import proofs.«01_k».proof.Proof.Gen.FfnDownRefIdeal.Read
public import proofs.«01_k».proof.Proof.Gen.FfnDownRefIdeal.Run
public import Idealize.ShloMosaic.Lib.Pointwise

@[expose] public section

set_option maxRecDepth 16384

noncomputable section

open Idealize.ShloMosaic Idealize.ShloMosaic.TcCoe Idealize.SL.Sem

namespace Cert.FfnDownIdeal.Blocks

open Cert.FfnDownIdeal Cert.FfnDownIdeal.Gen Idealize.ShloMosaic.Pointwise

/-- The activations, a row a token, at natural-number coordinates. -/
def aAt (x : S8192x11008.Idx → EReal) (r c : ℕ) : EReal := x (ix2 (Fin.ofNat 8192 r) (Fin.ofNat 11008 c))
/-- The weights at natural-number coordinates. -/
def wAt (x : S11008x4096.Idx → EReal) (r c : ℕ) : EReal := x (ix2 (Fin.ofNat 11008 r) (Fin.ofNat 4096 c))
/-- The residual stream, batch and position in one coordinate, at natural-number coordinates. -/
def xAt (x : S2x4096x4096.Idx → EReal) (r c : ℕ) : EReal := x (ix3 (Fin.ofNat 2 (r / 4096)) (Fin.ofNat 4096 r) (Fin.ofNat 4096 c))
/-- The gate of a batch at natural-number coordinates. -/
def gAt (x : S2x4096.Idx → EReal) (b c : ℕ) : EReal := x (ix2 (Fin.ofNat 2 b) (Fin.ofNat 4096 c))

variable (m : (ℓ : Loc nD τ sig) → Buf (Elt Ideal) ℓ)

abbrev aA (c : Dev nD) : S8192x11008.Idx → EReal := m ((c : Thread nD τ).loc main_arg0)
abbrev aW (c : Dev nD) : S11008x4096.Idx → EReal := m ((c : Thread nD τ).loc main_arg1)
abbrev aX (c : Dev nD) : S2x4096x4096.Idx → EReal := m ((c : Thread nD τ).loc main_arg2)
abbrev aG (c : Dev nD) : S2x4096.Idx → EReal := m ((c : Thread nD τ).loc main_arg3)

theorem ind0 : ∀ t : Fin grid0.N, win0_0.index t 0 = t.val / 16 ∧ win0_0.index t 1 = t.val % 2 := by decide +kernel
theorem ind1 : ∀ t : Fin grid0.N, win0_1.index t 0 = t.val % 2 ∧ win0_1.index t 1 = t.val / 2 % 8 := by decide +kernel
theorem ind2 : ∀ t : Fin grid0.N, win0_2.index t 0 = t.val / 16 ∧ win0_2.index t 1 = t.val / 2 % 8 := by decide +kernel
theorem ind3 : ∀ t : Fin grid0.N, win0_3.index t 0 = t.val / 128 ∧ win0_3.index t 1 = 0 ∧ win0_3.index t 2 = t.val / 2 % 8 := by decide +kernel
theorem ind4 : ∀ t : Fin grid0.N, win0_4.index t 0 = t.val / 16 ∧ win0_4.index t 1 = t.val / 2 % 8 := by decide +kernel

theorem lt_N (t : Fin cfg0.N) : t.val < 256 := lt_of_lt_of_eq t.isLt (show cfg0.N = 256 from N_0)

theorem V_v0 (c : Dev nD) : (V m c main_v0 : S11008x4096.Idx → EReal) = aW m c := by
  unfold V
  simp [hostOps0]
  rfl

theorem V_v1 (c : Dev nD) : V m c main_v1 = shapeCast S8192x4096 (aX m c) shapeCasts_S2x4096x4096_S8192x4096 := by
  unfold V
  simp [hostOps0]
  rfl

theorem V_v2 (c : Dev nD) : V m c main_v2 = shapeCast S2x1x4096 (aG m c) shapeCasts_S2x4096_S2x1x4096 := by
  unfold V
  simp [hostOps0]
  rfl

theorem blk0 (c : Dev nD) (t : Fin cfg0.N) (r : Fin 512) (k : Fin 5504) :
    (iblk m c 0 t : Vec Ideal S512x5504 .bf16) (ix2 r k) = aAt (aA m c) (512 * (t.val / 16) + r.val) (5504 * (t.val % 2) + k.val) := by
  have hi := ind0 t
  have ht := lt_N t
  have hr := r.isLt
  have hk := k.isLt
  unfold iblk aAt
  rw [View.read_apply]
  show V m c main_arg0 _ = _
  rw [V_main_arg0]
  unfold aA
  congr 1
  funext a
  apply Fin.ext
  match a with
  | ⟨0, _⟩ => show win0_0.index t 0 * 512 + 1 * r.val = (_ : ℕ) % 8192; rw [hi.1]; omega
  | ⟨1, _⟩ => show win0_0.index t 1 * 5504 + 1 * k.val = (_ : ℕ) % 11008; rw [hi.2]; omega

theorem blk1 (c : Dev nD) (t : Fin cfg0.N) (k : Fin 5504) (j : Fin 512) :
    (iblk m c 1 t : Vec Ideal S5504x512 .bf16) (ix2 k j) = wAt (aW m c) (5504 * (t.val % 2) + k.val) (512 * (t.val / 2 % 8) + j.val) := by
  have hi := ind1 t
  have ht := lt_N t
  have hk := k.isLt
  have hj := j.isLt
  unfold iblk wAt
  rw [View.read_apply]
  show V m c main_v0 _ = _
  rw [V_v0]
  congr 1
  funext a
  apply Fin.ext
  match a with
  | ⟨0, _⟩ => show win0_1.index t 0 * 5504 + 1 * k.val = (_ : ℕ) % 11008; rw [hi.1]; omega
  | ⟨1, _⟩ => show win0_1.index t 1 * 512 + 1 * j.val = (_ : ℕ) % 4096; rw [hi.2]; omega

theorem blk2 (c : Dev nD) (t : Fin cfg0.N) (r : Fin 512) (j : Fin 512) :
    (iblk m c 2 t : Vec Ideal S512x512 .f32) (ix2 r j) = xAt (aX m c) (512 * (t.val / 16) + r.val) (512 * (t.val / 2 % 8) + j.val) := by
  have hi := ind2 t
  have ht := lt_N t
  have hr := r.isLt
  have hj := j.isLt
  unfold iblk xAt
  rw [View.read_apply]
  show V m c main_v1 _ = _
  rw [V_v1]
  refine shapeCast_apply _ _ _ _ ?_
  rw [Shape.rowMajor_val_three, Shape.rowMajor_val_two]
  show ((_ : ℕ) / 4096 % 2 * 4096 + (_ : ℕ) % 4096) * 4096 + (_ : ℕ) % 4096
    = (win0_2.index t 0 * 512 + 1 * r.val) * 4096 + (win0_2.index t 1 * 512 + 1 * j.val)
  rw [hi.1, hi.2]
  omega

theorem blk3 (c : Dev nD) (t : Fin cfg0.N) (j : Fin 512) :
    (iblk m c 3 t : Vec Ideal S1x1x512 .f32) (ix3 0 0 j) = gAt (aG m c) (t.val / 128) (512 * (t.val / 2 % 8) + j.val) := by
  have hi := ind3 t
  have ht := lt_N t
  have hj := j.isLt
  unfold iblk gAt
  rw [View.read_apply]
  show V m c main_v2 _ = _
  rw [V_v2]
  refine shapeCast_apply _ _ _ _ ?_
  rw [Shape.rowMajor_val_two, Shape.rowMajor_val_three]
  show (_ : ℕ) % 2 * 4096 + (_ : ℕ) % 4096
    = ((win0_3.index t 0 * 1 + 1 * 0) * 1 + (win0_3.index t 1 * 1 + 1 * 0)) * 4096 + (win0_3.index t 2 * 512 + 1 * j.val)
  rw [hi.1, hi.2.1, hi.2.2]
  omega

theorem pay1_apply (r : Fin 512) (j : Fin 512) : k0_pay1 (F := Ideal) (ix2 r j) = 0 := by
  pointwise [k0_pay1]

theorem pay2_apply (a : Vec Ideal S512x512 .f32) (x : Vec Ideal S512x5504 .bf16) (y : Vec Ideal S5504x512 .bf16) (r : Fin 512) (j : Fin 512) :
    k0_pay2 (F := Ideal) a x y (ix2 r j) = a (ix2 r j) + ∑ k : Fin 5504, x (ix2 r k) * y (ix2 k j) := by
  pointwise [k0_pay2]

theorem pay3_apply (x : Vec Ideal S512x512 .f32) (g : Vec Ideal S1x1x512 .f32) (a : Vec Ideal S512x512 .f32) (r : Fin 512) (j : Fin 512) :
    k0_pay3 (F := Ideal) x g a (ix2 r j) = x (ix2 r j) + g (ix3 0 0 j) * a (ix2 r j) := by
  pointwise [k0_pay3]

theorem z2 : (![0, 0] : Fin 2 → ℕ) = fun _ => 0 := by funext a; match a with | ⟨0, _⟩ => rfl | ⟨1, _⟩ => rfl
theorem z3 : (![0, 0, 0] : Fin 3 → ℕ) = fun _ => 0 := by funext a; match a with | ⟨0, _⟩ => rfl | ⟨1, _⟩ => rfl | ⟨2, _⟩ => rfl

section Body

variable {F : FTy → Type} [FloatOps F] (c : Dev nD) (i : grid0.Coords)
  (arg3 : Memref sig .tc .vmem S512x5504 .bf16) (harg3 : arg3.IsWhole) (arg4 : Memref sig .tc .vmem S5504x512 .bf16) (harg4 : arg4.IsWhole)
  (arg5 : Memref sig .tc .vmem S512x512 .f32) (harg5 : arg5.IsWhole) (arg6 : Memref sig .tc .vmem S1x1x512 .f32) (harg6 : arg6.IsWhole)
  (arg7 : Memref sig .tc .vmem S512x512 .f32) (harg7 : arg7.IsWhole) (arg8 : Memref sig .tc .vmem S512x512 .f32) (harg8 : arg8.IsWhole)
  (x0 : Vec F S512x5504 .bf16) (x1 : Vec F S5504x512 .bf16) (x2 : Vec F S512x512 .f32) (x3 : Vec F S1x1x512 .f32) (xs0 : Vec F S512x512 .f32)

/-- What the first point of a block leaves in the running sum. -/
theorem sout0_A_0_eq (hc0 : cond0_0 i) (hc1 : ¬cond0_1 i) :
    sout0_A_0 c i arg3 harg3 arg4 harg4 arg5 harg5 arg6 harg6 arg7 harg7 arg8 harg8 hc0 hc1 x0 x1 x2 x3 = k0_pay2 k0_pay1 x0 x1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  simp only [View.canon_unit_zero (S := S512x512) z2, View.canon_cons_unit_zero (S := S512x512) z2, View.readCov_unit_zero (S := S512x512) _ z2, View.readCov_cons_toLoadRect]
  simp only [View.readAt_eq_ld, harg3.read_unread, harg4.read_unread, harg5.read_unread, harg6.read_unread, harg8.read_unread,
    View.ld_unit_zero (S := S512x5504) z2, View.ld_unit_zero (S := S5504x512) z2, View.ld_unit_zero (S := S512x512) z2, View.ld_unit_zero (S := S1x1x512) z3]

/-- What the last point of a block leaves in the output block. -/
theorem out0_B_4_eq (hc0 : ¬cond0_0 i) (hc1 : cond0_1 i) :
    out0_B_4 c i arg3 harg3 arg4 harg4 arg5 harg5 arg6 harg6 arg7 harg7 arg8 harg8 hc0 hc1 x0 x1 x2 x3 xs0 = k0_pay3 x2 x3 (k0_pay2 xs0 x0 x1) := by
  unfold out0_B_4
  rw [View.read_writes_eq_canon _ _ _ (cover0_B_4 c i arg3 harg3 arg4 harg4 arg5 harg5 arg6 harg6 arg7 harg7 arg8 harg8 hc0 hc1 x0 x1 x2 x3 xs0)]
  unfold kernelRun0_B
  dsimp only
  sl_unfold_words
  simp only [View.canon_unit_zero (S := S512x512) z2, View.canon_cons_unit_zero (S := S512x512) z2, View.readCov_unit_zero (S := S512x512) _ z2, View.readCov_cons_toLoadRect]
  simp only [View.readAt_eq_ld, harg3.read_unread, harg4.read_unread, harg5.read_unread, harg6.read_unread, harg8.read_unread,
    View.ld_unit_zero (S := S512x5504) z2, View.ld_unit_zero (S := S5504x512) z2, View.ld_unit_zero (S := S512x512) z2, View.ld_unit_zero (S := S1x1x512) z3]

end Body

/-- The first `n` terms of one product of a token by a column of weights. -/
def dot (a : S8192x11008.Idx → EReal) (w : S11008x4096.Idx → EReal) (r j n : ℕ) : EReal := ∑ k ∈ Finset.range n, aAt a r k * wAt w k j

/-- The array the kernel ends with. -/
def result (c : Dev nD) : S8192x4096.Idx → EReal := fun i =>
  xAt (aX m c) (i 0).val (i 1).val + gAt (aG m c) ((i 0).val / 4096) (i 1).val * dot (aA m c) (aW m c) (i 0).val (i 1).val 11008

/-- The running sum after the first point of a block: the first half of the terms. -/
theorem half_apply (c : Dev nD) (t : Fin cfg0.N) (h0 : t.val % 2 = 0) (r : Fin 512) (j : Fin 512) :
    (outsAt0 m c t.val t.isLt).2 (ix2 r j)
      = dot (aA m c) (aW m c) (512 * (t.val / 16) + r.val) (512 * (t.val / 2 % 8) + j.val) 5504 := by
  rw [outsAt0_A m c t h0 (by omega)]
  dsimp only
  rw [sout0_A_0_eq, pay2_apply, pay1_apply, zero_add]
  unfold dot
  rw [Finset.sum_range]
  simp only [blk0, blk1, h0, Nat.mul_zero, Nat.zero_add]

theorem half_at (c : Dev nD) (n : ℕ) (hn : n < cfg0.N) (h0 : n % 2 = 0) (r : Fin 512) (j : Fin 512) :
    (outsAt0 m c n hn).2 (ix2 r j)
      = dot (aA m c) (aW m c) (512 * (n / 16) + r.val) (512 * (n / 2 % 8) + j.val) 5504 :=
  half_apply m c ⟨n, hn⟩ h0 r j

theorem out_apply (c : Dev nD) (t : Fin cfg0.N) (h1 : t.val % 2 = 1) (r : Fin 512) (j : Fin 512) :
    (outsAt0 m c t.val t.isLt).1 (ix2 r j) = xAt (aX m c) (512 * (t.val / 16) + r.val) (512 * (t.val / 2 % 8) + j.val)
      + gAt (aG m c) (t.val / 128) (512 * (t.val / 2 % 8) + j.val) * dot (aA m c) (aW m c) (512 * (t.val / 16) + r.val) (512 * (t.val / 2 % 8) + j.val) 11008 := by
  have ht := lt_N t
  rw [outsAt0_B m c t (by omega) h1]
  dsimp only
  rw [out0_B_4_eq, pay3_apply, pay2_apply, blk2, blk3, half_at m c _ _ (by omega)]
  rw [show (t.val - 1) / 16 = t.val / 16 by omega, show (t.val - 1) / 2 % 8 = t.val / 2 % 8 by omega]
  unfold dot
  rw [show 11008 = 5504 + 5504 from rfl, Finset.sum_range_add, Finset.sum_range (n := 5504) (fun k => aAt _ _ (5504 + k) * _)]
  simp only [blk0, blk1, h1, Nat.mul_one]

theorem flushed_eq (c : Dev nD) (t : Fin cfg0.N) (hf : (cfg0.win 4).flush t = true) :
    (dats m 0 c).flushed 4 t = ((cfg0.win 4).blk t).view.read (Elt Ideal) (result m c) := by
  have ht := lt_N t
  have hi := ind4 t
  have h1 := (flush0_4 t).mp hf
  rw [Cert.FfnDownIdeal.Value.flushed4]
  funext j
  obtain ⟨r, d, rfl⟩ : ∃ (r : Fin 512) (d : Fin 512), j = ix2 r d := ⟨j 0, j 1, by funext a; match a with | ⟨0, _⟩ => rfl | ⟨1, _⟩ => rfl⟩
  rw [View.read_apply]
  have hr := r.isLt
  have hd := d.isLt
  have e0 : (((cfg0.win 4).blk t).view.emb (ix2 r d) 0).val = win0_4.index t 0 * 512 + 1 * r.val := rfl
  have e1 : (((cfg0.win 4).blk t).view.emb (ix2 r d) 1).val = win0_4.index t 1 * 512 + 1 * d.val := rfl
  rw [hi.1, show t.val / 16 * 512 + 1 * r.val = 512 * (t.val / 16) + r.val by omega] at e0
  rw [hi.2, show t.val / 2 % 8 * 512 + 1 * d.val = 512 * (t.val / 2 % 8) + d.val by omega] at e1
  show (outsAt0 m c t.val t.isLt).1 (ix2 r d) = _
  rw [out_apply m c t h1]
  unfold result
  rw [e0, e1, show (512 * (t.val / 16) + r.val) / 4096 = t.val / 128 by omega]
  rfl

theorem cover (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 256 := N_0
  obtain ⟨n, hn, hv⟩ : ∃ n : ℕ, n < cfg0.N ∧ n = 16 * ((i 0).val / 512) + 2 * ((i 1).val / 512) + 1 := ⟨_, by omega, rfl⟩
  have hi := ind4 ⟨n, hn⟩
  dsimp only at hi
  refine ⟨⟨n, hn⟩, (flush0_4 _).mpr (by dsimp only; omega), ?_⟩
  show i ∈ ((View.whole main_v3).slice (win0_4.rect ⟨n, hn⟩)).set
  rw [View.set_slice_whole, Rect.mem_set_unit]
  intro a
  match a with
  | ⟨0, _⟩ => show win0_4.index _ 0 * 512 ≤ (i 0).val ∧ (i 0).val < win0_4.index _ 0 * 512 + 512; rw [hi.1]; omega
  | ⟨1, _⟩ => show win0_4.index _ 1 * 512 ≤ (i 1).val ∧ (i 1).val < win0_4.index _ 1 * 512 + 512; rw [hi.2]; omega

theorem arr_eq (c : Dev nD) : (dats m 0 c).arrAt 4 cfg0.N = result m c :=
  (dats m 0 c).arrAt_eq_of_cover 4 (result m c) (flushed_eq m c) cover

end Cert.FfnDownIdeal.Blocks

namespace Cert.FfnDownClaim

open Cert.FfnDownRefIdeal Cert.FfnDownRefIdeal.Gen Cert.FfnDownRefIdeal.Facts Cert.FfnDownRefIdeal.Read Cert.FfnDownIdeal.Blocks
open Idealize.ShloMosaic.Pointwise

variable (a : S8192x11008.Idx → EReal) (w : S11008x4096.Idx → EReal) (x : S2x4096x4096.Idx → EReal) (g : S2x4096.Idx → EReal)

theorem dot_apply (b : Fin 2) (p : Fin 4096) (j : Fin 4096) :
    val_main_v2 (F := Ideal) a w (ix3 b p j) = dot a w (4096 * b.val + p.val) j.val 11008 := by
  have hb := b.isLt
  have hp := p.isLt
  have hj := j.isLt
  rw [val_main_v2_apply]
  unfold dot
  rw [Finset.sum_range]
  refine Finset.sum_congr rfl fun k _ => ?_
  have hk := k.isLt
  rw [val_main_v1_apply, val_main_v0_apply]
  unfold aAt wAt
  show a _ * w _ = a _ * w _
  congr 2
  · funext e
    apply Fin.ext
    match e with
    | ⟨0, _⟩ => show ((b.val * 4096 + p.val) * 11008 + k.val) / 11008 = (_ : ℕ) % 8192; omega
    | ⟨1, _⟩ => show ((b.val * 4096 + p.val) * 11008 + k.val) % 11008 = k.val % 11008; omega
  · funext e
    apply Fin.ext
    match e with
    | ⟨0, _⟩ => show k.val = k.val % 11008; omega
    | ⟨1, _⟩ => show j.val = j.val % 4096; omega

theorem ref_apply (i : S8192x4096.Idx) :
    val_main_v7 (F := Ideal) a w x g i
      = xAt x (i 0).val (i 1).val + gAt g ((i 0).val / 4096) (i 1).val * dot a w (i 0).val (i 1).val 11008 := by
  have h0 : (i 0).val < 8192 := (i 0).isLt
  have h1 : (i 1).val < 4096 := (i 1).isLt
  rw [val_main_v7_apply]
  have e : idx_main_v7 i = ix3 (⟨(i 0).val / 4096, by omega⟩ : Fin 2) (⟨(i 0).val % 4096, by omega⟩ : Fin 4096) (⟨(i 1).val, h1⟩ : Fin 4096) := by
    funext a
    apply Fin.ext
    match a with
    | ⟨0, _⟩ => show ((i 0).val * 4096 + (i 1).val) / 16777216 = (i 0).val / 4096; omega
    | ⟨1, _⟩ => show ((i 0).val * 4096 + (i 1).val) / 4096 % 4096 = (i 0).val % 4096; omega
    | ⟨2, _⟩ => show ((i 0).val * 4096 + (i 1).val) % 4096 = (i 1).val; omega
  rw [e, val_main_v6_apply, val_main_v5_apply, val_main_v4_apply, val_main_v3_apply, dot_apply]
  dsimp only
  rw [show 4096 * ((i 0).val / 4096) + (i 0).val % 4096 = (i 0).val by omega]
  unfold xAt gAt
  show x _ + g _ * _ = x _ + g _ * _
  congr 2
  · funext e
    apply Fin.ext
    match e with
    | ⟨0, _⟩ => show (i 0).val / 4096 = (_ : ℕ) % 2; omega
    | ⟨1, _⟩ => show (i 0).val % 4096 = (_ : ℕ) % 4096; omega
    | ⟨2, _⟩ => show (i 1).val = (_ : ℕ) % 4096; omega
  · congr 1
    funext e
    apply Fin.ext
    match e with
    | ⟨0, _⟩ => show (i 0).val / 4096 = (_ : ℕ) % 2; omega
    | ⟨1, _⟩ => show (i 1).val = (_ : ℕ) % 4096; omega

end Cert.FfnDownClaim

namespace Cert.FfnDownClaim

open Cert.FfnDownIdeal.Blocks

theorem frame_p : Cert.quiescent_FfnDown := fun m ρ _ => Cert.FfnDown.Gen.frame m ρ
theorem frame_pi : Cert.quiescent_FfnDownIdeal := fun m ρ _ => Cert.FfnDownIdeal.Gen.frame m ρ
theorem frame_ri : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run m ρ)

/-- The kernel and the reference end with the same array. -/
theorem algebraic : Cert.algebraic_FfnDownIdeal_FfnDownRefIdeal := by
  intro m g m' g' _ hargs
  refine ⟨fun c => result m c, ?_, ?_⟩
  · exact (θ_run Cert.FfnDownIdeal.defs _ _).mono (fun r h c => ⟨(h c).1.trans (arr_eq m c), (h c).2⟩) (Cert.FfnDownIdeal.Value.run_blocks m g)
  · refine (θ_run Cert.FfnDownRefIdeal.defs _ _).mono (fun r h c => ⟨(h c).1.trans ?_, (h c).2⟩) (Cert.FfnDownRefIdeal.Value.run m' g')
    rw [Cert.FfnDownRefIdeal.Read.val_main_v7_eq]
    funext i
    have ha := hargs c
    refine (ref_apply _ _ _ _ i).trans ?_
    rw [ha.1, ha.2.1, ha.2.2.1, ha.2.2.2]
    rfl

end Cert.FfnDownClaim

end

end
-- ==== Proof.OutProjClaim.lean ====
/-
  The output projection added to the residual stream under the gate, blocks of 1024 tokens by 512 columns.
-/
module

public import proofs.«01_k».proof.Defs
public import proofs.«01_k».proof.Proof.Gen.OutProj.Frame
public import proofs.«01_k».proof.Proof.Gen.OutProjIdeal.Value
public import proofs.«01_k».proof.Proof.Gen.OutProjRefIdeal.Read
public import proofs.«01_k».proof.Proof.Gen.OutProjRefIdeal.Run
public import Idealize.ShloMosaic.Lib.Pointwise

@[expose] public section

set_option maxRecDepth 16384

noncomputable section

open Idealize.ShloMosaic Idealize.ShloMosaic.TcCoe Idealize.SL.Sem

namespace Cert.OutProjIdeal.Blocks

open Cert.OutProjIdeal Cert.OutProjIdeal.Gen Idealize.ShloMosaic.Pointwise

/-- The activations, a row a token, at natural-number coordinates. -/
def aAt (x : S8192x4096.Idx → EReal) (r c : ℕ) : EReal := x (ix2 (Fin.ofNat 8192 r) (Fin.ofNat 4096 c))
/-- The weights at natural-number coordinates. -/
def wAt (x : S4096x4096.Idx → EReal) (r c : ℕ) : EReal := x (ix2 (Fin.ofNat 4096 r) (Fin.ofNat 4096 c))
/-- The residual stream, batch and position in one coordinate, at natural-number coordinates. -/
def xAt (x : S2x4096x4096.Idx → EReal) (r c : ℕ) : EReal := x (ix3 (Fin.ofNat 2 (r / 4096)) (Fin.ofNat 4096 r) (Fin.ofNat 4096 c))
/-- The gate of a batch at natural-number coordinates. -/
def gAt (x : S2x4096.Idx → EReal) (b c : ℕ) : EReal := x (ix2 (Fin.ofNat 2 b) (Fin.ofNat 4096 c))

variable (m : (ℓ : Loc nD τ sig) → Buf (Elt Ideal) ℓ)

abbrev aA (c : Dev nD) : S8192x4096.Idx → EReal := m ((c : Thread nD τ).loc main_arg0)
abbrev aW (c : Dev nD) : S4096x4096.Idx → EReal := m ((c : Thread nD τ).loc main_arg1)
abbrev aX (c : Dev nD) : S2x4096x4096.Idx → EReal := m ((c : Thread nD τ).loc main_arg2)
abbrev aG (c : Dev nD) : S2x4096.Idx → EReal := m ((c : Thread nD τ).loc main_arg3)

theorem ind0 : ∀ t : Fin grid0.N, win0_0.index t 0 = t.val / 8 ∧ win0_0.index t 1 = 0 := by decide +kernel
theorem ind1 : ∀ t : Fin grid0.N, win0_1.index t 0 = 0 ∧ win0_1.index t 1 = t.val % 8 := by decide +kernel
theorem ind2 : ∀ t : Fin grid0.N, win0_2.index t 0 = t.val / 8 ∧ win0_2.index t 1 = t.val % 8 := by decide +kernel
theorem ind3 : ∀ t : Fin grid0.N, win0_3.index t 0 = t.val / 32 ∧ win0_3.index t 1 = 0 ∧ win0_3.index t 2 = t.val % 8 := by decide +kernel
theorem ind4 : ∀ t : Fin grid0.N, win0_4.index t 0 = t.val / 8 ∧ win0_4.index t 1 = t.val % 8 := by decide +kernel

theorem lt_N (t : Fin cfg0.N) : t.val < 64 := lt_of_lt_of_eq t.isLt (show cfg0.N = 64 from N_0)

theorem V_v0 (c : Dev nD) : (V m c main_v0 : S4096x4096.Idx → EReal) = aW m c := by
  unfold V
  simp [hostOps0]
  rfl

theorem V_v1 (c : Dev nD) : V m c main_v1 = shapeCast S8192x4096 (aX m c) shapeCasts_S2x4096x4096_S8192x4096 := by
  unfold V
  simp [hostOps0]
  rfl

theorem V_v2 (c : Dev nD) : V m c main_v2 = shapeCast S2x1x4096 (aG m c) shapeCasts_S2x4096_S2x1x4096 := by
  unfold V
  simp [hostOps0]
  rfl

theorem blk0 (c : Dev nD) (t : Fin cfg0.N) (r : Fin 1024) (k : Fin 4096) :
    (iblk m c 0 t : Vec Ideal S1024x4096 .bf16) (ix2 r k) = aAt (aA m c) (1024 * (t.val / 8) + r.val) (4096 * (0) + k.val) := by
  have hi := ind0 t
  have ht := lt_N t
  have hr := r.isLt
  have hk := k.isLt
  unfold iblk aAt
  rw [View.read_apply]
  show V m c main_arg0 _ = _
  rw [V_main_arg0]
  unfold aA
  congr 1
  funext a
  apply Fin.ext
  match a with
  | ⟨0, _⟩ => show win0_0.index t 0 * 1024 + 1 * r.val = (_ : ℕ) % 8192; rw [hi.1]; omega
  | ⟨1, _⟩ => show win0_0.index t 1 * 4096 + 1 * k.val = (_ : ℕ) % 4096; rw [hi.2]; omega

theorem blk1 (c : Dev nD) (t : Fin cfg0.N) (k : Fin 4096) (j : Fin 512) :
    (iblk m c 1 t : Vec Ideal S4096x512 .bf16) (ix2 k j) = wAt (aW m c) (4096 * (0) + k.val) (512 * (t.val % 8) + j.val) := by
  have hi := ind1 t
  have ht := lt_N t
  have hk := k.isLt
  have hj := j.isLt
  unfold iblk wAt
  rw [View.read_apply]
  show V m c main_v0 _ = _
  rw [V_v0]
  congr 1
  funext a
  apply Fin.ext
  match a with
  | ⟨0, _⟩ => show win0_1.index t 0 * 4096 + 1 * k.val = (_ : ℕ) % 4096; rw [hi.1]; omega
  | ⟨1, _⟩ => show win0_1.index t 1 * 512 + 1 * j.val = (_ : ℕ) % 4096; rw [hi.2]; omega

theorem blk2 (c : Dev nD) (t : Fin cfg0.N) (r : Fin 1024) (j : Fin 512) :
    (iblk m c 2 t : Vec Ideal S1024x512 .f32) (ix2 r j) = xAt (aX m c) (1024 * (t.val / 8) + r.val) (512 * (t.val % 8) + j.val) := by
  have hi := ind2 t
  have ht := lt_N t
  have hr := r.isLt
  have hj := j.isLt
  unfold iblk xAt
  rw [View.read_apply]
  show V m c main_v1 _ = _
  rw [V_v1]
  refine shapeCast_apply _ _ _ _ ?_
  rw [Shape.rowMajor_val_three, Shape.rowMajor_val_two]
  show ((_ : ℕ) / 4096 % 2 * 4096 + (_ : ℕ) % 4096) * 4096 + (_ : ℕ) % 4096
    = (win0_2.index t 0 * 1024 + 1 * r.val) * 4096 + (win0_2.index t 1 * 512 + 1 * j.val)
  rw [hi.1, hi.2]
  omega

theorem blk3 (c : Dev nD) (t : Fin cfg0.N) (j : Fin 512) :
    (iblk m c 3 t : Vec Ideal S1x1x512 .f32) (ix3 0 0 j) = gAt (aG m c) (t.val / 32) (512 * (t.val % 8) + j.val) := by
  have hi := ind3 t
  have ht := lt_N t
  have hj := j.isLt
  unfold iblk gAt
  rw [View.read_apply]
  show V m c main_v2 _ = _
  rw [V_v2]
  refine shapeCast_apply _ _ _ _ ?_
  rw [Shape.rowMajor_val_two, Shape.rowMajor_val_three]
  show (_ : ℕ) % 2 * 4096 + (_ : ℕ) % 4096
    = ((win0_3.index t 0 * 1 + 1 * 0) * 1 + (win0_3.index t 1 * 1 + 1 * 0)) * 4096 + (win0_3.index t 2 * 512 + 1 * j.val)
  rw [hi.1, hi.2.1, hi.2.2]
  omega

theorem pay1_apply (r : Fin 1024) (j : Fin 512) : k0_pay1 (F := Ideal) (ix2 r j) = 0 := by
  pointwise [k0_pay1]

theorem pay2_apply (a : Vec Ideal S1024x512 .f32) (x : Vec Ideal S1024x4096 .bf16) (y : Vec Ideal S4096x512 .bf16) (r : Fin 1024) (j : Fin 512) :
    k0_pay2 (F := Ideal) a x y (ix2 r j) = a (ix2 r j) + ∑ k : Fin 4096, x (ix2 r k) * y (ix2 k j) := by
  pointwise [k0_pay2]

theorem pay3_apply (x : Vec Ideal S1024x512 .f32) (g : Vec Ideal S1x1x512 .f32) (a : Vec Ideal S1024x512 .f32) (r : Fin 1024) (j : Fin 512) :
    k0_pay3 (F := Ideal) x g a (ix2 r j) = x (ix2 r j) + g (ix3 0 0 j) * a (ix2 r j) := by
  pointwise [k0_pay3]

theorem z2 : (![0, 0] : Fin 2 → ℕ) = fun _ => 0 := by funext a; match a with | ⟨0, _⟩ => rfl | ⟨1, _⟩ => rfl
theorem z3 : (![0, 0, 0] : Fin 3 → ℕ) = fun _ => 0 := by funext a; match a with | ⟨0, _⟩ => rfl | ⟨1, _⟩ => rfl | ⟨2, _⟩ => rfl

section Body

variable {F : FTy → Type} [FloatOps F] (c : Dev nD) (i : grid0.Coords)
  (arg3 : Memref sig .tc .vmem S1024x4096 .bf16) (harg3 : arg3.IsWhole) (arg4 : Memref sig .tc .vmem S4096x512 .bf16) (harg4 : arg4.IsWhole)
  (arg5 : Memref sig .tc .vmem S1024x512 .f32) (harg5 : arg5.IsWhole) (arg6 : Memref sig .tc .vmem S1x1x512 .f32) (harg6 : arg6.IsWhole)
  (arg7 : Memref sig .tc .vmem S1024x512 .f32) (harg7 : arg7.IsWhole) (arg8 : Memref sig .tc .vmem S1024x512 .f32) (harg8 : arg8.IsWhole)
  (x0 : Vec F S1024x4096 .bf16) (x1 : Vec F S4096x512 .bf16) (x2 : Vec F S1024x512 .f32) (x3 : Vec F S1x1x512 .f32) (xs0 : Vec F S1024x512 .f32)

/-- What a point leaves in the output block. -/
theorem out0_A_4_eq (hc0 : cond0_0 i) (hc1 : cond0_1 i) :
    out0_A_4 c i arg3 harg3 arg4 harg4 arg5 harg5 arg6 harg6 arg7 harg7 arg8 harg8 hc0 hc1 x0 x1 x2 x3 = k0_pay3 x2 x3 (k0_pay2 k0_pay1 x0 x1) := by
  unfold out0_A_4
  rw [View.read_writes_eq_canon _ _ _ (cover0_A_4 c i arg3 harg3 arg4 harg4 arg5 harg5 arg6 harg6 arg7 harg7 arg8 harg8 hc0 hc1 x0 x1 x2 x3)]
  unfold kernelRun0_A
  dsimp only
  sl_unfold_words
  simp only [View.canon_unit_zero (S := S1024x512) z2, View.canon_cons_unit_zero (S := S1024x512) z2, View.readCov_unit_zero (S := S1024x512) _ z2, View.readCov_cons_toLoadRect]
  simp only [View.readAt_eq_ld, harg3.read_unread, harg4.read_unread, harg5.read_unread, harg6.read_unread, harg8.read_unread,
    View.ld_unit_zero (S := S1024x4096) z2, View.ld_unit_zero (S := S4096x512) z2, View.ld_unit_zero (S := S1024x512) z2, View.ld_unit_zero (S := S1x1x512) z3]

end Body

/-- The first `n` terms of one product of a token by a column of weights. -/
def dot (a : S8192x4096.Idx → EReal) (w : S4096x4096.Idx → EReal) (r j n : ℕ) : EReal := ∑ k ∈ Finset.range n, aAt a r k * wAt w k j

/-- The array the kernel ends with. -/
def result (c : Dev nD) : S8192x4096.Idx → EReal := fun i =>
  xAt (aX m c) (i 0).val (i 1).val + gAt (aG m c) ((i 0).val / 4096) (i 1).val * dot (aA m c) (aW m c) (i 0).val (i 1).val 4096

theorem out_apply (c : Dev nD) (t : Fin cfg0.N) (r : Fin 1024) (j : Fin 512) :
    outsAt0 m c t (ix2 r j) = xAt (aX m c) (1024 * (t.val / 8) + r.val) (512 * (t.val % 8) + j.val)
      + gAt (aG m c) (t.val / 32) (512 * (t.val % 8) + j.val) * dot (aA m c) (aW m c) (1024 * (t.val / 8) + r.val) (512 * (t.val % 8) + j.val) 4096 := by
  unfold outsAt0
  rw [out0_A_4_eq, pay3_apply, pay2_apply, pay1_apply, blk2, blk3, zero_add]
  unfold dot
  rw [Finset.sum_range]
  simp only [blk0, blk1, Nat.mul_zero, Nat.zero_add]

theorem flush4 : ∀ t : Fin cfg0.N, (cfg0.win 4).flush t = true := (by decide +kernel : ∀ t : Fin grid0.N, win0_4.flush t = true)

theorem flushed_eq (c : Dev nD) (t : Fin cfg0.N) (hf : (cfg0.win 4).flush t = true) :
    (dats m 0 c).flushed 4 t = ((cfg0.win 4).blk t).view.read (Elt Ideal) (result m c) := by
  have ht := lt_N t
  have hi := ind4 t
  rw [Cert.OutProjIdeal.Value.flushed4]
  funext j
  obtain ⟨r, d, rfl⟩ : ∃ (r : Fin 1024) (d : Fin 512), j = ix2 r d := ⟨j 0, j 1, by funext a; match a with | ⟨0, _⟩ => rfl | ⟨1, _⟩ => rfl⟩
  rw [View.read_apply]
  have hr := r.isLt
  have hd := d.isLt
  have e0 : (((cfg0.win 4).blk t).view.emb (ix2 r d) 0).val = win0_4.index t 0 * 1024 + 1 * r.val := rfl
  have e1 : (((cfg0.win 4).blk t).view.emb (ix2 r d) 1).val = win0_4.index t 1 * 512 + 1 * d.val := rfl
  rw [hi.1, show t.val / 8 * 1024 + 1 * r.val = 1024 * (t.val / 8) + r.val by omega] at e0
  rw [hi.2, show t.val % 8 * 512 + 1 * d.val = 512 * (t.val % 8) + d.val by omega] at e1
  show outsAt0 m c t (ix2 r d) = _
  rw [out_apply m c t]
  unfold result
  rw [e0, e1, show (1024 * (t.val / 8) + r.val) / 4096 = t.val / 32 by omega]
  rfl

theorem cover (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 64 := N_0
  obtain ⟨n, hn, hv⟩ : ∃ n : ℕ, n < cfg0.N ∧ n = 8 * ((i 0).val / 1024) + (i 1).val / 512 := ⟨_, by omega, rfl⟩
  have hi := ind4 ⟨n, hn⟩
  dsimp only at hi
  refine ⟨⟨n, hn⟩, flush4 _, ?_⟩
  show i ∈ ((View.whole main_v3).slice (win0_4.rect ⟨n, hn⟩)).set
  rw [View.set_slice_whole, Rect.mem_set_unit]
  intro a
  match a with
  | ⟨0, _⟩ => show win0_4.index _ 0 * 1024 ≤ (i 0).val ∧ (i 0).val < win0_4.index _ 0 * 1024 + 1024; rw [hi.1]; omega
  | ⟨1, _⟩ => show win0_4.index _ 1 * 512 ≤ (i 1).val ∧ (i 1).val < win0_4.index _ 1 * 512 + 512; rw [hi.2]; omega

theorem arr_eq (c : Dev nD) : (dats m 0 c).arrAt 4 cfg0.N = result m c :=
  (dats m 0 c).arrAt_eq_of_cover 4 (result m c) (flushed_eq m c) cover

end Cert.OutProjIdeal.Blocks

namespace Cert.OutProjClaim

open Cert.OutProjRefIdeal Cert.OutProjRefIdeal.Gen Cert.OutProjRefIdeal.Facts Cert.OutProjRefIdeal.Read Cert.OutProjIdeal.Blocks
open Idealize.ShloMosaic.Pointwise

variable (a : S8192x4096.Idx → EReal) (w : S4096x4096.Idx → EReal) (x : S2x4096x4096.Idx → EReal) (g : S2x4096.Idx → EReal)

theorem dot_apply (b : Fin 2) (p : Fin 4096) (j : Fin 4096) :
    val_main_v2 (F := Ideal) a w (ix3 b p j) = dot a w (4096 * b.val + p.val) j.val 4096 := by
  have hb := b.isLt
  have hp := p.isLt
  have hj := j.isLt
  rw [val_main_v2_apply]
  unfold dot
  rw [Finset.sum_range]
  refine Finset.sum_congr rfl fun k _ => ?_
  have hk := k.isLt
  rw [val_main_v1_apply, val_main_v0_apply]
  unfold aAt wAt
  show a _ * w _ = a _ * w _
  congr 2
  · funext e
    apply Fin.ext
    match e with
    | ⟨0, _⟩ => show ((b.val * 4096 + p.val) * 4096 + k.val) / 4096 = (_ : ℕ) % 8192; omega
    | ⟨1, _⟩ => show ((b.val * 4096 + p.val) * 4096 + k.val) % 4096 = k.val % 4096; omega
  · funext e
    apply Fin.ext
    match e with
    | ⟨0, _⟩ => show k.val = k.val % 4096; omega
    | ⟨1, _⟩ => show j.val = j.val % 4096; omega

theorem ref_apply (i : S8192x4096.Idx) :
    val_main_v7 (F := Ideal) a w x g i
      = xAt x (i 0).val (i 1).val + gAt g ((i 0).val / 4096) (i 1).val * dot a w (i 0).val (i 1).val 4096 := by
  have h0 : (i 0).val < 8192 := (i 0).isLt
  have h1 : (i 1).val < 4096 := (i 1).isLt
  rw [val_main_v7_apply]
  have e : idx_main_v7 i = ix3 (⟨(i 0).val / 4096, by omega⟩ : Fin 2) (⟨(i 0).val % 4096, by omega⟩ : Fin 4096) (⟨(i 1).val, h1⟩ : Fin 4096) := by
    funext a
    apply Fin.ext
    match a with
    | ⟨0, _⟩ => show ((i 0).val * 4096 + (i 1).val) / 16777216 = (i 0).val / 4096; omega
    | ⟨1, _⟩ => show ((i 0).val * 4096 + (i 1).val) / 4096 % 4096 = (i 0).val % 4096; omega
    | ⟨2, _⟩ => show ((i 0).val * 4096 + (i 1).val) % 4096 = (i 1).val; omega
  rw [e, val_main_v6_apply, val_main_v5_apply, val_main_v4_apply, val_main_v3_apply, dot_apply]
  dsimp only
  rw [show 4096 * ((i 0).val / 4096) + (i 0).val % 4096 = (i 0).val by omega]
  unfold xAt gAt
  show x _ + g _ * _ = x _ + g _ * _
  congr 2
  · funext e
    apply Fin.ext
    match e with
    | ⟨0, _⟩ => show (i 0).val / 4096 = (_ : ℕ) % 2; omega
    | ⟨1, _⟩ => show (i 0).val % 4096 = (_ : ℕ) % 4096; omega
    | ⟨2, _⟩ => show (i 1).val = (_ : ℕ) % 4096; omega
  · congr 1
    funext e
    apply Fin.ext
    match e with
    | ⟨0, _⟩ => show (i 0).val / 4096 = (_ : ℕ) % 2; omega
    | ⟨1, _⟩ => show (i 1).val = (_ : ℕ) % 4096; omega

end Cert.OutProjClaim

namespace Cert.OutProjClaim

open Cert.OutProjIdeal.Blocks

theorem frame_p : Cert.quiescent_OutProj := fun m ρ _ => Cert.OutProj.Gen.frame m ρ
theorem frame_pi : Cert.quiescent_OutProjIdeal := fun m ρ _ => Cert.OutProjIdeal.Gen.frame m ρ
theorem frame_ri : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run m ρ)

/-- The kernel and the reference end with the same array. -/
theorem algebraic : Cert.algebraic_OutProjIdeal_OutProjRefIdeal := by
  intro m g m' g' _ hargs
  refine ⟨fun c => result m c, ?_, ?_⟩
  · exact (θ_run Cert.OutProjIdeal.defs _ _).mono (fun r h c => ⟨(h c).1.trans (arr_eq m c), (h c).2⟩) (Cert.OutProjIdeal.Value.run_blocks m g)
  · refine (θ_run Cert.OutProjRefIdeal.defs _ _).mono (fun r h c => ⟨(h c).1.trans ?_, (h c).2⟩) (Cert.OutProjRefIdeal.Value.run m' g')
    rw [Cert.OutProjRefIdeal.Read.val_main_v7_eq]
    funext i
    have ha := hargs c
    refine (ref_apply _ _ _ _ i).trans ?_
    rw [ha.1, ha.2.1, ha.2.2.1, ha.2.2.2]
    rfl

end Cert.OutProjClaim

end

end
-- ==== Proof.MergeClaim.lean ====
/-
  The four branches brought together: each branch's output projected, times the logistic function of its gate, and the
  four added, blocks of 512 tokens by 512 columns, against the reference's.
-/
module

public import proofs.«01_k».proof.Defs
public import proofs.«01_k».proof.Proof.Gen.Merge.Frame
public import proofs.«01_k».proof.Proof.Gen.MergeIdeal.Value
public import proofs.«01_k».proof.Proof.Gen.MergeRefIdeal.Read
public import proofs.«01_k».proof.Proof.Gen.MergeRefIdeal.Run
public import Idealize.ShloMosaic.Lib.Pointwise

@[expose] public section

set_option maxRecDepth 16384

noncomputable section

open Idealize.ShloMosaic Idealize.ShloMosaic.TcCoe Idealize.SL.Sem

namespace Cert.MergeIdeal.Blocks

open Cert.MergeIdeal Cert.MergeIdeal.Gen Idealize.ShloMosaic.Pointwise

/-- A branch's output, a row a token, at natural-number coordinates. -/
def yAt {k : ℕ} [NeZero k] (x : (⟨2, ![8192, k]⟩ : Shape).Idx → EReal) (r c : ℕ) : EReal := x (ix2 (Fin.ofNat 8192 r) (Fin.ofNat k c))
/-- A branch's projection at natural-number coordinates. -/
def wAt {k : ℕ} [NeZero k] (x : (⟨2, ![k, 4096]⟩ : Shape).Idx → EReal) (r c : ℕ) : EReal := x (ix2 (Fin.ofNat k r) (Fin.ofNat 4096 c))
/-- The projected tokens, which hold the gates, at natural-number coordinates. -/
def zAt (x : S8192x29184.Idx → EReal) (r c : ℕ) : EReal := x (ix2 (Fin.ofNat 8192 r) (Fin.ofNat 29184 c))

variable (m : (ℓ : Loc nD τ sig) → Buf (Elt Ideal) ℓ)

abbrev aY0 (c : Dev nD) : S8192x1024.Idx → EReal := m ((c : Thread nD τ).loc main_arg0)
abbrev aY1 (c : Dev nD) : S8192x1024.Idx → EReal := m ((c : Thread nD τ).loc main_arg1)
abbrev aY2 (c : Dev nD) : S8192x512.Idx → EReal := m ((c : Thread nD τ).loc main_arg2)
abbrev aY3 (c : Dev nD) : S8192x1024.Idx → EReal := m ((c : Thread nD τ).loc main_arg3)
abbrev aW0 (c : Dev nD) : S1024x4096.Idx → EReal := m ((c : Thread nD τ).loc main_arg4)
abbrev aW1 (c : Dev nD) : S1024x4096.Idx → EReal := m ((c : Thread nD τ).loc main_arg5)
abbrev aW2 (c : Dev nD) : S512x4096.Idx → EReal := m ((c : Thread nD τ).loc main_arg6)
abbrev aW3 (c : Dev nD) : S1024x4096.Idx → EReal := m ((c : Thread nD τ).loc main_arg7)
abbrev aZ (c : Dev nD) : S8192x29184.Idx → EReal := m ((c : Thread nD τ).loc main_arg8)

theorem ind0 : ∀ t : Fin grid0.N, win0_0.index t 0 = t.val / 8 ∧ win0_0.index t 1 = 0 := by decide +kernel
theorem ind1 : ∀ t : Fin grid0.N, win0_1.index t 0 = t.val / 8 ∧ win0_1.index t 1 = 0 := by decide +kernel
theorem ind2 : ∀ t : Fin grid0.N, win0_2.index t 0 = t.val / 8 ∧ win0_2.index t 1 = 0 := by decide +kernel
theorem ind3 : ∀ t : Fin grid0.N, win0_3.index t 0 = t.val / 8 ∧ win0_3.index t 1 = 0 := by decide +kernel
theorem ind4 : ∀ t : Fin grid0.N, win0_4.index t 0 = 0 ∧ win0_4.index t 1 = t.val % 8 := by decide +kernel
theorem ind5 : ∀ t : Fin grid0.N, win0_5.index t 0 = 0 ∧ win0_5.index t 1 = t.val % 8 := by decide +kernel
theorem ind6 : ∀ t : Fin grid0.N, win0_6.index t 0 = 0 ∧ win0_6.index t 1 = t.val % 8 := by decide +kernel
theorem ind7 : ∀ t : Fin grid0.N, win0_7.index t 0 = 0 ∧ win0_7.index t 1 = t.val % 8 := by decide +kernel
theorem ind8 : ∀ t : Fin grid0.N, win0_8.index t 0 = t.val / 8 ∧ win0_8.index t 1 = 25 + t.val % 8 := by decide +kernel
theorem ind9 : ∀ t : Fin grid0.N, win0_9.index t 0 = t.val / 8 ∧ win0_9.index t 1 = 33 + t.val % 8 := by decide +kernel
theorem ind10 : ∀ t : Fin grid0.N, win0_10.index t 0 = t.val / 8 ∧ win0_10.index t 1 = 41 + t.val % 8 := by decide +kernel
theorem ind11 : ∀ t : Fin grid0.N, win0_11.index t 0 = t.val / 8 ∧ win0_11.index t 1 = 49 + t.val % 8 := by decide +kernel
theorem ind12 : ∀ t : Fin grid0.N, win0_12.index t 0 = t.val / 8 ∧ win0_12.index t 1 = t.val % 8 := by decide +kernel
theorem flush12 : ∀ t : Fin cfg0.N, (cfg0.win 12).flush t = true := (by decide +kernel : ∀ t : Fin grid0.N, win0_12.flush t = true)

theorem lt_N (t : Fin cfg0.N) : t.val < 128 := lt_of_lt_of_eq t.isLt (show cfg0.N = 128 from N_0)

theorem V_v0 (c : Dev nD) : (V m c main_v0 : S1024x4096.Idx → EReal) = aW0 m c := by
  unfold V
  simp [hostOps0]
  rfl

theorem blk0 (c : Dev nD) (t : Fin cfg0.N) (r : Fin 512) (k : Fin 1024) :
    (iblk m c 0 t : Vec Ideal S512x1024 .bf16) (ix2 r k) = yAt (aY0 m c) (512 * (t.val / 8) + r.val) k.val := by
  have hi := ind0 t
  have ht := lt_N t
  have hr := r.isLt
  have hk := k.isLt
  unfold iblk yAt
  rw [View.read_apply]
  show V m c main_arg0 _ = _
  rw [V_main_arg0]
  unfold aY0
  congr 1
  funext a
  apply Fin.ext
  match a with
  | ⟨0, _⟩ => show win0_0.index t 0 * 512 + 1 * r.val = (_ : ℕ) % 8192; rw [hi.1]; omega
  | ⟨1, _⟩ => show win0_0.index t 1 * 1024 + 1 * k.val = (_ : ℕ) % 1024; rw [hi.2]; omega

theorem blk4 (c : Dev nD) (t : Fin cfg0.N) (k : Fin 1024) (j : Fin 512) :
    (iblk m c 4 t : Vec Ideal S1024x512 .bf16) (ix2 k j) = wAt (aW0 m c) k.val (512 * (t.val % 8) + j.val) := by
  have hi := ind4 t
  have ht := lt_N t
  have hk := k.isLt
  have hj := j.isLt
  unfold iblk wAt
  rw [View.read_apply]
  show V m c main_v0 _ = _
  rw [V_v0]
  congr 1
  funext a
  apply Fin.ext
  match a with
  | ⟨0, _⟩ => show win0_4.index t 0 * 1024 + 1 * k.val = (_ : ℕ) % 1024; rw [hi.1]; omega
  | ⟨1, _⟩ => show win0_4.index t 1 * 512 + 1 * j.val = (_ : ℕ) % 4096; rw [hi.2]; omega

theorem blk8 (c : Dev nD) (t : Fin cfg0.N) (r : Fin 512) (j : Fin 512) :
    (iblk m c 8 t : Vec Ideal S512x512 .bf16) (ix2 r j) = zAt (aZ m c) (512 * (t.val / 8) + r.val) (12800 + (512 * (t.val % 8) + j.val)) := by
  have hi := ind8 t
  have ht := lt_N t
  have hr := r.isLt
  have hj := j.isLt
  unfold iblk zAt
  rw [View.read_apply]
  show V m c main_arg8 _ = _
  rw [V_main_arg8]
  unfold aZ
  congr 1
  funext a
  apply Fin.ext
  match a with
  | ⟨0, _⟩ => show win0_8.index t 0 * 512 + 1 * r.val = (_ : ℕ) % 8192; rw [hi.1]; omega
  | ⟨1, _⟩ => show win0_8.index t 1 * 512 + 1 * j.val = (_ : ℕ) % 29184; rw [hi.2]; omega

theorem V_v1 (c : Dev nD) : (V m c main_v1 : S1024x4096.Idx → EReal) = aW1 m c := by
  unfold V
  simp [hostOps0]
  rfl

theorem blk1 (c : Dev nD) (t : Fin cfg0.N) (r : Fin 512) (k : Fin 1024) :
    (iblk m c 1 t : Vec Ideal S512x1024 .bf16) (ix2 r k) = yAt (aY1 m c) (512 * (t.val / 8) + r.val) k.val := by
  have hi := ind1 t
  have ht := lt_N t
  have hr := r.isLt
  have hk := k.isLt
  unfold iblk yAt
  rw [View.read_apply]
  show V m c main_arg1 _ = _
  rw [V_main_arg1]
  unfold aY1
  congr 1
  funext a
  apply Fin.ext
  match a with
  | ⟨0, _⟩ => show win0_1.index t 0 * 512 + 1 * r.val = (_ : ℕ) % 8192; rw [hi.1]; omega
  | ⟨1, _⟩ => show win0_1.index t 1 * 1024 + 1 * k.val = (_ : ℕ) % 1024; rw [hi.2]; omega

theorem blk5 (c : Dev nD) (t : Fin cfg0.N) (k : Fin 1024) (j : Fin 512) :
    (iblk m c 5 t : Vec Ideal S1024x512 .bf16) (ix2 k j) = wAt (aW1 m c) k.val (512 * (t.val % 8) + j.val) := by
  have hi := ind5 t
  have ht := lt_N t
  have hk := k.isLt
  have hj := j.isLt
  unfold iblk wAt
  rw [View.read_apply]
  show V m c main_v1 _ = _
  rw [V_v1]
  congr 1
  funext a
  apply Fin.ext
  match a with
  | ⟨0, _⟩ => show win0_5.index t 0 * 1024 + 1 * k.val = (_ : ℕ) % 1024; rw [hi.1]; omega
  | ⟨1, _⟩ => show win0_5.index t 1 * 512 + 1 * j.val = (_ : ℕ) % 4096; rw [hi.2]; omega

theorem blk9 (c : Dev nD) (t : Fin cfg0.N) (r : Fin 512) (j : Fin 512) :
    (iblk m c 9 t : Vec Ideal S512x512 .bf16) (ix2 r j) = zAt (aZ m c) (512 * (t.val / 8) + r.val) (16896 + (512 * (t.val % 8) + j.val)) := by
  have hi := ind9 t
  have ht := lt_N t
  have hr := r.isLt
  have hj := j.isLt
  unfold iblk zAt
  rw [View.read_apply]
  show V m c main_arg8 _ = _
  rw [V_main_arg8]
  unfold aZ
  congr 1
  funext a
  apply Fin.ext
  match a with
  | ⟨0, _⟩ => show win0_9.index t 0 * 512 + 1 * r.val = (_ : ℕ) % 8192; rw [hi.1]; omega
  | ⟨1, _⟩ => show win0_9.index t 1 * 512 + 1 * j.val = (_ : ℕ) % 29184; rw [hi.2]; omega

theorem V_v2 (c : Dev nD) : (V m c main_v2 : S512x4096.Idx → EReal) = aW2 m c := by
  unfold V
  simp [hostOps0]
  rfl

theorem blk2 (c : Dev nD) (t : Fin cfg0.N) (r : Fin 512) (k : Fin 512) :
    (iblk m c 2 t : Vec Ideal S512x512 .bf16) (ix2 r k) = yAt (aY2 m c) (512 * (t.val / 8) + r.val) k.val := by
  have hi := ind2 t
  have ht := lt_N t
  have hr := r.isLt
  have hk := k.isLt
  unfold iblk yAt
  rw [View.read_apply]
  show V m c main_arg2 _ = _
  rw [V_main_arg2]
  unfold aY2
  congr 1
  funext a
  apply Fin.ext
  match a with
  | ⟨0, _⟩ => show win0_2.index t 0 * 512 + 1 * r.val = (_ : ℕ) % 8192; rw [hi.1]; omega
  | ⟨1, _⟩ => show win0_2.index t 1 * 512 + 1 * k.val = (_ : ℕ) % 512; rw [hi.2]; omega

theorem blk6 (c : Dev nD) (t : Fin cfg0.N) (k : Fin 512) (j : Fin 512) :
    (iblk m c 6 t : Vec Ideal S512x512 .bf16) (ix2 k j) = wAt (aW2 m c) k.val (512 * (t.val % 8) + j.val) := by
  have hi := ind6 t
  have ht := lt_N t
  have hk := k.isLt
  have hj := j.isLt
  unfold iblk wAt
  rw [View.read_apply]
  show V m c main_v2 _ = _
  rw [V_v2]
  congr 1
  funext a
  apply Fin.ext
  match a with
  | ⟨0, _⟩ => show win0_6.index t 0 * 512 + 1 * k.val = (_ : ℕ) % 512; rw [hi.1]; omega
  | ⟨1, _⟩ => show win0_6.index t 1 * 512 + 1 * j.val = (_ : ℕ) % 4096; rw [hi.2]; omega

theorem blk10 (c : Dev nD) (t : Fin cfg0.N) (r : Fin 512) (j : Fin 512) :
    (iblk m c 10 t : Vec Ideal S512x512 .bf16) (ix2 r j) = zAt (aZ m c) (512 * (t.val / 8) + r.val) (20992 + (512 * (t.val % 8) + j.val)) := by
  have hi := ind10 t
  have ht := lt_N t
  have hr := r.isLt
  have hj := j.isLt
  unfold iblk zAt
  rw [View.read_apply]
  show V m c main_arg8 _ = _
  rw [V_main_arg8]
  unfold aZ
  congr 1
  funext a
  apply Fin.ext
  match a with
  | ⟨0, _⟩ => show win0_10.index t 0 * 512 + 1 * r.val = (_ : ℕ) % 8192; rw [hi.1]; omega
  | ⟨1, _⟩ => show win0_10.index t 1 * 512 + 1 * j.val = (_ : ℕ) % 29184; rw [hi.2]; omega

theorem V_v3 (c : Dev nD) : (V m c main_v3 : S1024x4096.Idx → EReal) = aW3 m c := by
  unfold V
  simp [hostOps0]
  rfl

theorem blk3 (c : Dev nD) (t : Fin cfg0.N) (r : Fin 512) (k : Fin 1024) :
    (iblk m c 3 t : Vec Ideal S512x1024 .bf16) (ix2 r k) = yAt (aY3 m c) (512 * (t.val / 8) + r.val) k.val := by
  have hi := ind3 t
  have ht := lt_N t
  have hr := r.isLt
  have hk := k.isLt
  unfold iblk yAt
  rw [View.read_apply]
  show V m c main_arg3 _ = _
  rw [V_main_arg3]
  unfold aY3
  congr 1
  funext a
  apply Fin.ext
  match a with
  | ⟨0, _⟩ => show win0_3.index t 0 * 512 + 1 * r.val = (_ : ℕ) % 8192; rw [hi.1]; omega
  | ⟨1, _⟩ => show win0_3.index t 1 * 1024 + 1 * k.val = (_ : ℕ) % 1024; rw [hi.2]; omega

theorem blk7 (c : Dev nD) (t : Fin cfg0.N) (k : Fin 1024) (j : Fin 512) :
    (iblk m c 7 t : Vec Ideal S1024x512 .bf16) (ix2 k j) = wAt (aW3 m c) k.val (512 * (t.val % 8) + j.val) := by
  have hi := ind7 t
  have ht := lt_N t
  have hk := k.isLt
  have hj := j.isLt
  unfold iblk wAt
  rw [View.read_apply]
  show V m c main_v3 _ = _
  rw [V_v3]
  congr 1
  funext a
  apply Fin.ext
  match a with
  | ⟨0, _⟩ => show win0_7.index t 0 * 1024 + 1 * k.val = (_ : ℕ) % 1024; rw [hi.1]; omega
  | ⟨1, _⟩ => show win0_7.index t 1 * 512 + 1 * j.val = (_ : ℕ) % 4096; rw [hi.2]; omega

theorem blk11 (c : Dev nD) (t : Fin cfg0.N) (r : Fin 512) (j : Fin 512) :
    (iblk m c 11 t : Vec Ideal S512x512 .bf16) (ix2 r j) = zAt (aZ m c) (512 * (t.val / 8) + r.val) (25088 + (512 * (t.val % 8) + j.val)) := by
  have hi := ind11 t
  have ht := lt_N t
  have hr := r.isLt
  have hj := j.isLt
  unfold iblk zAt
  rw [View.read_apply]
  show V m c main_arg8 _ = _
  rw [V_main_arg8]
  unfold aZ
  congr 1
  funext a
  apply Fin.ext
  match a with
  | ⟨0, _⟩ => show win0_11.index t 0 * 512 + 1 * r.val = (_ : ℕ) % 8192; rw [hi.1]; omega
  | ⟨1, _⟩ => show win0_11.index t 1 * 512 + 1 * j.val = (_ : ℕ) % 29184; rw [hi.2]; omega

/-- The logistic function, as the kernel writes it. -/
def gate (x : EReal) : EReal := Ideal.div (Ideal.ofBits .f32 0x3F800000#32) (Ideal.ofBits .f32 0x3F800000#32 + Ideal.exp (-x))

theorem pay2_apply (g0 : Vec Ideal S512x512 .bf16) (y0 : Vec Ideal S512x1024 .bf16) (w0 : Vec Ideal S1024x512 .bf16)
    (g1 : Vec Ideal S512x512 .bf16) (y1 : Vec Ideal S512x1024 .bf16) (w1 : Vec Ideal S1024x512 .bf16) (r : Fin 512) (j : Fin 512) :
    k0_pay2 (F := Ideal) g0 y0 w0 g1 y1 w1 (ix2 r j)
      = gate (g0 (ix2 r j)) * (∑ k : Fin 1024, y0 (ix2 r k) * w0 (ix2 k j)) + gate (g1 (ix2 r j)) * ∑ k : Fin 1024, y1 (ix2 r k) * w1 (ix2 k j) := by
  pointwise [k0_pay2, gate]
  rw [zero_sub, zero_sub]

theorem pay3_apply (g : Vec Ideal S512x512 .bf16) (r : Fin 512) (j : Fin 512) :
    k0_pay3 (F := Ideal) g (ix2 r j) = Ideal.exp (-(g (ix2 r j) : EReal)) := by
  pointwise [k0_pay3]
  rw [zero_sub]

theorem pay1_apply (s e : FVec Ideal S512x512 .f32) (o : Ideal .f32) (y2 w2 g3 : Vec Ideal S512x512 .bf16) (y3 : Vec Ideal S512x1024 .bf16) (w3 : Vec Ideal S1024x512 .bf16)
    (r : Fin 512) (j : Fin 512) :
    k0_pay1 (F := Ideal) s e o y2 w2 g3 y3 w3 (ix2 r j)
      = (s (ix2 r j) : EReal) + Ideal.div (Ideal.ofBits .f32 0x3F800000#32) (o + e (ix2 r j)) * (∑ k : Fin 512, y2 (ix2 r k) * w2 (ix2 k j))
        + gate (g3 (ix2 r j)) * ∑ k : Fin 1024, y3 (ix2 r k) * w3 (ix2 k j) := by
  pointwise [k0_pay1, gate]
  rw [zero_sub]

/-- One product of a token by a column of a branch's projection. -/
def dot {k : ℕ} [NeZero k] (y : (⟨2, ![8192, k]⟩ : Shape).Idx → EReal) (w : (⟨2, ![k, 4096]⟩ : Shape).Idx → EReal) (r j : ℕ) : EReal :=
  ∑ q : Fin k, yAt y r q.val * wAt w q.val j

/-- The four branches added, each gated, at a token and a column. -/
def merged (y0 y1 : S8192x1024.Idx → EReal) (y2 : S8192x512.Idx → EReal) (y3 : S8192x1024.Idx → EReal)
    (w0 w1 : S1024x4096.Idx → EReal) (w2 : S512x4096.Idx → EReal) (w3 : S1024x4096.Idx → EReal) (z : S8192x29184.Idx → EReal) (r j : ℕ) : EReal :=
  gate (zAt z r (12800 + j)) * dot y0 w0 r j + gate (zAt z r (16896 + j)) * dot y1 w1 r j
    + gate (zAt z r (20992 + j)) * dot y2 w2 r j + gate (zAt z r (25088 + j)) * dot y3 w3 r j

/-- The array the kernel ends with. -/
def result (c : Dev nD) : S8192x4096.Idx → EReal := fun i =>
  merged (aY0 m c) (aY1 m c) (aY2 m c) (aY3 m c) (aW0 m c) (aW1 m c) (aW2 m c) (aW3 m c) (aZ m c) (i 0).val (i 1).val

theorem z2 : (![0, 0] : Fin 2 → ℕ) = fun _ => 0 := by funext a; match a with | ⟨0, _⟩ => rfl | ⟨1, _⟩ => rfl

/-- What a point leaves in the output block, entry by entry. -/
theorem out_apply (c : Dev nD) (t : Fin cfg0.N) (r : Fin 512) (d : Fin 512) :
    out0_12 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix2 r d)
      = merged (aY0 m c) (aY1 m c) (aY2 m c) (aY3 m c) (aW0 m c) (aW1 m c) (aW2 m c) (aW3 m c) (aZ m c) (512 * (t.val / 8) + r.val) (512 * (t.val % 8) + d.val) := by
  unfold out0_12
  simp only [View.canon_unit_zero (S := S512x512) z2, View.ld_unit_zero (S := S512x512) z2, View.ld_unit_zero (S := S512x1024) z2,
    View.ld_unit_zero (S := S1024x512) z2]
  rw [pay1_apply, pay2_apply, pay3_apply]
  simp only [blk0, blk1, blk2, blk3, blk4, blk5, blk6, blk7, blk8, blk9, blk10, blk11]
  rfl

theorem flushed_eq (c : Dev nD) (t : Fin cfg0.N) (hf : (cfg0.win 12).flush t = true) :
    (dats m 0 c).flushed 12 t = ((cfg0.win 12).blk t).view.read (Elt Ideal) (result m c) := by
  have ht := lt_N t
  have hi := ind12 t
  rw [Cert.MergeIdeal.Value.flushed12]
  funext j
  obtain ⟨r, d, rfl⟩ : ∃ (r : Fin 512) (d : Fin 512), j = ix2 r d := ⟨j 0, j 1, by funext a; match a with | ⟨0, _⟩ => rfl | ⟨1, _⟩ => rfl⟩
  rw [View.read_apply]
  have hr := r.isLt
  have hd := d.isLt
  have e0 : (((cfg0.win 12).blk t).view.emb (ix2 r d) 0).val = win0_12.index t 0 * 512 + 1 * r.val := rfl
  have e1 : (((cfg0.win 12).blk t).view.emb (ix2 r d) 1).val = win0_12.index t 1 * 512 + 1 * d.val := rfl
  rw [hi.1, show t.val / 8 * 512 + 1 * r.val = 512 * (t.val / 8) + r.val by omega] at e0
  rw [hi.2, show t.val % 8 * 512 + 1 * d.val = 512 * (t.val % 8) + d.val by omega] at e1
  refine (out_apply m c t r d).trans ?_
  show _ = result m c _
  unfold result
  rw [e0, e1]

theorem cover (i : S8192x4096.Idx) : ∃ t : Fin cfg0.N, (cfg0.win 12).flush t = true ∧ i ∈ ((cfg0.win 12).blk t).view.set := by
  have h0 : (i 0).val < 8192 := (i 0).isLt
  have h1 : (i 1).val < 4096 := (i 1).isLt
  have hN : cfg0.N = 128 := N_0
  obtain ⟨n, hn, hv⟩ : ∃ n : ℕ, n < cfg0.N ∧ n = 8 * ((i 0).val / 512) + (i 1).val / 512 := ⟨_, by omega, rfl⟩
  have hi := ind12 ⟨n, hn⟩
  dsimp only at hi
  refine ⟨⟨n, hn⟩, flush12 _, ?_⟩
  show i ∈ ((View.whole main_v4).slice (win0_12.rect ⟨n, hn⟩)).set
  rw [View.set_slice_whole, Rect.mem_set_unit]
  intro a
  match a with
  | ⟨0, _⟩ => show win0_12.index _ 0 * 512 ≤ (i 0).val ∧ (i 0).val < win0_12.index _ 0 * 512 + 512; rw [hi.1]; omega
  | ⟨1, _⟩ => show win0_12.index _ 1 * 512 ≤ (i 1).val ∧ (i 1).val < win0_12.index _ 1 * 512 + 512; rw [hi.2]; omega

theorem arr_eq (c : Dev nD) : (dats m 0 c).arrAt 12 cfg0.N = result m c :=
  (dats m 0 c).arrAt_eq_of_cover 12 (result m c) (flushed_eq m c) cover

end Cert.MergeIdeal.Blocks

namespace Cert.MergeClaim

open Cert.MergeRefIdeal Cert.MergeRefIdeal.Gen Cert.MergeRefIdeal.Facts Cert.MergeRefIdeal.Read Cert.MergeIdeal.Blocks
open Idealize.ShloMosaic.Pointwise

variable (y0 y1 : S8192x1024.Idx → EReal) (y2 : S8192x512.Idx → EReal) (y3 : S8192x1024.Idx → EReal)
  (w0 w1 : S1024x4096.Idx → EReal) (w2 : S512x4096.Idx → EReal) (w3 : S1024x4096.Idx → EReal) (z : S8192x29184.Idx → EReal)

theorem v7_apply (r : Fin 8192) (q : Fin 16384) : val_main_v7 (F := Ideal) z (ix2 r q) = gate (zAt z r.val (12800 + q.val)) := by
  have hr := r.isLt
  have hq := q.isLt
  rw [val_main_v7_apply, val_main_v6_apply, val_main_cst_0_apply, val_main_v5_apply, val_main_v4_apply, val_main_cst_apply, val_main_v3_apply,
    val_main_v2_apply, val_main_v1_apply, val_main_v0_apply]
  have e : idx_main_v0 (ix2 r q) = ix2 (Fin.ofNat 8192 r.val) (Fin.ofNat 29184 (12800 + q.val)) := by
    funext a
    apply Fin.ext
    match a with
    | ⟨0, _⟩ => show r.val = r.val % 8192; omega
    | ⟨1, _⟩ => show 12800 + q.val = (_ : ℕ) % 29184; omega
  rw [e]
  rfl

theorem v10_apply (b : Fin 2) (p j : Fin 4096) :
    val_main_v10 (F := Ideal) z (ix3 b p j) = gate (zAt z (4096 * b.val + p.val) (12800 + j.val)) := by
  have hb := b.isLt
  have hp := p.isLt
  have hj := j.isLt
  have e1 : idx_main_v10 (ix3 b p j) = ix4 b p 0 j := by
    funext a
    apply Fin.ext
    match a with
    | ⟨0, _⟩ => show ((b.val * 4096 + p.val) * 4096 + j.val) / 16777216 = b.val; omega
    | ⟨1, _⟩ => show ((b.val * 4096 + p.val) * 4096 + j.val) / 4096 % 4096 = p.val; omega
    | ⟨2, _⟩ => rfl
    | ⟨3, _⟩ => show ((b.val * 4096 + p.val) * 4096 + j.val) % 4096 = j.val; omega
  have e2 : idx_main_v9 (ix4 b p 0 j) = ix4 b p 0 j := by
    funext a
    apply Fin.ext
    match a with
    | ⟨0, _⟩ => rfl
    | ⟨1, _⟩ => rfl
    | ⟨2, _⟩ => rfl
    | ⟨3, _⟩ => rfl
  have e3 : idx_main_v8 (ix4 b p 0 j) = ix2 (⟨4096 * b.val + p.val, by omega⟩ : Fin 8192) (⟨0 + j.val, by omega⟩ : Fin 16384) := by
    funext a
    apply Fin.ext
    match a with
    | ⟨0, _⟩ => show (((b.val * 4096 + p.val) * 4 + 0) * 4096 + j.val) / 16384 = 4096 * b.val + p.val; omega
    | ⟨1, _⟩ => show (((b.val * 4096 + p.val) * 4 + 0) * 4096 + j.val) % 16384 = 0 + j.val; omega
  rw [val_main_v10_apply, e1, val_main_v9_apply, e2, val_main_v8_apply, e3, v7_apply]
  dsimp only
  rw [show 12800 + (0 + j.val) = 12800 + j.val by omega]

theorem v13_apply (b : Fin 2) (p j : Fin 4096) :
    val_main_v13 (F := Ideal) y0 w0 (ix3 b p j) = dot y0 w0 (4096 * b.val + p.val) j.val := by
  have hb := b.isLt
  have hp := p.isLt
  have hj := j.isLt
  rw [val_main_v13_apply]
  unfold dot
  refine Finset.sum_congr rfl fun k _ => ?_
  have hk := k.isLt
  have e1 : idx_main_v12 (lidx_main_v13 (ix3 b p j) k) = ix2 (Fin.ofNat 8192 (4096 * b.val + p.val)) (Fin.ofNat 1024 k.val) := by
    funext a
    apply Fin.ext
    match a with
    | ⟨0, _⟩ => show ((b.val * 4096 + p.val) * 1024 + k.val) / 1024 = (_ : ℕ) % 8192; omega
    | ⟨1, _⟩ => show ((b.val * 4096 + p.val) * 1024 + k.val) % 1024 = k.val % 1024; omega
  have e2 : ridx_main_v13 (ix3 b p j) k = ix2 (Fin.ofNat 1024 k.val) (Fin.ofNat 4096 j.val) := by
    funext a
    apply Fin.ext
    match a with
    | ⟨0, _⟩ => show k.val = k.val % 1024; omega
    | ⟨1, _⟩ => show j.val = j.val % 4096; omega
  rw [val_main_v12_apply, e1, val_main_v11_apply, e2]
  rfl

theorem v16_apply (b : Fin 2) (p j : Fin 4096) :
    val_main_v16 (F := Ideal) z (ix3 b p j) = gate (zAt z (4096 * b.val + p.val) (16896 + j.val)) := by
  have hb := b.isLt
  have hp := p.isLt
  have hj := j.isLt
  have e1 : idx_main_v16 (ix3 b p j) = ix4 b p 0 j := by
    funext a
    apply Fin.ext
    match a with
    | ⟨0, _⟩ => show ((b.val * 4096 + p.val) * 4096 + j.val) / 16777216 = b.val; omega
    | ⟨1, _⟩ => show ((b.val * 4096 + p.val) * 4096 + j.val) / 4096 % 4096 = p.val; omega
    | ⟨2, _⟩ => rfl
    | ⟨3, _⟩ => show ((b.val * 4096 + p.val) * 4096 + j.val) % 4096 = j.val; omega
  have e2 : idx_main_v15 (ix4 b p 0 j) = ix4 b p 1 j := by
    funext a
    apply Fin.ext
    match a with
    | ⟨0, _⟩ => rfl
    | ⟨1, _⟩ => rfl
    | ⟨2, _⟩ => rfl
    | ⟨3, _⟩ => rfl
  have e3 : idx_main_v8 (ix4 b p 1 j) = ix2 (⟨4096 * b.val + p.val, by omega⟩ : Fin 8192) (⟨4096 + j.val, by omega⟩ : Fin 16384) := by
    funext a
    apply Fin.ext
    match a with
    | ⟨0, _⟩ => show (((b.val * 4096 + p.val) * 4 + 1) * 4096 + j.val) / 16384 = 4096 * b.val + p.val; omega
    | ⟨1, _⟩ => show (((b.val * 4096 + p.val) * 4 + 1) * 4096 + j.val) % 16384 = 4096 + j.val; omega
  rw [val_main_v16_apply, e1, val_main_v15_apply, e2, val_main_v8_apply, e3, v7_apply]
  dsimp only
  rw [show 12800 + (4096 + j.val) = 16896 + j.val by omega]

theorem v19_apply (b : Fin 2) (p j : Fin 4096) :
    val_main_v19 (F := Ideal) y1 w1 (ix3 b p j) = dot y1 w1 (4096 * b.val + p.val) j.val := by
  have hb := b.isLt
  have hp := p.isLt
  have hj := j.isLt
  rw [val_main_v19_apply]
  unfold dot
  refine Finset.sum_congr rfl fun k _ => ?_
  have hk := k.isLt
  have e1 : idx_main_v18 (lidx_main_v19 (ix3 b p j) k) = ix2 (Fin.ofNat 8192 (4096 * b.val + p.val)) (Fin.ofNat 1024 k.val) := by
    funext a
    apply Fin.ext
    match a with
    | ⟨0, _⟩ => show ((b.val * 4096 + p.val) * 1024 + k.val) / 1024 = (_ : ℕ) % 8192; omega
    | ⟨1, _⟩ => show ((b.val * 4096 + p.val) * 1024 + k.val) % 1024 = k.val % 1024; omega
  have e2 : ridx_main_v19 (ix3 b p j) k = ix2 (Fin.ofNat 1024 k.val) (Fin.ofNat 4096 j.val) := by
    funext a
    apply Fin.ext
    match a with
    | ⟨0, _⟩ => show k.val = k.val % 1024; omega
    | ⟨1, _⟩ => show j.val = j.val % 4096; omega
  rw [val_main_v18_apply, e1, val_main_v17_apply, e2]
  rfl

theorem v23_apply (b : Fin 2) (p j : Fin 4096) :
    val_main_v23 (F := Ideal) z (ix3 b p j) = gate (zAt z (4096 * b.val + p.val) (20992 + j.val)) := by
  have hb := b.isLt
  have hp := p.isLt
  have hj := j.isLt
  have e1 : idx_main_v23 (ix3 b p j) = ix4 b p 0 j := by
    funext a
    apply Fin.ext
    match a with
    | ⟨0, _⟩ => show ((b.val * 4096 + p.val) * 4096 + j.val) / 16777216 = b.val; omega
    | ⟨1, _⟩ => show ((b.val * 4096 + p.val) * 4096 + j.val) / 4096 % 4096 = p.val; omega
    | ⟨2, _⟩ => rfl
    | ⟨3, _⟩ => show ((b.val * 4096 + p.val) * 4096 + j.val) % 4096 = j.val; omega
  have e2 : idx_main_v22 (ix4 b p 0 j) = ix4 b p 2 j := by
    funext a
    apply Fin.ext
    match a with
    | ⟨0, _⟩ => rfl
    | ⟨1, _⟩ => rfl
    | ⟨2, _⟩ => rfl
    | ⟨3, _⟩ => rfl
  have e3 : idx_main_v8 (ix4 b p 2 j) = ix2 (⟨4096 * b.val + p.val, by omega⟩ : Fin 8192) (⟨8192 + j.val, by omega⟩ : Fin 16384) := by
    funext a
    apply Fin.ext
    match a with
    | ⟨0, _⟩ => show (((b.val * 4096 + p.val) * 4 + 2) * 4096 + j.val) / 16384 = 4096 * b.val + p.val; omega
    | ⟨1, _⟩ => show (((b.val * 4096 + p.val) * 4 + 2) * 4096 + j.val) % 16384 = 8192 + j.val; omega
  rw [val_main_v23_apply, e1, val_main_v22_apply, e2, val_main_v8_apply, e3, v7_apply]
  dsimp only
  rw [show 12800 + (8192 + j.val) = 20992 + j.val by omega]

theorem v26_apply (b : Fin 2) (p j : Fin 4096) :
    val_main_v26 (F := Ideal) y2 w2 (ix3 b p j) = dot y2 w2 (4096 * b.val + p.val) j.val := by
  have hb := b.isLt
  have hp := p.isLt
  have hj := j.isLt
  rw [val_main_v26_apply]
  unfold dot
  refine Finset.sum_congr rfl fun k _ => ?_
  have hk := k.isLt
  have e1 : idx_main_v25 (lidx_main_v26 (ix3 b p j) k) = ix2 (Fin.ofNat 8192 (4096 * b.val + p.val)) (Fin.ofNat 512 k.val) := by
    funext a
    apply Fin.ext
    match a with
    | ⟨0, _⟩ => show ((b.val * 4096 + p.val) * 512 + k.val) / 512 = (_ : ℕ) % 8192; omega
    | ⟨1, _⟩ => show ((b.val * 4096 + p.val) * 512 + k.val) % 512 = k.val % 512; omega
  have e2 : ridx_main_v26 (ix3 b p j) k = ix2 (Fin.ofNat 512 k.val) (Fin.ofNat 4096 j.val) := by
    funext a
    apply Fin.ext
    match a with
    | ⟨0, _⟩ => show k.val = k.val % 512; omega
    | ⟨1, _⟩ => show j.val = j.val % 4096; omega
  rw [val_main_v25_apply, e1, val_main_v24_apply, e2]
  rfl

theorem v30_apply (b : Fin 2) (p j : Fin 4096) :
    val_main_v30 (F := Ideal) z (ix3 b p j) = gate (zAt z (4096 * b.val + p.val) (25088 + j.val)) := by
  have hb := b.isLt
  have hp := p.isLt
  have hj := j.isLt
  have e1 : idx_main_v30 (ix3 b p j) = ix4 b p 0 j := by
    funext a
    apply Fin.ext
    match a with
    | ⟨0, _⟩ => show ((b.val * 4096 + p.val) * 4096 + j.val) / 16777216 = b.val; omega
    | ⟨1, _⟩ => show ((b.val * 4096 + p.val) * 4096 + j.val) / 4096 % 4096 = p.val; omega
    | ⟨2, _⟩ => rfl
    | ⟨3, _⟩ => show ((b.val * 4096 + p.val) * 4096 + j.val) % 4096 = j.val; omega
  have e2 : idx_main_v29 (ix4 b p 0 j) = ix4 b p 3 j := by
    funext a
    apply Fin.ext
    match a with
    | ⟨0, _⟩ => rfl
    | ⟨1, _⟩ => rfl
    | ⟨2, _⟩ => rfl
    | ⟨3, _⟩ => rfl
  have e3 : idx_main_v8 (ix4 b p 3 j) = ix2 (⟨4096 * b.val + p.val, by omega⟩ : Fin 8192) (⟨12288 + j.val, by omega⟩ : Fin 16384) := by
    funext a
    apply Fin.ext
    match a with
    | ⟨0, _⟩ => show (((b.val * 4096 + p.val) * 4 + 3) * 4096 + j.val) / 16384 = 4096 * b.val + p.val; omega
    | ⟨1, _⟩ => show (((b.val * 4096 + p.val) * 4 + 3) * 4096 + j.val) % 16384 = 12288 + j.val; omega
  rw [val_main_v30_apply, e1, val_main_v29_apply, e2, val_main_v8_apply, e3, v7_apply]
  dsimp only
  rw [show 12800 + (12288 + j.val) = 25088 + j.val by omega]

theorem v33_apply (b : Fin 2) (p j : Fin 4096) :
    val_main_v33 (F := Ideal) y3 w3 (ix3 b p j) = dot y3 w3 (4096 * b.val + p.val) j.val := by
  have hb := b.isLt
  have hp := p.isLt
  have hj := j.isLt
  rw [val_main_v33_apply]
  unfold dot
  refine Finset.sum_congr rfl fun k _ => ?_
  have hk := k.isLt
  have e1 : idx_main_v32 (lidx_main_v33 (ix3 b p j) k) = ix2 (Fin.ofNat 8192 (4096 * b.val + p.val)) (Fin.ofNat 1024 k.val) := by
    funext a
    apply Fin.ext
    match a with
    | ⟨0, _⟩ => show ((b.val * 4096 + p.val) * 1024 + k.val) / 1024 = (_ : ℕ) % 8192; omega
    | ⟨1, _⟩ => show ((b.val * 4096 + p.val) * 1024 + k.val) % 1024 = k.val % 1024; omega
  have e2 : ridx_main_v33 (ix3 b p j) k = ix2 (Fin.ofNat 1024 k.val) (Fin.ofNat 4096 j.val) := by
    funext a
    apply Fin.ext
    match a with
    | ⟨0, _⟩ => show k.val = k.val % 1024; omega
    | ⟨1, _⟩ => show j.val = j.val % 4096; omega
  rw [val_main_v32_apply, e1, val_main_v31_apply, e2]
  rfl

theorem ref_apply (i : S8192x4096.Idx) :
    val_main_v37 (F := Ideal) y0 y1 y2 y3 w0 w1 w2 w3 z i = merged y0 y1 y2 y3 w0 w1 w2 w3 z (i 0).val (i 1).val := by
  have h0 : (i 0).val < 8192 := (i 0).isLt
  have h1 : (i 1).val < 4096 := (i 1).isLt
  rw [val_main_v37_apply, val_main_v36_apply]
  have e : idx_main_v36 i = ix3 (⟨(i 0).val / 4096, by omega⟩ : Fin 2) (⟨(i 0).val % 4096, by omega⟩ : Fin 4096) (⟨(i 1).val, h1⟩ : Fin 4096) := by
    funext a
    apply Fin.ext
    match a with
    | ⟨0, _⟩ => show ((i 0).val * 4096 + (i 1).val) / 16777216 = (i 0).val / 4096; omega
    | ⟨1, _⟩ => show ((i 0).val * 4096 + (i 1).val) / 4096 % 4096 = (i 0).val % 4096; omega
    | ⟨2, _⟩ => show ((i 0).val * 4096 + (i 1).val) % 4096 = (i 1).val; omega
  rw [e, val_main_v35_apply, val_main_v28_apply, val_main_v21_apply, val_main_v14_apply, val_main_v20_apply, val_main_v27_apply, val_main_v34_apply,
    v10_apply, v13_apply, v16_apply, v19_apply, v23_apply, v26_apply, v30_apply, v33_apply]
  dsimp only
  rw [show 4096 * ((i 0).val / 4096) + (i 0).val % 4096 = (i 0).val by omega]
  rfl

end Cert.MergeClaim

namespace Cert.MergeClaim

open Cert.MergeIdeal.Blocks

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run m ρ)

/-- The kernel and the reference end with the same array. -/
theorem algebraic : Cert.algebraic_MergeIdeal_MergeRefIdeal := by
  intro m g m' g' _ hargs
  refine ⟨fun c => result m c, ?_, ?_⟩
  · exact (θ_run Cert.MergeIdeal.defs _ _).mono (fun r h c => ⟨(h c).1.trans (arr_eq m c), (h c).2⟩) (Cert.MergeIdeal.Value.run_blocks m g)
  · refine (θ_run Cert.MergeRefIdeal.defs _ _).mono (fun r h c => ⟨(h c).1.trans ?_, (h c).2⟩) (Cert.MergeRefIdeal.Value.run m' g')
    rw [Cert.MergeRefIdeal.Read.val_main_v37_eq]
    funext i
    have ha := hargs c
    refine (ref_apply _ _ _ _ _ _ _ _ _ i).trans ?_
    rw [ha.1, ha.2.1, ha.2.2.1, ha.2.2.2.1, ha.2.2.2.2.1, ha.2.2.2.2.2.1, ha.2.2.2.2.2.2.1, ha.2.2.2.2.2.2.2.1, ha.2.2.2.2.2.2.2.2]
    rfl

end Cert.MergeClaim

end

end
-- ==== Proof.MoeUpIdealLaunch.lean ====
/- The launch of `MoeUpIdeal`: the tables the block maps read are constant through the call, the body's two guarded
   stores are complementary, so every grid point writes its output tile and every tile is written back. -/
module

public import proofs.«01_k».proof.Proof.Gen.MoeUpIdeal.Launch
public import proofs.«01_k».proof.Proof.Gen.MoeUpIdeal.Skeleton
public import Idealize.ShloMosaic.Lib.Pipeline.FrameBody
public import Idealize.ShloMosaic.Lib.Pipeline.Value
public import Idealize.ShloMosaic.Lib.Tactic
public import Idealize.ShloMosaic.Lib.WordCmp
public import Idealize.ShloMosaic.Lib.Claim

@[expose] public section

set_option maxRecDepth 16384

noncomputable section

namespace Cert.MoeUpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.MoeUpIdeal.Gen

variable {F : FTy → Type} [FloatOps F]

local notation "𝕄" => MT nD τ sig Unit (Elt F) ℕ (UR sig nD τ) ℕ

/-! ## The two guards -/

/-- The second guard is the negation of the first: `≥` against `<` of the same two words. -/
theorem second_iff (i : grid0.Coords) (n : BitVec 32) : k0_cond2 i n = 1#1 ↔ ¬ k0_cond1 i n = 1#1 := by
  have h : ∀ b : Bool, IntOp.cmpi .ne ((BitVec.ofBool b).setWidth 32) 0#32 = 1#1 ↔ b = true := by decide
  unfold k0_cond1 k0_cond2
  simp only [Scalar.cmpi, Scalar.extui, WordCmp.cmpi_slt_eq, WordCmp.cmpi_sge_eq, h, decide_eq_true_eq, not_lt]

/-- The first guard at point `i`: its row tile is below the count. -/
theorem first_iff (i : grid0.Coords) (n : BitVec 32) : k0_cond1 i n = 1#1 ↔ ((i 1).val : Int) < n.toInt := by
  have h : ∀ b : Bool, IntOp.cmpi .ne ((BitVec.ofBool b).setWidth 32) 0#32 = 1#1 ↔ b = true := by decide
  have h1 : (i 1).val < 40 := (i 1).isLt
  have h2 : (BitVec.ofNat 32 (i 1).val).toInt = ((i 1).val : Int) := by
    rw [WordCmp.toInt_eq_toNat_of_lt_half] <;> rw [BitVec.toNat_ofNat, Nat.mod_eq_of_lt (by omega)]; omega
  unfold k0_cond1
  simp only [Scalar.cmpi, Scalar.extui, WordCmp.cmpi_slt_eq, h, decide_eq_true_eq, h2]

/-- What the body leaves in its output tile, the word of the second table being `n`. -/
def res (i : grid0.Coords) (n : BitVec 32) (x0 : Vec F S512x4096 .bf16) (x1 : Vec F S1x4096x512 .bf16) (x2 : Vec F S1x4096x512 .bf16) : Vec F S512x512 .bf16 :=
  if k0_cond1 i n = 1#1 then k0_pay1 x0 x1 x2 else k0_pay2

abbrev T0 : Memref sig .tc .smem S40 .i32 := Memref.whole main_arg1
abbrev T1 : Memref sig .tc .smem S1 .i32 := Memref.whole main_arg2

/-- Half of a table's buffer at contents `f`. -/
abbrev half (c : Dev nD) {S : Shape} {e : EltTy} (M : Memref sig .tc .smem S e) (f : Buf (Elt F) (M.view.loc (c : Thread nD τ))) : sProp 𝕄 :=
  M.view.loc (c : Thread nD τ) ↦{fullShare.right} f

def z1 : S1.Idx := fun | 0 => (0 : Fin 1)

theorem one_idx (a b : S1.Idx) : a = b :=
  funext fun k => match k with | 0 => Subsingleton.elim (α := Fin 1) (a 0) (b 0)

/-- The word the body reads of the second table. -/
def word (f : S1.Idx → BitVec 32) : BitVec 32 := f z1

theorem z2 : (![0, 0] : Fin 2 → Nat) = fun _ => 0 := by decide
theorem z3 : (![0, 0, 0] : Fin 3 → Nat) = fun _ => 0 := by decide

/-- One store over a whole tile leaves its payload. -/
theorem read_store (M : Memref sig .tc .vmem S512x512 .bf16) (f : M.view.ty.Contents (Elt F)) (w : Vec F S512x512 .bf16) :
    M.view.read (Elt F) (M.view.writes (Elt F) f [⟨Rect.unit ![0, 0] S512x512.size inb_S512x512_S512x512_0_0, w⟩]) = w := by
  rw [View.read_writes_eq_canon, View.canon_unit_zero (S := S512x512) z2]
  exact fun y => ⟨_, List.mem_singleton_self _, View.mem_set_unit_zero (S := S512x512) z2 inb_S512x512_S512x512_0_0 y⟩

theorem body_wp (c : Dev nD) (i : grid0.Coords) (M0 : Memref sig .tc .vmem S512x4096 .bf16) (w0 : M0.IsWhole) (M1 : Memref sig .tc .vmem S1x4096x512 .bf16) (w1 : M1.IsWhole) (M2 : Memref sig .tc .vmem S1x4096x512 .bf16) (w2 : M2.IsWhole) (MO : Memref sig .tc .vmem S512x512 .bf16) (wO : MO.IsWhole)
    (x0 : Vec F S512x4096 .bf16) (x1 : Vec F S1x4096x512 .bf16) (x2 : Vec F S1x4096x512 .bf16) (t0 : Buf (Elt F) (T0.view.loc (c : Thread nD τ))) (t1 : Buf (Elt F) (T1.view.loc (c : Thread nD τ)))
    (E : Set ℕ) (K : PUnit → sProp 𝕄) :
    iprop(owns (c : Thread nD τ) M0 fullShare x0 ∗ owns (c : Thread nD τ) M1 fullShare x1 ∗ owns (c : Thread nD τ) M2 fullShare x2 ∗ (∃ d, owns (c : Thread nD τ) MO fullShare d) ∗ half c T0 t0 ∗ half c T1 t1
        ∗ (iprop(owns (c : Thread nD τ) M0 fullShare x0 ∗ owns (c : Thread nD τ) M1 fullShare x1 ∗ owns (c : Thread nD τ) M2 fullShare x2 ∗ owns (c : Thread nD τ) MO fullShare (res i (word t1) x0 x1 x2) ∗ half c T0 t0 ∗ half c T1 t1) -∗ K ⟨⟩))
      ⊢ wp frame (wpE (defs₀ (F := F)) Variants.none c none) E (cc0_moe_swiglu_up i T0 (Memref.isWhole_whole _) T1 (Memref.isWhole_whole _) M0 w0 M1 w1 M2 w2 MO wO) K := by
  simp only [cc0_moe_swiglu_up_eq_skeleton]; unfold cc0_moe_swiglu_up_skel
  unfold owns
  iintro ⟨⟨%f0, %e0, H0⟩, ⟨%f1, %e1, H1⟩, ⟨%f2, %e2, H2⟩, ⟨%d, %fo, -, HO⟩, HT0, HT1, Hk⟩
  obtain rfl := w0.eq_unread e0; obtain rfl := w1.eq_unread e1; obtain rfl := w2.eq_unread e2
  sl_exec
  sl_step
  iapply Hk
  isplitl [H0]
  · iexists _; isplitr; · ipureintro; exact w0.read_unread _
    iexact H0
  isplitl [H1]
  · iexists _; isplitr; · ipureintro; exact w1.read_unread _
    iexact H1
  isplitl [H2]
  · iexists _; isplitr; · ipureintro; exact w2.read_unread _
    iexact H2
  isplitl [HO]
  · iexists _; isplitr
    swap; · iexact HO
    ipureintro
    have hw : body_wp.sl.r c t1 = word t1 := by
      unfold body_wp.sl.r word; exact congrArg t1 (one_idx _ _)
    simp only [hw]
    by_cases hc : k0_cond1 i (word t1) = 1#1
    · rw [dif_neg (fun h => (second_iff i _).mp h hc), dif_pos hc, read_store, res, if_pos hc]
      simp only [View.readAt_eq_ld, w0.read_unread, View.ld_unit_zero (S := S512x4096) z2, w1.read_unread, View.ld_unit_zero (S := S1x4096x512) z3, w2.read_unread, View.ld_unit_zero (S := S1x4096x512) z3]
    · rw [dif_pos ((second_iff i _).mpr hc), dif_neg hc, read_store, res, if_neg hc]
  isplitl [HT0]; · iexact HT0
  iexact HT1

/-! ## What the launch starts from -/

variable (m : (ℓ : Loc nD τ sig) → Buf (Elt F) ℓ) (ρ : Dev nD → PrngReg)

/-- A core's buffers once the host's casts have run. -/
abbrev V (c : Dev nD) (b : Ref sig .tc) : Buf (Elt F) ((c : Thread nD τ).loc b) := StableHlo.after hostOps0 (fun b => m (c, b)) b

theorem fresh_empty : (hostOps0 : List (HloOp τ sig (Elt F))).Forall fun op => op.fresh = ∅ := by
  simp only [List.Forall]; repeat' constructor

set_option maxHeartbeats 800000 in
theorem prefix_wp : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub fresh_empty main_chain

/-- The casts write none of the arguments. -/
theorem V_arg (c : Dev nD) (b : Ref sig .tc) (h : ∀ op ∈ (hostOps0 : List (HloOp τ sig (Elt F))), Proc.devRef .tc b ∉ op.writes) :
    V m c b = m ((c : Thread nD τ).loc b) :=
  StableHlo.after_of_forall_not_mem (b := Proc.devRef .tc b) _ _ h

theorem V_a0 (c : Dev nD) : V m c main_arg0 = m ((c : Thread nD τ).loc main_arg0) :=
  V_arg m c main_arg0 (List.forall_iff_forall_mem.mp (by
    simp only [List.Forall, StableHlo.unary_writes, Finset.mem_singleton]
    repeat' apply And.intro
    all_goals exact StableHlo.devRef_ne_of_ne (by decide)))

theorem V_a1 (c : Dev nD) : V m c main_arg1 = m ((c : Thread nD τ).loc main_arg1) :=
  V_arg m c main_arg1 (List.forall_iff_forall_mem.mp (by
    simp only [List.Forall, StableHlo.unary_writes, Finset.mem_singleton]
    repeat' apply And.intro
    all_goals exact StableHlo.devRef_ne_of_ne (by decide)))

theorem V_a2 (c : Dev nD) : V m c main_arg2 = m ((c : Thread nD τ).loc main_arg2) :=
  V_arg m c main_arg2 (List.forall_iff_forall_mem.mp (by
    simp only [List.Forall, StableHlo.unary_writes, Finset.mem_singleton]
    repeat' apply And.intro
    all_goals exact StableHlo.devRef_ne_of_ne (by decide)))

theorem V_a3 (c : Dev nD) : V m c main_arg3 = m ((c : Thread nD τ).loc main_arg3) :=
  V_arg m c main_arg3 (List.forall_iff_forall_mem.mp (by
    simp only [List.Forall, StableHlo.unary_writes, Finset.mem_singleton]
    repeat' apply And.intro
    all_goals exact StableHlo.devRef_ne_of_ne (by decide)))

theorem V_a4 (c : Dev nD) : V m c main_arg4 = m ((c : Thread nD τ).loc main_arg4) :=
  V_arg m c main_arg4 (List.forall_iff_forall_mem.mp (by
    simp only [List.Forall, StableHlo.unary_writes, Finset.mem_singleton]
    repeat' apply And.intro
    all_goals exact StableHlo.devRef_ne_of_ne (by decide)))

/-- The tables, and the pipeline at them. -/
def tbl : pre0.Contents (Elt F) := fun j => V m (0 : Dev nD) (pre0.ref j)

abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

theorem V_tbl (c : Dev nD) (j : Fin 2) : V m c (pre0.ref j) = tbl m j := by
  obtain rfl : c = 0 := Subsingleton.elim _ _; rfl

theorem halves_eq (c : Dev nD) : (Pipeline.ΦT pre0 (tbl m) c : sProp 𝕄) = iprop(half c T0 (tbl m 0) ∗ half c T1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, of its array as the casts leave it. -/
def inBlk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The output tile after point `t`. -/
def tile (hO : Ok m) (c : Dev nD) (t : Fin (cfgM m hO).N) : Vec F S512x512 .bf16 :=
  res (grid0.coords t) (word (tbl m 1)) (inBlk m hO c 0 t) (inBlk m hO c 1 t) (inBlk m hO c 2 t)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => inBlk m hO c 0 t
    | ⟨1, _⟩ => inBlk m hO c 1 t
    | ⟨2, _⟩ => inBlk m hO c 2 t
    | ⟨3, _⟩ => tile m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = inBlk m hO c 0 t := by dsimp only [dats]; try rfl
theorem after_1 (hO : Ok m) (c : Dev nD) (t : Fin (cfgM m hO).N) : (dats m hO 0 c).after 1 t = inBlk m hO c 1 t := by dsimp only [dats]; try rfl
theorem after_2 (hO : Ok m) (c : Dev nD) (t : Fin (cfgM m hO).N) : (dats m hO 0 c).after 2 t = inBlk m hO c 2 t := by dsimp only [dats]; try rfl
theorem after_3 (hO : Ok m) (c : Dev nD) (t : Fin (cfgM m hO).N) : (dats m hO 0 c).after 3 t = tile m hO c t := by dsimp only [dats]; try rfl

/-- Input 0's buffer holds its block at every point: where it is not fetched the block has not moved. -/
theorem before_0 (hO : Ok m) (c : Dev nD) (t : Fin (cfgM m hO).N) (d) : (dats m hO 0 c).before 0 t d = inBlk m hO c 0 t :=
  ((dats m hO 0 c).before_in_eq_fetched 0 rfl (fun _ => rfl) (fun _ _ _ => rfl)
    (fun t => by rw [after_0]; unfold Dat.blockOf inBlk; rw [A_eq]; try rfl) t d).trans
    (by unfold Dat.fetched Dat.blockOf inBlk; rw [A_eq]; try rfl)

/-- Input 1's buffer holds its block at every point: where it is not fetched the block has not moved. -/
theorem before_1 (hO : Ok m) (c : Dev nD) (t : Fin (cfgM m hO).N) (d) : (dats m hO 0 c).before 1 t d = inBlk m hO c 1 t :=
  ((dats m hO 0 c).before_in_eq_fetched 1 rfl (fun _ => rfl) (fun _ _ _ => rfl)
    (fun t => by rw [after_1]; unfold Dat.blockOf inBlk; rw [A_eq]; try rfl) t d).trans
    (by unfold Dat.fetched Dat.blockOf inBlk; rw [A_eq]; try rfl)

/-- Input 2's buffer holds its block at every point: where it is not fetched the block has not moved. -/
theorem before_2 (hO : Ok m) (c : Dev nD) (t : Fin (cfgM m hO).N) (d) : (dats m hO 0 c).before 2 t d = inBlk m hO c 2 t :=
  ((dats m hO 0 c).before_in_eq_fetched 2 rfl (fun _ => rfl) (fun _ _ _ => rfl)
    (fun t => by rw [after_2]; unfold Dat.blockOf inBlk; rw [A_eq]; try rfl) t d).trans
    (by unfold Dat.fetched Dat.blockOf inBlk; rw [A_eq]; try rfl)

/-! ## The body at a point -/

/-- No point is idle for the output tile: one of the two guards holds. -/
theorem live (pf : pre0.Contents (Elt F)) (i : grid0.Coords) : idle0 pf 3 i = false := by
  show (!(k0_cond1 i (pf.atD 1 ![0]) == 1#1) && !(k0_cond2 i (pf.atD 1 ![0]) == 1#1)) = false
  have h := second_iff i (pf.atD 1 ![0])
  by_cases hc : k0_cond1 i (pf.atD 1 ![0]) = 1#1
  · rw [hc]; rfl
  · rw [h.mpr hc]; simp

theorem live_at (hO : Ok m) (t : Fin (cfgM m hO).N) : (cfgM m hO).idle (3 : Fin 4) ((cfgM m hO).grid.coords t) = false := by
  have h : (cfgM m hO).idle = idle0 (tbl m) := rfl
  rw [h]; exact live (tbl m) _

/-- The body as the pipeline calls it at point `t`. -/
abbrev bodyAt (hO : Ok m) (t : Fin (cfgM m hO).N) : Prog (TpuEff nD τ sig (Elt F) Λ₀ .tc) PUnit :=
  cc0_moe_swiglu_up (grid0.coords t) T0 (Memref.isWhole_whole _) T1 (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3))

abbrev stg (hO : Ok m) (t : Fin (cfgM m hO).N) (w : Fin (cfgM m hO).W) := ((cfgM m hO).win w).stage ((cfgM m hO).slots t w)

theorem point (hO : Ok m) (c : Dev nD) (t : Fin (cfgM m hO).N) :
    iprop((dats m hO 0 c).Φ t.castSucc ∗ (dats m hO 0 c).owesAt () t.castSucc
      ∗ (∃ d, owns (c : Thread nD τ) (spec0_0.stage ((cfgM m hO).slots t 0)) fullShare ((dats m hO 0 c).before 0 t d)) ∗ (∃ d, owns (c : Thread nD τ) (spec0_1.stage ((cfgM m hO).slots t 1)) fullShare ((dats m hO 0 c).before 1 t d)) ∗ (∃ d, owns (c : Thread nD τ) (spec0_2.stage ((cfgM m hO).slots t 2)) fullShare ((dats m hO 0 c).before 2 t d)) ∗ (∃ d, owns (c : Thread nD τ) (spec0_3.stage ((cfgM m hO).slots t 3)) fullShare ((dats m hO 0 c).before 3 t d)))
      ⊢ wp frame (wpE (defs₀ (F := F)) Variants.none c none) Set.univ (bodyAt m hO t) (fun _ =>
        iprop((dats m hO 0 c).Φ t.succ ∗ (dats m hO 0 c).owesAt () t.succ
          ∗ owns (c : Thread nD τ) (spec0_0.stage ((cfgM m hO).slots t 0)) fullShare ((dats m hO 0 c).after 0 t) ∗ owns (c : Thread nD τ) (spec0_1.stage ((cfgM m hO).slots t 1)) fullShare ((dats m hO 0 c).after 1 t) ∗ owns (c : Thread nD τ) (spec0_2.stage ((cfgM m hO).slots t 2)) fullShare ((dats m hO 0 c).after 2 t) ∗ owns (c : Thread nD τ) (spec0_3.stage ((cfgM m hO).slots t 3)) fullShare ((dats m hO 0 c).after 3 t))) := by
  unfold bodyAt
  simp only [before_0, before_1, before_2, after_0, after_1, after_2, after_3]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl,
    show (dats m hO 0 c).owesAt () t.succ = (dats m hO 0 c).owesAt () t.castSucc from rfl, halves_eq]
  iintro ⟨⟨HΦ, HT0, HT1⟩, Ho, ⟨%d0, H0⟩, ⟨%d1, H1⟩, ⟨%d2, H2⟩, ⟨%d3, H3⟩⟩
  iapply (body_wp c (grid0.coords t) _ _ _ _ _ _ _ _ (inBlk m hO c 0 t) (inBlk m hO c 1 t) (inBlk m hO c 2 t) (tbl m 0) (tbl m 1) Set.univ _)
  isplitl [H0]; · iexact H0
  isplitl [H1]; · iexact H1
  isplitl [H2]; · iexact H2
  isplitl [H3]; · iexists _; iexact H3
  isplitl [HT0]; · iexact HT0
  isplitl [HT1]; · iexact HT1
  iintro ⟨H0, H1, H2, H3, HT0, HT1⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]; · iexact H2
  iexact H3

theorem row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem obligation (hO : Ok m) (c : Dev nD) : BodyObligation (dats (F := F) m hO 0 c) (defs₀ (F := F)) Variants.none () Set.univ := fun t => by
  rw [bigSep_W0, bigSep_W0, row m hO]
  rw [live_at m hO t]
  exact triple_restated (point m hO c t) rfl .rfl fun _ => .rfl

/-! ## The run -/

set_option backward.isDefEq.respectTransparency.types false in
theorem run (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := prefix_wp m) (hA := A_eq m hO) (hpf := V_tbl m)
    (hΦ := fun _ _ => rfl)

/-- Every argument ends as it was and every semaphore at zero. -/
theorem frame_of_ok (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m hO 0 c).arrAt_in 0 rfl _).trans ((A_eq m hO c 0).trans (V_a0 m c))), ((h.1 c).2 main_arg1 (by decide : main_arg1 ∈ Pipeline.restRefs sig spec0)).trans (V_a1 m c), ((h.1 c).2 main_arg2 (by decide : main_arg2 ∈ Pipeline.restRefs sig spec0)).trans (V_a2 m c), ((h.1 c).2 main_arg3 (by decide : main_arg3 ∈ Pipeline.restRefs sig spec0)).trans (V_a3 m c), ((h.1 c).2 main_arg4 (by decide : main_arg4 ∈ Pipeline.restRefs sig spec0)).trans (V_a4 m c)⟩, h.2⟩) (run m ρ hO)

end Cert.MoeUpIdeal.Hand

end
-- ==== Proof.MoeUpClaim.lean ====
/-
  The grouped experts' gate and up products with the gate's activation between them: each row tile of 512 against the weights of the
  expert its table names, and zeros past the count, against the reference's sum over the experts.
-/
module

public import proofs.«01_k».proof.Defs
public import proofs.«01_k».proof.Proof.Gen.MoeUp
public import proofs.«01_k».proof.Proof.MoeUpIdealLaunch
public import proofs.«01_k».proof.Proof.Gen.MoeUpRefIdeal.Read
public import proofs.«01_k».proof.Proof.Gen.MoeUpRefIdeal.Run
public import proofs.«01_k».proof.Proof.Gen.Pre_experts_up
public import Idealize.ShloMosaic.Lib.Pointwise
public import Idealize.ShloMosaic.Lib.ReduceAll
public import Idealize.ShloMosaic.Lib.Routing.OpsSearch

@[expose] public section

set_option maxRecDepth 16384

noncomputable section

open Idealize.ShloMosaic Idealize.ShloMosaic.TcCoe Idealize.SL.Sem

namespace Cert.MoeUpIdeal.Hand

open Cert.MoeUpIdeal Cert.MoeUpIdeal.Gen Idealize.ShloMosaic.Pointwise

variable {F : FTy → Type} [FloatOps F]

/-- The block a weight window reads at point `i`: the row tile's expert, every row, the column tile. -/
theorem place_1 (pf : pre0.Contents (Elt F)) (i : grid0.Coords) :
    cc0_transform_1 Facts₀.k0_off1_inb Facts₀.numel1_S1 pf i = ![(pf 0 (ix1 (i 1) : S40.Idx) : BitVec 32).toNat, 0, (i 0).val] := by
  have h0 : (i 0).val < 7 := (i 0).isLt
  have hp : ((Rect.unit (s := S40) (k0_off1 i) S1.size (Facts₀.k0_off1_inb i)).emb (Shape.Idx.first (Facts₀.numel1_S1.symm ▸ Nat.one_pos)) : S40.Idx) = ix1 (i 1) := by
    funext a
    apply Fin.ext
    match a with
    | ⟨0, _⟩ =>
      show k0_off1 i 0 + 1 * 0 = (i 1).val
      rw [k0_off1_eq]
      rfl
  have hw : ∀ q : S40.Idx, q = ix1 (i 1) → (![(pf 0 q : BitVec 32).toNat, 0, (BitVec.ofNat 32 (i 0).val).toNat] : Fin 3 → ℕ) = ![(pf 0 (ix1 (i 1) : S40.Idx) : BitVec 32).toNat, 0, (i 0).val] := by
    rintro q rfl
    rw [BitVec.toNat_ofNat, Nat.mod_eq_of_lt (by omega)]
    rfl
  exact hw _ hp

theorem place_2 (pf : pre0.Contents (Elt F)) (i : grid0.Coords) :
    cc0_transform_2 Facts₀.k0_off1_inb Facts₀.numel1_S1 pf i = ![(pf 0 (ix1 (i 1) : S40.Idx) : BitVec 32).toNat, 0, (i 0).val] := place_1 pf i

/-- With every expert of the table one of the eight, every block lies inside the weights. -/
theorem ok_of_words (pf : pre0.Contents (Elt F)) (h : ∀ q : S40.Idx, (pf 0 q : BitVec 32).toNat < 8) : ok0 pf := by
  have one : ∀ i : grid0.Coords, ∃ h : (∀ a, (cc0_transform_1 Facts₀.k0_off1_inb Facts₀.numel1_S1 pf i a + 1) * S1x4096x512.size a ≤ S8x4096x3584.size a),
      EltTy.bits .bf16 = 32 ∨ (Rect.block (s := S8x4096x3584) S1x4096x512.size (cc0_transform_1 Facts₀.k0_off1_inb Facts₀.numel1_S1 pf i) h).WholeWords (EltTy.packing .bf16) := by
    intro i
    refine ⟨fun a => ?_, .inr (Affine.block_words_dvd (of_decide_eq_true rfl) (by decide))⟩
    have h0 : (i 0).val < 7 := (i 0).isLt
    have h1 := h (ix1 (i 1))
    rw [place_1]
    match a with
    | ⟨0, _⟩ => show ((pf 0 (ix1 (i 1) : S40.Idx) : BitVec 32).toNat + 1) * 1 ≤ 8; omega
    | ⟨1, _⟩ => show (0 + 1) * 4096 ≤ 4096; omega
    | ⟨2, _⟩ => show ((i 0).val + 1) * 512 ≤ 3584; omega
  exact ⟨one, one⟩

variable (m : (ℓ : Loc nD τ sig) → Buf (Elt F) ℓ)

theorem tbl_0 : tbl m 0 = m (((0 : Dev nD) : Thread nD τ).loc main_arg1) := V_a1 m 0
theorem tbl_1 : tbl m 1 = m (((0 : Dev nD) : Thread nD τ).loc main_arg2) := V_a2 m 0

end Cert.MoeUpIdeal.Hand

namespace Cert.MoeUpClaim

/-- A word that is not negative and below eight is one of the first eight. -/
theorem lt_of_bits (v : BitVec 32) (h : IntOp.andi (IntOp.cmpi .sge v 0#32) (IntOp.cmpi .slt v 8#32) = 1#1) : v.toNat < 8 := by
  have h2 := IntOp.andi_eq_one.mp h
  rw [WordCmp.cmpi_sge_eq, WordCmp.cmpi_slt_eq] at h2
  have b : ∀ c : Bool, BitVec.ofBool c = 1#1 ↔ c = true := by decide
  rw [b, b, decide_eq_true_eq, decide_eq_true_eq] at h2
  have e0 : (0#32).toInt = 0 := by decide
  have e8 : (8#32).toInt = 8 := by decide
  rw [e0, e8] at h2
  have h3 := v.isLt
  rw [BitVec.toInt_eq_toNat_cond] at h2
  split at h2 <;> omega

/-- What the precondition says of the table of experts. -/
theorem words_of_pre {F : FTy → Type} [FloatOps F] (x : FVec F Cert.Pre_experts_up.S20480x4096 .bf16) (t : IVec Cert.Pre_experts_up.S40 32) (n : IVec Cert.Pre_experts_up.S1 32)
    (w u : FVec F Cert.Pre_experts_up.S8x4096x3584 .f32) (h : Cert.Pre_experts_up.fn (F := F) x t n w u = fun _ => 1#1) (q : Cert.Pre_experts_up.S40.Idx) : (t q).toNat < 8 := by
  have h0 := congrFun h (fun a => a.elim0)
  unfold Cert.Pre_experts_up.fn at h0
  haveI : Subsingleton Cert.Pre_experts_up.S_.Idx := ⟨fun a b => funext fun k => k.elim0⟩
  exact lt_of_bits _ (Host.reduce_andi_all _ _ _ _ _ h0 q)

/-- The kernel and its idealisation have the same text, so their bodies are the same, over any floats. -/
theorem defs_eq {F : FTy → Type} [FloatOps F] : Cert.MoeUp.defs (F := F) = Cert.MoeUpIdeal.defs (F := F) := by
  refine congrArg (Pipeline.defs Cert.MoeUp.pcfgs) (congrArg (Defs.onTc (nD := Cert.MoeUp.nD) (τ := Cert.MoeUp.τ)) (funext fun l => funext fun x => ?_))
  match l, x with
  | 0, (t, s) => rfl

/-- The kernel's frame, from the run of its idealisation read over words. -/
theorem frame_p : Cert.quiescent_MoeUp := fun m ρ hp => by
  rw [defs_eq]
  exact Cert.MoeUpIdeal.Hand.frame_of_ok (F := Bits) m ρ (Cert.MoeUpIdeal.Hand.ok_of_words _ fun q => by
    rw [Cert.MoeUpIdeal.Hand.tbl_0]
    exact words_of_pre _ _ _ _ _ (hp 0) q)

theorem ok {m} (hp : Cert.Pre_MoeUpIdeal m) : Cert.MoeUpIdeal.Hand.Ok m := Cert.MoeUpIdeal.Hand.ok_of_words _ fun q => by
  rw [Cert.MoeUpIdeal.Hand.tbl_0]
  exact words_of_pre _ _ _ _ _ (hp 0) q

theorem frame_pi : Cert.quiescent_MoeUpIdeal := fun m ρ hp => Cert.MoeUpIdeal.Hand.frame_of_ok m ρ (ok hp)

theorem frame_ri : Cert.quiescent_MoeUpRefIdeal := fun m ρ _ =>
  (θ_run Cert.MoeUpRefIdeal.defs _ _).mono (fun r h => ⟨fun c => (h c).2, sem_eq_zero_of_no_sems (by decide) r.2⟩)
    (Cert.MoeUpRefIdeal.Value.run m ρ)

theorem frame_ri_pre : Cert.quiescent_MoeUpRefIdeal_pre_experts_up := fun m ρ _ =>
  (θ_run Cert.MoeUpRefIdeal.defs _ _).mono (fun r h => ⟨fun c => (h c).2, sem_eq_zero_of_no_sems (by decide) r.2⟩)
    (Cert.MoeUpRefIdeal.Value.run m ρ)

end Cert.MoeUpClaim

namespace Cert.MoeUpIdeal.Hand

open Cert.MoeUpIdeal Cert.MoeUpIdeal.Gen Idealize.ShloMosaic.Pointwise

/-- The rows of tokens at natural-number coordinates. -/
def hAt (x : S20480x4096.Idx → EReal) (r c : ℕ) : EReal := x (ix2 (Fin.ofNat 20480 r) (Fin.ofNat 4096 c))
/-- An expert's weights at natural-number coordinates. -/
def wAt (x : S8x4096x3584.Idx → EReal) (e k c : ℕ) : EReal := x (ix3 (Fin.ofNat 8 e) (Fin.ofNat 4096 k) (Fin.ofNat 3584 c))
/-- The expert of row tile `i`. -/
def expert (t : S40.Idx → BitVec 32) (i : ℕ) : ℕ := (t (ix1 (Fin.ofNat 40 i))).toNat
/-- One product of a row of tokens by a column of an expert's weights. -/
def dot (h : S20480x4096.Idx → EReal) (w : S8x4096x3584.Idx → EReal) (e r j : ℕ) : EReal := ∑ k : Fin 4096, hAt h r k.val * wAt w e k.val j

/-- The gate's activation, `x` times the logistic function of `x`. -/
def silu (x : EReal) : EReal := x * Ideal.div (Ideal.ofBits .f32 0x3F800000#32) (Ideal.ofBits .f32 0x3F800000#32 + Ideal.exp (-x))

/-- Entry `(r, j)` of the array the call ends with. -/
def entry (h : S20480x4096.Idx → EReal) (t : S40.Idx → BitVec 32) (n : BitVec 32) (w u : S8x4096x3584.Idx → EReal) (r j : ℕ) : EReal :=
  if ((r / 512 : ℕ) : Int) < n.toInt then silu (dot h w (expert t (r / 512)) r j) * dot h u (expert t (r / 512)) r j else 0

variable (m : (ℓ : Loc nD τ sig) → Buf (Elt Ideal) ℓ)

abbrev aH (c : Dev nD) : S20480x4096.Idx → EReal := m ((c : Thread nD τ).loc main_arg0)
abbrev aT (c : Dev nD) : S40.Idx → BitVec 32 := m ((c : Thread nD τ).loc main_arg1)
abbrev aN (c : Dev nD) : S1.Idx → BitVec 32 := m ((c : Thread nD τ).loc main_arg2)
abbrev aW (c : Dev nD) : S8x4096x3584.Idx → EReal := m ((c : Thread nD τ).loc main_arg3)
abbrev aU (c : Dev nD) : S8x4096x3584.Idx → EReal := m ((c : Thread nD τ).loc main_arg4)

/-- The array the call ends with. -/
def result (c : Dev nD) : S20480x3584.Idx → EReal := fun i => entry (aH m c) (aT m c) (word (aN m c)) (aW m c) (aU m c) (i 0).val (i 1).val

theorem at_0 : ∀ t : Fin grid0.N, cc0_transform_0 (grid0.coords t) 0 = t.val % 40 ∧ cc0_transform_0 (grid0.coords t) 1 = 0 := by decide +kernel
theorem at_3 : ∀ t : Fin grid0.N, cc0_transform_3 (grid0.coords t) 0 = t.val % 40 ∧ cc0_transform_3 (grid0.coords t) 1 = t.val / 40 := by decide +kernel
theorem crd : ∀ t : Fin grid0.N, (grid0.coords t 0).val = t.val / 40 ∧ (grid0.coords t 1).val = t.val % 40 := by decide +kernel

theorem lt_N (hO : Ok m) (t : Fin (cfgM m hO).N) : t.val < 280 := lt_of_lt_of_eq t.isLt (show grid0.N = 280 from N_0)

theorem V_v0 (c : Dev nD) : (V m c main_v0 : S8x4096x3584.Idx → EReal) = aW m c := by
  unfold V
  simp [hostOps0]
  rfl

theorem V_v1 (c : Dev nD) : (V m c main_v1 : S8x4096x3584.Idx → EReal) = aU m c := by
  unfold V
  simp [hostOps0]
  rfl

theorem aT_eq (c : Dev nD) : tbl m 0 = aT m c := by
  obtain rfl : c = 0 := Subsingleton.elim _ _
  exact tbl_0 m

theorem aN_eq (c : Dev nD) : tbl m 1 = aN m c := by
  obtain rfl : c = 0 := Subsingleton.elim _ _
  exact tbl_1 m

theorem blk0 (hO : Ok m) (c : Dev nD) (t : Fin (cfgM m hO).N) (r : Fin 512) (k : Fin 4096) :
    (inBlk m hO c 0 t : Vec Ideal S512x4096 .bf16) (ix2 r k) = hAt (aH m c) (512 * (t.val % 40) + r.val) k.val := by
  have hi := at_0 t
  have ht := lt_N m hO t
  have hr := r.isLt
  have hk := k.isLt
  unfold hAt
  show V m c main_arg0 ((((cfgM m hO).win 0).blk t).view.emb (ix2 r k)) = _
  rw [V_a0]
  congr 1
  funext a
  apply Fin.ext
  match a with
  | ⟨0, _⟩ => show cc0_transform_0 (grid0.coords t) 0 * 512 + 1 * r.val = (_ : ℕ) % 20480; rw [hi.1]; omega
  | ⟨1, _⟩ => show cc0_transform_0 (grid0.coords t) 1 * 4096 + 1 * k.val = k.val % 4096; rw [hi.2]; omega

theorem blk1 (hO : Ok m) (c : Dev nD) (hT : ∀ q, (aT m c q).toNat < 8) (t : Fin (cfgM m hO).N) (k : Fin 4096) (j : Fin 512) :
    (inBlk m hO c 1 t : Vec Ideal S1x4096x512 .bf16) (ix3 (0 : Fin 1) k j)
      = wAt (aW m c) (expert (aT m c) (t.val % 40)) k.val (512 * (t.val / 40) + j.val) := by
  have hi := place_1 (tbl m) (grid0.coords t)
  have hc := crd t
  have ht := lt_N m hO t
  have hk := k.isLt
  have hj := j.isLt
  have he : (ix1 (grid0.coords t 1) : S40.Idx) = ix1 (Fin.ofNat 40 (t.val % 40)) := by
    funext a
    apply Fin.ext
    match a with
    | ⟨0, _⟩ => show (grid0.coords t 1).val = t.val % 40 % 40; rw [hc.2]; omega
  rw [he, aT_eq m c, hc.1] at hi
  have h8 := hT (ix1 (Fin.ofNat 40 (t.val % 40)))
  unfold wAt expert
  show V m c main_v0 ((((cfgM m hO).win 1).blk t).view.emb (ix3 (0 : Fin 1) k j)) = _
  rw [V_v0]
  congr 1
  funext a
  apply Fin.ext
  match a with
  | ⟨0, _⟩ => show cc0_transform_1 Facts₀.k0_off1_inb Facts₀.numel1_S1 (tbl m) (grid0.coords t) 0 * 1 + 1 * 0 = (_ : ℕ) % 8; rw [hi]; show (aT m c (ix1 (Fin.ofNat 40 (t.val % 40)))).toNat * 1 + 1 * 0 = _; omega
  | ⟨1, _⟩ => show cc0_transform_1 Facts₀.k0_off1_inb Facts₀.numel1_S1 (tbl m) (grid0.coords t) 1 * 4096 + 1 * k.val = k.val % 4096; rw [hi]; show 0 * 4096 + 1 * k.val = _; omega
  | ⟨2, _⟩ => show cc0_transform_1 Facts₀.k0_off1_inb Facts₀.numel1_S1 (tbl m) (grid0.coords t) 2 * 512 + 1 * j.val = (_ : ℕ) % 3584; rw [hi]; show t.val / 40 * 512 + 1 * j.val = _; omega

theorem blk2 (hO : Ok m) (c : Dev nD) (hT : ∀ q, (aT m c q).toNat < 8) (t : Fin (cfgM m hO).N) (k : Fin 4096) (j : Fin 512) :
    (inBlk m hO c 2 t : Vec Ideal S1x4096x512 .bf16) (ix3 (0 : Fin 1) k j)
      = wAt (aU m c) (expert (aT m c) (t.val % 40)) k.val (512 * (t.val / 40) + j.val) := by
  have hi := place_2 (tbl m) (grid0.coords t)
  have hc := crd t
  have ht := lt_N m hO t
  have hk := k.isLt
  have hj := j.isLt
  have he : (ix1 (grid0.coords t 1) : S40.Idx) = ix1 (Fin.ofNat 40 (t.val % 40)) := by
    funext a
    apply Fin.ext
    match a with
    | ⟨0, _⟩ => show (grid0.coords t 1).val = t.val % 40 % 40; rw [hc.2]; omega
  rw [he, aT_eq m c, hc.1] at hi
  have h8 := hT (ix1 (Fin.ofNat 40 (t.val % 40)))
  unfold wAt expert
  show V m c main_v1 ((((cfgM m hO).win 2).blk t).view.emb (ix3 (0 : Fin 1) k j)) = _
  rw [V_v1]
  congr 1
  funext a
  apply Fin.ext
  match a with
  | ⟨0, _⟩ => show cc0_transform_2 Facts₀.k0_off1_inb Facts₀.numel1_S1 (tbl m) (grid0.coords t) 0 * 1 + 1 * 0 = (_ : ℕ) % 8; rw [hi]; show (aT m c (ix1 (Fin.ofNat 40 (t.val % 40)))).toNat * 1 + 1 * 0 = _; omega
  | ⟨1, _⟩ => show cc0_transform_2 Facts₀.k0_off1_inb Facts₀.numel1_S1 (tbl m) (grid0.coords t) 1 * 4096 + 1 * k.val = k.val % 4096; rw [hi]; show 0 * 4096 + 1 * k.val = _; omega
  | ⟨2, _⟩ => show cc0_transform_2 Facts₀.k0_off1_inb Facts₀.numel1_S1 (tbl m) (grid0.coords t) 2 * 512 + 1 * j.val = (_ : ℕ) % 3584; rw [hi]; show t.val / 40 * 512 + 1 * j.val = _; omega

/-- The body's block below the count, entry by entry. -/
theorem pay1_apply (x : Vec Ideal S512x4096 .bf16) (y z : Vec Ideal S1x4096x512 .bf16) (r j : Fin 512) :
    k0_pay1 (F := Ideal) x y z (ix2 r j)
      = silu (∑ k : Fin 4096, x (ix2 r k) * y (ix3 (0 : Fin 1) k j)) * ∑ k : Fin 4096, x (ix2 r k) * z (ix3 (0 : Fin 1) k j) := by
  pointwise [k0_pay1, silu]
  rw [zero_sub]

/-- The body's block past the count. -/
theorem pay2_apply (r j : Fin 512) : k0_pay2 (F := Ideal) (ix2 r j) = 0 := by
  pointwise [k0_pay2]

/-- Every point writes its block back: successive points' output blocks differ. -/
theorem flush_3 (hO : Ok m) (t : Fin (cfgM m hO).N) : ((cfgM m hO).win 3).flush t = true :=
  (Pipeline.Window.flushOf_reads cc0_transform_3 reads0_3 hreads0_3 1 (by decide) (by decide)
    (Pipeline.Window.sep_of_coord cc0_transform_3 1 0 (fun _ => rfl) (by decide)) (P := 1) (m := 0) (by decide) rfl t).mpr (Nat.mod_one _)

theorem flushed_eq (hO : Ok m) (c : Dev nD) (hT : ∀ q, (aT m c q).toNat < 8) (t : Fin (cfgM m hO).N) :
    (dats m hO 0 c).flushed 3 t = (((cfgM m hO).win 3).blk t).view.read (Elt Ideal) (result m c) := by
  have ht := lt_N m hO t
  have hi := at_3 t
  have hc := crd t
  have hf := first_iff (grid0.coords t) (word (aN m c))
  rw [hc.2] at hf
  show (((cfgM m hO).win 3).cut ((cfgM m hO).grid.coords t) ((dats m hO 0 c).after 3 t)) = _
  rw [after_3]
  refine funext fun (j : S512x512.Idx) => ?_
  obtain ⟨r, d, rfl⟩ : ∃ (r : Fin 512) (d : Fin 512), j = ix2 r d := ⟨j 0, j 1, by funext a; match a with | ⟨0, _⟩ => rfl | ⟨1, _⟩ => rfl⟩
  show tile m hO c t (ix2 r d) = result m c ((((cfgM m hO).win 3).blk t).view.emb (ix2 r d))
  have hr := r.isLt
  have hd := d.isLt
  have key : ∀ q : S20480x3584.Idx, (q 0).val = 512 * (t.val % 40) + r.val → (q 1).val = 512 * (t.val / 40) + d.val → tile m hO c t (ix2 r d) = result m c q := by
    intro q e0 e1
    unfold tile result entry
    rw [e0, e1, show (512 * (t.val % 40) + r.val) / 512 = t.val % 40 by omega, aN_eq m c]
    unfold res
    by_cases h : ((t.val % 40 : ℕ) : Int) < (word (aN m c)).toInt
    · rw [if_pos (hf.mpr h), if_pos h]
      refine (pay1_apply _ _ _ _ _).trans ?_
      exact congrArg₂ (fun a b => silu a * b) (Finset.sum_congr rfl fun k _ => congrArg₂ (· * ·) (blk0 m hO c t r k) (blk1 m hO c hT t k d))
        (Finset.sum_congr rfl fun k _ => congrArg₂ (· * ·) (blk0 m hO c t r k) (blk2 m hO c hT t k d))
    · rw [if_neg (fun g => h (hf.mp g)), if_neg h, pay2_apply]
  refine key _ ?_ ?_
  · show cc0_transform_3 (grid0.coords t) 0 * 512 + 1 * r.val = _
    rw [hi.1]; omega
  · show cc0_transform_3 (grid0.coords t) 1 * 512 + 1 * d.val = _
    rw [hi.2]; omega

theorem cover (hO : Ok m) (i : S20480x3584.Idx) : ∃ t : Fin (cfgM m hO).N, ((cfgM m hO).win 3).flush t = true ∧ i ∈ (((cfgM m hO).win 3).blk t).view.set := by
  have h0 : (i 0).val < 20480 := (i 0).isLt
  have h1 : (i 1).val < 3584 := (i 1).isLt
  have hN : (cfgM m hO).N = 280 := N_0
  obtain ⟨n, hn, hv⟩ : ∃ n : ℕ, n < (cfgM m hO).N ∧ n = 40 * ((i 1).val / 512) + (i 0).val / 512 := ⟨_, by omega, rfl⟩
  have hi := at_3 ⟨n, hn⟩
  dsimp only at hi
  refine ⟨⟨n, hn⟩, flush_3 m hO _, ?_⟩
  show i ∈ ((View.whole main_v2).slice (Rect.block (s := S20480x3584) S512x512.size (cc0_transform_3 (grid0.coords ⟨n, hn⟩)) (Facts₀.hinb0_3 _))).set
  rw [View.set_slice_whole, Rect.mem_set_unit]
  intro a
  match a with
  | ⟨0, _⟩ => show cc0_transform_3 (grid0.coords ⟨n, hn⟩) 0 * 512 ≤ (i 0).val ∧ (i 0).val < cc0_transform_3 (grid0.coords ⟨n, hn⟩) 0 * 512 + 512; rw [hi.1]; omega
  | ⟨1, _⟩ => show cc0_transform_3 (grid0.coords ⟨n, hn⟩) 1 * 512 ≤ (i 1).val ∧ (i 1).val < cc0_transform_3 (grid0.coords ⟨n, hn⟩) 1 * 512 + 512; rw [hi.2]; omega

theorem arr_eq (hO : Ok m) (c : Dev nD) (hT : ∀ q, (aT m c q).toNat < 8) : (dats m hO 0 c).arrAt 3 (cfgM m hO).N = result m c :=
  (dats m hO 0 c).arrAt_eq_of_cover 3 (result m c) (fun t _ => flushed_eq m hO c hT t) (cover m hO)

end Cert.MoeUpIdeal.Hand

namespace Cert.MoeUpClaim

open Cert.MoeUpRefIdeal Cert.MoeUpRefIdeal.Gen Cert.MoeUpRefIdeal.Facts Cert.MoeUpRefIdeal.Read
open Cert.MoeUpIdeal.Hand (hAt wAt expert dot entry result word silu)
open Idealize.ShloMosaic.Pointwise

variable (h : S20480x4096.Idx → EReal) (t : S40.Idx → BitVec 32) (n : S1.Idx → BitVec 32) (w u : S8x4096x3584.Idx → EReal)

/-- The row tile of row `r`: `r / 512` rounded down, which for a row is the plain quotient. -/
theorem tile_word (r : Fin 20480) : val_main_v2 (F := Ideal) (ix1 r) = BitVec.ofNat 32 (r.val / 512) := by
  have hr := r.isLt
  have hd : IntOp.divsi .host (BitVec.ofNat 32 r.val) 512#32 = BitVec.ofNat 32 (r.val / 512) := Routing.divsi_word .host (by omega) (by omega) (by omega)
  have hm : IntOp.remsi .host (BitVec.ofNat 32 r.val) 512#32 = BitVec.ofNat 32 (r.val % 512) := Routing.remsi_word .host (by omega) (by omega) (by omega)
  have e1 : val_main_v1 (F := Ideal) (ix1 r) = BitVec.ofNat 32 r.val := rfl
  have e2 : val_main_call0_v2 (F := Ideal) (ix1 r) = BitVec.ofNat 32 (r.val / 512) := by
    rw [val_main_call0_v2_apply, val_main_call0_v1_apply, val_main_call0_v0_apply, val_main_c_apply, e1, hd]
  have e8 : val_main_call0_v8 (F := Ideal) (ix1 r) = BitVec.ofNat 32 (r.val % 512) := by
    rw [val_main_call0_v8_apply, val_main_call0_v7_apply, val_main_call0_v0_apply, val_main_c_apply, e1, hm]
  have e3 : val_main_call0_v3 (F := Ideal) (ix1 r) = if BitVec.ofNat 32 r.val = 0 then 0 else if (BitVec.ofNat 32 r.val).msb then -1 else 1 := rfl
  have e5 : val_main_call0_v5 (F := Ideal) (ix1 r) = 1#32 := by
    rw [val_main_call0_v5_apply]
    unfold val_main_call0_v4
    rw [signi_apply, val_main_call0_v0_apply, val_main_c_apply]
    decide
  have e11 : val_main_call0_v11 (F := Ideal) (ix1 r) = 0#1 := by
    rw [val_main_call0_v11_apply, val_main_call0_v6_apply, val_main_call0_v10_apply, val_main_call0_v9_apply, val_main_call0_c_apply, e3, e5, e8]
    rcases Nat.eq_zero_or_pos r.val with hz | hp
    · rw [hz]; decide
    · have hn : ¬ BitVec.ofNat 32 r.val = 0 := by
        intro hh
        have := congrArg BitVec.toNat hh
        rw [BitVec.toNat_ofNat, Nat.mod_eq_of_lt (by omega)] at this
        have z : (0 : BitVec 32).toNat = 0 := by decide
        omega
      have hs : (BitVec.ofNat 32 r.val).msb = false := by
        rw [BitVec.msb_eq_decide, decide_eq_false_iff_not, BitVec.toNat_ofNat, Nat.mod_eq_of_lt (by omega)]
        omega
      rw [if_neg hn, hs]
      have c : IntOp.cmpi .ne (1 : BitVec 32) 1#32 = 0#1 := by decide
      simp only [Bool.false_eq_true, if_false]
      rw [c]
      exact BitVec.zero_and
  rw [val_main_v2_apply, e11, e2]
  rfl

/-- The table read at each row: its row tile's expert. -/
theorem expert_word (r : Fin 20480) : val_main_v9 (F := Ideal) t (ix1 r) = t (ix1 (Fin.ofNat 40 (r.val / 512))) := by
  have hr := r.isLt
  have e7 : val_main_v7 (F := Ideal) (ix1 r) = BitVec.ofNat 32 (r.val / 512) := by
    rw [val_main_v7_apply, val_main_v4_apply, val_main_v3_apply, val_main_c_0_apply, tile_word, WordCmp.cmpi_slt_eq]
    have hz : ¬ (BitVec.ofNat 32 (r.val / 512)).toInt < (0#32).toInt := by
      rw [WordCmp.toInt_eq_toNat_of_lt_half (by rw [BitVec.toNat_ofNat, Nat.mod_eq_of_lt (by omega)]; omega)]
      have e0 : (0#32).toInt = 0 := by decide
      omega
    rw [decide_eq_false hz]
    rfl
  unfold val_main_v9
  refine (Routing.take_ap gather_S40_S20480x1_S20480_n_0_n_n_0_1_1 rfl rfl rfl rfl t _ r (k := r.val / 512) (by omega) (by omega) ((val_main_v8_apply _).trans ((congrArg _ (show idx_main_v8 (ix2 r (0 : Fin 1)) = ix1 r from funext fun a => match a with | ⟨0, _⟩ => rfl)).trans e7))).trans ?_
  congr 2
  apply Fin.ext
  show r.val / 512 = r.val / 512 % 40
  omega

theorem word_eq (k : S1.Idx) : n k = word n := congrArg n (Cert.MoeUpIdeal.Hand.one_idx _ _)

theorem mask_0 (r : Fin 20480) (j : Fin 3584) : val_main_call2_v0 (F := Ideal) t n (ix2 r j)
    = IntOp.andi (IntOp.cmpi .eq (t (ix1 (Fin.ofNat 40 (r.val / 512)))) 0#32) (IntOp.cmpi .slt (BitVec.ofNat 32 (r.val / 512)) (word n)) := by
  rw [val_main_call2_v0_apply, val_main_v16_apply,
    show idx_main_v16 (idx_main_call2_v0 (ix2 r j)) = ix1 r from funext fun a => match a with | ⟨0, _⟩ => rfl,
    val_main_v15_apply, val_main_v12_apply, val_main_v14_apply, val_main_v13_apply, val_main_v11_apply, val_main_c_2_apply,
    expert_word, tile_word, word_eq n]

theorem dot_g0 (r : Fin 20480) (j : Fin 3584) : val_main_v19 (F := Ideal) h w (ix2 r j) = dot h w 0 r.val j.val := by
  have hr := r.isLt
  have hj := j.isLt
  rw [val_main_v19_apply]
  unfold dot
  refine Finset.sum_congr rfl fun k _ => ?_
  have hk := k.isLt
  rw [val_main_v0_apply, val_main_v18_apply, val_main_v17_apply]
  unfold hAt wAt
  show h _ * w _ = h _ * w _
  congr 2
  · funext a
    apply Fin.ext
    match a with
    | ⟨0, _⟩ => show r.val = r.val % 20480; omega
    | ⟨1, _⟩ => show k.val = k.val % 4096; omega
  · funext a
    apply Fin.ext
    match a with
    | ⟨0, _⟩ => rfl
    | ⟨1, _⟩ => show (k.val * 3584 + j.val) / 3584 % 4096 = k.val % 4096; omega
    | ⟨2, _⟩ => show (k.val * 3584 + j.val) % 3584 = j.val % 3584; omega

theorem dot_u0 (r : Fin 20480) (j : Fin 3584) : val_main_v23 (F := Ideal) h u (ix2 r j) = dot h u 0 r.val j.val := by
  have hr := r.isLt
  have hj := j.isLt
  rw [val_main_v23_apply]
  unfold dot
  refine Finset.sum_congr rfl fun k _ => ?_
  have hk := k.isLt
  rw [val_main_v0_apply, val_main_v22_apply, val_main_v21_apply]
  unfold hAt wAt
  show h _ * u _ = h _ * u _
  congr 2
  · funext a
    apply Fin.ext
    match a with
    | ⟨0, _⟩ => show r.val = r.val % 20480; omega
    | ⟨1, _⟩ => show k.val = k.val % 4096; omega
  · funext a
    apply Fin.ext
    match a with
    | ⟨0, _⟩ => rfl
    | ⟨1, _⟩ => show (k.val * 3584 + j.val) / 3584 % 4096 = k.val % 4096; omega
    | ⟨2, _⟩ => show (k.val * 3584 + j.val) % 3584 = j.val % 3584; omega

theorem val_0 (r : Fin 20480) (j : Fin 3584) : val_main_v24 (F := Ideal) h w u (ix2 r j) = silu (dot h w 0 r.val j.val) * dot h u 0 r.val j.val := by
  rw [val_main_v24_apply, val_main_v20_apply, val_main_call1_v5_apply, val_main_call1_v4_apply, val_main_call1_cst_0_apply,
    val_main_call1_v3_apply, val_main_call1_v2_apply, val_main_call1_cst_apply, val_main_call1_v1_apply, val_main_call1_v0_apply,
    dot_g0, dot_u0]
  rfl

theorem mask_1 (r : Fin 20480) (j : Fin 3584) : val_main_call4_v0 (F := Ideal) t n (ix2 r j)
    = IntOp.andi (IntOp.cmpi .eq (t (ix1 (Fin.ofNat 40 (r.val / 512)))) 1#32) (IntOp.cmpi .slt (BitVec.ofNat 32 (r.val / 512)) (word n)) := by
  rw [val_main_call4_v0_apply, val_main_v31_apply,
    show idx_main_v31 (idx_main_call4_v0 (ix2 r j)) = ix1 r from funext fun a => match a with | ⟨0, _⟩ => rfl,
    val_main_v30_apply, val_main_v27_apply, val_main_v29_apply, val_main_v28_apply, val_main_v26_apply, val_main_c_3_apply,
    expert_word, tile_word, word_eq n]

theorem dot_g1 (r : Fin 20480) (j : Fin 3584) : val_main_v34 (F := Ideal) h w (ix2 r j) = dot h w 1 r.val j.val := by
  have hr := r.isLt
  have hj := j.isLt
  rw [val_main_v34_apply]
  unfold dot
  refine Finset.sum_congr rfl fun k _ => ?_
  have hk := k.isLt
  rw [val_main_v0_apply, val_main_v33_apply, val_main_v32_apply]
  unfold hAt wAt
  show h _ * w _ = h _ * w _
  congr 2
  · funext a
    apply Fin.ext
    match a with
    | ⟨0, _⟩ => show r.val = r.val % 20480; omega
    | ⟨1, _⟩ => show k.val = k.val % 4096; omega
  · funext a
    apply Fin.ext
    match a with
    | ⟨0, _⟩ => rfl
    | ⟨1, _⟩ => show (k.val * 3584 + j.val) / 3584 % 4096 = k.val % 4096; omega
    | ⟨2, _⟩ => show (k.val * 3584 + j.val) % 3584 = j.val % 3584; omega

theorem dot_u1 (r : Fin 20480) (j : Fin 3584) : val_main_v38 (F := Ideal) h u (ix2 r j) = dot h u 1 r.val j.val := by
  have hr := r.isLt
  have hj := j.isLt
  rw [val_main_v38_apply]
  unfold dot
  refine Finset.sum_congr rfl fun k _ => ?_
  have hk := k.isLt
  rw [val_main_v0_apply, val_main_v37_apply, val_main_v36_apply]
  unfold hAt wAt
  show h _ * u _ = h _ * u _
  congr 2
  · funext a
    apply Fin.ext
    match a with
    | ⟨0, _⟩ => show r.val = r.val % 20480; omega
    | ⟨1, _⟩ => show k.val = k.val % 4096; omega
  · funext a
    apply Fin.ext
    match a with
    | ⟨0, _⟩ => rfl
    | ⟨1, _⟩ => show (k.val * 3584 + j.val) / 3584 % 4096 = k.val % 4096; omega
    | ⟨2, _⟩ => show (k.val * 3584 + j.val) % 3584 = j.val % 3584; omega

theorem val_1 (r : Fin 20480) (j : Fin 3584) : val_main_v39 (F := Ideal) h w u (ix2 r j) = silu (dot h w 1 r.val j.val) * dot h u 1 r.val j.val := by
  rw [val_main_v39_apply, val_main_v35_apply, val_main_call3_v5_apply, val_main_call3_v4_apply, val_main_call3_cst_0_apply,
    val_main_call3_v3_apply, val_main_call3_v2_apply, val_main_call3_cst_apply, val_main_call3_v1_apply, val_main_call3_v0_apply,
    dot_g1, dot_u1]
  rfl

theorem mask_2 (r : Fin 20480) (j : Fin 3584) : val_main_call6_v0 (F := Ideal) t n (ix2 r j)
    = IntOp.andi (IntOp.cmpi .eq (t (ix1 (Fin.ofNat 40 (r.val / 512)))) 2#32) (IntOp.cmpi .slt (BitVec.ofNat 32 (r.val / 512)) (word n)) := by
  rw [val_main_call6_v0_apply, val_main_v46_apply,
    show idx_main_v46 (idx_main_call6_v0 (ix2 r j)) = ix1 r from funext fun a => match a with | ⟨0, _⟩ => rfl,
    val_main_v45_apply, val_main_v42_apply, val_main_v44_apply, val_main_v43_apply, val_main_v41_apply, val_main_c_4_apply,
    expert_word, tile_word, word_eq n]

theorem dot_g2 (r : Fin 20480) (j : Fin 3584) : val_main_v49 (F := Ideal) h w (ix2 r j) = dot h w 2 r.val j.val := by
  have hr := r.isLt
  have hj := j.isLt
  rw [val_main_v49_apply]
  unfold dot
  refine Finset.sum_congr rfl fun k _ => ?_
  have hk := k.isLt
  rw [val_main_v0_apply, val_main_v48_apply, val_main_v47_apply]
  unfold hAt wAt
  show h _ * w _ = h _ * w _
  congr 2
  · funext a
    apply Fin.ext
    match a with
    | ⟨0, _⟩ => show r.val = r.val % 20480; omega
    | ⟨1, _⟩ => show k.val = k.val % 4096; omega
  · funext a
    apply Fin.ext
    match a with
    | ⟨0, _⟩ => rfl
    | ⟨1, _⟩ => show (k.val * 3584 + j.val) / 3584 % 4096 = k.val % 4096; omega
    | ⟨2, _⟩ => show (k.val * 3584 + j.val) % 3584 = j.val % 3584; omega

theorem dot_u2 (r : Fin 20480) (j : Fin 3584) : val_main_v53 (F := Ideal) h u (ix2 r j) = dot h u 2 r.val j.val := by
  have hr := r.isLt
  have hj := j.isLt
  rw [val_main_v53_apply]
  unfold dot
  refine Finset.sum_congr rfl fun k _ => ?_
  have hk := k.isLt
  rw [val_main_v0_apply, val_main_v52_apply, val_main_v51_apply]
  unfold hAt wAt
  show h _ * u _ = h _ * u _
  congr 2
  · funext a
    apply Fin.ext
    match a with
    | ⟨0, _⟩ => show r.val = r.val % 20480; omega
    | ⟨1, _⟩ => show k.val = k.val % 4096; omega
  · funext a
    apply Fin.ext
    match a with
    | ⟨0, _⟩ => rfl
    | ⟨1, _⟩ => show (k.val * 3584 + j.val) / 3584 % 4096 = k.val % 4096; omega
    | ⟨2, _⟩ => show (k.val * 3584 + j.val) % 3584 = j.val % 3584; omega

theorem val_2 (r : Fin 20480) (j : Fin 3584) : val_main_v54 (F := Ideal) h w u (ix2 r j) = silu (dot h w 2 r.val j.val) * dot h u 2 r.val j.val := by
  rw [val_main_v54_apply, val_main_v50_apply, val_main_call5_v5_apply, val_main_call5_v4_apply, val_main_call5_cst_0_apply,
    val_main_call5_v3_apply, val_main_call5_v2_apply, val_main_call5_cst_apply, val_main_call5_v1_apply, val_main_call5_v0_apply,
    dot_g2, dot_u2]
  rfl

theorem mask_3 (r : Fin 20480) (j : Fin 3584) : val_main_call8_v0 (F := Ideal) t n (ix2 r j)
    = IntOp.andi (IntOp.cmpi .eq (t (ix1 (Fin.ofNat 40 (r.val / 512)))) 3#32) (IntOp.cmpi .slt (BitVec.ofNat 32 (r.val / 512)) (word n)) := by
  rw [val_main_call8_v0_apply, val_main_v61_apply,
    show idx_main_v61 (idx_main_call8_v0 (ix2 r j)) = ix1 r from funext fun a => match a with | ⟨0, _⟩ => rfl,
    val_main_v60_apply, val_main_v57_apply, val_main_v59_apply, val_main_v58_apply, val_main_v56_apply, val_main_c_5_apply,
    expert_word, tile_word, word_eq n]

theorem dot_g3 (r : Fin 20480) (j : Fin 3584) : val_main_v64 (F := Ideal) h w (ix2 r j) = dot h w 3 r.val j.val := by
  have hr := r.isLt
  have hj := j.isLt
  rw [val_main_v64_apply]
  unfold dot
  refine Finset.sum_congr rfl fun k _ => ?_
  have hk := k.isLt
  rw [val_main_v0_apply, val_main_v63_apply, val_main_v62_apply]
  unfold hAt wAt
  show h _ * w _ = h _ * w _
  congr 2
  · funext a
    apply Fin.ext
    match a with
    | ⟨0, _⟩ => show r.val = r.val % 20480; omega
    | ⟨1, _⟩ => show k.val = k.val % 4096; omega
  · funext a
    apply Fin.ext
    match a with
    | ⟨0, _⟩ => rfl
    | ⟨1, _⟩ => show (k.val * 3584 + j.val) / 3584 % 4096 = k.val % 4096; omega
    | ⟨2, _⟩ => show (k.val * 3584 + j.val) % 3584 = j.val % 3584; omega

theorem dot_u3 (r : Fin 20480) (j : Fin 3584) : val_main_v68 (F := Ideal) h u (ix2 r j) = dot h u 3 r.val j.val := by
  have hr := r.isLt
  have hj := j.isLt
  rw [val_main_v68_apply]
  unfold dot
  refine Finset.sum_congr rfl fun k _ => ?_
  have hk := k.isLt
  rw [val_main_v0_apply, val_main_v67_apply, val_main_v66_apply]
  unfold hAt wAt
  show h _ * u _ = h _ * u _
  congr 2
  · funext a
    apply Fin.ext
    match a with
    | ⟨0, _⟩ => show r.val = r.val % 20480; omega
    | ⟨1, _⟩ => show k.val = k.val % 4096; omega
  · funext a
    apply Fin.ext
    match a with
    | ⟨0, _⟩ => rfl
    | ⟨1, _⟩ => show (k.val * 3584 + j.val) / 3584 % 4096 = k.val % 4096; omega
    | ⟨2, _⟩ => show (k.val * 3584 + j.val) % 3584 = j.val % 3584; omega

theorem val_3 (r : Fin 20480) (j : Fin 3584) : val_main_v69 (F := Ideal) h w u (ix2 r j) = silu (dot h w 3 r.val j.val) * dot h u 3 r.val j.val := by
  rw [val_main_v69_apply, val_main_v65_apply, val_main_call7_v5_apply, val_main_call7_v4_apply, val_main_call7_cst_0_apply,
    val_main_call7_v3_apply, val_main_call7_v2_apply, val_main_call7_cst_apply, val_main_call7_v1_apply, val_main_call7_v0_apply,
    dot_g3, dot_u3]
  rfl

theorem mask_4 (r : Fin 20480) (j : Fin 3584) : val_main_call10_v0 (F := Ideal) t n (ix2 r j)
    = IntOp.andi (IntOp.cmpi .eq (t (ix1 (Fin.ofNat 40 (r.val / 512)))) 4#32) (IntOp.cmpi .slt (BitVec.ofNat 32 (r.val / 512)) (word n)) := by
  rw [val_main_call10_v0_apply, val_main_v76_apply,
    show idx_main_v76 (idx_main_call10_v0 (ix2 r j)) = ix1 r from funext fun a => match a with | ⟨0, _⟩ => rfl,
    val_main_v75_apply, val_main_v72_apply, val_main_v74_apply, val_main_v73_apply, val_main_v71_apply, val_main_c_6_apply,
    expert_word, tile_word, word_eq n]

theorem dot_g4 (r : Fin 20480) (j : Fin 3584) : val_main_v79 (F := Ideal) h w (ix2 r j) = dot h w 4 r.val j.val := by
  have hr := r.isLt
  have hj := j.isLt
  rw [val_main_v79_apply]
  unfold dot
  refine Finset.sum_congr rfl fun k _ => ?_
  have hk := k.isLt
  rw [val_main_v0_apply, val_main_v78_apply, val_main_v77_apply]
  unfold hAt wAt
  show h _ * w _ = h _ * w _
  congr 2
  · funext a
    apply Fin.ext
    match a with
    | ⟨0, _⟩ => show r.val = r.val % 20480; omega
    | ⟨1, _⟩ => show k.val = k.val % 4096; omega
  · funext a
    apply Fin.ext
    match a with
    | ⟨0, _⟩ => rfl
    | ⟨1, _⟩ => show (k.val * 3584 + j.val) / 3584 % 4096 = k.val % 4096; omega
    | ⟨2, _⟩ => show (k.val * 3584 + j.val) % 3584 = j.val % 3584; omega

theorem dot_u4 (r : Fin 20480) (j : Fin 3584) : val_main_v83 (F := Ideal) h u (ix2 r j) = dot h u 4 r.val j.val := by
  have hr := r.isLt
  have hj := j.isLt
  rw [val_main_v83_apply]
  unfold dot
  refine Finset.sum_congr rfl fun k _ => ?_
  have hk := k.isLt
  rw [val_main_v0_apply, val_main_v82_apply, val_main_v81_apply]
  unfold hAt wAt
  show h _ * u _ = h _ * u _
  congr 2
  · funext a
    apply Fin.ext
    match a with
    | ⟨0, _⟩ => show r.val = r.val % 20480; omega
    | ⟨1, _⟩ => show k.val = k.val % 4096; omega
  · funext a
    apply Fin.ext
    match a with
    | ⟨0, _⟩ => rfl
    | ⟨1, _⟩ => show (k.val * 3584 + j.val) / 3584 % 4096 = k.val % 4096; omega
    | ⟨2, _⟩ => show (k.val * 3584 + j.val) % 3584 = j.val % 3584; omega

theorem val_4 (r : Fin 20480) (j : Fin 3584) : val_main_v84 (F := Ideal) h w u (ix2 r j) = silu (dot h w 4 r.val j.val) * dot h u 4 r.val j.val := by
  rw [val_main_v84_apply, val_main_v80_apply, val_main_call9_v5_apply, val_main_call9_v4_apply, val_main_call9_cst_0_apply,
    val_main_call9_v3_apply, val_main_call9_v2_apply, val_main_call9_cst_apply, val_main_call9_v1_apply, val_main_call9_v0_apply,
    dot_g4, dot_u4]
  rfl

theorem mask_5 (r : Fin 20480) (j : Fin 3584) : val_main_call12_v0 (F := Ideal) t n (ix2 r j)
    = IntOp.andi (IntOp.cmpi .eq (t (ix1 (Fin.ofNat 40 (r.val / 512)))) 5#32) (IntOp.cmpi .slt (BitVec.ofNat 32 (r.val / 512)) (word n)) := by
  rw [val_main_call12_v0_apply, val_main_v91_apply,
    show idx_main_v91 (idx_main_call12_v0 (ix2 r j)) = ix1 r from funext fun a => match a with | ⟨0, _⟩ => rfl,
    val_main_v90_apply, val_main_v87_apply, val_main_v89_apply, val_main_v88_apply, val_main_v86_apply, val_main_c_7_apply,
    expert_word, tile_word, word_eq n]

theorem dot_g5 (r : Fin 20480) (j : Fin 3584) : val_main_v94 (F := Ideal) h w (ix2 r j) = dot h w 5 r.val j.val := by
  have hr := r.isLt
  have hj := j.isLt
  rw [val_main_v94_apply]
  unfold dot
  refine Finset.sum_congr rfl fun k _ => ?_
  have hk := k.isLt
  rw [val_main_v0_apply, val_main_v93_apply, val_main_v92_apply]
  unfold hAt wAt
  show h _ * w _ = h _ * w _
  congr 2
  · funext a
    apply Fin.ext
    match a with
    | ⟨0, _⟩ => show r.val = r.val % 20480; omega
    | ⟨1, _⟩ => show k.val = k.val % 4096; omega
  · funext a
    apply Fin.ext
    match a with
    | ⟨0, _⟩ => rfl
    | ⟨1, _⟩ => show (k.val * 3584 + j.val) / 3584 % 4096 = k.val % 4096; omega
    | ⟨2, _⟩ => show (k.val * 3584 + j.val) % 3584 = j.val % 3584; omega

theorem dot_u5 (r : Fin 20480) (j : Fin 3584) : val_main_v98 (F := Ideal) h u (ix2 r j) = dot h u 5 r.val j.val := by
  have hr := r.isLt
  have hj := j.isLt
  rw [val_main_v98_apply]
  unfold dot
  refine Finset.sum_congr rfl fun k _ => ?_
  have hk := k.isLt
  rw [val_main_v0_apply, val_main_v97_apply, val_main_v96_apply]
  unfold hAt wAt
  show h _ * u _ = h _ * u _
  congr 2
  · funext a
    apply Fin.ext
    match a with
    | ⟨0, _⟩ => show r.val = r.val % 20480; omega
    | ⟨1, _⟩ => show k.val = k.val % 4096; omega
  · funext a
    apply Fin.ext
    match a with
    | ⟨0, _⟩ => rfl
    | ⟨1, _⟩ => show (k.val * 3584 + j.val) / 3584 % 4096 = k.val % 4096; omega
    | ⟨2, _⟩ => show (k.val * 3584 + j.val) % 3584 = j.val % 3584; omega

theorem val_5 (r : Fin 20480) (j : Fin 3584) : val_main_v99 (F := Ideal) h w u (ix2 r j) = silu (dot h w 5 r.val j.val) * dot h u 5 r.val j.val := by
  rw [val_main_v99_apply, val_main_v95_apply, val_main_call11_v5_apply, val_main_call11_v4_apply, val_main_call11_cst_0_apply,
    val_main_call11_v3_apply, val_main_call11_v2_apply, val_main_call11_cst_apply, val_main_call11_v1_apply, val_main_call11_v0_apply,
    dot_g5, dot_u5]
  rfl

theorem mask_6 (r : Fin 20480) (j : Fin 3584) : val_main_call14_v0 (F := Ideal) t n (ix2 r j)
    = IntOp.andi (IntOp.cmpi .eq (t (ix1 (Fin.ofNat 40 (r.val / 512)))) 6#32) (IntOp.cmpi .slt (BitVec.ofNat 32 (r.val / 512)) (word n)) := by
  rw [val_main_call14_v0_apply, val_main_v106_apply,
    show idx_main_v106 (idx_main_call14_v0 (ix2 r j)) = ix1 r from funext fun a => match a with | ⟨0, _⟩ => rfl,
    val_main_v105_apply, val_main_v102_apply, val_main_v104_apply, val_main_v103_apply, val_main_v101_apply, val_main_c_8_apply,
    expert_word, tile_word, word_eq n]

theorem dot_g6 (r : Fin 20480) (j : Fin 3584) : val_main_v109 (F := Ideal) h w (ix2 r j) = dot h w 6 r.val j.val := by
  have hr := r.isLt
  have hj := j.isLt
  rw [val_main_v109_apply]
  unfold dot
  refine Finset.sum_congr rfl fun k _ => ?_
  have hk := k.isLt
  rw [val_main_v0_apply, val_main_v108_apply, val_main_v107_apply]
  unfold hAt wAt
  show h _ * w _ = h _ * w _
  congr 2
  · funext a
    apply Fin.ext
    match a with
    | ⟨0, _⟩ => show r.val = r.val % 20480; omega
    | ⟨1, _⟩ => show k.val = k.val % 4096; omega
  · funext a
    apply Fin.ext
    match a with
    | ⟨0, _⟩ => rfl
    | ⟨1, _⟩ => show (k.val * 3584 + j.val) / 3584 % 4096 = k.val % 4096; omega
    | ⟨2, _⟩ => show (k.val * 3584 + j.val) % 3584 = j.val % 3584; omega

theorem dot_u6 (r : Fin 20480) (j : Fin 3584) : val_main_v113 (F := Ideal) h u (ix2 r j) = dot h u 6 r.val j.val := by
  have hr := r.isLt
  have hj := j.isLt
  rw [val_main_v113_apply]
  unfold dot
  refine Finset.sum_congr rfl fun k _ => ?_
  have hk := k.isLt
  rw [val_main_v0_apply, val_main_v112_apply, val_main_v111_apply]
  unfold hAt wAt
  show h _ * u _ = h _ * u _
  congr 2
  · funext a
    apply Fin.ext
    match a with
    | ⟨0, _⟩ => show r.val = r.val % 20480; omega
    | ⟨1, _⟩ => show k.val = k.val % 4096; omega
  · funext a
    apply Fin.ext
    match a with
    | ⟨0, _⟩ => rfl
    | ⟨1, _⟩ => show (k.val * 3584 + j.val) / 3584 % 4096 = k.val % 4096; omega
    | ⟨2, _⟩ => show (k.val * 3584 + j.val) % 3584 = j.val % 3584; omega

theorem val_6 (r : Fin 20480) (j : Fin 3584) : val_main_v114 (F := Ideal) h w u (ix2 r j) = silu (dot h w 6 r.val j.val) * dot h u 6 r.val j.val := by
  rw [val_main_v114_apply, val_main_v110_apply, val_main_call13_v5_apply, val_main_call13_v4_apply, val_main_call13_cst_0_apply,
    val_main_call13_v3_apply, val_main_call13_v2_apply, val_main_call13_cst_apply, val_main_call13_v1_apply, val_main_call13_v0_apply,
    dot_g6, dot_u6]
  rfl

theorem mask_7 (r : Fin 20480) (j : Fin 3584) : val_main_call16_v0 (F := Ideal) t n (ix2 r j)
    = IntOp.andi (IntOp.cmpi .eq (t (ix1 (Fin.ofNat 40 (r.val / 512)))) 7#32) (IntOp.cmpi .slt (BitVec.ofNat 32 (r.val / 512)) (word n)) := by
  rw [val_main_call16_v0_apply, val_main_v121_apply,
    show idx_main_v121 (idx_main_call16_v0 (ix2 r j)) = ix1 r from funext fun a => match a with | ⟨0, _⟩ => rfl,
    val_main_v120_apply, val_main_v117_apply, val_main_v119_apply, val_main_v118_apply, val_main_v116_apply, val_main_c_9_apply,
    expert_word, tile_word, word_eq n]

theorem dot_g7 (r : Fin 20480) (j : Fin 3584) : val_main_v124 (F := Ideal) h w (ix2 r j) = dot h w 7 r.val j.val := by
  have hr := r.isLt
  have hj := j.isLt
  rw [val_main_v124_apply]
  unfold dot
  refine Finset.sum_congr rfl fun k _ => ?_
  have hk := k.isLt
  rw [val_main_v0_apply, val_main_v123_apply, val_main_v122_apply]
  unfold hAt wAt
  show h _ * w _ = h _ * w _
  congr 2
  · funext a
    apply Fin.ext
    match a with
    | ⟨0, _⟩ => show r.val = r.val % 20480; omega
    | ⟨1, _⟩ => show k.val = k.val % 4096; omega
  · funext a
    apply Fin.ext
    match a with
    | ⟨0, _⟩ => rfl
    | ⟨1, _⟩ => show (k.val * 3584 + j.val) / 3584 % 4096 = k.val % 4096; omega
    | ⟨2, _⟩ => show (k.val * 3584 + j.val) % 3584 = j.val % 3584; omega

theorem dot_u7 (r : Fin 20480) (j : Fin 3584) : val_main_v128 (F := Ideal) h u (ix2 r j) = dot h u 7 r.val j.val := by
  have hr := r.isLt
  have hj := j.isLt
  rw [val_main_v128_apply]
  unfold dot
  refine Finset.sum_congr rfl fun k _ => ?_
  have hk := k.isLt
  rw [val_main_v0_apply, val_main_v127_apply, val_main_v126_apply]
  unfold hAt wAt
  show h _ * u _ = h _ * u _
  congr 2
  · funext a
    apply Fin.ext
    match a with
    | ⟨0, _⟩ => show r.val = r.val % 20480; omega
    | ⟨1, _⟩ => show k.val = k.val % 4096; omega
  · funext a
    apply Fin.ext
    match a with
    | ⟨0, _⟩ => rfl
    | ⟨1, _⟩ => show (k.val * 3584 + j.val) / 3584 % 4096 = k.val % 4096; omega
    | ⟨2, _⟩ => show (k.val * 3584 + j.val) % 3584 = j.val % 3584; omega

theorem val_7 (r : Fin 20480) (j : Fin 3584) : val_main_v129 (F := Ideal) h w u (ix2 r j) = silu (dot h w 7 r.val j.val) * dot h u 7 r.val j.val := by
  rw [val_main_v129_apply, val_main_v125_apply, val_main_call15_v5_apply, val_main_call15_v4_apply, val_main_call15_cst_0_apply,
    val_main_call15_v3_apply, val_main_call15_v2_apply, val_main_call15_cst_apply, val_main_call15_v1_apply, val_main_call15_v0_apply,
    dot_g7, dot_u7]
  rfl

/-- A table word named by one expert selects that expert's product, and no other's. -/
theorem pick (e : ℕ) (v : BitVec 32) (c : BitVec 1) (a b : EReal) (he : e < 2 ^ 32) :
    Scalar.select (IntOp.andi (IntOp.cmpi .eq v (BitVec.ofNat 32 e)) c) a b = if v.toNat = e ∧ c = 1#1 then a else b := by
  have hv : v = BitVec.ofNat 32 e ↔ v.toNat = e := by
    rw [← BitVec.toNat_inj, BitVec.toNat_ofNat, Nat.mod_eq_of_lt he]
  rw [WordCmp.cmpi_eq_eq]
  by_cases h1 : v.toNat = e
  · rw [decide_eq_true (hv.mpr h1)]
    rcases BitVec.eq_zero_or_eq_one c with rfl | rfl
    · rw [if_neg (fun g => absurd g.2 (by decide))]; rfl
    · rw [if_pos ⟨h1, rfl⟩]; rfl
  · rw [decide_eq_false (fun g => h1 (hv.mp g)), if_neg (fun g => h1 g.1)]
    rcases BitVec.eq_zero_or_eq_one c with rfl | rfl <;> rfl

/-- Exactly one of the eight is the table's, and it is chosen where the count admits the row. -/
theorem choose (x : ℕ) (hx : x < 8) (p : Prop) [Decidable p] (f : ℕ → EReal) :
    (if x = 7 ∧ p then f 7 else if x = 6 ∧ p then f 6 else if x = 5 ∧ p then f 5 else if x = 4 ∧ p then f 4 else if x = 3 ∧ p then f 3
      else if x = 2 ∧ p then f 2 else if x = 1 ∧ p then f 1 else if x = 0 ∧ p then f 0 else 0) = if p then f x else 0 := by
  by_cases hp : p
  · simp only [hp, and_true, if_true]
    interval_cases x <;> simp
  · simp only [hp, and_false, if_false]

theorem step_0 (r : Fin 20480) (j : Fin 3584) : val_main_v25 (F := Ideal) h t n w u (ix2 r j) = if (t (ix1 (Fin.ofNat 40 (r.val / 512)))).toNat = 0 ∧ IntOp.cmpi .slt (BitVec.ofNat 32 (r.val / 512)) (word n) = 1#1 then silu (dot h w 0 r.val j.val) * dot h u 0 r.val j.val else 0 := by
  rw [val_main_v25_apply, mask_0, val_0]
  rw [show val_main_v10 (F := Ideal) (ix2 r j) = 0 from ((val_main_v10_apply _).trans (val_main_cst_apply _)).trans (Ideal.ofBits_zero .f32)]
  exact pick 0 _ _ _ _ (by decide)

theorem step_1 (r : Fin 20480) (j : Fin 3584) : val_main_v40 (F := Ideal) h t n w u (ix2 r j) = if (t (ix1 (Fin.ofNat 40 (r.val / 512)))).toNat = 1 ∧ IntOp.cmpi .slt (BitVec.ofNat 32 (r.val / 512)) (word n) = 1#1 then silu (dot h w 1 r.val j.val) * dot h u 1 r.val j.val else val_main_v25 (F := Ideal) h t n w u (ix2 r j) := by
  rw [val_main_v40_apply, mask_1, val_1]
  exact pick 1 _ _ _ _ (by decide)

theorem step_2 (r : Fin 20480) (j : Fin 3584) : val_main_v55 (F := Ideal) h t n w u (ix2 r j) = if (t (ix1 (Fin.ofNat 40 (r.val / 512)))).toNat = 2 ∧ IntOp.cmpi .slt (BitVec.ofNat 32 (r.val / 512)) (word n) = 1#1 then silu (dot h w 2 r.val j.val) * dot h u 2 r.val j.val else val_main_v40 (F := Ideal) h t n w u (ix2 r j) := by
  rw [val_main_v55_apply, mask_2, val_2]
  exact pick 2 _ _ _ _ (by decide)

theorem step_3 (r : Fin 20480) (j : Fin 3584) : val_main_v70 (F := Ideal) h t n w u (ix2 r j) = if (t (ix1 (Fin.ofNat 40 (r.val / 512)))).toNat = 3 ∧ IntOp.cmpi .slt (BitVec.ofNat 32 (r.val / 512)) (word n) = 1#1 then silu (dot h w 3 r.val j.val) * dot h u 3 r.val j.val else val_main_v55 (F := Ideal) h t n w u (ix2 r j) := by
  rw [val_main_v70_apply, mask_3, val_3]
  exact pick 3 _ _ _ _ (by decide)

theorem step_4 (r : Fin 20480) (j : Fin 3584) : val_main_v85 (F := Ideal) h t n w u (ix2 r j) = if (t (ix1 (Fin.ofNat 40 (r.val / 512)))).toNat = 4 ∧ IntOp.cmpi .slt (BitVec.ofNat 32 (r.val / 512)) (word n) = 1#1 then silu (dot h w 4 r.val j.val) * dot h u 4 r.val j.val else val_main_v70 (F := Ideal) h t n w u (ix2 r j) := by
  rw [val_main_v85_apply, mask_4, val_4]
  exact pick 4 _ _ _ _ (by decide)

theorem step_5 (r : Fin 20480) (j : Fin 3584) : val_main_v100 (F := Ideal) h t n w u (ix2 r j) = if (t (ix1 (Fin.ofNat 40 (r.val / 512)))).toNat = 5 ∧ IntOp.cmpi .slt (BitVec.ofNat 32 (r.val / 512)) (word n) = 1#1 then silu (dot h w 5 r.val j.val) * dot h u 5 r.val j.val else val_main_v85 (F := Ideal) h t n w u (ix2 r j) := by
  rw [val_main_v100_apply, mask_5, val_5]
  exact pick 5 _ _ _ _ (by decide)

theorem step_6 (r : Fin 20480) (j : Fin 3584) : val_main_v115 (F := Ideal) h t n w u (ix2 r j) = if (t (ix1 (Fin.ofNat 40 (r.val / 512)))).toNat = 6 ∧ IntOp.cmpi .slt (BitVec.ofNat 32 (r.val / 512)) (word n) = 1#1 then silu (dot h w 6 r.val j.val) * dot h u 6 r.val j.val else val_main_v100 (F := Ideal) h t n w u (ix2 r j) := by
  rw [val_main_v115_apply, mask_6, val_6]
  exact pick 6 _ _ _ _ (by decide)

theorem step_7 (r : Fin 20480) (j : Fin 3584) : val_main_v130 (F := Ideal) h t n w u (ix2 r j) = if (t (ix1 (Fin.ofNat 40 (r.val / 512)))).toNat = 7 ∧ IntOp.cmpi .slt (BitVec.ofNat 32 (r.val / 512)) (word n) = 1#1 then silu (dot h w 7 r.val j.val) * dot h u 7 r.val j.val else val_main_v115 (F := Ideal) h t n w u (ix2 r j) := by
  rw [val_main_v130_apply, mask_7, val_7]
  exact pick 7 _ _ _ _ (by decide)

theorem ref_ix (hT : ∀ q, (t q).toNat < 8) (r : Fin 20480) (j : Fin 3584) : val_main_v131 (F := Ideal) h t n w u (ix2 r j) = entry h t (word n) w u r.val j.val := by
  have hr := r.isLt
  have hb : ∀ b : Bool, BitVec.ofBool b = 1#1 ↔ b = true := by decide
  have hc : IntOp.cmpi .slt (BitVec.ofNat 32 (r.val / 512)) (word n) = 1#1 ↔ ((r.val / 512 : ℕ) : Int) < (word n).toInt := by
    rw [WordCmp.cmpi_slt_eq, hb, decide_eq_true_eq,
      WordCmp.toInt_eq_toNat_of_lt_half (by rw [BitVec.toNat_ofNat, Nat.mod_eq_of_lt (by omega)]; omega), BitVec.toNat_ofNat, Nat.mod_eq_of_lt (by omega)]
  have ht : ∀ x : EReal, FloatOps.truncf (F := Ideal) .bf16 bitsLt_bf16_f32 x = x := fun _ => rfl
  rw [val_main_v131_apply, ht, step_7, step_6, step_5, step_4, step_3, step_2, step_1, step_0]
  unfold entry expert
  exact (choose _ (hT _) _ (fun e => silu (dot h w e r.val j.val) * dot h u e r.val j.val)).trans (if_congr hc rfl rfl)

theorem ref_apply (hT : ∀ q, (t q).toNat < 8) (i : S20480x3584.Idx) : val_main_v131 (F := Ideal) h t n w u i = entry h t (word n) w u (i 0).val (i 1).val :=
  (congrArg _ (show i = ix2 (i 0) (i 1) from funext fun a => match a with | ⟨0, _⟩ => rfl | ⟨1, _⟩ => rfl)).trans (ref_ix h t n w u hT (i 0) (i 1))

end Cert.MoeUpClaim

namespace Cert.MoeUpClaim

open Cert.MoeUpIdeal.Hand

/-- The kernel and the reference end with the same array. -/
theorem algebraic : Cert.algebraic_MoeUpIdeal_MoeUpRefIdeal := by
  intro m g m' g' hp hargs
  have hO := ok hp
  have hT : ∀ (c : Dev Cert.MoeUpIdeal.nD) (q), (aT m c q).toNat < 8 := fun c q => words_of_pre _ _ _ _ _ (hp c) q
  refine ⟨fun c => result m c, ?_, ?_⟩
  · exact (θ_run Cert.MoeUpIdeal.defs _ _).mono (fun r h c => ⟨((h.1 c).1 3).trans (arr_eq m hO c (hT c)), ((h.1 c).1 0).trans (((dats m hO 0 c).arrAt_in 0 rfl _).trans ((A_eq m hO c 0).trans (V_a0 m c))),
      ((h.1 c).2 Cert.MoeUpIdeal.main_arg1 (by decide : Cert.MoeUpIdeal.main_arg1 ∈ Pipeline.restRefs Cert.MoeUpIdeal.sig Cert.MoeUpIdeal.spec0)).trans (V_a1 m c),
      ((h.1 c).2 Cert.MoeUpIdeal.main_arg2 (by decide : Cert.MoeUpIdeal.main_arg2 ∈ Pipeline.restRefs Cert.MoeUpIdeal.sig Cert.MoeUpIdeal.spec0)).trans (V_a2 m c),
      ((h.1 c).2 Cert.MoeUpIdeal.main_arg3 (by decide : Cert.MoeUpIdeal.main_arg3 ∈ Pipeline.restRefs Cert.MoeUpIdeal.sig Cert.MoeUpIdeal.spec0)).trans (V_a3 m c),
      ((h.1 c).2 Cert.MoeUpIdeal.main_arg4 (by decide : Cert.MoeUpIdeal.main_arg4 ∈ Pipeline.restRefs Cert.MoeUpIdeal.sig Cert.MoeUpIdeal.spec0)).trans (V_a4 m c)⟩) (run m g hO)
  · refine (θ_run Cert.MoeUpRefIdeal.defs _ _).mono (fun r h c => ⟨(h c).1.trans ?_, (h c).2⟩) (Cert.MoeUpRefIdeal.Value.run m' g')
    rw [Cert.MoeUpRefIdeal.Read.val_main_v131_eq]
    funext i
    have ha := hargs c
    show Cert.MoeUpRefIdeal.Read.val_main_v131 (F := Ideal) (m' ((c.tc : Thread Cert.MoeUpRefIdeal.nD Cert.MoeUpRefIdeal.τ).loc Cert.MoeUpRefIdeal.main_arg0))
      (m' ((c.tc : Thread Cert.MoeUpRefIdeal.nD Cert.MoeUpRefIdeal.τ).loc Cert.MoeUpRefIdeal.main_arg1))
      (m' ((c.tc : Thread Cert.MoeUpRefIdeal.nD Cert.MoeUpRefIdeal.τ).loc Cert.MoeUpRefIdeal.main_arg2))
      (m' ((c.tc : Thread Cert.MoeUpRefIdeal.nD Cert.MoeUpRefIdeal.τ).loc Cert.MoeUpRefIdeal.main_arg3))
      (m' ((c.tc : Thread Cert.MoeUpRefIdeal.nD Cert.MoeUpRefIdeal.τ).loc Cert.MoeUpRefIdeal.main_arg4)) i = _
    rw [ha.1, ha.2.1, ha.2.2.1, ha.2.2.2.1, ha.2.2.2.2]
    exact ref_apply _ _ _ _ _ (hT c) i

end Cert.MoeUpClaim

end

end
-- ==== Proof.MoeDownIdealLaunch.lean ====
/- The launch of `MoeDownIdeal`: the tables the block maps read are constant through the call, the body's two guarded
   stores are complementary, so every grid point writes its output tile and every tile is written back. -/
module

public import proofs.«01_k».proof.Proof.Gen.MoeDownIdeal.Launch
public import proofs.«01_k».proof.Proof.Gen.MoeDownIdeal.Skeleton
public import Idealize.ShloMosaic.Lib.Pipeline.FrameBody
public import Idealize.ShloMosaic.Lib.Pipeline.Value
public import Idealize.ShloMosaic.Lib.Tactic
public import Idealize.ShloMosaic.Lib.WordCmp
public import Idealize.ShloMosaic.Lib.Claim

@[expose] public section

set_option maxRecDepth 16384

noncomputable section

namespace Cert.MoeDownIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.MoeDownIdeal.Gen

variable {F : FTy → Type} [FloatOps F]

local notation "𝕄" => MT nD τ sig Unit (Elt F) ℕ (UR sig nD τ) ℕ

/-! ## The two guards -/

/-- The second guard is the negation of the first: `≥` against `<` of the same two words. -/
theorem second_iff (i : grid0.Coords) (n : BitVec 32) : k0_cond2 i n = 1#1 ↔ ¬ k0_cond1 i n = 1#1 := by
  have h : ∀ b : Bool, IntOp.cmpi .ne ((BitVec.ofBool b).setWidth 32) 0#32 = 1#1 ↔ b = true := by decide
  unfold k0_cond1 k0_cond2
  simp only [Scalar.cmpi, Scalar.extui, WordCmp.cmpi_slt_eq, WordCmp.cmpi_sge_eq, h, decide_eq_true_eq, not_lt]

/-- The first guard at point `i`: its row tile is below the count. -/
theorem first_iff (i : grid0.Coords) (n : BitVec 32) : k0_cond1 i n = 1#1 ↔ ((i 1).val : Int) < n.toInt := by
  have h : ∀ b : Bool, IntOp.cmpi .ne ((BitVec.ofBool b).setWidth 32) 0#32 = 1#1 ↔ b = true := by decide
  have h1 : (i 1).val < 40 := (i 1).isLt
  have h2 : (BitVec.ofNat 32 (i 1).val).toInt = ((i 1).val : Int) := by
    rw [WordCmp.toInt_eq_toNat_of_lt_half] <;> rw [BitVec.toNat_ofNat, Nat.mod_eq_of_lt (by omega)]; omega
  unfold k0_cond1
  simp only [Scalar.cmpi, Scalar.extui, WordCmp.cmpi_slt_eq, h, decide_eq_true_eq, h2]

/-- What the body leaves in its output tile, the word of the second table being `n`. -/
def res (i : grid0.Coords) (n : BitVec 32) (x0 : Vec F S512x3584 .bf16) (x1 : Vec F S1x3584x512 .bf16) : Vec F S512x512 .f32 :=
  if k0_cond1 i n = 1#1 then k0_pay1 x0 x1 else k0_pay2

abbrev T0 : Memref sig .tc .smem S40 .i32 := Memref.whole main_arg1
abbrev T1 : Memref sig .tc .smem S1 .i32 := Memref.whole main_arg2

/-- Half of a table's buffer at contents `f`. -/
abbrev half (c : Dev nD) {S : Shape} {e : EltTy} (M : Memref sig .tc .smem S e) (f : Buf (Elt F) (M.view.loc (c : Thread nD τ))) : sProp 𝕄 :=
  M.view.loc (c : Thread nD τ) ↦{fullShare.right} f

def z1 : S1.Idx := fun | 0 => (0 : Fin 1)

theorem one_idx (a b : S1.Idx) : a = b :=
  funext fun k => match k with | 0 => Subsingleton.elim (α := Fin 1) (a 0) (b 0)

/-- The word the body reads of the second table. -/
def word (f : S1.Idx → BitVec 32) : BitVec 32 := f z1

theorem z2 : (![0, 0] : Fin 2 → Nat) = fun _ => 0 := by decide
theorem z3 : (![0, 0, 0] : Fin 3 → Nat) = fun _ => 0 := by decide

/-- One store over a whole tile leaves its payload. -/
theorem read_store (M : Memref sig .tc .vmem S512x512 .f32) (f : M.view.ty.Contents (Elt F)) (w : Vec F S512x512 .f32) :
    M.view.read (Elt F) (M.view.writes (Elt F) f [⟨Rect.unit ![0, 0] S512x512.size inb_S512x512_S512x512_0_0, w⟩]) = w := by
  rw [View.read_writes_eq_canon, View.canon_unit_zero (S := S512x512) z2]
  exact fun y => ⟨_, List.mem_singleton_self _, View.mem_set_unit_zero (S := S512x512) z2 inb_S512x512_S512x512_0_0 y⟩

theorem body_wp (c : Dev nD) (i : grid0.Coords) (M0 : Memref sig .tc .vmem S512x3584 .bf16) (w0 : M0.IsWhole) (M1 : Memref sig .tc .vmem S1x3584x512 .bf16) (w1 : M1.IsWhole) (MO : Memref sig .tc .vmem S512x512 .f32) (wO : MO.IsWhole)
    (x0 : Vec F S512x3584 .bf16) (x1 : Vec F S1x3584x512 .bf16) (t0 : Buf (Elt F) (T0.view.loc (c : Thread nD τ))) (t1 : Buf (Elt F) (T1.view.loc (c : Thread nD τ)))
    (E : Set ℕ) (K : PUnit → sProp 𝕄) :
    iprop(owns (c : Thread nD τ) M0 fullShare x0 ∗ owns (c : Thread nD τ) M1 fullShare x1 ∗ (∃ d, owns (c : Thread nD τ) MO fullShare d) ∗ half c T0 t0 ∗ half c T1 t1
        ∗ (iprop(owns (c : Thread nD τ) M0 fullShare x0 ∗ owns (c : Thread nD τ) M1 fullShare x1 ∗ owns (c : Thread nD τ) MO fullShare (res i (word t1) x0 x1) ∗ half c T0 t0 ∗ half c T1 t1) -∗ K ⟨⟩))
      ⊢ wp frame (wpE (defs₀ (F := F)) Variants.none c none) E (cc0_moe_down i T0 (Memref.isWhole_whole _) T1 (Memref.isWhole_whole _) M0 w0 M1 w1 MO wO) K := by
  simp only [cc0_moe_down_eq_skeleton]; unfold cc0_moe_down_skel
  unfold owns
  iintro ⟨⟨%f0, %e0, H0⟩, ⟨%f1, %e1, H1⟩, ⟨%d, %fo, -, HO⟩, HT0, HT1, Hk⟩
  obtain rfl := w0.eq_unread e0; obtain rfl := w1.eq_unread e1
  sl_exec
  sl_step
  iapply Hk
  isplitl [H0]
  · iexists _; isplitr; · ipureintro; exact w0.read_unread _
    iexact H0
  isplitl [H1]
  · iexists _; isplitr; · ipureintro; exact w1.read_unread _
    iexact H1
  isplitl [HO]
  · iexists _; isplitr
    swap; · iexact HO
    ipureintro
    have hw : body_wp.sl.r c t1 = word t1 := by
      unfold body_wp.sl.r word; exact congrArg t1 (one_idx _ _)
    simp only [hw]
    by_cases hc : k0_cond1 i (word t1) = 1#1
    · rw [dif_neg (fun h => (second_iff i _).mp h hc), dif_pos hc, read_store, res, if_pos hc]
      simp only [View.readAt_eq_ld, w0.read_unread, View.ld_unit_zero (S := S512x3584) z2, w1.read_unread, View.ld_unit_zero (S := S1x3584x512) z3]
    · rw [dif_pos ((second_iff i _).mpr hc), dif_neg hc, read_store, res, if_neg hc]
  isplitl [HT0]; · iexact HT0
  iexact HT1

/-! ## What the launch starts from -/

variable (m : (ℓ : Loc nD τ sig) → Buf (Elt F) ℓ) (ρ : Dev nD → PrngReg)

/-- A core's buffers once the host's casts have run. -/
abbrev V (c : Dev nD) (b : Ref sig .tc) : Buf (Elt F) ((c : Thread nD τ).loc b) := StableHlo.after hostOps0 (fun b => m (c, b)) b

theorem fresh_empty : (hostOps0 : List (HloOp τ sig (Elt F))).Forall fun op => op.fresh = ∅ := by
  simp only [List.Forall]; repeat' constructor

set_option maxHeartbeats 800000 in
theorem prefix_wp : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub fresh_empty main_chain

/-- The casts write none of the arguments. -/
theorem V_arg (c : Dev nD) (b : Ref sig .tc) (h : ∀ op ∈ (hostOps0 : List (HloOp τ sig (Elt F))), Proc.devRef .tc b ∉ op.writes) :
    V m c b = m ((c : Thread nD τ).loc b) :=
  StableHlo.after_of_forall_not_mem (b := Proc.devRef .tc b) _ _ h

theorem V_a0 (c : Dev nD) : V m c main_arg0 = m ((c : Thread nD τ).loc main_arg0) :=
  V_arg m c main_arg0 (List.forall_iff_forall_mem.mp (by
    simp only [List.Forall, StableHlo.unary_writes, Finset.mem_singleton]
    repeat' apply And.intro
    all_goals exact StableHlo.devRef_ne_of_ne (by decide)))

theorem V_a1 (c : Dev nD) : V m c main_arg1 = m ((c : Thread nD τ).loc main_arg1) :=
  V_arg m c main_arg1 (List.forall_iff_forall_mem.mp (by
    simp only [List.Forall, StableHlo.unary_writes, Finset.mem_singleton]
    repeat' apply And.intro
    all_goals exact StableHlo.devRef_ne_of_ne (by decide)))

theorem V_a2 (c : Dev nD) : V m c main_arg2 = m ((c : Thread nD τ).loc main_arg2) :=
  V_arg m c main_arg2 (List.forall_iff_forall_mem.mp (by
    simp only [List.Forall, StableHlo.unary_writes, Finset.mem_singleton]
    repeat' apply And.intro
    all_goals exact StableHlo.devRef_ne_of_ne (by decide)))

theorem V_a3 (c : Dev nD) : V m c main_arg3 = m ((c : Thread nD τ).loc main_arg3) :=
  V_arg m c main_arg3 (List.forall_iff_forall_mem.mp (by
    simp only [List.Forall, StableHlo.unary_writes, Finset.mem_singleton]
    repeat' apply And.intro
    all_goals exact StableHlo.devRef_ne_of_ne (by decide)))

/-- The tables, and the pipeline at them. -/
def tbl : pre0.Contents (Elt F) := fun j => V m (0 : Dev nD) (pre0.ref j)

abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

theorem V_tbl (c : Dev nD) (j : Fin 2) : V m c (pre0.ref j) = tbl m j := by
  obtain rfl : c = 0 := Subsingleton.elim _ _; rfl

theorem halves_eq (c : Dev nD) : (Pipeline.ΦT pre0 (tbl m) c : sProp 𝕄) = iprop(half c T0 (tbl m 0) ∗ half c T1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, of its array as the casts leave it. -/
def inBlk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The output tile after point `t`. -/
def tile (hO : Ok m) (c : Dev nD) (t : Fin (cfgM m hO).N) : Vec F S512x512 .f32 :=
  res (grid0.coords t) (word (tbl m 1)) (inBlk m hO c 0 t) (inBlk m hO c 1 t)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => inBlk m hO c 0 t
    | ⟨1, _⟩ => inBlk m hO c 1 t
    | ⟨2, _⟩ => tile m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = inBlk m hO c 0 t := by dsimp only [dats]; try rfl
theorem after_1 (hO : Ok m) (c : Dev nD) (t : Fin (cfgM m hO).N) : (dats m hO 0 c).after 1 t = inBlk m hO c 1 t := by dsimp only [dats]; try rfl
theorem after_2 (hO : Ok m) (c : Dev nD) (t : Fin (cfgM m hO).N) : (dats m hO 0 c).after 2 t = tile m hO c t := by dsimp only [dats]; try rfl

/-- Input 0's buffer holds its block at every point: where it is not fetched the block has not moved. -/
theorem before_0 (hO : Ok m) (c : Dev nD) (t : Fin (cfgM m hO).N) (d) : (dats m hO 0 c).before 0 t d = inBlk m hO c 0 t :=
  ((dats m hO 0 c).before_in_eq_fetched 0 rfl (fun _ => rfl) (fun _ _ _ => rfl)
    (fun t => by rw [after_0]; unfold Dat.blockOf inBlk; rw [A_eq]; try rfl) t d).trans
    (by unfold Dat.fetched Dat.blockOf inBlk; rw [A_eq]; try rfl)

/-- Input 1's buffer holds its block at every point: where it is not fetched the block has not moved. -/
theorem before_1 (hO : Ok m) (c : Dev nD) (t : Fin (cfgM m hO).N) (d) : (dats m hO 0 c).before 1 t d = inBlk m hO c 1 t :=
  ((dats m hO 0 c).before_in_eq_fetched 1 rfl (fun _ => rfl) (fun _ _ _ => rfl)
    (fun t => by rw [after_1]; unfold Dat.blockOf inBlk; rw [A_eq]; try rfl) t d).trans
    (by unfold Dat.fetched Dat.blockOf inBlk; rw [A_eq]; try rfl)

/-! ## The body at a point -/

/-- No point is idle for the output tile: one of the two guards holds. -/
theorem live (pf : pre0.Contents (Elt F)) (i : grid0.Coords) : idle0 pf 2 i = false := by
  show (!(k0_cond1 i (pf.atD 1 ![0]) == 1#1) && !(k0_cond2 i (pf.atD 1 ![0]) == 1#1)) = false
  have h := second_iff i (pf.atD 1 ![0])
  by_cases hc : k0_cond1 i (pf.atD 1 ![0]) = 1#1
  · rw [hc]; rfl
  · rw [h.mpr hc]; simp

theorem live_at (hO : Ok m) (t : Fin (cfgM m hO).N) : (cfgM m hO).idle (2 : Fin 3) ((cfgM m hO).grid.coords t) = false := by
  have h : (cfgM m hO).idle = idle0 (tbl m) := rfl
  rw [h]; exact live (tbl m) _

/-- The body as the pipeline calls it at point `t`. -/
abbrev bodyAt (hO : Ok m) (t : Fin (cfgM m hO).N) : Prog (TpuEff nD τ sig (Elt F) Λ₀ .tc) PUnit :=
  cc0_moe_down (grid0.coords t) T0 (Memref.isWhole_whole _) T1 (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2))

abbrev stg (hO : Ok m) (t : Fin (cfgM m hO).N) (w : Fin (cfgM m hO).W) := ((cfgM m hO).win w).stage ((cfgM m hO).slots t w)

theorem point (hO : Ok m) (c : Dev nD) (t : Fin (cfgM m hO).N) :
    iprop((dats m hO 0 c).Φ t.castSucc ∗ (dats m hO 0 c).owesAt () t.castSucc
      ∗ (∃ d, owns (c : Thread nD τ) (spec0_0.stage ((cfgM m hO).slots t 0)) fullShare ((dats m hO 0 c).before 0 t d)) ∗ (∃ d, owns (c : Thread nD τ) (spec0_1.stage ((cfgM m hO).slots t 1)) fullShare ((dats m hO 0 c).before 1 t d)) ∗ (∃ d, owns (c : Thread nD τ) (spec0_2.stage ((cfgM m hO).slots t 2)) fullShare ((dats m hO 0 c).before 2 t d)))
      ⊢ wp frame (wpE (defs₀ (F := F)) Variants.none c none) Set.univ (bodyAt m hO t) (fun _ =>
        iprop((dats m hO 0 c).Φ t.succ ∗ (dats m hO 0 c).owesAt () t.succ
          ∗ owns (c : Thread nD τ) (spec0_0.stage ((cfgM m hO).slots t 0)) fullShare ((dats m hO 0 c).after 0 t) ∗ owns (c : Thread nD τ) (spec0_1.stage ((cfgM m hO).slots t 1)) fullShare ((dats m hO 0 c).after 1 t) ∗ owns (c : Thread nD τ) (spec0_2.stage ((cfgM m hO).slots t 2)) fullShare ((dats m hO 0 c).after 2 t))) := by
  unfold bodyAt
  simp only [before_0, before_1, after_0, after_1, after_2]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl,
    show (dats m hO 0 c).owesAt () t.succ = (dats m hO 0 c).owesAt () t.castSucc from rfl, halves_eq]
  iintro ⟨⟨HΦ, HT0, HT1⟩, Ho, ⟨%d0, H0⟩, ⟨%d1, H1⟩, ⟨%d2, H2⟩⟩
  iapply (body_wp c (grid0.coords t) _ _ _ _ _ _ (inBlk m hO c 0 t) (inBlk m hO c 1 t) (tbl m 0) (tbl m 1) Set.univ _)
  isplitl [H0]; · iexact H0
  isplitl [H1]; · iexact H1
  isplitl [H2]; · iexists _; iexact H2
  isplitl [HT0]; · iexact HT0
  isplitl [HT1]; · iexact HT1
  iintro ⟨H0, H1, H2, HT0, HT1⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  iexact H2

theorem row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem obligation (hO : Ok m) (c : Dev nD) : BodyObligation (dats (F := F) m hO 0 c) (defs₀ (F := F)) Variants.none () Set.univ := fun t => by
  rw [bigSep_W0, bigSep_W0, row m hO]
  rw [live_at m hO t]
  exact triple_restated (point m hO c t) rfl .rfl fun _ => .rfl

/-! ## The run -/

set_option backward.isDefEq.respectTransparency.types false in
theorem run (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := prefix_wp m) (hA := A_eq m hO) (hpf := V_tbl m)
    (hΦ := fun _ _ => rfl)

/-- Every argument ends as it was and every semaphore at zero. -/
theorem frame_of_ok (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m hO 0 c).arrAt_in 0 rfl _).trans ((A_eq m hO c 0).trans (V_a0 m c))), ((h.1 c).2 main_arg1 (by decide : main_arg1 ∈ Pipeline.restRefs sig spec0)).trans (V_a1 m c), ((h.1 c).2 main_arg2 (by decide : main_arg2 ∈ Pipeline.restRefs sig spec0)).trans (V_a2 m c), ((h.1 c).2 main_arg3 (by decide : main_arg3 ∈ Pipeline.restRefs sig spec0)).trans (V_a3 m c)⟩, h.2⟩) (run m ρ hO)

end Cert.MoeDownIdeal.Hand

end
-- ==== Proof.MoeDownClaim.lean ====
/-
  The grouped experts' down product: each row tile of 512 against the weights of the
  expert its table names, and zeros past the count, against the reference's sum over the experts.
-/
module

public import proofs.«01_k».proof.Defs
public import proofs.«01_k».proof.Proof.Gen.MoeDown
public import proofs.«01_k».proof.Proof.MoeDownIdealLaunch
public import proofs.«01_k».proof.Proof.Gen.MoeDownRefIdeal.Read
public import proofs.«01_k».proof.Proof.Gen.MoeDownRefIdeal.Run
public import proofs.«01_k».proof.Proof.Gen.Pre_experts_down
public import Idealize.ShloMosaic.Lib.Pointwise
public import Idealize.ShloMosaic.Lib.ReduceAll
public import Idealize.ShloMosaic.Lib.Routing.OpsSearch

@[expose] public section

set_option maxRecDepth 16384

noncomputable section

open Idealize.ShloMosaic Idealize.ShloMosaic.TcCoe Idealize.SL.Sem

namespace Cert.MoeDownIdeal.Hand

open Cert.MoeDownIdeal Cert.MoeDownIdeal.Gen Idealize.ShloMosaic.Pointwise

variable {F : FTy → Type} [FloatOps F]

/-- The block a weight window reads at point `i`: the row tile's expert, every row, the column tile. -/
theorem place_1 (pf : pre0.Contents (Elt F)) (i : grid0.Coords) :
    cc0_transform_1 Facts₀.k0_off1_inb Facts₀.numel1_S1 pf i = ![(pf 0 (ix1 (i 1) : S40.Idx) : BitVec 32).toNat, 0, (i 0).val] := by
  have h0 : (i 0).val < 8 := (i 0).isLt
  have hp : ((Rect.unit (s := S40) (k0_off1 i) S1.size (Facts₀.k0_off1_inb i)).emb (Shape.Idx.first (Facts₀.numel1_S1.symm ▸ Nat.one_pos)) : S40.Idx) = ix1 (i 1) := by
    funext a
    apply Fin.ext
    match a with
    | ⟨0, _⟩ =>
      show k0_off1 i 0 + 1 * 0 = (i 1).val
      rw [k0_off1_eq]
      rfl
  have hw : ∀ q : S40.Idx, q = ix1 (i 1) → (![(pf 0 q : BitVec 32).toNat, 0, (BitVec.ofNat 32 (i 0).val).toNat] : Fin 3 → ℕ) = ![(pf 0 (ix1 (i 1) : S40.Idx) : BitVec 32).toNat, 0, (i 0).val] := by
    rintro q rfl
    rw [BitVec.toNat_ofNat, Nat.mod_eq_of_lt (by omega)]
    rfl
  exact hw _ hp

/-- With every expert of the table one of the eight, every block lies inside the weights. -/
theorem ok_of_words (pf : pre0.Contents (Elt F)) (h : ∀ q : S40.Idx, (pf 0 q : BitVec 32).toNat < 8) : ok0 pf := by
  have one : ∀ i : grid0.Coords, ∃ h : (∀ a, (cc0_transform_1 Facts₀.k0_off1_inb Facts₀.numel1_S1 pf i a + 1) * S1x3584x512.size a ≤ S8x3584x4096.size a),
      EltTy.bits .bf16 = 32 ∨ (Rect.block (s := S8x3584x4096) S1x3584x512.size (cc0_transform_1 Facts₀.k0_off1_inb Facts₀.numel1_S1 pf i) h).WholeWords (EltTy.packing .bf16) := by
    intro i
    refine ⟨fun a => ?_, .inr (Affine.block_words_dvd (of_decide_eq_true rfl) (by decide))⟩
    have h0 : (i 0).val < 8 := (i 0).isLt
    have h1 := h (ix1 (i 1))
    rw [place_1]
    match a with
    | ⟨0, _⟩ => show ((pf 0 (ix1 (i 1) : S40.Idx) : BitVec 32).toNat + 1) * 1 ≤ 8; omega
    | ⟨1, _⟩ => show (0 + 1) * 3584 ≤ 3584; omega
    | ⟨2, _⟩ => show ((i 0).val + 1) * 512 ≤ 4096; omega
  exact one

variable (m : (ℓ : Loc nD τ sig) → Buf (Elt F) ℓ)

theorem tbl_0 : tbl m 0 = m (((0 : Dev nD) : Thread nD τ).loc main_arg1) := V_a1 m 0
theorem tbl_1 : tbl m 1 = m (((0 : Dev nD) : Thread nD τ).loc main_arg2) := V_a2 m 0

end Cert.MoeDownIdeal.Hand

namespace Cert.MoeDownClaim

/-- A word that is not negative and below eight is one of the first eight. -/
theorem lt_of_bits (v : BitVec 32) (h : IntOp.andi (IntOp.cmpi .sge v 0#32) (IntOp.cmpi .slt v 8#32) = 1#1) : v.toNat < 8 := by
  have h2 := IntOp.andi_eq_one.mp h
  rw [WordCmp.cmpi_sge_eq, WordCmp.cmpi_slt_eq] at h2
  have b : ∀ c : Bool, BitVec.ofBool c = 1#1 ↔ c = true := by decide
  rw [b, b, decide_eq_true_eq, decide_eq_true_eq] at h2
  have e0 : (0#32).toInt = 0 := by decide
  have e8 : (8#32).toInt = 8 := by decide
  rw [e0, e8] at h2
  have h3 := v.isLt
  rw [BitVec.toInt_eq_toNat_cond] at h2
  split at h2 <;> omega

/-- What the precondition says of the table of experts. -/
theorem words_of_pre {F : FTy → Type} [FloatOps F] (x : FVec F Cert.Pre_experts_down.S20480x3584 .bf16) (t : IVec Cert.Pre_experts_down.S40 32) (n : IVec Cert.Pre_experts_down.S1 32)
    (w : FVec F Cert.Pre_experts_down.S8x3584x4096 .f32) (h : Cert.Pre_experts_down.fn (F := F) x t n w = fun _ => 1#1) (q : Cert.Pre_experts_down.S40.Idx) : (t q).toNat < 8 := by
  have h0 := congrFun h (fun a => a.elim0)
  unfold Cert.Pre_experts_down.fn at h0
  haveI : Subsingleton Cert.Pre_experts_down.S_.Idx := ⟨fun a b => funext fun k => k.elim0⟩
  exact lt_of_bits _ (Host.reduce_andi_all _ _ _ _ _ h0 q)

/-- The kernel and its idealisation have the same text, so their bodies are the same, over any floats. -/
theorem defs_eq {F : FTy → Type} [FloatOps F] : Cert.MoeDown.defs (F := F) = Cert.MoeDownIdeal.defs (F := F) := by
  refine congrArg (Pipeline.defs Cert.MoeDown.pcfgs) (congrArg (Defs.onTc (nD := Cert.MoeDown.nD) (τ := Cert.MoeDown.τ)) (funext fun l => funext fun x => ?_))
  match l, x with
  | 0, (t, s) => rfl

/-- The kernel's frame, from the run of its idealisation read over words. -/
theorem frame_p : Cert.quiescent_MoeDown := fun m ρ hp => by
  rw [defs_eq]
  exact Cert.MoeDownIdeal.Hand.frame_of_ok (F := Bits) m ρ (Cert.MoeDownIdeal.Hand.ok_of_words _ fun q => by
    rw [Cert.MoeDownIdeal.Hand.tbl_0]
    exact words_of_pre _ _ _ _ (hp 0) q)

theorem ok {m} (hp : Cert.Pre_MoeDownIdeal m) : Cert.MoeDownIdeal.Hand.Ok m := Cert.MoeDownIdeal.Hand.ok_of_words _ fun q => by
  rw [Cert.MoeDownIdeal.Hand.tbl_0]
  exact words_of_pre _ _ _ _ (hp 0) q

theorem frame_pi : Cert.quiescent_MoeDownIdeal := fun m ρ hp => Cert.MoeDownIdeal.Hand.frame_of_ok m ρ (ok hp)

theorem frame_ri : Cert.quiescent_MoeDownRefIdeal := fun m ρ _ =>
  (θ_run Cert.MoeDownRefIdeal.defs _ _).mono (fun r h => ⟨fun c => (h c).2, sem_eq_zero_of_no_sems (by decide) r.2⟩)
    (Cert.MoeDownRefIdeal.Value.run m ρ)

theorem frame_ri_pre : Cert.quiescent_MoeDownRefIdeal_pre_experts_down := fun m ρ _ =>
  (θ_run Cert.MoeDownRefIdeal.defs _ _).mono (fun r h => ⟨fun c => (h c).2, sem_eq_zero_of_no_sems (by decide) r.2⟩)
    (Cert.MoeDownRefIdeal.Value.run m ρ)

end Cert.MoeDownClaim

namespace Cert.MoeDownIdeal.Hand

open Cert.MoeDownIdeal Cert.MoeDownIdeal.Gen Idealize.ShloMosaic.Pointwise

/-- The rows of tokens at natural-number coordinates. -/
def hAt (x : S20480x3584.Idx → EReal) (r c : ℕ) : EReal := x (ix2 (Fin.ofNat 20480 r) (Fin.ofNat 3584 c))
/-- An expert's weights at natural-number coordinates. -/
def wAt (x : S8x3584x4096.Idx → EReal) (e k c : ℕ) : EReal := x (ix3 (Fin.ofNat 8 e) (Fin.ofNat 3584 k) (Fin.ofNat 4096 c))
/-- The expert of row tile `i`. -/
def expert (t : S40.Idx → BitVec 32) (i : ℕ) : ℕ := (t (ix1 (Fin.ofNat 40 i))).toNat
/-- One product of a row of tokens by a column of an expert's weights. -/
def dot (h : S20480x3584.Idx → EReal) (w : S8x3584x4096.Idx → EReal) (e r j : ℕ) : EReal := ∑ k : Fin 3584, hAt h r k.val * wAt w e k.val j

/-- Entry `(r, j)` of the array the call ends with. -/
def entry (h : S20480x3584.Idx → EReal) (t : S40.Idx → BitVec 32) (n : BitVec 32) (w : S8x3584x4096.Idx → EReal) (r j : ℕ) : EReal :=
  if ((r / 512 : ℕ) : Int) < n.toInt then dot h w (expert t (r / 512)) r j else 0

variable (m : (ℓ : Loc nD τ sig) → Buf (Elt Ideal) ℓ)

abbrev aH (c : Dev nD) : S20480x3584.Idx → EReal := m ((c : Thread nD τ).loc main_arg0)
abbrev aT (c : Dev nD) : S40.Idx → BitVec 32 := m ((c : Thread nD τ).loc main_arg1)
abbrev aN (c : Dev nD) : S1.Idx → BitVec 32 := m ((c : Thread nD τ).loc main_arg2)
abbrev aW (c : Dev nD) : S8x3584x4096.Idx → EReal := m ((c : Thread nD τ).loc main_arg3)

/-- The array the call ends with. -/
def result (c : Dev nD) : S20480x4096.Idx → EReal := fun i => entry (aH m c) (aT m c) (word (aN m c)) (aW m c) (i 0).val (i 1).val

theorem at_0 : ∀ t : Fin grid0.N, cc0_transform_0 (grid0.coords t) 0 = t.val % 40 ∧ cc0_transform_0 (grid0.coords t) 1 = 0 := by decide +kernel
theorem at_2 : ∀ t : Fin grid0.N, cc0_transform_2 (grid0.coords t) 0 = t.val % 40 ∧ cc0_transform_2 (grid0.coords t) 1 = t.val / 40 := by decide +kernel
theorem crd : ∀ t : Fin grid0.N, (grid0.coords t 0).val = t.val / 40 ∧ (grid0.coords t 1).val = t.val % 40 := by decide +kernel

theorem lt_N (hO : Ok m) (t : Fin (cfgM m hO).N) : t.val < 320 := lt_of_lt_of_eq t.isLt (show grid0.N = 320 from N_0)

theorem V_v0 (c : Dev nD) : (V m c main_v0 : S8x3584x4096.Idx → EReal) = aW m c := by
  unfold V
  simp [hostOps0]
  rfl

theorem aT_eq (c : Dev nD) : tbl m 0 = aT m c := by
  obtain rfl : c = 0 := Subsingleton.elim _ _
  exact tbl_0 m

theorem aN_eq (c : Dev nD) : tbl m 1 = aN m c := by
  obtain rfl : c = 0 := Subsingleton.elim _ _
  exact tbl_1 m

theorem blk0 (hO : Ok m) (c : Dev nD) (t : Fin (cfgM m hO).N) (r : Fin 512) (k : Fin 3584) :
    (inBlk m hO c 0 t : Vec Ideal S512x3584 .bf16) (ix2 r k) = hAt (aH m c) (512 * (t.val % 40) + r.val) k.val := by
  have hi := at_0 t
  have ht := lt_N m hO t
  have hr := r.isLt
  have hk := k.isLt
  unfold hAt
  show V m c main_arg0 ((((cfgM m hO).win 0).blk t).view.emb (ix2 r k)) = _
  rw [V_a0]
  congr 1
  funext a
  apply Fin.ext
  match a with
  | ⟨0, _⟩ => show cc0_transform_0 (grid0.coords t) 0 * 512 + 1 * r.val = (_ : ℕ) % 20480; rw [hi.1]; omega
  | ⟨1, _⟩ => show cc0_transform_0 (grid0.coords t) 1 * 3584 + 1 * k.val = k.val % 3584; rw [hi.2]; omega

theorem blk1 (hO : Ok m) (c : Dev nD) (hT : ∀ q, (aT m c q).toNat < 8) (t : Fin (cfgM m hO).N) (k : Fin 3584) (j : Fin 512) :
    (inBlk m hO c 1 t : Vec Ideal S1x3584x512 .bf16) (ix3 (0 : Fin 1) k j)
      = wAt (aW m c) (expert (aT m c) (t.val % 40)) k.val (512 * (t.val / 40) + j.val) := by
  have hi := place_1 (tbl m) (grid0.coords t)
  have hc := crd t
  have ht := lt_N m hO t
  have hk := k.isLt
  have hj := j.isLt
  have he : (ix1 (grid0.coords t 1) : S40.Idx) = ix1 (Fin.ofNat 40 (t.val % 40)) := by
    funext a
    apply Fin.ext
    match a with
    | ⟨0, _⟩ => show (grid0.coords t 1).val = t.val % 40 % 40; rw [hc.2]; omega
  rw [he, aT_eq m c, hc.1] at hi
  have h8 := hT (ix1 (Fin.ofNat 40 (t.val % 40)))
  unfold wAt expert
  show V m c main_v0 ((((cfgM m hO).win 1).blk t).view.emb (ix3 (0 : Fin 1) k j)) = _
  rw [V_v0]
  congr 1
  funext a
  apply Fin.ext
  match a with
  | ⟨0, _⟩ => show cc0_transform_1 Facts₀.k0_off1_inb Facts₀.numel1_S1 (tbl m) (grid0.coords t) 0 * 1 + 1 * 0 = (_ : ℕ) % 8; rw [hi]; show (aT m c (ix1 (Fin.ofNat 40 (t.val % 40)))).toNat * 1 + 1 * 0 = _; omega
  | ⟨1, _⟩ => show cc0_transform_1 Facts₀.k0_off1_inb Facts₀.numel1_S1 (tbl m) (grid0.coords t) 1 * 3584 + 1 * k.val = k.val % 3584; rw [hi]; show 0 * 3584 + 1 * k.val = _; omega
  | ⟨2, _⟩ => show cc0_transform_1 Facts₀.k0_off1_inb Facts₀.numel1_S1 (tbl m) (grid0.coords t) 2 * 512 + 1 * j.val = (_ : ℕ) % 4096; rw [hi]; show t.val / 40 * 512 + 1 * j.val = _; omega

/-- The body's block below the count, entry by entry. -/
theorem pay1_apply (x : Vec Ideal S512x3584 .bf16) (y : Vec Ideal S1x3584x512 .bf16) (r j : Fin 512) :
    k0_pay1 (F := Ideal) x y (ix2 r j) = ∑ k : Fin 3584, x (ix2 r k) * y (ix3 (0 : Fin 1) k j) := by
  pointwise [k0_pay1]

/-- The body's block past the count. -/
theorem pay2_apply (r j : Fin 512) : k0_pay2 (F := Ideal) (ix2 r j) = 0 := by
  pointwise [k0_pay2]

/-- Every point writes its block back: successive points' output blocks differ. -/
theorem flush_2 (hO : Ok m) (t : Fin (cfgM m hO).N) : ((cfgM m hO).win 2).flush t = true :=
  (Pipeline.Window.flushOf_reads cc0_transform_2 reads0_2 hreads0_2 1 (by decide) (by decide)
    (Pipeline.Window.sep_of_coord cc0_transform_2 1 0 (fun _ => rfl) (by decide)) (P := 1) (m := 0) (by decide) rfl t).mpr (Nat.mod_one _)

theorem flushed_eq (hO : Ok m) (c : Dev nD) (hT : ∀ q, (aT m c q).toNat < 8) (t : Fin (cfgM m hO).N) :
    (dats m hO 0 c).flushed 2 t = (((cfgM m hO).win 2).blk t).view.read (Elt Ideal) (result m c) := by
  have ht := lt_N m hO t
  have hi := at_2 t
  have hc := crd t
  have hf := first_iff (grid0.coords t) (word (aN m c))
  rw [hc.2] at hf
  show (((cfgM m hO).win 2).cut ((cfgM m hO).grid.coords t) ((dats m hO 0 c).after 2 t)) = _
  rw [after_2]
  refine funext fun (j : S512x512.Idx) => ?_
  obtain ⟨r, d, rfl⟩ : ∃ (r : Fin 512) (d : Fin 512), j = ix2 r d := ⟨j 0, j 1, by funext a; match a with | ⟨0, _⟩ => rfl | ⟨1, _⟩ => rfl⟩
  show tile m hO c t (ix2 r d) = result m c ((((cfgM m hO).win 2).blk t).view.emb (ix2 r d))
  have hr := r.isLt
  have hd := d.isLt
  have key : ∀ q : S20480x4096.Idx, (q 0).val = 512 * (t.val % 40) + r.val → (q 1).val = 512 * (t.val / 40) + d.val → tile m hO c t (ix2 r d) = result m c q := by
    intro q e0 e1
    unfold tile result entry
    rw [e0, e1, show (512 * (t.val % 40) + r.val) / 512 = t.val % 40 by omega, aN_eq m c]
    unfold res
    by_cases h : ((t.val % 40 : ℕ) : Int) < (word (aN m c)).toInt
    · rw [if_pos (hf.mpr h), if_pos h]
      refine (pay1_apply _ _ _ _).trans ?_
      exact Finset.sum_congr rfl fun k _ => congrArg₂ (· * ·) (blk0 m hO c t r k) (blk1 m hO c hT t k d)
    · rw [if_neg (fun g => h (hf.mp g)), if_neg h, pay2_apply]
  refine key _ ?_ ?_
  · show cc0_transform_2 (grid0.coords t) 0 * 512 + 1 * r.val = _
    rw [hi.1]; omega
  · show cc0_transform_2 (grid0.coords t) 1 * 512 + 1 * d.val = _
    rw [hi.2]; omega

theorem cover (hO : Ok m) (i : S20480x4096.Idx) : ∃ t : Fin (cfgM m hO).N, ((cfgM m hO).win 2).flush t = true ∧ i ∈ (((cfgM m hO).win 2).blk t).view.set := by
  have h0 : (i 0).val < 20480 := (i 0).isLt
  have h1 : (i 1).val < 4096 := (i 1).isLt
  have hN : (cfgM m hO).N = 320 := N_0
  obtain ⟨n, hn, hv⟩ : ∃ n : ℕ, n < (cfgM m hO).N ∧ n = 40 * ((i 1).val / 512) + (i 0).val / 512 := ⟨_, by omega, rfl⟩
  have hi := at_2 ⟨n, hn⟩
  dsimp only at hi
  refine ⟨⟨n, hn⟩, flush_2 m hO _, ?_⟩
  show i ∈ ((View.whole main_v1).slice (Rect.block (s := S20480x4096) S512x512.size (cc0_transform_2 (grid0.coords ⟨n, hn⟩)) (Facts₀.hinb0_2 _))).set
  rw [View.set_slice_whole, Rect.mem_set_unit]
  intro a
  match a with
  | ⟨0, _⟩ => show cc0_transform_2 (grid0.coords ⟨n, hn⟩) 0 * 512 ≤ (i 0).val ∧ (i 0).val < cc0_transform_2 (grid0.coords ⟨n, hn⟩) 0 * 512 + 512; rw [hi.1]; omega
  | ⟨1, _⟩ => show cc0_transform_2 (grid0.coords ⟨n, hn⟩) 1 * 512 ≤ (i 1).val ∧ (i 1).val < cc0_transform_2 (grid0.coords ⟨n, hn⟩) 1 * 512 + 512; rw [hi.2]; omega

theorem arr_eq (hO : Ok m) (c : Dev nD) (hT : ∀ q, (aT m c q).toNat < 8) : (dats m hO 0 c).arrAt 2 (cfgM m hO).N = result m c :=
  (dats m hO 0 c).arrAt_eq_of_cover 2 (result m c) (fun t _ => flushed_eq m hO c hT t) (cover m hO)

end Cert.MoeDownIdeal.Hand

namespace Cert.MoeDownClaim

open Cert.MoeDownRefIdeal Cert.MoeDownRefIdeal.Gen Cert.MoeDownRefIdeal.Facts Cert.MoeDownRefIdeal.Read
open Cert.MoeDownIdeal.Hand (hAt wAt expert dot entry result word)
open Idealize.ShloMosaic.Pointwise

variable (h : S20480x3584.Idx → EReal) (t : S40.Idx → BitVec 32) (n : S1.Idx → BitVec 32) (w : S8x3584x4096.Idx → EReal)

/-- The row tile of row `r`: `r / 512` rounded down, which for a row is the plain quotient. -/
theorem tile_word (r : Fin 20480) : val_main_v2 (F := Ideal) (ix1 r) = BitVec.ofNat 32 (r.val / 512) := by
  have hr := r.isLt
  have hd : IntOp.divsi .host (BitVec.ofNat 32 r.val) 512#32 = BitVec.ofNat 32 (r.val / 512) := Routing.divsi_word .host (by omega) (by omega) (by omega)
  have hm : IntOp.remsi .host (BitVec.ofNat 32 r.val) 512#32 = BitVec.ofNat 32 (r.val % 512) := Routing.remsi_word .host (by omega) (by omega) (by omega)
  have e1 : val_main_v1 (F := Ideal) (ix1 r) = BitVec.ofNat 32 r.val := rfl
  have e2 : val_main_call0_v2 (F := Ideal) (ix1 r) = BitVec.ofNat 32 (r.val / 512) := by
    rw [val_main_call0_v2_apply, val_main_call0_v1_apply, val_main_call0_v0_apply, val_main_c_apply, e1, hd]
  have e8 : val_main_call0_v8 (F := Ideal) (ix1 r) = BitVec.ofNat 32 (r.val % 512) := by
    rw [val_main_call0_v8_apply, val_main_call0_v7_apply, val_main_call0_v0_apply, val_main_c_apply, e1, hm]
  have e3 : val_main_call0_v3 (F := Ideal) (ix1 r) = if BitVec.ofNat 32 r.val = 0 then 0 else if (BitVec.ofNat 32 r.val).msb then -1 else 1 := rfl
  have e5 : val_main_call0_v5 (F := Ideal) (ix1 r) = 1#32 := by
    rw [val_main_call0_v5_apply]
    unfold val_main_call0_v4
    rw [signi_apply, val_main_call0_v0_apply, val_main_c_apply]
    decide
  have e11 : val_main_call0_v11 (F := Ideal) (ix1 r) = 0#1 := by
    rw [val_main_call0_v11_apply, val_main_call0_v6_apply, val_main_call0_v10_apply, val_main_call0_v9_apply, val_main_call0_c_apply, e3, e5, e8]
    rcases Nat.eq_zero_or_pos r.val with hz | hp
    · rw [hz]; decide
    · have hn : ¬ BitVec.ofNat 32 r.val = 0 := by
        intro hh
        have := congrArg BitVec.toNat hh
        rw [BitVec.toNat_ofNat, Nat.mod_eq_of_lt (by omega)] at this
        have z : (0 : BitVec 32).toNat = 0 := by decide
        omega
      have hs : (BitVec.ofNat 32 r.val).msb = false := by
        rw [BitVec.msb_eq_decide, decide_eq_false_iff_not, BitVec.toNat_ofNat, Nat.mod_eq_of_lt (by omega)]
        omega
      rw [if_neg hn, hs]
      have c : IntOp.cmpi .ne (1 : BitVec 32) 1#32 = 0#1 := by decide
      simp only [Bool.false_eq_true, if_false]
      rw [c]
      exact BitVec.zero_and
  rw [val_main_v2_apply, e11, e2]
  rfl

/-- The table read at each row: its row tile's expert. -/
theorem expert_word (r : Fin 20480) : val_main_v9 (F := Ideal) t (ix1 r) = t (ix1 (Fin.ofNat 40 (r.val / 512))) := by
  have hr := r.isLt
  have e7 : val_main_v7 (F := Ideal) (ix1 r) = BitVec.ofNat 32 (r.val / 512) := by
    rw [val_main_v7_apply, val_main_v4_apply, val_main_v3_apply, val_main_c_0_apply, tile_word, WordCmp.cmpi_slt_eq]
    have hz : ¬ (BitVec.ofNat 32 (r.val / 512)).toInt < (0#32).toInt := by
      rw [WordCmp.toInt_eq_toNat_of_lt_half (by rw [BitVec.toNat_ofNat, Nat.mod_eq_of_lt (by omega)]; omega)]
      have e0 : (0#32).toInt = 0 := by decide
      omega
    rw [decide_eq_false hz]
    rfl
  unfold val_main_v9
  refine (Routing.take_ap gather_S40_S20480x1_S20480_n_0_n_n_0_1_1 rfl rfl rfl rfl t _ r (k := r.val / 512) (by omega) (by omega) ((val_main_v8_apply _).trans ((congrArg _ (show idx_main_v8 (ix2 r (0 : Fin 1)) = ix1 r from funext fun a => match a with | ⟨0, _⟩ => rfl)).trans e7))).trans ?_
  congr 2
  apply Fin.ext
  show r.val / 512 = r.val / 512 % 40
  omega

theorem word_eq (k : S1.Idx) : n k = word n := congrArg n (Cert.MoeDownIdeal.Hand.one_idx _ _)

theorem mask_0 (r : Fin 20480) (j : Fin 4096) : val_main_call1_v0 (F := Ideal) t n (ix2 r j)
    = IntOp.andi (IntOp.cmpi .eq (t (ix1 (Fin.ofNat 40 (r.val / 512)))) 0#32) (IntOp.cmpi .slt (BitVec.ofNat 32 (r.val / 512)) (word n)) := by
  rw [val_main_call1_v0_apply, val_main_v16_apply,
    show idx_main_v16 (idx_main_call1_v0 (ix2 r j)) = ix1 r from funext fun a => match a with | ⟨0, _⟩ => rfl,
    val_main_v15_apply, val_main_v12_apply, val_main_v14_apply, val_main_v13_apply, val_main_v11_apply, val_main_c_2_apply,
    expert_word, tile_word, word_eq n]

theorem dot_g0 (r : Fin 20480) (j : Fin 4096) : val_main_v19 (F := Ideal) h w (ix2 r j) = dot h w 0 r.val j.val := by
  have hr := r.isLt
  have hj := j.isLt
  rw [val_main_v19_apply]
  unfold dot
  refine Finset.sum_congr rfl fun k _ => ?_
  have hk := k.isLt
  rw [val_main_v0_apply, val_main_v18_apply, val_main_v17_apply]
  unfold hAt wAt
  show h _ * w _ = h _ * w _
  congr 2
  · funext a
    apply Fin.ext
    match a with
    | ⟨0, _⟩ => show r.val = r.val % 20480; omega
    | ⟨1, _⟩ => show k.val = k.val % 3584; omega
  · funext a
    apply Fin.ext
    match a with
    | ⟨0, _⟩ => rfl
    | ⟨1, _⟩ => show (k.val * 4096 + j.val) / 4096 % 3584 = k.val % 3584; omega
    | ⟨2, _⟩ => show (k.val * 4096 + j.val) % 4096 = j.val % 4096; omega

theorem mask_1 (r : Fin 20480) (j : Fin 4096) : val_main_call2_v0 (F := Ideal) t n (ix2 r j)
    = IntOp.andi (IntOp.cmpi .eq (t (ix1 (Fin.ofNat 40 (r.val / 512)))) 1#32) (IntOp.cmpi .slt (BitVec.ofNat 32 (r.val / 512)) (word n)) := by
  rw [val_main_call2_v0_apply, val_main_v26_apply,
    show idx_main_v26 (idx_main_call2_v0 (ix2 r j)) = ix1 r from funext fun a => match a with | ⟨0, _⟩ => rfl,
    val_main_v25_apply, val_main_v22_apply, val_main_v24_apply, val_main_v23_apply, val_main_v21_apply, val_main_c_3_apply,
    expert_word, tile_word, word_eq n]

theorem dot_g1 (r : Fin 20480) (j : Fin 4096) : val_main_v29 (F := Ideal) h w (ix2 r j) = dot h w 1 r.val j.val := by
  have hr := r.isLt
  have hj := j.isLt
  rw [val_main_v29_apply]
  unfold dot
  refine Finset.sum_congr rfl fun k _ => ?_
  have hk := k.isLt
  rw [val_main_v0_apply, val_main_v28_apply, val_main_v27_apply]
  unfold hAt wAt
  show h _ * w _ = h _ * w _
  congr 2
  · funext a
    apply Fin.ext
    match a with
    | ⟨0, _⟩ => show r.val = r.val % 20480; omega
    | ⟨1, _⟩ => show k.val = k.val % 3584; omega
  · funext a
    apply Fin.ext
    match a with
    | ⟨0, _⟩ => rfl
    | ⟨1, _⟩ => show (k.val * 4096 + j.val) / 4096 % 3584 = k.val % 3584; omega
    | ⟨2, _⟩ => show (k.val * 4096 + j.val) % 4096 = j.val % 4096; omega

theorem mask_2 (r : Fin 20480) (j : Fin 4096) : val_main_call3_v0 (F := Ideal) t n (ix2 r j)
    = IntOp.andi (IntOp.cmpi .eq (t (ix1 (Fin.ofNat 40 (r.val / 512)))) 2#32) (IntOp.cmpi .slt (BitVec.ofNat 32 (r.val / 512)) (word n)) := by
  rw [val_main_call3_v0_apply, val_main_v36_apply,
    show idx_main_v36 (idx_main_call3_v0 (ix2 r j)) = ix1 r from funext fun a => match a with | ⟨0, _⟩ => rfl,
    val_main_v35_apply, val_main_v32_apply, val_main_v34_apply, val_main_v33_apply, val_main_v31_apply, val_main_c_4_apply,
    expert_word, tile_word, word_eq n]

theorem dot_g2 (r : Fin 20480) (j : Fin 4096) : val_main_v39 (F := Ideal) h w (ix2 r j) = dot h w 2 r.val j.val := by
  have hr := r.isLt
  have hj := j.isLt
  rw [val_main_v39_apply]
  unfold dot
  refine Finset.sum_congr rfl fun k _ => ?_
  have hk := k.isLt
  rw [val_main_v0_apply, val_main_v38_apply, val_main_v37_apply]
  unfold hAt wAt
  show h _ * w _ = h _ * w _
  congr 2
  · funext a
    apply Fin.ext
    match a with
    | ⟨0, _⟩ => show r.val = r.val % 20480; omega
    | ⟨1, _⟩ => show k.val = k.val % 3584; omega
  · funext a
    apply Fin.ext
    match a with
    | ⟨0, _⟩ => rfl
    | ⟨1, _⟩ => show (k.val * 4096 + j.val) / 4096 % 3584 = k.val % 3584; omega
    | ⟨2, _⟩ => show (k.val * 4096 + j.val) % 4096 = j.val % 4096; omega

theorem mask_3 (r : Fin 20480) (j : Fin 4096) : val_main_call4_v0 (F := Ideal) t n (ix2 r j)
    = IntOp.andi (IntOp.cmpi .eq (t (ix1 (Fin.ofNat 40 (r.val / 512)))) 3#32) (IntOp.cmpi .slt (BitVec.ofNat 32 (r.val / 512)) (word n)) := by
  rw [val_main_call4_v0_apply, val_main_v46_apply,
    show idx_main_v46 (idx_main_call4_v0 (ix2 r j)) = ix1 r from funext fun a => match a with | ⟨0, _⟩ => rfl,
    val_main_v45_apply, val_main_v42_apply, val_main_v44_apply, val_main_v43_apply, val_main_v41_apply, val_main_c_5_apply,
    expert_word, tile_word, word_eq n]

theorem dot_g3 (r : Fin 20480) (j : Fin 4096) : val_main_v49 (F := Ideal) h w (ix2 r j) = dot h w 3 r.val j.val := by
  have hr := r.isLt
  have hj := j.isLt
  rw [val_main_v49_apply]
  unfold dot
  refine Finset.sum_congr rfl fun k _ => ?_
  have hk := k.isLt
  rw [val_main_v0_apply, val_main_v48_apply, val_main_v47_apply]
  unfold hAt wAt
  show h _ * w _ = h _ * w _
  congr 2
  · funext a
    apply Fin.ext
    match a with
    | ⟨0, _⟩ => show r.val = r.val % 20480; omega
    | ⟨1, _⟩ => show k.val = k.val % 3584; omega
  · funext a
    apply Fin.ext
    match a with
    | ⟨0, _⟩ => rfl
    | ⟨1, _⟩ => show (k.val * 4096 + j.val) / 4096 % 3584 = k.val % 3584; omega
    | ⟨2, _⟩ => show (k.val * 4096 + j.val) % 4096 = j.val % 4096; omega

theorem mask_4 (r : Fin 20480) (j : Fin 4096) : val_main_call5_v0 (F := Ideal) t n (ix2 r j)
    = IntOp.andi (IntOp.cmpi .eq (t (ix1 (Fin.ofNat 40 (r.val / 512)))) 4#32) (IntOp.cmpi .slt (BitVec.ofNat 32 (r.val / 512)) (word n)) := by
  rw [val_main_call5_v0_apply, val_main_v56_apply,
    show idx_main_v56 (idx_main_call5_v0 (ix2 r j)) = ix1 r from funext fun a => match a with | ⟨0, _⟩ => rfl,
    val_main_v55_apply, val_main_v52_apply, val_main_v54_apply, val_main_v53_apply, val_main_v51_apply, val_main_c_6_apply,
    expert_word, tile_word, word_eq n]

theorem dot_g4 (r : Fin 20480) (j : Fin 4096) : val_main_v59 (F := Ideal) h w (ix2 r j) = dot h w 4 r.val j.val := by
  have hr := r.isLt
  have hj := j.isLt
  rw [val_main_v59_apply]
  unfold dot
  refine Finset.sum_congr rfl fun k _ => ?_
  have hk := k.isLt
  rw [val_main_v0_apply, val_main_v58_apply, val_main_v57_apply]
  unfold hAt wAt
  show h _ * w _ = h _ * w _
  congr 2
  · funext a
    apply Fin.ext
    match a with
    | ⟨0, _⟩ => show r.val = r.val % 20480; omega
    | ⟨1, _⟩ => show k.val = k.val % 3584; omega
  · funext a
    apply Fin.ext
    match a with
    | ⟨0, _⟩ => rfl
    | ⟨1, _⟩ => show (k.val * 4096 + j.val) / 4096 % 3584 = k.val % 3584; omega
    | ⟨2, _⟩ => show (k.val * 4096 + j.val) % 4096 = j.val % 4096; omega

theorem mask_5 (r : Fin 20480) (j : Fin 4096) : val_main_call6_v0 (F := Ideal) t n (ix2 r j)
    = IntOp.andi (IntOp.cmpi .eq (t (ix1 (Fin.ofNat 40 (r.val / 512)))) 5#32) (IntOp.cmpi .slt (BitVec.ofNat 32 (r.val / 512)) (word n)) := by
  rw [val_main_call6_v0_apply, val_main_v66_apply,
    show idx_main_v66 (idx_main_call6_v0 (ix2 r j)) = ix1 r from funext fun a => match a with | ⟨0, _⟩ => rfl,
    val_main_v65_apply, val_main_v62_apply, val_main_v64_apply, val_main_v63_apply, val_main_v61_apply, val_main_c_7_apply,
    expert_word, tile_word, word_eq n]

theorem dot_g5 (r : Fin 20480) (j : Fin 4096) : val_main_v69 (F := Ideal) h w (ix2 r j) = dot h w 5 r.val j.val := by
  have hr := r.isLt
  have hj := j.isLt
  rw [val_main_v69_apply]
  unfold dot
  refine Finset.sum_congr rfl fun k _ => ?_
  have hk := k.isLt
  rw [val_main_v0_apply, val_main_v68_apply, val_main_v67_apply]
  unfold hAt wAt
  show h _ * w _ = h _ * w _
  congr 2
  · funext a
    apply Fin.ext
    match a with
    | ⟨0, _⟩ => show r.val = r.val % 20480; omega
    | ⟨1, _⟩ => show k.val = k.val % 3584; omega
  · funext a
    apply Fin.ext
    match a with
    | ⟨0, _⟩ => rfl
    | ⟨1, _⟩ => show (k.val * 4096 + j.val) / 4096 % 3584 = k.val % 3584; omega
    | ⟨2, _⟩ => show (k.val * 4096 + j.val) % 4096 = j.val % 4096; omega

theorem mask_6 (r : Fin 20480) (j : Fin 4096) : val_main_call7_v0 (F := Ideal) t n (ix2 r j)
    = IntOp.andi (IntOp.cmpi .eq (t (ix1 (Fin.ofNat 40 (r.val / 512)))) 6#32) (IntOp.cmpi .slt (BitVec.ofNat 32 (r.val / 512)) (word n)) := by
  rw [val_main_call7_v0_apply, val_main_v76_apply,
    show idx_main_v76 (idx_main_call7_v0 (ix2 r j)) = ix1 r from funext fun a => match a with | ⟨0, _⟩ => rfl,
    val_main_v75_apply, val_main_v72_apply, val_main_v74_apply, val_main_v73_apply, val_main_v71_apply, val_main_c_8_apply,
    expert_word, tile_word, word_eq n]

theorem dot_g6 (r : Fin 20480) (j : Fin 4096) : val_main_v79 (F := Ideal) h w (ix2 r j) = dot h w 6 r.val j.val := by
  have hr := r.isLt
  have hj := j.isLt
  rw [val_main_v79_apply]
  unfold dot
  refine Finset.sum_congr rfl fun k _ => ?_
  have hk := k.isLt
  rw [val_main_v0_apply, val_main_v78_apply, val_main_v77_apply]
  unfold hAt wAt
  show h _ * w _ = h _ * w _
  congr 2
  · funext a
    apply Fin.ext
    match a with
    | ⟨0, _⟩ => show r.val = r.val % 20480; omega
    | ⟨1, _⟩ => show k.val = k.val % 3584; omega
  · funext a
    apply Fin.ext
    match a with
    | ⟨0, _⟩ => rfl
    | ⟨1, _⟩ => show (k.val * 4096 + j.val) / 4096 % 3584 = k.val % 3584; omega
    | ⟨2, _⟩ => show (k.val * 4096 + j.val) % 4096 = j.val % 4096; omega

theorem mask_7 (r : Fin 20480) (j : Fin 4096) : val_main_call8_v0 (F := Ideal) t n (ix2 r j)
    = IntOp.andi (IntOp.cmpi .eq (t (ix1 (Fin.ofNat 40 (r.val / 512)))) 7#32) (IntOp.cmpi .slt (BitVec.ofNat 32 (r.val / 512)) (word n)) := by
  rw [val_main_call8_v0_apply, val_main_v86_apply,
    show idx_main_v86 (idx_main_call8_v0 (ix2 r j)) = ix1 r from funext fun a => match a with | ⟨0, _⟩ => rfl,
    val_main_v85_apply, val_main_v82_apply, val_main_v84_apply, val_main_v83_apply, val_main_v81_apply, val_main_c_9_apply,
    expert_word, tile_word, word_eq n]

theorem dot_g7 (r : Fin 20480) (j : Fin 4096) : val_main_v89 (F := Ideal) h w (ix2 r j) = dot h w 7 r.val j.val := by
  have hr := r.isLt
  have hj := j.isLt
  rw [val_main_v89_apply]
  unfold dot
  refine Finset.sum_congr rfl fun k _ => ?_
  have hk := k.isLt
  rw [val_main_v0_apply, val_main_v88_apply, val_main_v87_apply]
  unfold hAt wAt
  show h _ * w _ = h _ * w _
  congr 2
  · funext a
    apply Fin.ext
    match a with
    | ⟨0, _⟩ => show r.val = r.val % 20480; omega
    | ⟨1, _⟩ => show k.val = k.val % 3584; omega
  · funext a
    apply Fin.ext
    match a with
    | ⟨0, _⟩ => rfl
    | ⟨1, _⟩ => show (k.val * 4096 + j.val) / 4096 % 3584 = k.val % 3584; omega
    | ⟨2, _⟩ => show (k.val * 4096 + j.val) % 4096 = j.val % 4096; omega

/-- A table word named by one expert selects that expert's product, and no other's. -/
theorem pick (e : ℕ) (v : BitVec 32) (c : BitVec 1) (a b : EReal) (he : e < 2 ^ 32) :
    Scalar.select (IntOp.andi (IntOp.cmpi .eq v (BitVec.ofNat 32 e)) c) a b = if v.toNat = e ∧ c = 1#1 then a else b := by
  have hv : v = BitVec.ofNat 32 e ↔ v.toNat = e := by
    rw [← BitVec.toNat_inj, BitVec.toNat_ofNat, Nat.mod_eq_of_lt he]
  rw [WordCmp.cmpi_eq_eq]
  by_cases h1 : v.toNat = e
  · rw [decide_eq_true (hv.mpr h1)]
    rcases BitVec.eq_zero_or_eq_one c with rfl | rfl
    · rw [if_neg (fun g => absurd g.2 (by decide))]; rfl
    · rw [if_pos ⟨h1, rfl⟩]; rfl
  · rw [decide_eq_false (fun g => h1 (hv.mp g)), if_neg (fun g => h1 g.1)]
    rcases BitVec.eq_zero_or_eq_one c with rfl | rfl <;> rfl

/-- Exactly one of the eight is the table's, and it is chosen where the count admits the row. -/
theorem choose (x : ℕ) (hx : x < 8) (p : Prop) [Decidable p] (f : ℕ → EReal) :
    (if x = 7 ∧ p then f 7 else if x = 6 ∧ p then f 6 else if x = 5 ∧ p then f 5 else if x = 4 ∧ p then f 4 else if x = 3 ∧ p then f 3
      else if x = 2 ∧ p then f 2 else if x = 1 ∧ p then f 1 else if x = 0 ∧ p then f 0 else 0) = if p then f x else 0 := by
  by_cases hp : p
  · simp only [hp, and_true, if_true]
    interval_cases x <;> simp
  · simp only [hp, and_false, if_false]

theorem step_0 (r : Fin 20480) (j : Fin 4096) : val_main_v20 (F := Ideal) h t n w (ix2 r j) = if (t (ix1 (Fin.ofNat 40 (r.val / 512)))).toNat = 0 ∧ IntOp.cmpi .slt (BitVec.ofNat 32 (r.val / 512)) (word n) = 1#1 then dot h w 0 r.val j.val else 0 := by
  rw [val_main_v20_apply, mask_0, dot_g0]
  rw [show val_main_v10 (F := Ideal) (ix2 r j) = 0 from ((val_main_v10_apply _).trans (val_main_cst_apply _)).trans (Ideal.ofBits_zero .f32)]
  exact pick 0 _ _ _ _ (by decide)

theorem step_1 (r : Fin 20480) (j : Fin 4096) : val_main_v30 (F := Ideal) h t n w (ix2 r j) = if (t (ix1 (Fin.ofNat 40 (r.val / 512)))).toNat = 1 ∧ IntOp.cmpi .slt (BitVec.ofNat 32 (r.val / 512)) (word n) = 1#1 then dot h w 1 r.val j.val else val_main_v20 (F := Ideal) h t n w (ix2 r j) := by
  rw [val_main_v30_apply, mask_1, dot_g1]
  exact pick 1 _ _ _ _ (by decide)

theorem step_2 (r : Fin 20480) (j : Fin 4096) : val_main_v40 (F := Ideal) h t n w (ix2 r j) = if (t (ix1 (Fin.ofNat 40 (r.val / 512)))).toNat = 2 ∧ IntOp.cmpi .slt (BitVec.ofNat 32 (r.val / 512)) (word n) = 1#1 then dot h w 2 r.val j.val else val_main_v30 (F := Ideal) h t n w (ix2 r j) := by
  rw [val_main_v40_apply, mask_2, dot_g2]
  exact pick 2 _ _ _ _ (by decide)

theorem step_3 (r : Fin 20480) (j : Fin 4096) : val_main_v50 (F := Ideal) h t n w (ix2 r j) = if (t (ix1 (Fin.ofNat 40 (r.val / 512)))).toNat = 3 ∧ IntOp.cmpi .slt (BitVec.ofNat 32 (r.val / 512)) (word n) = 1#1 then dot h w 3 r.val j.val else val_main_v40 (F := Ideal) h t n w (ix2 r j) := by
  rw [val_main_v50_apply, mask_3, dot_g3]
  exact pick 3 _ _ _ _ (by decide)

theorem step_4 (r : Fin 20480) (j : Fin 4096) : val_main_v60 (F := Ideal) h t n w (ix2 r j) = if (t (ix1 (Fin.ofNat 40 (r.val / 512)))).toNat = 4 ∧ IntOp.cmpi .slt (BitVec.ofNat 32 (r.val / 512)) (word n) = 1#1 then dot h w 4 r.val j.val else val_main_v50 (F := Ideal) h t n w (ix2 r j) := by
  rw [val_main_v60_apply, mask_4, dot_g4]
  exact pick 4 _ _ _ _ (by decide)

theorem step_5 (r : Fin 20480) (j : Fin 4096) : val_main_v70 (F := Ideal) h t n w (ix2 r j) = if (t (ix1 (Fin.ofNat 40 (r.val / 512)))).toNat = 5 ∧ IntOp.cmpi .slt (BitVec.ofNat 32 (r.val / 512)) (word n) = 1#1 then dot h w 5 r.val j.val else val_main_v60 (F := Ideal) h t n w (ix2 r j) := by
  rw [val_main_v70_apply, mask_5, dot_g5]
  exact pick 5 _ _ _ _ (by decide)

theorem step_6 (r : Fin 20480) (j : Fin 4096) : val_main_v80 (F := Ideal) h t n w (ix2 r j) = if (t (ix1 (Fin.ofNat 40 (r.val / 512)))).toNat = 6 ∧ IntOp.cmpi .slt (BitVec.ofNat 32 (r.val / 512)) (word n) = 1#1 then dot h w 6 r.val j.val else val_main_v70 (F := Ideal) h t n w (ix2 r j) := by
  rw [val_main_v80_apply, mask_6, dot_g6]
  exact pick 6 _ _ _ _ (by decide)

theorem step_7 (r : Fin 20480) (j : Fin 4096) : val_main_v90 (F := Ideal) h t n w (ix2 r j) = if (t (ix1 (Fin.ofNat 40 (r.val / 512)))).toNat = 7 ∧ IntOp.cmpi .slt (BitVec.ofNat 32 (r.val / 512)) (word n) = 1#1 then dot h w 7 r.val j.val else val_main_v80 (F := Ideal) h t n w (ix2 r j) := by
  rw [val_main_v90_apply, mask_7, dot_g7]
  exact pick 7 _ _ _ _ (by decide)

theorem ref_ix (hT : ∀ q, (t q).toNat < 8) (r : Fin 20480) (j : Fin 4096) : val_main_v90 (F := Ideal) h t n w (ix2 r j) = entry h t (word n) w r.val j.val := by
  have hr := r.isLt
  have hb : ∀ b : Bool, BitVec.ofBool b = 1#1 ↔ b = true := by decide
  have hc : IntOp.cmpi .slt (BitVec.ofNat 32 (r.val / 512)) (word n) = 1#1 ↔ ((r.val / 512 : ℕ) : Int) < (word n).toInt := by
    rw [WordCmp.cmpi_slt_eq, hb, decide_eq_true_eq,
      WordCmp.toInt_eq_toNat_of_lt_half (by rw [BitVec.toNat_ofNat, Nat.mod_eq_of_lt (by omega)]; omega), BitVec.toNat_ofNat, Nat.mod_eq_of_lt (by omega)]
  rw [step_7, step_6, step_5, step_4, step_3, step_2, step_1, step_0]
  unfold entry expert
  exact (choose _ (hT _) _ (fun e => dot h w e r.val j.val)).trans (if_congr hc rfl rfl)

theorem ref_apply (hT : ∀ q, (t q).toNat < 8) (i : S20480x4096.Idx) : val_main_v90 (F := Ideal) h t n w i = entry h t (word n) w (i 0).val (i 1).val :=
  (congrArg _ (show i = ix2 (i 0) (i 1) from funext fun a => match a with | ⟨0, _⟩ => rfl | ⟨1, _⟩ => rfl)).trans (ref_ix h t n w hT (i 0) (i 1))

end Cert.MoeDownClaim

namespace Cert.MoeDownClaim

open Cert.MoeDownIdeal.Hand

/-- The kernel and the reference end with the same array. -/
theorem algebraic : Cert.algebraic_MoeDownIdeal_MoeDownRefIdeal := by
  intro m g m' g' hp hargs
  have hO := ok hp
  have hT : ∀ (c : Dev Cert.MoeDownIdeal.nD) (q), (aT m c q).toNat < 8 := fun c q => words_of_pre _ _ _ _ (hp c) q
  refine ⟨fun c => result m c, ?_, ?_⟩
  · exact (θ_run Cert.MoeDownIdeal.defs _ _).mono (fun r h c => ⟨((h.1 c).1 2).trans (arr_eq m hO c (hT c)), ((h.1 c).1 0).trans (((dats m hO 0 c).arrAt_in 0 rfl _).trans ((A_eq m hO c 0).trans (V_a0 m c))),
      ((h.1 c).2 Cert.MoeDownIdeal.main_arg1 (by decide : Cert.MoeDownIdeal.main_arg1 ∈ Pipeline.restRefs Cert.MoeDownIdeal.sig Cert.MoeDownIdeal.spec0)).trans (V_a1 m c),
      ((h.1 c).2 Cert.MoeDownIdeal.main_arg2 (by decide : Cert.MoeDownIdeal.main_arg2 ∈ Pipeline.restRefs Cert.MoeDownIdeal.sig Cert.MoeDownIdeal.spec0)).trans (V_a2 m c),
      ((h.1 c).2 Cert.MoeDownIdeal.main_arg3 (by decide : Cert.MoeDownIdeal.main_arg3 ∈ Pipeline.restRefs Cert.MoeDownIdeal.sig Cert.MoeDownIdeal.spec0)).trans (V_a3 m c)⟩) (run m g hO)
  · refine (θ_run Cert.MoeDownRefIdeal.defs _ _).mono (fun r h c => ⟨(h c).1.trans ?_, (h c).2⟩) (Cert.MoeDownRefIdeal.Value.run m' g')
    rw [Cert.MoeDownRefIdeal.Read.val_main_v90_eq]
    funext i
    have ha := hargs c
    rw [ha.1, ha.2.1, ha.2.2.1, ha.2.2.2]
    exact ref_apply _ _ _ _ (hT c) i

end Cert.MoeDownClaim

end

end
-- ==== Proof.CombineIdealLaunch.lean ====
/- The launch of `CombineIdeal`: at a grid point the body copies, for each of the tile's 256 rows, the two rows of the
   experts' outputs that the two tables name into its two scratch buffers — two batches of 256 copies, one per
   semaphore, all started by a first loop and all waited for by a second — and then combines them. -/
module

public import proofs.«01_k».proof.Proof.Gen.CombineIdeal.Launch
public import proofs.«01_k».proof.Proof.Gen.CombineIdeal.Skeleton
public import Idealize.ShloMosaic.Lib.Pipeline.FrameBody
public import Idealize.ShloMosaic.Lib.Pipeline.Value
public import Idealize.ShloMosaic.Lib.Tactic
public import Idealize.ShloMosaic.Lib.Batch
public import Idealize.ShloMosaic.Lib.Ring
public import Idealize.ShloMosaic.Lib.WordCmp
public import Idealize.ShloMosaic.Lib.Claim

@[expose] public section

set_option maxRecDepth 16384

noncomputable section

namespace Cert.CombineIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.CombineIdeal.Gen

variable {F : FTy → Type} [FloatOps F]

local notation "𝕄" => MT nD τ sig Unit (Elt F) ℕ (Pipeline.UD sig nD τ) ℕ

abbrev T0 : Memref sig .tc .smem S8192 .i32 := Memref.whole main_arg0
abbrev T1 : Memref sig .tc .smem S8192 .i32 := Memref.whole main_arg1
abbrev Ys : Memref sig .tc .hbm S20480x4096 .f32 := Memref.whole main_arg2
abbrev B0 : Memref sig .tc .vmem S256x4096 .f32 := Memref.whole cc0_scratch0
abbrev B1 : Memref sig .tc .vmem S256x4096 .f32 := Memref.whole cc0_scratch1
/-- The two semaphores the copies complete on. -/
abbrev c0 : DmaSem sig := ((cc0_scratch2.slice (Rect.unit (s := S2) ![0] S1.size inb_S2_S1_0)).squeeze S_ squeezes_S1_S_).sem
abbrev c1 : DmaSem sig := ((cc0_scratch2.slice (Rect.unit (s := S2) ![1] S1.size inb_S2_S1_1)).squeeze S_ squeezes_S1_S_).sem

abbrev n : ℕ := k0_t1_loop.trips
theorem n_eq : n = 256 := by decide
theorem n2_eq : k0_t2_loop.trips = 256 := by decide

/-- The word the body reads of each table for row `k` of point `i`'s tile. -/
def w0 (t : S8192.Idx → BitVec 32) (i : grid0.Coords) (k : Fin n) : BitVec 32 :=
  t ((Rect.unit (s := S8192) (k0_off1 i k) S1.size (k0_off1_inb i k)).emb (Shape.Idx.first (numel1_S1.symm ▸ Nat.one_pos)))
def w1 (t : S8192.Idx → BitVec 32) (i : grid0.Coords) (k : Fin n) : BitVec 32 :=
  t ((Rect.unit (s := S8192) (k0_off4 i k) S1.size (k0_off4_inb i k)).emb (Shape.Idx.first (numel1_S1.symm ▸ Nat.one_pos)))

/-- Row `k` of a scratch buffer, and the row of the experts' outputs a word names. -/
def row0 (k : Fin n) : Memref sig .tc .vmem S1x4096 .f32 := B0.slice (Rect.unit (s := S256x4096) (k0_off2 k) S1x4096.size (k0_off2_inb k)) (fun _ => rfl)
def row1 (k : Fin n) : Memref sig .tc .vmem S1x4096 .f32 := B1.slice (Rect.unit (s := S256x4096) (k0_off5 k) S1x4096.size (k0_off5_inb k)) (fun _ => rfl)
def src0 (v : BitVec 32) (h : k0_chk1 v) : Memref sig .tc .hbm S1x4096 .f32 := Ys.slice (Rect.unit (s := S20480x4096) (k0_off3 v) S1x4096.size (k0_off3_inb v h)) (fun _ => rfl)
def src1 (v : BitVec 32) (h : k0_chk2 v) : Memref sig .tc .hbm S1x4096 .f32 := Ys.slice (Rect.unit (s := S20480x4096) (k0_off6 v) S1x4096.size (k0_off6_inb v h)) (fun _ => rfl)

theorem iv_val (k : Fin n) : (Scf.iv 0#32 1#32 k : BitVec 32).toNat = k.val := by
  have h : k.val < 256 := n_eq ▸ k.isLt
  unfold Scf.iv; simp; omega

theorem off2_eq (k : Fin n) : k0_off2 k = ![k.val, 0] := by unfold k0_off2; simp only [iv_val]
theorem off5_eq (k : Fin n) : k0_off5 k = ![k.val, 0] := by unfold k0_off5; simp only [iv_val]

/-- The elements of row `k`. -/
def rset (k : Fin n) : Finset S256x4096.Idx := (Rect.unit (s := S256x4096) (k0_off2 k) S1x4096.size (k0_off2_inb k)).set

theorem mem_rset (k : Fin n) (y : S256x4096.Idx) : y ∈ rset k ↔ (y 0).val = k.val := by
  unfold rset
  rw [Rect.mem_set_unit, off2_eq]
  have h2 : (y 1).val < 4096 := (y 1).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 4096; omega
theorem rset_disjoint : ∀ b b' : Fin n, b ≠ b' → Disjoint (rset b) (rset b') := fun b b' hne => by
  rw [Finset.disjoint_left]; intro y hy hy'; rw [mem_rset] at hy hy'; exact hne (Fin.ext (by omega))
/-- The row an element of the tile lies in. -/
def rowOf (y : S256x4096.Idx) : Fin n := ⟨(y 0).val, by rw [n_eq]; exact (y 0).isLt⟩
theorem rset_cover : Finset.univ.biUnion rset = Finset.univ := by
  ext y; simp only [Finset.mem_biUnion, Finset.mem_univ, true_and, iff_true]; exact ⟨rowOf y, (mem_rset _ _).mpr rfl⟩

theorem set0 (k : Fin n) : (row0 k).view.set = rset k := by
  unfold row0 rset; exact View.set_slice_whole _ _
theorem set1 (k : Fin n) : (row1 k).view.set = rset k := by
  unfold row1 rset; refine (View.set_slice_whole _ _).trans ?_
  congr 1

/-- What a scratch buffer holds once row `k` has been copied from the row word `w k` names, for every `k`. -/
def gath (w : Fin n → BitVec 32) (hw : ∀ k, (w k).toNat < 20480) (ys : S20480x4096.Idx → Elt F .f32) : S256x4096.Idx → Elt F .f32 :=
  fun y => ys (fun | 0 => (⟨(w (rowOf y)).toNat, hw _⟩ : Fin 20480) | 1 => (y 1 : Fin 4096))

theorem chk1_iff (v : BitVec 32) (h : v.toNat < 20480) : k0_chk1 v := by
  intro a; unfold k0_off3; fin_cases a
  · show v.toNat + 1 ≤ 20480; omega
  · show 0 + 4096 ≤ 4096; omega
theorem chk2_iff (v : BitVec 32) (h : v.toNat < 20480) : k0_chk2 v := by
  intro a; unfold k0_off6; fin_cases a
  · show v.toNat + 1 ≤ 20480; omega
  · show 0 + 4096 ≤ 4096; omega

variable (c : Dev nD)

/-- A copy's landing: row `k` overwritten by the row of word `w k` is, on row `k`, the gathered tile. -/
theorem land0 (w : Fin n → BitVec 32) (hw : ∀ k, (w k).toNat < 20480) (ys : S20480x4096.Idx → Elt F .f32) (k : Fin n)
    (f : S256x4096.Idx → Elt F .f32) (y : S256x4096.Idx) (hy : y ∈ rset k) :
    (row0 k).view.write (Elt F) f ((src0 (w k) (chk1_iff _ (hw k))).view.read (Elt F) ys) Finset.univ y = gath w hw ys y := by
  have hk := (mem_rset k y).mp hy
  have hr : rowOf y = k := Fin.ext hk
  let x : S1x4096.Idx := fun | 0 => (0 : Fin 1) | 1 => (y 1 : Fin 4096)
  have hx : (row0 k).view.emb x = y := by
    funext a; apply Fin.ext
    show (k0_off2 k) a + 1 * (x a).val = (y a).val
    rw [off2_eq]
    fin_cases a
    · show k.val + 1 * 0 = (y 0).val; omega
    · show 0 + 1 * (y 1).val = (y 1).val; omega
  refine (congrArg _ hx.symm).trans ((View.write_emb_of_mem (v := (row0 k).view) (Val := Elt F) f ((src0 (w k) (chk1_iff _ (hw k))).view.read (Elt F) ys) (Finset.mem_univ x)).trans ?_)
  unfold gath
  show ys _ = ys _
  congr 1
  funext a; apply Fin.ext
  show (k0_off3 (w k)) a + 1 * (x a).val = _
  unfold k0_off3
  fin_cases a
  · show (w k).toNat + 1 * 0 = (w (rowOf y)).toNat; rw [hr]; omega
  · show 0 + 1 * (y 1).val = (y 1).val; omega

theorem land1 (w : Fin n → BitVec 32) (hw : ∀ k, (w k).toNat < 20480) (ys : S20480x4096.Idx → Elt F .f32) (k : Fin n)
    (f : S256x4096.Idx → Elt F .f32) (y : S256x4096.Idx) (hy : y ∈ rset k) :
    (row1 k).view.write (Elt F) f ((src1 (w k) (chk2_iff _ (hw k))).view.read (Elt F) ys) Finset.univ y = gath w hw ys y := by
  have hk := (mem_rset k y).mp hy
  have hr : rowOf y = k := Fin.ext hk
  let x : S1x4096.Idx := fun | 0 => (0 : Fin 1) | 1 => (y 1 : Fin 4096)
  have hx : (row1 k).view.emb x = y := by
    funext a; apply Fin.ext
    show (k0_off5 k) a + 1 * (x a).val = (y a).val
    rw [off5_eq]
    fin_cases a
    · show k.val + 1 * 0 = (y 0).val; omega
    · show 0 + 1 * (y 1).val = (y 1).val; omega
  refine (congrArg _ hx.symm).trans ((View.write_emb_of_mem (v := (row1 k).view) (Val := Elt F) f ((src1 (w k) (chk2_iff _ (hw k))).view.read (Elt F) ys) (Finset.mem_univ x)).trans ?_)
  unfold gath
  show ys _ = ys _
  congr 1
  funext a; apply Fin.ext
  show (k0_off6 (w k)) a + 1 * (x a).val = _
  unfold k0_off6
  fin_cases a
  · show (w k).toNat + 1 * 0 = (w (rowOf y)).toNat; rw [hr]; omega
  · show 0 + 1 * (y 1).val = (y 1).val; omega

/-! ## The first loop: every copy started -/

/-- Half of a table's buffer at contents `f`. -/
abbrev half {S : Shape} {e : EltTy} (M : Memref sig .tc .smem S e) (f : Buf (Elt F) (M.view.loc (c : Thread nD τ))) : sProp 𝕄 :=
  M.view.loc (c : Thread nD τ) ↦{fullShare.right} f

/-- The experts' outputs are read by the two batches at the two halves of the full share, a token of it to a copy. -/
abbrev tok0 (k : ℕ) : PosShare TreeShare := Transfers.shareTokN fullShare.left k
abbrev tok1 (k : ℕ) : PosShare TreeShare := Transfers.shareTokN fullShare.right k

section Steps

/-- The steps of the loops' bodies, each at the head of a bind. -/
theorem wp_word {α : Type} {Q : α → sProp 𝕄} {S : Shape} {e : EltTy} {M : Memref sig .tc .smem S e} {r : Rect S} {h1 : r.shape.numel = 1} {hp : e.packing = 1}
    {K : Elt F e → Prog (TpuEff nD τ sig (Elt F) Λ₀ .tc) α} {q : PosShare TreeShare} {f : Buf (Elt F) (M.view.loc (c : Thread nD τ))} :
    (M.view.loc (c : Thread nD τ) ↦{q} f : sProp 𝕄)
      ⊢ iprop(((M.view.loc (c : Thread nD τ) ↦{q} f) -∗ wp frame (wpE (defs₀ (F := F)) Variants.none (c : Thread nD τ) none) Set.univ (K ((M.access r).read (Elt F) f (Shape.Idx.first (h1.symm ▸ Nat.one_pos)))) Q)
        -∗ wp frame (wpE (defs₀ (F := F)) Variants.none (c : Thread nD τ) none) Set.univ (smemLoad M r h1 hp >>= K) Q) :=
  wp_smemLoadElt Variants.none (c : Thread nD τ) none Set.univ (m := M) (r := r) (hw := View.loads_smem_one hp h1)
    (x := Shape.Idx.first (h1.symm ▸ Nat.one_pos)) (k := K) (S := Finset.univ) (f := f) (Finset.subset_univ _)

theorem wp_check {α : Type} {Q : α → sProp 𝕄} {P : Prop} {d : Decidable P} {K : PLift P → Prog (TpuEff nD τ sig (Elt F) Λ₀ .tc) α} (h : P) :
    wp (M := 𝕄) frame (wpE (defs₀ (F := F)) Variants.none (c : Thread nD τ) none) Set.univ (K ⟨h⟩) Q
      ⊢ wp frame (wpE (defs₀ (F := F)) Variants.none (c : Thread nD τ) none) Set.univ (Prog.lift (TpuEff.assume P d) >>= K) Q :=
  wp_assume Variants.none (c : Thread nD τ) none Set.univ (k := K) h

theorem wp_start {α : Type} {Q : α → sProp 𝕄} {sp sp' : Space} {s : Shape} {e : EltTy} {src : Memref sig .tc sp s e} {dst : Memref sig .tc sp' s e} {sm : SemLoc sig}
    {hsrc : src.view.WordExact} {hdst : dst.view.WordExact} {hsem : DmaTarget.Typed (nD := nD) (τ := τ) (p := .tc) sp sm (.here dst)}
    {K : PUnit → Prog (TpuEff nD τ sig (Elt F) Λ₀ .tc) α} {q : PosShare TreeShare} {fs : Buf (Elt F) (src.view.loc (c : Thread nD τ))}
    {fd : Buf (Elt F) (dst.view.loc (c : Thread nD τ))} {m : ℕ} {D : Fin m → sProp 𝕄} {j u : ℕ}
    (N : ℕ) (hN : dst.view.amount sm = N) (hj : j < m) (hu : u ≤ j * N)
    (hD : iprop((dst.view.loc (c : Thread nD τ) ↦[dst.view.set]{fullShare} (dst.view.write (Elt F) fd (src.view.read (Elt F) fs) Finset.univ))
            ∗ (src.view.loc (c : Thread nD τ) ↦[src.view.set]{q} fs)) ⊢ D ⟨j, hj⟩) :
    iprop((src.view.loc (c : Thread nD τ) ↦[src.view.set]{q} fs) ∗ (dst.view.loc (c : Thread nD τ) ↦[dst.view.set]{fullShare} fd)
        ∗ Transfers.Batch (countersEmb (U := Pipeline.UD sig nD τ)) (c : Thread nD τ) sm () N D j u)
      ⊢ iprop((Transfers.Batch (countersEmb (U := Pipeline.UD sig nD τ)) (c : Thread nD τ) sm () N D (j + 1) u
            -∗ wp frame (wpE (defs₀ (F := F)) Variants.none (c : Thread nD τ) none) Set.univ (K ⟨⟩) Q)
          -∗ wp frame (wpE (defs₀ (F := F)) Variants.none (c : Thread nD τ) none) Set.univ
            (Prog.lift (TpuEff.enqueueDma src (.here dst) sm hsrc hdst hsem) >>= K) Q) :=
  Transfers.wp_dmaBatch (countersEmb (U := Pipeline.UD sig nD τ)) Variants.none (c : Thread nD τ) none (k := K) () N hN (Finset.Subset.refl _) hj hu hD

theorem wp_await {α : Type} {Q : α → sProp 𝕄} {sp sp' : Space} {s s' : Shape} {e e' : EltTy} {sem : DmaSem sig} {src : Memref sig .tc sp' s' e'} {dst : Memref sig .tc sp s e}
    {hsrc : src.view.WordExact} {hdst : dst.view.WordExact} {K : PUnit → Prog (TpuEff nD τ sig (Elt F) Λ₀ .tc) α}
    {N m : ℕ} (hN : dst.view.dmaCredit = N) {D : Fin m → sProp 𝕄} {u : ℕ} (hu : u + N < N * m) {W : Waits sig Unit} :
    iprop(Transfers.Batch (countersEmb (U := Pipeline.UD sig nD τ)) (c : Thread nD τ) (.dma sem) () N D m u ∗ owes (c : Thread nD τ) 0 W)
      ⊢ iprop((iprop(Transfers.Batch (countersEmb (U := Pipeline.UD sig nD τ)) (c : Thread nD τ) (.dma sem) () N D m (u + N)
            ∗ owes (c : Thread nD τ) 0 (insert (SemLoc.dma sem, ()) W))
            -∗ wp frame (wpE (defs₀ (F := F)) Variants.none (c : Thread nD τ) none) Set.univ (K ⟨⟩) Q)
          -∗ wp frame (wpE (defs₀ (F := F)) Variants.none (c : Thread nD τ) none) Set.univ (Prog.lift (TpuEff.waitDma2 sem src dst hsrc hdst) >>= K) Q) :=
  Transfers.wp_waitBatch (countersEmb (U := Pipeline.UD sig nD τ)) Variants.none (c : Thread nD τ) none (k := K) () hN hu

theorem wp_await_last {α : Type} {Q : α → sProp 𝕄} {sp sp' : Space} {s s' : Shape} {e e' : EltTy} {sem : DmaSem sig} {src : Memref sig .tc sp' s' e'} {dst : Memref sig .tc sp s e}
    {hsrc : src.view.WordExact} {hdst : dst.view.WordExact} {K : PUnit → Prog (TpuEff nD τ sig (Elt F) Λ₀ .tc) α}
    {N m : ℕ} (hN : dst.view.dmaCredit = N) (hN0 : 0 < N) {D : Fin m → sProp 𝕄} {u : ℕ} (hu : u + N = N * m) {W : Waits sig Unit} :
    iprop(Transfers.Batch (countersEmb (U := Pipeline.UD sig nD τ)) (c : Thread nD τ) (.dma sem) () N D m u ∗ owes (c : Thread nD τ) 0 W)
      ⊢ iprop((iprop(bigSep Finset.univ D ∗ semVal ((c : Thread nD τ), .dma sem) 0
            ∗ owes (c : Thread nD τ) 0 (insert (SemLoc.dma sem, ()) W))
            -∗ wp frame (wpE (defs₀ (F := F)) Variants.none (c : Thread nD τ) none) Set.univ (K ⟨⟩) Q)
          -∗ wp frame (wpE (defs₀ (F := F)) Variants.none (c : Thread nD τ) none) Set.univ (Prog.lift (TpuEff.waitDma2 sem src dst hsrc hdst) >>= K) Q) :=
  Transfers.wp_waitBatchLast (countersEmb (U := Pipeline.UD sig nD τ)) Variants.none (c : Thread nD τ) none (k := K) () hN hN0 hu

end Steps

section Loops

variable (i : grid0.Coords) (t0 t1 : S8192.Idx → BitVec 32) (h0 : ∀ k, (w0 t0 i k).toNat < 20480) (h1 : ∀ k, (w1 t1 i k).toNat < 20480)
  (ys : S20480x4096.Idx → Elt F .f32) (f0 f1 : S256x4096.Idx → Elt F .f32)

abbrev Src0 (k : Fin n) : Memref sig .tc .hbm S1x4096 .f32 := src0 (w0 t0 i k) (chk1_iff _ (h0 k))
abbrev Src1 (k : Fin n) : Memref sig .tc .hbm S1x4096 .f32 := src1 (w1 t1 i k) (chk2_iff _ (h1 k))

/-- The row copy `k` of each batch reads, at the copy's token. -/
abbrev win0 (k : Fin n) : sProp 𝕄 := (Src0 i t0 h0 k).view.loc (c : Thread nD τ) ↦[(Src0 i t0 h0 k).view.set]{tok0 k.val} ys
abbrev win1 (k : Fin n) : sProp 𝕄 := (Src1 i t1 h1 k).view.loc (c : Thread nD τ) ↦[(Src1 i t1 h1 k).view.set]{tok1 k.val} ys
/-- Row `k` of each scratch buffer at contents `f`. -/
abbrev at0 (f : S256x4096.Idx → Elt F .f32) (k : Fin n) : sProp 𝕄 := B0.view.loc (c : Thread nD τ) ↦[rset k]{fullShare} f
abbrev at1 (f : S256x4096.Idx → Elt F .f32) (k : Fin n) : sProp 𝕄 := B1.view.loc (c : Thread nD τ) ↦[rset k]{fullShare} f

/-- What copy `k` of each batch delivers: its row gathered, and the row it read back. -/
abbrev D0 (k : Fin n) : sProp 𝕄 := iprop(at0 c (gath (w0 t0 i) h0 ys) k ∗ win0 c i t0 h0 ys k)
abbrev D1 (k : Fin n) : sProp 𝕄 := iprop(at1 c (gath (w1 t1 i) h1 ys) k ∗ win1 c i t1 h1 ys k)

/-- A row's credit. -/
abbrev NN : ℕ := (row0 ⟨0, by decide⟩).view.amount (sig := sig) (.dma c0)

abbrev batch0 (j u : ℕ) : sProp 𝕄 :=
  Transfers.Batch (countersEmb (U := Pipeline.UD sig nD τ)) (c : Thread nD τ) (.dma c0) () NN (D0 c i t0 h0 ys) j u
abbrev batch1 (j u : ℕ) : sProp 𝕄 :=
  Transfers.Batch (countersEmb (U := Pipeline.UD sig nD τ)) (c : Thread nD τ) (.dma c1) () NN (D1 c i t1 h1 ys) j u

/-- Before trip `k`: `k` copies of each batch started, the rows and tokens from `k` on still in hand. -/
def issueAt (k : ℕ) (_ : Unit) : sProp 𝕄 :=
  iprop(batch0 c i t0 h0 ys k 0 ∗ batch1 c i t1 h1 ys k 0
    ∗ bigSep (Ring.rangeSet n k n) (at0 c f0) ∗ bigSep (Ring.rangeSet n k n) (at1 c f1)
    ∗ bigSep (Ring.rangeSet n k n) (win0 c i t0 h0 ys) ∗ bigSep (Ring.rangeSet n k n) (win1 c i t1 h1 ys)
    ∗ half c T0 t0 ∗ half c T1 t1)

abbrev issueBody (M0 : Memref sig .tc .vmem S256x4096 .f32) (m0 : M0.IsWhole) (M1 : Memref sig .tc .vmem S256x128 .f32) (m1 : M1.IsWhole)
    (M2 : Memref sig .tc .vmem S1x1x4096 .f32) (m2 : M2.IsWhole) (MO : Memref sig .tc .vmem S256x4096 .f32) (mO : MO.IsWhole) :=
  k0_t1_body (F := F) i T0 (Memref.isWhole_whole _) T1 (Memref.isWhole_whole _) Ys (Memref.isWhole_whole _) M0 m0 M1 m1 M2 m2 MO mO B0 (Memref.isWhole_whole _) B1 (Memref.isWhole_whole _) cc0_scratch2

theorem amount0 (k : Fin n) : (row0 k).view.amount (sig := sig) (.dma c0) = NN := rfl
theorem amount1 (k : Fin n) : (row1 k).view.amount (sig := sig) (.dma c1) = NN := rfl

theorem deliver0 (k : Fin n) (f : S256x4096.Idx → Elt F .f32) :
    iprop(((row0 k).view.loc (c : Thread nD τ) ↦[(row0 k).view.set]{fullShare} ((row0 k).view.write (Elt F) f ((Src0 i t0 h0 k).view.read (Elt F) ys) Finset.univ))
        ∗ win0 c i t0 h0 ys k) ⊢ D0 c i t0 h0 ys k := by
  refine sep_mono ?_ .rfl
  rw [set0 k]
  exact Entails.of_eq (pointsTo_congr fun y hy => land0 (w0 t0 i) h0 ys k f y hy)

theorem deliver1 (k : Fin n) (f : S256x4096.Idx → Elt F .f32) :
    iprop(((row1 k).view.loc (c : Thread nD τ) ↦[(row1 k).view.set]{fullShare} ((row1 k).view.write (Elt F) f ((Src1 i t1 h1 k).view.read (Elt F) ys) Finset.univ))
        ∗ win1 c i t1 h1 ys k) ⊢ D1 c i t1 h1 ys k := by
  refine sep_mono ?_ .rfl
  rw [set1 k]
  exact Entails.of_eq (pointsTo_congr fun y hy => land1 (w1 t1 i) h1 ys k f y hy)

theorem issue_step (M0 : Memref sig .tc .vmem S256x4096 .f32) (m0 : M0.IsWhole) (M1 : Memref sig .tc .vmem S256x128 .f32) (m1 : M1.IsWhole)
    (M2 : Memref sig .tc .vmem S1x1x4096 .f32) (m2 : M2.IsWhole) (MO : Memref sig .tc .vmem S256x4096 .f32) (mO : MO.IsWhole)
    (k : Fin n) (acc : Unit) :
    issueAt c i t0 t1 h0 h1 ys f0 f1 k acc ⊢ wp frame (wpE (defs₀ (F := F)) Variants.none (c : Thread nD τ) none) Set.univ
      (issueBody i M0 m0 M1 m1 M2 m2 MO mO k acc) (issueAt c i t0 t1 h0 h1 ys f0 f1 (k.val + 1)) := by
  have hk := k.isLt
  unfold issueAt
  rw [Ring.bigSep_rangeSet_head (Φ := at0 c f0) hk hk, Ring.bigSep_rangeSet_head (Φ := at1 c f1) hk hk,
    Ring.bigSep_rangeSet_head (Φ := win0 c i t0 h0 ys) hk hk, Ring.bigSep_rangeSet_head (Φ := win1 c i t1 h1 ys) hk hk]
  iintro ⟨HB0, HB1, ⟨HR0, HR0s⟩, ⟨HR1, HR1s⟩, ⟨HW0, HW0s⟩, ⟨HW1, HW1s⟩, HT0, HT1⟩
  unfold issueBody k0_t1_body
  iapply (wp_word c) $$ HT0
  iintro HT0
  iapply (wp_check c (chk1_iff _ (h0 k)))
  iapply (wp_start c (src := Src0 i t0 h0 k) (dst := row0 k) (sm := .dma c0) (q := tok0 k.val) (fs := ys) (fd := f0) (D := D0 c i t0 h0 ys) (j := k.val) (u := 0)
    NN (amount0 k) hk (Nat.zero_le _) (deliver0 c i t0 h0 ys k f0)) $$ [HW0 HR0 HB0]
  · isplitl [HW0]; · iexact HW0
    isplitl [HR0]; · rw [set0 k]; iexact HR0
    iexact HB0
  iintro HB0
  iapply (wp_word c) $$ HT1
  iintro HT1
  iapply (wp_check c (chk2_iff _ (h1 k)))
  iapply (wp_start c (src := Src1 i t1 h1 k) (dst := row1 k) (sm := .dma c1) (q := tok1 k.val) (fs := ys) (fd := f1) (D := D1 c i t1 h1 ys) (j := k.val) (u := 0)
    NN (amount1 k) hk (Nat.zero_le _) (deliver1 c i t1 h1 ys k f1)) $$ [HW1 HR1 HB1]
  · isplitl [HW1]; · iexact HW1
    isplitl [HR1]; · rw [set1 k]; iexact HR1
    iexact HB1
  iintro HB1
  rw [wp_pure]
  imodintro
  isplitl [HB0]; · iexact HB0
  isplitl [HB1]; · iexact HB1
  isplitl [HR0s]; · iexact HR0s
  isplitl [HR1s]; · iexact HR1s
  isplitl [HW0s]; · iexact HW0s
  isplitl [HW1s]; · iexact HW1s
  isplitl [HT0]; · iexact HT0
  iexact HT1

/-! ## The second loop: every copy waited for -/

/-- Before trip `k`: `k` copies of each batch waited for; after the last, every row of both buffers gathered, both
    semaphores at zero. -/
def drainAt (k : ℕ) (_ : Unit) : sProp 𝕄 :=
  if k < n then iprop(batch0 c i t0 h0 ys n (k * NN) ∗ batch1 c i t1 h1 ys n (k * NN) ∗ ∃ W, owes (c : Thread nD τ) 0 W)
  else iprop(bigSep Finset.univ (D0 c i t0 h0 ys) ∗ bigSep Finset.univ (D1 c i t1 h1 ys)
    ∗ semVal ((c : Thread nD τ), .dma c0) 0 ∗ semVal ((c : Thread nD τ), .dma c1) 0 ∗ ∃ W, owes (c : Thread nD τ) 0 W)

abbrev drainBody (M0 : Memref sig .tc .vmem S256x4096 .f32) (m0 : M0.IsWhole) (M1 : Memref sig .tc .vmem S256x128 .f32) (m1 : M1.IsWhole)
    (M2 : Memref sig .tc .vmem S1x1x4096 .f32) (m2 : M2.IsWhole) (MO : Memref sig .tc .vmem S256x4096 .f32) (mO : MO.IsWhole) :=
  k0_t2_body (F := F) i T0 (Memref.isWhole_whole _) T1 (Memref.isWhole_whole _) Ys (Memref.isWhole_whole _) M0 m0 M1 m1 M2 m2 MO mO B0 (Memref.isWhole_whole _) B1 (Memref.isWhole_whole _) cc0_scratch2

theorem NN_pos : 0 < NN := by decide

theorem drain_step (M0 : Memref sig .tc .vmem S256x4096 .f32) (m0 : M0.IsWhole) (M1 : Memref sig .tc .vmem S256x128 .f32) (m1 : M1.IsWhole)
    (M2 : Memref sig .tc .vmem S1x1x4096 .f32) (m2 : M2.IsWhole) (MO : Memref sig .tc .vmem S256x4096 .f32) (mO : MO.IsWhole)
    (k : Fin k0_t2_loop.trips) (acc : Unit) :
    drainAt c i t0 t1 h0 h1 ys k acc ⊢ wp frame (wpE (defs₀ (F := F)) Variants.none (c : Thread nD τ) none) Set.univ
      (drainBody i M0 m0 M1 m1 M2 m2 MO mO k acc) (drainAt c i t0 t1 h0 h1 ys (k.val + 1)) := by
  have hk : k.val < n := Nat.lt_of_lt_of_eq k.isLt (n2_eq.trans n_eq.symm)
  unfold drainAt drainBody k0_t2_body
  rw [if_pos hk]
  iintro ⟨HB0, HB1, ⟨%W, HO⟩⟩
  by_cases hl : k.val + 1 < n
  · have hu : k.val * NN + NN < NN * n := by
      have h := Nat.mul_lt_mul_of_pos_right hl NN_pos
      rw [Nat.add_mul, Nat.one_mul, Nat.mul_comm n] at h; exact h
    have he : k.val * NN + NN = (k.val + 1) * NN := by rw [Nat.add_mul, Nat.one_mul]
    iapply (wp_await c (dst := B0.slice (Rect.unit (s := S256x4096) (k0_off7 k) S1x4096.size (k0_off7_inb k)) (fun _ => rfl)) (N := NN) rfl (D := D0 c i t0 h0 ys) (u := k.val * NN) hu (W := W)) $$ [HB0 HO]
    · isplitl [HB0]; · iexact HB0
      iexact HO
    iintro ⟨HB0, HO⟩
    iapply (wp_await c (dst := B1.slice (Rect.unit (s := S256x4096) (k0_off7 k) S1x4096.size (k0_off7_inb k)) (fun _ => rfl)) (N := NN) rfl (D := D1 c i t1 h1 ys) (u := k.val * NN) hu) $$ [HB1 HO]
    · isplitl [HB1]; · iexact HB1
      iexact HO
    iintro ⟨HB1, HO⟩
    rw [wp_pure, if_pos hl, he]
    imodintro
    isplitl [HB0]; · iexact HB0
    isplitl [HB1]; · iexact HB1
    iexists _; iexact HO
  · have hu : k.val * NN + NN = NN * n := by
      have h : k.val + 1 = n := by omega
      rw [← h, Nat.mul_add, Nat.mul_one, Nat.mul_comm]
    iapply (wp_await_last c (dst := B0.slice (Rect.unit (s := S256x4096) (k0_off7 k) S1x4096.size (k0_off7_inb k)) (fun _ => rfl)) (N := NN) rfl NN_pos (D := D0 c i t0 h0 ys) (u := k.val * NN) hu (W := W)) $$ [HB0 HO]
    · isplitl [HB0]; · iexact HB0
      iexact HO
    iintro ⟨HD0, HS0, HO⟩
    iapply (wp_await_last c (dst := B1.slice (Rect.unit (s := S256x4096) (k0_off7 k) S1x4096.size (k0_off7_inb k)) (fun _ => rfl)) (N := NN) rfl NN_pos (D := D1 c i t1 h1 ys) (u := k.val * NN) hu) $$ [HB1 HO]
    · isplitl [HB1]; · iexact HB1
      iexact HO
    iintro ⟨HD1, HS1, HO⟩
    rw [wp_pure, if_neg hl]
    imodintro
    isplitl [HD0]; · iexact HD0
    isplitl [HD1]; · iexact HD1
    isplitl [HS0]; · iexact HS0
    isplitl [HS1]; · iexact HS1
    iexists _; iexact HO

end Loops
/-! ## The body -/

section Body

variable (i : grid0.Coords) (t0 t1 : S8192.Idx → BitVec 32) (h0 : ∀ k, (w0 t0 i k).toNat < 20480) (h1 : ∀ k, (w1 t1 i k).toNat < 20480)
  (ys : S20480x4096.Idx → Elt F .f32)

theorem sep_turn (A B C : sProp 𝕄) : iprop(A ∗ (B ∗ C)) = iprop((A ∗ C) ∗ B) := by
  refine Entails.antisymm (show iprop(A ∗ (B ∗ C)) ⊢ iprop((A ∗ C) ∗ B) from ?_) (show iprop((A ∗ C) ∗ B) ⊢ iprop(A ∗ (B ∗ C)) from ?_)
  · iintro ⟨H, HW, HL⟩
    isplitl [H HL]
    · isplitl [H]
      · iexact H
      · iexact HL
    · iexact HW
  · iintro ⟨⟨H, HL⟩, HW⟩
    isplitl [H]
    · iexact H
    · isplitl [HW]
      · iexact HW
      · iexact HL

/-- A buffer read by `n` copies at tokens of a share: the rows each reads at its token, beside the rest. -/
def leftOf {ℓ : Loc nD τ sig} (q : PosShare TreeShare) (f : Buf (Elt F) ℓ) (I : Fin n → Finset (Idx ℓ)) : sProp 𝕄 :=
  iprop((ℓ ↦{Transfers.shareDrop q n} f) ∗ bigSep Finset.univ fun k : Fin n => (ℓ ↦[Finset.univ \ I k]{Transfers.shareTokN q k.val} f : sProp 𝕄))

theorem deal {ℓ : Loc nD τ sig} (q : PosShare TreeShare) (f : Buf (Elt F) ℓ) (I : Fin n → Finset (Idx ℓ)) :
    (ℓ ↦{q} f : sProp 𝕄) = iprop(leftOf q f I ∗ bigSep Finset.univ fun k : Fin n => (ℓ ↦[I k]{Transfers.shareTokN q k.val} f : sProp 𝕄)) := by
  have e : (bigSep Finset.univ fun k : Fin n => (ℓ ↦{Transfers.shareTok q n k} f : sProp 𝕄))
      = bigSep Finset.univ fun k : Fin n => iprop((ℓ ↦[I k]{Transfers.shareTokN q k.val} f) ∗ (ℓ ↦[Finset.univ \ I k]{Transfers.shareTokN q k.val} f)) :=
    bigSep_congr fun k _ => Entails.antisymm (pointsTo_split_subset (Finset.subset_univ _)).1 (pointsTo_split_subset (Finset.subset_univ _)).2
  have es : (bigSep Finset.univ fun k : Fin n => iprop((ℓ ↦[I k]{Transfers.shareTokN q k.val} f) ∗ (ℓ ↦[Finset.univ \ I k]{Transfers.shareTokN q k.val} f)) : sProp 𝕄)
      = iprop((bigSep Finset.univ fun k : Fin n => (ℓ ↦[I k]{Transfers.shareTokN q k.val} f : sProp 𝕄))
        ∗ bigSep Finset.univ fun k : Fin n => (ℓ ↦[Finset.univ \ I k]{Transfers.shareTokN q k.val} f : sProp 𝕄)) := bigSep_sep _ _ _
  rw [Entails.antisymm (Transfers.pointsTo_toks q n).1 (Transfers.pointsTo_toks q n).2, e, es]
  exact sep_turn _ _ _

abbrev ysLoc : Loc nD τ sig := Ys.view.loc (c : Thread nD τ)
/-- The elements copy `k` of each batch reads. -/
def I0 (k : Fin n) : Finset (Idx (ysLoc c)) := (Src0 i t0 h0 k).view.set
def I1 (k : Fin n) : Finset (Idx (ysLoc c)) := (Src1 i t1 h1 k).view.set

/-- What is left of the experts' outputs beside the rows batch 0 reads. -/
def left0 : sProp 𝕄 := leftOf (ℓ := ysLoc c) fullShare.left ys (I0 c i t0 h0)
theorem win0_eq (k : Fin n) : (ysLoc c ↦[I0 c i t0 h0 k]{Transfers.shareTokN fullShare.left k.val} ys : sProp 𝕄) = win0 c i t0 h0 ys k := rfl
theorem deal0 : (ysLoc c ↦{fullShare.left} ys : sProp 𝕄)
    = iprop(left0 c i t0 h0 ys ∗ bigSep Finset.univ (win0 c i t0 h0 ys)) :=
  by
  have h : (ysLoc c ↦{fullShare.left} ys : sProp 𝕄) = iprop(left0 c i t0 h0 ys ∗ bigSep Finset.univ fun k : Fin n => (ysLoc c ↦[I0 c i t0 h0 k]{Transfers.shareTokN fullShare.left k.val} ys : sProp 𝕄)) := deal (ℓ := ysLoc c) fullShare.left ys (I0 c i t0 h0)
  have e : (fun k : Fin n => (ysLoc c ↦[I0 c i t0 h0 k]{Transfers.shareTokN fullShare.left k.val} ys : sProp 𝕄)) = win0 c i t0 h0 ys := funext fun k => win0_eq c i t0 h0 ys k
  rw [e] at h
  exact h

/-- What is left of the experts' outputs beside the rows batch 1 reads. -/
def left1 : sProp 𝕄 := leftOf (ℓ := ysLoc c) fullShare.right ys (I1 c i t1 h1)
theorem win1_eq (k : Fin n) : (ysLoc c ↦[I1 c i t1 h1 k]{Transfers.shareTokN fullShare.right k.val} ys : sProp 𝕄) = win1 c i t1 h1 ys k := rfl
theorem deal1 : (ysLoc c ↦{fullShare.right} ys : sProp 𝕄)
    = iprop(left1 c i t1 h1 ys ∗ bigSep Finset.univ (win1 c i t1 h1 ys)) :=
  by
  have h : (ysLoc c ↦{fullShare.right} ys : sProp 𝕄) = iprop(left1 c i t1 h1 ys ∗ bigSep Finset.univ fun k : Fin n => (ysLoc c ↦[I1 c i t1 h1 k]{Transfers.shareTokN fullShare.right k.val} ys : sProp 𝕄)) := deal (ℓ := ysLoc c) fullShare.right ys (I1 c i t1 h1)
  have e : (fun k : Fin n => (ysLoc c ↦[I1 c i t1 h1 k]{Transfers.shareTokN fullShare.right k.val} ys : sProp 𝕄)) = win1 c i t1 h1 ys := funext fun k => win1_eq c i t1 h1 ys k
  rw [e] at h
  exact h

/-- A scratch buffer whole is its rows. -/
theorem rows0 (f : S256x4096.Idx → Elt F .f32) :
    (B0.view.loc (c : Thread nD τ) ↦{fullShare} f : sProp 𝕄) = bigSep Finset.univ (at0 c f) :=
  Ring.pointsTo_blocks (ℓ := B0.view.loc (c : Thread nD τ)) (fun b : Fin n => rset b) rset_disjoint
    (by ext y; simp only [Finset.mem_biUnion, Finset.mem_univ, true_and, iff_true]; exact ⟨rowOf y, (mem_rset _ _).mpr rfl⟩) f
theorem rows1 (f : S256x4096.Idx → Elt F .f32) :
    (B1.view.loc (c : Thread nD τ) ↦{fullShare} f : sProp 𝕄) = bigSep Finset.univ (at1 c f) :=
  Ring.pointsTo_blocks (ℓ := B1.view.loc (c : Thread nD τ)) (fun b : Fin n => rset b) rset_disjoint
    (by ext y; simp only [Finset.mem_biUnion, Finset.mem_univ, true_and, iff_true]; exact ⟨rowOf y, (mem_rset _ _).mpr rfl⟩) f

theorem storable_at {ℓ : Loc nD τ sig} {I : Finset (Idx ℓ)} {q : PosShare TreeShare} {f : Buf (Elt F) ℓ} :
    Storable (upEmb : UEmb _ 𝕄) (ℓ ↦[I]{q} f : sProp 𝕄) := inferInstance
instance D0_storable (k : Fin n) : Storable (upEmb : UEmb _ 𝕄) (D0 c i t0 h0 ys k) := by
  haveI : Storable (upEmb : UEmb _ 𝕄) (at0 c (gath (w0 t0 i) h0 ys) k) := storable_at
  haveI : Storable (upEmb : UEmb _ 𝕄) (win0 c i t0 h0 ys k) := storable_at
  exact Storable.sep _ _ _
instance D1_storable (k : Fin n) : Storable (upEmb : UEmb _ 𝕄) (D1 c i t1 h1 ys k) := by
  haveI : Storable (upEmb : UEmb _ 𝕄) (at1 c (gath (w1 t1 i) h1 ys) k) := storable_at
  haveI : Storable (upEmb : UEmb _ 𝕄) (win1 c i t1 h1 ys k) := storable_at
  exact Storable.sep _ _ _

theorem z2 : (![0, 0] : Fin 2 → Nat) = fun _ => 0 := by decide
theorem z3 : (![0, 0, 0] : Fin 3 → Nat) = fun _ => 0 := by decide

/-- The tile the body computes. -/
def res (x : Vec F S256x4096 .f32) (sel : Vec F S256x128 .f32) (gt : Vec F S1x1x4096 .f32) : Vec F S256x4096 .f32 :=
  k0_pay1 (View.ld sel (Rect.unit (s := S256x128) ![0, 2] S256x1.size inb_S256x128_S256x1_0_2)) (View.ld sel (Rect.unit (s := S256x128) ![0, 3] S256x1.size inb_S256x128_S256x1_0_3))
    (gath (w0 t0 i) h0 ys) (gath (w1 t1 i) h1 ys) x gt

theorem issued (f0 f1 : S256x4096.Idx → Elt F .f32) (acc : Unit) :
    issueAt c i t0 t1 h0 h1 ys f0 f1 n acc ⊢ iprop(batch0 c i t0 h0 ys n 0 ∗ batch1 c i t1 h1 ys n 0 ∗ half c T0 t0 ∗ half c T1 t1) := by
  unfold issueAt
  iintro ⟨HA0, HA1, -, -, -, -, HT0, HT1⟩
  isplitl [HA0]; · iexact HA0
  isplitl [HA1]; · iexact HA1
  isplitl [HT0]; · iexact HT0
  iexact HT1

theorem joined0 : bigSep Finset.univ (D0 c i t0 h0 ys)
    = iprop((B0.view.loc (c : Thread nD τ) ↦{fullShare} gath (w0 t0 i) h0 ys) ∗ bigSep Finset.univ (win0 c i t0 h0 ys)) := by
  rw [rows0]; exact bigSep_sep _ _ _
theorem joined1 : bigSep Finset.univ (D1 c i t1 h1 ys)
    = iprop((B1.view.loc (c : Thread nD τ) ↦{fullShare} gath (w1 t1 i) h1 ys) ∗ bigSep Finset.univ (win1 c i t1 h1 ys)) := by
  rw [rows1]; exact bigSep_sep _ _ _

theorem drained (acc : Unit) :
    drainAt c i t0 t1 h0 h1 ys k0_t2_loop.trips acc ⊢ iprop((B0.view.loc (c : Thread nD τ) ↦{fullShare} gath (w0 t0 i) h0 ys)
      ∗ (B1.view.loc (c : Thread nD τ) ↦{fullShare} gath (w1 t1 i) h1 ys)
      ∗ bigSep Finset.univ (win0 c i t0 h0 ys) ∗ bigSep Finset.univ (win1 c i t1 h1 ys)
      ∗ semVal ((c : Thread nD τ), .dma c0) 0 ∗ semVal ((c : Thread nD τ), .dma c1) 0 ∗ ∃ W, owes (c : Thread nD τ) 0 W) := by
  unfold drainAt
  rw [if_neg (by decide : ¬ k0_t2_loop.trips < n), joined0, joined1]
  iintro ⟨⟨HB0, HW0⟩, ⟨HB1, HW1⟩, HS0, HS1, Ho⟩
  isplitl [HB0]; · iexact HB0
  isplitl [HB1]; · iexact HB1
  isplitl [HW0]; · iexact HW0
  isplitl [HW1]; · iexact HW1
  isplitl [HS0]; · iexact HS0
  isplitl [HS1]; · iexact HS1
  iexact Ho

/-- One store over a whole tile leaves its payload. -/
theorem read_store (M : Memref sig .tc .vmem S256x4096 .f32) (f : M.view.ty.Contents (Elt F)) (w : Vec F S256x4096 .f32) :
    M.view.read (Elt F) (M.view.writes (Elt F) f [⟨Rect.unit ![0, 0] S256x4096.size inb_S256x4096_S256x4096_0_0, w⟩]) = w := by
  rw [View.read_writes_eq_canon, View.canon_unit_zero (S := S256x4096) z2]
  exact fun y => ⟨_, List.mem_singleton_self _, View.mem_set_unit_zero (S := S256x4096) z2 inb_S256x4096_S256x4096_0_0 y⟩

theorem body_wp (M0 : Memref sig .tc .vmem S256x4096 .f32) (m0 : M0.IsWhole) (M1 : Memref sig .tc .vmem S256x128 .f32) (m1 : M1.IsWhole)
    (M2 : Memref sig .tc .vmem S1x1x4096 .f32) (m2 : M2.IsWhole) (MO : Memref sig .tc .vmem S256x4096 .f32) (mO : MO.IsWhole)
    (x : Vec F S256x4096 .f32) (sel : Vec F S256x128 .f32) (gt : Vec F S1x1x4096 .f32) (K : PUnit → sProp 𝕄) :
    iprop(owns (c : Thread nD τ) M0 fullShare x ∗ owns (c : Thread nD τ) M1 fullShare sel ∗ owns (c : Thread nD τ) M2 fullShare gt ∗ (∃ d, owns (c : Thread nD τ) MO fullShare d)
        ∗ (∃ f : S256x4096.Idx → Elt F .f32, B0.view.loc (c : Thread nD τ) ↦{fullShare} f) ∗ (∃ f : S256x4096.Idx → Elt F .f32, B1.view.loc (c : Thread nD τ) ↦{fullShare} f)
        ∗ semVal ((c : Thread nD τ), .dma c0) 0 ∗ semVal ((c : Thread nD τ), .dma c1) 0 ∗ (∃ W, owes (c : Thread nD τ) 0 W)
        ∗ (Ys.view.loc (c : Thread nD τ) ↦{fullShare} ys) ∗ half c T0 t0 ∗ half c T1 t1
        ∗ (iprop(owns (c : Thread nD τ) M0 fullShare x ∗ owns (c : Thread nD τ) M1 fullShare sel ∗ owns (c : Thread nD τ) M2 fullShare gt
            ∗ owns (c : Thread nD τ) MO fullShare (res i t0 t1 h0 h1 ys x sel gt)
            ∗ (∃ f : S256x4096.Idx → Elt F .f32, B0.view.loc (c : Thread nD τ) ↦{fullShare} f) ∗ (∃ f : S256x4096.Idx → Elt F .f32, B1.view.loc (c : Thread nD τ) ↦{fullShare} f)
            ∗ semVal ((c : Thread nD τ), .dma c0) 0 ∗ semVal ((c : Thread nD τ), .dma c1) 0 ∗ (∃ W, owes (c : Thread nD τ) 0 W)
            ∗ (Ys.view.loc (c : Thread nD τ) ↦{fullShare} ys) ∗ half c T0 t0 ∗ half c T1 t1) -∗ K ⟨⟩))
      ⊢ wp frame (wpE (defs₀ (F := F)) Variants.none (c : Thread nD τ) none) Set.univ
        (cc0_moe_combine i T0 (Memref.isWhole_whole _) T1 (Memref.isWhole_whole _) Ys (Memref.isWhole_whole _) M0 m0 M1 m1 M2 m2 MO mO B0 (Memref.isWhole_whole _) B1 (Memref.isWhole_whole _) cc0_scratch2) K := by
  simp only [cc0_moe_combine_eq_skeleton]; unfold cc0_moe_combine_skel
  iintro ⟨H0, H1, H2, HO, ⟨%f0, HB0⟩, ⟨%f1, HB1⟩, HS0, HS1, Ho, HY, HT0, HT1, Hk⟩
  imod (Transfers.batch_alloc' (countersEmb (U := Pipeline.UD sig nD τ)) (c : Thread nD τ) () NN (D0 c i t0 h0 ys) (E := Set.univ)) $$ HS0 with HA0
  imod (Transfers.batch_alloc' (countersEmb (U := Pipeline.UD sig nD τ)) (c : Thread nD τ) () NN (D1 c i t1 h1 ys) (E := Set.univ)) $$ HS1 with HA1
  ihave HY' := (pointsTo_share (PosShare.mem_left_op_right fullShare)).1 $$ HY
  icases HY' with ⟨HY0, HY1⟩
  ihave HY0' := (Entails.of_eq (deal0 c i t0 h0 ys)) $$ HY0
  icases HY0' with ⟨HL0, HW0⟩
  ihave HY1' := (Entails.of_eq (deal1 c i t1 h1 ys)) $$ HY1
  icases HY1' with ⟨HL1, HW1⟩
  iapply (Scf.wp_for_bind _ _ _ _ _ _ _ _ _ (issueAt c i t0 t1 h0 h1 ys f0 f1) (issue_step c i t0 t1 h0 h1 ys f0 f1 M0 m0 M1 m1 M2 m2 MO mO)) $$ [HA0 HA1 HB0 HB1 HW0 HW1 HT0 HT1]
  · unfold issueAt
    rw [Ring.rangeSet_univ]
    isplitl [HA0]; · iexact HA0
    isplitl [HA1]; · iexact HA1
    isplitl [HB0]; · iapply (Entails.of_eq (rows0 c f0)) $$ HB0
    isplitl [HB1]; · iapply (Entails.of_eq (rows1 c f1)) $$ HB1
    isplitl [HW0]; · iexact HW0
    isplitl [HW1]; · iexact HW1
    isplitl [HT0]; · iexact HT0
    iexact HT1
  iintro %acc HI
  ihave HI' := (issued c i t0 t1 h0 h1 ys f0 f1 acc) $$ HI
  icases HI' with ⟨HA0, HA1, HT0, HT1⟩
  iapply (Scf.wp_for_bind _ _ _ _ _ _ _ _ _ (drainAt c i t0 t1 h0 h1 ys) (drain_step c i t0 t1 h0 h1 ys M0 m0 M1 m1 M2 m2 MO mO)) $$ [HA0 HA1 Ho]
  · unfold drainAt
    rw [if_pos (by decide : 0 < n), Nat.zero_mul]
    isplitl [HA0]; · iexact HA0
    isplitl [HA1]; · iexact HA1
    iexact Ho
  iintro %acc' HI
  ihave HI' := (drained c i t0 t1 h0 h1 ys acc') $$ HI
  icases HI' with ⟨HB0, HB1, HW0, HW1, HS0, HS1, Ho⟩
  ihave HY0 := (Entails.of_eq (deal0 c i t0 h0 ys).symm) $$ [HL0 HW0]
  · isplitl [HL0]; · iexact HL0
    iexact HW0
  ihave HY1 := (Entails.of_eq (deal1 c i t1 h1 ys).symm) $$ [HL1 HW1]
  · isplitl [HL1]; · iexact HL1
    iexact HW1
  ihave HY := (pointsTo_share (PosShare.mem_left_op_right fullShare)).2 $$ [HY0 HY1]
  · isplitl [HY0]; · iexact HY0
    iexact HY1
  unfold owns
  icases H0 with ⟨%g0, %e0, H0⟩
  icases H1 with ⟨%g1, %e1, H1⟩
  icases H2 with ⟨%g2, %e2, H2⟩
  icases HO with ⟨%d, %go, -, HO⟩
  obtain rfl := m0.eq_unread e0; obtain rfl := m1.eq_unread e1; obtain rfl := m2.eq_unread e2
  sl_exec
  sl_step
  iapply Hk
  isplitl [H0]
  · iexists _; isplitr; · ipureintro; exact m0.read_unread _
    iexact H0
  isplitl [H1]
  · iexists _; isplitr; · ipureintro; exact m1.read_unread _
    iexact H1
  isplitl [H2]
  · iexists _; isplitr; · ipureintro; exact m2.read_unread _
    iexact H2
  isplitl [HO]
  · iexists _; isplitr
    swap; · iexact HO
    ipureintro
    rw [read_store]
    unfold res
    simp only [View.readAt_eq_ld, m0.read_unread, m1.read_unread, m2.read_unread, View.ld_unit_zero (S := S256x4096) z2, View.ld_unit_zero (S := S1x1x4096) z3]
    rfl
  isplitl [HB0]; · iexists _; iexact HB0
  isplitl [HB1]; · iexists _; iexact HB1
  isplitl [HS0]; · iexact HS0
  isplitl [HS1]; · iexact HS1
  isplitl [Ho]; · iexact Ho
  isplitl [HY]; · iexact HY
  isplitl [HT0]; · iexact HT0
  iexact HT1

end Body

/-! ## What the launch starts from -/

variable (m : (ℓ : Loc nD τ sig) → Buf (Elt F) ℓ) (ρ : Dev nD → PrngReg)

/-- A core's buffers once the host's reshape has run. -/
abbrev V (c : Dev nD) (b : Ref sig .tc) : Buf (Elt F) ((c : Thread nD τ).loc b) := StableHlo.after hostOps0 (fun b => m (c, b)) b

theorem fresh_empty : (hostOps0 : List (HloOp τ sig (Elt F))).Forall fun op => op.fresh = ∅ := by
  simp only [List.Forall]; repeat' constructor

set_option maxHeartbeats 800000 in
theorem prefix_wp : Pipeline.HMainP (Ix := Unit) (Name := ℕ) (U := Pipeline.UD sig nD τ) (Lvl := ℕ) pcfgs 0 defs₀ Variants.none m (main (F := F)) (V m) :=
  Pipeline.hmainP_prefix pcfgs 0 defs₀ Variants.none m main hostOps0 hostOps0_sub fresh_empty main_chain

/-- The reshape writes none of the arguments. -/
theorem V_arg (c : Dev nD) (b : Ref sig .tc) (h : ∀ op ∈ (hostOps0 : List (HloOp τ sig (Elt F))), Proc.devRef .tc b ∉ op.writes) :
    V m c b = m ((c : Thread nD τ).loc b) :=
  StableHlo.after_of_forall_not_mem (b := Proc.devRef .tc b) _ _ h

theorem V_a0 (c : Dev nD) : V m c main_arg0 = m ((c : Thread nD τ).loc main_arg0) :=
  V_arg m c main_arg0 (List.forall_iff_forall_mem.mp (by
    simp only [List.Forall, StableHlo.reshape_writes, Finset.mem_singleton]
    repeat' apply And.intro
    all_goals exact StableHlo.devRef_ne_of_ne (by decide)))

theorem V_a1 (c : Dev nD) : V m c main_arg1 = m ((c : Thread nD τ).loc main_arg1) :=
  V_arg m c main_arg1 (List.forall_iff_forall_mem.mp (by
    simp only [List.Forall, StableHlo.reshape_writes, Finset.mem_singleton]
    repeat' apply And.intro
    all_goals exact StableHlo.devRef_ne_of_ne (by decide)))

theorem V_a2 (c : Dev nD) : V m c main_arg2 = m ((c : Thread nD τ).loc main_arg2) :=
  V_arg m c main_arg2 (List.forall_iff_forall_mem.mp (by
    simp only [List.Forall, StableHlo.reshape_writes, Finset.mem_singleton]
    repeat' apply And.intro
    all_goals exact StableHlo.devRef_ne_of_ne (by decide)))

theorem V_a3 (c : Dev nD) : V m c main_arg3 = m ((c : Thread nD τ).loc main_arg3) :=
  V_arg m c main_arg3 (List.forall_iff_forall_mem.mp (by
    simp only [List.Forall, StableHlo.reshape_writes, Finset.mem_singleton]
    repeat' apply And.intro
    all_goals exact StableHlo.devRef_ne_of_ne (by decide)))

theorem V_a4 (c : Dev nD) : V m c main_arg4 = m ((c : Thread nD τ).loc main_arg4) :=
  V_arg m c main_arg4 (List.forall_iff_forall_mem.mp (by
    simp only [List.Forall, StableHlo.reshape_writes, Finset.mem_singleton]
    repeat' apply And.intro
    all_goals exact StableHlo.devRef_ne_of_ne (by decide)))

theorem V_a5 (c : Dev nD) : V m c main_arg5 = m ((c : Thread nD τ).loc main_arg5) :=
  V_arg m c main_arg5 (List.forall_iff_forall_mem.mp (by
    simp only [List.Forall, StableHlo.reshape_writes, Finset.mem_singleton]
    repeat' apply And.intro
    all_goals exact StableHlo.devRef_ne_of_ne (by decide)))

/-- The tables, and the pipeline at them. -/
def tbl : pre0.Contents (Elt F) := fun j => V m (0 : Dev nD) (pre0.ref j)

abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

theorem V_tbl (c : Dev nD) (j : Fin 2) : V m c (pre0.ref j) = tbl m j := by
  obtain rfl : c = 0 := Subsingleton.elim _ _; rfl

abbrev t0 : S8192.Idx → BitVec 32 := tbl m 0
abbrev t1 : S8192.Idx → BitVec 32 := tbl m 1

/-- Every word of the two tables names a row. -/
def Bnd : Prop := (∀ y : S8192.Idx, (t0 m y).toNat < 20480) ∧ ∀ y : S8192.Idx, (t1 m y).toNat < 20480
theorem Bnd.w0 (hB : Bnd m) (i : grid0.Coords) (k : Fin n) : (w0 (t0 m) i k).toNat < 20480 := hB.1 _
theorem Bnd.w1 (hB : Bnd m) (i : grid0.Coords) (k : Fin n) : (w1 (t1 m) i k).toNat < 20480 := hB.2 _

theorem halves_eq (c : Dev nD) : (Pipeline.ΦT pre0 (tbl m) c : sProp 𝕄) = iprop(half c T0 (t0 m) ∗ half c T1 (t1 m)) := by
  unfold Pipeline.ΦT Pipeline.prefHeld
  rw [show (Finset.univ : Finset (Fin 2)) = insert (0 : Fin 2) {(1 : Fin 2)} from by decide,
    bigSep_insert (by decide), bigSep_singleton]
  rfl

/-- The kernel's own semaphores, and the array it copies from. -/
def osem : Fin 2 → SemLoc sig := fun | 0 => .dma c0 | 1 => .dma c1
theorem ownSem : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), .dma c0) 0 ∗ semVal ((c : Thread nD τ), .dma c1) 0) := by
  rw [Pipeline.ownSems0_eq_of_list c osem [0, 1] (by decide) (by decide)]; rfl
def src : Finset (Ref sig .tc) := {main_arg2}
theorem src_sub : src ⊆ Pipeline.restRefsP sig pre0 spec0 := by decide

abbrev ysV (c : Dev nD) : S20480x4096.Idx → Elt F .f32 := V m c main_arg2

theorem src_eq (c : Dev nD) : (bigSep src (fun b => ((c : Thread nD τ).loc b) ↦{fullShare} V m c b) : sProp 𝕄)
    = iprop(Ys.view.loc (c : Thread nD τ) ↦{fullShare} ysV m c) := by
  unfold src; rw [bigSep_singleton]
/-- The invariant between points: the two scratch buffers at anything, the generator's register, the semaphores at zero,
    the array copied from. -/
def inv (c : Dev nD) : sProp 𝕄 := Pipeline.ΦD osem spec0 src (V m) c
theorem inv_eq (c : Dev nD) : (inv m c : sProp 𝕄)
    = iprop(iprop((∃ f : S256x4096.Idx → Elt F .f32, B0.view.loc (c : Thread nD τ) ↦{fullShare} f) ∗ (∃ f : S256x4096.Idx → Elt F .f32, B1.view.loc (c : Thread nD τ) ↦{fullShare} f))
      ∗ (∃ r, prngReg c r) ∗ iprop(semVal ((c : Thread nD τ), .dma c0) 0 ∗ semVal ((c : Thread nD τ), .dma c1) 0)
      ∗ iprop(Ys.view.loc (c : Thread nD τ) ↦{fullShare} ysV m c)) := by
  unfold inv
  rw [Pipeline.ΦD_eq, scopedRest0_eq, ownSems_eq, src_eq]; try rfl

/-- Window `w`'s block at point `t`, of its array as the reshape leaves it. -/
def inBlk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The output tile after point `t`. -/
def tile (hO : Ok m) (hB : Bnd m) (c : Dev nD) (t : Fin (cfgM m hO).N) : Vec F S256x4096 .f32 :=
  res (grid0.coords t) (t0 m) (t1 m) (hB.w0 m (grid0.coords t)) (hB.w1 m (grid0.coords t)) (ysV m c) (inBlk m hO c 0 t) (inBlk m hO c 1 t) (inBlk m hO c 2 t)

def dats (hO : Ok m) (hB : Bnd m) (_ : Fin 1) (c : Dev nD) : Dat τ (Elt F) Unit ℕ (Pipeline.UD sig nD τ) ℕ (cfgM m hO) c where
  A w := V m c (Pipeline.arrRef spec0 w)
  after w t := match w with
    | ⟨0, _⟩ => inBlk m hO c 0 t
    | ⟨1, _⟩ => inBlk m hO c 1 t
    | ⟨2, _⟩ => inBlk m hO c 2 t
    | ⟨3, _⟩ => tile m hO hB c t
  Φ _ := iprop(inv m c ∗ Pipeline.ΦT pre0 (tbl m) c)
  q _ := fullShare
  owed _ := 0

theorem A_eq (hO : Ok m) (hB : Bnd m) (c : Dev nD) (w : Fin (cfgM m hO).W) : (dats m hO hB 0 c).A w = V m c (Pipeline.arrRef spec0 w) := by
  dsimp only [dats]

theorem after_0 (hO : Ok m) (hB : Bnd m) (c : Dev nD) (t : Fin (cfgM m hO).N) : (dats m hO hB 0 c).after 0 t = inBlk m hO c 0 t := by dsimp only [dats]; try rfl
theorem after_1 (hO : Ok m) (hB : Bnd m) (c : Dev nD) (t : Fin (cfgM m hO).N) : (dats m hO hB 0 c).after 1 t = inBlk m hO c 1 t := by dsimp only [dats]; try rfl
theorem after_2 (hO : Ok m) (hB : Bnd m) (c : Dev nD) (t : Fin (cfgM m hO).N) : (dats m hO hB 0 c).after 2 t = inBlk m hO c 2 t := by dsimp only [dats]; try rfl
theorem after_3 (hO : Ok m) (hB : Bnd m) (c : Dev nD) (t : Fin (cfgM m hO).N) : (dats m hO hB 0 c).after 3 t = tile m hO hB c t := by dsimp only [dats]; try rfl

/- Each input's buffer holds its block at every point: where it is not fetched the block has not moved. -/
theorem before_0 (hO : Ok m) (hB : Bnd m) (c : Dev nD) (t : Fin (cfgM m hO).N) (d) : (dats m hO hB 0 c).before 0 t d = inBlk m hO c 0 t :=
  ((dats m hO hB 0 c).before_in_eq_fetched 0 rfl (fun _ => rfl) (fun _ _ _ => rfl)
    (fun t => by rw [after_0]; unfold Dat.blockOf inBlk; rw [A_eq]; try rfl) t d).trans
    (by unfold Dat.fetched Dat.blockOf inBlk; rw [A_eq]; try rfl)

theorem before_1 (hO : Ok m) (hB : Bnd m) (c : Dev nD) (t : Fin (cfgM m hO).N) (d) : (dats m hO hB 0 c).before 1 t d = inBlk m hO c 1 t :=
  ((dats m hO hB 0 c).before_in_eq_fetched 1 rfl (fun _ => rfl) (fun _ _ _ => rfl)
    (fun t => by rw [after_1]; unfold Dat.blockOf inBlk; rw [A_eq]; try rfl) t d).trans
    (by unfold Dat.fetched Dat.blockOf inBlk; rw [A_eq]; try rfl)

theorem before_2 (hO : Ok m) (hB : Bnd m) (c : Dev nD) (t : Fin (cfgM m hO).N) (d) : (dats m hO hB 0 c).before 2 t d = inBlk m hO c 2 t :=
  ((dats m hO hB 0 c).before_in_eq_fetched 2 rfl (fun _ => rfl) (fun _ _ _ => rfl)
    (fun t => by rw [after_2]; unfold Dat.blockOf inBlk; rw [A_eq]; try rfl) t d).trans
    (by unfold Dat.fetched Dat.blockOf inBlk; rw [A_eq]; try rfl)

/-! ## The body at a point -/

/-- The body as the pipeline calls it at point `t`. -/
abbrev bodyAt (hO : Ok m) (t : Fin (cfgM m hO).N) : Prog (TpuEff nD τ sig (Elt F) Λ₀ .tc) PUnit :=
  cc0_moe_combine (grid0.coords t) T0 (Memref.isWhole_whole _) T1 (Memref.isWhole_whole _) Ys (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) B0 (Memref.isWhole_whole _) B1 (Memref.isWhole_whole _) cc0_scratch2

theorem point (hO : Ok m) (hB : Bnd m) (c : Dev nD) (t : Fin (cfgM m hO).N) :
    iprop((dats m hO hB 0 c).Φ t.castSucc ∗ (dats m hO hB 0 c).owesAt () t.castSucc
      ∗ (∃ d, owns (c : Thread nD τ) (spec0_0.stage ((cfgM m hO).slots t 0)) fullShare ((dats m hO hB 0 c).before 0 t d)) ∗ (∃ d, owns (c : Thread nD τ) (spec0_1.stage ((cfgM m hO).slots t 1)) fullShare ((dats m hO hB 0 c).before 1 t d)) ∗ (∃ d, owns (c : Thread nD τ) (spec0_2.stage ((cfgM m hO).slots t 2)) fullShare ((dats m hO hB 0 c).before 2 t d)) ∗ (∃ d, owns (c : Thread nD τ) (spec0_3.stage ((cfgM m hO).slots t 3)) fullShare ((dats m hO hB 0 c).before 3 t d)))
      ⊢ wp frame (wpE (defs₀ (F := F)) Variants.none c none) Set.univ (bodyAt m hO t) (fun _ =>
        iprop((dats m hO hB 0 c).Φ t.succ ∗ (dats m hO hB 0 c).owesAt () t.succ
          ∗ owns (c : Thread nD τ) (spec0_0.stage ((cfgM m hO).slots t 0)) fullShare ((dats m hO hB 0 c).after 0 t) ∗ owns (c : Thread nD τ) (spec0_1.stage ((cfgM m hO).slots t 1)) fullShare ((dats m hO hB 0 c).after 1 t) ∗ owns (c : Thread nD τ) (spec0_2.stage ((cfgM m hO).slots t 2)) fullShare ((dats m hO hB 0 c).after 2 t) ∗ owns (c : Thread nD τ) (spec0_3.stage ((cfgM m hO).slots t 3)) fullShare ((dats m hO hB 0 c).after 3 t))) := by
  unfold bodyAt
  simp only [before_0, before_1, before_2, after_0, after_1, after_2, after_3]
  rw [show (dats m hO hB 0 c).Φ t.succ = iprop(inv m c ∗ Pipeline.ΦT pre0 (tbl m) c) from rfl,
    show (dats m hO hB 0 c).Φ t.castSucc = iprop(inv m c ∗ Pipeline.ΦT pre0 (tbl m) c) from rfl,
    show (dats m hO hB 0 c).owesAt () t.succ = (dats m hO hB 0 c).owesAt () t.castSucc from rfl, halves_eq, inv_eq]
  unfold Dat.owesAt Pipeline.owesWithin
  rw [show (dats m hO hB 0 c).owed t.castSucc = 0 from rfl]
  iintro ⟨⟨⟨⟨HB0, HB1⟩, Hg, ⟨HS0, HS1⟩, HY⟩, HT0, HT1⟩, ⟨%W, %hW, Ho⟩, ⟨%d0, H0⟩, ⟨%d1, H1⟩, ⟨%d2, H2⟩, ⟨%d3, H3⟩⟩
  iapply (body_wp c (grid0.coords t) (t0 m) (t1 m) (hB.w0 m (grid0.coords t)) (hB.w1 m (grid0.coords t)) (ysV m c) _ _ _ _ _ _ _ _ (inBlk m hO c 0 t) (inBlk m hO c 1 t) (inBlk m hO c 2 t) _)
  isplitl [H0]; · iexact H0
  isplitl [H1]; · iexact H1
  isplitl [H2]; · iexact H2
  isplitl [H3]; · iexists _; iexact H3
  isplitl [HB0]; · iexact HB0
  isplitl [HB1]; · iexact HB1
  isplitl [HS0]; · iexact HS0
  isplitl [HS1]; · iexact HS1
  isplitl [Ho]; · iexists _; iexact Ho
  isplitl [HY]; · iexact HY
  isplitl [HT0]; · iexact HT0
  isplitl [HT1]; · iexact HT1
  iintro ⟨H0, H1, H2, H3, HB0, HB1, HS0, HS1, ⟨%W', Ho⟩, HY, HT0, HT1⟩
  isplitl [HB0 HB1 Hg HS0 HS1 HY HT0 HT1]
  · isplitl [HB0 HB1 Hg HS0 HS1 HY]
    · isplitl [HB0 HB1]
      · isplitl [HB0]; · iexact HB0
        iexact HB1
      isplitl [Hg]; · iexact Hg
      isplitl [HS0 HS1]
      · isplitl [HS0]; · iexact HS0
        iexact HS1
      iexact HY
    isplitl [HT0]; · iexact HT0
    iexact HT1
  isplitl [Ho]
  · iexists W'; isplitr; · ipureintro; exact fun _ _ => Or.inl trivial
    iexact Ho
  isplitl [H0]; · iexact H0
  isplitl [H1]; · iexact H1
  isplitl [H2]; · iexact H2
  iexact H3

theorem row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem obligation (hO : Ok m) (hB : Bnd m) (c : Dev nD) : BodyObligation (dats (F := F) m hO hB 0 c) (defs₀ (F := F)) Variants.none () Set.univ := fun t => by
  rw [bigSep_W0, bigSep_W0, row m hO]
  exact triple_restated (point m hO hB c t) rfl .rfl fun _ => .rfl

/-! ## The run -/

theorem drop_tables (c : Dev nD) : (iprop(inv m c ∗ Pipeline.ΦT pre0 (tbl m) c) : sProp 𝕄) ⊢ Pipeline.ΦD osem spec0 src (V m) c := by
  unfold inv
  iintro ⟨H, -⟩
  iexact H

set_option backward.isDefEq.respectTransparency.types false in
theorem run (hO : Ok m) (hB : Bnd m) : θ_run defs (onTc (τ := τ) (main (F := F))) (s₀ m ρ) (fun r => (Pipeline.FramePost (Pipeline.pin pcfgs fun _ => adm m hO) (dats m hO hB) 0 (V m)) r ∧ r.2.sem = fun _ => 0) :=
  Pipeline.θ_run_frameP_dma (Q' := _) pcfgs (fun _ => adm m hO) (dats m hO hB) (0 : Fin 1) launch0 osem defs₀ Variants.none ownSem src src_sub m ρ main
    (hbody := fun c => (obligation m hO hB c).loose) (hshare := fun c => (dats m hO hB 0 c).share_full fun _ => rfl)
    (howed := fun _ _ => rfl) (V := V m) (hmain := prefix_wp m) (hA := A_eq m hO hB) (hpf := V_tbl m)
    (hin := fun _ => .rfl) (hout := fun c => drop_tables m c)

/-- Every argument ends as it was and every semaphore at zero. -/
theorem frame_of_ok (hO : Ok m) (hB : Bnd m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (by decide : main_arg0 ∈ Pipeline.restRefs sig spec0)).trans (V_a0 m c), ((h.1 c).2 main_arg1 (by decide : main_arg1 ∈ Pipeline.restRefs sig spec0)).trans (V_a1 m c), ((h.1 c).2 main_arg2 (by decide : main_arg2 ∈ Pipeline.restRefs sig spec0)).trans (V_a2 m c), ((h.1 c).1 0).trans (((dats m hO hB 0 c).arrAt_in 0 rfl _).trans ((A_eq m hO hB c 0).trans (V_a3 m c))), ((h.1 c).1 1).trans (((dats m hO hB 0 c).arrAt_in 1 rfl _).trans ((A_eq m hO hB c 1).trans (V_a4 m c))), ((h.1 c).2 main_arg5 (by decide : main_arg5 ∈ Pipeline.restRefs sig spec0)).trans (V_a5 m c)⟩, h.2⟩) (run m ρ hO hB)

end Cert.CombineIdeal.Hand

end
-- ==== Proof.CombineClaim.lean ====
/-
  The combination of the experts' outputs: each token's two rows, copied from where the tables say they are,
  weighted by the router's weights, scaled by the gate and added to the residual, against the reference's indexing.
-/
module

public import proofs.«01_k».proof.Defs
public import proofs.«01_k».proof.Proof.Gen.Combine
public import proofs.«01_k».proof.Proof.CombineIdealLaunch
public import proofs.«01_k».proof.Proof.Gen.CombineRefIdeal.Read
public import proofs.«01_k».proof.Proof.Gen.CombineRefIdeal.Run
public import proofs.«01_k».proof.Proof.Gen.Pre_rows_in
public import Idealize.ShloMosaic.Lib.Pointwise
public import Idealize.ShloMosaic.Lib.ReduceAll
public import Idealize.ShloMosaic.Lib.Routing.Ops

@[expose] public section

set_option maxRecDepth 16384

noncomputable section

open Idealize.ShloMosaic Idealize.ShloMosaic.TcCoe Idealize.SL.Sem

namespace Cert.CombineClaim

/-- A word that is not negative and below the rows' count is one of the rows. -/
theorem lt_of_bits (v : BitVec 32) (h : IntOp.andi (IntOp.cmpi .sge v 0#32) (IntOp.cmpi .slt v 20480#32) = 1#1) : v.toNat < 20480 := by
  have h2 := IntOp.andi_eq_one.mp h
  rw [WordCmp.cmpi_sge_eq, WordCmp.cmpi_slt_eq] at h2
  have b : ∀ c : Bool, BitVec.ofBool c = 1#1 ↔ c = true := by decide
  rw [b, b, decide_eq_true_eq, decide_eq_true_eq] at h2
  have e0 : (0#32).toInt = 0 := by decide
  have e8 : (20480#32).toInt = 20480 := by decide
  rw [e0, e8] at h2
  have h3 := v.isLt
  rw [BitVec.toInt_eq_toNat_cond] at h2
  split at h2 <;> omega

/-- What the precondition says of the two tables. -/
theorem words_of_pre {F : FTy → Type} [FloatOps F] (p q : IVec Cert.Pre_rows_in.S8192 32) (ys : FVec F Cert.Pre_rows_in.S20480x4096 .f32) (x : FVec F Cert.Pre_rows_in.S8192x4096 .f32)
    (s : FVec F Cert.Pre_rows_in.S8192x128 .f32) (g : FVec F Cert.Pre_rows_in.S2x4096 .f32) (h : Cert.Pre_rows_in.fn (F := F) p q ys x s g = fun _ => 1#1) :
    (∀ y : Cert.Pre_rows_in.S8192.Idx, (p y).toNat < 20480) ∧ ∀ y : Cert.Pre_rows_in.S8192.Idx, (q y).toNat < 20480 := by
  have h0 := congrFun h (fun a => a.elim0)
  unfold Cert.Pre_rows_in.fn at h0
  haveI : Subsingleton Cert.Pre_rows_in.S_.Idx := ⟨fun a b => funext fun k => k.elim0⟩
  have h1 := IntOp.andi_eq_one.mp h0
  exact ⟨fun y => lt_of_bits _ (Host.reduce_andi_all _ _ _ _ _ h1.1 y), fun y => lt_of_bits _ (Host.reduce_andi_all _ _ _ _ _ h1.2 y)⟩

/-- The kernel and its idealisation have the same text, so their bodies are the same, over any floats. -/
theorem defs_eq {F : FTy → Type} [FloatOps F] : Cert.Combine.defs (F := F) = Cert.CombineIdeal.defs (F := F) := by
  refine congrArg (Pipeline.defs Cert.Combine.pcfgs) (congrArg (Defs.onTc (nD := Cert.Combine.nD) (τ := Cert.Combine.τ)) (funext fun l => funext fun x => ?_))
  match l, x with
  | 0, (t, s) => rfl

/-- The kernel's frame, from the run of its idealisation read over words. -/
theorem frame_p : Cert.quiescent_Combine := fun m ρ hp => by
  rw [defs_eq]
  have h := words_of_pre _ _ _ _ _ _ (hp 0)
  exact Cert.CombineIdeal.Hand.frame_of_ok (F := Bits) m ρ trivial
    ⟨fun y => (congrArg (fun t : Cert.CombineIdeal.S8192.Idx → BitVec 32 => (t y).toNat) (Cert.CombineIdeal.Hand.V_a0 (F := Bits) m 0)).trans_lt (h.1 y),
      fun y => (congrArg (fun t : Cert.CombineIdeal.S8192.Idx → BitVec 32 => (t y).toNat) (Cert.CombineIdeal.Hand.V_a1 (F := Bits) m 0)).trans_lt (h.2 y)⟩

theorem bnd {m} (hp : Cert.Pre_CombineIdeal m) : Cert.CombineIdeal.Hand.Bnd m :=
  have h := words_of_pre _ _ _ _ _ _ (hp 0)
  ⟨fun y => (congrArg (fun t : Cert.CombineIdeal.S8192.Idx → BitVec 32 => (t y).toNat) (Cert.CombineIdeal.Hand.V_a0 m 0)).trans_lt (h.1 y),
    fun y => (congrArg (fun t : Cert.CombineIdeal.S8192.Idx → BitVec 32 => (t y).toNat) (Cert.CombineIdeal.Hand.V_a1 m 0)).trans_lt (h.2 y)⟩

theorem frame_pi : Cert.quiescent_CombineIdeal := fun m ρ hp => Cert.CombineIdeal.Hand.frame_of_ok m ρ trivial (bnd hp)

theorem frame_ri : Cert.quiescent_CombineRefIdeal := fun m ρ _ =>
  (θ_run Cert.CombineRefIdeal.defs _ _).mono (fun r h => ⟨fun c => (h c).2, sem_eq_zero_of_no_sems (by decide) r.2⟩)
    (Cert.CombineRefIdeal.Value.run m ρ)

theorem frame_ri_pre : Cert.quiescent_CombineRefIdeal_pre_rows_in := fun m ρ _ =>
  (θ_run Cert.CombineRefIdeal.defs _ _).mono (fun r h => ⟨fun c => (h c).2, sem_eq_zero_of_no_sems (by decide) r.2⟩)
    (Cert.CombineRefIdeal.Value.run m ρ)

end Cert.CombineClaim

namespace Cert.CombineIdeal.Hand

open Cert.CombineIdeal Cert.CombineIdeal.Gen Idealize.ShloMosaic.Pointwise

/-- The experts' outputs, the residual, the router's weights, the gate and a table at natural-number coordinates. -/
def yAt (x : S20480x4096.Idx → EReal) (r c : ℕ) : EReal := x (ix2 (Fin.ofNat 20480 r) (Fin.ofNat 4096 c))
def xAt (x : S8192x4096.Idx → EReal) (r c : ℕ) : EReal := x (ix2 (Fin.ofNat 8192 r) (Fin.ofNat 4096 c))
def sAt (x : S8192x128.Idx → EReal) (r c : ℕ) : EReal := x (ix2 (Fin.ofNat 8192 r) (Fin.ofNat 128 c))
def gAt (x : S2x4096.Idx → EReal) (b c : ℕ) : EReal := x (ix2 (Fin.ofNat 2 b) (Fin.ofNat 4096 c))
def pAt (t : S8192.Idx → BitVec 32) (r : ℕ) : ℕ := (t (ix1 (Fin.ofNat 8192 r))).toNat

/-- Entry `(r, j)` of the array the call ends with. -/
def entry (p q : S8192.Idx → BitVec 32) (ys : S20480x4096.Idx → EReal) (x : S8192x4096.Idx → EReal) (s : S8192x128.Idx → EReal) (g : S2x4096.Idx → EReal) (r j : ℕ) : EReal :=
  xAt x r j + gAt g (r / 4096) j * (sAt s r 2 * yAt ys (pAt p r) j + sAt s r 3 * yAt ys (pAt q r) j)

variable (m : (ℓ : Loc nD τ sig) → Buf (Elt Ideal) ℓ)

abbrev aP (c : Dev nD) : S8192.Idx → BitVec 32 := m ((c : Thread nD τ).loc main_arg0)
abbrev aQ (c : Dev nD) : S8192.Idx → BitVec 32 := m ((c : Thread nD τ).loc main_arg1)
abbrev aY (c : Dev nD) : S20480x4096.Idx → EReal := m ((c : Thread nD τ).loc main_arg2)
abbrev aX (c : Dev nD) : S8192x4096.Idx → EReal := m ((c : Thread nD τ).loc main_arg3)
abbrev aS (c : Dev nD) : S8192x128.Idx → EReal := m ((c : Thread nD τ).loc main_arg4)
abbrev aG (c : Dev nD) : S2x4096.Idx → EReal := m ((c : Thread nD τ).loc main_arg5)

/-- The array the call ends with. -/
def result (c : Dev nD) : S8192x4096.Idx → EReal := fun i => entry (aP m c) (aQ m c) (aY m c) (aX m c) (aS m c) (aG m c) (i 0).val (i 1).val

theorem at_0 : ∀ t : Fin grid0.N, cc0_transform_1 (grid0.coords t) 0 = t.val ∧ cc0_transform_1 (grid0.coords t) 1 = 0 := by decide +kernel
theorem at_1 : ∀ t : Fin grid0.N, cc0_transform_2 (grid0.coords t) 0 = t.val ∧ cc0_transform_2 (grid0.coords t) 1 = 0 := by decide +kernel
theorem at_2 : ∀ t : Fin grid0.N, cc0_transform_3 (grid0.coords t) 0 = t.val / 16 ∧ cc0_transform_3 (grid0.coords t) 1 = 0 ∧ cc0_transform_3 (grid0.coords t) 2 = 0 := by decide +kernel
theorem at_3 : ∀ t : Fin grid0.N, cc0_transform_4 (grid0.coords t) 0 = t.val ∧ cc0_transform_4 (grid0.coords t) 1 = 0 := by decide +kernel
theorem crd : ∀ t : Fin grid0.N, (grid0.coords t 0).val = t.val := by decide +kernel

theorem lt_N (hO : Ok m) (t : Fin (cfgM m hO).N) : t.val < 32 := lt_of_lt_of_eq t.isLt (show grid0.N = 32 from N_0)

theorem off1_eq (i : grid0.Coords) (k : Fin n) : k0_off1 i k = ![256 * (i 0).val + k.val] := by
  have h0 : (i 0).val < 32 := (i 0).isLt
  have h : k.val < 256 := n_eq ▸ k.isLt
  have e := iv_val k
  unfold k0_off1
  simp only [Scalar.muli, Scalar.addi, Scalar.indexCast, IntOp.muli, IntOp.addi]
  congr 1
  simp [BitVec.toNat_add, BitVec.toNat_mul, e]
  omega
theorem off4_eq (i : grid0.Coords) (k : Fin n) : k0_off4 i k = ![256 * (i 0).val + k.val] := off1_eq i k

theorem w0_eq (tb : S8192.Idx → BitVec 32) (i : grid0.Coords) (k : Fin n) : (w0 tb i k).toNat = pAt tb (256 * (i 0).val + k.val) := by
  have h0 : (i 0).val < 32 := (i 0).isLt
  have h : k.val < 256 := n_eq ▸ k.isLt
  unfold w0 pAt
  congr 2
  funext a
  apply Fin.ext
  match a with
  | ⟨0, _⟩ =>
    show k0_off1 i k 0 + 1 * 0 = (256 * (i 0).val + k.val) % 8192
    rw [off1_eq]
    show 256 * (i 0).val + k.val + 1 * 0 = _
    omega
theorem w1_eq (tb : S8192.Idx → BitVec 32) (i : grid0.Coords) (k : Fin n) : (w1 tb i k).toNat = pAt tb (256 * (i 0).val + k.val) := w0_eq tb i k

theorem gath_eq (w : Fin n → BitVec 32) (hw : ∀ k, (w k).toNat < 20480) (ys : S20480x4096.Idx → EReal) (r : Fin 256) (j : Fin 4096) :
    gath (F := Ideal) w hw ys (ix2 r j) = yAt ys (w (rowOf (ix2 r j))).toNat j.val := by
  unfold gath yAt
  congr 1
  have := hw (rowOf (ix2 r j))
  funext a
  apply Fin.ext
  match a with
  | ⟨0, _⟩ => show (w (rowOf (ix2 r j))).toNat = (w (rowOf (ix2 r j))).toNat % 20480; omega
  | ⟨1, _⟩ => show j.val = j.val % 4096; omega

theorem blk0 (hO : Ok m) (c : Dev nD) (t : Fin (cfgM m hO).N) (r : Fin 256) (j : Fin 4096) :
    (inBlk m hO c 0 t : Vec Ideal S256x4096 .f32) (ix2 r j) = xAt (aX m c) (256 * t.val + r.val) j.val := by
  have hi := at_0 t
  have ht := lt_N m hO t
  have hr := r.isLt
  have hj := j.isLt
  unfold xAt
  show V m c main_arg3 ((((cfgM m hO).win 0).blk t).view.emb (ix2 r j)) = _
  rw [V_a3]
  congr 1
  funext a
  apply Fin.ext
  match a with
  | ⟨0, _⟩ => show cc0_transform_1 (grid0.coords t) 0 * 256 + 1 * r.val = (_ : ℕ) % 8192; rw [hi.1]; omega
  | ⟨1, _⟩ => show cc0_transform_1 (grid0.coords t) 1 * 4096 + 1 * j.val = j.val % 4096; rw [hi.2]; omega

theorem blk1 (hO : Ok m) (c : Dev nD) (t : Fin (cfgM m hO).N) (r : Fin 256) (j : Fin 128) :
    (inBlk m hO c 1 t : Vec Ideal S256x128 .f32) (ix2 r j) = sAt (aS m c) (256 * t.val + r.val) j.val := by
  have hi := at_1 t
  have ht := lt_N m hO t
  have hr := r.isLt
  have hj := j.isLt
  unfold sAt
  show V m c main_arg4 ((((cfgM m hO).win 1).blk t).view.emb (ix2 r j)) = _
  rw [V_a4]
  congr 1
  funext a
  apply Fin.ext
  match a with
  | ⟨0, _⟩ => show cc0_transform_2 (grid0.coords t) 0 * 256 + 1 * r.val = (_ : ℕ) % 8192; rw [hi.1]; omega
  | ⟨1, _⟩ => show cc0_transform_2 (grid0.coords t) 1 * 128 + 1 * j.val = j.val % 128; rw [hi.2]; omega

theorem V_v0 (c : Dev nD) : (V m c main_v0 : S2x1x4096.Idx → EReal) = shapeCast _ (aG m c) shapeCasts_S2x4096_S2x1x4096 := by
  unfold V
  simp [hostOps0]
  rfl

theorem blk2 (hO : Ok m) (c : Dev nD) (t : Fin (cfgM m hO).N) (j : Fin 4096) :
    (inBlk m hO c 2 t : Vec Ideal S1x1x4096 .f32) (ix3 (0 : Fin 1) (0 : Fin 1) j) = gAt (aG m c) (t.val / 16) j.val := by
  have hi := at_2 t
  have ht := lt_N m hO t
  have hj := j.isLt
  unfold gAt
  show V m c main_v0 ((((cfgM m hO).win 2).blk t).view.emb (ix3 (0 : Fin 1) (0 : Fin 1) j)) = _
  rw [V_v0]
  have key : ∀ q : S2x1x4096.Idx, (q 0).val = t.val / 16 → (q 2).val = j.val → shapeCast S2x1x4096 (aG m c) shapeCasts_S2x4096_S2x1x4096 q = aG m c (ix2 (Fin.ofNat 2 (t.val / 16)) (Fin.ofNat 4096 j.val)) := by
    intro q e0 e2
    have h1 : (q 1).val < 1 := (q 1).isLt
    refine shapeCast_apply _ _ _ _ ?_
    rw [Shape.rowMajor_val_two, Shape.rowMajor_val_three]
    show (t.val / 16 % 2) * 4096 + j.val % 4096 = ((q 0).val * 1 + (q 1).val) * 4096 + (q 2).val
    rw [e0, e2]
    omega
  refine key _ ?_ ?_
  · show cc0_transform_3 (grid0.coords t) 0 * 1 + 1 * 0 = _
    rw [hi.1]; omega
  · show cc0_transform_3 (grid0.coords t) 2 * 4096 + 1 * j.val = _
    rw [hi.2.2]; omega

/-- The body's tile, entry by entry. -/
theorem pay1_apply (a b : Vec Ideal S256x1 .f32) (y z x : Vec Ideal S256x4096 .f32) (g : Vec Ideal S1x1x4096 .f32) (r : Fin 256) (j : Fin 4096) :
    k0_pay1 (F := Ideal) a b y z x g (ix2 r j)
      = x (ix2 r j) + g (ix3 (0 : Fin 1) (0 : Fin 1) j) * (a (ix2 r (0 : Fin 1)) * y (ix2 r j) + b (ix2 r (0 : Fin 1)) * z (ix2 r j)) := by
  pointwise [k0_pay1]

/-- Every point writes its block back: successive points' output blocks differ. -/
theorem flush_3 (hO : Ok m) (t : Fin (cfgM m hO).N) : ((cfgM m hO).win 3).flush t = true :=
  (Pipeline.Window.flushOf_reads cc0_transform_4 reads0_3 hreads0_3 1 (by decide) (by decide)
    (Pipeline.Window.sep_of_coord cc0_transform_4 0 0 (fun _ => rfl) (by decide)) (P := 1) (m := 0) (by decide) rfl t).mpr (Nat.mod_one _)

theorem flushed_eq (hO : Ok m) (hB : Bnd m) (c : Dev nD) (t : Fin (cfgM m hO).N) :
    (dats m hO hB 0 c).flushed 3 t = (((cfgM m hO).win 3).blk t).view.read (Elt Ideal) (result m c) := by
  have ht := lt_N m hO t
  have hi := at_3 t
  have hc := crd t
  show (((cfgM m hO).win 3).cut ((cfgM m hO).grid.coords t) ((dats m hO hB 0 c).after 3 t)) = _
  rw [after_3]
  refine funext fun (j : S256x4096.Idx) => ?_
  obtain ⟨r, d, rfl⟩ : ∃ (r : Fin 256) (d : Fin 4096), j = ix2 r d := ⟨j 0, j 1, by funext a; match a with | ⟨0, _⟩ => rfl | ⟨1, _⟩ => rfl⟩
  show tile m hO hB c t (ix2 r d) = result m c ((((cfgM m hO).win 3).blk t).view.emb (ix2 r d))
  have hr := r.isLt
  have hd := d.isLt
  have hP : t0 m = aP m c := by obtain rfl : c = 0 := Subsingleton.elim _ _; exact V_a0 m 0
  have hQ : t1 m = aQ m c := by obtain rfl : c = 0 := Subsingleton.elim _ _; exact V_a1 m 0
  have hY : ysV m c = aY m c := V_a2 m c
  have s2 : View.ld (inBlk m hO c 1 t : Vec Ideal S256x128 .f32) (Rect.unit (s := S256x128) ![0, 2] S256x1.size inb_S256x128_S256x1_0_2) (ix2 r (0 : Fin 1)) = sAt (aS m c) (256 * t.val + r.val) 2 := by
    refine Eq.trans ?_ (blk1 m hO c t r (2 : Fin 128))
    show (inBlk m hO c 1 t : Vec Ideal S256x128 .f32) _ = (inBlk m hO c 1 t : Vec Ideal S256x128 .f32) _
    congr 1
    funext a
    apply Fin.ext
    match a with
    | ⟨0, _⟩ => show 0 + 1 * r.val = r.val; omega
    | ⟨1, _⟩ => rfl
  have s3 : View.ld (inBlk m hO c 1 t : Vec Ideal S256x128 .f32) (Rect.unit (s := S256x128) ![0, 3] S256x1.size inb_S256x128_S256x1_0_3) (ix2 r (0 : Fin 1)) = sAt (aS m c) (256 * t.val + r.val) 3 := by
    refine Eq.trans ?_ (blk1 m hO c t r (3 : Fin 128))
    show (inBlk m hO c 1 t : Vec Ideal S256x128 .f32) _ = (inBlk m hO c 1 t : Vec Ideal S256x128 .f32) _
    congr 1
    funext a
    apply Fin.ext
    match a with
    | ⟨0, _⟩ => show 0 + 1 * r.val = r.val; omega
    | ⟨1, _⟩ => rfl
  have key : ∀ q : S8192x4096.Idx, (q 0).val = 256 * t.val + r.val → (q 1).val = d.val → tile m hO hB c t (ix2 r d) = result m c q := by
    intro q e0 e1
    have y0 : gath (F := Ideal) (w0 (t0 m) (grid0.coords t)) (hB.w0 m (grid0.coords t)) (ysV m c) (ix2 r d) = yAt (aY m c) (pAt (aP m c) (256 * t.val + r.val)) d.val :=
      (gath_eq _ _ _ r d).trans (by rw [w0_eq, hP, hY, hc]; rfl)
    have y1 : gath (F := Ideal) (w1 (t1 m) (grid0.coords t)) (hB.w1 m (grid0.coords t)) (ysV m c) (ix2 r d) = yAt (aY m c) (pAt (aQ m c) (256 * t.val + r.val)) d.val :=
      (gath_eq _ _ _ r d).trans (by rw [w1_eq, hQ, hY, hc]; rfl)
    unfold tile result entry res
    rw [e0, e1, show (256 * t.val + r.val) / 4096 = t.val / 16 by omega]
    refine (pay1_apply _ _ _ _ _ _ _ _).trans ?_
    exact congrArg₂ (· + ·) (blk0 m hO c t r d) (congrArg₂ (· * ·) (blk2 m hO c t d) (congrArg₂ (· + ·) (congrArg₂ (· * ·) s2 y0) (congrArg₂ (· * ·) s3 y1)))
  refine key _ ?_ ?_
  · show cc0_transform_4 (grid0.coords t) 0 * 256 + 1 * r.val = _
    rw [hi.1]; omega
  · show cc0_transform_4 (grid0.coords t) 1 * 4096 + 1 * d.val = _
    rw [hi.2]; omega

theorem cover (hO : Ok m) (i : S8192x4096.Idx) : ∃ t : Fin (cfgM m hO).N, ((cfgM m hO).win 3).flush t = true ∧ i ∈ (((cfgM m hO).win 3).blk t).view.set := by
  have h0 : (i 0).val < 8192 := (i 0).isLt
  have h1 : (i 1).val < 4096 := (i 1).isLt
  have hN : (cfgM m hO).N = 32 := N_0
  obtain ⟨n, hn, hv⟩ : ∃ n : ℕ, n < (cfgM m hO).N ∧ n = (i 0).val / 256 := ⟨_, by omega, rfl⟩
  have hi := at_3 ⟨n, hn⟩
  dsimp only at hi
  refine ⟨⟨n, hn⟩, flush_3 m hO _, ?_⟩
  show i ∈ ((View.whole main_v1).slice (Rect.block (s := S8192x4096) S256x4096.size (cc0_transform_4 (grid0.coords ⟨n, hn⟩)) (Facts₀.hinb0_3 _))).set
  rw [View.set_slice_whole, Rect.mem_set_unit]
  intro a
  match a with
  | ⟨0, _⟩ => show cc0_transform_4 (grid0.coords ⟨n, hn⟩) 0 * 256 ≤ (i 0).val ∧ (i 0).val < cc0_transform_4 (grid0.coords ⟨n, hn⟩) 0 * 256 + 256; rw [hi.1]; omega
  | ⟨1, _⟩ => show cc0_transform_4 (grid0.coords ⟨n, hn⟩) 1 * 4096 ≤ (i 1).val ∧ (i 1).val < cc0_transform_4 (grid0.coords ⟨n, hn⟩) 1 * 4096 + 4096; rw [hi.2]; omega

theorem arr_eq (hO : Ok m) (hB : Bnd m) (c : Dev nD) : (dats m hO hB 0 c).arrAt 3 (cfgM m hO).N = result m c :=
  (dats m hO hB 0 c).arrAt_eq_of_cover 3 (result m c) (fun t _ => flushed_eq m hO hB c t) (cover m hO)

end Cert.CombineIdeal.Hand

namespace Cert.CombineClaim

open Cert.CombineRefIdeal Cert.CombineRefIdeal.Gen Cert.CombineRefIdeal.Facts Cert.CombineRefIdeal.Read
open Cert.CombineIdeal.Hand (yAt xAt sAt gAt pAt entry result)
open Idealize.ShloMosaic.Pointwise

variable (p q : S8192.Idx → BitVec 32) (ys : S20480x4096.Idx → EReal) (x : S8192x4096.Idx → EReal) (s : S8192x128.Idx → EReal) (g : S2x4096.Idx → EReal)

/-- A row's position is not negative, so the indexing takes it as it is. -/
theorem not_neg (v w : BitVec 32) (h : v.toNat < 20480) : (if IntOp.cmpi .slt v 0#32 = 1#1 then w else v) = v := by
  rw [WordCmp.cmpi_slt_eq, WordCmp.toInt_eq_toNat_of_lt_half (by omega)]
  have e0 : (0#32).toInt = 0 := by decide
  rw [e0, decide_eq_false (by omega)]
  exact if_neg (by decide)

theorem start_0 (hp : ∀ y, (p y).toNat < 20480) (r : Fin 8192) : val_main_v6 (F := Ideal) p (ix2 r (0 : Fin 1)) = p (ix1 r) := by
  rw [val_main_v6_apply, show idx_main_v6 (ix2 r (0 : Fin 1)) = ix1 r from funext fun a => match a with | ⟨0, _⟩ => rfl,
    val_main_v5_apply, val_main_v2_apply, val_main_v1_apply, val_main_c_apply]
  exact not_neg _ _ (hp _)
theorem start_1 (hq : ∀ y, (q y).toNat < 20480) (r : Fin 8192) : val_main_v16 (F := Ideal) q (ix2 r (0 : Fin 1)) = q (ix1 r) := by
  rw [val_main_v16_apply, show idx_main_v16 (ix2 r (0 : Fin 1)) = ix1 r from funext fun a => match a with | ⟨0, _⟩ => rfl,
    val_main_v15_apply, val_main_v12_apply, val_main_v11_apply, val_main_c_1_apply]
  exact not_neg _ _ (hq _)

theorem take (t : S8192.Idx → BitVec 32) (ht : ∀ y, (t y).toNat < 20480) (idx : S8192x1.Idx → BitVec 32) (r : Fin 8192) (j : Fin 4096) (h : idx (ix2 r (0 : Fin 1)) = t (ix1 r)) :
    Host.gather gather_S20480x4096_S8192x1_S8192x4096_1_0_n_n_0_1_14096 ys idx (ix2 r j) = yAt ys (pAt t r.val) j.val := by
  have hr := r.isLt
  have hj := j.isLt
  have h2 := ht (ix1 r)
  refine (Routing.gather_row gather_S20480x4096_S8192x1_S8192x4096_1_0_n_n_0_1_14096 rfl rfl rfl rfl rfl ys idx r j ⟨(t (ix1 r)).toNat, h2⟩ (h.trans (BitVec.eq_of_toNat_eq (by rw [BitVec.toNat_ofNat, Nat.mod_eq_of_lt (by omega)]))) (by decide)).trans ?_
  unfold yAt pAt
  have er : (ix1 (Fin.ofNat 8192 r.val) : S8192.Idx) = ix1 r := by
    funext a; apply Fin.ext
    match a with
    | ⟨0, _⟩ => show r.val % 8192 = r.val; omega
  rw [er]
  congr 1
  funext a
  apply Fin.ext
  match a with
  | ⟨0, _⟩ => show (t (ix1 r)).toNat = (t (ix1 r)).toNat % 20480; omega
  | ⟨1, _⟩ => show j.val = j.val % 4096; omega

/-- The weighted sum of a token's two rows. -/
theorem mix (hp : ∀ y, (p y).toNat < 20480) (hq : ∀ y, (q y).toNat < 20480) (r : Fin 8192) (j : Fin 4096) :
    val_main_v20 (F := Ideal) p q ys s (ix2 r j) = sAt s r.val 2 * yAt ys (pAt p r.val) j.val + sAt s r.val 3 * yAt ys (pAt q r.val) j.val := by
  have hr := r.isLt
  have hj := j.isLt
  rw [val_main_v20_apply, val_main_v9_apply, val_main_v19_apply, val_main_v8_apply, val_main_v18_apply, val_main_v0_apply, val_main_v10_apply]
  have a0 : val_main_v7 (F := Ideal) p ys (ix2 r j) = yAt ys (pAt p r.val) j.val := take ys p hp _ r j (start_0 p hp r)
  have a1 : val_main_v17 (F := Ideal) q ys (ix2 r j) = yAt ys (pAt q r.val) j.val := take ys q hq _ r j (start_1 q hq r)
  rw [a0, a1]
  have b0 : s (idx_main_v0 (idx_main_v8 (ix2 r j))) = sAt s r.val 2 := by
    unfold sAt
    congr 1
    funext a; apply Fin.ext
    match a with
    | ⟨0, _⟩ => show r.val = r.val % 8192; omega
    | ⟨1, _⟩ => rfl
  have b1 : s (idx_main_v10 (idx_main_v18 (ix2 r j))) = sAt s r.val 3 := by
    unfold sAt
    congr 1
    funext a; apply Fin.ext
    match a with
    | ⟨0, _⟩ => show r.val = r.val % 8192; omega
    | ⟨1, _⟩ => rfl
  rw [b0, b1]
  rfl

theorem ref_ix (hp : ∀ y, (p y).toNat < 20480) (hq : ∀ y, (q y).toNat < 20480) (r : Fin 8192) (j : Fin 4096) :
    val_main_v27 (F := Ideal) p q ys x s g (ix2 r j) = entry p q ys x s g r.val j.val := by
  have hr := r.isLt
  have hj := j.isLt
  rw [val_main_v27_apply, val_main_v26_apply, val_main_v21_apply, val_main_v25_apply, val_main_v24_apply, val_main_v22_apply, val_main_v23_apply]
  have a0 : idx_main_v23 (idx_main_v27 (ix2 r j)) = ix2 r j := by
    funext a; apply Fin.ext
    match a with
    | ⟨0, _⟩ => show (((r.val * 4096 + j.val) / 16777216 * 4096 + (r.val * 4096 + j.val) / 4096 % 4096) * 4096 + (r.val * 4096 + j.val) % 4096) / 4096 = r.val; omega
    | ⟨1, _⟩ => show (((r.val * 4096 + j.val) / 16777216 * 4096 + (r.val * 4096 + j.val) / 4096 % 4096) * 4096 + (r.val * 4096 + j.val) % 4096) % 4096 = j.val; omega
  have a1 : idx_main_v21 (idx_main_v27 (ix2 r j)) = ix2 r j := a0
  rw [a0, a1, mix p q ys s hp hq]
  unfold entry
  have b0 : x (ix2 r j) = xAt x r.val j.val := by
    unfold xAt
    congr 1
    funext a; apply Fin.ext
    match a with
    | ⟨0, _⟩ => show r.val = r.val % 8192; omega
    | ⟨1, _⟩ => show j.val = j.val % 4096; omega
  have b1 : g (idx_main_v22 (idx_main_v24 (idx_main_v27 (ix2 r j)))) = gAt g (r.val / 4096) j.val := by
    unfold gAt
    congr 1
    funext a; apply Fin.ext
    match a with
    | ⟨0, _⟩ => show (r.val * 4096 + j.val) / 16777216 = r.val / 4096 % 2; omega
    | ⟨1, _⟩ => show (r.val * 4096 + j.val) % 4096 = j.val % 4096; omega
  rw [b0, b1]
  rfl

theorem ref_apply (hp : ∀ y, (p y).toNat < 20480) (hq : ∀ y, (q y).toNat < 20480) (i : S8192x4096.Idx) :
    val_main_v27 (F := Ideal) p q ys x s g i = entry p q ys x s g (i 0).val (i 1).val :=
  (congrArg _ (show i = ix2 (i 0) (i 1) from funext fun a => match a with | ⟨0, _⟩ => rfl | ⟨1, _⟩ => rfl)).trans (ref_ix p q ys x s g hp hq (i 0) (i 1))

end Cert.CombineClaim

namespace Cert.CombineClaim

open Cert.CombineIdeal.Hand

/-- The kernel and the reference end with the same array. -/
theorem algebraic : Cert.algebraic_CombineIdeal_CombineRefIdeal := by
  intro m g m' g' hp hargs
  have hO : Ok m := trivial
  have hB := bnd hp
  have hW := fun c => words_of_pre _ _ _ _ _ _ (hp c)
  refine ⟨fun c => result m c, ?_, ?_⟩
  · exact (θ_run Cert.CombineIdeal.defs _ _).mono (fun r h c => ⟨((h.1 c).1 3).trans (arr_eq m hO hB c),
      ((h.1 c).2 Cert.CombineIdeal.main_arg0 (by decide : Cert.CombineIdeal.main_arg0 ∈ Pipeline.restRefs Cert.CombineIdeal.sig Cert.CombineIdeal.spec0)).trans (V_a0 m c),
      ((h.1 c).2 Cert.CombineIdeal.main_arg1 (by decide : Cert.CombineIdeal.main_arg1 ∈ Pipeline.restRefs Cert.CombineIdeal.sig Cert.CombineIdeal.spec0)).trans (V_a1 m c),
      ((h.1 c).2 Cert.CombineIdeal.main_arg2 (by decide : Cert.CombineIdeal.main_arg2 ∈ Pipeline.restRefs Cert.CombineIdeal.sig Cert.CombineIdeal.spec0)).trans (V_a2 m c),
      ((h.1 c).1 0).trans (((dats m hO hB 0 c).arrAt_in 0 rfl _).trans ((A_eq m hO hB c 0).trans (V_a3 m c))),
      ((h.1 c).1 1).trans (((dats m hO hB 0 c).arrAt_in 1 rfl _).trans ((A_eq m hO hB c 1).trans (V_a4 m c))),
      ((h.1 c).2 Cert.CombineIdeal.main_arg5 (by decide : Cert.CombineIdeal.main_arg5 ∈ Pipeline.restRefs Cert.CombineIdeal.sig Cert.CombineIdeal.spec0)).trans (V_a5 m c)⟩) (run m g hO hB)
  · refine (θ_run Cert.CombineRefIdeal.defs _ _).mono (fun r h c => ⟨(h c).1.trans ?_, (h c).2⟩) (Cert.CombineRefIdeal.Value.run m' g')
    rw [Cert.CombineRefIdeal.Read.val_main_v27_eq]
    funext i
    have ha := hargs c
    rw [ha.1, ha.2.1, ha.2.2.1, ha.2.2.2.1, ha.2.2.2.2.1, ha.2.2.2.2.2]
    exact ref_apply _ _ _ _ _ _ (hW c).1 (hW c).2 i

end Cert.CombineClaim

end

end
-- ==== Proof.GatherIdealLaunch.lean ====
/- The launch of `GatherIdeal`: at a grid point the body copies, for each of the tile's 256 rows, the token's row the
   table names into its scratch buffer — one batch of 256 copies on one semaphore, all started by a first loop and
   all waited for by a second — and then stores the buffer narrowed to bf16. -/
module

public import proofs.«01_k».proof.Proof.Gen.GatherIdeal.Launch
public import proofs.«01_k».proof.Proof.Gen.GatherIdeal.Skeleton
public import Idealize.ShloMosaic.Lib.Pipeline.FrameBody
public import Idealize.ShloMosaic.Lib.Pipeline.Value
public import Idealize.ShloMosaic.Lib.Tactic
public import Idealize.ShloMosaic.Lib.Batch
public import Idealize.ShloMosaic.Lib.Ring
public import Idealize.ShloMosaic.Lib.WordCmp
public import Idealize.ShloMosaic.Lib.Claim

@[expose] public section

set_option maxRecDepth 16384

noncomputable section

namespace Cert.GatherIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.GatherIdeal.Gen

variable {F : FTy → Type} [FloatOps F]

local notation "𝕄" => MT nD τ sig Unit (Elt F) ℕ (Pipeline.UD sig nD τ) ℕ

abbrev T0 : Memref sig .tc .smem S20480 .i32 := Memref.whole main_arg0
abbrev Xs : Memref sig .tc .hbm S8192x4096 .f32 := Memref.whole main_arg1
abbrev B0 : Memref sig .tc .vmem S256x4096 .f32 := Memref.whole cc0_scratch0
/-- The semaphore the copies complete on. -/
abbrev c0 : DmaSem sig := cc0_scratch1.sem

abbrev n : ℕ := k0_t1_loop.trips
theorem n_eq : n = 256 := by decide
theorem n2_eq : k0_t2_loop.trips = 256 := by decide

/-- The word the body reads of the table for row `k` of point `i`'s tile. -/
def w0 (t : S20480.Idx → BitVec 32) (i : grid0.Coords) (k : Fin n) : BitVec 32 :=
  t ((Rect.unit (s := S20480) (k0_off1 i k) S1.size (k0_off1_inb i k)).emb (Shape.Idx.first (numel1_S1.symm ▸ Nat.one_pos)))

/-- Row `k` of the scratch buffer, and the token's row a word names. -/
def row0 (k : Fin n) : Memref sig .tc .vmem S1x4096 .f32 := B0.slice (Rect.unit (s := S256x4096) (k0_off2 k) S1x4096.size (k0_off2_inb k)) (fun _ => rfl)
def src0 (v : BitVec 32) (h : k0_chk1 v) : Memref sig .tc .hbm S1x4096 .f32 := Xs.slice (Rect.unit (s := S8192x4096) (k0_off3 v) S1x4096.size (k0_off3_inb v h)) (fun _ => rfl)

theorem iv_val (k : Fin n) : (Scf.iv 0#32 1#32 k : BitVec 32).toNat = k.val := by
  have h : k.val < 256 := n_eq ▸ k.isLt
  unfold Scf.iv; simp; omega

theorem off2_eq (k : Fin n) : k0_off2 k = ![k.val, 0] := by unfold k0_off2; simp only [iv_val]

/-- The elements of row `k`. -/
def rset (k : Fin n) : Finset S256x4096.Idx := (Rect.unit (s := S256x4096) (k0_off2 k) S1x4096.size (k0_off2_inb k)).set

theorem mem_rset (k : Fin n) (y : S256x4096.Idx) : y ∈ rset k ↔ (y 0).val = k.val := by
  unfold rset
  rw [Rect.mem_set_unit, off2_eq]
  have h2 : (y 1).val < 4096 := (y 1).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 4096; omega
theorem rset_disjoint : ∀ b b' : Fin n, b ≠ b' → Disjoint (rset b) (rset b') := fun b b' hne => by
  rw [Finset.disjoint_left]; intro y hy hy'; rw [mem_rset] at hy hy'; exact hne (Fin.ext (by omega))
/-- The row an element of the tile lies in. -/
def rowOf (y : S256x4096.Idx) : Fin n := ⟨(y 0).val, by rw [n_eq]; exact (y 0).isLt⟩

theorem set0 (k : Fin n) : (row0 k).view.set = rset k := by
  unfold row0 rset; exact View.set_slice_whole _ _

/-- What the scratch buffer holds once row `k` has been copied from the row word `w k` names, for every `k`. -/
def gath (w : Fin n → BitVec 32) (hw : ∀ k, (w k).toNat < 8192) (xs : S8192x4096.Idx → Elt F .f32) : S256x4096.Idx → Elt F .f32 :=
  fun y => xs (fun | 0 => (⟨(w (rowOf y)).toNat, hw _⟩ : Fin 8192) | 1 => (y 1 : Fin 4096))

theorem chk1_iff (v : BitVec 32) (h : v.toNat < 8192) : k0_chk1 v := by
  intro a; unfold k0_off3; fin_cases a
  · show v.toNat + 1 ≤ 8192; omega
  · show 0 + 4096 ≤ 4096; omega

variable (c : Dev nD)

/-- A copy's landing: row `k` overwritten by the row of word `w k` is, on row `k`, the gathered tile. -/
theorem land0 (w : Fin n → BitVec 32) (hw : ∀ k, (w k).toNat < 8192) (xs : S8192x4096.Idx → Elt F .f32) (k : Fin n)
    (f : S256x4096.Idx → Elt F .f32) (y : S256x4096.Idx) (hy : y ∈ rset k) :
    (row0 k).view.write (Elt F) f ((src0 (w k) (chk1_iff _ (hw k))).view.read (Elt F) xs) Finset.univ y = gath w hw xs y := by
  have hk := (mem_rset k y).mp hy
  have hr : rowOf y = k := Fin.ext hk
  let x : S1x4096.Idx := fun | 0 => (0 : Fin 1) | 1 => (y 1 : Fin 4096)
  have hx : (row0 k).view.emb x = y := by
    funext a; apply Fin.ext
    show (k0_off2 k) a + 1 * (x a).val = (y a).val
    rw [off2_eq]
    fin_cases a
    · show k.val + 1 * 0 = (y 0).val; omega
    · show 0 + 1 * (y 1).val = (y 1).val; omega
  refine (congrArg _ hx.symm).trans ((View.write_emb_of_mem (v := (row0 k).view) (Val := Elt F) f ((src0 (w k) (chk1_iff _ (hw k))).view.read (Elt F) xs) (Finset.mem_univ x)).trans ?_)
  unfold gath
  show xs _ = xs _
  congr 1
  funext a; apply Fin.ext
  show (k0_off3 (w k)) a + 1 * (x a).val = _
  unfold k0_off3
  fin_cases a
  · show (w k).toNat + 1 * 0 = (w (rowOf y)).toNat; rw [hr]; omega
  · show 0 + 1 * (y 1).val = (y 1).val; omega

/-! ## The first loop: every copy started -/

/-- Half of the table's buffer at contents `f`. -/
abbrev half {S : Shape} {e : EltTy} (M : Memref sig .tc .smem S e) (f : Buf (Elt F) (M.view.loc (c : Thread nD τ))) : sProp 𝕄 :=
  M.view.loc (c : Thread nD τ) ↦{fullShare.right} f

/-- The token of the tokens' array copy `k` reads at. -/
abbrev tok0 (k : ℕ) : PosShare TreeShare := Transfers.shareTokN fullShare k

section Steps

/-- The steps of the loops' bodies, each at the head of a bind. -/
theorem wp_word {α : Type} {Q : α → sProp 𝕄} {S : Shape} {e : EltTy} {M : Memref sig .tc .smem S e} {r : Rect S} {h1 : r.shape.numel = 1} {hp : e.packing = 1}
    {K : Elt F e → Prog (TpuEff nD τ sig (Elt F) Λ₀ .tc) α} {q : PosShare TreeShare} {f : Buf (Elt F) (M.view.loc (c : Thread nD τ))} :
    (M.view.loc (c : Thread nD τ) ↦{q} f : sProp 𝕄)
      ⊢ iprop(((M.view.loc (c : Thread nD τ) ↦{q} f) -∗ wp frame (wpE (defs₀ (F := F)) Variants.none (c : Thread nD τ) none) Set.univ (K ((M.access r).read (Elt F) f (Shape.Idx.first (h1.symm ▸ Nat.one_pos)))) Q)
        -∗ wp frame (wpE (defs₀ (F := F)) Variants.none (c : Thread nD τ) none) Set.univ (smemLoad M r h1 hp >>= K) Q) :=
  wp_smemLoadElt Variants.none (c : Thread nD τ) none Set.univ (m := M) (r := r) (hw := View.loads_smem_one hp h1)
    (x := Shape.Idx.first (h1.symm ▸ Nat.one_pos)) (k := K) (S := Finset.univ) (f := f) (Finset.subset_univ _)

theorem wp_check {α : Type} {Q : α → sProp 𝕄} {P : Prop} {d : Decidable P} {K : PLift P → Prog (TpuEff nD τ sig (Elt F) Λ₀ .tc) α} (h : P) :
    wp (M := 𝕄) frame (wpE (defs₀ (F := F)) Variants.none (c : Thread nD τ) none) Set.univ (K ⟨h⟩) Q
      ⊢ wp frame (wpE (defs₀ (F := F)) Variants.none (c : Thread nD τ) none) Set.univ (Prog.lift (TpuEff.assume P d) >>= K) Q :=
  wp_assume Variants.none (c : Thread nD τ) none Set.univ (k := K) h

theorem wp_start {α : Type} {Q : α → sProp 𝕄} {sp sp' : Space} {s : Shape} {e : EltTy} {src : Memref sig .tc sp s e} {dst : Memref sig .tc sp' s e} {sm : SemLoc sig}
    {hsrc : src.view.WordExact} {hdst : dst.view.WordExact} {hsem : DmaTarget.Typed (nD := nD) (τ := τ) (p := .tc) sp sm (.here dst)}
    {K : PUnit → Prog (TpuEff nD τ sig (Elt F) Λ₀ .tc) α} {q : PosShare TreeShare} {fs : Buf (Elt F) (src.view.loc (c : Thread nD τ))}
    {fd : Buf (Elt F) (dst.view.loc (c : Thread nD τ))} {m : ℕ} {D : Fin m → sProp 𝕄} {j u : ℕ}
    (N : ℕ) (hN : dst.view.amount sm = N) (hj : j < m) (hu : u ≤ j * N)
    (hD : iprop((dst.view.loc (c : Thread nD τ) ↦[dst.view.set]{fullShare} (dst.view.write (Elt F) fd (src.view.read (Elt F) fs) Finset.univ))
            ∗ (src.view.loc (c : Thread nD τ) ↦[src.view.set]{q} fs)) ⊢ D ⟨j, hj⟩) :
    iprop((src.view.loc (c : Thread nD τ) ↦[src.view.set]{q} fs) ∗ (dst.view.loc (c : Thread nD τ) ↦[dst.view.set]{fullShare} fd)
        ∗ Transfers.Batch (countersEmb (U := Pipeline.UD sig nD τ)) (c : Thread nD τ) sm () N D j u)
      ⊢ iprop((Transfers.Batch (countersEmb (U := Pipeline.UD sig nD τ)) (c : Thread nD τ) sm () N D (j + 1) u
            -∗ wp frame (wpE (defs₀ (F := F)) Variants.none (c : Thread nD τ) none) Set.univ (K ⟨⟩) Q)
          -∗ wp frame (wpE (defs₀ (F := F)) Variants.none (c : Thread nD τ) none) Set.univ
            (Prog.lift (TpuEff.enqueueDma src (.here dst) sm hsrc hdst hsem) >>= K) Q) :=
  Transfers.wp_dmaBatch (countersEmb (U := Pipeline.UD sig nD τ)) Variants.none (c : Thread nD τ) none (k := K) () N hN (Finset.Subset.refl _) hj hu hD

theorem wp_await {α : Type} {Q : α → sProp 𝕄} {sp sp' : Space} {s s' : Shape} {e e' : EltTy} {sem : DmaSem sig} {src : Memref sig .tc sp' s' e'} {dst : Memref sig .tc sp s e}
    {hsrc : src.view.WordExact} {hdst : dst.view.WordExact} {K : PUnit → Prog (TpuEff nD τ sig (Elt F) Λ₀ .tc) α}
    {N m : ℕ} (hN : dst.view.dmaCredit = N) {D : Fin m → sProp 𝕄} {u : ℕ} (hu : u + N < N * m) {W : Waits sig Unit} :
    iprop(Transfers.Batch (countersEmb (U := Pipeline.UD sig nD τ)) (c : Thread nD τ) (.dma sem) () N D m u ∗ owes (c : Thread nD τ) 0 W)
      ⊢ iprop((iprop(Transfers.Batch (countersEmb (U := Pipeline.UD sig nD τ)) (c : Thread nD τ) (.dma sem) () N D m (u + N)
            ∗ owes (c : Thread nD τ) 0 (insert (SemLoc.dma sem, ()) W))
            -∗ wp frame (wpE (defs₀ (F := F)) Variants.none (c : Thread nD τ) none) Set.univ (K ⟨⟩) Q)
          -∗ wp frame (wpE (defs₀ (F := F)) Variants.none (c : Thread nD τ) none) Set.univ (Prog.lift (TpuEff.waitDma2 sem src dst hsrc hdst) >>= K) Q) :=
  Transfers.wp_waitBatch (countersEmb (U := Pipeline.UD sig nD τ)) Variants.none (c : Thread nD τ) none (k := K) () hN hu

theorem wp_await_last {α : Type} {Q : α → sProp 𝕄} {sp sp' : Space} {s s' : Shape} {e e' : EltTy} {sem : DmaSem sig} {src : Memref sig .tc sp' s' e'} {dst : Memref sig .tc sp s e}
    {hsrc : src.view.WordExact} {hdst : dst.view.WordExact} {K : PUnit → Prog (TpuEff nD τ sig (Elt F) Λ₀ .tc) α}
    {N m : ℕ} (hN : dst.view.dmaCredit = N) (hN0 : 0 < N) {D : Fin m → sProp 𝕄} {u : ℕ} (hu : u + N = N * m) {W : Waits sig Unit} :
    iprop(Transfers.Batch (countersEmb (U := Pipeline.UD sig nD τ)) (c : Thread nD τ) (.dma sem) () N D m u ∗ owes (c : Thread nD τ) 0 W)
      ⊢ iprop((iprop(bigSep Finset.univ D ∗ semVal ((c : Thread nD τ), .dma sem) 0
            ∗ owes (c : Thread nD τ) 0 (insert (SemLoc.dma sem, ()) W))
            -∗ wp frame (wpE (defs₀ (F := F)) Variants.none (c : Thread nD τ) none) Set.univ (K ⟨⟩) Q)
          -∗ wp frame (wpE (defs₀ (F := F)) Variants.none (c : Thread nD τ) none) Set.univ (Prog.lift (TpuEff.waitDma2 sem src dst hsrc hdst) >>= K) Q) :=
  Transfers.wp_waitBatchLast (countersEmb (U := Pipeline.UD sig nD τ)) Variants.none (c : Thread nD τ) none (k := K) () hN hN0 hu

end Steps

section Loops

variable (i : grid0.Coords) (t0 : S20480.Idx → BitVec 32) (h0 : ∀ k, (w0 t0 i k).toNat < 8192)
  (xs : S8192x4096.Idx → Elt F .f32) (f0 : S256x4096.Idx → Elt F .f32)

abbrev Src0 (k : Fin n) : Memref sig .tc .hbm S1x4096 .f32 := src0 (w0 t0 i k) (chk1_iff _ (h0 k))

/-- The row copy `k` reads, at the copy's token. -/
abbrev win0 (k : Fin n) : sProp 𝕄 := (Src0 i t0 h0 k).view.loc (c : Thread nD τ) ↦[(Src0 i t0 h0 k).view.set]{tok0 k.val} xs
/-- Row `k` of the scratch buffer at contents `f`. -/
abbrev at0 (f : S256x4096.Idx → Elt F .f32) (k : Fin n) : sProp 𝕄 := B0.view.loc (c : Thread nD τ) ↦[rset k]{fullShare} f

/-- What copy `k` delivers: its row gathered, and the row it read back. -/
abbrev D0 (k : Fin n) : sProp 𝕄 := iprop(at0 c (gath (w0 t0 i) h0 xs) k ∗ win0 c i t0 h0 xs k)

/-- A row's credit. -/
abbrev NN : ℕ := (row0 ⟨0, by decide⟩).view.amount (sig := sig) (.dma c0)

abbrev batch0 (j u : ℕ) : sProp 𝕄 :=
  Transfers.Batch (countersEmb (U := Pipeline.UD sig nD τ)) (c : Thread nD τ) (.dma c0) () NN (D0 c i t0 h0 xs) j u

/-- Before trip `k`: `k` copies started, the rows and tokens from `k` on still in hand. -/
def issueAt (k : ℕ) (_ : Unit) : sProp 𝕄 :=
  iprop(batch0 c i t0 h0 xs k 0 ∗ bigSep (Ring.rangeSet n k n) (at0 c f0) ∗ bigSep (Ring.rangeSet n k n) (win0 c i t0 h0 xs) ∗ half c T0 t0)

abbrev issueBody (MO : Memref sig .tc .vmem S256x4096 .bf16) (mO : MO.IsWhole) :=
  k0_t1_body (F := F) i T0 (Memref.isWhole_whole _) Xs (Memref.isWhole_whole _) MO mO B0 (Memref.isWhole_whole _) cc0_scratch1

theorem amount0 (k : Fin n) : (row0 k).view.amount (sig := sig) (.dma c0) = NN := rfl

theorem deliver0 (k : Fin n) (f : S256x4096.Idx → Elt F .f32) :
    iprop(((row0 k).view.loc (c : Thread nD τ) ↦[(row0 k).view.set]{fullShare} ((row0 k).view.write (Elt F) f ((Src0 i t0 h0 k).view.read (Elt F) xs) Finset.univ))
        ∗ win0 c i t0 h0 xs k) ⊢ D0 c i t0 h0 xs k := by
  refine sep_mono ?_ .rfl
  rw [set0 k]
  exact Entails.of_eq (pointsTo_congr fun y hy => land0 (w0 t0 i) h0 xs k f y hy)

theorem issue_step (MO : Memref sig .tc .vmem S256x4096 .bf16) (mO : MO.IsWhole) (k : Fin n) (acc : Unit) :
    issueAt c i t0 h0 xs f0 k acc ⊢ wp frame (wpE (defs₀ (F := F)) Variants.none (c : Thread nD τ) none) Set.univ
      (issueBody i MO mO k acc) (issueAt c i t0 h0 xs f0 (k.val + 1)) := by
  have hk := k.isLt
  unfold issueAt
  rw [Ring.bigSep_rangeSet_head (Φ := at0 c f0) hk hk, Ring.bigSep_rangeSet_head (Φ := win0 c i t0 h0 xs) hk hk]
  iintro ⟨HB0, ⟨HR0, HR0s⟩, ⟨HW0, HW0s⟩, HT0⟩
  unfold issueBody k0_t1_body
  iapply (wp_word c) $$ HT0
  iintro HT0
  iapply (wp_check c (chk1_iff _ (h0 k)))
  iapply (wp_start c (src := Src0 i t0 h0 k) (dst := row0 k) (sm := .dma c0) (q := tok0 k.val) (fs := xs) (fd := f0) (D := D0 c i t0 h0 xs) (j := k.val) (u := 0)
    NN (amount0 k) hk (Nat.zero_le _) (deliver0 c i t0 h0 xs k f0)) $$ [HW0 HR0 HB0]
  · isplitl [HW0]; · iexact HW0
    isplitl [HR0]; · rw [set0 k]; iexact HR0
    iexact HB0
  iintro HB0
  rw [wp_pure]
  imodintro
  isplitl [HB0]; · iexact HB0
  isplitl [HR0s]; · iexact HR0s
  isplitl [HW0s]; · iexact HW0s
  iexact HT0

/-! ## The second loop: every copy waited for -/

/-- Before trip `k`: `k` copies waited for; after the last, every row of the buffer gathered, the semaphore at zero. -/
def drainAt (k : ℕ) (_ : Unit) : sProp 𝕄 :=
  if k < n then iprop(batch0 c i t0 h0 xs n (k * NN) ∗ ∃ W, owes (c : Thread nD τ) 0 W)
  else iprop(bigSep Finset.univ (D0 c i t0 h0 xs) ∗ semVal ((c : Thread nD τ), .dma c0) 0 ∗ ∃ W, owes (c : Thread nD τ) 0 W)

abbrev drainBody (MO : Memref sig .tc .vmem S256x4096 .bf16) (mO : MO.IsWhole) :=
  k0_t2_body (F := F) i T0 (Memref.isWhole_whole _) Xs (Memref.isWhole_whole _) MO mO B0 (Memref.isWhole_whole _) cc0_scratch1

theorem NN_pos : 0 < NN := by decide

theorem drain_step (MO : Memref sig .tc .vmem S256x4096 .bf16) (mO : MO.IsWhole) (k : Fin k0_t2_loop.trips) (acc : Unit) :
    drainAt c i t0 h0 xs k acc ⊢ wp frame (wpE (defs₀ (F := F)) Variants.none (c : Thread nD τ) none) Set.univ
      (drainBody i MO mO k acc) (drainAt c i t0 h0 xs (k.val + 1)) := by
  have hk : k.val < n := Nat.lt_of_lt_of_eq k.isLt (n2_eq.trans n_eq.symm)
  unfold drainAt drainBody k0_t2_body
  rw [if_pos hk]
  iintro ⟨HB0, ⟨%W, HO⟩⟩
  by_cases hl : k.val + 1 < n
  · have hu : k.val * NN + NN < NN * n := by
      have h := Nat.mul_lt_mul_of_pos_right hl NN_pos
      rw [Nat.add_mul, Nat.one_mul, Nat.mul_comm n] at h; exact h
    have he : k.val * NN + NN = (k.val + 1) * NN := by rw [Nat.add_mul, Nat.one_mul]
    iapply (wp_await c (dst := B0.slice (Rect.unit (s := S256x4096) (k0_off4 k) S1x4096.size (k0_off4_inb k)) (fun _ => rfl)) (N := NN) rfl (D := D0 c i t0 h0 xs) (u := k.val * NN) hu (W := W)) $$ [HB0 HO]
    · isplitl [HB0]; · iexact HB0
      iexact HO
    iintro ⟨HB0, HO⟩
    rw [wp_pure, if_pos hl, he]
    imodintro
    isplitl [HB0]; · iexact HB0
    iexists _; iexact HO
  · have hu : k.val * NN + NN = NN * n := by
      have h : k.val + 1 = n := by omega
      rw [← h, Nat.mul_add, Nat.mul_one, Nat.mul_comm]
    iapply (wp_await_last c (dst := B0.slice (Rect.unit (s := S256x4096) (k0_off4 k) S1x4096.size (k0_off4_inb k)) (fun _ => rfl)) (N := NN) rfl NN_pos (D := D0 c i t0 h0 xs) (u := k.val * NN) hu (W := W)) $$ [HB0 HO]
    · isplitl [HB0]; · iexact HB0
      iexact HO
    iintro ⟨HD0, HS0, HO⟩
    rw [wp_pure, if_neg hl]
    imodintro
    isplitl [HD0]; · iexact HD0
    isplitl [HS0]; · iexact HS0
    iexists _; iexact HO

end Loops

/-! ## The body -/

section Body

variable (i : grid0.Coords) (t0 : S20480.Idx → BitVec 32) (h0 : ∀ k, (w0 t0 i k).toNat < 8192)
  (xs : S8192x4096.Idx → Elt F .f32)

abbrev xsLoc : Loc nD τ sig := Xs.view.loc (c : Thread nD τ)
/-- The elements copy `k` reads. -/
def I0 (k : Fin n) : Finset (Idx (xsLoc c)) := (Src0 i t0 h0 k).view.set

/-- What is left of the tokens' array beside the rows the copies read at their tokens. -/
def left0 : sProp 𝕄 :=
  iprop((xsLoc c ↦{Transfers.shareDrop fullShare n} xs) ∗ bigSep Finset.univ fun k : Fin n => (xsLoc c ↦[Finset.univ \ I0 c i t0 h0 k]{tok0 k.val} xs : sProp 𝕄))

theorem deal0 : (xsLoc c ↦{fullShare} xs : sProp 𝕄) = iprop(bigSep Finset.univ (win0 c i t0 h0 xs) ∗ left0 c i t0 h0 xs) := by
  have e : (bigSep Finset.univ fun k : Fin n => (xsLoc c ↦{Transfers.shareTok fullShare n k} xs : sProp 𝕄))
      = bigSep Finset.univ fun k : Fin n => iprop((xsLoc c ↦[I0 c i t0 h0 k]{tok0 k.val} xs) ∗ (xsLoc c ↦[Finset.univ \ I0 c i t0 h0 k]{tok0 k.val} xs)) :=
    bigSep_congr fun k _ => Entails.antisymm (pointsTo_split_subset (Finset.subset_univ _)).1 (pointsTo_split_subset (Finset.subset_univ _)).2
  have es : (bigSep Finset.univ fun k : Fin n => iprop((xsLoc c ↦[I0 c i t0 h0 k]{tok0 k.val} xs) ∗ (xsLoc c ↦[Finset.univ \ I0 c i t0 h0 k]{tok0 k.val} xs)) : sProp 𝕄)
      = iprop((bigSep Finset.univ (win0 c i t0 h0 xs))
        ∗ bigSep Finset.univ fun k : Fin n => (xsLoc c ↦[Finset.univ \ I0 c i t0 h0 k]{tok0 k.val} xs : sProp 𝕄)) := bigSep_sep _ _ _
  rw [Entails.antisymm (Transfers.pointsTo_toks fullShare n).1 (Transfers.pointsTo_toks fullShare n).2, e, es]
  unfold left0
  generalize (bigSep Finset.univ (win0 c i t0 h0 xs) : sProp 𝕄) = A
  generalize (bigSep Finset.univ fun k : Fin n => (xsLoc c ↦[Finset.univ \ I0 c i t0 h0 k]{tok0 k.val} xs : sProp 𝕄)) = B
  generalize (xsLoc c ↦{Transfers.shareDrop fullShare n} xs : sProp 𝕄) = C
  refine Entails.antisymm (show iprop(C ∗ (A ∗ B)) ⊢ iprop(A ∗ (C ∗ B)) from ?_) (show iprop(A ∗ (C ∗ B)) ⊢ iprop(C ∗ (A ∗ B)) from ?_) <;>
  · iintro ⟨H1, H2, H3⟩
    isplitl [H2]; · iexact H2
    isplitl [H1]; · iexact H1
    iexact H3

/-- The scratch buffer whole is its rows. -/
theorem rows0 (f : S256x4096.Idx → Elt F .f32) :
    (B0.view.loc (c : Thread nD τ) ↦{fullShare} f : sProp 𝕄) = bigSep Finset.univ (at0 c f) :=
  Ring.pointsTo_blocks (ℓ := B0.view.loc (c : Thread nD τ)) (fun b : Fin n => rset b) rset_disjoint
    (by ext y; simp only [Finset.mem_biUnion, Finset.mem_univ, true_and, iff_true]; exact ⟨rowOf y, (mem_rset _ _).mpr rfl⟩) f

theorem storable_at {ℓ : Loc nD τ sig} {I : Finset (Idx ℓ)} {q : PosShare TreeShare} {f : Buf (Elt F) ℓ} :
    Storable (upEmb : UEmb _ 𝕄) (ℓ ↦[I]{q} f : sProp 𝕄) := inferInstance
instance D0_storable (k : Fin n) : Storable (upEmb : UEmb _ 𝕄) (D0 c i t0 h0 xs k) := by
  haveI : Storable (upEmb : UEmb _ 𝕄) (at0 c (gath (w0 t0 i) h0 xs) k) := storable_at
  haveI : Storable (upEmb : UEmb _ 𝕄) (win0 c i t0 h0 xs k) := storable_at
  exact Storable.sep _ _ _

theorem z2 : (![0, 0] : Fin 2 → Nat) = fun _ => 0 := by decide

/-- The tile the body computes. -/
def res : Vec F S256x4096 .bf16 := k0_pay1 (gath (w0 t0 i) h0 xs)

theorem issued (f0 : S256x4096.Idx → Elt F .f32) (acc : Unit) :
    issueAt c i t0 h0 xs f0 n acc ⊢ iprop(batch0 c i t0 h0 xs n 0 ∗ half c T0 t0) := by
  unfold issueAt
  iintro ⟨HA0, -, -, HT0⟩
  isplitl [HA0]; · iexact HA0
  iexact HT0

theorem joined0 : bigSep Finset.univ (D0 c i t0 h0 xs)
    = iprop((B0.view.loc (c : Thread nD τ) ↦{fullShare} gath (w0 t0 i) h0 xs) ∗ bigSep Finset.univ (win0 c i t0 h0 xs)) := by
  rw [rows0]; exact bigSep_sep _ _ _

theorem drained (acc : Unit) :
    drainAt c i t0 h0 xs k0_t2_loop.trips acc ⊢ iprop((B0.view.loc (c : Thread nD τ) ↦{fullShare} gath (w0 t0 i) h0 xs)
      ∗ bigSep Finset.univ (win0 c i t0 h0 xs) ∗ semVal ((c : Thread nD τ), .dma c0) 0 ∗ ∃ W, owes (c : Thread nD τ) 0 W) := by
  unfold drainAt
  rw [if_neg (by decide : ¬ k0_t2_loop.trips < n), joined0]
  iintro ⟨⟨HB0, HW0⟩, HS0, Ho⟩
  isplitl [HB0]; · iexact HB0
  isplitl [HW0]; · iexact HW0
  isplitl [HS0]; · iexact HS0
  iexact Ho

/-- One store over a whole tile leaves its payload. -/
theorem read_store (M : Memref sig .tc .vmem S256x4096 .bf16) (f : M.view.ty.Contents (Elt F)) (w : Vec F S256x4096 .bf16) :
    M.view.read (Elt F) (M.view.writes (Elt F) f [⟨Rect.unit ![0, 0] S256x4096.size inb_S256x4096_S256x4096_0_0, w⟩]) = w := by
  rw [View.read_writes_eq_canon, View.canon_unit_zero (S := S256x4096) z2]
  exact fun y => ⟨_, List.mem_singleton_self _, View.mem_set_unit_zero (S := S256x4096) z2 inb_S256x4096_S256x4096_0_0 y⟩

theorem body_wp (MO : Memref sig .tc .vmem S256x4096 .bf16) (mO : MO.IsWhole) (K : PUnit → sProp 𝕄) :
    iprop((∃ d, owns (c : Thread nD τ) MO fullShare d) ∗ (∃ f : S256x4096.Idx → Elt F .f32, B0.view.loc (c : Thread nD τ) ↦{fullShare} f)
        ∗ semVal ((c : Thread nD τ), .dma c0) 0 ∗ (∃ W, owes (c : Thread nD τ) 0 W)
        ∗ (Xs.view.loc (c : Thread nD τ) ↦{fullShare} xs) ∗ half c T0 t0
        ∗ (iprop(owns (c : Thread nD τ) MO fullShare (res i t0 h0 xs) ∗ (∃ f : S256x4096.Idx → Elt F .f32, B0.view.loc (c : Thread nD τ) ↦{fullShare} f)
            ∗ semVal ((c : Thread nD τ), .dma c0) 0 ∗ (∃ W, owes (c : Thread nD τ) 0 W)
            ∗ (Xs.view.loc (c : Thread nD τ) ↦{fullShare} xs) ∗ half c T0 t0) -∗ K ⟨⟩))
      ⊢ wp frame (wpE (defs₀ (F := F)) Variants.none (c : Thread nD τ) none) Set.univ
        (cc0_moe_gather i T0 (Memref.isWhole_whole _) Xs (Memref.isWhole_whole _) MO mO B0 (Memref.isWhole_whole _) cc0_scratch1) K := by
  simp only [cc0_moe_gather_eq_skeleton]; unfold cc0_moe_gather_skel
  iintro ⟨HO, ⟨%f0, HB0⟩, HS0, Ho, HY, HT0, Hk⟩
  imod (Transfers.batch_alloc' (countersEmb (U := Pipeline.UD sig nD τ)) (c : Thread nD τ) () NN (D0 c i t0 h0 xs) (E := Set.univ)) $$ HS0 with HA0
  ihave HY' := (Entails.of_eq (deal0 c i t0 h0 xs)) $$ HY
  icases HY' with ⟨HW0, HL0⟩
  iapply (Scf.wp_for_bind _ _ _ _ _ _ _ _ _ (issueAt c i t0 h0 xs f0) (issue_step c i t0 h0 xs f0 MO mO)) $$ [HA0 HB0 HW0 HT0]
  · unfold issueAt
    rw [Ring.rangeSet_univ]
    isplitl [HA0]; · iexact HA0
    isplitl [HB0]; · iapply (Entails.of_eq (rows0 c f0)) $$ HB0
    isplitl [HW0]; · iexact HW0
    iexact HT0
  iintro %acc HI
  ihave HI' := (issued c i t0 h0 xs f0 acc) $$ HI
  icases HI' with ⟨HA0, HT0⟩
  iapply (Scf.wp_for_bind _ _ _ _ _ _ _ _ _ (drainAt c i t0 h0 xs) (drain_step c i t0 h0 xs MO mO)) $$ [HA0 Ho]
  · unfold drainAt
    rw [if_pos (by decide : 0 < n), Nat.zero_mul]
    isplitl [HA0]; · iexact HA0
    iexact Ho
  iintro %acc' HI
  ihave HI' := (drained c i t0 h0 xs acc') $$ HI
  icases HI' with ⟨HB0, HW0, HS0, Ho⟩
  ihave HY := (Entails.of_eq (deal0 c i t0 h0 xs).symm) $$ [HL0 HW0]
  · isplitl [HW0]; · iexact HW0
    iexact HL0
  unfold owns
  icases HO with ⟨%d, %go, -, HO⟩
  sl_exec
  sl_step
  iapply Hk
  isplitl [HO]
  · iexists _; isplitr
    swap; · iexact HO
    ipureintro
    rw [read_store]
    unfold res
    simp only [View.readAt_eq_ld, View.ld_unit_zero (S := S256x4096) z2]
    rfl
  isplitl [HB0]; · iexists _; iexact HB0
  isplitl [HS0]; · iexact HS0
  isplitl [Ho]; · iexact Ho
  isplitl [HY]; · iexact HY
  iexact HT0

end Body

/-! ## What the launch starts from -/

variable (m : (ℓ : Loc nD τ sig) → Buf (Elt F) ℓ) (ρ : Dev nD → PrngReg)

/-- A core's buffers as the region finds them: no host operation runs before it. -/
abbrev V (c : Dev nD) (b : Ref sig .tc) : Buf (Elt F) ((c : Thread nD τ).loc b) := m ((c : Thread nD τ).loc b)

theorem region_wp : Pipeline.HMainP (Ix := Unit) (Name := ℕ) (U := Pipeline.UD sig nD τ) (Lvl := ℕ) pcfgs 0 defs₀ Variants.none m (main (F := F)) (V m) :=
  Pipeline.hmainP_region pcfgs 0 defs₀ Variants.none m main main_chain

/-- The table, and the pipeline at it. -/
def tbl : pre0.Contents (Elt F) := fun j => V m (0 : Dev nD) (pre0.ref j)

abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

theorem V_tbl (c : Dev nD) (j : Fin 1) : V m c (pre0.ref j) = tbl m j := by
  obtain rfl : c = 0 := Subsingleton.elim _ _; rfl

abbrev t0 : S20480.Idx → BitVec 32 := tbl m 0

/-- Every word of the table names a token. -/
def Bnd : Prop := ∀ y : S20480.Idx, (t0 m y).toNat < 8192
theorem Bnd.w0 (hB : Bnd m) (i : grid0.Coords) (k : Fin n) : (w0 (t0 m) i k).toNat < 8192 := hB _

theorem halves_eq (c : Dev nD) : (Pipeline.ΦT pre0 (tbl m) c : sProp 𝕄) = half c T0 (t0 m) := by
  unfold Pipeline.ΦT Pipeline.prefHeld
  rw [show (Finset.univ : Finset (Fin 1)) = {(0 : Fin 1)} from by decide, bigSep_singleton]
  rfl

/-- The kernel's own semaphore, and the array it copies from. -/
def osem : Fin 1 → SemLoc sig := fun _ => .dma c0
theorem ownSem : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), .dma c0) 0 := by
  rw [Pipeline.ownSems0_eq_of_list c osem [0] (by decide) (by decide)]; rfl
def src : Finset (Ref sig .tc) := {main_arg1}
theorem src_sub : src ⊆ Pipeline.restRefsP sig pre0 spec0 := by decide

abbrev xsV (c : Dev nD) : S8192x4096.Idx → Elt F .f32 := V m c main_arg1

theorem src_eq (c : Dev nD) : (bigSep src (fun b => ((c : Thread nD τ).loc b) ↦{fullShare} V m c b) : sProp 𝕄)
    = iprop(Xs.view.loc (c : Thread nD τ) ↦{fullShare} xsV m c) := by
  unfold src; rw [bigSep_singleton]
/-- The invariant between points: the scratch buffer at anything, the generator's register, the semaphore at zero,
    the array copied from. -/
def inv (c : Dev nD) : sProp 𝕄 := Pipeline.ΦD osem spec0 src (V m) c
theorem inv_eq (c : Dev nD) : (inv m c : sProp 𝕄)
    = iprop((∃ f : S256x4096.Idx → Elt F .f32, B0.view.loc (c : Thread nD τ) ↦{fullShare} f)
      ∗ (∃ r, prngReg c r) ∗ semVal ((c : Thread nD τ), .dma c0) 0
      ∗ iprop(Xs.view.loc (c : Thread nD τ) ↦{fullShare} xsV m c)) := by
  unfold inv
  rw [Pipeline.ΦD_eq, scopedRest0_eq, ownSems_eq, src_eq]; try rfl

/-- The output tile after point `t`. -/
def tile (hO : Ok m) (hB : Bnd m) (c : Dev nD) (t : Fin (cfgM m hO).N) : Vec F S256x4096 .bf16 :=
  res (grid0.coords t) (t0 m) (hB.w0 m (grid0.coords t)) (xsV m c)

def dats (hO : Ok m) (hB : Bnd m) (_ : Fin 1) (c : Dev nD) : Dat τ (Elt F) Unit ℕ (Pipeline.UD sig nD τ) ℕ (cfgM m hO) c where
  A w := V m c (Pipeline.arrRef spec0 w)
  after w t := match w with
    | ⟨0, _⟩ => tile m hO hB c t
  Φ _ := iprop(inv m c ∗ Pipeline.ΦT pre0 (tbl m) c)
  q _ := fullShare
  owed _ := 0

theorem A_eq (hO : Ok m) (hB : Bnd m) (c : Dev nD) (w : Fin (cfgM m hO).W) : (dats m hO hB 0 c).A w = V m c (Pipeline.arrRef spec0 w) := by
  dsimp only [dats]

theorem after_0 (hO : Ok m) (hB : Bnd m) (c : Dev nD) (t : Fin (cfgM m hO).N) : (dats m hO hB 0 c).after 0 t = tile m hO hB c t := by dsimp only [dats]; try rfl

/-! ## The body at a point -/

/-- The body as the pipeline calls it at point `t`. -/
abbrev bodyAt (hO : Ok m) (t : Fin (cfgM m hO).N) : Prog (TpuEff nD τ sig (Elt F) Λ₀ .tc) PUnit :=
  cc0_moe_gather (grid0.coords t) T0 (Memref.isWhole_whole _) Xs (Memref.isWhole_whole _) (spec0_0.stage ((cfgM m hO).slots t 0)) (hstage0_0 (((cfgM m hO).slots t 0).cast nbuf0_0)) B0 (Memref.isWhole_whole _) cc0_scratch1

theorem point (hO : Ok m) (hB : Bnd m) (c : Dev nD) (t : Fin (cfgM m hO).N) :
    iprop((dats m hO hB 0 c).Φ t.castSucc ∗ (dats m hO hB 0 c).owesAt () t.castSucc
      ∗ (∃ d, owns (c : Thread nD τ) (spec0_0.stage ((cfgM m hO).slots t 0)) fullShare ((dats m hO hB 0 c).before 0 t d)))
      ⊢ wp frame (wpE (defs₀ (F := F)) Variants.none c none) Set.univ (bodyAt m hO t) (fun _ =>
        iprop((dats m hO hB 0 c).Φ t.succ ∗ (dats m hO hB 0 c).owesAt () t.succ
          ∗ owns (c : Thread nD τ) (spec0_0.stage ((cfgM m hO).slots t 0)) fullShare ((dats m hO hB 0 c).after 0 t))) := by
  unfold bodyAt
  simp only [after_0]
  rw [show (dats m hO hB 0 c).Φ t.succ = iprop(inv m c ∗ Pipeline.ΦT pre0 (tbl m) c) from rfl,
    show (dats m hO hB 0 c).Φ t.castSucc = iprop(inv m c ∗ Pipeline.ΦT pre0 (tbl m) c) from rfl,
    show (dats m hO hB 0 c).owesAt () t.succ = (dats m hO hB 0 c).owesAt () t.castSucc from rfl, halves_eq, inv_eq]
  unfold Dat.owesAt Pipeline.owesWithin
  rw [show (dats m hO hB 0 c).owed t.castSucc = 0 from rfl]
  iintro ⟨⟨⟨HB0, Hg, HS0, HY⟩, HT0⟩, ⟨%W, %hW, Ho⟩, ⟨%d0, H0⟩⟩
  iapply (body_wp c (grid0.coords t) (t0 m) (hB.w0 m (grid0.coords t)) (xsV m c) _ _ _)
  isplitl [H0]; · iexists _; iexact H0
  isplitl [HB0]; · iexact HB0
  isplitl [HS0]; · iexact HS0
  isplitl [Ho]; · iexists _; iexact Ho
  isplitl [HY]; · iexact HY
  isplitl [HT0]; · iexact HT0
  iintro ⟨H0, HB0, HS0, ⟨%W', Ho⟩, HY, HT0⟩
  isplitl [HB0 Hg HS0 HY HT0]
  · isplitl [HB0 Hg HS0 HY]
    · isplitl [HB0]; · iexact HB0
      isplitl [Hg]; · iexact Hg
      isplitl [HS0]; · iexact HS0
      iexact HY
    iexact HT0
  isplitl [Ho]
  · iexists W'; isplitr; · ipureintro; exact fun _ _ => Or.inl trivial
    iexact Ho
  iexact H0

theorem row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem obligation (hO : Ok m) (hB : Bnd m) (c : Dev nD) : BodyObligation (dats (F := F) m hO hB 0 c) (defs₀ (F := F)) Variants.none () Set.univ := fun t => by
  rw [bigSep_W0, bigSep_W0, row m hO]
  exact triple_restated (point m hO hB c t) rfl .rfl fun _ => .rfl

/-! ## The run -/

theorem drop_table (c : Dev nD) : (iprop(inv m c ∗ Pipeline.ΦT pre0 (tbl m) c) : sProp 𝕄) ⊢ Pipeline.ΦD osem spec0 src (V m) c := by
  unfold inv
  iintro ⟨H, -⟩
  iexact H

set_option backward.isDefEq.respectTransparency.types false in
theorem run (hO : Ok m) (hB : Bnd m) : θ_run defs (onTc (τ := τ) (main (F := F))) (s₀ m ρ) (fun r => (Pipeline.FramePost (Pipeline.pin pcfgs fun _ => adm m hO) (dats m hO hB) 0 (V m)) r ∧ r.2.sem = fun _ => 0) :=
  Pipeline.θ_run_frameP_dma (Q' := _) pcfgs (fun _ => adm m hO) (dats m hO hB) (0 : Fin 1) launch0 osem defs₀ Variants.none ownSem src src_sub m ρ main
    (hbody := fun c => (obligation m hO hB c).loose) (hshare := fun c => (dats m hO hB 0 c).share_full fun _ => rfl)
    (howed := fun _ _ => rfl) (V := V m) (hmain := region_wp m) (hA := A_eq m hO hB) (hpf := V_tbl m)
    (hin := fun _ => .rfl) (hout := fun c => drop_table m c)

/-- Both arguments end as they were and every semaphore at zero. -/
theorem frame_of_ok (hO : Ok m) (hB : Bnd m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).2 main_arg0 (by decide : main_arg0 ∈ Pipeline.restRefs sig spec0), (h.1 c).2 main_arg1 (by decide : main_arg1 ∈ Pipeline.restRefs sig spec0)⟩, h.2⟩) (run m ρ hO hB)

end Cert.GatherIdeal.Hand

end
-- ==== Proof.GatherClaim.lean ====
/-
  The gathering of the experts' rows: each row the token the table names, narrowed to bf16, against the reference's
  indexing — over any floats, so for the idealised programs and for the words themselves.
-/
module

public import proofs.«01_k».proof.Defs
public import proofs.«01_k».proof.Proof.Gen.Gather
public import proofs.«01_k».proof.Proof.Gen.GatherRef
public import proofs.«01_k».proof.Proof.GatherIdealLaunch
public import proofs.«01_k».proof.Proof.Gen.GatherRefIdeal.Read
public import proofs.«01_k».proof.Proof.Gen.GatherRefIdeal.Run
public import proofs.«01_k».proof.Proof.Gen.Pre_tokens_in
public import Idealize.ShloMosaic.Lib.Pointwise
public import Idealize.ShloMosaic.Lib.ReduceAll
public import Idealize.ShloMosaic.Lib.Routing.Ops

@[expose] public section

set_option maxRecDepth 16384

noncomputable section

open Idealize.ShloMosaic Idealize.ShloMosaic.TcCoe Idealize.SL.Sem

namespace Cert.GatherClaim

/-- A word that is not negative and below the tokens' count is one of the tokens. -/
theorem lt_of_bits (v : BitVec 32) (h : IntOp.andi (IntOp.cmpi .sge v 0#32) (IntOp.cmpi .slt v 8192#32) = 1#1) : v.toNat < 8192 := by
  have h2 := IntOp.andi_eq_one.mp h
  rw [WordCmp.cmpi_sge_eq, WordCmp.cmpi_slt_eq] at h2
  have b : ∀ c : Bool, BitVec.ofBool c = 1#1 ↔ c = true := by decide
  rw [b, b, decide_eq_true_eq, decide_eq_true_eq] at h2
  have e0 : (0#32).toInt = 0 := by decide
  have e8 : (8192#32).toInt = 8192 := by decide
  rw [e0, e8] at h2
  have h3 := v.isLt
  rw [BitVec.toInt_eq_toNat_cond] at h2
  split at h2 <;> omega

/-- What the precondition says of the table. -/
theorem words_of_pre {F : FTy → Type} [FloatOps F] (t : IVec Cert.Pre_tokens_in.S20480 32) (x : FVec F Cert.Pre_tokens_in.S8192x4096 .f32)
    (h : Cert.Pre_tokens_in.fn (F := F) t x = fun _ => 1#1) (y : Cert.Pre_tokens_in.S20480.Idx) : (t y).toNat < 8192 := by
  have h0 := congrFun h (fun a => a.elim0)
  unfold Cert.Pre_tokens_in.fn at h0
  haveI : Subsingleton Cert.Pre_tokens_in.S_.Idx := ⟨fun a b => funext fun k => k.elim0⟩
  exact lt_of_bits _ (Host.reduce_andi_all _ _ _ _ _ h0 y)

/-- The kernel and its idealisation have the same text, so their bodies are the same, over any floats. -/
theorem defs_eq {F : FTy → Type} [FloatOps F] : Cert.Gather.defs (F := F) = Cert.GatherIdeal.defs (F := F) := by
  refine congrArg (Pipeline.defs Cert.Gather.pcfgs) (congrArg (Defs.onTc (nD := Cert.Gather.nD) (τ := Cert.Gather.τ)) (funext fun l => funext fun x => ?_))
  match l, x with
  | 0, (t, s) => rfl

/-- The kernel's frame, from the run of its idealisation read over words. -/
theorem frame_p : Cert.quiescent_Gather := fun m ρ hp => by
  rw [defs_eq]
  exact Cert.GatherIdeal.Hand.frame_of_ok (F := Bits) m ρ trivial (words_of_pre _ _ (hp 0))

theorem frame_pi : Cert.quiescent_GatherIdeal := fun m ρ hp => Cert.GatherIdeal.Hand.frame_of_ok m ρ trivial (words_of_pre _ _ (hp 0))

theorem frame_ri : Cert.quiescent_GatherRefIdeal := fun m ρ _ =>
  (θ_run Cert.GatherRefIdeal.defs _ _).mono (fun r h => ⟨fun c => (h c).2, sem_eq_zero_of_no_sems (by decide) r.2⟩)
    (Cert.GatherRefIdeal.Value.run m ρ)

theorem frame_ri_pre : Cert.quiescent_GatherRefIdeal_pre_tokens_in := fun m ρ _ =>
  (θ_run Cert.GatherRefIdeal.defs _ _).mono (fun r h => ⟨fun c => (h c).2, sem_eq_zero_of_no_sems (by decide) r.2⟩)
    (Cert.GatherRefIdeal.Value.run m ρ)

/-- The reference over words has its idealisation's text too. -/
theorem frame_r : Cert.quiescent_GatherRef := fun m ρ _ =>
  (θ_run Cert.GatherRef.defs _ _).mono (fun r h => ⟨fun c => (h c).2, sem_eq_zero_of_no_sems (by decide) r.2⟩)
    (Cert.GatherRefIdeal.Value.run (F := Bits) m ρ)

end Cert.GatherClaim

namespace Cert.GatherIdeal.Hand

open Cert.GatherIdeal Cert.GatherIdeal.Gen Idealize.ShloMosaic.Pointwise

variable {F : FTy → Type} [FloatOps F]

/-- The tokens and the table at natural-number coordinates. -/
def xAt (x : S8192x4096.Idx → Elt F .f32) (r c : ℕ) : Elt F .f32 := x (ix2 (Fin.ofNat 8192 r) (Fin.ofNat 4096 c))
def pAt (t : S20480.Idx → BitVec 32) (r : ℕ) : ℕ := (t (ix1 (Fin.ofNat 20480 r))).toNat

/-- Entry `(r, j)` of the array the call ends with. -/
def entry (t : S20480.Idx → BitVec 32) (x : S8192x4096.Idx → Elt F .f32) (r j : ℕ) : Elt F .bf16 :=
  FloatOps.truncf .bf16 bitsLt_bf16_f32 (xAt x (pAt t r) j)

variable (m : (ℓ : Loc nD τ sig) → Buf (Elt F) ℓ)

abbrev aT (c : Dev nD) : S20480.Idx → BitVec 32 := m ((c : Thread nD τ).loc main_arg0)
abbrev aX (c : Dev nD) : S8192x4096.Idx → Elt F .f32 := m ((c : Thread nD τ).loc main_arg1)

/-- The array the call ends with. -/
def result (c : Dev nD) : S20480x4096.Idx → Elt F .bf16 := fun i => entry (aT m c) (aX m c) (i 0).val (i 1).val

theorem at_0 : ∀ t : Fin grid0.N, cc0_transform_1 (grid0.coords t) 0 = t.val ∧ cc0_transform_1 (grid0.coords t) 1 = 0 := by decide +kernel
theorem crd : ∀ t : Fin grid0.N, (grid0.coords t 0).val = t.val := by decide +kernel

theorem lt_N (hO : Ok m) (t : Fin (cfgM m hO).N) : t.val < 80 := lt_of_lt_of_eq t.isLt (show grid0.N = 80 from N_0)

theorem off1_eq (i : grid0.Coords) (k : Fin n) : k0_off1 i k = ![256 * (i 0).val + k.val] := by
  have h0 : (i 0).val < 80 := (i 0).isLt
  have h : k.val < 256 := n_eq ▸ k.isLt
  have e := iv_val k
  unfold k0_off1
  simp only [Scalar.muli, Scalar.addi, Scalar.indexCast, IntOp.muli, IntOp.addi]
  congr 1
  simp [BitVec.toNat_add, BitVec.toNat_mul, e]
  omega

theorem w0_eq (tb : S20480.Idx → BitVec 32) (i : grid0.Coords) (k : Fin n) : (w0 tb i k).toNat = pAt tb (256 * (i 0).val + k.val) := by
  have h0 : (i 0).val < 80 := (i 0).isLt
  have h : k.val < 256 := n_eq ▸ k.isLt
  unfold w0 pAt
  congr 2
  funext a
  apply Fin.ext
  match a with
  | ⟨0, _⟩ =>
    show k0_off1 i k 0 + 1 * 0 = (256 * (i 0).val + k.val) % 20480
    rw [off1_eq]
    show 256 * (i 0).val + k.val + 1 * 0 = _
    omega

theorem gath_eq (w : Fin n → BitVec 32) (hw : ∀ k, (w k).toNat < 8192) (xs : S8192x4096.Idx → Elt F .f32) (r : Fin 256) (j : Fin 4096) :
    gath (F := F) w hw xs (ix2 r j) = xAt xs (w (rowOf (ix2 r j))).toNat j.val := by
  unfold gath xAt
  congr 1
  have := hw (rowOf (ix2 r j))
  funext a
  apply Fin.ext
  match a with
  | ⟨0, _⟩ => show (w (rowOf (ix2 r j))).toNat = (w (rowOf (ix2 r j))).toNat % 8192; omega
  | ⟨1, _⟩ => show j.val = j.val % 4096; omega

/-- Every point writes its block back: successive points' output blocks differ. -/
theorem flush_0 (hO : Ok m) (t : Fin (cfgM m hO).N) : ((cfgM m hO).win 0).flush t = true :=
  (Pipeline.Window.flushOf_reads cc0_transform_1 reads0_0 hreads0_0 1 (by decide) (by decide)
    (Pipeline.Window.sep_of_coord cc0_transform_1 0 0 (fun _ => rfl) (by decide)) (P := 1) (m := 0) (by decide) rfl t).mpr (Nat.mod_one _)

theorem flushed_eq (hO : Ok m) (hB : Bnd m) (c : Dev nD) (t : Fin (cfgM m hO).N) :
    (dats m hO hB 0 c).flushed 0 t = (((cfgM m hO).win 0).blk t).view.read (Elt F) (result m c) := by
  have ht := lt_N m hO t
  have hi := at_0 t
  have hc := crd t
  show (((cfgM m hO).win 0).cut ((cfgM m hO).grid.coords t) ((dats m hO hB 0 c).after 0 t)) = _
  rw [after_0]
  refine funext fun (j : S256x4096.Idx) => ?_
  obtain ⟨r, d, rfl⟩ : ∃ (r : Fin 256) (d : Fin 4096), j = ix2 r d := ⟨j 0, j 1, by funext a; match a with | ⟨0, _⟩ => rfl | ⟨1, _⟩ => rfl⟩
  show tile m hO hB c t (ix2 r d) = result m c ((((cfgM m hO).win 0).blk t).view.emb (ix2 r d))
  have hr := r.isLt
  have hd := d.isLt
  have hT : t0 m = aT m c := by obtain rfl : c = 0 := Subsingleton.elim _ _; rfl
  have key : ∀ q : S20480x4096.Idx, (q 0).val = 256 * t.val + r.val → (q 1).val = d.val → tile m hO hB c t (ix2 r d) = result m c q := by
    intro q e0 e1
    have y0 : gath (F := F) (w0 (t0 m) (grid0.coords t)) (hB.w0 m (grid0.coords t)) (xsV m c) (ix2 r d) = xAt (aX m c) (pAt (aT m c) (256 * t.val + r.val)) d.val :=
      (gath_eq _ _ _ r d).trans (by rw [w0_eq, hT, hc]; rfl)
    unfold tile result entry res
    rw [e0, e1]
    exact congrArg (FloatOps.truncf .bf16 bitsLt_bf16_f32) y0
  refine key _ ?_ ?_
  · show cc0_transform_1 (grid0.coords t) 0 * 256 + 1 * r.val = _
    rw [hi.1]; omega
  · show cc0_transform_1 (grid0.coords t) 1 * 4096 + 1 * d.val = _
    rw [hi.2]; omega

theorem cover (hO : Ok m) (i : S20480x4096.Idx) : ∃ t : Fin (cfgM m hO).N, ((cfgM m hO).win 0).flush t = true ∧ i ∈ (((cfgM m hO).win 0).blk t).view.set := by
  have h0 : (i 0).val < 20480 := (i 0).isLt
  have h1 : (i 1).val < 4096 := (i 1).isLt
  have hN : (cfgM m hO).N = 80 := N_0
  obtain ⟨n, hn, hv⟩ : ∃ n : ℕ, n < (cfgM m hO).N ∧ n = (i 0).val / 256 := ⟨_, by omega, rfl⟩
  have hi := at_0 ⟨n, hn⟩
  dsimp only at hi
  refine ⟨⟨n, hn⟩, flush_0 m hO _, ?_⟩
  show i ∈ ((View.whole main_v0).slice (Rect.block (s := S20480x4096) S256x4096.size (cc0_transform_1 (grid0.coords ⟨n, hn⟩)) (Facts₀.hinb0_0 _))).set
  rw [View.set_slice_whole, Rect.mem_set_unit]
  intro a
  match a with
  | ⟨0, _⟩ => show cc0_transform_1 (grid0.coords ⟨n, hn⟩) 0 * 256 ≤ (i 0).val ∧ (i 0).val < cc0_transform_1 (grid0.coords ⟨n, hn⟩) 0 * 256 + 256; rw [hi.1]; omega
  | ⟨1, _⟩ => show cc0_transform_1 (grid0.coords ⟨n, hn⟩) 1 * 4096 ≤ (i 1).val ∧ (i 1).val < cc0_transform_1 (grid0.coords ⟨n, hn⟩) 1 * 4096 + 4096; rw [hi.2]; omega

theorem arr_eq (hO : Ok m) (hB : Bnd m) (c : Dev nD) : (dats m hO hB 0 c).arrAt 0 (cfgM m hO).N = result m c :=
  (dats m hO hB 0 c).arrAt_eq_of_cover 0 (result m c) (fun t _ => flushed_eq m hO hB c t) (cover m hO)

/-- The call ends with that array, both arguments as they were. -/
theorem run_value (ρ : Dev nD → PrngReg) (hB : Bnd m) : θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 0).trans (arr_eq m trivial hB c),
    (h.1 c).2 main_arg0 (by decide : main_arg0 ∈ Pipeline.restRefs sig spec0), (h.1 c).2 main_arg1 (by decide : main_arg1 ∈ Pipeline.restRefs sig spec0)⟩) (run m ρ trivial hB)

end Cert.GatherIdeal.Hand

namespace Cert.GatherClaim

open Cert.GatherRefIdeal Cert.GatherRefIdeal.Gen Cert.GatherRefIdeal.Facts Cert.GatherRefIdeal.Read
open Cert.GatherIdeal.Hand (xAt pAt entry result)
open Idealize.ShloMosaic.Pointwise

section Ref

variable {F : FTy → Type} [FloatOps F] (t : S20480.Idx → BitVec 32) (x : S8192x4096.Idx → Elt F .f32)

/-- A token's number is not negative, so the indexing takes it as it is. -/
theorem not_neg (v w : BitVec 32) (h : v.toNat < 8192) : (if IntOp.cmpi .slt v 0#32 = 1#1 then w else v) = v := by
  rw [WordCmp.cmpi_slt_eq, WordCmp.toInt_eq_toNat_of_lt_half (by omega)]
  have e0 : (0#32).toInt = 0 := by decide
  rw [e0, decide_eq_false (by omega)]
  exact if_neg (by decide)

theorem start (ht : ∀ y, (t y).toNat < 8192) (r : Fin 20480) : val_main_v5 (F := F) t (ix2 r (0 : Fin 1)) = t (ix1 r) := by
  rw [val_main_v5_apply, show idx_main_v5 (ix2 r (0 : Fin 1)) = ix1 r from funext fun a => match a with | ⟨0, _⟩ => rfl,
    val_main_v4_apply, val_main_v1_apply, val_main_v0_apply, val_main_c_apply]
  exact not_neg _ _ (ht _)

theorem ref_ix (ht : ∀ y, (t y).toNat < 8192) (r : Fin 20480) (j : Fin 4096) :
    val_main_v7 (F := F) t x (ix2 r j) = entry t x r.val j.val := by
  have hr := r.isLt
  have hj := j.isLt
  have h2 := ht (ix1 r)
  have take : val_main_v6 (F := F) t x (ix2 r j) = xAt x (pAt t r.val) j.val := by
    refine (Routing.gather_row gather_S8192x4096_S20480x1_S20480x4096_1_0_n_n_0_1_14096 rfl rfl rfl rfl rfl x (val_main_v5 (F := F) t) r j ⟨(t (ix1 r)).toNat, h2⟩ ((start t ht r).trans (BitVec.eq_of_toNat_eq (by rw [BitVec.toNat_ofNat, Nat.mod_eq_of_lt (by omega)]))) (by decide)).trans ?_
    unfold xAt pAt
    have er : (ix1 (Fin.ofNat 20480 r.val) : S20480.Idx) = ix1 r := by
      funext a; apply Fin.ext
      match a with
      | ⟨0, _⟩ => show r.val % 20480 = r.val; omega
    rw [er]
    congr 1
    funext a
    apply Fin.ext
    match a with
    | ⟨0, _⟩ => show (t (ix1 r)).toNat = (t (ix1 r)).toNat % 8192; omega
    | ⟨1, _⟩ => show j.val = j.val % 4096; omega
  rw [val_main_v7_apply, take]
  rfl

theorem ref_apply (ht : ∀ y, (t y).toNat < 8192) (i : S20480x4096.Idx) : val_main_v7 (F := F) t x i = entry t x (i 0).val (i 1).val :=
  (congrArg _ (show i = ix2 (i 0) (i 1) from funext fun a => match a with | ⟨0, _⟩ => rfl | ⟨1, _⟩ => rfl)).trans (ref_ix t x ht (i 0) (i 1))

/-- The reference ends with the array the kernel's call ends with. -/
theorem ref_value (m : (ℓ : Loc Cert.GatherIdeal.nD Cert.GatherIdeal.τ Cert.GatherIdeal.sig) → Buf (Elt F) ℓ) (m' : (ℓ : Loc nD τ sig) → Buf (Elt F) ℓ) (g' : Dev nD → PrngReg)
    (hB : ∀ c, ∀ y, (Cert.GatherIdeal.Hand.aT m c y).toNat < 8192)
    (hargs : ∀ c : Dev nD, m' ((c.tc : Thread nD τ).loc main_arg0) = Cert.GatherIdeal.Hand.aT m c ∧ m' ((c.tc : Thread nD τ).loc main_arg1) = Cert.GatherIdeal.Hand.aX m c) :
    θ_run defs (onTc (τ := τ) (main (F := F))) ⟨m', fun _ => 0, g'⟩ fun r => ∀ c : Dev nD,
      r.2.mem ((c.tc : Thread nD τ).loc main_v7) = result m c
      ∧ r.2.mem ((c.tc : Thread nD τ).loc main_arg0) = m' ((c.tc : Thread nD τ).loc main_arg0)
      ∧ r.2.mem ((c.tc : Thread nD τ).loc main_arg1) = m' ((c.tc : Thread nD τ).loc main_arg1) := by
  refine (θ_run defs _ _).mono (fun r h c => ⟨(h c).1.trans ?_, (h c).2⟩) (Cert.GatherRefIdeal.Value.run m' g')
  rw [val_main_v7_eq, (hargs c).1, (hargs c).2]
  exact funext fun i => ref_apply _ _ (hB c) i

end Ref

/-- The kernel and the reference end with the same array, idealised. -/
theorem algebraic : Cert.algebraic_GatherIdeal_GatherRefIdeal := by
  intro m g m' g' hp hargs
  exact ⟨fun c => result m c, Cert.GatherIdeal.Hand.run_value m g (words_of_pre _ _ (hp 0)),
    ref_value m m' g' (fun c => words_of_pre _ _ (hp c)) hargs⟩

/-- And the same words. -/
theorem bitexact : Cert.bitexact_Gather_GatherRef := by
  intro m g m' g' hp hargs
  rw [defs_eq]
  exact ⟨fun c => result (F := Bits) m c, Cert.GatherIdeal.Hand.run_value (F := Bits) m g (words_of_pre _ _ (hp 0)),
    ref_value (F := Bits) m m' g' (fun c => words_of_pre _ _ (hp c)) hargs⟩

end Cert.GatherClaim

end
-- ==== Proof.InSmallClaim.lean ====
/-
  The three narrow groups of columns of the input projection, in the first 24 of 128 columns, zeros in the rest: one
  product by the columns padded with zeros, against the reference's product padded afterwards.
-/
module

public import proofs.«01_k».proof.Defs
public import proofs.«01_k».proof.Proof.Gen.InSmall.Frame
public import proofs.«01_k».proof.Proof.Gen.InSmallIdeal.Value
public import proofs.«01_k».proof.Proof.Gen.InSmallRefIdeal.Read
public import proofs.«01_k».proof.Proof.Gen.InSmallRefIdeal.Run
public import Idealize.ShloMosaic.Lib.Pointwise

@[expose] public section

set_option maxRecDepth 16384

noncomputable section

open Idealize.ShloMosaic Idealize.ShloMosaic.TcCoe Idealize.SL.Sem

namespace Cert.InSmallIdeal.Blocks

open Cert.InSmallIdeal Cert.InSmallIdeal.Gen Idealize.ShloMosaic.Pointwise

/-- The tokens, batch and position in one coordinate, at natural-number coordinates. -/
def hAt (x : S2x4096x4096.Idx → EReal) (r c : ℕ) : EReal := x (ix3 (Fin.ofNat 2 (r / 4096)) (Fin.ofNat 4096 r) (Fin.ofNat 4096 c))
/-- The projection matrix at natural-number coordinates. -/
def wAt (x : S4096x29208.Idx → EReal) (r c : ℕ) : EReal := x (ix2 (Fin.ofNat 4096 r) (Fin.ofNat 29208 c))
/-- The matrix's column that the result's column `j` takes, for the first 24. -/
def col (j : ℕ) : ℕ := if j < 16 then j + 4096 else j + 12800
/-- The matrix of those columns, zeros past them. -/
def padAt (x : S4096x29208.Idx → EReal) (r j : ℕ) : EReal := if j < 24 then wAt x r (col j) else 0

variable (m : (ℓ : Loc nD τ sig) → Buf (Elt Ideal) ℓ)

abbrev aH (c : Dev nD) : S2x4096x4096.Idx → EReal := m ((c : Thread nD τ).loc main_arg0)
abbrev aW (c : Dev nD) : S4096x29208.Idx → EReal := m ((c : Thread nD τ).loc main_arg1)

theorem ind0 : ∀ t : Fin grid0.N, win0_0.index t 0 = t.val ∧ win0_0.index t 1 = 0 := by decide +kernel
theorem ind1 : ∀ t : Fin grid0.N, win0_1.index t 0 = 0 ∧ win0_1.index t 1 = 0 := by decide +kernel
theorem ind2 : ∀ t : Fin grid0.N, win0_2.index t 0 = t.val ∧ win0_2.index t 1 = 0 := by decide +kernel
theorem flush2 : ∀ t : Fin cfg0.N, (cfg0.win 2).flush t = true := (by decide +kernel : ∀ t : Fin grid0.N, win0_2.flush t = true)

theorem lt_N (t : Fin cfg0.N) : t.val < 8 := lt_of_lt_of_eq t.isLt (show cfg0.N = 8 from N_0)

theorem zero_word : Ideal.ofBits .f32 0x00000000#32 = 0 := by simp [Ideal.ofBits, Ideal.ieee]

theorem V_v5 (c : Dev nD) : V m c main_v5 = shapeCast S8192x4096 (aH m c) shapeCasts_S2x4096x4096_S8192x4096 := by
  unfold V
  simp [hostOps0]
  rfl

/-- The columns the kernel multiplies by, put side by side. -/
def cols (w : S4096x29208.Idx → EReal) : S4096x128.Idx → EReal :=
  concatenate S4096x128 1 [⟨S4096x16, extractStridedSlice S4096x16 ![0, 4096] w slices_S4096x29208_S4096x16_0_4096⟩,
    ⟨S4096x8, extractStridedSlice S4096x8 ![0, 12816] w slices_S4096x29208_S4096x8_0_12816⟩,
    ⟨S4096x104, fun _ => Ideal.ofBits .f32 0x00000000#32⟩]
    concatenates_S4096x16_S4096x8_S4096x104_S4096x128_d1

theorem V_v4 (c : Dev nD) : (V m c main_v4 : S4096x128.Idx → EReal) = cols (aW m c) := by
  unfold V
  simp [hostOps0]
  rfl

theorem cols_apply (w : S4096x29208.Idx → EReal) (r : Fin 4096) (j : Fin 128) : cols w (ix2 r j) = padAt w r.val j.val := by
  have hr := r.isLt
  have hj := j.isLt
  unfold cols padAt wAt col
  by_cases h1 : j.val < 16
  · refine Eq.trans (concatenate_apply_piece (α := EReal) (t := S4096x128) _ _ _ _ 0 (by simp) S4096x16 _ rfl rfl 0 rfl (ix2 r (⟨j.val, h1⟩ : Fin 16)) ?_ ?_) ?_
    · intro b hb; match b with
      | ⟨0, _⟩ => rfl
      | ⟨1, _⟩ => exact absurd rfl hb
    · show 0 + j.val = j.val; omega
    · rw [if_pos (show j.val < 24 by omega), if_pos h1]
      refine extractStridedSlice_apply _ _ _ _ _ fun a => ?_
      match a with
      | ⟨0, _⟩ => show r.val % 4096 = 0 + r.val; omega
      | ⟨1, _⟩ => show (j.val + 4096) % 29208 = 4096 + j.val; omega
  · by_cases h2 : j.val < 24
    · refine Eq.trans (concatenate_apply_piece (α := EReal) (t := S4096x128) _ _ _ _ 1 (by simp) S4096x8 _ rfl rfl 16 rfl (ix2 r (⟨j.val - 16, by omega⟩ : Fin 8)) ?_ ?_) ?_
      · intro b hb; match b with
        | ⟨0, _⟩ => rfl
        | ⟨1, _⟩ => exact absurd rfl hb
      · show 16 + (j.val - 16) = j.val; omega
      · rw [if_pos h2, if_neg h1]
        refine extractStridedSlice_apply _ _ _ _ _ fun a => ?_
        match a with
        | ⟨0, _⟩ => show r.val % 4096 = 0 + r.val; omega
        | ⟨1, _⟩ => show (j.val + 12800) % 29208 = 12816 + (j.val - 16); omega
    · refine Eq.trans (concatenate_apply_piece (α := EReal) (t := S4096x128) _ _ _ _ 2 (by simp) S4096x104 _ rfl rfl 24 rfl (ix2 r (⟨j.val - 24, by omega⟩ : Fin 104)) ?_ ?_) ?_
      · intro b hb; match b with
        | ⟨0, _⟩ => rfl
        | ⟨1, _⟩ => exact absurd rfl hb
      · show 24 + (j.val - 24) = j.val; omega
      · rw [if_neg h2]
        exact zero_word

theorem blk0 (c : Dev nD) (t : Fin cfg0.N) (r : Fin 1024) (k : Fin 4096) :
    (iblk m c 0 t : Vec Ideal S1024x4096 .bf16) (ix2 r k) = hAt (aH m c) (1024 * t.val + r.val) k.val := by
  have hi := ind0 t
  have ht := lt_N t
  have hr := r.isLt
  have hk := k.isLt
  unfold iblk hAt
  rw [View.read_apply]
  show V m c main_v5 _ = _
  rw [V_v5]
  refine shapeCast_apply _ _ _ _ ?_
  rw [Shape.rowMajor_val_three, Shape.rowMajor_val_two]
  show ((_ : ℕ) / 4096 % 2 * 4096 + (_ : ℕ) % 4096) * 4096 + (_ : ℕ) % 4096
    = (win0_0.index t 0 * 1024 + 1 * r.val) * 4096 + (win0_0.index t 1 * 4096 + 1 * k.val)
  rw [hi.1, hi.2]
  omega

theorem blk1 (c : Dev nD) (t : Fin cfg0.N) (k : Fin 4096) (j : Fin 128) :
    (iblk m c 1 t : Vec Ideal S4096x128 .bf16) (ix2 k j) = padAt (aW m c) k.val j.val := by
  have hi := ind1 t
  have hk := k.isLt
  have hj := j.isLt
  refine Eq.trans ?_ (cols_apply (aW m c) k j)
  unfold iblk
  rw [View.read_apply]
  show V m c main_v4 _ = _
  rw [V_v4]
  congr 1
  funext a
  apply Fin.ext
  match a with
  | ⟨0, _⟩ => show win0_1.index t 0 * 4096 + 1 * k.val = k.val; rw [hi.1]; omega
  | ⟨1, _⟩ => show win0_1.index t 1 * 128 + 1 * j.val = j.val; rw [hi.2]; omega

/-- The body's product, entry by entry. -/
theorem pay_apply (x : Vec Ideal S1024x4096 .bf16) (y : Vec Ideal S4096x128 .bf16) (r : Fin 1024) (j : Fin 128) :
    k0_pay1 (F := Ideal) x y (ix2 r j) = ∑ k : Fin 4096, x (ix2 r k) * y (ix2 k j) := by
  pointwise [k0_pay1]

/-- The projection's entry at token `r` and result column `j`. -/
def entry (h : S2x4096x4096.Idx → EReal) (w : S4096x29208.Idx → EReal) (r j : ℕ) : EReal :=
  ∑ k : Fin 4096, hAt h r k.val * padAt w k.val j

/-- The array the kernel ends with. -/
def result (c : Dev nD) : S8192x128.Idx → EReal := fun i => entry (aH m c) (aW m c) (i 0).val (i 1).val

theorem z2 : (![0, 0] : Fin 2 → ℕ) = fun _ => 0 := by funext a; match a with | ⟨0, _⟩ => rfl | ⟨1, _⟩ => rfl

theorem flushed_eq (c : Dev nD) (t : Fin cfg0.N) (hf : (cfg0.win 2).flush t = true) :
    (dats m 0 c).flushed 2 t = ((cfg0.win 2).blk t).view.read (Elt Ideal) (result m c) := by
  have ht := lt_N t
  have hi := ind2 t
  rw [Cert.InSmallIdeal.Value.flushed2]
  funext j
  obtain ⟨r, d, rfl⟩ : ∃ (r : Fin 1024) (d : Fin 128), j = ix2 r d := ⟨j 0, j 1, by funext a; match a with | ⟨0, _⟩ => rfl | ⟨1, _⟩ => rfl⟩
  rw [View.read_apply]
  have hr := r.isLt
  have hd := d.isLt
  have e0 : (((cfg0.win 2).blk t).view.emb (ix2 r d) 0).val = win0_2.index t 0 * 1024 + 1 * r.val := rfl
  have e1 : (((cfg0.win 2).blk t).view.emb (ix2 r d) 1).val = win0_2.index t 1 * 128 + 1 * d.val := rfl
  rw [hi.1, show t.val * 1024 + 1 * r.val = 1024 * t.val + r.val by omega] at e0
  rw [hi.2, show 0 * 128 + 1 * d.val = d.val by omega] at e1
  show out0_2 (iblk m c 0 t) (iblk m c 1 t) (ix2 r d) = _
  unfold out0_2
  rw [View.canon_unit_zero z2, View.ld_unit_zero z2, View.ld_unit_zero z2, pay_apply]
  unfold result
  rw [e0, e1]
  unfold entry
  simp only [blk0, blk1]
  rfl

theorem cover (i : S8192x128.Idx) : ∃ t : Fin cfg0.N, (cfg0.win 2).flush t = true ∧ i ∈ ((cfg0.win 2).blk t).view.set := by
  have h0 : (i 0).val < 8192 := (i 0).isLt
  have h1 : (i 1).val < 128 := (i 1).isLt
  have hN : cfg0.N = 8 := N_0
  obtain ⟨n, hn, hv⟩ : ∃ n : ℕ, n < cfg0.N ∧ n = (i 0).val / 1024 := ⟨_, by omega, rfl⟩
  have hi := ind2 ⟨n, hn⟩
  dsimp only at hi
  refine ⟨⟨n, hn⟩, flush2 _, ?_⟩
  show i ∈ ((View.whole main_v6).slice (win0_2.rect ⟨n, hn⟩)).set
  rw [View.set_slice_whole, Rect.mem_set_unit]
  intro a
  match a with
  | ⟨0, _⟩ => show win0_2.index _ 0 * 1024 ≤ (i 0).val ∧ (i 0).val < win0_2.index _ 0 * 1024 + 1024; rw [hi.1]; omega
  | ⟨1, _⟩ => show win0_2.index _ 1 * 128 ≤ (i 1).val ∧ (i 1).val < win0_2.index _ 1 * 128 + 128; rw [hi.2]; omega

theorem arr_eq (c : Dev nD) : (dats m 0 c).arrAt 2 cfg0.N = result m c :=
  (dats m 0 c).arrAt_eq_of_cover 2 (result m c) (flushed_eq m c) cover

end Cert.InSmallIdeal.Blocks

namespace Cert.InSmallClaim

open Cert.InSmallRefIdeal Cert.InSmallRefIdeal.Gen Cert.InSmallRefIdeal.Facts Cert.InSmallRefIdeal.Read Cert.InSmallIdeal.Blocks
open Idealize.ShloMosaic.Pointwise

variable (x : S2x4096x4096.Idx → EReal) (w : S4096x29208.Idx → EReal)

theorem dot_apply (b : Fin 2) (p : Fin 4096) (j : Fin 29208) :
    val_main_v1 (F := Ideal) x w (ix3 b p j) = ∑ k : Fin 4096, hAt x (4096 * b.val + p.val) k.val * wAt w k.val j.val := by
  have hb := b.isLt
  have hp := p.isLt
  have hj := j.isLt
  rw [val_main_v1_apply]
  refine Finset.sum_congr rfl fun k _ => ?_
  have hk := k.isLt
  rw [val_main_v0_apply]
  unfold hAt wAt
  show x _ * w _ = x _ * w _
  congr 2
  · funext a
    apply Fin.ext
    match a with
    | ⟨0, _⟩ => show b.val = (_ : ℕ) / 4096 % 2; omega
    | ⟨1, _⟩ => show p.val = (_ : ℕ) % 4096; omega
    | ⟨2, _⟩ => show k.val = k.val % 4096; omega
  · funext a
    apply Fin.ext
    match a with
    | ⟨0, _⟩ => show k.val = k.val % 4096; omega
    | ⟨1, _⟩ => show j.val = j.val % 29208; omega

/-- The product with the columns picked and padded. -/
theorem pick_apply (b : Fin 2) (p : Fin 4096) (j : Fin 128) :
    val_main_v5 (F := Ideal) x w (ix3 b p j) = entry x w (4096 * b.val + p.val) j.val := by
  have hj := j.isLt
  unfold val_main_v5 entry
  by_cases h1 : j.val < 16
  · refine Eq.trans (concatenate_apply_piece (α := EReal) (t := S2x4096x128) _ _ _ _ 0 (by simp) S2x4096x16 _ rfl rfl 0 rfl (ix3 b p (⟨j.val, h1⟩ : Fin 16)) ?_ ?_) ?_
    · intro a ha; match a with
      | ⟨0, _⟩ => rfl
      | ⟨1, _⟩ => rfl
      | ⟨2, _⟩ => exact absurd rfl ha
    · show 0 + j.val = j.val; omega
    · have e : ∀ k : ℕ, padAt w k j.val = wAt w k (4096 + j.val) := fun k => by
        unfold padAt col; rw [if_pos (show j.val < 24 by omega), if_pos h1, Nat.add_comm]
      simp only [e]
      rw [val_main_v2_apply]
      rw [show idx_main_v2 (ix3 b p (⟨j.val, h1⟩ : Fin 16)) = ix3 b p (⟨4096 + j.val, by omega⟩ : Fin 29208) from by
        funext a; match a with | ⟨0, _⟩ => rfl | ⟨1, _⟩ => rfl | ⟨2, _⟩ => rfl, dot_apply]
  · by_cases h2 : j.val < 24
    · refine Eq.trans (concatenate_apply_piece (α := EReal) (t := S2x4096x128) _ _ _ _ 1 (by simp) S2x4096x8 _ rfl rfl 16 rfl (ix3 b p (⟨j.val - 16, by omega⟩ : Fin 8)) ?_ ?_) ?_
      · intro a ha; match a with
        | ⟨0, _⟩ => rfl
        | ⟨1, _⟩ => rfl
        | ⟨2, _⟩ => exact absurd rfl ha
      · show 16 + (j.val - 16) = j.val; omega
      · have e : ∀ k : ℕ, padAt w k j.val = wAt w k (12816 + (j.val - 16)) := fun k => by
          unfold padAt col; rw [if_pos h2, if_neg h1, show j.val + 12800 = 12816 + (j.val - 16) by omega]
        simp only [e]
        rw [val_main_v3_apply]
        rw [show idx_main_v3 (ix3 b p (⟨j.val - 16, by omega⟩ : Fin 8)) = ix3 b p (⟨12816 + (j.val - 16), by omega⟩ : Fin 29208) from by
          funext a; match a with | ⟨0, _⟩ => rfl | ⟨1, _⟩ => rfl | ⟨2, _⟩ => rfl, dot_apply]
    · refine Eq.trans (concatenate_apply_piece (α := EReal) (t := S2x4096x128) _ _ _ _ 2 (by simp) S2x4096x104 _ rfl rfl 24 rfl (ix3 b p (⟨j.val - 24, by omega⟩ : Fin 104)) ?_ ?_) ?_
      · intro a ha; match a with
        | ⟨0, _⟩ => rfl
        | ⟨1, _⟩ => rfl
        | ⟨2, _⟩ => exact absurd rfl ha
      · show 24 + (j.val - 24) = j.val; omega
      · have e : ∀ k : ℕ, padAt w k j.val = 0 := fun k => by unfold padAt; rw [if_neg h2]
        simp only [e]
        rw [val_main_v4_apply, val_main_cst_apply]
        refine zero_word.trans ?_
        simp only [mul_zero, Finset.sum_const_zero]

theorem ref_apply (i : S8192x128.Idx) : val_main_v6 (F := Ideal) x w i = entry x w (i 0).val (i 1).val := by
  have h0 : (i 0).val < 8192 := (i 0).isLt
  have h1 : (i 1).val < 128 := (i 1).isLt
  rw [val_main_v6_apply]
  have e : idx_main_v6 i = ix3 (⟨(i 0).val / 4096, by omega⟩ : Fin 2) (⟨(i 0).val % 4096, by omega⟩ : Fin 4096) (⟨(i 1).val, h1⟩ : Fin 128) := by
    funext a
    apply Fin.ext
    match a with
    | ⟨0, _⟩ => show ((i 0).val * 128 + (i 1).val) / 524288 = (i 0).val / 4096; omega
    | ⟨1, _⟩ => show ((i 0).val * 128 + (i 1).val) / 128 % 4096 = (i 0).val % 4096; omega
    | ⟨2, _⟩ => show ((i 0).val * 128 + (i 1).val) % 128 = (i 1).val; omega
  rw [e]
  refine (pick_apply x w _ _ _).trans ?_
  rw [show 4096 * ((i 0).val / 4096) + (i 0).val % 4096 = (i 0).val by omega]

end Cert.InSmallClaim

namespace Cert.InSmallClaim

open Cert.InSmallIdeal.Blocks

theorem frame_p : Cert.quiescent_InSmall := fun m ρ _ => Cert.InSmall.Gen.frame m ρ
theorem frame_pi : Cert.quiescent_InSmallIdeal := fun m ρ _ => Cert.InSmallIdeal.Gen.frame m ρ
theorem frame_ri : Cert.quiescent_InSmallRefIdeal := fun m ρ _ =>
  (θ_run Cert.InSmallRefIdeal.defs _ _).mono (fun r h => ⟨fun c => (h c).2, sem_eq_zero_of_no_sems (by decide) r.2⟩)
    (Cert.InSmallRefIdeal.Value.run m ρ)

/-- The kernel and the reference end with the same array. -/
theorem algebraic : Cert.algebraic_InSmallIdeal_InSmallRefIdeal := by
  intro m g m' g' _ hargs
  refine ⟨fun c => result m c, ?_, ?_⟩
  · exact (θ_run Cert.InSmallIdeal.defs _ _).mono (fun r h c => ⟨(h c).1.trans (arr_eq m c), (h c).2⟩) (Cert.InSmallIdeal.Value.run_blocks m g)
  · refine (θ_run Cert.InSmallRefIdeal.defs _ _).mono (fun r h c => ⟨(h c).1.trans ?_, (h c).2⟩) (Cert.InSmallRefIdeal.Value.run m' g')
    rw [Cert.InSmallRefIdeal.Read.val_main_v6_eq]
    funext i
    have ha := hargs c
    refine (ref_apply _ _ i).trans ?_
    rw [ha.1, ha.2]
    rfl

end Cert.InSmallClaim

end

end
-- ==== Proof.GluClaim.lean ====
/-
  The gated unit after the S5 scan: each row times the logistic function of its product by a square matrix, blocks of
  512 rows.
-/
module

public import proofs.«01_k».proof.Defs
public import proofs.«01_k».proof.Proof.Gen.Glu.Frame
public import proofs.«01_k».proof.Proof.Gen.GluIdeal.Value
public import proofs.«01_k».proof.Proof.Gen.GluRefIdeal.Read
public import proofs.«01_k».proof.Proof.Gen.GluRefIdeal.Run
public import Idealize.ShloMosaic.Lib.Pointwise

@[expose] public section

set_option maxRecDepth 16384

noncomputable section

open Idealize.ShloMosaic Idealize.ShloMosaic.TcCoe Idealize.SL.Sem

namespace Cert.GluIdeal.Blocks

open Cert.GluIdeal Cert.GluIdeal.Gen Idealize.ShloMosaic.Pointwise

/-- The rows at natural-number coordinates. -/
def yAt (x : S8192x1024.Idx → EReal) (r c : ℕ) : EReal := x (ix2 (Fin.ofNat 8192 r) (Fin.ofNat 1024 c))
/-- The matrix at natural-number coordinates. -/
def wAt (x : S1024x1024.Idx → EReal) (r c : ℕ) : EReal := x (ix2 (Fin.ofNat 1024 r) (Fin.ofNat 1024 c))

variable (m : (ℓ : Loc nD τ sig) → Buf (Elt Ideal) ℓ)

abbrev aY (c : Dev nD) : S8192x1024.Idx → EReal := m ((c : Thread nD τ).loc main_arg0)
abbrev aW (c : Dev nD) : S1024x1024.Idx → EReal := m ((c : Thread nD τ).loc main_arg1)

theorem ind0 : ∀ t : Fin grid0.N, win0_0.index t 0 = t.val ∧ win0_0.index t 1 = 0 := by decide +kernel
theorem ind1 : ∀ t : Fin grid0.N, win0_1.index t 0 = 0 ∧ win0_1.index t 1 = 0 := by decide +kernel
theorem ind2 : ∀ t : Fin grid0.N, win0_2.index t 0 = t.val ∧ win0_2.index t 1 = 0 := by decide +kernel
theorem flush2 : ∀ t : Fin cfg0.N, (cfg0.win 2).flush t = true := (by decide +kernel : ∀ t : Fin grid0.N, win0_2.flush t = true)

theorem lt_N (t : Fin cfg0.N) : t.val < 16 := lt_of_lt_of_eq t.isLt (show cfg0.N = 16 from N_0)

theorem V_arg0 (c : Dev nD) : (V m c main_arg0 : S8192x1024.Idx → EReal) = aY m c := by
  unfold V
  simp [hostOps0]

theorem V_v0 (c : Dev nD) : (V m c main_v0 : S1024x1024.Idx → EReal) = aW m c := by
  unfold V
  simp [hostOps0]
  rfl

theorem blk0 (c : Dev nD) (t : Fin cfg0.N) (r : Fin 512) (k : Fin 1024) :
    (iblk m c 0 t : Vec Ideal S512x1024 .bf16) (ix2 r k) = yAt (aY m c) (512 * t.val + r.val) k.val := by
  have hi := ind0 t
  have ht := lt_N t
  have hr := r.isLt
  have hk := k.isLt
  unfold iblk yAt
  rw [View.read_apply]
  show V m c main_arg0 _ = _
  rw [V_arg0]
  congr 1
  funext a
  apply Fin.ext
  match a with
  | ⟨0, _⟩ => show win0_0.index t 0 * 512 + 1 * r.val = (_ : ℕ) % 8192; rw [hi.1]; omega
  | ⟨1, _⟩ => show win0_0.index t 1 * 1024 + 1 * k.val = k.val % 1024; rw [hi.2]; omega

theorem blk1 (c : Dev nD) (t : Fin cfg0.N) (k j : Fin 1024) :
    (iblk m c 1 t : Vec Ideal S1024x1024 .bf16) (ix2 k j) = wAt (aW m c) k.val j.val := by
  have hi := ind1 t
  have hk := k.isLt
  have hj := j.isLt
  unfold iblk wAt
  rw [View.read_apply]
  show V m c main_v0 _ = _
  rw [V_v0]
  congr 1
  funext a
  apply Fin.ext
  match a with
  | ⟨0, _⟩ => show win0_1.index t 0 * 1024 + 1 * k.val = k.val % 1024; rw [hi.1]; omega
  | ⟨1, _⟩ => show win0_1.index t 1 * 1024 + 1 * j.val = j.val % 1024; rw [hi.2]; omega

/-- The logistic function. -/
def logistic (x : EReal) : EReal := Ideal.div (Ideal.ofBits .f32 0x3F800000#32) (Ideal.ofBits .f32 0x3F800000#32 + Ideal.exp (-x))

/-- The body's block, entry by entry. -/
theorem pay_apply (x : Vec Ideal S512x1024 .bf16) (y : Vec Ideal S1024x1024 .bf16) (r : Fin 512) (j : Fin 1024) :
    k0_pay1 (F := Ideal) x y (ix2 r j) = x (ix2 r j) * logistic (∑ k : Fin 1024, x (ix2 r k) * y (ix2 k j)) := by
  pointwise [k0_pay1, logistic]
  rw [zero_sub]

/-- The unit's entry at row `r` and column `j`. -/
def entry (y : S8192x1024.Idx → EReal) (w : S1024x1024.Idx → EReal) (r j : ℕ) : EReal :=
  yAt y r j * logistic (∑ k : Fin 1024, yAt y r k.val * wAt w k.val j)

/-- The array the kernel ends with. -/
def result (c : Dev nD) : S8192x1024.Idx → EReal := fun i => entry (aY m c) (aW m c) (i 0).val (i 1).val

theorem z2 : (![0, 0] : Fin 2 → ℕ) = fun _ => 0 := by funext a; match a with | ⟨0, _⟩ => rfl | ⟨1, _⟩ => rfl

theorem flushed_eq (c : Dev nD) (t : Fin cfg0.N) (hf : (cfg0.win 2).flush t = true) :
    (dats m 0 c).flushed 2 t = ((cfg0.win 2).blk t).view.read (Elt Ideal) (result m c) := by
  have ht := lt_N t
  have hi := ind2 t
  rw [Cert.GluIdeal.Value.flushed2]
  funext j
  obtain ⟨r, d, rfl⟩ : ∃ (r : Fin 512) (d : Fin 1024), j = ix2 r d := ⟨j 0, j 1, by funext a; match a with | ⟨0, _⟩ => rfl | ⟨1, _⟩ => rfl⟩
  rw [View.read_apply]
  have hr := r.isLt
  have hd := d.isLt
  have e0 : (((cfg0.win 2).blk t).view.emb (ix2 r d) 0).val = win0_2.index t 0 * 512 + 1 * r.val := rfl
  have e1 : (((cfg0.win 2).blk t).view.emb (ix2 r d) 1).val = win0_2.index t 1 * 1024 + 1 * d.val := rfl
  rw [hi.1, show t.val * 512 + 1 * r.val = 512 * t.val + r.val by omega] at e0
  rw [hi.2, show 0 * 1024 + 1 * d.val = d.val by omega] at e1
  show out0_2 (iblk m c 0 t) (iblk m c 1 t) (ix2 r d) = _
  unfold out0_2
  rw [View.canon_unit_zero z2, View.ld_unit_zero z2, View.ld_unit_zero z2, pay_apply]
  unfold result entry
  rw [e0, e1]
  simp only [blk0, blk1]
  rfl

theorem cover (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 16 := N_0
  obtain ⟨n, hn, hv⟩ : ∃ n : ℕ, n < cfg0.N ∧ n = (i 0).val / 512 := ⟨_, by omega, rfl⟩
  have hi := ind2 ⟨n, hn⟩
  dsimp only at hi
  refine ⟨⟨n, hn⟩, flush2 _, ?_⟩
  show i ∈ ((View.whole main_v1).slice (win0_2.rect ⟨n, hn⟩)).set
  rw [View.set_slice_whole, Rect.mem_set_unit]
  intro a
  match a with
  | ⟨0, _⟩ => show win0_2.index _ 0 * 512 ≤ (i 0).val ∧ (i 0).val < win0_2.index _ 0 * 512 + 512; rw [hi.1]; omega
  | ⟨1, _⟩ => show win0_2.index _ 1 * 1024 ≤ (i 1).val ∧ (i 1).val < win0_2.index _ 1 * 1024 + 1024; rw [hi.2]; omega

theorem arr_eq (c : Dev nD) : (dats m 0 c).arrAt 2 cfg0.N = result m c :=
  (dats m 0 c).arrAt_eq_of_cover 2 (result m c) (flushed_eq m c) cover

end Cert.GluIdeal.Blocks

namespace Cert.GluClaim

open Cert.GluRefIdeal Cert.GluRefIdeal.Gen Cert.GluRefIdeal.Facts Cert.GluRefIdeal.Read Cert.GluIdeal.Blocks
open Idealize.ShloMosaic.Pointwise

variable (y : S8192x1024.Idx → EReal) (w : S1024x1024.Idx → EReal)

theorem ref_apply (i : S8192x1024.Idx) : val_main_v9 (F := Ideal) y w i = entry y w (i 0).val (i 1).val := by
  have h0 : (i 0).val < 8192 := (i 0).isLt
  have h1 : (i 1).val < 1024 := (i 1).isLt
  have hd : val_main_v1 (F := Ideal) y w i = ∑ k : Fin 1024, yAt y (i 0).val k.val * wAt w k.val (i 1).val := by
    rw [val_main_v1_apply]
    refine Finset.sum_congr rfl fun k _ => ?_
    have hk := k.isLt
    rw [val_main_v0_apply]
    unfold yAt wAt
    show y _ * w _ = y _ * w _
    congr 2
    · funext a
      apply Fin.ext
      match a with
      | ⟨0, _⟩ => show (i 0).val = (i 0).val % 8192; omega
      | ⟨1, _⟩ => show k.val = k.val % 1024; omega
    · funext a
      apply Fin.ext
      match a with
      | ⟨0, _⟩ => show k.val = k.val % 1024; omega
      | ⟨1, _⟩ => show (i 1).val = (i 1).val % 1024; omega
  have hy : yAt y (i 0).val (i 1).val = y i := by
    unfold yAt
    congr 1
    funext a
    apply Fin.ext
    match a with
    | ⟨0, _⟩ => show (i 0).val % 8192 = (i 0).val; omega
    | ⟨1, _⟩ => show (i 1).val % 1024 = (i 1).val; omega
  rw [val_main_v9_apply, val_main_v8_apply, val_main_v7_apply, val_main_v6_apply, val_main_cst_0_apply, val_main_v5_apply,
    val_main_v4_apply, val_main_cst_apply, val_main_v3_apply, val_main_v2_apply, val_main_v0_apply, hd]
  unfold entry
  rw [hy]
  rfl

end Cert.GluClaim

namespace Cert.GluClaim

open Cert.GluIdeal.Blocks

theorem frame_p : Cert.quiescent_Glu := fun m ρ _ => Cert.Glu.Gen.frame m ρ
theorem frame_pi : Cert.quiescent_GluIdeal := fun m ρ _ => Cert.GluIdeal.Gen.frame m ρ
theorem frame_ri : Cert.quiescent_GluRefIdeal := fun m ρ _ =>
  (θ_run Cert.GluRefIdeal.defs _ _).mono (fun r h => ⟨fun c => (h c).2, sem_eq_zero_of_no_sems (by decide) r.2⟩)
    (Cert.GluRefIdeal.Value.run m ρ)

/-- The kernel and the reference end with the same array. -/
theorem algebraic : Cert.algebraic_GluIdeal_GluRefIdeal := by
  intro m g m' g' _ hargs
  refine ⟨fun c => result m c, ?_, ?_⟩
  · exact (θ_run Cert.GluIdeal.defs _ _).mono (fun r h c => ⟨(h c).1.trans (arr_eq m c), (h c).2⟩) (Cert.GluIdeal.Value.run_blocks m g)
  · refine (θ_run Cert.GluRefIdeal.defs _ _).mono (fun r h c => ⟨(h c).1.trans ?_, (h c).2⟩) (Cert.GluRefIdeal.Value.run m' g')
    rw [Cert.GluRefIdeal.Read.val_main_v9_eq]
    funext i
    have ha := hargs c
    refine (ref_apply _ _ i).trans ?_
    rw [ha.1, ha.2]
    rfl

end Cert.GluClaim

end

end
-- ==== Proof.MixNormClaim.lean ====
/-
  The adaptive norm before the token mixer: each token divided by the root of its mean square, times the gains, scaled by
  one plus row 1 of the modulation and shifted by row 0, blocks of 512 tokens.
-/
module

public import proofs.«01_k».proof.Defs
public import proofs.«01_k».proof.Proof.Gen.MixNorm.Frame
public import proofs.«01_k».proof.Proof.Gen.MixNormIdeal.Value
public import proofs.«01_k».proof.Proof.Gen.MixNormRefIdeal.Read
public import proofs.«01_k».proof.Proof.Gen.MixNormRefIdeal.Run
public import Idealize.ShloMosaic.Lib.Pointwise

@[expose] public section

set_option maxRecDepth 16384

noncomputable section

open Idealize.ShloMosaic Idealize.ShloMosaic.TcCoe Idealize.SL.Sem

namespace Cert.MixNormIdeal.Blocks

open Cert.MixNormIdeal Cert.MixNormIdeal.Gen Idealize.ShloMosaic.Pointwise

/-- The tokens at natural-number coordinates. -/
def xAt (x : S2x4096x4096.Idx → EReal) (b p c : ℕ) : EReal := x (ix3 (Fin.ofNat 2 b) (Fin.ofNat 4096 p) (Fin.ofNat 4096 c))
/-- The gains at natural-number coordinates. -/
def wAt (x : S4096.Idx → EReal) (c : ℕ) : EReal := x (ix1 (Fin.ofNat 4096 c))
/-- The modulation's rows at natural-number coordinates. -/
def modAt (x : S2x6x4096.Idx → EReal) (b i c : ℕ) : EReal := x (ix3 (Fin.ofNat 2 b) (Fin.ofNat 6 i) (Fin.ofNat 4096 c))

variable (m : (ℓ : Loc nD τ sig) → Buf (Elt Ideal) ℓ)

abbrev aX (c : Dev nD) : S2x4096x4096.Idx → EReal := m ((c : Thread nD τ).loc main_arg0)
abbrev aW (c : Dev nD) : S4096.Idx → EReal := m ((c : Thread nD τ).loc main_arg1)
abbrev aM (c : Dev nD) : S2x6x4096.Idx → EReal := m ((c : Thread nD τ).loc main_arg2)

theorem ind0 : ∀ t : Fin grid0.N, win0_0.index t 0 = t.val / 8 ∧ win0_0.index t 1 = t.val % 8 ∧ win0_0.index t 2 = 0 := by decide +kernel
theorem ind1 : ∀ t : Fin grid0.N, win0_1.index t 0 = 0 ∧ win0_1.index t 1 = 0 := by decide +kernel
theorem ind2 : ∀ t : Fin grid0.N, win0_2.index t 0 = t.val / 8 ∧ win0_2.index t 1 = 0 ∧ win0_2.index t 2 = 0 := by decide +kernel
theorem ind3 : ∀ t : Fin grid0.N, win0_3.index t 0 = t.val / 8 ∧ win0_3.index t 1 = t.val % 8 ∧ win0_3.index t 2 = 0 := by decide +kernel
theorem flush3 : ∀ t : Fin cfg0.N, (cfg0.win 3).flush t = true := (by decide +kernel : ∀ t : Fin grid0.N, win0_3.flush t = true)

theorem lt_N (t : Fin cfg0.N) : t.val < 16 := lt_of_lt_of_eq t.isLt (show cfg0.N = 16 from N_0)

theorem V_arg0 (c : Dev nD) : (V m c main_arg0 : S2x4096x4096.Idx → EReal) = aX m c := by
  unfold V
  simp [hostOps0]

theorem V_arg2 (c : Dev nD) : (V m c main_arg2 : S2x6x4096.Idx → EReal) = aM m c := by
  unfold V
  simp [hostOps0]

theorem V_v0 (c : Dev nD) : (V m c main_v0 : S1x4096.Idx → EReal) = shapeCast S1x4096 (aW m c) shapeCasts_S4096_S1x4096 := by
  unfold V
  simp [hostOps0]
  rfl

theorem blk0 (c : Dev nD) (t : Fin cfg0.N) (r : Fin 512) (k : Fin 4096) :
    (iblk m c 0 t : Vec Ideal S1x512x4096 .f32) (ix3 0 r k) = xAt (aX m c) (t.val / 8) (512 * (t.val % 8) + r.val) k.val := by
  have hi := ind0 t
  have ht := lt_N t
  have hr := r.isLt
  have hk := k.isLt
  unfold iblk xAt
  rw [View.read_apply]
  show V m c main_arg0 _ = _
  rw [V_arg0]
  congr 1
  funext a
  apply Fin.ext
  match a with
  | ⟨0, _⟩ => show win0_0.index t 0 * 1 + 1 * 0 = t.val / 8 % 2; rw [hi.1]; omega
  | ⟨1, _⟩ => show win0_0.index t 1 * 512 + 1 * r.val = (_ : ℕ) % 4096; rw [hi.2.1]; omega
  | ⟨2, _⟩ => show win0_0.index t 2 * 4096 + 1 * k.val = k.val % 4096; rw [hi.2.2]; omega

theorem blk1 (c : Dev nD) (t : Fin cfg0.N) (k : Fin 4096) :
    (iblk m c 1 t : Vec Ideal S1x4096 .f32) (ix2 0 k) = wAt (aW m c) k.val := by
  have hi := ind1 t
  have hk := k.isLt
  unfold iblk wAt
  rw [View.read_apply]
  show V m c main_v0 _ = _
  rw [V_v0]
  refine shapeCast_apply _ _ _ _ ?_
  rw [Shape.rowMajor_val_one, Shape.rowMajor_val_two]
  show k.val % 4096 = (win0_1.index t 0 * 1 + 1 * 0) * 4096 + (win0_1.index t 1 * 4096 + 1 * k.val)
  rw [hi.1, hi.2]
  omega

theorem blk2 (c : Dev nD) (t : Fin cfg0.N) (i : Fin 6) (k : Fin 4096) :
    (iblk m c 2 t : Vec Ideal S1x6x4096 .f32) (ix3 0 i k) = modAt (aM m c) (t.val / 8) i.val k.val := by
  have hi := ind2 t
  have ht := lt_N t
  have hr := i.isLt
  have hk := k.isLt
  unfold iblk modAt
  rw [View.read_apply]
  show V m c main_arg2 _ = _
  rw [V_arg2]
  congr 1
  funext a
  apply Fin.ext
  match a with
  | ⟨0, _⟩ => show win0_2.index t 0 * 1 + 1 * 0 = t.val / 8 % 2; rw [hi.1]; omega
  | ⟨1, _⟩ => show win0_2.index t 1 * 6 + 1 * i.val = i.val % 6; rw [hi.2.1]; omega
  | ⟨2, _⟩ => show win0_2.index t 2 * 4096 + 1 * k.val = k.val % 4096; rw [hi.2.2]; omega

/-- The reciprocal root of a mean square plus the small constant, of the sum of squares. -/
def scale (s : EReal) : EReal :=
  Ideal.rsqrt (Ideal.div s (Ideal.ofBits .f32 0x45800000#32) + Ideal.ofBits .f32 0x358637BD#32)

/-- The body's block, entry by entry. -/
theorem pay_apply (x : Vec Ideal S1x512x4096 .f32) (w : Vec Ideal S1x4096 .f32) (u v : Vec Ideal S1x1x4096 .f32) (r : Fin 512) (j : Fin 4096) :
    k0_pay1 (F := Ideal) x w u v (ix3 0 r j)
      = x (ix3 0 r j) * scale (∑ k : Fin 4096, x (ix3 0 r k) * x (ix3 0 r k)) * w (ix2 0 j)
        * (Ideal.ofBits .f32 0x3F800000#32 + u (ix3 0 0 j)) + v (ix3 0 0 j) := by
  pointwise [k0_pay1, scale]

/-- The normalised, scaled and shifted entry of batch `b`, position `p`, channel `j`. -/
def entry (x : S2x4096x4096.Idx → EReal) (w : S4096.Idx → EReal) (u : S2x6x4096.Idx → EReal) (b p j : ℕ) : EReal :=
  xAt x b p j * scale (∑ k : Fin 4096, xAt x b p k.val * xAt x b p k.val) * wAt w j
    * (Ideal.ofBits .f32 0x3F800000#32 + modAt u b 1 j) + modAt u b 0 j

/-- The array the kernel ends with. -/
def result (c : Dev nD) : S2x4096x4096.Idx → EReal := fun i => entry (aX m c) (aW m c) (aM m c) (i 0).val (i 1).val (i 2).val

theorem z2 : (![0, 0] : Fin 2 → ℕ) = fun _ => 0 := by funext a; match a with | ⟨0, _⟩ => rfl | ⟨1, _⟩ => rfl
theorem z3 : (![0, 0, 0] : Fin 3 → ℕ) = fun _ => 0 := by funext a; match a with | ⟨0, _⟩ => rfl | ⟨1, _⟩ => rfl | ⟨2, _⟩ => rfl

theorem flushed_eq (c : Dev nD) (t : Fin cfg0.N) (hf : (cfg0.win 3).flush t = true) :
    (dats m 0 c).flushed 3 t = ((cfg0.win 3).blk t).view.read (Elt Ideal) (result m c) := by
  have ht := lt_N t
  have hi := ind3 t
  rw [Cert.MixNormIdeal.Value.flushed3]
  funext j
  obtain ⟨r, d, rfl⟩ : ∃ (r : Fin 512) (d : Fin 4096), j = ix3 (0 : Fin 1) r d :=
    ⟨j 1, j 2, by funext a; match a with | ⟨0, _⟩ => exact Subsingleton.elim (α := Fin 1) _ _ | ⟨1, _⟩ => rfl | ⟨2, _⟩ => rfl⟩
  rw [View.read_apply]
  have hr := r.isLt
  have hd := d.isLt
  have e0 : (((cfg0.win 3).blk t).view.emb (ix3 (0 : Fin 1) r d) 0).val = win0_3.index t 0 * 1 + 1 * 0 := rfl
  have e1 : (((cfg0.win 3).blk t).view.emb (ix3 (0 : Fin 1) r d) 1).val = win0_3.index t 1 * 512 + 1 * r.val := rfl
  have e2 : (((cfg0.win 3).blk t).view.emb (ix3 (0 : Fin 1) r d) 2).val = win0_3.index t 2 * 4096 + 1 * d.val := rfl
  rw [hi.1, show t.val / 8 * 1 + 1 * 0 = t.val / 8 by omega] at e0
  rw [hi.2.1, show t.val % 8 * 512 + 1 * r.val = 512 * (t.val % 8) + r.val by omega] at e1
  rw [hi.2.2, show 0 * 4096 + 1 * d.val = d.val by omega] at e2
  have hu : View.ld (iblk m c 2 t : Vec Ideal S1x6x4096 .f32) r0_2 (ix3 (0 : Fin 1) (0 : Fin 1) d) = (iblk m c 2 t : Vec Ideal S1x6x4096 .f32) (ix3 (0 : Fin 1) (1 : Fin 6) d) :=
    congrArg (iblk m c 2 t : Vec Ideal S1x6x4096 .f32) (funext fun a => Fin.ext (by
      match a with
      | ⟨0, _⟩ => rfl
      | ⟨1, _⟩ => rfl
      | ⟨2, _⟩ => show 0 + 1 * d.val = d.val; omega))
  have hv : View.ld (iblk m c 2 t : Vec Ideal S1x6x4096 .f32) r0_3 (ix3 (0 : Fin 1) (0 : Fin 1) d) = (iblk m c 2 t : Vec Ideal S1x6x4096 .f32) (ix3 (0 : Fin 1) (0 : Fin 6) d) :=
    congrArg (iblk m c 2 t : Vec Ideal S1x6x4096 .f32) (funext fun a => Fin.ext (by
      match a with
      | ⟨0, _⟩ => rfl
      | ⟨1, _⟩ => rfl
      | ⟨2, _⟩ => show 0 + 1 * d.val = d.val; omega))
  show out0_3 (iblk m c 0 t) (iblk m c 1 t) (iblk m c 2 t) (ix3 0 r d) = _
  unfold out0_3
  rw [View.canon_unit_zero z3, View.ld_unit_zero z3, View.ld_unit_zero z2, pay_apply, hu, hv]
  unfold result entry
  rw [e0, e1, e2]
  simp only [blk0, blk1, blk2]
  rfl

theorem cover (i : S2x4096x4096.Idx) : ∃ t : Fin cfg0.N, (cfg0.win 3).flush t = true ∧ i ∈ ((cfg0.win 3).blk t).view.set := by
  have h0 : (i 0).val < 2 := (i 0).isLt
  have h1 : (i 1).val < 4096 := (i 1).isLt
  have h2 : (i 2).val < 4096 := (i 2).isLt
  have hN : cfg0.N = 16 := N_0
  obtain ⟨n, hn, hv⟩ : ∃ n : ℕ, n < cfg0.N ∧ n = 8 * (i 0).val + (i 1).val / 512 := ⟨_, by omega, rfl⟩
  have hi := ind3 ⟨n, hn⟩
  dsimp only at hi
  refine ⟨⟨n, hn⟩, flush3 _, ?_⟩
  show i ∈ ((View.whole main_v1).slice (win0_3.rect ⟨n, hn⟩)).set
  rw [View.set_slice_whole, Rect.mem_set_unit]
  intro a
  match a with
  | ⟨0, _⟩ => show win0_3.index _ 0 * 1 ≤ (i 0).val ∧ (i 0).val < win0_3.index _ 0 * 1 + 1; rw [hi.1]; omega
  | ⟨1, _⟩ => show win0_3.index _ 1 * 512 ≤ (i 1).val ∧ (i 1).val < win0_3.index _ 1 * 512 + 512; rw [hi.2.1]; omega
  | ⟨2, _⟩ => show win0_3.index _ 2 * 4096 ≤ (i 2).val ∧ (i 2).val < win0_3.index _ 2 * 4096 + 4096; rw [hi.2.2]; omega

theorem arr_eq (c : Dev nD) : (dats m 0 c).arrAt 3 cfg0.N = result m c :=
  (dats m 0 c).arrAt_eq_of_cover 3 (result m c) (flushed_eq m c) cover

end Cert.MixNormIdeal.Blocks

namespace Cert.MixNormClaim

open Cert.MixNormRefIdeal Cert.MixNormRefIdeal.Gen Cert.MixNormRefIdeal.Facts Cert.MixNormRefIdeal.Read Cert.MixNormIdeal.Blocks
open Idealize.ShloMosaic.Pointwise

variable (x : S2x4096x4096.Idx → EReal) (w : S4096.Idx → EReal) (u : S2x6x4096.Idx → EReal)

theorem xAt_of (b : Fin 2) (p j : Fin 4096) : xAt x b.val p.val j.val = x (ix3 b p j) := by
  have hb := b.isLt
  have hp := p.isLt
  have hj := j.isLt
  unfold xAt
  congr 1
  funext a
  apply Fin.ext
  match a with
  | ⟨0, _⟩ => show b.val % 2 = b.val; omega
  | ⟨1, _⟩ => show p.val % 4096 = p.val; omega
  | ⟨2, _⟩ => show j.val % 4096 = j.val; omega

theorem sum_apply (b : Fin 2) (p : Fin 4096) :
    val_main_v7 (F := Ideal) x (ix2 b p) = ∑ k : Fin 4096, xAt x b.val p.val k.val * xAt x b.val p.val k.val := by
  rw [val_main_v7_apply, val_main_cst_apply]
  show Ideal.ofBits .f32 0x00000000#32 + _ = _
  rw [show Ideal.ofBits .f32 0x00000000#32 = 0 by simp [Ideal.ofBits, Ideal.ieee], zero_add]
  refine Finset.sum_congr rfl fun k _ => ?_
  rw [val_main_v6_apply, xAt_of]
  rw [show idx_main_v7 (ix2 b p) k = ix3 b p k from by funext a; match a with | ⟨0, _⟩ => rfl | ⟨1, _⟩ => rfl | ⟨2, _⟩ => rfl]
  rfl

/-- The row of the modulation that is added. -/
theorem shift_apply (b : Fin 2) (j : Fin 4096) : val_main_v2 (F := Ideal) u (ix3 b 0 j) = modAt u b.val 0 j.val := by
  have hb := b.isLt
  have hj := j.isLt
  rw [val_main_v2_apply, val_main_v1_apply, val_main_v0_apply]
  unfold modAt
  congr 1
  funext a
  apply Fin.ext
  match a with
  | ⟨0, _⟩ => show (b.val * 4096 + j.val) / 4096 = b.val % 2; omega
  | ⟨1, _⟩ => rfl
  | ⟨2, _⟩ => show (b.val * 4096 + j.val) % 4096 = j.val % 4096; omega

/-- The row of the modulation that scales. -/
theorem scale_apply (b : Fin 2) (j : Fin 4096) : val_main_v5 (F := Ideal) u (ix3 b 0 j) = modAt u b.val 1 j.val := by
  have hb := b.isLt
  have hj := j.isLt
  rw [val_main_v5_apply, val_main_v4_apply, val_main_v3_apply]
  unfold modAt
  congr 1
  funext a
  apply Fin.ext
  match a with
  | ⟨0, _⟩ => show (b.val * 4096 + j.val) / 4096 = b.val % 2; omega
  | ⟨1, _⟩ => rfl
  | ⟨2, _⟩ => show (b.val * 4096 + j.val) % 4096 = j.val % 4096; omega

theorem entry_apply (b : Fin 2) (p j : Fin 4096) : val_main_v25 (F := Ideal) x w u (ix3 b p j) = entry x w u b.val p.val j.val := by
  have hb := b.isLt
  have hp := p.isLt
  have hj := j.isLt
  have hs := sum_apply x b p
  have hw : wAt w j.val = w (ix1 j) := by
    unfold wAt
    congr 1
    funext a
    apply Fin.ext
    match a with
    | ⟨0, _⟩ => show j.val % 4096 = j.val; omega
  rw [val_main_v25_apply, val_main_v24_apply, val_main_v23_apply, val_main_v22_apply, val_main_v21_apply, val_main_v20_apply,
    val_main_v19_apply, val_main_cst_2_apply, val_main_v18_apply, val_main_v17_apply, val_main_v16_apply, val_main_v15_apply,
    val_main_v14_apply, val_main_v13_apply, val_main_v12_apply, val_main_v11_apply, val_main_cst_1_apply, val_main_v10_apply,
    val_main_v9_apply, val_main_cst_0_apply, val_main_v8_apply]
  rw [show idx_main_v8 (idx_main_v14 (ix3 b p j)) = ix2 b p from by funext a; match a with | ⟨0, _⟩ => rfl | ⟨1, _⟩ => rfl,
    show idx_main_v23 (ix3 b p j) = ix3 b 0 j from by funext a; match a with | ⟨0, _⟩ => rfl | ⟨1, _⟩ => rfl | ⟨2, _⟩ => rfl,
    show idx_main_v21 (ix3 b p j) = ix3 b 0 j from by funext a; match a with | ⟨0, _⟩ => rfl | ⟨1, _⟩ => rfl | ⟨2, _⟩ => rfl,
    show idx_main_v16 (idx_main_v17 (ix3 b p j)) = ix1 j from by funext a; match a with | ⟨0, _⟩ => rfl,
    hs, shift_apply, scale_apply, ← xAt_of x, ← hw]
  rfl

theorem ref_apply (i : S2x4096x4096.Idx) : val_main_v25 (F := Ideal) x w u i = entry x w u (i 0).val (i 1).val (i 2).val := by
  have e : i = ix3 (i 0 : Fin 2) (i 1 : Fin 4096) (i 2 : Fin 4096) := by funext a; match a with | ⟨0, _⟩ => rfl | ⟨1, _⟩ => rfl | ⟨2, _⟩ => rfl
  exact (congrArg (val_main_v25 (F := Ideal) x w u) e).trans (entry_apply x w u _ _ _)

end Cert.MixNormClaim

namespace Cert.MixNormClaim

open Cert.MixNormIdeal.Blocks

theorem frame_p : Cert.quiescent_MixNorm := fun m ρ _ => Cert.MixNorm.Gen.frame m ρ
theorem frame_pi : Cert.quiescent_MixNormIdeal := fun m ρ _ => Cert.MixNormIdeal.Gen.frame m ρ
theorem frame_ri : Cert.quiescent_MixNormRefIdeal := fun m ρ _ =>
  (θ_run Cert.MixNormRefIdeal.defs _ _).mono (fun r h => ⟨fun c => (h c).2, sem_eq_zero_of_no_sems (by decide) r.2⟩)
    (Cert.MixNormRefIdeal.Value.run m ρ)

/-- The kernel and the reference end with the same array. -/
theorem algebraic : Cert.algebraic_MixNormIdeal_MixNormRefIdeal := by
  intro m g m' g' _ hargs
  refine ⟨fun c => result m c, ?_, ?_⟩
  · exact (θ_run Cert.MixNormIdeal.defs _ _).mono (fun r h c => ⟨(h c).1.trans (arr_eq m c), (h c).2⟩) (Cert.MixNormIdeal.Value.run_blocks m g)
  · refine (θ_run Cert.MixNormRefIdeal.defs _ _).mono (fun r h c => ⟨(h c).1.trans ?_, (h c).2⟩) (Cert.MixNormRefIdeal.Value.run m' g')
    rw [Cert.MixNormRefIdeal.Read.val_main_v25_eq]
    funext i
    have ha := hargs c
    refine (ref_apply _ _ _ i).trans ?_
    rw [ha.1, ha.2.1, ha.2.2]
    rfl

end Cert.MixNormClaim

end

end
-- ==== Proof.FfnNormClaim.lean ====
/-
  The adaptive norm before the dense channel mixer: each token divided by the root of its mean square, times the gains,
  scaled by one plus row 4 of the modulation and shifted by row 3, blocks of 512 tokens.
-/
module

public import proofs.«01_k».proof.Defs
public import proofs.«01_k».proof.Proof.Gen.FfnNorm.Frame
public import proofs.«01_k».proof.Proof.Gen.FfnNormIdeal.Value
public import proofs.«01_k».proof.Proof.Gen.FfnNormRefIdeal.Read
public import proofs.«01_k».proof.Proof.Gen.FfnNormRefIdeal.Run
public import Idealize.ShloMosaic.Lib.Pointwise

@[expose] public section

set_option maxRecDepth 16384

noncomputable section

open Idealize.ShloMosaic Idealize.ShloMosaic.TcCoe Idealize.SL.Sem

namespace Cert.FfnNormIdeal.Blocks

open Cert.FfnNormIdeal Cert.FfnNormIdeal.Gen Idealize.ShloMosaic.Pointwise

/-- The tokens at natural-number coordinates. -/
def xAt (x : S2x4096x4096.Idx → EReal) (b p c : ℕ) : EReal := x (ix3 (Fin.ofNat 2 b) (Fin.ofNat 4096 p) (Fin.ofNat 4096 c))
/-- The gains at natural-number coordinates. -/
def wAt (x : S4096.Idx → EReal) (c : ℕ) : EReal := x (ix1 (Fin.ofNat 4096 c))
/-- The modulation's rows at natural-number coordinates. -/
def modAt (x : S2x6x4096.Idx → EReal) (b i c : ℕ) : EReal := x (ix3 (Fin.ofNat 2 b) (Fin.ofNat 6 i) (Fin.ofNat 4096 c))

variable (m : (ℓ : Loc nD τ sig) → Buf (Elt Ideal) ℓ)

abbrev aX (c : Dev nD) : S2x4096x4096.Idx → EReal := m ((c : Thread nD τ).loc main_arg0)
abbrev aW (c : Dev nD) : S4096.Idx → EReal := m ((c : Thread nD τ).loc main_arg1)
abbrev aM (c : Dev nD) : S2x6x4096.Idx → EReal := m ((c : Thread nD τ).loc main_arg2)

theorem ind0 : ∀ t : Fin grid0.N, win0_0.index t 0 = t.val / 8 ∧ win0_0.index t 1 = t.val % 8 ∧ win0_0.index t 2 = 0 := by decide +kernel
theorem ind1 : ∀ t : Fin grid0.N, win0_1.index t 0 = 0 ∧ win0_1.index t 1 = 0 := by decide +kernel
theorem ind2 : ∀ t : Fin grid0.N, win0_2.index t 0 = t.val / 8 ∧ win0_2.index t 1 = 0 ∧ win0_2.index t 2 = 0 := by decide +kernel
theorem ind3 : ∀ t : Fin grid0.N, win0_3.index t 0 = t.val / 8 ∧ win0_3.index t 1 = t.val % 8 ∧ win0_3.index t 2 = 0 := by decide +kernel
theorem flush3 : ∀ t : Fin cfg0.N, (cfg0.win 3).flush t = true := (by decide +kernel : ∀ t : Fin grid0.N, win0_3.flush t = true)

theorem lt_N (t : Fin cfg0.N) : t.val < 16 := lt_of_lt_of_eq t.isLt (show cfg0.N = 16 from N_0)

theorem V_arg0 (c : Dev nD) : (V m c main_arg0 : S2x4096x4096.Idx → EReal) = aX m c := by
  unfold V
  simp [hostOps0]

theorem V_arg2 (c : Dev nD) : (V m c main_arg2 : S2x6x4096.Idx → EReal) = aM m c := by
  unfold V
  simp [hostOps0]

theorem V_v0 (c : Dev nD) : (V m c main_v0 : S1x4096.Idx → EReal) = shapeCast S1x4096 (aW m c) shapeCasts_S4096_S1x4096 := by
  unfold V
  simp [hostOps0]
  rfl

theorem blk0 (c : Dev nD) (t : Fin cfg0.N) (r : Fin 512) (k : Fin 4096) :
    (iblk m c 0 t : Vec Ideal S1x512x4096 .f32) (ix3 0 r k) = xAt (aX m c) (t.val / 8) (512 * (t.val % 8) + r.val) k.val := by
  have hi := ind0 t
  have ht := lt_N t
  have hr := r.isLt
  have hk := k.isLt
  unfold iblk xAt
  rw [View.read_apply]
  show V m c main_arg0 _ = _
  rw [V_arg0]
  congr 1
  funext a
  apply Fin.ext
  match a with
  | ⟨0, _⟩ => show win0_0.index t 0 * 1 + 1 * 0 = t.val / 8 % 2; rw [hi.1]; omega
  | ⟨1, _⟩ => show win0_0.index t 1 * 512 + 1 * r.val = (_ : ℕ) % 4096; rw [hi.2.1]; omega
  | ⟨2, _⟩ => show win0_0.index t 2 * 4096 + 1 * k.val = k.val % 4096; rw [hi.2.2]; omega

theorem blk1 (c : Dev nD) (t : Fin cfg0.N) (k : Fin 4096) :
    (iblk m c 1 t : Vec Ideal S1x4096 .f32) (ix2 0 k) = wAt (aW m c) k.val := by
  have hi := ind1 t
  have hk := k.isLt
  unfold iblk wAt
  rw [View.read_apply]
  show V m c main_v0 _ = _
  rw [V_v0]
  refine shapeCast_apply _ _ _ _ ?_
  rw [Shape.rowMajor_val_one, Shape.rowMajor_val_two]
  show k.val % 4096 = (win0_1.index t 0 * 1 + 1 * 0) * 4096 + (win0_1.index t 1 * 4096 + 1 * k.val)
  rw [hi.1, hi.2]
  omega

theorem blk2 (c : Dev nD) (t : Fin cfg0.N) (i : Fin 6) (k : Fin 4096) :
    (iblk m c 2 t : Vec Ideal S1x6x4096 .f32) (ix3 0 i k) = modAt (aM m c) (t.val / 8) i.val k.val := by
  have hi := ind2 t
  have ht := lt_N t
  have hr := i.isLt
  have hk := k.isLt
  unfold iblk modAt
  rw [View.read_apply]
  show V m c main_arg2 _ = _
  rw [V_arg2]
  congr 1
  funext a
  apply Fin.ext
  match a with
  | ⟨0, _⟩ => show win0_2.index t 0 * 1 + 1 * 0 = t.val / 8 % 2; rw [hi.1]; omega
  | ⟨1, _⟩ => show win0_2.index t 1 * 6 + 1 * i.val = i.val % 6; rw [hi.2.1]; omega
  | ⟨2, _⟩ => show win0_2.index t 2 * 4096 + 1 * k.val = k.val % 4096; rw [hi.2.2]; omega

/-- The reciprocal root of a mean square plus the small constant, of the sum of squares. -/
def scale (s : EReal) : EReal :=
  Ideal.rsqrt (Ideal.div s (Ideal.ofBits .f32 0x45800000#32) + Ideal.ofBits .f32 0x358637BD#32)

/-- The body's block, entry by entry. -/
theorem pay_apply (x : Vec Ideal S1x512x4096 .f32) (w : Vec Ideal S1x4096 .f32) (u v : Vec Ideal S1x1x4096 .f32) (r : Fin 512) (j : Fin 4096) :
    k0_pay1 (F := Ideal) x w u v (ix3 0 r j)
      = x (ix3 0 r j) * scale (∑ k : Fin 4096, x (ix3 0 r k) * x (ix3 0 r k)) * w (ix2 0 j)
        * (Ideal.ofBits .f32 0x3F800000#32 + u (ix3 0 0 j)) + v (ix3 0 0 j) := by
  pointwise [k0_pay1, scale]

/-- The normalised, scaled and shifted entry of batch `b`, position `p`, channel `j`. -/
def entry (x : S2x4096x4096.Idx → EReal) (w : S4096.Idx → EReal) (u : S2x6x4096.Idx → EReal) (b p j : ℕ) : EReal :=
  xAt x b p j * scale (∑ k : Fin 4096, xAt x b p k.val * xAt x b p k.val) * wAt w j
    * (Ideal.ofBits .f32 0x3F800000#32 + modAt u b 4 j) + modAt u b 3 j

/-- The array the kernel ends with. -/
def result (c : Dev nD) : S2x4096x4096.Idx → EReal := fun i => entry (aX m c) (aW m c) (aM m c) (i 0).val (i 1).val (i 2).val

theorem z2 : (![0, 0] : Fin 2 → ℕ) = fun _ => 0 := by funext a; match a with | ⟨0, _⟩ => rfl | ⟨1, _⟩ => rfl
theorem z3 : (![0, 0, 0] : Fin 3 → ℕ) = fun _ => 0 := by funext a; match a with | ⟨0, _⟩ => rfl | ⟨1, _⟩ => rfl | ⟨2, _⟩ => rfl

theorem flushed_eq (c : Dev nD) (t : Fin cfg0.N) (hf : (cfg0.win 3).flush t = true) :
    (dats m 0 c).flushed 3 t = ((cfg0.win 3).blk t).view.read (Elt Ideal) (result m c) := by
  have ht := lt_N t
  have hi := ind3 t
  rw [Cert.FfnNormIdeal.Value.flushed3]
  funext j
  obtain ⟨r, d, rfl⟩ : ∃ (r : Fin 512) (d : Fin 4096), j = ix3 (0 : Fin 1) r d :=
    ⟨j 1, j 2, by funext a; match a with | ⟨0, _⟩ => exact Subsingleton.elim (α := Fin 1) _ _ | ⟨1, _⟩ => rfl | ⟨2, _⟩ => rfl⟩
  rw [View.read_apply]
  have hr := r.isLt
  have hd := d.isLt
  have e0 : (((cfg0.win 3).blk t).view.emb (ix3 (0 : Fin 1) r d) 0).val = win0_3.index t 0 * 1 + 1 * 0 := rfl
  have e1 : (((cfg0.win 3).blk t).view.emb (ix3 (0 : Fin 1) r d) 1).val = win0_3.index t 1 * 512 + 1 * r.val := rfl
  have e2 : (((cfg0.win 3).blk t).view.emb (ix3 (0 : Fin 1) r d) 2).val = win0_3.index t 2 * 4096 + 1 * d.val := rfl
  rw [hi.1, show t.val / 8 * 1 + 1 * 0 = t.val / 8 by omega] at e0
  rw [hi.2.1, show t.val % 8 * 512 + 1 * r.val = 512 * (t.val % 8) + r.val by omega] at e1
  rw [hi.2.2, show 0 * 4096 + 1 * d.val = d.val by omega] at e2
  have hu : View.ld (iblk m c 2 t : Vec Ideal S1x6x4096 .f32) r0_2 (ix3 (0 : Fin 1) (0 : Fin 1) d) = (iblk m c 2 t : Vec Ideal S1x6x4096 .f32) (ix3 (0 : Fin 1) (4 : Fin 6) d) :=
    congrArg (iblk m c 2 t : Vec Ideal S1x6x4096 .f32) (funext fun a => Fin.ext (by
      match a with
      | ⟨0, _⟩ => rfl
      | ⟨1, _⟩ => rfl
      | ⟨2, _⟩ => show 0 + 1 * d.val = d.val; omega))
  have hv : View.ld (iblk m c 2 t : Vec Ideal S1x6x4096 .f32) r0_3 (ix3 (0 : Fin 1) (0 : Fin 1) d) = (iblk m c 2 t : Vec Ideal S1x6x4096 .f32) (ix3 (0 : Fin 1) (3 : Fin 6) d) :=
    congrArg (iblk m c 2 t : Vec Ideal S1x6x4096 .f32) (funext fun a => Fin.ext (by
      match a with
      | ⟨0, _⟩ => rfl
      | ⟨1, _⟩ => rfl
      | ⟨2, _⟩ => show 0 + 1 * d.val = d.val; omega))
  show out0_3 (iblk m c 0 t) (iblk m c 1 t) (iblk m c 2 t) (ix3 0 r d) = _
  unfold out0_3
  rw [View.canon_unit_zero z3, View.ld_unit_zero z3, View.ld_unit_zero z2, pay_apply, hu, hv]
  unfold result entry
  rw [e0, e1, e2]
  simp only [blk0, blk1, blk2]
  rfl

theorem cover (i : S2x4096x4096.Idx) : ∃ t : Fin cfg0.N, (cfg0.win 3).flush t = true ∧ i ∈ ((cfg0.win 3).blk t).view.set := by
  have h0 : (i 0).val < 2 := (i 0).isLt
  have h1 : (i 1).val < 4096 := (i 1).isLt
  have h2 : (i 2).val < 4096 := (i 2).isLt
  have hN : cfg0.N = 16 := N_0
  obtain ⟨n, hn, hv⟩ : ∃ n : ℕ, n < cfg0.N ∧ n = 8 * (i 0).val + (i 1).val / 512 := ⟨_, by omega, rfl⟩
  have hi := ind3 ⟨n, hn⟩
  dsimp only at hi
  refine ⟨⟨n, hn⟩, flush3 _, ?_⟩
  show i ∈ ((View.whole main_v1).slice (win0_3.rect ⟨n, hn⟩)).set
  rw [View.set_slice_whole, Rect.mem_set_unit]
  intro a
  match a with
  | ⟨0, _⟩ => show win0_3.index _ 0 * 1 ≤ (i 0).val ∧ (i 0).val < win0_3.index _ 0 * 1 + 1; rw [hi.1]; omega
  | ⟨1, _⟩ => show win0_3.index _ 1 * 512 ≤ (i 1).val ∧ (i 1).val < win0_3.index _ 1 * 512 + 512; rw [hi.2.1]; omega
  | ⟨2, _⟩ => show win0_3.index _ 2 * 4096 ≤ (i 2).val ∧ (i 2).val < win0_3.index _ 2 * 4096 + 4096; rw [hi.2.2]; omega

theorem arr_eq (c : Dev nD) : (dats m 0 c).arrAt 3 cfg0.N = result m c :=
  (dats m 0 c).arrAt_eq_of_cover 3 (result m c) (flushed_eq m c) cover

end Cert.FfnNormIdeal.Blocks

namespace Cert.FfnNormClaim

open Cert.FfnNormRefIdeal Cert.FfnNormRefIdeal.Gen Cert.FfnNormRefIdeal.Facts Cert.FfnNormRefIdeal.Read Cert.FfnNormIdeal.Blocks
open Idealize.ShloMosaic.Pointwise

variable (x : S2x4096x4096.Idx → EReal) (w : S4096.Idx → EReal) (u : S2x6x4096.Idx → EReal)

theorem xAt_of (b : Fin 2) (p j : Fin 4096) : xAt x b.val p.val j.val = x (ix3 b p j) := by
  have hb := b.isLt
  have hp := p.isLt
  have hj := j.isLt
  unfold xAt
  congr 1
  funext a
  apply Fin.ext
  match a with
  | ⟨0, _⟩ => show b.val % 2 = b.val; omega
  | ⟨1, _⟩ => show p.val % 4096 = p.val; omega
  | ⟨2, _⟩ => show j.val % 4096 = j.val; omega

theorem sum_apply (b : Fin 2) (p : Fin 4096) :
    val_main_v7 (F := Ideal) x (ix2 b p) = ∑ k : Fin 4096, xAt x b.val p.val k.val * xAt x b.val p.val k.val := by
  rw [val_main_v7_apply, val_main_cst_apply]
  show Ideal.ofBits .f32 0x00000000#32 + _ = _
  rw [show Ideal.ofBits .f32 0x00000000#32 = 0 by simp [Ideal.ofBits, Ideal.ieee], zero_add]
  refine Finset.sum_congr rfl fun k _ => ?_
  rw [val_main_v6_apply, xAt_of]
  rw [show idx_main_v7 (ix2 b p) k = ix3 b p k from by funext a; match a with | ⟨0, _⟩ => rfl | ⟨1, _⟩ => rfl | ⟨2, _⟩ => rfl]
  rfl

/-- The row of the modulation that is added. -/
theorem shift_apply (b : Fin 2) (j : Fin 4096) : val_main_v2 (F := Ideal) u (ix3 b 0 j) = modAt u b.val 3 j.val := by
  have hb := b.isLt
  have hj := j.isLt
  rw [val_main_v2_apply, val_main_v1_apply, val_main_v0_apply]
  unfold modAt
  congr 1
  funext a
  apply Fin.ext
  match a with
  | ⟨0, _⟩ => show (b.val * 4096 + j.val) / 4096 = b.val % 2; omega
  | ⟨1, _⟩ => rfl
  | ⟨2, _⟩ => show (b.val * 4096 + j.val) % 4096 = j.val % 4096; omega

/-- The row of the modulation that scales. -/
theorem scale_apply (b : Fin 2) (j : Fin 4096) : val_main_v5 (F := Ideal) u (ix3 b 0 j) = modAt u b.val 4 j.val := by
  have hb := b.isLt
  have hj := j.isLt
  rw [val_main_v5_apply, val_main_v4_apply, val_main_v3_apply]
  unfold modAt
  congr 1
  funext a
  apply Fin.ext
  match a with
  | ⟨0, _⟩ => show (b.val * 4096 + j.val) / 4096 = b.val % 2; omega
  | ⟨1, _⟩ => rfl
  | ⟨2, _⟩ => show (b.val * 4096 + j.val) % 4096 = j.val % 4096; omega

theorem entry_apply (b : Fin 2) (p j : Fin 4096) : val_main_v25 (F := Ideal) x w u (ix3 b p j) = entry x w u b.val p.val j.val := by
  have hb := b.isLt
  have hp := p.isLt
  have hj := j.isLt
  have hs := sum_apply x b p
  have hw : wAt w j.val = w (ix1 j) := by
    unfold wAt
    congr 1
    funext a
    apply Fin.ext
    match a with
    | ⟨0, _⟩ => show j.val % 4096 = j.val; omega
  rw [val_main_v25_apply, val_main_v24_apply, val_main_v23_apply, val_main_v22_apply, val_main_v21_apply, val_main_v20_apply,
    val_main_v19_apply, val_main_cst_2_apply, val_main_v18_apply, val_main_v17_apply, val_main_v16_apply, val_main_v15_apply,
    val_main_v14_apply, val_main_v13_apply, val_main_v12_apply, val_main_v11_apply, val_main_cst_1_apply, val_main_v10_apply,
    val_main_v9_apply, val_main_cst_0_apply, val_main_v8_apply]
  rw [show idx_main_v8 (idx_main_v14 (ix3 b p j)) = ix2 b p from by funext a; match a with | ⟨0, _⟩ => rfl | ⟨1, _⟩ => rfl,
    show idx_main_v23 (ix3 b p j) = ix3 b 0 j from by funext a; match a with | ⟨0, _⟩ => rfl | ⟨1, _⟩ => rfl | ⟨2, _⟩ => rfl,
    show idx_main_v21 (ix3 b p j) = ix3 b 0 j from by funext a; match a with | ⟨0, _⟩ => rfl | ⟨1, _⟩ => rfl | ⟨2, _⟩ => rfl,
    show idx_main_v16 (idx_main_v17 (ix3 b p j)) = ix1 j from by funext a; match a with | ⟨0, _⟩ => rfl,
    hs, shift_apply, scale_apply, ← xAt_of x, ← hw]
  rfl

theorem ref_apply (i : S2x4096x4096.Idx) : val_main_v25 (F := Ideal) x w u i = entry x w u (i 0).val (i 1).val (i 2).val := by
  have e : i = ix3 (i 0 : Fin 2) (i 1 : Fin 4096) (i 2 : Fin 4096) := by funext a; match a with | ⟨0, _⟩ => rfl | ⟨1, _⟩ => rfl | ⟨2, _⟩ => rfl
  exact (congrArg (val_main_v25 (F := Ideal) x w u) e).trans (entry_apply x w u _ _ _)

end Cert.FfnNormClaim

namespace Cert.FfnNormClaim

open Cert.FfnNormIdeal.Blocks

theorem frame_p : Cert.quiescent_FfnNorm := fun m ρ _ => Cert.FfnNorm.Gen.frame m ρ
theorem frame_pi : Cert.quiescent_FfnNormIdeal := fun m ρ _ => Cert.FfnNormIdeal.Gen.frame m ρ
theorem frame_ri : Cert.quiescent_FfnNormRefIdeal := fun m ρ _ =>
  (θ_run Cert.FfnNormRefIdeal.defs _ _).mono (fun r h => ⟨fun c => (h c).2, sem_eq_zero_of_no_sems (by decide) r.2⟩)
    (Cert.FfnNormRefIdeal.Value.run m ρ)

/-- The kernel and the reference end with the same array. -/
theorem algebraic : Cert.algebraic_FfnNormIdeal_FfnNormRefIdeal := by
  intro m g m' g' _ hargs
  refine ⟨fun c => result m c, ?_, ?_⟩
  · exact (θ_run Cert.FfnNormIdeal.defs _ _).mono (fun r h c => ⟨(h c).1.trans (arr_eq m c), (h c).2⟩) (Cert.FfnNormIdeal.Value.run_blocks m g)
  · refine (θ_run Cert.FfnNormRefIdeal.defs _ _).mono (fun r h c => ⟨(h c).1.trans ?_, (h c).2⟩) (Cert.FfnNormRefIdeal.Value.run m' g')
    rw [Cert.FfnNormRefIdeal.Read.val_main_v25_eq]
    funext i
    have ha := hargs c
    refine (ref_apply _ _ _ i).trans ?_
    rw [ha.1, ha.2.1, ha.2.2]
    rfl

end Cert.FfnNormClaim

end

end
-- ==== Proof.QkNormClaim.lean ====
/-
  The norms of the forgetting attention's queries and keys: each head of each token divided by the root of its mean
  square, times its gains; the queries' gains carry the attention's scale. Blocks of 512 tokens by four heads.
-/
module

public import proofs.«01_k».proof.Defs
public import proofs.«01_k».proof.Proof.Gen.QkNorm.Frame
public import proofs.«01_k».proof.Proof.Gen.QkNormIdeal.Value
public import proofs.«01_k».proof.Proof.Gen.QkNormRefIdeal.Read
public import proofs.«01_k».proof.Proof.Gen.QkNormRefIdeal.Run
public import Idealize.ShloMosaic.Lib.Pointwise

@[expose] public section

set_option maxRecDepth 16384

noncomputable section

open Idealize.ShloMosaic Idealize.ShloMosaic.TcCoe Idealize.SL.Sem

namespace Cert.QkNormIdeal.Blocks

open Cert.QkNormIdeal Cert.QkNormIdeal.Gen Idealize.ShloMosaic.Pointwise

/-- The projection's array at natural-number coordinates. -/
def zAt (x : S8192x29184.Idx → EReal) (r c : ℕ) : EReal := x (ix2 (Fin.ofNat 8192 r) (Fin.ofNat 29184 c))
/-- Gains at natural-number coordinates. -/
def wAt (x : S128.Idx → EReal) (c : ℕ) : EReal := x (ix1 (Fin.ofNat 128 c))
/-- The gains of the queries, scaled, and of the keys. -/
def gAt (q k : S128.Idx → EReal) (g c : ℕ) : EReal := if g = 0 then wAt q c * Ideal.ofBits .f32 0x3DB504F3#32 else wAt k c

variable (m : (ℓ : Loc nD τ sig) → Buf (Elt Ideal) ℓ)

abbrev aZ (c : Dev nD) : S8192x29184.Idx → EReal := m ((c : Thread nD τ).loc main_arg0)
abbrev aQ (c : Dev nD) : S128.Idx → EReal := m ((c : Thread nD τ).loc main_arg1)
abbrev aK (c : Dev nD) : S128.Idx → EReal := m ((c : Thread nD τ).loc main_arg2)

theorem ind0 : ∀ t : Fin grid0.N, win0_0.index t 0 = t.val / 4 ∧ win0_0.index t 1 = 19 + t.val % 4 := by decide +kernel
theorem ind1 : ∀ t : Fin grid0.N, win0_1.index t 0 = t.val % 4 / 2 ∧ win0_1.index t 1 = 0 ∧ win0_1.index t 2 = 0 := by decide +kernel
theorem ind2 : ∀ t : Fin grid0.N, win0_2.index t 0 = t.val / 4 ∧ win0_2.index t 1 = t.val % 4 := by decide +kernel
theorem flush2 : ∀ t : Fin cfg0.N, (cfg0.win 2).flush t = true := (by decide +kernel : ∀ t : Fin grid0.N, win0_2.flush t = true)

theorem lt_N (t : Fin cfg0.N) : t.val < 64 := lt_of_lt_of_eq t.isLt (show cfg0.N = 64 from N_0)

theorem V_arg0 (c : Dev nD) : (V m c main_arg0 : S8192x29184.Idx → EReal) = aZ m c := by
  unfold V
  simp [hostOps0]

/-- The two rows of gains. -/
def gains (q k : S128.Idx → EReal) : S2x128.Idx → EReal :=
  concatenate S2x128 0 [⟨S1x128, fun i => q (ix1 (i 1)) * Ideal.ofBits .f32 0x3DB504F3#32⟩, ⟨S1x128, fun i => k (ix1 (i 1))⟩]
    concatenates_S1x128_S1x128_S2x128_d0

theorem row_apply (x : S128.Idx → EReal) : broadcastInDim S1x128 ![1] bcast_S128_S1x128_1 x = fun i => x (ix1 (i 1)) := by
  funext i
  refine broadcastInDim_apply _ bcast_S128_S1x128_1 x i _ fun a => ?_
  match a with
  | ⟨0, _⟩ => show (i 1).val = if (128 : ℕ) = 1 then 0 else (i 1).val; rw [if_neg (by decide)]

theorem V_v5 (c : Dev nD) : (V m c main_v5 : S2x1x128.Idx → EReal) = shapeCast S2x1x128 (gains (aQ m c) (aK m c)) shapeCasts_S2x128_S2x1x128 := by
  unfold V gains
  rw [show (fun i : S1x128.Idx => aK m c (ix1 (i 1))) = broadcastInDim S1x128 ![1] bcast_S128_S1x128_1 (aK m c) from (row_apply _).symm,
    show (fun i : S1x128.Idx => aQ m c (ix1 (i 1)) * Ideal.ofBits .f32 0x3DB504F3#32)
      = broadcastInDim S1x128 ![1] bcast_S128_S1x128_1 (fun i => aQ m c i * Ideal.ofBits .f32 0x3DB504F3#32) from
        (row_apply fun i => aQ m c i * Ideal.ofBits .f32 0x3DB504F3#32).symm]
  simp [hostOps0]
  rfl

theorem gains_apply (q k : S128.Idx → EReal) (g : Fin 2) (e : Fin 128) : gains q k (ix2 g e) = gAt q k g.val e.val := by
  have he := e.isLt
  unfold gains gAt wAt
  have hx : (Fin.ofNat 128 e.val : Fin 128) = e := Fin.ext (by show e.val % 128 = e.val; omega)
  rw [hx]
  match g with
  | ⟨0, _⟩ =>
    refine Eq.trans (concatenate_apply_piece (α := EReal) (t := S2x128) _ _ _ _ 0 (by simp) S1x128 _ rfl rfl 0 rfl (ix2 (0 : Fin 1) e) ?_ ?_) ?_
    · intro b hb; match b with
      | ⟨0, _⟩ => exact absurd rfl hb
      | ⟨1, _⟩ => rfl
    · rfl
    · rfl
  | ⟨1, _⟩ =>
    refine Eq.trans (concatenate_apply_piece (α := EReal) (t := S2x128) _ _ _ _ 1 (by simp) S1x128 _ rfl rfl 1 rfl (ix2 (0 : Fin 1) e) ?_ ?_) ?_
    · intro b hb; match b with
      | ⟨0, _⟩ => exact absurd rfl hb
      | ⟨1, _⟩ => rfl
    · rfl
    · rfl

theorem blk0 (c : Dev nD) (t : Fin cfg0.N) (r k : Fin 512) :
    (iblk m c 0 t : Vec Ideal S512x512 .bf16) (ix2 r k) = zAt (aZ m c) (512 * (t.val / 4) + r.val) (9728 + (512 * (t.val % 4) + k.val)) := by
  have hi := ind0 t
  have ht := lt_N t
  have hr := r.isLt
  have hk := k.isLt
  unfold iblk zAt
  rw [View.read_apply]
  show V m c main_arg0 _ = _
  rw [V_arg0]
  congr 1
  funext a
  apply Fin.ext
  match a with
  | ⟨0, _⟩ => show win0_0.index t 0 * 512 + 1 * r.val = (_ : ℕ) % 8192; rw [hi.1]; omega
  | ⟨1, _⟩ => show win0_0.index t 1 * 512 + 1 * k.val = (_ : ℕ) % 29184; rw [hi.2]; omega

theorem blk1 (c : Dev nD) (t : Fin cfg0.N) (e : Fin 128) :
    (iblk m c 1 t : Vec Ideal S1x1x128 .f32) (ix3 0 0 e) = gAt (aQ m c) (aK m c) (t.val % 4 / 2) e.val := by
  have hi := ind1 t
  have he := e.isLt
  refine Eq.trans ?_ (gains_apply (aQ m c) (aK m c) ⟨t.val % 4 / 2, by omega⟩ e)
  unfold iblk
  rw [View.read_apply]
  show V m c main_v5 _ = _
  rw [V_v5]
  refine shapeCast_apply _ _ _ _ ?_
  rw [Shape.rowMajor_val_three, Shape.rowMajor_val_two]
  show t.val % 4 / 2 * 128 + e.val = ((win0_1.index t 0 * 1 + 1 * 0) * 1 + (win0_1.index t 1 * 1 + 1 * 0)) * 128 + (win0_1.index t 2 * 128 + 1 * e.val)
  rw [hi.1, hi.2.1, hi.2.2]
  omega

/-- The reciprocal root of a mean square plus the small constant, of the sum of squares. -/
def scale (s : EReal) : EReal :=
  Ideal.rsqrt (Ideal.div s (Ideal.ofBits .f32 0x43000000#32) + Ideal.ofBits .f32 0x358637BD#32)

/-- One head of the body's block, entry by entry. -/
theorem head_apply (x : Vec Ideal S512x128 .bf16) (w : Vec Ideal S1x1x128 .f32) (r : Fin 512) (e : Fin 128) :
    k0_pay2 (F := Ideal) x w (ix2 r e) = x (ix2 r e) * scale (∑ k : Fin 128, x (ix2 r k) * x (ix2 r k)) * w (ix3 0 0 e) := by
  pointwise [k0_pay2, scale]

/-- The body's block is its four heads side by side. -/
theorem pay_heads (x0 x1 x2 x3 : Vec Ideal S512x128 .bf16) (w : Vec Ideal S1x1x128 .f32) :
    (k0_pay1 (F := Ideal) (k0_pay2 x0 w) (k0_pay3 x1 w) (k0_pay4 x2) (k0_pay5 x2) k0_pay6 w x3 w : S512x512.Idx → EReal)
      = concatenate S512x512 1 [⟨S512x128, (k0_pay2 (F := Ideal) x0 w : S512x128.Idx → EReal)⟩, ⟨S512x128, (k0_pay2 (F := Ideal) x1 w : S512x128.Idx → EReal)⟩,
          ⟨S512x128, (k0_pay2 (F := Ideal) x2 w : S512x128.Idx → EReal)⟩, ⟨S512x128, (k0_pay2 (F := Ideal) x3 w : S512x128.Idx → EReal)⟩]
          concatenates_S512x128_S512x128_S512x128_S512x128_S512x512_d1 := rfl

/-- Four heads of width 128 side by side, at a column. -/
theorem side_apply (y : Fin 4 → S512x128.Idx → EReal) (r : Fin 512) (g : Fin 4) (e : Fin 128) (d : Fin 512) (hd : d.val = 128 * g.val + e.val) :
    concatenate S512x512 1 [⟨S512x128, y 0⟩, ⟨S512x128, y 1⟩, ⟨S512x128, y 2⟩, ⟨S512x128, y 3⟩]
      concatenates_S512x128_S512x128_S512x128_S512x128_S512x512_d1 (ix2 r d) = y g (ix2 r e) := by
  match g with
  | ⟨0, _⟩ =>
    refine concatenate_apply_piece (α := EReal) (t := S512x512) _ _ _ _ 0 (by simp) S512x128 _ rfl rfl 0 rfl (ix2 r e) ?_ ?_
    · intro b hb; match b with
      | ⟨0, _⟩ => rfl
      | ⟨1, _⟩ => exact absurd rfl hb
    · show 0 + e.val = d.val; rw [hd]; show 0 + e.val = 128 * 0 + e.val; omega
  | ⟨1, _⟩ =>
    refine concatenate_apply_piece (α := EReal) (t := S512x512) _ _ _ _ 1 (by simp) S512x128 _ rfl rfl 128 rfl (ix2 r e) ?_ ?_
    · intro b hb; match b with
      | ⟨0, _⟩ => rfl
      | ⟨1, _⟩ => exact absurd rfl hb
    · show 128 + e.val = d.val; rw [hd]; show 128 + e.val = 128 * 1 + e.val; omega
  | ⟨2, _⟩ =>
    refine concatenate_apply_piece (α := EReal) (t := S512x512) _ _ _ _ 2 (by simp) S512x128 _ rfl rfl 256 rfl (ix2 r e) ?_ ?_
    · intro b hb; match b with
      | ⟨0, _⟩ => rfl
      | ⟨1, _⟩ => exact absurd rfl hb
    · show 256 + e.val = d.val; rw [hd]; show 256 + e.val = 128 * 2 + e.val; omega
  | ⟨3, _⟩ =>
    refine concatenate_apply_piece (α := EReal) (t := S512x512) _ _ _ _ 3 (by simp) S512x128 _ rfl rfl 384 rfl (ix2 r e) ?_ ?_
    · intro b hb; match b with
      | ⟨0, _⟩ => rfl
      | ⟨1, _⟩ => exact absurd rfl hb
    · show 384 + e.val = d.val; rw [hd]; show 384 + e.val = 128 * 3 + e.val; omega

/-- One head's columns of a block. -/
def headOf (x : S512x512.Idx → EReal) (g : Fin 4) : S512x128.Idx → EReal :=
  fun i => x (ix2 (i 0) (⟨128 * g.val + (i 1).val, by have := g.isLt; have h : (i 1).val < 128 := (i 1).isLt; omega⟩ : Fin 512))

theorem z2 : (![0, 0] : Fin 2 → ℕ) = fun _ => 0 := by funext a; match a with | ⟨0, _⟩ => rfl | ⟨1, _⟩ => rfl
theorem z3 : (![0, 0, 0] : Fin 3 → ℕ) = fun _ => 0 := by funext a; match a with | ⟨0, _⟩ => rfl | ⟨1, _⟩ => rfl | ⟨2, _⟩ => rfl

theorem ld_head (x : Vec Ideal S512x512 .bf16) (off : ℕ) (inb) (g : Fin 4) (h : off = 128 * g.val) :
    (View.ld x (Rect.unit (s := S512x512) ![0, off] S512x128.size inb) : S512x128.Idx → EReal) = headOf x g := by
  subst h
  funext i
  refine congrArg x (funext fun a => Fin.ext ?_)
  match a with
  | ⟨0, _⟩ => show 0 + 1 * (i 0).val = (i 0).val; omega
  | ⟨1, _⟩ => show 128 * g.val + 1 * (i 1).val = 128 * g.val + (i 1).val; omega

/-- The body's block, entry by entry. -/
theorem out_apply (x : Vec Ideal S512x512 .bf16) (w : Vec Ideal S1x1x128 .f32) (r : Fin 512) (g : Fin 4) (e : Fin 128) (d : Fin 512) (hd : d.val = 128 * g.val + e.val) :
    out0_2 (F := Ideal) x w (ix2 r d)
      = headOf x g (ix2 r e) * scale (∑ k : Fin 128, headOf x g (ix2 r k) * headOf x g (ix2 r k)) * w (ix3 0 0 e) := by
  unfold out0_2
  rw [View.canon_unit_zero z2, View.ld_unit_zero z3]
  refine (congrFun (pay_heads _ _ _ _ w) (ix2 r d)).trans ?_
  rw [ld_head x 0 _ 0 rfl, ld_head x 128 _ 1 rfl, ld_head x 256 _ 2 rfl, ld_head x 384 _ 3 rfl]
  refine (side_apply (fun g => k0_pay2 (F := Ideal) (headOf x g) w) r g e d hd).trans ?_
  exact head_apply (headOf x g) w r e

/-- The normalised entry of token `r` and column `j`, queries' heads before keys'. -/
def entry (z : S8192x29184.Idx → EReal) (q k : S128.Idx → EReal) (r j : ℕ) : EReal :=
  zAt z r (9728 + j) * scale (∑ l : Fin 128, zAt z r (9728 + (128 * (j / 128) + l.val)) * zAt z r (9728 + (128 * (j / 128) + l.val)))
    * gAt q k (j / 1024) (j % 128)

/-- The array the kernel ends with. -/
def result (c : Dev nD) : S8192x2048.Idx → EReal := fun i => entry (aZ m c) (aQ m c) (aK m c) (i 0).val (i 1).val

theorem head_blk (c : Dev nD) (t : Fin cfg0.N) (g : Fin 4) (r : Fin 512) (e : Fin 128) :
    headOf (iblk m c 0 t : Vec Ideal S512x512 .bf16) g (ix2 r e)
      = zAt (aZ m c) (512 * (t.val / 4) + r.val) (9728 + (128 * (4 * (t.val % 4) + g.val) + e.val)) := by
  unfold headOf
  refine (blk0 m c t r _).trans ?_
  show zAt _ _ (9728 + (512 * (t.val % 4) + (128 * g.val + e.val))) = _
  rw [show 512 * (t.val % 4) + (128 * g.val + e.val) = 128 * (4 * (t.val % 4) + g.val) + e.val by omega]

theorem flushed_eq (c : Dev nD) (t : Fin cfg0.N) (hf : (cfg0.win 2).flush t = true) :
    (dats m 0 c).flushed 2 t = ((cfg0.win 2).blk t).view.read (Elt Ideal) (result m c) := by
  have ht := lt_N t
  have hi := ind2 t
  rw [Cert.QkNormIdeal.Value.flushed2]
  funext j
  obtain ⟨r, d, rfl⟩ : ∃ (r : Fin 512) (d : Fin 512), j = ix2 r d := ⟨j 0, j 1, by funext a; match a with | ⟨0, _⟩ => rfl | ⟨1, _⟩ => rfl⟩
  rw [View.read_apply]
  have hr := r.isLt
  have hd := d.isLt
  have e0 : (((cfg0.win 2).blk t).view.emb (ix2 r d) 0).val = win0_2.index t 0 * 512 + 1 * r.val := rfl
  have e1 : (((cfg0.win 2).blk t).view.emb (ix2 r d) 1).val = win0_2.index t 1 * 512 + 1 * d.val := rfl
  rw [hi.1, show t.val / 4 * 512 + 1 * r.val = 512 * (t.val / 4) + r.val by omega] at e0
  rw [hi.2, show t.val % 4 * 512 + 1 * d.val = 512 * (t.val % 4) + d.val by omega] at e1
  show out0_2 (iblk m c 0 t) (iblk m c 1 t) (ix2 r d) = _
  rw [out_apply _ _ r (⟨d.val / 128, by omega⟩ : Fin 4) (⟨d.val % 128, by omega⟩ : Fin 128) d (by show d.val = 128 * (d.val / 128) + d.val % 128; omega)]
  unfold result entry
  rw [e0, e1]
  simp only [head_blk, blk1]
  rw [show (512 * (t.val % 4) + d.val) / 128 = 4 * (t.val % 4) + d.val / 128 by omega,
    show 128 * (4 * (t.val % 4) + d.val / 128) + d.val % 128 = 512 * (t.val % 4) + d.val by omega,
    show (512 * (t.val % 4) + d.val) / 1024 = t.val % 4 / 2 by omega,
    show (512 * (t.val % 4) + d.val) % 128 = d.val % 128 by omega]
  rfl

theorem cover (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have hN : cfg0.N = 64 := N_0
  obtain ⟨n, hn, hv⟩ : ∃ n : ℕ, n < cfg0.N ∧ n = 4 * ((i 0).val / 512) + (i 1).val / 512 := ⟨_, by omega, rfl⟩
  have hi := ind2 ⟨n, hn⟩
  dsimp only at hi
  refine ⟨⟨n, hn⟩, flush2 _, ?_⟩
  show i ∈ ((View.whole main_v6).slice (win0_2.rect ⟨n, hn⟩)).set
  rw [View.set_slice_whole, Rect.mem_set_unit]
  intro a
  match a with
  | ⟨0, _⟩ => show win0_2.index _ 0 * 512 ≤ (i 0).val ∧ (i 0).val < win0_2.index _ 0 * 512 + 512; rw [hi.1]; omega
  | ⟨1, _⟩ => show win0_2.index _ 1 * 512 ≤ (i 1).val ∧ (i 1).val < win0_2.index _ 1 * 512 + 512; rw [hi.2]; omega

theorem arr_eq (c : Dev nD) : (dats m 0 c).arrAt 2 cfg0.N = result m c :=
  (dats m 0 c).arrAt_eq_of_cover 2 (result m c) (flushed_eq m c) cover

end Cert.QkNormIdeal.Blocks

namespace Cert.QkNormClaim

open Cert.QkNormRefIdeal Cert.QkNormRefIdeal.Gen Cert.QkNormRefIdeal.Facts Cert.QkNormRefIdeal.Read Cert.QkNormIdeal.Blocks
open Idealize.ShloMosaic.Pointwise

variable (z : S8192x29184.Idx → EReal) (q k : S128.Idx → EReal)

theorem query_val (r : Fin 8192) (h : Fin 8) (e : Fin 128) :
    val_main_v2 (F := Ideal) z (ix3 r h e) = zAt z r.val (9728 + (128 * h.val + e.val)) := by
  have hr := r.isLt
  have hh := h.isLt
  have he := e.isLt
  rw [val_main_v2_apply, val_main_v1_apply, val_main_v0_apply]
  unfold zAt
  refine congrArg z (funext fun a => Fin.ext ?_)
  match a with
  | ⟨0, _⟩ => show ((r.val * 8 + h.val) * 128 + e.val) / 1024 = r.val % 8192; omega
  | ⟨1, _⟩ => show 9728 + ((r.val * 8 + h.val) * 128 + e.val) % 1024 = (9728 + (128 * h.val + e.val)) % 29184; omega

theorem query_apply (r : Fin 8192) (h : Fin 8) (e : Fin 128) :
    val_main_v15 (F := Ideal) z q (ix3 r h e)
      = zAt z r.val (9728 + (128 * h.val + e.val))
        * scale (∑ l : Fin 128, zAt z r.val (9728 + (128 * h.val + l.val)) * zAt z r.val (9728 + (128 * h.val + l.val))) * wAt q e.val := by
  have he := e.isLt
  have hs : val_main_v4 (F := Ideal) z (ix2 r h)
      = ∑ l : Fin 128, zAt z r.val (9728 + (128 * h.val + l.val)) * zAt z r.val (9728 + (128 * h.val + l.val)) := by
    rw [val_main_v4_apply, val_main_cst_apply]
    show Ideal.ofBits .f32 0x00000000#32 + _ = _
    rw [show Ideal.ofBits .f32 0x00000000#32 = 0 by simp [Ideal.ofBits, Ideal.ieee], zero_add]
    refine Finset.sum_congr rfl fun l _ => ?_
    rw [val_main_v3_apply, show idx_main_v4 (ix2 r h) l = ix3 r h l from by funext a; match a with | ⟨0, _⟩ => rfl | ⟨1, _⟩ => rfl | ⟨2, _⟩ => rfl,
      query_val]
    rfl
  have hw : wAt q e.val = q (ix1 e) := by
    unfold wAt
    refine congrArg q (funext fun a => Fin.ext ?_)
    match a with
    | ⟨0, _⟩ => show e.val % 128 = e.val; omega
  rw [val_main_v15_apply, val_main_v14_apply, val_main_v13_apply, val_main_v12_apply, val_main_v11_apply, val_main_v10_apply,
    val_main_v9_apply, val_main_v8_apply, val_main_cst_1_apply, val_main_v7_apply, val_main_v6_apply, val_main_cst_0_apply, val_main_v5_apply]
  rw [show idx_main_v5 (idx_main_v11 (ix3 r h e)) = ix2 r h from by funext a; match a with | ⟨0, _⟩ => rfl | ⟨1, _⟩ => rfl,
    show idx_main_v13 (idx_main_v14 (ix3 r h e)) = ix1 e from by funext a; match a with | ⟨0, _⟩ => rfl,
    hs, query_val, ← hw]
  rfl

theorem key_val (r : Fin 8192) (h : Fin 8) (e : Fin 128) :
    val_main_v20 (F := Ideal) z (ix3 r h e) = zAt z r.val (9728 + (1024 + 128 * h.val + e.val)) := by
  have hr := r.isLt
  have hh := h.isLt
  have he := e.isLt
  rw [val_main_v20_apply, val_main_v19_apply, val_main_v18_apply]
  unfold zAt
  refine congrArg z (funext fun a => Fin.ext ?_)
  match a with
  | ⟨0, _⟩ => show ((r.val * 8 + h.val) * 128 + e.val) / 1024 = r.val % 8192; omega
  | ⟨1, _⟩ => show 10752 + ((r.val * 8 + h.val) * 128 + e.val) % 1024 = (9728 + (1024 + 128 * h.val + e.val)) % 29184; omega

theorem key_apply (r : Fin 8192) (h : Fin 8) (e : Fin 128) :
    val_main_v33 (F := Ideal) z k (ix3 r h e)
      = zAt z r.val (9728 + (1024 + 128 * h.val + e.val))
        * scale (∑ l : Fin 128, zAt z r.val (9728 + (1024 + 128 * h.val + l.val)) * zAt z r.val (9728 + (1024 + 128 * h.val + l.val))) * wAt k e.val := by
  have he := e.isLt
  have hs : val_main_v22 (F := Ideal) z (ix2 r h)
      = ∑ l : Fin 128, zAt z r.val (9728 + (1024 + 128 * h.val + l.val)) * zAt z r.val (9728 + (1024 + 128 * h.val + l.val)) := by
    rw [val_main_v22_apply, val_main_cst_3_apply]
    show Ideal.ofBits .f32 0x00000000#32 + _ = _
    rw [show Ideal.ofBits .f32 0x00000000#32 = 0 by simp [Ideal.ofBits, Ideal.ieee], zero_add]
    refine Finset.sum_congr rfl fun l _ => ?_
    rw [val_main_v21_apply, show idx_main_v22 (ix2 r h) l = ix3 r h l from by funext a; match a with | ⟨0, _⟩ => rfl | ⟨1, _⟩ => rfl | ⟨2, _⟩ => rfl,
      key_val]
    rfl
  have hw : wAt k e.val = k (ix1 e) := by
    unfold wAt
    refine congrArg k (funext fun a => Fin.ext ?_)
    match a with
    | ⟨0, _⟩ => show e.val % 128 = e.val; omega
  rw [val_main_v33_apply, val_main_v32_apply, val_main_v31_apply, val_main_v30_apply, val_main_v29_apply, val_main_v28_apply,
    val_main_v27_apply, val_main_v26_apply, val_main_cst_5_apply, val_main_v25_apply, val_main_v24_apply, val_main_cst_4_apply, val_main_v23_apply]
  rw [show idx_main_v23 (idx_main_v29 (ix3 r h e)) = ix2 r h from by funext a; match a with | ⟨0, _⟩ => rfl | ⟨1, _⟩ => rfl,
    show idx_main_v31 (idx_main_v32 (ix3 r h e)) = ix1 e from by funext a; match a with | ⟨0, _⟩ => rfl,
    hs, key_val, ← hw]
  rfl

theorem ref_apply (i : S8192x2048.Idx) : val_main_v37 (F := Ideal) z q k i = entry z q k (i 0).val (i 1).val := by
  have h0 : (i 0).val < 8192 := (i 0).isLt
  have h1 : (i 1).val < 2048 := (i 1).isLt
  rw [val_main_v37_apply]
  show val_main_v36 (F := Ideal) z q k i = _
  unfold val_main_v36
  by_cases hj : (i 1).val < 1024
  · refine Eq.trans (concatenate_apply_piece (α := EReal) (t := S8192x2048) _ _ _ _ 0 (by simp) S8192x1024 _ rfl rfl 0 rfl
      (ix2 (⟨(i 0).val, h0⟩ : Fin 8192) (⟨(i 1).val, hj⟩ : Fin 1024)) ?_ ?_) ?_
    · intro b hb; match b with
      | ⟨0, _⟩ => rfl
      | ⟨1, _⟩ => exact absurd rfl hb
    · show 0 + (i 1).val = (i 1).val; omega
    · rw [val_main_v34_apply,
        show idx_main_v34 (ix2 (⟨(i 0).val, h0⟩ : Fin 8192) (⟨(i 1).val, hj⟩ : Fin 1024))
            = ix3 (⟨(i 0).val, h0⟩ : Fin 8192) (⟨(i 1).val / 128, by omega⟩ : Fin 8) (⟨(i 1).val % 128, by omega⟩ : Fin 128) from by
          funext a
          apply Fin.ext
          match a with
          | ⟨0, _⟩ => show ((i 0).val * 1024 + (i 1).val) / 1024 = (i 0).val; omega
          | ⟨1, _⟩ => show ((i 0).val * 1024 + (i 1).val) / 128 % 8 = (i 1).val / 128; omega
          | ⟨2, _⟩ => show ((i 0).val * 1024 + (i 1).val) % 128 = (i 1).val % 128; omega,
        val_main_v17_apply, val_main_v16_apply, val_main_cst_2_apply, query_apply]
      dsimp only
      unfold entry gAt
      rw [show 128 * ((i 1).val / 128) + (i 1).val % 128 = (i 1).val by omega, if_pos (show (i 1).val / 1024 = 0 by omega), ← mul_assoc]
      rfl
  · refine Eq.trans (concatenate_apply_piece (α := EReal) (t := S8192x2048) _ _ _ _ 1 (by simp) S8192x1024 _ rfl rfl 1024 rfl
      (ix2 (⟨(i 0).val, h0⟩ : Fin 8192) (⟨(i 1).val - 1024, by omega⟩ : Fin 1024)) ?_ ?_) ?_
    · intro b hb; match b with
      | ⟨0, _⟩ => rfl
      | ⟨1, _⟩ => exact absurd rfl hb
    · show 1024 + ((i 1).val - 1024) = (i 1).val; omega
    · rw [val_main_v35_apply,
        show idx_main_v35 (ix2 (⟨(i 0).val, h0⟩ : Fin 8192) (⟨(i 1).val - 1024, by omega⟩ : Fin 1024))
            = ix3 (⟨(i 0).val, h0⟩ : Fin 8192) (⟨(i 1).val / 128 - 8, by omega⟩ : Fin 8) (⟨(i 1).val % 128, by omega⟩ : Fin 128) from by
          funext a
          apply Fin.ext
          match a with
          | ⟨0, _⟩ => show ((i 0).val * 1024 + ((i 1).val - 1024)) / 1024 = (i 0).val; omega
          | ⟨1, _⟩ => show ((i 0).val * 1024 + ((i 1).val - 1024)) / 128 % 8 = (i 1).val / 128 - 8; omega
          | ⟨2, _⟩ => show ((i 0).val * 1024 + ((i 1).val - 1024)) % 128 = (i 1).val % 128; omega,
        key_apply]
      dsimp only
      unfold entry gAt
      rw [show 1024 + 128 * ((i 1).val / 128 - 8) = 128 * ((i 1).val / 128) by omega,
        show 128 * ((i 1).val / 128) + (i 1).val % 128 = (i 1).val by omega, if_neg (show ¬(i 1).val / 1024 = 0 by omega)]

end Cert.QkNormClaim

namespace Cert.QkNormClaim

open Cert.QkNormIdeal.Blocks

theorem frame_p : Cert.quiescent_QkNorm := fun m ρ _ => Cert.QkNorm.Gen.frame m ρ
theorem frame_pi : Cert.quiescent_QkNormIdeal := fun m ρ _ => Cert.QkNormIdeal.Gen.frame m ρ
theorem frame_ri : Cert.quiescent_QkNormRefIdeal := fun m ρ _ =>
  (θ_run Cert.QkNormRefIdeal.defs _ _).mono (fun r h => ⟨fun c => (h c).2, sem_eq_zero_of_no_sems (by decide) r.2⟩)
    (Cert.QkNormRefIdeal.Value.run m ρ)

/-- The kernel and the reference end with the same array. -/
theorem algebraic : Cert.algebraic_QkNormIdeal_QkNormRefIdeal := by
  intro m g m' g' _ hargs
  refine ⟨fun c => result m c, ?_, ?_⟩
  · exact (θ_run Cert.QkNormIdeal.defs _ _).mono (fun r h c => ⟨(h c).1.trans (arr_eq m c), (h c).2⟩) (Cert.QkNormIdeal.Value.run_blocks m g)
  · refine (θ_run Cert.QkNormRefIdeal.defs _ _).mono (fun r h c => ⟨(h c).1.trans ?_, (h c).2⟩) (Cert.QkNormRefIdeal.Value.run m' g')
    rw [Cert.QkNormRefIdeal.Read.val_main_v37_eq]
    funext i
    have ha := hargs c
    refine (ref_apply _ _ _ i).trans ?_
    rw [ha.1, ha.2.1, ha.2.2]
    rfl

end Cert.QkNormClaim

end

end
-- ==== Proof.BandMergeClaim.lean ====
/-
  The merge of the dilated attention's three bands: each head of each token is the bands' outputs weighed by the softmax of
  their log sums. The kernel divides the weighted sum once, the reference each weight; the two agree where the log sums are
  finite. Blocks of 512 tokens by four heads.
-/
module

public import proofs.«01_k».proof.Defs
public import proofs.«01_k».proof.Proof.Gen.BandMerge.Frame
public import proofs.«01_k».proof.Proof.Gen.BandMergeIdeal.Value
public import proofs.«01_k».proof.Proof.Gen.BandMergeRefIdeal.Read
public import proofs.«01_k».proof.Proof.Gen.BandMergeRefIdeal.Run
public import proofs.«01_k».proof.Proof.Gen.Pre_sums_finite
public import Idealize.ShloMosaic.Lib.Pointwise
public import Idealize.ShloMosaic.Lib.ReduceAll

@[expose] public section

set_option maxRecDepth 16384

noncomputable section

open Idealize.ShloMosaic Idealize.ShloMosaic.TcCoe Idealize.SL.Sem

namespace Cert.BandMergeIdeal.Blocks

open Cert.BandMergeIdeal Cert.BandMergeIdeal.Gen Idealize.ShloMosaic.Pointwise

/-- A band's output at natural-number coordinates. -/
def oAt (x : S8192x512.Idx → EReal) (r c : ℕ) : EReal := x (ix2 (Fin.ofNat 8192 r) (Fin.ofNat 512 c))
/-- A band's log sums at natural-number coordinates. -/
def lAt (x : S8192x128.Idx → EReal) (r c : ℕ) : EReal := x (ix2 (Fin.ofNat 8192 r) (Fin.ofNat 128 c))

/-- The greatest of three. -/
def top (a b c : EReal) : EReal := max (max a b) c

/-- The sum of three exponentials, each less the greatest. -/
def den (a b c : EReal) : EReal := Ideal.exp (a - top a b c) + Ideal.exp (b - top a b c) + Ideal.exp (c - top a b c)

/-- The weighted sum, divided once. -/
def merged (a b c x y z : EReal) : EReal :=
  Ideal.div (Ideal.exp (a - top a b c) * x + Ideal.exp (b - top a b c) * y + Ideal.exp (c - top a b c) * z) (den a b c)

/-- With finite log sums, dividing the weighted sum once is dividing every weight. -/
theorem merged_eq (a b c : ℝ) (x y z : EReal) :
    merged a b c x y z = Ideal.div (Ideal.exp (a - top a b c)) (den a b c) * x
      + Ideal.div (Ideal.exp (b - top a b c)) (den a b c) * y + Ideal.div (Ideal.exp (c - top a b c)) (den a b c) * z := by
  unfold merged den
  have ht : top (a : EReal) b c = ((max (max a b) c : ℝ) : EReal) := by
    unfold top
    rw [EReal.coe_strictMono.monotone.map_max, EReal.coe_strictMono.monotone.map_max]
  rw [ht, ← EReal.coe_sub, ← EReal.coe_sub, ← EReal.coe_sub, Ideal.exp_coe, Ideal.exp_coe, Ideal.exp_coe, ← EReal.coe_add, ← EReal.coe_add]
  have hp : 0 < Real.exp (a - max (max a b) c) + Real.exp (b - max (max a b) c) + Real.exp (c - max (max a b) c) := by positivity
  have h0 : (0 : EReal) ≤ ((1 / (Real.exp (a - max (max a b) c) + Real.exp (b - max (max a b) c) + Real.exp (c - max (max a b) c)) : ℝ) : EReal) :=
    EReal.coe_nonneg.mpr (one_div_pos.mpr hp).le
  rw [Ideal.div_coe hp.ne', Ideal.div_coe hp.ne', Ideal.div_coe hp.ne', Ideal.div_coe hp.ne',
    EReal.right_distrib_of_nonneg_of_ne_top h0 (EReal.coe_ne_top _), EReal.right_distrib_of_nonneg_of_ne_top h0 (EReal.coe_ne_top _)]
  rw [mul_right_comm _ x, mul_right_comm _ y, mul_right_comm _ z]

variable (m : (ℓ : Loc nD τ sig) → Buf (Elt Ideal) ℓ)

abbrev a0 (c : Dev nD) : S8192x512.Idx → EReal := m ((c : Thread nD τ).loc main_arg0)
abbrev a1 (c : Dev nD) : S8192x512.Idx → EReal := m ((c : Thread nD τ).loc main_arg1)
abbrev a2 (c : Dev nD) : S8192x512.Idx → EReal := m ((c : Thread nD τ).loc main_arg2)
abbrev a3 (c : Dev nD) : S8192x128.Idx → EReal := m ((c : Thread nD τ).loc main_arg3)
abbrev a4 (c : Dev nD) : S8192x128.Idx → EReal := m ((c : Thread nD τ).loc main_arg4)
abbrev a5 (c : Dev nD) : S8192x128.Idx → EReal := m ((c : Thread nD τ).loc main_arg5)

theorem ind0 : ∀ t : Fin grid0.N, win0_0.index t 0 = t.val ∧ win0_0.index t 1 = 0 := by decide +kernel
theorem ind1 : ∀ t : Fin grid0.N, win0_1.index t 0 = t.val ∧ win0_1.index t 1 = 0 := by decide +kernel
theorem ind2 : ∀ t : Fin grid0.N, win0_2.index t 0 = t.val ∧ win0_2.index t 1 = 0 := by decide +kernel
theorem ind3 : ∀ t : Fin grid0.N, win0_3.index t 0 = t.val ∧ win0_3.index t 1 = 0 := by decide +kernel
theorem ind4 : ∀ t : Fin grid0.N, win0_4.index t 0 = t.val ∧ win0_4.index t 1 = 0 := by decide +kernel
theorem ind5 : ∀ t : Fin grid0.N, win0_5.index t 0 = t.val ∧ win0_5.index t 1 = 0 := by decide +kernel
theorem ind6 : ∀ t : Fin grid0.N, win0_6.index t 0 = t.val ∧ win0_6.index t 1 = 0 := by decide +kernel
theorem flush6 : ∀ t : Fin cfg0.N, (cfg0.win 6).flush t = true := (by decide +kernel : ∀ t : Fin grid0.N, win0_6.flush t = true)

theorem lt_N (t : Fin cfg0.N) : t.val < 16 := lt_of_lt_of_eq t.isLt (show cfg0.N = 16 from N_0)

theorem V_arg0 (c : Dev nD) : (V m c main_arg0 : S8192x512.Idx → EReal) = a0 m c := by
  unfold V
  rfl
theorem V_arg1 (c : Dev nD) : (V m c main_arg1 : S8192x512.Idx → EReal) = a1 m c := by
  unfold V
  rfl
theorem V_arg2 (c : Dev nD) : (V m c main_arg2 : S8192x512.Idx → EReal) = a2 m c := by
  unfold V
  rfl
theorem V_arg3 (c : Dev nD) : (V m c main_arg3 : S8192x128.Idx → EReal) = a3 m c := by
  unfold V
  rfl
theorem V_arg4 (c : Dev nD) : (V m c main_arg4 : S8192x128.Idx → EReal) = a4 m c := by
  unfold V
  rfl
theorem V_arg5 (c : Dev nD) : (V m c main_arg5 : S8192x128.Idx → EReal) = a5 m c := by
  unfold V
  rfl

theorem blk0 (c : Dev nD) (t : Fin cfg0.N) (r : Fin 512) (k : Fin 512) :
    (iblk m c 0 t : Vec Ideal S512x512 .f32) (ix2 r k) = oAt (a0 m c) (512 * t.val + r.val) k.val := by
  have hi := ind0 t
  have ht := lt_N t
  have hr := r.isLt
  have hk := k.isLt
  unfold iblk oAt
  rw [View.read_apply]
  show V m c main_arg0 _ = _
  rw [V_arg0]
  congr 1
  funext a
  apply Fin.ext
  match a with
  | ⟨0, _⟩ => show win0_0.index t 0 * 512 + 1 * r.val = (_ : ℕ) % 8192; rw [hi.1]; omega
  | ⟨1, _⟩ => show win0_0.index t 1 * 512 + 1 * k.val = (_ : ℕ) % 512; rw [hi.2]; omega

theorem blk1 (c : Dev nD) (t : Fin cfg0.N) (r : Fin 512) (k : Fin 512) :
    (iblk m c 1 t : Vec Ideal S512x512 .f32) (ix2 r k) = oAt (a1 m c) (512 * t.val + r.val) k.val := by
  have hi := ind1 t
  have ht := lt_N t
  have hr := r.isLt
  have hk := k.isLt
  unfold iblk oAt
  rw [View.read_apply]
  show V m c main_arg1 _ = _
  rw [V_arg1]
  congr 1
  funext a
  apply Fin.ext
  match a with
  | ⟨0, _⟩ => show win0_1.index t 0 * 512 + 1 * r.val = (_ : ℕ) % 8192; rw [hi.1]; omega
  | ⟨1, _⟩ => show win0_1.index t 1 * 512 + 1 * k.val = (_ : ℕ) % 512; rw [hi.2]; omega

theorem blk2 (c : Dev nD) (t : Fin cfg0.N) (r : Fin 512) (k : Fin 512) :
    (iblk m c 2 t : Vec Ideal S512x512 .f32) (ix2 r k) = oAt (a2 m c) (512 * t.val + r.val) k.val := by
  have hi := ind2 t
  have ht := lt_N t
  have hr := r.isLt
  have hk := k.isLt
  unfold iblk oAt
  rw [View.read_apply]
  show V m c main_arg2 _ = _
  rw [V_arg2]
  congr 1
  funext a
  apply Fin.ext
  match a with
  | ⟨0, _⟩ => show win0_2.index t 0 * 512 + 1 * r.val = (_ : ℕ) % 8192; rw [hi.1]; omega
  | ⟨1, _⟩ => show win0_2.index t 1 * 512 + 1 * k.val = (_ : ℕ) % 512; rw [hi.2]; omega

theorem blk3 (c : Dev nD) (t : Fin cfg0.N) (r : Fin 512) (k : Fin 128) :
    (iblk m c 3 t : Vec Ideal S512x128 .f32) (ix2 r k) = lAt (a3 m c) (512 * t.val + r.val) k.val := by
  have hi := ind3 t
  have ht := lt_N t
  have hr := r.isLt
  have hk := k.isLt
  unfold iblk lAt
  rw [View.read_apply]
  show V m c main_arg3 _ = _
  rw [V_arg3]
  congr 1
  funext a
  apply Fin.ext
  match a with
  | ⟨0, _⟩ => show win0_3.index t 0 * 512 + 1 * r.val = (_ : ℕ) % 8192; rw [hi.1]; omega
  | ⟨1, _⟩ => show win0_3.index t 1 * 128 + 1 * k.val = (_ : ℕ) % 128; rw [hi.2]; omega

theorem blk4 (c : Dev nD) (t : Fin cfg0.N) (r : Fin 512) (k : Fin 128) :
    (iblk m c 4 t : Vec Ideal S512x128 .f32) (ix2 r k) = lAt (a4 m c) (512 * t.val + r.val) k.val := by
  have hi := ind4 t
  have ht := lt_N t
  have hr := r.isLt
  have hk := k.isLt
  unfold iblk lAt
  rw [View.read_apply]
  show V m c main_arg4 _ = _
  rw [V_arg4]
  congr 1
  funext a
  apply Fin.ext
  match a with
  | ⟨0, _⟩ => show win0_4.index t 0 * 512 + 1 * r.val = (_ : ℕ) % 8192; rw [hi.1]; omega
  | ⟨1, _⟩ => show win0_4.index t 1 * 128 + 1 * k.val = (_ : ℕ) % 128; rw [hi.2]; omega

theorem blk5 (c : Dev nD) (t : Fin cfg0.N) (r : Fin 512) (k : Fin 128) :
    (iblk m c 5 t : Vec Ideal S512x128 .f32) (ix2 r k) = lAt (a5 m c) (512 * t.val + r.val) k.val := by
  have hi := ind5 t
  have ht := lt_N t
  have hr := r.isLt
  have hk := k.isLt
  unfold iblk lAt
  rw [View.read_apply]
  show V m c main_arg5 _ = _
  rw [V_arg5]
  congr 1
  funext a
  apply Fin.ext
  match a with
  | ⟨0, _⟩ => show win0_5.index t 0 * 512 + 1 * r.val = (_ : ℕ) % 8192; rw [hi.1]; omega
  | ⟨1, _⟩ => show win0_5.index t 1 * 128 + 1 * k.val = (_ : ℕ) % 128; rw [hi.2]; omega

/-- One head of the body's block, entry by entry. -/
theorem head_apply (l0 l1 l2 : Vec Ideal S512x1 .f32) (o0 o1 o2 : Vec Ideal S512x128 .f32) (r : Fin 512) (e : Fin 128) :
    k0_pay2 (F := Ideal) l0 l1 l2 o0 o1 o2 (ix2 r e)
      = merged (l0 (ix2 r 0)) (l1 (ix2 r 0)) (l2 (ix2 r 0)) (o0 (ix2 r e)) (o1 (ix2 r e)) (o2 (ix2 r e)) := by
  pointwise [k0_pay2, merged, den, top]

/-- The body's block is its four heads side by side. -/
theorem pay_heads (l0 l1 l2 : Fin 4 → Vec Ideal S512x1 .f32) (o0 o1 o2 : Fin 4 → Vec Ideal S512x128 .f32) :
    (k0_pay1 (F := Ideal) (k0_pay2 (l0 0) (l1 0) (l2 0) (o0 0) (o1 0) (o2 0))
        (k0_pay8 (k0_pay4 (l0 1) (l1 1) (l2 1)) (k0_pay5 (l0 1) (l1 1) (l2 1)) (k0_pay6 (l0 1) (l1 1) (l2 1)) (k0_pay7 (l0 1) (l1 1) (l2 1)) (o0 1) (o1 1) (o2 1))
        (k0_pay9 (l0 2) (l1 2) (l2 2) (o0 2) (o1 2) (o2 2)) (l0 3) (l1 3) (l2 3) (o0 3) (o1 3) (o2 3) : S512x512.Idx → EReal)
      = concatenate S512x512 1 [⟨S512x128, (k0_pay2 (F := Ideal) (l0 0) (l1 0) (l2 0) (o0 0) (o1 0) (o2 0) : S512x128.Idx → EReal)⟩, ⟨S512x128, (k0_pay2 (F := Ideal) (l0 1) (l1 1) (l2 1) (o0 1) (o1 1) (o2 1) : S512x128.Idx → EReal)⟩, ⟨S512x128, (k0_pay2 (F := Ideal) (l0 2) (l1 2) (l2 2) (o0 2) (o1 2) (o2 2) : S512x128.Idx → EReal)⟩, ⟨S512x128, (k0_pay2 (F := Ideal) (l0 3) (l1 3) (l2 3) (o0 3) (o1 3) (o2 3) : S512x128.Idx → EReal)⟩]
          concatenates_S512x128_S512x128_S512x128_S512x128_S512x512_d1 := rfl

/-- Four heads of width 128 side by side, at a column. -/
theorem side_apply (y : Fin 4 → S512x128.Idx → EReal) (r : Fin 512) (g : Fin 4) (e : Fin 128) (d : Fin 512) (hd : d.val = 128 * g.val + e.val) :
    concatenate S512x512 1 [⟨S512x128, y 0⟩, ⟨S512x128, y 1⟩, ⟨S512x128, y 2⟩, ⟨S512x128, y 3⟩]
      concatenates_S512x128_S512x128_S512x128_S512x128_S512x512_d1 (ix2 r d) = y g (ix2 r e) := by
  match g with
  | ⟨0, _⟩ =>
    refine concatenate_apply_piece (α := EReal) (t := S512x512) _ _ _ _ 0 (by simp) S512x128 _ rfl rfl 0 rfl (ix2 r e) ?_ ?_
    · intro b hb; match b with
      | ⟨0, _⟩ => rfl
      | ⟨1, _⟩ => exact absurd rfl hb
    · show 0 + e.val = d.val; rw [hd]; show 0 + e.val = 128 * 0 + e.val; omega
  | ⟨1, _⟩ =>
    refine concatenate_apply_piece (α := EReal) (t := S512x512) _ _ _ _ 1 (by simp) S512x128 _ rfl rfl 128 rfl (ix2 r e) ?_ ?_
    · intro b hb; match b with
      | ⟨0, _⟩ => rfl
      | ⟨1, _⟩ => exact absurd rfl hb
    · show 128 + e.val = d.val; rw [hd]; show 128 + e.val = 128 * 1 + e.val; omega
  | ⟨2, _⟩ =>
    refine concatenate_apply_piece (α := EReal) (t := S512x512) _ _ _ _ 2 (by simp) S512x128 _ rfl rfl 256 rfl (ix2 r e) ?_ ?_
    · intro b hb; match b with
      | ⟨0, _⟩ => rfl
      | ⟨1, _⟩ => exact absurd rfl hb
    · show 256 + e.val = d.val; rw [hd]; show 256 + e.val = 128 * 2 + e.val; omega
  | ⟨3, _⟩ =>
    refine concatenate_apply_piece (α := EReal) (t := S512x512) _ _ _ _ 3 (by simp) S512x128 _ rfl rfl 384 rfl (ix2 r e) ?_ ?_
    · intro b hb; match b with
      | ⟨0, _⟩ => rfl
      | ⟨1, _⟩ => exact absurd rfl hb
    · show 384 + e.val = d.val; rw [hd]; show 384 + e.val = 128 * 3 + e.val; omega

/-- One head's columns of a block. -/
def headOf (x : S512x512.Idx → EReal) (g : Fin 4) : S512x128.Idx → EReal :=
  fun i => x (ix2 (i 0) (⟨128 * g.val + (i 1).val, by have := g.isLt; have h : (i 1).val < 128 := (i 1).isLt; omega⟩ : Fin 512))

theorem z2 : (![0, 0] : Fin 2 → ℕ) = fun _ => 0 := by funext a; match a with | ⟨0, _⟩ => rfl | ⟨1, _⟩ => rfl
/-- One head's column of a block of log sums. -/
def colOf (x : S512x128.Idx → EReal) (g : Fin 4) : S512x1.Idx → EReal :=
  fun i => x (ix2 (i 0) (⟨g.val, by have := g.isLt; omega⟩ : Fin 128))

theorem ld_col (x : Vec Ideal S512x128 .f32) (off : ℕ) (inb) (g : Fin 4) (h : off = g.val) :
    (View.ld x (Rect.unit (s := S512x128) ![0, off] S512x1.size inb) : S512x1.Idx → EReal) = colOf x g := by
  subst h
  funext i
  refine congrArg x (funext fun a => Fin.ext ?_)
  have h1 : (i 1).val < 1 := (i 1).isLt
  match a with
  | ⟨0, _⟩ => show 0 + 1 * (i 0).val = (i 0).val; omega
  | ⟨1, _⟩ => show g.val + 1 * (i 1).val = g.val; omega

theorem ld_head (x : Vec Ideal S512x512 .f32) (off : ℕ) (inb) (g : Fin 4) (h : off = 128 * g.val) :
    (View.ld x (Rect.unit (s := S512x512) ![0, off] S512x128.size inb) : S512x128.Idx → EReal) = headOf x g := by
  subst h
  funext i
  refine congrArg x (funext fun a => Fin.ext ?_)
  match a with
  | ⟨0, _⟩ => show 0 + 1 * (i 0).val = (i 0).val; omega
  | ⟨1, _⟩ => show 128 * g.val + 1 * (i 1).val = 128 * g.val + (i 1).val; omega

/-- The body's block, entry by entry. -/
theorem out_apply (x0 x1 x2 : Vec Ideal S512x512 .f32) (x3 x4 x5 : Vec Ideal S512x128 .f32)
    (r : Fin 512) (g : Fin 4) (e : Fin 128) (d : Fin 512) (hd : d.val = 128 * g.val + e.val) :
    out0_6 (F := Ideal) x0 x1 x2 x3 x4 x5 (ix2 r d)
      = merged (colOf x3 g (ix2 r 0)) (colOf x4 g (ix2 r 0)) (colOf x5 g (ix2 r 0))
          (headOf x0 g (ix2 r e)) (headOf x1 g (ix2 r e)) (headOf x2 g (ix2 r e)) := by
  unfold out0_6
  rw [View.canon_unit_zero z2]
  rw [ld_col x3 0 _ 0 rfl, ld_col x4 0 _ 0 rfl, ld_col x5 0 _ 0 rfl, ld_col x3 1 _ 1 rfl, ld_col x4 1 _ 1 rfl, ld_col x5 1 _ 1 rfl, ld_col x3 2 _ 2 rfl, ld_col x4 2 _ 2 rfl, ld_col x5 2 _ 2 rfl, ld_col x3 3 _ 3 rfl, ld_col x4 3 _ 3 rfl, ld_col x5 3 _ 3 rfl, ld_head x0 0 _ 0 rfl, ld_head x1 0 _ 0 rfl, ld_head x2 0 _ 0 rfl, ld_head x0 128 _ 1 rfl, ld_head x1 128 _ 1 rfl, ld_head x2 128 _ 1 rfl, ld_head x0 256 _ 2 rfl, ld_head x1 256 _ 2 rfl, ld_head x2 256 _ 2 rfl, ld_head x0 384 _ 3 rfl, ld_head x1 384 _ 3 rfl, ld_head x2 384 _ 3 rfl]
  refine (congrFun (pay_heads (colOf x3) (colOf x4) (colOf x5) (headOf x0) (headOf x1) (headOf x2)) (ix2 r d)).trans ?_
  refine (side_apply (fun g => k0_pay2 (F := Ideal) (colOf x3 g) (colOf x4 g) (colOf x5 g) (headOf x0 g) (headOf x1 g) (headOf x2 g)) r g e d hd).trans ?_
  exact head_apply _ _ _ _ _ _ r e

/-- The merged entry of token `r` and column `j`. -/
def entry (x0 x1 x2 : S8192x512.Idx → EReal) (x3 x4 x5 : S8192x128.Idx → EReal) (r j : ℕ) : EReal :=
  merged (lAt x3 r (j / 128)) (lAt x4 r (j / 128)) (lAt x5 r (j / 128)) (oAt x0 r j) (oAt x1 r j) (oAt x2 r j)

/-- The array the kernel ends with. -/
def result (c : Dev nD) : S8192x512.Idx → EReal :=
  fun i => entry (a0 m c) (a1 m c) (a2 m c) (a3 m c) (a4 m c) (a5 m c) (i 0).val (i 1).val

theorem flushed_eq (c : Dev nD) (t : Fin cfg0.N) (hf : (cfg0.win 6).flush t = true) :
    (dats m 0 c).flushed 6 t = ((cfg0.win 6).blk t).view.read (Elt Ideal) (result m c) := by
  have ht := lt_N t
  have hi := ind6 t
  rw [Cert.BandMergeIdeal.Value.flushed6]
  funext j
  obtain ⟨r, d, rfl⟩ : ∃ (r : Fin 512) (d : Fin 512), j = ix2 r d := ⟨j 0, j 1, by funext a; match a with | ⟨0, _⟩ => rfl | ⟨1, _⟩ => rfl⟩
  rw [View.read_apply]
  have hr := r.isLt
  have hd := d.isLt
  have e0 : (((cfg0.win 6).blk t).view.emb (ix2 r d) 0).val = win0_6.index t 0 * 512 + 1 * r.val := rfl
  have e1 : (((cfg0.win 6).blk t).view.emb (ix2 r d) 1).val = win0_6.index t 1 * 512 + 1 * d.val := rfl
  rw [hi.1, show t.val * 512 + 1 * r.val = 512 * t.val + r.val by omega] at e0
  rw [hi.2, show 0 * 512 + 1 * d.val = d.val by omega] at e1
  show out0_6 (iblk m c 0 t) (iblk m c 1 t) (iblk m c 2 t) (iblk m c 3 t) (iblk m c 4 t) (iblk m c 5 t) (ix2 r d) = _
  rw [out_apply _ _ _ _ _ _ r (⟨d.val / 128, by omega⟩ : Fin 4) (⟨d.val % 128, by omega⟩ : Fin 128) d (by show d.val = 128 * (d.val / 128) + d.val % 128; omega)]
  unfold result entry
  rw [e0, e1]
  have hs : ∀ x : S512x512.Idx → EReal, headOf x (⟨d.val / 128, by omega⟩ : Fin 4) (ix2 r (⟨d.val % 128, by omega⟩ : Fin 128)) = x (ix2 r d) := fun x => by
    refine congrArg x (funext fun a => Fin.ext ?_)
    match a with
    | ⟨0, _⟩ => rfl
    | ⟨1, _⟩ => show 128 * (d.val / 128) + d.val % 128 = d.val; omega
  simp only [hs]
  unfold colOf
  rw [blk0, blk1, blk2]
  refine (congr (congr (congrArg (fun a b c => merged a b c _ _ _) ?_) ?_) ?_ : _)
  · exact blk3 m c t r _
  · exact blk4 m c t r _
  · exact blk5 m c t r _

theorem cover (i : S8192x512.Idx) : ∃ t : Fin cfg0.N, (cfg0.win 6).flush t = true ∧ i ∈ ((cfg0.win 6).blk t).view.set := by
  have h0 : (i 0).val < 8192 := (i 0).isLt
  have h1 : (i 1).val < 512 := (i 1).isLt
  have hN : cfg0.N = 16 := N_0
  obtain ⟨n, hn, hv⟩ : ∃ n : ℕ, n < cfg0.N ∧ n = (i 0).val / 512 := ⟨_, by omega, rfl⟩
  have hi := ind6 ⟨n, hn⟩
  dsimp only at hi
  refine ⟨⟨n, hn⟩, flush6 _, ?_⟩
  show i ∈ ((View.whole main_v0).slice (win0_6.rect ⟨n, hn⟩)).set
  rw [View.set_slice_whole, Rect.mem_set_unit]
  intro a
  match a with
  | ⟨0, _⟩ => show win0_6.index _ 0 * 512 ≤ (i 0).val ∧ (i 0).val < win0_6.index _ 0 * 512 + 512; rw [hi.1]; omega
  | ⟨1, _⟩ => show win0_6.index _ 1 * 512 ≤ (i 1).val ∧ (i 1).val < win0_6.index _ 1 * 512 + 512; rw [hi.2]; omega

theorem arr_eq (c : Dev nD) : (dats m 0 c).arrAt 6 cfg0.N = result m c :=
  (dats m 0 c).arrAt_eq_of_cover 6 (result m c) (flushed_eq m c) cover

end Cert.BandMergeIdeal.Blocks

namespace Cert.BandMergeClaim

open Cert.BandMergeRefIdeal Cert.BandMergeRefIdeal.Gen Cert.BandMergeRefIdeal.Facts Cert.BandMergeRefIdeal.Read Cert.BandMergeIdeal.Blocks
open Idealize.ShloMosaic.Pointwise

variable (x0 x1 x2 : S8192x512.Idx → EReal) (x3 x4 x5 : S8192x128.Idx → EReal)

/-- One of three. -/
def pick (a b c : EReal) (k : Fin 3) : EReal := if k.val = 0 then a else if k.val = 1 then b else c

theorem sums_apply (k : Fin 3) (r : Fin 8192) (g : Fin 4) :
    val_main_v6 (F := Ideal) x3 x4 x5 (ix3 k r g) = pick (lAt x3 r.val g.val) (lAt x4 r.val g.val) (lAt x5 r.val g.val) k := by
  have hr := r.isLt
  have hg := g.isLt
  have hx : ∀ (x : S8192x128.Idx → EReal) (j : S8192x128.Idx), (j 0).val = r.val → (j 1).val = g.val → x j = lAt x r.val g.val := fun x j h0 h1 => by
    refine congrArg x (funext fun a => Fin.ext ?_)
    match a with
    | ⟨0, _⟩ => exact h0.trans (Nat.mod_eq_of_lt hr).symm
    | ⟨1, _⟩ => show (j 1).val = g.val % 128; omega
  unfold val_main_v6
  match k with
  | ⟨0, _⟩ =>
    refine Eq.trans (concatenate_apply_piece (α := EReal) (t := S3x8192x4) _ _ _ _ 0 (by simp) S1x8192x4 _ rfl rfl 0 rfl (ix3 (0 : Fin 1) r g) ?_ ?_) ?_
    · intro b hb; match b with
      | ⟨0, _⟩ => exact absurd rfl hb
      | ⟨1, _⟩ => rfl
      | ⟨2, _⟩ => rfl
    · rfl
    · rw [val_main_v3_apply, val_main_v0_apply]; exact hx x3 _ rfl rfl
  | ⟨1, _⟩ =>
    refine Eq.trans (concatenate_apply_piece (α := EReal) (t := S3x8192x4) _ _ _ _ 1 (by simp) S1x8192x4 _ rfl rfl 1 rfl (ix3 (0 : Fin 1) r g) ?_ ?_) ?_
    · intro b hb; match b with
      | ⟨0, _⟩ => exact absurd rfl hb
      | ⟨1, _⟩ => rfl
      | ⟨2, _⟩ => rfl
    · rfl
    · rw [val_main_v4_apply, val_main_v1_apply]; exact hx x4 _ rfl rfl
  | ⟨2, _⟩ =>
    refine Eq.trans (concatenate_apply_piece (α := EReal) (t := S3x8192x4) _ _ _ _ 2 (by simp) S1x8192x4 _ rfl rfl 2 rfl (ix3 (0 : Fin 1) r g) ?_ ?_) ?_
    · intro b hb; match b with
      | ⟨0, _⟩ => exact absurd rfl hb
      | ⟨1, _⟩ => rfl
      | ⟨2, _⟩ => rfl
    · rfl
    · rw [val_main_v5_apply, val_main_v2_apply]; exact hx x5 _ rfl rfl

theorem outs_apply (k : Fin 3) (r : Fin 8192) (d : Fin 512) :
    val_main_v21 (F := Ideal) x0 x1 x2 (ix3 k r d) = pick (oAt x0 r.val d.val) (oAt x1 r.val d.val) (oAt x2 r.val d.val) k := by
  have hr := r.isLt
  have hd := d.isLt
  have hx : ∀ (x : S8192x512.Idx → EReal) (j : S8192x512.Idx), (j 0).val = r.val → (j 1).val = d.val → x j = oAt x r.val d.val := fun x j h0 h1 => by
    refine congrArg x (funext fun a => Fin.ext ?_)
    match a with
    | ⟨0, _⟩ => exact h0.trans (Nat.mod_eq_of_lt hr).symm
    | ⟨1, _⟩ => exact h1.trans (Nat.mod_eq_of_lt hd).symm
  unfold val_main_v21
  match k with
  | ⟨0, _⟩ =>
    refine Eq.trans (concatenate_apply_piece (α := EReal) (t := S3x8192x512) _ _ _ _ 0 (by simp) S1x8192x512 _ rfl rfl 0 rfl (ix3 (0 : Fin 1) r d) ?_ ?_) ?_
    · intro b hb; match b with
      | ⟨0, _⟩ => exact absurd rfl hb
      | ⟨1, _⟩ => rfl
      | ⟨2, _⟩ => rfl
    · rfl
    · rw [val_main_v18_apply]; exact hx x0 _ rfl rfl
  | ⟨1, _⟩ =>
    refine Eq.trans (concatenate_apply_piece (α := EReal) (t := S3x8192x512) _ _ _ _ 1 (by simp) S1x8192x512 _ rfl rfl 1 rfl (ix3 (0 : Fin 1) r d) ?_ ?_) ?_
    · intro b hb; match b with
      | ⟨0, _⟩ => exact absurd rfl hb
      | ⟨1, _⟩ => rfl
      | ⟨2, _⟩ => rfl
    · rfl
    · rw [val_main_v19_apply]; exact hx x1 _ rfl rfl
  | ⟨2, _⟩ =>
    refine Eq.trans (concatenate_apply_piece (α := EReal) (t := S3x8192x512) _ _ _ _ 2 (by simp) S1x8192x512 _ rfl rfl 2 rfl (ix3 (0 : Fin 1) r d) ?_ ?_) ?_
    · intro b hb; match b with
      | ⟨0, _⟩ => exact absurd rfl hb
      | ⟨1, _⟩ => rfl
      | ⟨2, _⟩ => rfl
    · rfl
    · rw [val_main_v20_apply]; exact hx x2 _ rfl rfl

theorem sup_three (f : Fin 3 → EReal) : Finset.univ.sup f = top (f 0) (f 1) (f 2) := by
  rw [show (Finset.univ : Finset (Fin 3)) = {0, 1, 2} from rfl, Finset.sup_insert, Finset.sup_insert, Finset.sup_singleton]
  exact (max_assoc _ _ _).symm

theorem bot_bits : Ideal.ofBits .f32 0xFF800000#32 = ⊥ := by simp [Ideal.ofBits, Ideal.ieee]

/-- The greatest log sum of token `r` and head `g`. -/
theorem max_apply (r : Fin 8192) (g : Fin 4) :
    val_main_v9 (F := Ideal) x3 x4 x5 (ix2 r g) = top (lAt x3 r.val g.val) (lAt x4 r.val g.val) (lAt x5 r.val g.val) := by
  rw [val_main_v9_apply, val_main_v8_apply]
  have e : val_main_v7 (F := Ideal) x3 x4 x5 (ix2 r g) = top (lAt x3 r.val g.val) (lAt x4 r.val g.val) (lAt x5 r.val g.val) := by
    unfold val_main_v7
    rw [Host.reduce_eq_fold_single FloatOps.maximumf _ _ reducesTo_S3x8192x4_S8192x4_d0 (show S3x8192x4.Reduces [0] S8192x4 by decide) h_S_]
    have e0 : val_main_cst (F := Ideal) (Shape.Idx.first h_S_) = ⊥ := bot_bits
    rw [e0]
    refine Eq.trans ?_ (sup_three (pick (lAt x3 r.val g.val) (lAt x4 r.val g.val) (lAt x5 r.val g.val)))
    have e1 : ∀ k : Fin 3, pick (lAt x3 r.val g.val) (lAt x4 r.val g.val) (lAt x5 r.val g.val) k
        = val_main_v6 (F := Ideal) x3 x4 x5 (Shape.Reduces.lift (s := S3x8192x4) (t := S8192x4) (a := 0) (by decide) (ix2 r g) k) := fun k => by
      rw [← sums_apply]
      congr 1
      funext a
      apply Fin.ext
      match a with | ⟨0, _⟩ => rfl | ⟨1, _⟩ => rfl | ⟨2, _⟩ => rfl
    rw [show pick (lAt x3 r.val g.val) (lAt x4 r.val g.val) (lAt x5 r.val g.val) = _ from funext e1]
    rfl
  rw [e]
  show max (Ideal.ofBits .f32 0xFF800000#32) _ = _
  rw [bot_bits, max_eq_right bot_le]

theorem exp_apply (k : Fin 3) (r : Fin 8192) (g : Fin 4) :
    val_main_v13 (F := Ideal) x3 x4 x5 (ix3 k r g)
      = Ideal.exp (pick (lAt x3 r.val g.val) (lAt x4 r.val g.val) (lAt x5 r.val g.val) k
          - top (lAt x3 r.val g.val) (lAt x4 r.val g.val) (lAt x5 r.val g.val)) := by
  rw [val_main_v13_apply, val_main_v12_apply, val_main_v11_apply, val_main_v10_apply, sums_apply,
    show idx_main_v10 (idx_main_v11 (ix3 k r g)) = ix2 r g from by funext a; match a with | ⟨0, _⟩ => rfl | ⟨1, _⟩ => rfl, max_apply]
  rfl

theorem weight_apply (k : Fin 3) (r : Fin 8192) (g : Fin 4) :
    val_main_v17 (F := Ideal) x3 x4 x5 (ix3 k r g)
      = Ideal.div (Ideal.exp (pick (lAt x3 r.val g.val) (lAt x4 r.val g.val) (lAt x5 r.val g.val) k
          - top (lAt x3 r.val g.val) (lAt x4 r.val g.val) (lAt x5 r.val g.val)))
          (den (lAt x3 r.val g.val) (lAt x4 r.val g.val) (lAt x5 r.val g.val)) := by
  have hd : val_main_v14 (F := Ideal) x3 x4 x5 (ix2 r g) = den (lAt x3 r.val g.val) (lAt x4 r.val g.val) (lAt x5 r.val g.val) := by
    rw [val_main_v14_apply, val_main_cst_1_apply]
    show Ideal.ofBits .f32 0x00000000#32 + _ = _
    rw [show Ideal.ofBits .f32 0x00000000#32 = 0 by simp [Ideal.ofBits, Ideal.ieee], zero_add]
    have hi : ∀ k : Fin 3, idx_main_v14 (ix2 r g) k = ix3 k r g := fun k => by funext a; match a with | ⟨0, _⟩ => rfl | ⟨1, _⟩ => rfl | ⟨2, _⟩ => rfl
    simp only [hi, exp_apply]
    rw [Fin.sum_univ_three]
    rfl
  rw [val_main_v17_apply, val_main_v16_apply, val_main_v15_apply, exp_apply,
    show idx_main_v15 (idx_main_v16 (ix3 k r g)) = ix2 r g from by funext a; match a with | ⟨0, _⟩ => rfl | ⟨1, _⟩ => rfl, hd]
  rfl

theorem ref_apply (h3 : ∀ i, ∃ r : ℝ, x3 i = r) (h4 : ∀ i, ∃ r : ℝ, x4 i = r) (h5 : ∀ i, ∃ r : ℝ, x5 i = r) (i : S8192x512.Idx) :
    val_main_v25 (F := Ideal) x0 x1 x2 x3 x4 x5 i = entry x0 x1 x2 x3 x4 x5 (i 0).val (i 1).val := by
  obtain ⟨r, d, rfl⟩ : ∃ (r : Fin 8192) (d : Fin 512), i = ix2 r d := ⟨i 0, i 1, by funext a; match a with | ⟨0, _⟩ => rfl | ⟨1, _⟩ => rfl⟩
  have hr := r.isLt
  have hd := d.isLt
  show _ = entry x0 x1 x2 x3 x4 x5 r.val d.val
  rw [val_main_v25_apply]
  show val_main_v24 (F := Ideal) x0 x1 x2 x3 x4 x5 (ix2 r d) = _
  rw [val_main_v24_apply,
    show idx_main_v24 (ix2 r d) = ix3 r (⟨d.val / 128, by omega⟩ : Fin 4) (⟨d.val % 128, by omega⟩ : Fin 128) from by
      funext a
      apply Fin.ext
      match a with
      | ⟨0, _⟩ => show (r.val * 512 + d.val) / 512 = r.val; omega
      | ⟨1, _⟩ => show (r.val * 512 + d.val) / 128 % 4 = d.val / 128; omega
      | ⟨2, _⟩ => show (r.val * 512 + d.val) % 128 = d.val % 128; omega,
    val_main_v23_apply]
  have hl : ∀ k : Fin 3, lidx_main_v23 (ix3 r (⟨d.val / 128, by omega⟩ : Fin 4) (⟨d.val % 128, by omega⟩ : Fin 128)) k = ix3 k r (⟨d.val / 128, by omega⟩ : Fin 4) := fun k => by
    funext a; match a with | ⟨0, _⟩ => rfl | ⟨1, _⟩ => rfl | ⟨2, _⟩ => rfl
  have hq : ∀ k : Fin 3, val_main_v22 (F := Ideal) x0 x1 x2 (ridx_main_v23 (ix3 r (⟨d.val / 128, by omega⟩ : Fin 4) (⟨d.val % 128, by omega⟩ : Fin 128)) k)
      = pick (oAt x0 r.val d.val) (oAt x1 r.val d.val) (oAt x2 r.val d.val) k := fun k => by
    have hk := k.isLt
    rw [← outs_apply, val_main_v22_apply]
    congr 1
    funext a
    apply Fin.ext
    match a with
    | ⟨0, _⟩ => show (((k.val * 8192 + r.val) * 4 + d.val / 128) * 128 + d.val % 128) / 4194304 = k.val; omega
    | ⟨1, _⟩ => show (((k.val * 8192 + r.val) * 4 + d.val / 128) * 128 + d.val % 128) / 512 % 8192 = r.val; omega
    | ⟨2, _⟩ => show (((k.val * 8192 + r.val) * 4 + d.val / 128) * 128 + d.val % 128) % 512 = d.val; omega
  simp only [hl, hq, weight_apply]
  rw [Fin.sum_univ_three]
  unfold entry
  obtain ⟨a, ha⟩ : ∃ a : ℝ, lAt x3 r.val (d.val / 128) = a := h3 _
  obtain ⟨b, hb⟩ : ∃ b : ℝ, lAt x4 r.val (d.val / 128) = b := h4 _
  obtain ⟨c, hc⟩ : ∃ c : ℝ, lAt x5 r.val (d.val / 128) = c := h5 _
  rw [ha, hb, hc, merged_eq]
  rfl

/-- An entry whose absolute value is below infinity is a number. -/
theorem real_of_lt {x : EReal} (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x using EReal.rec with
  | top => simp [Ideal.cmp] at h
  | bot => simp [Ideal.cmp] at h
  | coe r => exact ⟨r, rfl⟩

theorem real_of_pre (h : Cert.Pre_sums_finite.fn (F := Ideal) x0 x1 x2 x3 x4 x5 = fun _ => 1#1) :
    (∀ i, ∃ r : ℝ, x3 i = r) ∧ (∀ i, ∃ r : ℝ, x4 i = r) ∧ ∀ i, ∃ r : ℝ, x5 i = r := by
  have h0 := congrFun h (fun a => a.elim0)
  unfold Cert.Pre_sums_finite.fn at h0
  have h1 := IntOp.andi_eq_one.mp h0
  have h2 := IntOp.andi_eq_one.mp h1.1
  haveI : Subsingleton Cert.Pre_sums_finite.S_.Idx := ⟨fun a b => funext fun k => k.elim0⟩
  exact ⟨fun i => real_of_lt (Host.reduce_andi_all _ _ _ _ _ h2.1 i), fun i => real_of_lt (Host.reduce_andi_all _ _ _ _ _ h2.2 i),
    fun i => real_of_lt (Host.reduce_andi_all _ _ _ _ _ h1.2 i)⟩

end Cert.BandMergeClaim

namespace Cert.BandMergeClaim

open Cert.BandMergeIdeal.Blocks

theorem frame_p : Cert.quiescent_BandMerge := fun m ρ _ => Cert.BandMerge.Gen.frame m ρ
theorem frame_pi : Cert.quiescent_BandMergeIdeal := fun m ρ _ => Cert.BandMergeIdeal.Gen.frame m ρ
theorem frame_pi_pre : Cert.quiescent_BandMergeIdeal_pre_sums_finite := fun m ρ _ => Cert.BandMergeIdeal.Gen.frame m ρ
theorem frame_ri : Cert.quiescent_BandMergeRefIdeal := fun m ρ _ =>
  (θ_run Cert.BandMergeRefIdeal.defs _ _).mono (fun r h => ⟨fun c => (h c).2, sem_eq_zero_of_no_sems (by decide) r.2⟩)
    (Cert.BandMergeRefIdeal.Value.run m ρ)
theorem frame_ri_pre : Cert.quiescent_BandMergeRefIdeal_pre_sums_finite := fun m ρ _ => frame_ri m ρ trivial

/-- The kernel and the reference end with the same array where the log sums are finite. -/
theorem algebraic : Cert.algebraic_BandMergeIdeal_BandMergeRefIdeal_pre_sums_finite := by
  intro m g m' g' hpre hargs
  have hr := fun c => real_of_pre _ _ _ _ _ _ (hpre c)
  refine ⟨fun c => result m c, ?_, ?_⟩
  · exact (θ_run Cert.BandMergeIdeal.defs _ _).mono (fun r h c => ⟨(h c).1.trans (arr_eq m c), (h c).2⟩) (Cert.BandMergeIdeal.Value.run_blocks m g)
  · refine (θ_run Cert.BandMergeRefIdeal.defs _ _).mono (fun r h c => ⟨(h c).1.trans ?_, (h c).2⟩) (Cert.BandMergeRefIdeal.Value.run m' g')
    rw [Cert.BandMergeRefIdeal.Read.val_main_v25_eq]
    funext i
    have ha := hargs c
    rw [ha.1, ha.2.1, ha.2.2.1, ha.2.2.2.1, ha.2.2.2.2.1, ha.2.2.2.2.2]
    exact ref_apply _ _ _ _ _ _ (hr c).1 (hr c).2.1 (hr c).2.2 i

end Cert.BandMergeClaim

end

end
-- ==== Proof.RopeNormClaim.lean ====
/-
  The norms and rotations of the dilated attention's queries and keys: each head of each token divided by the root of its
  mean square, times its gains, and rotated by the tables of cosines and signed sines; the queries' gains carry the
  attention's scale. Blocks of 512 tokens by four heads.
-/
module

public import proofs.«01_k».proof.Defs
public import proofs.«01_k».proof.Proof.Gen.RopeNorm.Frame
public import proofs.«01_k».proof.Proof.Gen.RopeNormIdeal.Value
public import proofs.«01_k».proof.Proof.Gen.RopeNormRefIdeal.Read
public import proofs.«01_k».proof.Proof.Gen.RopeNormRefIdeal.Run
public import Idealize.ShloMosaic.Lib.Pointwise

@[expose] public section

set_option maxRecDepth 16384

noncomputable section

open Idealize.ShloMosaic Idealize.ShloMosaic.TcCoe Idealize.SL.Sem

namespace Cert.RopeNormIdeal.Blocks

open Cert.RopeNormIdeal Cert.RopeNormIdeal.Gen Idealize.ShloMosaic.Pointwise

/-- The projection's array at natural-number coordinates. -/
def zAt (x : S8192x29184.Idx → EReal) (r c : ℕ) : EReal := x (ix2 (Fin.ofNat 8192 r) (Fin.ofNat 29184 c))
/-- Gains at natural-number coordinates. -/
def wAt (x : S128.Idx → EReal) (c : ℕ) : EReal := x (ix1 (Fin.ofNat 128 c))
/-- The gains of the queries, scaled, and of the keys. -/
def gAt (q k : S128.Idx → EReal) (g c : ℕ) : EReal := if g = 0 then wAt q c * Ideal.ofBits .f32 0x3DB504F3#32 else wAt k c
/-- A table's entries at natural-number coordinates. -/
def tAt (x : S8192x128.Idx → EReal) (r c : ℕ) : EReal := x (ix2 (Fin.ofNat 8192 r) (Fin.ofNat 128 c))

variable (m : (ℓ : Loc nD τ sig) → Buf (Elt Ideal) ℓ)

abbrev aZ (c : Dev nD) : S8192x29184.Idx → EReal := m ((c : Thread nD τ).loc main_arg0)
abbrev aQ (c : Dev nD) : S128.Idx → EReal := m ((c : Thread nD τ).loc main_arg1)
abbrev aK (c : Dev nD) : S128.Idx → EReal := m ((c : Thread nD τ).loc main_arg2)
abbrev aC (c : Dev nD) : S8192x128.Idx → EReal := m ((c : Thread nD τ).loc main_arg3)
abbrev aS (c : Dev nD) : S8192x128.Idx → EReal := m ((c : Thread nD τ).loc main_arg4)

theorem ind0 : ∀ t : Fin grid0.N, win0_0.index t 0 = t.val / 6 ∧ win0_0.index t 1 = 10 + t.val % 6 := by decide +kernel
theorem ind1 : ∀ t : Fin grid0.N, win0_1.index t 0 = t.val % 6 / 3 ∧ win0_1.index t 1 = 0 ∧ win0_1.index t 2 = 0 := by decide +kernel
theorem ind2 : ∀ t : Fin grid0.N, win0_2.index t 0 = t.val / 6 ∧ win0_2.index t 1 = 0 := by decide +kernel
theorem ind3 : ∀ t : Fin grid0.N, win0_3.index t 0 = t.val / 6 ∧ win0_3.index t 1 = 0 := by decide +kernel
theorem ind4 : ∀ t : Fin grid0.N, win0_4.index t 0 = t.val / 6 ∧ win0_4.index t 1 = t.val % 6 := by decide +kernel
theorem flush4 : ∀ t : Fin cfg0.N, (cfg0.win 4).flush t = true := (by decide +kernel : ∀ t : Fin grid0.N, win0_4.flush t = true)

theorem lt_N (t : Fin cfg0.N) : t.val < 96 := lt_of_lt_of_eq t.isLt (show cfg0.N = 96 from N_0)

theorem V_arg0 (c : Dev nD) : (V m c main_arg0 : S8192x29184.Idx → EReal) = aZ m c := by
  unfold V
  simp [hostOps0]
theorem V_arg3 (c : Dev nD) : (V m c main_arg3 : S8192x128.Idx → EReal) = aC m c := by
  unfold V
  simp [hostOps0]

theorem V_arg4 (c : Dev nD) : (V m c main_arg4 : S8192x128.Idx → EReal) = aS m c := by
  unfold V
  simp [hostOps0]

/-- The two rows of gains. -/
def gains (q k : S128.Idx → EReal) : S2x128.Idx → EReal :=
  concatenate S2x128 0 [⟨S1x128, fun i => q (ix1 (i 1)) * Ideal.ofBits .f32 0x3DB504F3#32⟩, ⟨S1x128, fun i => k (ix1 (i 1))⟩]
    concatenates_S1x128_S1x128_S2x128_d0

theorem row_apply (x : S128.Idx → EReal) : broadcastInDim S1x128 ![1] bcast_S128_S1x128_1 x = fun i => x (ix1 (i 1)) := by
  funext i
  refine broadcastInDim_apply _ bcast_S128_S1x128_1 x i _ fun a => ?_
  match a with
  | ⟨0, _⟩ => show (i 1).val = if (128 : ℕ) = 1 then 0 else (i 1).val; rw [if_neg (by decide)]

theorem V_v5 (c : Dev nD) : (V m c main_v5 : S2x1x128.Idx → EReal) = shapeCast S2x1x128 (gains (aQ m c) (aK m c)) shapeCasts_S2x128_S2x1x128 := by
  unfold V gains
  rw [show (fun i : S1x128.Idx => aK m c (ix1 (i 1))) = broadcastInDim S1x128 ![1] bcast_S128_S1x128_1 (aK m c) from (row_apply _).symm,
    show (fun i : S1x128.Idx => aQ m c (ix1 (i 1)) * Ideal.ofBits .f32 0x3DB504F3#32)
      = broadcastInDim S1x128 ![1] bcast_S128_S1x128_1 (fun i => aQ m c i * Ideal.ofBits .f32 0x3DB504F3#32) from
        (row_apply fun i => aQ m c i * Ideal.ofBits .f32 0x3DB504F3#32).symm]
  simp [hostOps0]
  rfl

theorem gains_apply (q k : S128.Idx → EReal) (g : Fin 2) (e : Fin 128) : gains q k (ix2 g e) = gAt q k g.val e.val := by
  have he := e.isLt
  unfold gains gAt wAt
  have hx : (Fin.ofNat 128 e.val : Fin 128) = e := Fin.ext (by show e.val % 128 = e.val; omega)
  rw [hx]
  match g with
  | ⟨0, _⟩ =>
    refine Eq.trans (concatenate_apply_piece (α := EReal) (t := S2x128) _ _ _ _ 0 (by simp) S1x128 _ rfl rfl 0 rfl (ix2 (0 : Fin 1) e) ?_ ?_) ?_
    · intro b hb; match b with
      | ⟨0, _⟩ => exact absurd rfl hb
      | ⟨1, _⟩ => rfl
    · rfl
    · rfl
  | ⟨1, _⟩ =>
    refine Eq.trans (concatenate_apply_piece (α := EReal) (t := S2x128) _ _ _ _ 1 (by simp) S1x128 _ rfl rfl 1 rfl (ix2 (0 : Fin 1) e) ?_ ?_) ?_
    · intro b hb; match b with
      | ⟨0, _⟩ => exact absurd rfl hb
      | ⟨1, _⟩ => rfl
    · rfl
    · rfl

theorem blk0 (c : Dev nD) (t : Fin cfg0.N) (r k : Fin 512) :
    (iblk m c 0 t : Vec Ideal S512x512 .bf16) (ix2 r k) = zAt (aZ m c) (512 * (t.val / 6) + r.val) (5120 + (512 * (t.val % 6) + k.val)) := by
  have hi := ind0 t
  have ht := lt_N t
  have hr := r.isLt
  have hk := k.isLt
  unfold iblk zAt
  rw [View.read_apply]
  show V m c main_arg0 _ = _
  rw [V_arg0]
  congr 1
  funext a
  apply Fin.ext
  match a with
  | ⟨0, _⟩ => show win0_0.index t 0 * 512 + 1 * r.val = (_ : ℕ) % 8192; rw [hi.1]; omega
  | ⟨1, _⟩ => show win0_0.index t 1 * 512 + 1 * k.val = (_ : ℕ) % 29184; rw [hi.2]; omega

theorem blk1 (c : Dev nD) (t : Fin cfg0.N) (e : Fin 128) :
    (iblk m c 1 t : Vec Ideal S1x1x128 .f32) (ix3 0 0 e) = gAt (aQ m c) (aK m c) (t.val % 6 / 3) e.val := by
  have hi := ind1 t
  have he := e.isLt
  refine Eq.trans ?_ (gains_apply (aQ m c) (aK m c) ⟨t.val % 6 / 3, by omega⟩ e)
  unfold iblk
  rw [View.read_apply]
  show V m c main_v5 _ = _
  rw [V_v5]
  refine shapeCast_apply _ _ _ _ ?_
  rw [Shape.rowMajor_val_three, Shape.rowMajor_val_two]
  show t.val % 6 / 3 * 128 + e.val = ((win0_1.index t 0 * 1 + 1 * 0) * 1 + (win0_1.index t 1 * 1 + 1 * 0)) * 128 + (win0_1.index t 2 * 128 + 1 * e.val)
  rw [hi.1, hi.2.1, hi.2.2]
  omega

theorem blk2 (c : Dev nD) (t : Fin cfg0.N) (r : Fin 512) (e : Fin 128) :
    (iblk m c 2 t : Vec Ideal S512x128 .f32) (ix2 r e) = tAt (aC m c) (512 * (t.val / 6) + r.val) e.val := by
  have hi := ind2 t
  have ht := lt_N t
  have hr := r.isLt
  have he := e.isLt
  unfold iblk tAt
  rw [View.read_apply]
  show V m c main_arg3 _ = _
  rw [V_arg3]
  congr 1
  funext a
  apply Fin.ext
  match a with
  | ⟨0, _⟩ => show win0_2.index t 0 * 512 + 1 * r.val = (_ : ℕ) % 8192; rw [hi.1]; omega
  | ⟨1, _⟩ => show win0_2.index t 1 * 128 + 1 * e.val = (_ : ℕ) % 128; rw [hi.2]; omega

theorem blk3 (c : Dev nD) (t : Fin cfg0.N) (r : Fin 512) (e : Fin 128) :
    (iblk m c 3 t : Vec Ideal S512x128 .f32) (ix2 r e) = tAt (aS m c) (512 * (t.val / 6) + r.val) e.val := by
  have hi := ind3 t
  have ht := lt_N t
  have hr := r.isLt
  have he := e.isLt
  unfold iblk tAt
  rw [View.read_apply]
  show V m c main_arg4 _ = _
  rw [V_arg4]
  congr 1
  funext a
  apply Fin.ext
  match a with
  | ⟨0, _⟩ => show win0_3.index t 0 * 512 + 1 * r.val = (_ : ℕ) % 8192; rw [hi.1]; omega
  | ⟨1, _⟩ => show win0_3.index t 1 * 128 + 1 * e.val = (_ : ℕ) % 128; rw [hi.2]; omega

/-- The reciprocal root of a mean square plus the small constant, of the sum of squares. -/
def scale (s : EReal) : EReal :=
  Ideal.rsqrt (Ideal.div s (Ideal.ofBits .f32 0x43000000#32) + Ideal.ofBits .f32 0x358637BD#32)

/-- The column half a head away. -/
def half (e : Fin 128) : Fin 128 := ⟨(e.val + 64) % 128, Nat.mod_lt _ (by decide)⟩

theorem normed_apply (x : Vec Ideal S512x128 .bf16) (w : Vec Ideal S1x1x128 .f32) (r : Fin 512) (e : Fin 128) :
    (k0_pay3 (F := Ideal) x (ix2 r e) : EReal) * k0_pay4 (F := Ideal) w (ix2 r e)
      = x (ix2 r e) * scale (∑ k : Fin 128, x (ix2 r k) * x (ix2 r k)) * w (ix3 0 0 e) := by
  refine congrArg₂ (· * ·) ?_ ?_
  · pointwise [k0_pay3, scale]
  · pointwise [k0_pay4]

theorem rotate_apply (x : S512x128.Idx → EReal) (r : Fin 512) (e : Fin 128) :
    dynamicRotate 1 64#32 none x rotates_S512x128_d1 (ix2 r e) = x (ix2 r (half e)) := by
  have he := e.isLt
  refine congrArg x (funext fun a => Fin.ext ?_)
  match a with
  | ⟨0, _⟩ => rfl
  | ⟨1, _⟩ => show (e.val + 128 - 64 % 128) % 128 = (e.val + 64) % 128; omega

/-- One head of the body's block, entry by entry. -/
theorem head_apply (x : Vec Ideal S512x128 .bf16) (w : Vec Ideal S1x1x128 .f32) (co si : Vec Ideal S512x128 .f32) (r : Fin 512) (e : Fin 128) :
    k0_pay2 (F := Ideal) x w co si (ix2 r e)
      = x (ix2 r e) * scale (∑ k : Fin 128, x (ix2 r k) * x (ix2 r k)) * w (ix3 0 0 e) * co (ix2 r e)
        + x (ix2 r (half e)) * scale (∑ k : Fin 128, x (ix2 r k) * x (ix2 r k)) * w (ix3 0 0 (half e)) * si (ix2 r e) := by
  rw [← normed_apply, ← normed_apply]
  show _ + dynamicRotate 1 64#32 none (fun i => (k0_pay3 (F := Ideal) x i : EReal) * k0_pay4 (F := Ideal) w i) rotates_S512x128_d1 (ix2 r e) * _ = _
  rw [rotate_apply]
  rfl

/-- The body's block is its four heads side by side. -/
theorem pay_heads (x0 x1 x2 x3 : Vec Ideal S512x128 .bf16) (w : Vec Ideal S1x1x128 .f32) (co si : Vec Ideal S512x128 .f32) :
    (k0_pay1 (F := Ideal) (k0_pay2 x0 w co si) (k0_pay5 (k0_pay3 x1) (k0_pay4 w) co si) (k0_pay6 x2 w co si) (k0_pay7 x3) (k0_pay8 x3) k0_pay9 w co si : S512x512.Idx → EReal)
      = concatenate S512x512 1 [⟨S512x128, (k0_pay2 (F := Ideal) x0 w co si : S512x128.Idx → EReal)⟩, ⟨S512x128, (k0_pay2 (F := Ideal) x1 w co si : S512x128.Idx → EReal)⟩,
          ⟨S512x128, (k0_pay2 (F := Ideal) x2 w co si : S512x128.Idx → EReal)⟩, ⟨S512x128, (k0_pay2 (F := Ideal) x3 w co si : S512x128.Idx → EReal)⟩]
          concatenates_S512x128_S512x128_S512x128_S512x128_S512x512_d1 := rfl

/-- Four heads of width 128 side by side, at a column. -/
theorem side_apply (y : Fin 4 → S512x128.Idx → EReal) (r : Fin 512) (g : Fin 4) (e : Fin 128) (d : Fin 512) (hd : d.val = 128 * g.val + e.val) :
    concatenate S512x512 1 [⟨S512x128, y 0⟩, ⟨S512x128, y 1⟩, ⟨S512x128, y 2⟩, ⟨S512x128, y 3⟩]
      concatenates_S512x128_S512x128_S512x128_S512x128_S512x512_d1 (ix2 r d) = y g (ix2 r e) := by
  match g with
  | ⟨0, _⟩ =>
    refine concatenate_apply_piece (α := EReal) (t := S512x512) _ _ _ _ 0 (by simp) S512x128 _ rfl rfl 0 rfl (ix2 r e) ?_ ?_
    · intro b hb; match b with
      | ⟨0, _⟩ => rfl
      | ⟨1, _⟩ => exact absurd rfl hb
    · show 0 + e.val = d.val; rw [hd]; show 0 + e.val = 128 * 0 + e.val; omega
  | ⟨1, _⟩ =>
    refine concatenate_apply_piece (α := EReal) (t := S512x512) _ _ _ _ 1 (by simp) S512x128 _ rfl rfl 128 rfl (ix2 r e) ?_ ?_
    · intro b hb; match b with
      | ⟨0, _⟩ => rfl
      | ⟨1, _⟩ => exact absurd rfl hb
    · show 128 + e.val = d.val; rw [hd]; show 128 + e.val = 128 * 1 + e.val; omega
  | ⟨2, _⟩ =>
    refine concatenate_apply_piece (α := EReal) (t := S512x512) _ _ _ _ 2 (by simp) S512x128 _ rfl rfl 256 rfl (ix2 r e) ?_ ?_
    · intro b hb; match b with
      | ⟨0, _⟩ => rfl
      | ⟨1, _⟩ => exact absurd rfl hb
    · show 256 + e.val = d.val; rw [hd]; show 256 + e.val = 128 * 2 + e.val; omega
  | ⟨3, _⟩ =>
    refine concatenate_apply_piece (α := EReal) (t := S512x512) _ _ _ _ 3 (by simp) S512x128 _ rfl rfl 384 rfl (ix2 r e) ?_ ?_
    · intro b hb; match b with
      | ⟨0, _⟩ => rfl
      | ⟨1, _⟩ => exact absurd rfl hb
    · show 384 + e.val = d.val; rw [hd]; show 384 + e.val = 128 * 3 + e.val; omega

/-- One head's columns of a block. -/
def headOf (x : S512x512.Idx → EReal) (g : Fin 4) : S512x128.Idx → EReal :=
  fun i => x (ix2 (i 0) (⟨128 * g.val + (i 1).val, by have := g.isLt; have h : (i 1).val < 128 := (i 1).isLt; omega⟩ : Fin 512))

theorem z2 : (![0, 0] : Fin 2 → ℕ) = fun _ => 0 := by funext a; match a with | ⟨0, _⟩ => rfl | ⟨1, _⟩ => rfl
theorem z3 : (![0, 0, 0] : Fin 3 → ℕ) = fun _ => 0 := by funext a; match a with | ⟨0, _⟩ => rfl | ⟨1, _⟩ => rfl | ⟨2, _⟩ => rfl

theorem ld_head (x : Vec Ideal S512x512 .bf16) (off : ℕ) (inb) (g : Fin 4) (h : off = 128 * g.val) :
    (View.ld x (Rect.unit (s := S512x512) ![0, off] S512x128.size inb) : S512x128.Idx → EReal) = headOf x g := by
  subst h
  funext i
  refine congrArg x (funext fun a => Fin.ext ?_)
  match a with
  | ⟨0, _⟩ => show 0 + 1 * (i 0).val = (i 0).val; omega
  | ⟨1, _⟩ => show 128 * g.val + 1 * (i 1).val = 128 * g.val + (i 1).val; omega

/-- The body's block, entry by entry. -/
theorem out_apply (x : Vec Ideal S512x512 .bf16) (w : Vec Ideal S1x1x128 .f32) (co si : Vec Ideal S512x128 .f32)
    (r : Fin 512) (g : Fin 4) (e : Fin 128) (d : Fin 512) (hd : d.val = 128 * g.val + e.val) :
    out0_4 (F := Ideal) x w co si (ix2 r d)
      = headOf x g (ix2 r e) * scale (∑ k : Fin 128, headOf x g (ix2 r k) * headOf x g (ix2 r k)) * w (ix3 0 0 e) * co (ix2 r e)
        + headOf x g (ix2 r (half e)) * scale (∑ k : Fin 128, headOf x g (ix2 r k) * headOf x g (ix2 r k)) * w (ix3 0 0 (half e)) * si (ix2 r e) := by
  unfold out0_4
  rw [View.canon_unit_zero z2, View.ld_unit_zero z3, View.ld_unit_zero z2, View.ld_unit_zero z2]
  refine (congrFun (pay_heads _ _ _ _ w co si) (ix2 r d)).trans ?_
  rw [ld_head x 0 _ 0 rfl, ld_head x 128 _ 1 rfl, ld_head x 256 _ 2 rfl, ld_head x 384 _ 3 rfl]
  refine (side_apply (fun g => k0_pay2 (F := Ideal) (headOf x g) w co si) r g e d hd).trans ?_
  exact head_apply (headOf x g) w co si r e

/-- The normalised entry of token `r`, head `n` and column `e` of the head, the queries' twelve heads before the keys'. -/
def normed (z : S8192x29184.Idx → EReal) (q k : S128.Idx → EReal) (r n e : ℕ) : EReal :=
  zAt z r (5120 + (128 * n + e)) * scale (∑ l : Fin 128, zAt z r (5120 + (128 * n + l.val)) * zAt z r (5120 + (128 * n + l.val)))
    * gAt q k (n / 12) e

/-- The rotated entry of token `r` and column `j`. -/
def entry (z : S8192x29184.Idx → EReal) (q k : S128.Idx → EReal) (co si : S8192x128.Idx → EReal) (r j : ℕ) : EReal :=
  normed z q k r (j / 128) (j % 128) * tAt co r (j % 128) + normed z q k r (j / 128) ((j % 128 + 64) % 128) * tAt si r (j % 128)

/-- The array the kernel ends with. -/
def result (c : Dev nD) : S8192x3072.Idx → EReal := fun i => entry (aZ m c) (aQ m c) (aK m c) (aC m c) (aS m c) (i 0).val (i 1).val

theorem head_blk (c : Dev nD) (t : Fin cfg0.N) (g : Fin 4) (r : Fin 512) (e : Fin 128) :
    headOf (iblk m c 0 t : Vec Ideal S512x512 .bf16) g (ix2 r e)
      = zAt (aZ m c) (512 * (t.val / 6) + r.val) (5120 + (128 * (4 * (t.val % 6) + g.val) + e.val)) := by
  unfold headOf
  refine (blk0 m c t r _).trans ?_
  show zAt _ _ (5120 + (512 * (t.val % 6) + (128 * g.val + e.val))) = _
  rw [show 512 * (t.val % 6) + (128 * g.val + e.val) = 128 * (4 * (t.val % 6) + g.val) + e.val by omega]

theorem flushed_eq (c : Dev nD) (t : Fin cfg0.N) (hf : (cfg0.win 4).flush t = true) :
    (dats m 0 c).flushed 4 t = ((cfg0.win 4).blk t).view.read (Elt Ideal) (result m c) := by
  have ht := lt_N t
  have hi := ind4 t
  rw [Cert.RopeNormIdeal.Value.flushed4]
  funext j
  obtain ⟨r, d, rfl⟩ : ∃ (r : Fin 512) (d : Fin 512), j = ix2 r d := ⟨j 0, j 1, by funext a; match a with | ⟨0, _⟩ => rfl | ⟨1, _⟩ => rfl⟩
  rw [View.read_apply]
  have hr := r.isLt
  have hd := d.isLt
  have e0 : (((cfg0.win 4).blk t).view.emb (ix2 r d) 0).val = win0_4.index t 0 * 512 + 1 * r.val := rfl
  have e1 : (((cfg0.win 4).blk t).view.emb (ix2 r d) 1).val = win0_4.index t 1 * 512 + 1 * d.val := rfl
  rw [hi.1, show t.val / 6 * 512 + 1 * r.val = 512 * (t.val / 6) + r.val by omega] at e0
  rw [hi.2, show t.val % 6 * 512 + 1 * d.val = 512 * (t.val % 6) + d.val by omega] at e1
  show out0_4 (iblk m c 0 t) (iblk m c 1 t) (iblk m c 2 t) (iblk m c 3 t) (ix2 r d) = _
  rw [out_apply _ _ _ _ r (⟨d.val / 128, by omega⟩ : Fin 4) (⟨d.val % 128, by omega⟩ : Fin 128) d (by show d.val = 128 * (d.val / 128) + d.val % 128; omega)]
  unfold result entry normed
  rw [e0, e1]
  simp only [head_blk, blk1, blk2, blk3]
  rw [show (512 * (t.val % 6) + d.val) / 128 = 4 * (t.val % 6) + d.val / 128 by omega,
    show (512 * (t.val % 6) + d.val) % 128 = d.val % 128 by omega,
    show (4 * (t.val % 6) + d.val / 128) / 12 = t.val % 6 / 3 by omega]
  rfl

theorem cover (i : S8192x3072.Idx) : ∃ t : Fin cfg0.N, (cfg0.win 4).flush t = true ∧ i ∈ ((cfg0.win 4).blk t).view.set := by
  have h0 : (i 0).val < 8192 := (i 0).isLt
  have h1 : (i 1).val < 3072 := (i 1).isLt
  have hN : cfg0.N = 96 := N_0
  obtain ⟨n, hn, hv⟩ : ∃ n : ℕ, n < cfg0.N ∧ n = 6 * ((i 0).val / 512) + (i 1).val / 512 := ⟨_, by omega, rfl⟩
  have hi := ind4 ⟨n, hn⟩
  dsimp only at hi
  refine ⟨⟨n, hn⟩, flush4 _, ?_⟩
  show i ∈ ((View.whole main_v6).slice (win0_4.rect ⟨n, hn⟩)).set
  rw [View.set_slice_whole, Rect.mem_set_unit]
  intro a
  match a with
  | ⟨0, _⟩ => show win0_4.index _ 0 * 512 ≤ (i 0).val ∧ (i 0).val < win0_4.index _ 0 * 512 + 512; rw [hi.1]; omega
  | ⟨1, _⟩ => show win0_4.index _ 1 * 512 ≤ (i 1).val ∧ (i 1).val < win0_4.index _ 1 * 512 + 512; rw [hi.2]; omega

theorem arr_eq (c : Dev nD) : (dats m 0 c).arrAt 4 cfg0.N = result m c :=
  (dats m 0 c).arrAt_eq_of_cover 4 (result m c) (flushed_eq m c) cover

end Cert.RopeNormIdeal.Blocks

namespace Cert.RopeNormClaim

open Cert.RopeNormRefIdeal Cert.RopeNormRefIdeal.Gen Cert.RopeNormRefIdeal.Facts Cert.RopeNormRefIdeal.Read Cert.RopeNormIdeal.Blocks
open Idealize.ShloMosaic.Pointwise

variable (z : S8192x29184.Idx → EReal) (q k : S128.Idx → EReal) (co si : S8192x128.Idx → EReal)

/-- The normalised entry with one table of gains. -/
def plain (z : S8192x29184.Idx → EReal) (w : S128.Idx → EReal) (r n e : ℕ) : EReal :=
  zAt z r (5120 + (128 * n + e)) * scale (∑ l : Fin 128, zAt z r (5120 + (128 * n + l.val)) * zAt z r (5120 + (128 * n + l.val))) * wAt w e

theorem query_val (r : Fin 8192) (h : Fin 12) (e : Fin 128) :
    val_main_v2 (F := Ideal) z (ix3 r h e) = zAt z r.val (5120 + (128 * (h.val) + e.val)) := by
  have hr := r.isLt
  have hh := h.isLt
  have he := e.isLt
  rw [val_main_v2_apply, val_main_v1_apply, val_main_v0_apply]
  unfold zAt
  refine congrArg z (funext fun a => Fin.ext ?_)
  match a with
  | ⟨0, _⟩ => show ((r.val * 12 + h.val) * 128 + e.val) / 1536 = r.val % 8192; omega
  | ⟨1, _⟩ => show 5120 + ((r.val * 12 + h.val) * 128 + e.val) % 1536 = (5120 + (128 * (h.val) + e.val)) % 29184; omega

theorem query_apply (r : Fin 8192) (h : Fin 12) (e : Fin 128) :
    val_main_v15 (F := Ideal) z q (ix3 r h e) = plain z q r.val (h.val) e.val := by
  have he := e.isLt
  have hs : val_main_v4 (F := Ideal) z (ix2 r h)
      = ∑ l : Fin 128, zAt z r.val (5120 + (128 * (h.val) + l.val)) * zAt z r.val (5120 + (128 * (h.val) + l.val)) := by
    rw [val_main_v4_apply, val_main_cst_apply]
    show Ideal.ofBits .f32 0x00000000#32 + _ = _
    rw [show Ideal.ofBits .f32 0x00000000#32 = 0 by simp [Ideal.ofBits, Ideal.ieee], zero_add]
    refine Finset.sum_congr rfl fun l _ => ?_
    rw [val_main_v3_apply, show idx_main_v4 (ix2 r h) l = ix3 r h l from by funext a; match a with | ⟨0, _⟩ => rfl | ⟨1, _⟩ => rfl | ⟨2, _⟩ => rfl,
      query_val]
    rfl
  have hw : wAt q e.val = q (ix1 e) := by
    unfold wAt
    refine congrArg q (funext fun a => Fin.ext ?_)
    match a with
    | ⟨0, _⟩ => show e.val % 128 = e.val; omega
  rw [val_main_v15_apply, val_main_v14_apply, val_main_v13_apply, val_main_v12_apply, val_main_v11_apply, val_main_v10_apply,
    val_main_v9_apply, val_main_v8_apply, val_main_cst_1_apply, val_main_v7_apply, val_main_v6_apply, val_main_cst_0_apply, val_main_v5_apply]
  rw [show idx_main_v5 (idx_main_v11 (ix3 r h e)) = ix2 r h from by funext a; match a with | ⟨0, _⟩ => rfl | ⟨1, _⟩ => rfl,
    show idx_main_v13 (idx_main_v14 (ix3 r h e)) = ix1 e from by funext a; match a with | ⟨0, _⟩ => rfl,
    hs, query_val]
  unfold plain
  rw [hw]
  rfl

theorem query_rot (r : Fin 8192) (h : Fin 12) (e : Fin 128) :
    val_main_v36 (F := Ideal) z q co si (ix3 r h e)
      = plain z q r.val (h.val) e.val * tAt co r.val e.val + plain z q r.val (h.val) ((e.val + 64) % 128) * tAt si r.val e.val := by
  have he := e.isLt
  unfold val_main_v36
  by_cases hj : e.val < 64
  · refine Eq.trans (concatenate_apply_piece (α := EReal) (t := S8192x12x128) _ _ _ _ 0 (by simp) S8192x12x64 _ rfl rfl 0 rfl
      (ix3 r h (⟨e.val, hj⟩ : Fin 64)) ?_ ?_) ?_
    · intro b hb; match b with
      | ⟨0, _⟩ => rfl
      | ⟨1, _⟩ => rfl
      | ⟨2, _⟩ => exact absurd rfl hb
    · show 0 + e.val = e.val; omega
    · rw [val_main_v26_apply, val_main_v21_apply, val_main_v25_apply, val_main_v16_apply, val_main_v17_apply,
        val_main_v20_apply, val_main_v19_apply, val_main_v18_apply, val_main_v24_apply, val_main_v23_apply, val_main_v22_apply,
        show idx_main_v16 (ix3 r h (⟨e.val, hj⟩ : Fin 64)) = ix3 r h e from by
          funext a; apply Fin.ext; match a with | ⟨0, _⟩ => show _ = r.val; (first | rfl | exact Nat.zero_add _) | ⟨1, _⟩ => show _ = h.val; (first | rfl | exact Nat.zero_add _) | ⟨2, _⟩ => show _ = e.val; (first | rfl | exact Nat.zero_add _),
        show idx_main_v17 (ix3 r h (⟨e.val, hj⟩ : Fin 64)) = ix3 r h (half e) from by
          funext a; apply Fin.ext; match a with | ⟨0, _⟩ => show _ = r.val; (first | rfl | exact Nat.zero_add _) | ⟨1, _⟩ => show _ = h.val; (first | rfl | exact Nat.zero_add _) | ⟨2, _⟩ => show 64 + e.val = (e.val + 64) % 128; omega,
        query_apply, query_apply]
      refine congrArg₂ (· + ·) (congrArg₂ (· * ·) rfl ?_) (congrArg₂ (· * ·) rfl ?_)
      · refine congrArg co (funext fun a => Fin.ext ?_)
        match a with
        | ⟨0, _⟩ => exact (Nat.mod_eq_of_lt r.isLt).symm
        | ⟨1, _⟩ => show e.val = e.val % 128; omega
      · refine congrArg si (funext fun a => Fin.ext ?_)
        match a with
        | ⟨0, _⟩ => exact (Nat.mod_eq_of_lt r.isLt).symm
        | ⟨1, _⟩ => show e.val = e.val % 128; omega
  · refine Eq.trans (concatenate_apply_piece (α := EReal) (t := S8192x12x128) _ _ _ _ 1 (by simp) S8192x12x64 _ rfl rfl 64 rfl
      (ix3 r h (⟨e.val - 64, by omega⟩ : Fin 64)) ?_ ?_) ?_
    · intro b hb; match b with
      | ⟨0, _⟩ => rfl
      | ⟨1, _⟩ => rfl
      | ⟨2, _⟩ => exact absurd rfl hb
    · show 64 + (e.val - 64) = e.val; omega
    · rw [val_main_v35_apply, val_main_v30_apply, val_main_v34_apply, val_main_v16_apply, val_main_v17_apply,
        val_main_v29_apply, val_main_v28_apply, val_main_v27_apply, val_main_v33_apply, val_main_v32_apply, val_main_v31_apply,
        show idx_main_v17 (ix3 r h (⟨e.val - 64, by omega⟩ : Fin 64)) = ix3 r h e from by
          funext a; apply Fin.ext; match a with | ⟨0, _⟩ => show _ = r.val; (first | rfl | exact Nat.zero_add _) | ⟨1, _⟩ => show _ = h.val; (first | rfl | exact Nat.zero_add _) | ⟨2, _⟩ => show 64 + (e.val - 64) = e.val; omega,
        show idx_main_v16 (ix3 r h (⟨e.val - 64, by omega⟩ : Fin 64)) = ix3 r h (half e) from by
          funext a; apply Fin.ext; match a with | ⟨0, _⟩ => show _ = r.val; (first | rfl | exact Nat.zero_add _) | ⟨1, _⟩ => show _ = h.val; (first | rfl | exact Nat.zero_add _) | ⟨2, _⟩ => show e.val - 64 = (e.val + 64) % 128; omega,
        query_apply, query_apply]
      refine congrArg₂ (· + ·) (congrArg₂ (· * ·) rfl ?_) (congrArg₂ (· * ·) rfl ?_)
      · refine congrArg co (funext fun a => Fin.ext ?_)
        match a with
        | ⟨0, _⟩ => exact (Nat.mod_eq_of_lt r.isLt).symm
        | ⟨1, _⟩ => show 64 + (e.val - 64) = e.val % 128; omega
      · refine congrArg si (funext fun a => Fin.ext ?_)
        match a with
        | ⟨0, _⟩ => exact (Nat.mod_eq_of_lt r.isLt).symm
        | ⟨1, _⟩ => show 64 + (e.val - 64) = e.val % 128; omega

theorem key_val (r : Fin 8192) (h : Fin 12) (e : Fin 128) :
    val_main_v41 (F := Ideal) z (ix3 r h e) = zAt z r.val (5120 + (128 * (12 + h.val) + e.val)) := by
  have hr := r.isLt
  have hh := h.isLt
  have he := e.isLt
  rw [val_main_v41_apply, val_main_v40_apply, val_main_v39_apply]
  unfold zAt
  refine congrArg z (funext fun a => Fin.ext ?_)
  match a with
  | ⟨0, _⟩ => show ((r.val * 12 + h.val) * 128 + e.val) / 1536 = r.val % 8192; omega
  | ⟨1, _⟩ => show 6656 + ((r.val * 12 + h.val) * 128 + e.val) % 1536 = (5120 + (128 * (12 + h.val) + e.val)) % 29184; omega

theorem key_apply (r : Fin 8192) (h : Fin 12) (e : Fin 128) :
    val_main_v54 (F := Ideal) z k (ix3 r h e) = plain z k r.val (12 + h.val) e.val := by
  have he := e.isLt
  have hs : val_main_v43 (F := Ideal) z (ix2 r h)
      = ∑ l : Fin 128, zAt z r.val (5120 + (128 * (12 + h.val) + l.val)) * zAt z r.val (5120 + (128 * (12 + h.val) + l.val)) := by
    rw [val_main_v43_apply, val_main_cst_3_apply]
    show Ideal.ofBits .f32 0x00000000#32 + _ = _
    rw [show Ideal.ofBits .f32 0x00000000#32 = 0 by simp [Ideal.ofBits, Ideal.ieee], zero_add]
    refine Finset.sum_congr rfl fun l _ => ?_
    rw [val_main_v42_apply, show idx_main_v43 (ix2 r h) l = ix3 r h l from by funext a; match a with | ⟨0, _⟩ => rfl | ⟨1, _⟩ => rfl | ⟨2, _⟩ => rfl,
      key_val]
    rfl
  have hw : wAt k e.val = k (ix1 e) := by
    unfold wAt
    refine congrArg k (funext fun a => Fin.ext ?_)
    match a with
    | ⟨0, _⟩ => show e.val % 128 = e.val; omega
  rw [val_main_v54_apply, val_main_v53_apply, val_main_v52_apply, val_main_v51_apply, val_main_v50_apply, val_main_v49_apply,
    val_main_v48_apply, val_main_v47_apply, val_main_cst_5_apply, val_main_v46_apply, val_main_v45_apply, val_main_cst_4_apply, val_main_v44_apply]
  rw [show idx_main_v44 (idx_main_v50 (ix3 r h e)) = ix2 r h from by funext a; match a with | ⟨0, _⟩ => rfl | ⟨1, _⟩ => rfl,
    show idx_main_v52 (idx_main_v53 (ix3 r h e)) = ix1 e from by funext a; match a with | ⟨0, _⟩ => rfl,
    hs, key_val]
  unfold plain
  rw [hw]
  rfl

theorem key_rot (r : Fin 8192) (h : Fin 12) (e : Fin 128) :
    val_main_v75 (F := Ideal) z k co si (ix3 r h e)
      = plain z k r.val (12 + h.val) e.val * tAt co r.val e.val + plain z k r.val (12 + h.val) ((e.val + 64) % 128) * tAt si r.val e.val := by
  have he := e.isLt
  unfold val_main_v75
  by_cases hj : e.val < 64
  · refine Eq.trans (concatenate_apply_piece (α := EReal) (t := S8192x12x128) _ _ _ _ 0 (by simp) S8192x12x64 _ rfl rfl 0 rfl
      (ix3 r h (⟨e.val, hj⟩ : Fin 64)) ?_ ?_) ?_
    · intro b hb; match b with
      | ⟨0, _⟩ => rfl
      | ⟨1, _⟩ => rfl
      | ⟨2, _⟩ => exact absurd rfl hb
    · show 0 + e.val = e.val; omega
    · rw [val_main_v65_apply, val_main_v60_apply, val_main_v64_apply, val_main_v55_apply, val_main_v56_apply,
        val_main_v59_apply, val_main_v58_apply, val_main_v57_apply, val_main_v63_apply, val_main_v62_apply, val_main_v61_apply,
        show idx_main_v55 (ix3 r h (⟨e.val, hj⟩ : Fin 64)) = ix3 r h e from by
          funext a; apply Fin.ext; match a with | ⟨0, _⟩ => show _ = r.val; (first | rfl | exact Nat.zero_add _) | ⟨1, _⟩ => show _ = h.val; (first | rfl | exact Nat.zero_add _) | ⟨2, _⟩ => show _ = e.val; (first | rfl | exact Nat.zero_add _),
        show idx_main_v56 (ix3 r h (⟨e.val, hj⟩ : Fin 64)) = ix3 r h (half e) from by
          funext a; apply Fin.ext; match a with | ⟨0, _⟩ => show _ = r.val; (first | rfl | exact Nat.zero_add _) | ⟨1, _⟩ => show _ = h.val; (first | rfl | exact Nat.zero_add _) | ⟨2, _⟩ => show 64 + e.val = (e.val + 64) % 128; omega,
        key_apply, key_apply]
      refine congrArg₂ (· + ·) (congrArg₂ (· * ·) rfl ?_) (congrArg₂ (· * ·) rfl ?_)
      · refine congrArg co (funext fun a => Fin.ext ?_)
        match a with
        | ⟨0, _⟩ => exact (Nat.mod_eq_of_lt r.isLt).symm
        | ⟨1, _⟩ => show e.val = e.val % 128; omega
      · refine congrArg si (funext fun a => Fin.ext ?_)
        match a with
        | ⟨0, _⟩ => exact (Nat.mod_eq_of_lt r.isLt).symm
        | ⟨1, _⟩ => show e.val = e.val % 128; omega
  · refine Eq.trans (concatenate_apply_piece (α := EReal) (t := S8192x12x128) _ _ _ _ 1 (by simp) S8192x12x64 _ rfl rfl 64 rfl
      (ix3 r h (⟨e.val - 64, by omega⟩ : Fin 64)) ?_ ?_) ?_
    · intro b hb; match b with
      | ⟨0, _⟩ => rfl
      | ⟨1, _⟩ => rfl
      | ⟨2, _⟩ => exact absurd rfl hb
    · show 64 + (e.val - 64) = e.val; omega
    · rw [val_main_v74_apply, val_main_v69_apply, val_main_v73_apply, val_main_v55_apply, val_main_v56_apply,
        val_main_v68_apply, val_main_v67_apply, val_main_v66_apply, val_main_v72_apply, val_main_v71_apply, val_main_v70_apply,
        show idx_main_v56 (ix3 r h (⟨e.val - 64, by omega⟩ : Fin 64)) = ix3 r h e from by
          funext a; apply Fin.ext; match a with | ⟨0, _⟩ => show _ = r.val; (first | rfl | exact Nat.zero_add _) | ⟨1, _⟩ => show _ = h.val; (first | rfl | exact Nat.zero_add _) | ⟨2, _⟩ => show 64 + (e.val - 64) = e.val; omega,
        show idx_main_v55 (ix3 r h (⟨e.val - 64, by omega⟩ : Fin 64)) = ix3 r h (half e) from by
          funext a; apply Fin.ext; match a with | ⟨0, _⟩ => show _ = r.val; (first | rfl | exact Nat.zero_add _) | ⟨1, _⟩ => show _ = h.val; (first | rfl | exact Nat.zero_add _) | ⟨2, _⟩ => show e.val - 64 = (e.val + 64) % 128; omega,
        key_apply, key_apply]
      refine congrArg₂ (· + ·) (congrArg₂ (· * ·) rfl ?_) (congrArg₂ (· * ·) rfl ?_)
      · refine congrArg co (funext fun a => Fin.ext ?_)
        match a with
        | ⟨0, _⟩ => exact (Nat.mod_eq_of_lt r.isLt).symm
        | ⟨1, _⟩ => show 64 + (e.val - 64) = e.val % 128; omega
      · refine congrArg si (funext fun a => Fin.ext ?_)
        match a with
        | ⟨0, _⟩ => exact (Nat.mod_eq_of_lt r.isLt).symm
        | ⟨1, _⟩ => show 64 + (e.val - 64) = e.val % 128; omega

theorem scaled (a b x y : EReal) :
    (a * x + b * y) * Ideal.ofBits .f32 0x3DB504F3#32 = a * Ideal.ofBits .f32 0x3DB504F3#32 * x + b * Ideal.ofBits .f32 0x3DB504F3#32 * y := by
  obtain ⟨s, hs, h⟩ : ∃ s : ℝ, 0 ≤ s ∧ Ideal.ofBits .f32 0x3DB504F3#32 = (s : EReal) := by
    refine ⟨_, ?_, by simp [Ideal.ofBits, Ideal.ieee]; rfl⟩
    positivity
  rw [h, mul_comm, EReal.left_distrib_of_nonneg_of_ne_top (EReal.coe_nonneg.mpr hs) (EReal.coe_ne_top _), mul_left_comm, mul_left_comm (s : EReal) b, ← mul_assoc, ← mul_assoc]

theorem ref_apply (i : S8192x3072.Idx) : val_main_v79 (F := Ideal) z q k co si i = entry z q k co si (i 0).val (i 1).val := by
  have h0 : (i 0).val < 8192 := (i 0).isLt
  have h1 : (i 1).val < 3072 := (i 1).isLt
  rw [val_main_v79_apply]
  show val_main_v78 (F := Ideal) z q k co si i = _
  unfold val_main_v78
  by_cases hj : (i 1).val < 1536
  · refine Eq.trans (concatenate_apply_piece (α := EReal) (t := S8192x3072) _ _ _ _ 0 (by simp) S8192x1536 _ rfl rfl 0 rfl
      (ix2 (⟨(i 0).val, h0⟩ : Fin 8192) (⟨(i 1).val, hj⟩ : Fin 1536)) ?_ ?_) ?_
    · intro b hb; match b with
      | ⟨0, _⟩ => rfl
      | ⟨1, _⟩ => exact absurd rfl hb
    · show 0 + (i 1).val = (i 1).val; omega
    · rw [val_main_v76_apply,
        show idx_main_v76 (ix2 (⟨(i 0).val, h0⟩ : Fin 8192) (⟨(i 1).val, hj⟩ : Fin 1536))
            = ix3 (⟨(i 0).val, h0⟩ : Fin 8192) (⟨(i 1).val / 128, by omega⟩ : Fin 12) (⟨(i 1).val % 128, by omega⟩ : Fin 128) from by
          funext a
          apply Fin.ext
          match a with
          | ⟨0, _⟩ => show ((i 0).val * 1536 + (i 1).val) / 1536 = (i 0).val; omega
          | ⟨1, _⟩ => show ((i 0).val * 1536 + (i 1).val) / 128 % 12 = (i 1).val / 128; omega
          | ⟨2, _⟩ => show ((i 0).val * 1536 + (i 1).val) % 128 = (i 1).val % 128; omega,
        val_main_v38_apply, val_main_v37_apply, val_main_cst_2_apply, query_rot]
      refine (scaled _ _ _ _).trans ?_
      dsimp only
      unfold entry normed plain gAt
      simp only [if_pos (show (i 1).val / 128 / 12 = 0 by omega), mul_assoc]
  · refine Eq.trans (concatenate_apply_piece (α := EReal) (t := S8192x3072) _ _ _ _ 1 (by simp) S8192x1536 _ rfl rfl 1536 rfl
      (ix2 (⟨(i 0).val, h0⟩ : Fin 8192) (⟨(i 1).val - 1536, by omega⟩ : Fin 1536)) ?_ ?_) ?_
    · intro b hb; match b with
      | ⟨0, _⟩ => rfl
      | ⟨1, _⟩ => exact absurd rfl hb
    · show 1536 + ((i 1).val - 1536) = (i 1).val; omega
    · rw [val_main_v77_apply,
        show idx_main_v77 (ix2 (⟨(i 0).val, h0⟩ : Fin 8192) (⟨(i 1).val - 1536, by omega⟩ : Fin 1536))
            = ix3 (⟨(i 0).val, h0⟩ : Fin 8192) (⟨(i 1).val / 128 - 12, by omega⟩ : Fin 12) (⟨(i 1).val % 128, by omega⟩ : Fin 128) from by
          funext a
          apply Fin.ext
          match a with
          | ⟨0, _⟩ => show ((i 0).val * 1536 + ((i 1).val - 1536)) / 1536 = (i 0).val; omega
          | ⟨1, _⟩ => show ((i 0).val * 1536 + ((i 1).val - 1536)) / 128 % 12 = (i 1).val / 128 - 12; omega
          | ⟨2, _⟩ => show ((i 0).val * 1536 + ((i 1).val - 1536)) % 128 = (i 1).val % 128; omega,
        key_rot]
      dsimp only
      unfold entry normed plain gAt
      simp only [show 12 + ((i 1).val / 128 - 12) = (i 1).val / 128 by omega, if_neg (show ¬(i 1).val / 128 / 12 = 0 by omega)]

end Cert.RopeNormClaim

namespace Cert.RopeNormClaim

open Cert.RopeNormIdeal.Blocks

theorem frame_p : Cert.quiescent_RopeNorm := fun m ρ _ => Cert.RopeNorm.Gen.frame m ρ
theorem frame_pi : Cert.quiescent_RopeNormIdeal := fun m ρ _ => Cert.RopeNormIdeal.Gen.frame m ρ
theorem frame_ri : Cert.quiescent_RopeNormRefIdeal := fun m ρ _ =>
  (θ_run Cert.RopeNormRefIdeal.defs _ _).mono (fun r h => ⟨fun c => (h c).2, sem_eq_zero_of_no_sems (by decide) r.2⟩)
    (Cert.RopeNormRefIdeal.Value.run m ρ)

/-- The kernel and the reference end with the same array. -/
theorem algebraic : Cert.algebraic_RopeNormIdeal_RopeNormRefIdeal := by
  intro m g m' g' _ hargs
  refine ⟨fun c => result m c, ?_, ?_⟩
  · exact (θ_run Cert.RopeNormIdeal.defs _ _).mono (fun r h c => ⟨(h c).1.trans (arr_eq m c), (h c).2⟩) (Cert.RopeNormIdeal.Value.run_blocks m g)
  · refine (θ_run Cert.RopeNormRefIdeal.defs _ _).mono (fun r h c => ⟨(h c).1.trans ?_, (h c).2⟩) (Cert.RopeNormRefIdeal.Value.run m' g')
    rw [Cert.RopeNormRefIdeal.Read.val_main_v79_eq]
    funext i
    have ha := hargs c
    refine (ref_apply _ _ _ _ _ i).trans ?_
    rw [ha.1, ha.2.1, ha.2.2.1, ha.2.2.2.1, ha.2.2.2.2]
    rfl

end Cert.RopeNormClaim

end

end
-- ==== Proof.RopeTablesClaim.lean ====
/-
  The rotary tables: the cosine and the signed sine of each token's position times each frequency, the two halves of a head
  sharing their frequencies and the first half's sine negated. Blocks of 512 tokens.
-/
module

public import proofs.«01_k».proof.Defs
public import proofs.«01_k».proof.Proof.Gen.RopeTables.Frame
public import proofs.«01_k».proof.Proof.Gen.RopeTablesIdeal.Value
public import proofs.«01_k».proof.Proof.Gen.RopeTablesRefIdeal.Read
public import proofs.«01_k».proof.Proof.Gen.RopeTablesRefIdeal.Run
public import Idealize.ShloMosaic.Lib.Pointwise

@[expose] public section

set_option maxRecDepth 16384

noncomputable section

open Idealize.ShloMosaic Idealize.ShloMosaic.TcCoe Idealize.SL.Sem

namespace Cert.RopeTablesIdeal.Blocks

open Cert.RopeTablesIdeal Cert.RopeTablesIdeal.Gen Idealize.ShloMosaic.Pointwise

/-- The frequencies of half a head: powers of the base. -/
def freq : S64.Idx → EReal :=
  Host.powf (F := Ideal) (φ := .f32) (broadcastInDim S64 ![] bcast_S_S64 (constant S_ .f32 0x461C4000#32))
    (mulf (Host.negf (sitofp .f32 (iotaInDim S64 32 0))) (broadcastInDim S64 ![] bcast_S_S64 (constant S_ .f32 0x3C800000#32)))

/-- The position of token `r`, as a number. -/
def pos (x : S2x4096.Idx → BitVec 32) (r : ℕ) : EReal :=
  FloatOps.sitofp (F := Ideal) .f32 (x (ix2 (Fin.ofNat 2 (r / 4096)) (Fin.ofNat 4096 r)))

/-- The angle of token `r` at column `e` of a head. -/
def angle (x : S2x4096.Idx → BitVec 32) (r e : ℕ) : EReal := pos x r * freq (ix1 (Fin.ofNat 64 e))

/-- The table of cosines. -/
def cosTable (x : S2x4096.Idx → BitVec 32) : S8192x128.Idx → EReal :=
  fun i => FloatOps.cos (F := Ideal) (φ := .f32) (angle x (i 0).val (i 1).val)

/-- The table of signed sines. -/
def sinTable (x : S2x4096.Idx → BitVec 32) : S8192x128.Idx → EReal :=
  fun i => if (i 1).val < 64 then 0 - (FloatOps.sin (F := Ideal) (φ := .f32) (angle x (i 0).val (i 1).val) : EReal)
    else FloatOps.sin (F := Ideal) (φ := .f32) (angle x (i 0).val (i 1).val)

variable (m : (ℓ : Loc nD τ sig) → Buf (Elt Ideal) ℓ)

abbrev aP (c : Dev nD) : S2x4096.Idx → BitVec 32 := m ((c : Thread nD τ).loc main_arg0)

theorem ind0 : ∀ t : Fin grid0.N, win0_0.index t 0 = t.val ∧ win0_0.index t 1 = 0 := by decide +kernel
theorem ind1 : ∀ t : Fin grid0.N, win0_1.index t 0 = 0 ∧ win0_1.index t 1 = 0 := by decide +kernel
theorem ind2 : ∀ t : Fin grid0.N, win0_2.index t 0 = t.val ∧ win0_2.index t 1 = 0 := by decide +kernel
theorem ind3 : ∀ t : Fin grid0.N, win0_3.index t 0 = t.val ∧ win0_3.index t 1 = 0 := by decide +kernel
theorem flush2 : ∀ t : Fin cfg0.N, (cfg0.win 2).flush t = true := (by decide +kernel : ∀ t : Fin grid0.N, win0_2.flush t = true)
theorem flush3 : ∀ t : Fin cfg0.N, (cfg0.win 3).flush t = true := (by decide +kernel : ∀ t : Fin grid0.N, win0_3.flush t = true)

theorem lt_N (t : Fin cfg0.N) : t.val < 16 := lt_of_lt_of_eq t.isLt (show cfg0.N = 16 from N_0)

theorem V_v7 (c : Dev nD) : (V m c main_v7 : S1x128.Idx → EReal)
    = shapeCast S1x128 (concatenate S128 0 [⟨S64, freq⟩, ⟨S64, freq⟩] concatenates_S64_S64_S128_d0) shapeCasts_S128_S1x128 := by
  unfold V freq
  simp [hostOps0]
  rfl

theorem V_v9 (c : Dev nD) : (V m c main_v9 : S8192x1.Idx → EReal)
    = shapeCast S8192x1 (fun i => (FloatOps.sitofp (F := Ideal) .f32 (aP m c i) : EReal)) shapeCasts_S2x4096_S8192x1 := by
  unfold V
  simp [hostOps0]
  rfl

theorem freq_apply (e : Fin 128) :
    concatenate S128 0 [⟨S64, freq⟩, ⟨S64, freq⟩] concatenates_S64_S64_S128_d0 (ix1 e) = freq (ix1 (Fin.ofNat 64 e.val)) := by
  have he := e.isLt
  by_cases h : e.val < 64
  · refine concatenate_apply_piece (α := EReal) (t := S128) _ _ _ _ 0 (by simp) S64 _ rfl rfl 0 rfl (ix1 (Fin.ofNat 64 e.val)) ?_ ?_
    · intro b hb; match b with
      | ⟨0, _⟩ => exact absurd rfl hb
    · show 0 + e.val % 64 = e.val; omega
  · refine concatenate_apply_piece (α := EReal) (t := S128) _ _ _ _ 1 (by simp) S64 _ rfl rfl 64 rfl (ix1 (Fin.ofNat 64 e.val)) ?_ ?_
    · intro b hb; match b with
      | ⟨0, _⟩ => exact absurd rfl hb
    · show 64 + e.val % 64 = e.val; omega

theorem blk0 (c : Dev nD) (t : Fin cfg0.N) (r : Fin 512) :
    (iblk m c 0 t : Vec Ideal S512x1 .f32) (ix2 r 0) = pos (aP m c) (512 * t.val + r.val) := by
  have hi := ind0 t
  have ht := lt_N t
  have hr := r.isLt
  unfold iblk pos
  rw [View.read_apply]
  show V m c main_v9 _ = _
  rw [V_v9]
  refine shapeCast_apply _ _ _ (ix2 (Fin.ofNat 2 ((512 * t.val + r.val) / 4096)) (Fin.ofNat 4096 (512 * t.val + r.val))) ?_
  rw [Shape.rowMajor_val_two, Shape.rowMajor_val_two]
  show (512 * t.val + r.val) / 4096 % 2 * 4096 + (512 * t.val + r.val) % 4096 = (win0_0.index t 0 * 512 + 1 * r.val) * 1 + (win0_0.index t 1 * 1 + 1 * 0)
  rw [hi.1, hi.2]
  omega

theorem blk1 (c : Dev nD) (t : Fin cfg0.N) (e : Fin 128) :
    (iblk m c 1 t : Vec Ideal S1x128 .f32) (ix2 0 e) = freq (ix1 (Fin.ofNat 64 e.val)) := by
  have hi := ind1 t
  have he := e.isLt
  refine Eq.trans ?_ (freq_apply e)
  unfold iblk
  rw [View.read_apply]
  show V m c main_v7 _ = _
  rw [V_v7]
  refine shapeCast_apply _ _ _ _ ?_
  rw [Shape.rowMajor_val_two, Shape.rowMajor_val_one]
  show e.val = (win0_1.index t 0 * 1 + 1 * 0) * 128 + (win0_1.index t 1 * 128 + 1 * e.val)
  rw [hi.1, hi.2]
  omega

theorem z2 : (![0, 0] : Fin 2 → ℕ) = fun _ => 0 := by funext a; match a with | ⟨0, _⟩ => rfl | ⟨1, _⟩ => rfl

theorem prod_apply (p : Vec Ideal S512x1 .f32) (f : Vec Ideal S1x128 .f32) (r : Fin 512) (e : Fin 128) :
    (k0_pay1 (F := Ideal) p f (ix2 r e) : EReal) = p (ix2 r 0) * f (ix2 0 e) := by
  pointwise [k0_pay1]

theorem out2_apply (p : Vec Ideal S512x1 .f32) (f : Vec Ideal S1x128 .f32) (r : Fin 512) (e : Fin 128) :
    out0_2 (F := Ideal) p f (ix2 r e) = FloatOps.cos (F := Ideal) (φ := .f32) ((p (ix2 r 0) : EReal) * f (ix2 0 e) : EReal) := by
  rw [← prod_apply p f r e]
  unfold out0_2
  rw [View.canon_unit_zero z2, View.ld_unit_zero z2, View.ld_unit_zero z2]
  rfl

theorem lane (e : Fin 128) : IntOp.cmpi .slt (BitVec.ofNat 32 (0 * 128 + e.val)) 64#32 = if e.val < 64 then 1#1 else 0#1 := by
  revert e; decide +kernel

theorem out3_apply (p : Vec Ideal S512x1 .f32) (f : Vec Ideal S1x128 .f32) (r : Fin 512) (e : Fin 128) :
    out0_3 (F := Ideal) p f (ix2 r e)
      = if e.val < 64 then 0 - (FloatOps.sin (F := Ideal) (φ := .f32) ((p (ix2 r 0) : EReal) * f (ix2 0 e) : EReal) : EReal)
        else FloatOps.sin (F := Ideal) (φ := .f32) ((p (ix2 r 0) : EReal) * f (ix2 0 e) : EReal) := by
  rw [← prod_apply p f r e]
  unfold out0_3
  rw [View.canon_unit_zero z2, View.ld_unit_zero z2, View.ld_unit_zero z2]
  have hz : Ideal.ofBits .f32 0x00000000#32 = 0 := by simp [Ideal.ofBits, Ideal.ieee]
  show (if IntOp.cmpi .slt (BitVec.ofNat 32 (0 * 128 + e.val)) 64#32 = 1#1 then Ideal.ofBits .f32 0x00000000#32 - _ else _) = _
  rw [lane, hz]
  by_cases h : e.val < 64
  · simp only [if_pos h]
    rfl
  · simp only [if_neg h]
    rfl

theorem flushed_eq2 (c : Dev nD) (t : Fin cfg0.N) (hf : (cfg0.win 2).flush t = true) :
    (dats m 0 c).flushed 2 t = ((cfg0.win 2).blk t).view.read (Elt Ideal) (cosTable (aP m c)) := by
  have ht := lt_N t
  have hi := ind2 t
  rw [Cert.RopeTablesIdeal.Value.flushed2]
  funext j
  obtain ⟨r, e, rfl⟩ : ∃ (r : Fin 512) (e : Fin 128), j = ix2 r e := ⟨j 0, j 1, by funext a; match a with | ⟨0, _⟩ => rfl | ⟨1, _⟩ => rfl⟩
  rw [View.read_apply]
  have hr := r.isLt
  have he := e.isLt
  have e0 : (((cfg0.win 2).blk t).view.emb (ix2 r e) 0).val = win0_2.index t 0 * 512 + 1 * r.val := rfl
  have e1 : (((cfg0.win 2).blk t).view.emb (ix2 r e) 1).val = win0_2.index t 1 * 128 + 1 * e.val := rfl
  rw [hi.1, show t.val * 512 + 1 * r.val = 512 * t.val + r.val by omega] at e0
  rw [hi.2, show 0 * 128 + 1 * e.val = e.val by omega] at e1
  show out0_2 (iblk m c 0 t) (iblk m c 1 t) (ix2 r e) = _
  rw [out2_apply, blk0, blk1]
  unfold cosTable angle
  rw [e0, e1]
  rfl

theorem cover2 (i : S8192x128.Idx) : ∃ t : Fin cfg0.N, (cfg0.win 2).flush t = true ∧ i ∈ ((cfg0.win 2).blk t).view.set := by
  have h0 : (i 0).val < 8192 := (i 0).isLt
  have h1 : (i 1).val < 128 := (i 1).isLt
  have hN : cfg0.N = 16 := N_0
  obtain ⟨n, hn, hv⟩ : ∃ n : ℕ, n < cfg0.N ∧ n = (i 0).val / 512 := ⟨_, by omega, rfl⟩
  have hi := ind2 ⟨n, hn⟩
  dsimp only at hi
  refine ⟨⟨n, hn⟩, flush2 _, ?_⟩
  show i ∈ ((View.whole main_v10_0).slice (win0_2.rect ⟨n, hn⟩)).set
  rw [View.set_slice_whole, Rect.mem_set_unit]
  intro a
  match a with
  | ⟨0, _⟩ => show win0_2.index _ 0 * 512 ≤ (i 0).val ∧ (i 0).val < win0_2.index _ 0 * 512 + 512; rw [hi.1]; omega
  | ⟨1, _⟩ => show win0_2.index _ 1 * 128 ≤ (i 1).val ∧ (i 1).val < win0_2.index _ 1 * 128 + 128; rw [hi.2]; omega

theorem arr_eq2 (c : Dev nD) : (dats m 0 c).arrAt 2 cfg0.N = cosTable (aP m c) :=
  (dats m 0 c).arrAt_eq_of_cover 2 (cosTable (aP m c)) (flushed_eq2 m c) cover2

theorem flushed_eq3 (c : Dev nD) (t : Fin cfg0.N) (hf : (cfg0.win 3).flush t = true) :
    (dats m 0 c).flushed 3 t = ((cfg0.win 3).blk t).view.read (Elt Ideal) (sinTable (aP m c)) := by
  have ht := lt_N t
  have hi := ind3 t
  rw [Cert.RopeTablesIdeal.Value.flushed3]
  funext j
  obtain ⟨r, e, rfl⟩ : ∃ (r : Fin 512) (e : Fin 128), j = ix2 r e := ⟨j 0, j 1, by funext a; match a with | ⟨0, _⟩ => rfl | ⟨1, _⟩ => rfl⟩
  rw [View.read_apply]
  have hr := r.isLt
  have he := e.isLt
  have e0 : (((cfg0.win 3).blk t).view.emb (ix2 r e) 0).val = win0_3.index t 0 * 512 + 1 * r.val := rfl
  have e1 : (((cfg0.win 3).blk t).view.emb (ix2 r e) 1).val = win0_3.index t 1 * 128 + 1 * e.val := rfl
  rw [hi.1, show t.val * 512 + 1 * r.val = 512 * t.val + r.val by omega] at e0
  rw [hi.2, show 0 * 128 + 1 * e.val = e.val by omega] at e1
  show out0_3 (iblk m c 0 t) (iblk m c 1 t) (ix2 r e) = _
  rw [out3_apply, blk0, blk1]
  unfold sinTable angle
  rw [e0, e1]
  rfl

theorem cover3 (i : S8192x128.Idx) : ∃ t : Fin cfg0.N, (cfg0.win 3).flush t = true ∧ i ∈ ((cfg0.win 3).blk t).view.set := by
  have h0 : (i 0).val < 8192 := (i 0).isLt
  have h1 : (i 1).val < 128 := (i 1).isLt
  have hN : cfg0.N = 16 := N_0
  obtain ⟨n, hn, hv⟩ : ∃ n : ℕ, n < cfg0.N ∧ n = (i 0).val / 512 := ⟨_, by omega, rfl⟩
  have hi := ind3 ⟨n, hn⟩
  dsimp only at hi
  refine ⟨⟨n, hn⟩, flush3 _, ?_⟩
  show i ∈ ((View.whole main_v10_1).slice (win0_3.rect ⟨n, hn⟩)).set
  rw [View.set_slice_whole, Rect.mem_set_unit]
  intro a
  match a with
  | ⟨0, _⟩ => show win0_3.index _ 0 * 512 ≤ (i 0).val ∧ (i 0).val < win0_3.index _ 0 * 512 + 512; rw [hi.1]; omega
  | ⟨1, _⟩ => show win0_3.index _ 1 * 128 ≤ (i 1).val ∧ (i 1).val < win0_3.index _ 1 * 128 + 128; rw [hi.2]; omega

theorem arr_eq3 (c : Dev nD) : (dats m 0 c).arrAt 3 cfg0.N = sinTable (aP m c) :=
  (dats m 0 c).arrAt_eq_of_cover 3 (sinTable (aP m c)) (flushed_eq3 m c) cover3

end Cert.RopeTablesIdeal.Blocks

namespace Cert.RopeTablesClaim

open Cert.RopeTablesRefIdeal Cert.RopeTablesRefIdeal.Gen Cert.RopeTablesRefIdeal.Facts Cert.RopeTablesRefIdeal.Read Cert.RopeTablesIdeal.Blocks
open Idealize.ShloMosaic.Pointwise

variable (x : S2x4096.Idx → BitVec 32)

theorem angle_apply (r : Fin 8192) (e : Fin 128) (d : Fin 64) (hd : e.val % 64 = d.val) :
    (val_main_v12 (F := Ideal) x (ix2 r d) : EReal) = angle x r.val e.val := by
  have hr := r.isLt
  have hd' := d.isLt
  rw [val_main_v12_apply, val_main_v11_apply, val_main_v9_apply, val_main_v7_apply, val_main_v6_apply, val_main_v10_apply, val_main_v8_apply]
  unfold angle pos
  refine congrArg₂ (fun a b : EReal => a * b) ?_ ?_
  · refine congrArg (fun i => (FloatOps.sitofp (F := Ideal) .f32 (x i) : EReal)) (funext fun a => Fin.ext ?_)
    match a with
    | ⟨0, _⟩ => show (r.val * 64 + d.val) / 262144 = r.val / 4096 % 2; omega
    | ⟨1, _⟩ => show (r.val * 64 + d.val) / 64 % 4096 = r.val % 4096; omega
  · refine congrArg freq (funext fun a => Fin.ext ?_)
    match a with
    | ⟨0, _⟩ => show (r.val * 64 + d.val) % 64 = e.val % 64; omega

theorem cos_apply (i : S8192x128.Idx) : val_main_v15 (F := Ideal) x i = cosTable x i := by
  obtain ⟨r, e, rfl⟩ : ∃ (r : Fin 8192) (e : Fin 128), i = ix2 r e := ⟨i 0, i 1, by funext a; match a with | ⟨0, _⟩ => rfl | ⟨1, _⟩ => rfl⟩
  have he := e.isLt
  unfold val_main_v15
  by_cases h : e.val < 64
  · refine Eq.trans (concatenate_apply_piece (α := EReal) (t := S8192x128) _ _ _ _ 0 (by simp) S8192x64 _ rfl rfl 0 rfl
      (ix2 r (⟨e.val, h⟩ : Fin 64)) ?_ ?_) ?_
    · intro b hb; match b with
      | ⟨0, _⟩ => rfl
      | ⟨1, _⟩ => exact absurd rfl hb
    · show 0 + e.val = e.val; omega
    · rw [val_main_v13_apply, angle_apply x r e ⟨e.val, h⟩ (by show e.val % 64 = e.val; omega)]
      rfl
  · refine Eq.trans (concatenate_apply_piece (α := EReal) (t := S8192x128) _ _ _ _ 1 (by simp) S8192x64 _ rfl rfl 64 rfl
      (ix2 r (⟨e.val - 64, by omega⟩ : Fin 64)) ?_ ?_) ?_
    · intro b hb; match b with
      | ⟨0, _⟩ => rfl
      | ⟨1, _⟩ => exact absurd rfl hb
    · show 64 + (e.val - 64) = e.val; omega
    · rw [val_main_v13_apply, angle_apply x r e ⟨e.val - 64, by omega⟩ (by show e.val % 64 = e.val - 64; omega)]
      rfl

theorem sin_apply (i : S8192x128.Idx) : val_main_v17 (F := Ideal) x i = sinTable x i := by
  obtain ⟨r, e, rfl⟩ : ∃ (r : Fin 8192) (e : Fin 128), i = ix2 r e := ⟨i 0, i 1, by funext a; match a with | ⟨0, _⟩ => rfl | ⟨1, _⟩ => rfl⟩
  have he := e.isLt
  unfold val_main_v17 sinTable
  by_cases h : e.val < 64
  · refine Eq.trans (concatenate_apply_piece (α := EReal) (t := S8192x128) _ _ _ _ 0 (by simp) S8192x64 _ rfl rfl 0 rfl
      (ix2 r (⟨e.val, h⟩ : Fin 64)) ?_ ?_) ?_
    · intro b hb; match b with
      | ⟨0, _⟩ => rfl
      | ⟨1, _⟩ => exact absurd rfl hb
    · show 0 + e.val = e.val; omega
    · rw [val_main_v16_apply, val_main_v14_apply, angle_apply x r e ⟨e.val, h⟩ (by show e.val % 64 = e.val; omega),
        if_pos (show ((ix2 r e : S8192x128.Idx) 1).val < 64 from h), zero_sub]
      rfl
  · refine Eq.trans (concatenate_apply_piece (α := EReal) (t := S8192x128) _ _ _ _ 1 (by simp) S8192x64 _ rfl rfl 64 rfl
      (ix2 r (⟨e.val - 64, by omega⟩ : Fin 64)) ?_ ?_) ?_
    · intro b hb; match b with
      | ⟨0, _⟩ => rfl
      | ⟨1, _⟩ => exact absurd rfl hb
    · show 64 + (e.val - 64) = e.val; omega
    · rw [val_main_v14_apply, angle_apply x r e ⟨e.val - 64, by omega⟩ (by show e.val % 64 = e.val - 64; omega),
        if_neg (show ¬((ix2 r e : S8192x128.Idx) 1).val < 64 from h)]
      rfl

end Cert.RopeTablesClaim

namespace Cert.RopeTablesClaim

open Cert.RopeTablesIdeal.Blocks

theorem frame_p : Cert.quiescent_RopeTables := fun m ρ _ => Cert.RopeTables.Gen.frame m ρ
theorem frame_pi : Cert.quiescent_RopeTablesIdeal := fun m ρ _ => Cert.RopeTablesIdeal.Gen.frame m ρ
theorem frame_ri : Cert.quiescent_RopeTablesRefIdeal := fun m ρ _ =>
  (θ_run Cert.RopeTablesRefIdeal.defs _ _).mono (fun r h => ⟨fun c => (h c).2.2, sem_eq_zero_of_no_sems (by decide) r.2⟩)
    (Cert.RopeTablesRefIdeal.Value.run m ρ)

theorem algebraic : Cert.algebraic_RopeTablesIdeal_RopeTablesRefIdeal := by
  intro m g m' g' _ hargs
  refine ⟨fun c => cosTable (aP m c), fun c => sinTable (aP m c), ?_, ?_⟩
  · refine (θ_run Cert.RopeTablesIdeal.defs _ _).mono (fun r h c => ⟨(h c).1.trans (arr_eq2 m c), (h c).2.1.trans (arr_eq3 m c), (h c).2.2⟩)
      (Cert.RopeTablesIdeal.Value.run_blocks m g)
  · refine (θ_run Cert.RopeTablesRefIdeal.defs _ _).mono (fun r h c => ⟨(h c).1.trans ?_, (h c).2.1.trans ?_, (h c).2.2⟩)
      (Cert.RopeTablesRefIdeal.Value.run m' g')
    · rw [Cert.RopeTablesRefIdeal.Read.val_main_v15_eq]
      funext i
      rw [cos_apply, hargs c]
    · rw [Cert.RopeTablesRefIdeal.Read.val_main_v17_eq]
      funext i
      rw [sin_apply, hargs c]

end Cert.RopeTablesClaim

end

end
-- ==== Proof.AdalnClaim.lean ====
/-
  The projection of the conditioning vectors: 64 rows of the weight at a time into sums of eight partial sums a column,
  which are added at the end, against one contraction.
-/
module

public import proofs.«01_k».proof.Defs
public import proofs.«01_k».proof.Proof.Gen.Adaln.Frame
public import proofs.«01_k».proof.Proof.Gen.AdalnIdeal.Value
public import proofs.«01_k».proof.Proof.Gen.AdalnRefIdeal.Read
public import proofs.«01_k».proof.Proof.Gen.AdalnRefIdeal.Run
public import Idealize.ShloMosaic.Lib.Pointwise
public import Idealize.ShloMosaic.Lib.Pipeline.ValueKit.Tiles

@[expose] public section

set_option maxRecDepth 16384

noncomputable section

open Idealize.ShloMosaic Idealize.ShloMosaic.TcCoe Idealize.SL.Sem

namespace Cert.AdalnIdeal.Blocks

open Cert.AdalnIdeal Cert.AdalnIdeal.Gen Idealize.ShloMosaic.Pointwise

/-- A value times its logistic function. -/
def gate (x : EReal) : EReal := x * Ideal.div (Ideal.ofBits .f32 0x3F800000#32) (Ideal.ofBits .f32 0x3F800000#32 + Ideal.exp (-x))
/-- The conditioning vectors at natural-number coordinates. -/
def cAt (x : S2x4096.Idx → EReal) (b k : ℕ) : EReal := x (ix2 (Fin.ofNat 2 b) (Fin.ofNat 4096 k))
/-- The weight at natural-number coordinates. -/
def wAt (x : S4096x24576.Idx → EReal) (k j : ℕ) : EReal := x (ix2 (Fin.ofNat 4096 k) (Fin.ofNat 24576 j))

/-! ## Sums in pieces -/

theorem sum_blocks (f : ℕ → EReal) (a b : ℕ) :
    ∑ k ∈ Finset.range (a * b), f k = ∑ u ∈ Finset.range a, ∑ r ∈ Finset.range b, f (b * u + r) := by
  induction a with
  | zero => simp
  | succ a ih => rw [Nat.succ_mul, Finset.sum_range_add, ih, Finset.sum_range_succ, Nat.mul_comm a b]

theorem sum_all (f : ℕ → EReal) :
    ∑ s : Fin 8, ∑ u ∈ Finset.range 64, ∑ q : Fin 8, f (64 * u + (8 * q.val + s.val)) = ∑ k : Fin 4096, f k.val := by
  rw [Fin.sum_univ_eq_sum_range (fun k => f k) 4096, show 4096 = 64 * 64 from rfl, sum_blocks f 64 64, Finset.sum_comm]
  refine Finset.sum_congr rfl fun u _ => ?_
  rw [show Finset.range 64 = Finset.range (8 * 8) from rfl, sum_blocks (fun r => f (64 * u + r)) 8 8, Finset.sum_comm,
    Fin.sum_univ_eq_sum_range (fun q => ∑ s : Fin 8, f (64 * u + (8 * q + s.val))) 8]
  refine Finset.sum_congr rfl fun q _ => ?_
  rw [Fin.sum_univ_eq_sum_range (fun s => f (64 * u + (8 * q + s))) 8]

/-! ## The body -/

/-- Four copies of width 128 side by side, at a column. -/
theorem side_apply (y : S64x128.Idx → EReal) (r : Fin 64) (g : Fin 4) (e : Fin 128) (d : Fin 512) (hd : d.val = 128 * g.val + e.val) :
    concatenate S64x512 1 [⟨S64x128, y⟩, ⟨S64x128, y⟩, ⟨S64x128, y⟩, ⟨S64x128, y⟩]
      concatenates_S64x128_S64x128_S64x128_S64x128_S64x512_d1 (ix2 r d) = y (ix2 r e) := by
  match g with
  | ⟨0, _⟩ =>
    refine concatenate_apply_piece (α := EReal) (t := S64x512) _ _ _ _ 0 (by simp) S64x128 _ rfl rfl 0 rfl (ix2 r e) ?_ ?_
    · intro b hb; match b with
      | ⟨0, _⟩ => rfl
      | ⟨1, _⟩ => exact absurd rfl hb
    · show 0 + e.val = d.val; rw [hd]; show 0 + e.val = 128 * 0 + e.val; omega
  | ⟨1, _⟩ =>
    refine concatenate_apply_piece (α := EReal) (t := S64x512) _ _ _ _ 1 (by simp) S64x128 _ rfl rfl 128 rfl (ix2 r e) ?_ ?_
    · intro b hb; match b with
      | ⟨0, _⟩ => rfl
      | ⟨1, _⟩ => exact absurd rfl hb
    · show 128 + e.val = d.val; rw [hd]; show 128 + e.val = 128 * 1 + e.val; omega
  | ⟨2, _⟩ =>
    refine concatenate_apply_piece (α := EReal) (t := S64x512) _ _ _ _ 2 (by simp) S64x128 _ rfl rfl 256 rfl (ix2 r e) ?_ ?_
    · intro b hb; match b with
      | ⟨0, _⟩ => rfl
      | ⟨1, _⟩ => exact absurd rfl hb
    · show 256 + e.val = d.val; rw [hd]; show 256 + e.val = 128 * 2 + e.val; omega
  | ⟨3, _⟩ =>
    refine concatenate_apply_piece (α := EReal) (t := S64x512) _ _ _ _ 3 (by simp) S64x128 _ rfl rfl 384 rfl (ix2 r e) ?_ ?_
    · intro b hb; match b with
      | ⟨0, _⟩ => rfl
      | ⟨1, _⟩ => exact absurd rfl hb
    · show 384 + e.val = d.val; rw [hd]; show 384 + e.val = 128 * 3 + e.val; omega

/-- A trip's addition to the partial sums, entry by entry. -/
theorem pay3_apply (a : Vec Ideal S8x512 .f32) (w : Vec Ideal S64x512 .f32) (b : Vec Ideal S1x64x128 .f32) (s : Fin 8) (j : Fin 512) :
    k0_pay3 (F := Ideal) a w b (ix2 s j) = a (ix2 s j) + ∑ q : Fin 8, w (ix2 (⟨8 * q.val + s.val, by omega⟩ : Fin 64) j)
      * b (ix3 0 (⟨8 * q.val + s.val, by omega⟩ : Fin 64) (⟨j.val % 128, by omega⟩ : Fin 128)) := by
  have hs := s.isLt
  have hj := j.isLt
  unfold k0_pay3
  refine congrArg (a (ix2 s j) + ·) ?_
  refine (Ideal.multiReduction_add_single _ _ _ _ _ _).trans ?_
  refine Finset.sum_congr rfl fun q _ => ?_
  have hq : q.val < 8 := q.isLt
  refine (shapeCast_apply _ _ _ (ix2 (⟨8 * q.val + s.val, by omega⟩ : Fin 64) j) ?_).trans ?_
  · rw [Shape.rowMajor_val_three, Shape.rowMajor_val_two]
    show (8 * q.val + s.val) * 512 + j.val = (q.val * 8 + s.val) * 512 + j.val
    omega
  refine congrArg (w _ * ·) ?_
  refine (side_apply _ _ (⟨j.val / 128, by omega⟩ : Fin 4) (⟨j.val % 128, by omega⟩ : Fin 128) j (by show j.val = 128 * (j.val / 128) + j.val % 128; omega)).trans ?_
  refine shapeCast_apply _ _ _ _ ?_
  rw [Shape.rowMajor_val_three, Shape.rowMajor_val_two]
  show (0 * 64 + (8 * q.val + s.val)) * 128 + j.val % 128 = (8 * q.val + s.val) * 128 + j.val % 128
  omega

/-- The last addition, of the eight partial sums. -/
theorem pay5_apply (v : Vec Ideal S8x512 .f32) (j : Fin 512) : k0_pay5 (F := Ideal) v (ix2 0 j) = ∑ s : Fin 8, v (ix2 s j) := by
  have hj := j.isLt
  unfold k0_pay5
  refine (shapeCast_apply _ _ _ (ix1 j) ?_).trans ?_
  · rw [Shape.rowMajor_val_one, Shape.rowMajor_val_two]
    show j.val = 0 * 512 + j.val
    omega
  refine (Ideal.multiReduction_add_single _ _ _ _ _ _).trans ?_
  refine Finset.sum_congr rfl fun s _ => ?_
  congr 1
  funext a
  match a with
  | ⟨0, _⟩ => rfl
  | ⟨1, _⟩ => rfl

theorem trips_eq : k0_t1_loop.trips = 64 := by decide +kernel
theorem off1_eq : ∀ k : Fin k0_t1_loop.trips, k0_off1 k 0 = 64 * k.val ∧ k0_off1 k 1 = 0 := by decide +kernel
theorem off2_eq : ∀ k : Fin k0_t1_loop.trips, k0_off2 k 0 = 0 ∧ k0_off2 k 1 = 64 * k.val ∧ k0_off2 k 2 = 0 := by decide +kernel
theorem off3_eq : ∀ k : Fin k0_t1_loop.trips, k0_off3 k 0 = 1 ∧ k0_off3 k 1 = 64 * k.val ∧ k0_off3 k 2 = 0 := by decide +kernel

/-- Row `k`'s term in column `j` of the block, for conditioning vector `b`. -/
def term (x0 : Vec Ideal S2x4096x128 .f32) (x1 : Vec Ideal S4096x512 .f32) (b : Fin 2) (j : Fin 512) (k : ℕ) : EReal :=
  x1 (ix2 (Fin.ofNat 4096 k) j) * x0 (ix3 b (Fin.ofNat 4096 k) (⟨j.val % 128, by omega⟩ : Fin 128))

section
variable (c : Dev nD) (i : grid0.Coords) (arg1 : Memref sig .tc .vmem S2x4096x128 .f32) (harg1 : arg1.IsWhole) (arg2 : Memref sig .tc .vmem S4096x512 .f32) (harg2 : arg2.IsWhole) (arg3 : Memref sig .tc .vmem S2x512 .f32) (harg3 : arg3.IsWhole)
    (x0 : Vec Ideal S2x4096x128 .f32) (x1 : Vec Ideal S4096x512 .f32)

/-- What a trip yields, at the loaded blocks. -/
theorem trip_eq (k : Fin k0_t1_loop.trips) (acc : FVec Ideal S8x512 .f32 × FVec Ideal S8x512 .f32) :
    tripR_k0_t1 (F := Ideal) Variants.none c none i arg1 harg1 arg2 harg2 arg3 harg3 (harg1.unread x0) (harg2.unread x1) k acc
      = (k0_pay3 acc.1 (View.ld x1 (Rect.unit (s := S4096x512) (k0_off1 k) S64x512.size (Facts₀.k0_off1_inb k)))
          (View.ld x0 (Rect.unit (s := S2x4096x128) (k0_off2 k) S1x64x128.size (Facts₀.k0_off2_inb k))),
        k0_pay3 acc.2 (View.ld x1 (Rect.unit (s := S4096x512) (k0_off1 k) S64x512.size (Facts₀.k0_off1_inb k)))
          (View.ld x0 (Rect.unit (s := S2x4096x128) (k0_off3 k) S1x64x128.size (Facts₀.k0_off3_inb k)))) := by
  unfold tripR_k0_t1 trip_k0_t1
  dsimp only
  simp only [View.readAt_eq_ld, harg1.read_unread, harg2.read_unread]
  rfl

/-- The partial sums before trip `n`. -/
theorem st_apply (n : ℕ) (hn : n ≤ 64) (s : Fin 8) (j : Fin 512) :
    (st_k0_t1 (F := Ideal) Variants.none c none i arg1 harg1 arg2 harg2 arg3 harg3 (harg1.unread x0) (harg2.unread x1) (k0_pay1, k0_pay2) n).1 (ix2 s j)
        = ∑ u ∈ Finset.range n, ∑ q : Fin 8, term x0 x1 0 j (64 * u + (8 * q.val + s.val))
      ∧ (st_k0_t1 (F := Ideal) Variants.none c none i arg1 harg1 arg2 harg2 arg3 harg3 (harg1.unread x0) (harg2.unread x1) (k0_pay1, k0_pay2) n).2 (ix2 s j)
        = ∑ u ∈ Finset.range n, ∑ q : Fin 8, term x0 x1 1 j (64 * u + (8 * q.val + s.val)) := by
  have zero_word : Ideal.ofBits .f32 0x00000000#32 = 0 := by simp [Ideal.ofBits, Ideal.ieee]
  have hs := s.isLt
  induction n with
  | zero => exact ⟨zero_word, zero_word⟩
  | succ n ih =>
    have hi := ih (by omega)
    have hk : n < k0_t1_loop.trips := by rw [trips_eq]; omega
    have h1 := off1_eq ⟨n, hk⟩
    have h2 := off2_eq ⟨n, hk⟩
    have h3 := off3_eq ⟨n, hk⟩
    have hst := st_k0_t1_succ (F := Ideal) Variants.none c none i arg1 harg1 arg2 harg2 arg3 harg3 (harg1.unread x0) (harg2.unread x1) (k0_pay1, k0_pay2) ⟨n, hk⟩
    dsimp only at hst h1 h2 h3
    rw [hst, trip_eq]
    dsimp only
    rw [pay3_apply, pay3_apply, hi.1, hi.2, Finset.sum_range_succ, Finset.sum_range_succ]
    have hw : ∀ q : Fin 8, View.ld x1 (Rect.unit (s := S4096x512) (k0_off1 ⟨n, hk⟩) S64x512.size (Facts₀.k0_off1_inb ⟨n, hk⟩)) (ix2 (⟨8 * q.val + s.val, by omega⟩ : Fin 64) j)
        = x1 (ix2 (Fin.ofNat 4096 (64 * n + (8 * q.val + s.val))) j) := fun q => by
      have hq := q.isLt
      refine View.ld_unit_apply_of _ _ _ _ _ _ fun a => ?_
      match a with
      | ⟨0, _⟩ => show (64 * n + (8 * q.val + s.val)) % 4096 = k0_off1 ⟨n, hk⟩ 0 + (8 * q.val + s.val); rw [h1.1]; omega
      | ⟨1, _⟩ => show j.val = k0_off1 ⟨n, hk⟩ 1 + j.val; rw [h1.2]; omega
    refine ⟨congrArg _ (Finset.sum_congr rfl fun q _ => ?_), congrArg _ (Finset.sum_congr rfl fun q _ => ?_)⟩
    all_goals
      have hq := q.isLt
      unfold term
      rw [hw q]
      refine congrArg (x1 _ * ·) ?_
      refine View.ld_unit_apply_of _ _ _ _ _ _ fun a => ?_
    · match a with
      | ⟨0, _⟩ => show 0 = k0_off2 ⟨n, hk⟩ 0 + 0; rw [h2.1]
      | ⟨1, _⟩ => show (64 * n + (8 * q.val + s.val)) % 4096 = k0_off2 ⟨n, hk⟩ 1 + (8 * q.val + s.val); rw [h2.2.1]; omega
      | ⟨2, _⟩ => show j.val % 128 = k0_off2 ⟨n, hk⟩ 2 + j.val % 128; rw [h2.2.2]; omega
    · match a with
      | ⟨0, _⟩ => show 1 = k0_off3 ⟨n, hk⟩ 0 + 0; rw [h3.1]
      | ⟨1, _⟩ => show (64 * n + (8 * q.val + s.val)) % 4096 = k0_off3 ⟨n, hk⟩ 1 + (8 * q.val + s.val); rw [h3.2.1]; omega
      | ⟨2, _⟩ => show j.val % 128 = k0_off3 ⟨n, hk⟩ 2 + j.val % 128; rw [h3.2.2]; omega

/-- The block a point leaves, entry by entry. -/
theorem out_apply (b : Fin 2) (j : Fin 512) :
    out0_A_2 (F := Ideal) c i arg1 harg1 arg2 harg2 arg3 harg3 x0 x1 (ix2 b j) = ∑ k : Fin 4096, term x0 x1 b j k.val := by
  have ht : Scf.trips (0#32) (Scalar.addi 0#32 64#32) 1#32 = 64 := trips_eq
  unfold out0_A_2
  rw [View.read_writes_eq_canon _ _ _ (cover0_A_2 c i arg1 harg1 arg2 harg2 arg3 harg3 x0 x1)]
  unfold kernelRun0_A
  dsimp only
  rw [ht]
  have hst := st_apply c i arg1 harg1 arg2 harg2 arg3 harg3 x0 x1 64 (le_refl _)
  refine View.canon_eq_of_allAt _ _ _ ?_ ?_
  · have hc := cover0_A_2 (F := Ideal) c i arg1 harg1 arg2 harg2 arg3 harg3 x0 x1 (ix2 b j)
    unfold kernelRun0_A at hc
    dsimp only at hc
    rw [ht] at hc
    exact hc
  refine View.allAt_cons_unit _ _ _ _ _ (fun x hx => ?_) (View.allAt_cons_unit _ _ _ _ _ (fun x hx => ?_) (View.allAt_nil _ _))
  all_goals
    obtain ⟨z, d, rfl⟩ : ∃ (z : Fin 1) (d : Fin 512), x = ix2 z d := ⟨x 0, x 1, by funext a; match a with | ⟨0, _⟩ => rfl | ⟨1, _⟩ => rfl⟩
    obtain rfl : z = 0 := Subsingleton.elim _ _
  · have e0 : b.val = 1 + 0 := hx 0
    have e1 : j.val = 0 + d.val := hx 1
    obtain rfl : b = 1 := Fin.ext e0
    obtain rfl : d = j := Fin.ext (by omega)
    refine (pay5_apply _ d).trans ?_
    rw [← sum_all]
    exact Finset.sum_congr rfl fun s _ => (hst s d).2
  · have e0 : b.val = 0 + 0 := hx 0
    have e1 : j.val = 0 + d.val := hx 1
    obtain rfl : b = 0 := Fin.ext e0
    obtain rfl : d = j := Fin.ext (by omega)
    refine (pay5_apply _ d).trans ?_
    rw [← sum_all]
    exact Finset.sum_congr rfl fun s _ => (hst s d).1

end

/-! ## The blocks -/

variable (m : (ℓ : Loc nD τ sig) → Buf (Elt Ideal) ℓ)

abbrev aC (c : Dev nD) : S2x4096.Idx → EReal := m ((c : Thread nD τ).loc main_arg0)
abbrev aW (c : Dev nD) : S4096x24576.Idx → EReal := m ((c : Thread nD τ).loc main_arg1)

theorem ind0 : ∀ t : Fin grid0.N, win0_0.index t 0 = 0 ∧ win0_0.index t 1 = 0 ∧ win0_0.index t 2 = 0 := by decide +kernel
theorem ind1 : ∀ t : Fin grid0.N, win0_1.index t 0 = 0 ∧ win0_1.index t 1 = t.val := by decide +kernel
theorem ind2 : ∀ t : Fin grid0.N, win0_2.index t 0 = 0 ∧ win0_2.index t 1 = t.val := by decide +kernel
theorem flush2 : ∀ t : Fin cfg0.N, (cfg0.win 2).flush t = true := (by decide +kernel : ∀ t : Fin grid0.N, win0_2.flush t = true)

theorem lt_N (t : Fin cfg0.N) : t.val < 48 := lt_of_lt_of_eq t.isLt (show cfg0.N = 48 from N_0)

/-- The gated conditioning vectors as the region finds them, each value 128 times. -/
theorem V_v8 (c : Dev nD) : (V m c main_v8 : S2x4096x128.Idx → EReal) = fun i => gate (cAt (aC m c) (i 0).val (i 1).val) := by
  have h : (V m c main_v8 : S2x4096x128.Idx → EReal) = fun i => gate (aC m c (ix2 (i 0) (i 1))) := by
    unfold V
    simp [hostOps0]
    funext i
    have e : ∀ i' : S2x4096.Idx, i' = ix2 (i 0) (i 1) → (mulf (F := Ideal) (φ := .f32) (aC m c) (Host.divf (broadcastInDim S2x4096 ![] Facts₀.bcast_S_S2x4096 (constant S_ .f32 0x3F800000#32))
        (addf (broadcastInDim S2x4096 ![] Facts₀.bcast_S_S2x4096 (constant S_ .f32 0x3F800000#32)) (Host.exp (Host.negf (aC m c))))) i' : EReal) = gate (aC m c (ix2 (i 0) (i 1))) := by
      rintro _ rfl
      rfl
    refine e _ ?_
    funext a
    match a with
    | ⟨0, _⟩ => rfl
    | ⟨1, _⟩ => rfl
  rw [h]
  funext i
  have h0 : (i 0).val < 2 := (i 0).isLt
  have h1 : (i 1).val < 4096 := (i 1).isLt
  unfold cAt
  congr 2
  funext a
  apply Fin.ext
  match a with
  | ⟨0, _⟩ => show (i 0).val = (i 0).val % 2; omega
  | ⟨1, _⟩ => show (i 1).val = (i 1).val % 4096; omega

theorem blk0 (c : Dev nD) (t : Fin cfg0.N) (b : Fin 2) (k : Fin 4096) (l : Fin 128) :
    (iblk m c 0 t : Vec Ideal S2x4096x128 .f32) (ix3 b k l) = gate (cAt (aC m c) b.val k.val) := by
  have hi := ind0 t
  unfold iblk
  rw [View.read_apply]
  show V m c main_v8 _ = _
  rw [V_v8]
  show gate (cAt (aC m c) (win0_0.index t 0 * 2 + 1 * b.val) (win0_0.index t 1 * 4096 + 1 * k.val)) = _
  rw [hi.1, hi.2.1]
  congr 2 <;> omega

theorem blk1 (c : Dev nD) (t : Fin cfg0.N) (k : Fin 4096) (j : Fin 512) :
    (iblk m c 1 t : Vec Ideal S4096x512 .f32) (ix2 k j) = wAt (aW m c) k.val (512 * t.val + j.val) := by
  have hi := ind1 t
  have ht := lt_N t
  have hk := k.isLt
  have hj := j.isLt
  unfold iblk wAt
  rw [View.read_apply]
  show V m c main_arg1 _ = _
  rw [V_main_arg1]
  show aW m c _ = aW m c _
  congr 1
  funext a
  apply Fin.ext
  match a with
  | ⟨0, _⟩ => show win0_1.index t 0 * 4096 + 1 * k.val = k.val % 4096; rw [hi.1]; omega
  | ⟨1, _⟩ => show win0_1.index t 1 * 512 + 1 * j.val = (_ : ℕ) % 24576; rw [hi.2]; omega

/-- The projection's entry for conditioning vector `b` at column `j`. -/
def entry (c : S2x4096.Idx → EReal) (w : S4096x24576.Idx → EReal) (b j : ℕ) : EReal :=
  ∑ k : Fin 4096, gate (cAt c b k.val) * wAt w k.val j

/-- The array the kernel ends with. -/
def result (c : Dev nD) : S2x24576.Idx → EReal := fun i => entry (aC m c) (aW m c) (i 0).val (i 1).val

theorem flushed_eq (c : Dev nD) (t : Fin cfg0.N) (hf : (cfg0.win 2).flush t = true) :
    (dats m 0 c).flushed 2 t = ((cfg0.win 2).blk t).view.read (Elt Ideal) (result m c) := by
  have ht := lt_N t
  have hi := ind2 t
  rw [Cert.AdalnIdeal.Value.flushed2_A]
  funext j
  obtain ⟨r, d, rfl⟩ : ∃ (r : Fin 2) (d : Fin 512), j = ix2 r d := ⟨j 0, j 1, by funext a; match a with | ⟨0, _⟩ => rfl | ⟨1, _⟩ => rfl⟩
  rw [View.read_apply]
  have hr := r.isLt
  have hd := d.isLt
  have e0 : (((cfg0.win 2).blk t).view.emb (ix2 r d) 0).val = win0_2.index t 0 * 2 + 1 * r.val := rfl
  have e1 : (((cfg0.win 2).blk t).view.emb (ix2 r d) 1).val = win0_2.index t 1 * 512 + 1 * d.val := rfl
  rw [hi.1, show 0 * 2 + 1 * r.val = r.val by omega] at e0
  rw [hi.2, show t.val * 512 + 1 * d.val = 512 * t.val + d.val by omega] at e1
  refine (out_apply c (grid0.coords t) (ms0_0 t) (hs0_0 t) (ms0_1 t) (hs0_1 t) (ms0_2 t) (hs0_2 t) (iblk m c 0 t) (iblk m c 1 t) r d).trans ?_
  show _ = result m c _
  unfold result
  rw [e0, e1]
  unfold entry term
  refine Finset.sum_congr rfl fun k _ => ?_
  have hk : Fin.ofNat 4096 k.val = k := Fin.ext (Nat.mod_eq_of_lt k.isLt)
  rw [hk, blk0, blk1, mul_comm]

theorem cover (i : S2x24576.Idx) : ∃ t : Fin cfg0.N, (cfg0.win 2).flush t = true ∧ i ∈ ((cfg0.win 2).blk t).view.set := by
  have h0 : (i 0).val < 2 := (i 0).isLt
  have h1 : (i 1).val < 24576 := (i 1).isLt
  have hN : cfg0.N = 48 := N_0
  obtain ⟨n, hn, hv⟩ : ∃ n : ℕ, n < cfg0.N ∧ n = (i 1).val / 512 := ⟨_, by omega, rfl⟩
  have hi := ind2 ⟨n, hn⟩
  dsimp only at hi
  refine ⟨⟨n, hn⟩, flush2 _, ?_⟩
  show i ∈ ((View.whole main_v9).slice (win0_2.rect ⟨n, hn⟩)).set
  rw [View.set_slice_whole, Rect.mem_set_unit]
  intro a
  match a with
  | ⟨0, _⟩ => show win0_2.index _ 0 * 2 ≤ (i 0).val ∧ (i 0).val < win0_2.index _ 0 * 2 + 2; rw [hi.1]; omega
  | ⟨1, _⟩ => show win0_2.index _ 1 * 512 ≤ (i 1).val ∧ (i 1).val < win0_2.index _ 1 * 512 + 512; rw [hi.2]; omega

theorem arr_eq (c : Dev nD) : (dats m 0 c).arrAt 2 cfg0.N = result m c :=
  (dats m 0 c).arrAt_eq_of_cover 2 (result m c) (flushed_eq m c) cover

end Cert.AdalnIdeal.Blocks

namespace Cert.AdalnClaim

open Cert.AdalnRefIdeal Cert.AdalnRefIdeal.Gen Cert.AdalnRefIdeal.Facts Cert.AdalnRefIdeal.Read Cert.AdalnIdeal.Blocks
open Idealize.ShloMosaic.Pointwise

theorem ref_apply (x : S2x4096.Idx → EReal) (w : S4096x24576.Idx → EReal) (i : S2x24576.Idx) :
    val_main_v1 (F := Ideal) x w i = entry x w (i 0).val (i 1).val := by
  have h0 : (i 0).val < 2 := (i 0).isLt
  have h1 : (i 1).val < 24576 := (i 1).isLt
  rw [val_main_v1_apply]
  unfold entry
  refine Finset.sum_congr rfl fun k _ => ?_
  have hk := k.isLt
  rw [val_main_v0_apply, val_main_call0_v5_apply, val_main_call0_v4_apply, val_main_call0_cst_0_apply, val_main_call0_v3_apply,
    val_main_call0_v2_apply, val_main_call0_cst_apply, val_main_call0_v1_apply, val_main_call0_v0_apply]
  have hx : lidx_main_v1 i k = ix2 (Fin.ofNat 2 (i 0).val) (Fin.ofNat 4096 k.val) := by
    funext a
    apply Fin.ext
    match a with
    | ⟨0, _⟩ => show (i 0).val = (i 0).val % 2; omega
    | ⟨1, _⟩ => show k.val = k.val % 4096; omega
  have hw : ridx_main_v1 i k = ix2 (Fin.ofNat 4096 k.val) (Fin.ofNat 24576 (i 1).val) := by
    funext a
    apply Fin.ext
    match a with
    | ⟨0, _⟩ => show k.val = k.val % 4096; omega
    | ⟨1, _⟩ => show (i 1).val = (i 1).val % 24576; omega
  rw [hx, hw]
  rfl

end Cert.AdalnClaim

namespace Cert.AdalnClaim

open Cert.AdalnIdeal.Blocks

theorem frame_p : Cert.quiescent_Adaln := fun m ρ _ => Cert.Adaln.Gen.frame m ρ
theorem frame_pi : Cert.quiescent_AdalnIdeal := fun m ρ _ => Cert.AdalnIdeal.Gen.frame m ρ
theorem frame_ri : Cert.quiescent_AdalnRefIdeal := fun m ρ _ =>
  (θ_run Cert.AdalnRefIdeal.defs _ _).mono (fun r h => ⟨fun c => (h c).2, sem_eq_zero_of_no_sems (by decide) r.2⟩)
    (Cert.AdalnRefIdeal.Value.run m ρ)

/-- The kernel and the reference end with the same array. -/
theorem algebraic : Cert.algebraic_AdalnIdeal_AdalnRefIdeal := by
  intro m g m' g' _ hargs
  refine ⟨fun c => result m c, ?_, ?_⟩
  · exact (θ_run Cert.AdalnIdeal.defs _ _).mono (fun r h c => ⟨(h c).1.trans (arr_eq m c), (h c).2⟩) (Cert.AdalnIdeal.Value.run_blocks m g)
  · refine (θ_run Cert.AdalnRefIdeal.defs _ _).mono (fun r h c => ⟨(h c).1.trans ?_, (h c).2⟩) (Cert.AdalnRefIdeal.Value.run m' g')
    rw [Cert.AdalnRefIdeal.Read.val_main_v1_eq]
    funext i
    have ha := hargs c
    refine (ref_apply _ _ i).trans ?_
    rw [ha.1, ha.2]
    rfl

end Cert.AdalnClaim

end

end
-- ==== Proof.lean ====
/-
  The claims put together: each program's frames and its value claim, from the modules that prove them.
-/
module

public import proofs.«01_k».proof.Defs
public import proofs.«01_k».proof.Proof.Gen.Pre_finite
public import proofs.«01_k».proof.Proof.Gen.Pre_experts_up
public import proofs.«01_k».proof.Proof.Gen.Pre_experts_down
public import proofs.«01_k».proof.Proof.Gen.Pre_rows_in
public import proofs.«01_k».proof.Proof.Gen.Pre_tokens_in
public import proofs.«01_k».proof.Proof.Gen.Pre_sums_finite
public import proofs.«01_k».proof.Proof.FoxClaim
public import proofs.«01_k».proof.Proof.InProjClaim
public import proofs.«01_k».proof.Proof.FfnUpClaim
public import proofs.«01_k».proof.Proof.FfnDownClaim
public import proofs.«01_k».proof.Proof.OutProjClaim
public import proofs.«01_k».proof.Proof.MergeClaim
public import proofs.«01_k».proof.Proof.MoeUpClaim
public import proofs.«01_k».proof.Proof.MoeDownClaim
public import proofs.«01_k».proof.Proof.CombineClaim
public import proofs.«01_k».proof.Proof.GatherClaim
public import proofs.«01_k».proof.Proof.InSmallClaim
public import proofs.«01_k».proof.Proof.GluClaim
public import proofs.«01_k».proof.Proof.MixNormClaim
public import proofs.«01_k».proof.Proof.FfnNormClaim
public import proofs.«01_k».proof.Proof.QkNormClaim
public import proofs.«01_k».proof.Proof.BandMergeClaim
public import proofs.«01_k».proof.Proof.RopeNormClaim
public import proofs.«01_k».proof.Proof.RopeTablesClaim
public import proofs.«01_k».proof.Proof.AdalnClaim

@[expose] public section

noncomputable section

namespace Cert.Proof

open Idealize.ShloMosaic Idealize.SL.Sem

theorem claim : Cert.Claim :=
  ⟨Cert.Fox.Gen.facts,
    Cert.FoxIdeal.Gen.facts,
    Cert.FoxRefIdeal.Gen.facts,
    Cert.InProj.Gen.facts,
    Cert.InProjIdeal.Gen.facts,
    Cert.InProjRefIdeal.Gen.facts,
    Cert.FfnUp.Gen.facts,
    Cert.FfnUpIdeal.Gen.facts,
    Cert.FfnUpRefIdeal.Gen.facts,
    Cert.FfnDown.Gen.facts,
    Cert.FfnDownIdeal.Gen.facts,
    Cert.FfnDownRefIdeal.Gen.facts,
    Cert.OutProj.Gen.facts,
    Cert.OutProjIdeal.Gen.facts,
    Cert.OutProjRefIdeal.Gen.facts,
    Cert.Merge.Gen.facts,
    Cert.MergeIdeal.Gen.facts,
    Cert.MergeRefIdeal.Gen.facts,
    Cert.MoeUp.Gen.facts,
    Cert.MoeUpIdeal.Gen.facts,
    Cert.MoeUpRefIdeal.Gen.facts,
    Cert.MoeDown.Gen.facts,
    Cert.MoeDownIdeal.Gen.facts,
    Cert.MoeDownRefIdeal.Gen.facts,
    Cert.Combine.Gen.facts,
    Cert.CombineIdeal.Gen.facts,
    Cert.CombineRefIdeal.Gen.facts,
    Cert.Gather.Gen.facts,
    Cert.GatherIdeal.Gen.facts,
    Cert.GatherRefIdeal.Gen.facts,
    Cert.GatherRef.Gen.facts,
    Cert.InSmall.Gen.facts,
    Cert.InSmallIdeal.Gen.facts,
    Cert.InSmallRefIdeal.Gen.facts,
    Cert.Glu.Gen.facts,
    Cert.GluIdeal.Gen.facts,
    Cert.GluRefIdeal.Gen.facts,
    Cert.MixNorm.Gen.facts,
    Cert.MixNormIdeal.Gen.facts,
    Cert.MixNormRefIdeal.Gen.facts,
    Cert.FfnNorm.Gen.facts,
    Cert.FfnNormIdeal.Gen.facts,
    Cert.FfnNormRefIdeal.Gen.facts,
    Cert.QkNorm.Gen.facts,
    Cert.QkNormIdeal.Gen.facts,
    Cert.QkNormRefIdeal.Gen.facts,
    Cert.BandMerge.Gen.facts,
    Cert.BandMergeIdeal.Gen.facts,
    Cert.BandMergeRefIdeal.Gen.facts,
    Cert.RopeNorm.Gen.facts,
    Cert.RopeNormIdeal.Gen.facts,
    Cert.RopeNormRefIdeal.Gen.facts,
    Cert.RopeTables.Gen.facts,
    Cert.RopeTablesIdeal.Gen.facts,
    Cert.RopeTablesRefIdeal.Gen.facts,
    Cert.Adaln.Gen.facts,
    Cert.AdalnIdeal.Gen.facts,
    Cert.AdalnRefIdeal.Gen.facts,
    Cert.Pre_finite.Gen.facts,
    Cert.Pre_experts_up.Gen.facts,
    Cert.Pre_experts_down.Gen.facts,
    Cert.Pre_rows_in.Gen.facts,
    Cert.Pre_tokens_in.Gen.facts,
    Cert.Pre_sums_finite.Gen.facts,
    Cert.FoxClaim.frame_p,
    Cert.FoxClaim.frame_pi,
    Cert.FoxClaim.frame_pi_pre,
    Cert.FoxClaim.frame_ri,
    Cert.FoxClaim.frame_ri_pre,
    Cert.InProjClaim.frame_p,
    Cert.InProjClaim.frame_pi,
    Cert.InProjClaim.frame_ri,
    Cert.FfnUpClaim.frame_p,
    Cert.FfnUpClaim.frame_pi,
    Cert.FfnUpClaim.frame_ri,
    Cert.FfnDownClaim.frame_p,
    Cert.FfnDownClaim.frame_pi,
    Cert.FfnDownClaim.frame_ri,
    Cert.OutProjClaim.frame_p,
    Cert.OutProjClaim.frame_pi,
    Cert.OutProjClaim.frame_ri,
    Cert.MergeClaim.frame_p,
    Cert.MergeClaim.frame_pi,
    Cert.MergeClaim.frame_ri,
    Cert.MoeUpClaim.frame_p,
    Cert.MoeUpClaim.frame_pi,
    Cert.MoeUpClaim.frame_ri,
    Cert.MoeUpClaim.frame_ri_pre,
    Cert.MoeDownClaim.frame_p,
    Cert.MoeDownClaim.frame_pi,
    Cert.MoeDownClaim.frame_ri,
    Cert.MoeDownClaim.frame_ri_pre,
    Cert.CombineClaim.frame_p,
    Cert.CombineClaim.frame_pi,
    Cert.CombineClaim.frame_ri,
    Cert.CombineClaim.frame_ri_pre,
    Cert.GatherClaim.frame_p,
    Cert.GatherClaim.frame_pi,
    Cert.GatherClaim.frame_ri,
    Cert.GatherClaim.frame_ri_pre,
    Cert.GatherClaim.frame_r,
    Cert.InSmallClaim.frame_p,
    Cert.InSmallClaim.frame_pi,
    Cert.InSmallClaim.frame_ri,
    Cert.GluClaim.frame_p,
    Cert.GluClaim.frame_pi,
    Cert.GluClaim.frame_ri,
    Cert.MixNormClaim.frame_p,
    Cert.MixNormClaim.frame_pi,
    Cert.MixNormClaim.frame_ri,
    Cert.FfnNormClaim.frame_p,
    Cert.FfnNormClaim.frame_pi,
    Cert.FfnNormClaim.frame_ri,
    Cert.QkNormClaim.frame_p,
    Cert.QkNormClaim.frame_pi,
    Cert.QkNormClaim.frame_ri,
    Cert.BandMergeClaim.frame_p,
    Cert.BandMergeClaim.frame_pi,
    Cert.BandMergeClaim.frame_pi_pre,
    Cert.BandMergeClaim.frame_ri,
    Cert.BandMergeClaim.frame_ri_pre,
    Cert.RopeNormClaim.frame_p,
    Cert.RopeNormClaim.frame_pi,
    Cert.RopeNormClaim.frame_ri,
    Cert.RopeTablesClaim.frame_p,
    Cert.RopeTablesClaim.frame_pi,
    Cert.RopeTablesClaim.frame_ri,
    Cert.AdalnClaim.frame_p,
    Cert.AdalnClaim.frame_pi,
    Cert.AdalnClaim.frame_ri,
    trivial,
    Cert.FoxClaim.algebraic,
    trivial,
    Cert.InProjClaim.algebraic,
    trivial,
    Cert.FfnUpClaim.algebraic,
    trivial,
    Cert.FfnDownClaim.algebraic,
    trivial,
    Cert.OutProjClaim.algebraic,
    trivial,
    Cert.MergeClaim.algebraic,
    trivial,
    Cert.MoeUpClaim.algebraic,
    trivial,
    Cert.MoeDownClaim.algebraic,
    trivial,
    Cert.CombineClaim.algebraic,
    trivial,
    Cert.GatherClaim.algebraic,
    Cert.GatherClaim.bitexact,
    trivial,
    Cert.InSmallClaim.algebraic,
    trivial,
    Cert.GluClaim.algebraic,
    trivial,
    Cert.MixNormClaim.algebraic,
    trivial,
    Cert.FfnNormClaim.algebraic,
    trivial,
    Cert.QkNormClaim.algebraic,
    trivial,
    Cert.BandMergeClaim.algebraic,
    trivial,
    Cert.RopeNormClaim.algebraic,
    trivial,
    Cert.RopeTablesClaim.algebraic,
    trivial,
    Cert.AdalnClaim.algebraic⟩

end Cert.Proof

end
